-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SbBwd (m : (ℓ : Loc Cert.SbBwd.nD Cert.SbBwd.τ Cert.SbBwd.sig) → Buf (Elt Bits) ℓ) : Prop :=
  True

def Pre_SbBwdIdeal (m : (ℓ : Loc Cert.SbBwdIdeal.nD Cert.SbBwdIdeal.τ Cert.SbBwdIdeal.sig) → Buf (Elt Ideal) ℓ) : Prop :=
  True

def Pre_SbBwdIdeal_finite_sb [hPre_finite_sb : Cert.Pre_finite_sb.Facts] (m : (ℓ : Loc Cert.SbBwdIdeal.nD Cert.SbBwdIdeal.τ Cert.SbBwdIdeal.sig) → Buf (Elt Ideal) ℓ) : Prop :=
  ∀ c : Dev Cert.SbBwdIdeal.nD,
    (Cert.Pre_finite_sb.fn (F := Ideal) (m ((c.tc : Thread Cert.SbBwdIdeal.nD Cert.SbBwdIdeal.τ).loc Cert.SbBwdIdeal.main_arg0)) (m ((c.tc : Thread Cert.SbBwdIdeal.nD Cert.SbBwdIdeal.τ).loc Cert.SbBwdIdeal.main_arg1)) (m ((c.tc : Thread Cert.SbBwdIdeal.nD Cert.SbBwdIdeal.τ).loc Cert.SbBwdIdeal.main_arg2))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_sb [hPre_finite_sb : Cert.Pre_finite_sb.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2))) = (fun _ => 1#1)

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_finite_rms [hPre_finite_rms : Cert.Pre_finite_rms.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_finite_rms.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))) = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_finite_rms [hPre_finite_rms : Cert.Pre_finite_rms.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_finite_rms.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))) = (fun _ => 1#1)

def Pre_QkBwd (m : (ℓ : Loc Cert.QkBwd.nD Cert.QkBwd.τ Cert.QkBwd.sig) → Buf (Elt Bits) ℓ) : Prop :=
  True

def Pre_QkBwdIdeal (m : (ℓ : Loc Cert.QkBwdIdeal.nD Cert.QkBwdIdeal.τ Cert.QkBwdIdeal.sig) → Buf (Elt Ideal) ℓ) : Prop :=
  True

def Pre_QkBwdIdeal_finite_qk [hPre_finite_qk : Cert.Pre_finite_qk.Facts] (m : (ℓ : Loc Cert.QkBwdIdeal.nD Cert.QkBwdIdeal.τ Cert.QkBwdIdeal.sig) → Buf (Elt Ideal) ℓ) : Prop :=
  ∀ c : Dev Cert.QkBwdIdeal.nD,
    (Cert.Pre_finite_qk.fn (F := Ideal) (m ((c.tc : Thread Cert.QkBwdIdeal.nD Cert.QkBwdIdeal.τ).loc Cert.QkBwdIdeal.main_arg0)) (m ((c.tc : Thread Cert.QkBwdIdeal.nD Cert.QkBwdIdeal.τ).loc Cert.QkBwdIdeal.main_arg1)) (m ((c.tc : Thread Cert.QkBwdIdeal.nD Cert.QkBwdIdeal.τ).loc Cert.QkBwdIdeal.main_arg2)) (m ((c.tc : Thread Cert.QkBwdIdeal.nD Cert.QkBwdIdeal.τ).loc Cert.QkBwdIdeal.main_arg3))) = (fun _ => 1#1)

def Pre_QkRefIdeal (m : (ℓ : Loc Cert.QkRefIdeal.nD Cert.QkRefIdeal.τ Cert.QkRefIdeal.sig) → Buf (Elt Ideal) ℓ) : Prop :=
  True

def Pre_QkRefIdeal_finite_qk [hPre_finite_qk : Cert.Pre_finite_qk.Facts] (m : (ℓ : Loc Cert.QkRefIdeal.nD Cert.QkRefIdeal.τ Cert.QkRefIdeal.sig) → Buf (Elt Ideal) ℓ) : Prop :=
  ∀ c : Dev Cert.QkRefIdeal.nD,
    (Cert.Pre_finite_qk.fn (F := Ideal) (m ((c.tc : Thread Cert.QkRefIdeal.nD Cert.QkRefIdeal.τ).loc Cert.QkRefIdeal.main_arg0)) (m ((c.tc : Thread Cert.QkRefIdeal.nD Cert.QkRefIdeal.τ).loc Cert.QkRefIdeal.main_arg1)) (m ((c.tc : Thread Cert.QkRefIdeal.nD Cert.QkRefIdeal.τ).loc Cert.QkRefIdeal.main_arg2)) (m ((c.tc : Thread Cert.QkRefIdeal.nD Cert.QkRefIdeal.τ).loc Cert.QkRefIdeal.main_arg3))) = (fun _ => 1#1)

def Pre_QkqBwd (m : (ℓ : Loc Cert.QkqBwd.nD Cert.QkqBwd.τ Cert.QkqBwd.sig) → Buf (Elt Bits) ℓ) : Prop :=
  True

def Pre_QkqBwdIdeal (m : (ℓ : Loc Cert.QkqBwdIdeal.nD Cert.QkqBwdIdeal.τ Cert.QkqBwdIdeal.sig) → Buf (Elt Ideal) ℓ) : Prop :=
  True

def Pre_QkqBwdIdeal_finite_qkq [hPre_finite_qkq : Cert.Pre_finite_qkq.Facts] (m : (ℓ : Loc Cert.QkqBwdIdeal.nD Cert.QkqBwdIdeal.τ Cert.QkqBwdIdeal.sig) → Buf (Elt Ideal) ℓ) : Prop :=
  ∀ c : Dev Cert.QkqBwdIdeal.nD,
    (Cert.Pre_finite_qkq.fn (F := Ideal) (m ((c.tc : Thread Cert.QkqBwdIdeal.nD Cert.QkqBwdIdeal.τ).loc Cert.QkqBwdIdeal.main_arg0)) (m ((c.tc : Thread Cert.QkqBwdIdeal.nD Cert.QkqBwdIdeal.τ).loc Cert.QkqBwdIdeal.main_arg1)) (m ((c.tc : Thread Cert.QkqBwdIdeal.nD Cert.QkqBwdIdeal.τ).loc Cert.QkqBwdIdeal.main_arg2)) (m ((c.tc : Thread Cert.QkqBwdIdeal.nD Cert.QkqBwdIdeal.τ).loc Cert.QkqBwdIdeal.main_arg3))) = (fun _ => 1#1)

def Pre_QkqRefIdeal (m : (ℓ : Loc Cert.QkqRefIdeal.nD Cert.QkqRefIdeal.τ Cert.QkqRefIdeal.sig) → Buf (Elt Ideal) ℓ) : Prop :=
  True

def Pre_QkqRefIdeal_finite_qkq [hPre_finite_qkq : Cert.Pre_finite_qkq.Facts] (m : (ℓ : Loc Cert.QkqRefIdeal.nD Cert.QkqRefIdeal.τ Cert.QkqRefIdeal.sig) → Buf (Elt Ideal) ℓ) : Prop :=
  ∀ c : Dev Cert.QkqRefIdeal.nD,
    (Cert.Pre_finite_qkq.fn (F := Ideal) (m ((c.tc : Thread Cert.QkqRefIdeal.nD Cert.QkqRefIdeal.τ).loc Cert.QkqRefIdeal.main_arg0)) (m ((c.tc : Thread Cert.QkqRefIdeal.nD Cert.QkqRefIdeal.τ).loc Cert.QkqRefIdeal.main_arg1)) (m ((c.tc : Thread Cert.QkqRefIdeal.nD Cert.QkqRefIdeal.τ).loc Cert.QkqRefIdeal.main_arg2)) (m ((c.tc : Thread Cert.QkqRefIdeal.nD Cert.QkqRefIdeal.τ).loc Cert.QkqRefIdeal.main_arg3))) = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_conv [hPre_finite_conv : Cert.Pre_finite_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))) = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_finite_pool [hPre_finite_pool : Cert.Pre_finite_pool.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_pool [hPre_finite_pool : Cert.Pre_finite_pool.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))) = (fun _ => 1#1)

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_PrepBwd (m : (ℓ : Loc Cert.PrepBwd.nD Cert.PrepBwd.τ Cert.PrepBwd.sig) → Buf (Elt Bits) ℓ) : Prop :=
  True

def Pre_PrepBwdIdeal (m : (ℓ : Loc Cert.PrepBwdIdeal.nD Cert.PrepBwdIdeal.τ Cert.PrepBwdIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_finite_poolf [hPre_finite_poolf : Cert.Pre_finite_poolf.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_finite_poolf.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2)) (m ((c.tc : Thread Cert.PoolFwdIdeal.nD Cert.PoolFwdIdeal.τ).loc Cert.PoolFwdIdeal.main_arg3)) (m ((c.tc : Thread Cert.PoolFwdIdeal.nD Cert.PoolFwdIdeal.τ).loc Cert.PoolFwdIdeal.main_arg4))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_finite_poolf [hPre_finite_poolf : Cert.Pre_finite_poolf.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_finite_poolf.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2)) (m ((c.tc : Thread Cert.PoolFwdRefIdeal.nD Cert.PoolFwdRefIdeal.τ).loc Cert.PoolFwdRefIdeal.main_arg3)) (m ((c.tc : Thread Cert.PoolFwdRefIdeal.nD Cert.PoolFwdRefIdeal.τ).loc Cert.PoolFwdRefIdeal.main_arg4))) = (fun _ => 1#1)

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_QkFwd (m : (ℓ : Loc Cert.QkFwd.nD Cert.QkFwd.τ Cert.QkFwd.sig) → Buf (Elt Bits) ℓ) : Prop :=
  True

def Pre_QkFwdIdeal (m : (ℓ : Loc Cert.QkFwdIdeal.nD Cert.QkFwdIdeal.τ Cert.QkFwdIdeal.sig) → Buf (Elt Ideal) ℓ) : Prop :=
  True

def Pre_QkFwdRefIdeal (m : (ℓ : Loc Cert.QkFwdRefIdeal.nD Cert.QkFwdRefIdeal.τ Cert.QkFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_finite_sbf [hPre_finite_sbf : Cert.Pre_finite_sbf.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_finite_sbf.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1))) = (fun _ => 1#1)

def Pre_SbFwdRefIdeal (m : (ℓ : Loc Cert.SbFwdRefIdeal.nD Cert.SbFwdRefIdeal.τ Cert.SbFwdRefIdeal.sig) → Buf (Elt Ideal) ℓ) : Prop :=
  True

def Pre_SbFwdRefIdeal_finite_sbf [hPre_finite_sbf : Cert.Pre_finite_sbf.Facts] (m : (ℓ : Loc Cert.SbFwdRefIdeal.nD Cert.SbFwdRefIdeal.τ Cert.SbFwdRefIdeal.sig) → Buf (Elt Ideal) ℓ) : Prop :=
  ∀ c : Dev Cert.SbFwdRefIdeal.nD,
    (Cert.Pre_finite_sbf.fn (F := Ideal) (m ((c.tc : Thread Cert.SbFwdRefIdeal.nD Cert.SbFwdRefIdeal.τ).loc Cert.SbFwdRefIdeal.main_arg0)) (m ((c.tc : Thread Cert.SbFwdRefIdeal.nD Cert.SbFwdRefIdeal.τ).loc Cert.SbFwdRefIdeal.main_arg1))) = (fun _ => 1#1)

def Pre_CoreFwd (m : (ℓ : Loc Cert.CoreFwd.nD Cert.CoreFwd.τ Cert.CoreFwd.sig) → Buf (Elt Bits) ℓ) : Prop :=
  True

def Pre_CoreFwdIdeal (m : (ℓ : Loc Cert.CoreFwdIdeal.nD Cert.CoreFwdIdeal.τ Cert.CoreFwdIdeal.sig) → Buf (Elt Ideal) ℓ) : Prop :=
  True

def Pre_CoreFwdIdeal_finite_coref [hPre_finite_coref : Cert.Pre_finite_coref.Facts] (m : (ℓ : Loc Cert.CoreFwdIdeal.nD Cert.CoreFwdIdeal.τ Cert.CoreFwdIdeal.sig) → Buf (Elt Ideal) ℓ) : Prop :=
  ∀ c : Dev Cert.CoreFwdIdeal.nD,
    (Cert.Pre_finite_coref.fn (F := Ideal) (m ((c.tc : Thread Cert.CoreFwdIdeal.nD Cert.CoreFwdIdeal.τ).loc Cert.CoreFwdIdeal.main_arg0)) (m ((c.tc : Thread Cert.CoreFwdIdeal.nD Cert.CoreFwdIdeal.τ).loc Cert.CoreFwdIdeal.main_arg1)) (m ((c.tc : Thread Cert.CoreFwdIdeal.nD Cert.CoreFwdIdeal.τ).loc Cert.CoreFwdIdeal.main_arg2)) (m ((c.tc : Thread Cert.CoreFwdIdeal.nD Cert.CoreFwdIdeal.τ).loc Cert.CoreFwdIdeal.main_arg3)) (m ((c.tc : Thread Cert.CoreFwdIdeal.nD Cert.CoreFwdIdeal.τ).loc Cert.CoreFwdIdeal.main_arg4)) (m ((c.tc : Thread Cert.CoreFwdIdeal.nD Cert.CoreFwdIdeal.τ).loc Cert.CoreFwdIdeal.main_arg5)) (m ((c.tc : Thread Cert.CoreFwdIdeal.nD Cert.CoreFwdIdeal.τ).loc Cert.CoreFwdIdeal.main_arg6)) (m ((c.tc : Thread Cert.CoreFwdIdeal.nD Cert.CoreFwdIdeal.τ).loc Cert.CoreFwdIdeal.main_arg7))) = (fun _ => 1#1)

def Pre_CoreFwdRefIdeal (m : (ℓ : Loc Cert.CoreFwdRefIdeal.nD Cert.CoreFwdRefIdeal.τ Cert.CoreFwdRefIdeal.sig) → Buf (Elt Ideal) ℓ) : Prop :=
  True

def Pre_CoreFwdRefIdeal_finite_coref [hPre_finite_coref : Cert.Pre_finite_coref.Facts] (m : (ℓ : Loc Cert.CoreFwdRefIdeal.nD Cert.CoreFwdRefIdeal.τ Cert.CoreFwdRefIdeal.sig) → Buf (Elt Ideal) ℓ) : Prop :=
  ∀ c : Dev Cert.CoreFwdRefIdeal.nD,
    (Cert.Pre_finite_coref.fn (F := Ideal) (m ((c.tc : Thread Cert.CoreFwdRefIdeal.nD Cert.CoreFwdRefIdeal.τ).loc Cert.CoreFwdRefIdeal.main_arg0)) (m ((c.tc : Thread Cert.CoreFwdRefIdeal.nD Cert.CoreFwdRefIdeal.τ).loc Cert.CoreFwdRefIdeal.main_arg1)) (m ((c.tc : Thread Cert.CoreFwdRefIdeal.nD Cert.CoreFwdRefIdeal.τ).loc Cert.CoreFwdRefIdeal.main_arg2)) (m ((c.tc : Thread Cert.CoreFwdRefIdeal.nD Cert.CoreFwdRefIdeal.τ).loc Cert.CoreFwdRefIdeal.main_arg3)) (m ((c.tc : Thread Cert.CoreFwdRefIdeal.nD Cert.CoreFwdRefIdeal.τ).loc Cert.CoreFwdRefIdeal.main_arg4)) (m ((c.tc : Thread Cert.CoreFwdRefIdeal.nD Cert.CoreFwdRefIdeal.τ).loc Cert.CoreFwdRefIdeal.main_arg5)) (m ((c.tc : Thread Cert.CoreFwdRefIdeal.nD Cert.CoreFwdRefIdeal.τ).loc Cert.CoreFwdRefIdeal.main_arg6)) (m ((c.tc : Thread Cert.CoreFwdRefIdeal.nD Cert.CoreFwdRefIdeal.τ).loc Cert.CoreFwdRefIdeal.main_arg7))) = (fun _ => 1#1)

def Pre_CoreBwd (m : (ℓ : Loc Cert.CoreBwd.nD Cert.CoreBwd.τ Cert.CoreBwd.sig) → Buf (Elt Bits) ℓ) : Prop :=
  True

def Pre_CoreBwdIdeal (m : (ℓ : Loc Cert.CoreBwdIdeal.nD Cert.CoreBwdIdeal.τ Cert.CoreBwdIdeal.sig) → Buf (Elt Ideal) ℓ) : Prop :=
  True

def Pre_MmNn (m : (ℓ : Loc Cert.MmNn.nD Cert.MmNn.τ Cert.MmNn.sig) → Buf (Elt Bits) ℓ) : Prop :=
  True

def Pre_MmNnIdeal (m : (ℓ : Loc Cert.MmNnIdeal.nD Cert.MmNnIdeal.τ Cert.MmNnIdeal.sig) → Buf (Elt Ideal) ℓ) : Prop :=
  True

def Pre_MmNnRefIdeal (m : (ℓ : Loc Cert.MmNnRefIdeal.nD Cert.MmNnRefIdeal.τ Cert.MmNnRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_MmNnPieces (m : (ℓ : Loc Cert.MmNnPieces.nD Cert.MmNnPieces.τ Cert.MmNnPieces.sig) → Buf (Elt Bits) ℓ) : Prop :=
  True

def Pre_MmNnPiecesIdeal (m : (ℓ : Loc Cert.MmNnPiecesIdeal.nD Cert.MmNnPiecesIdeal.τ Cert.MmNnPiecesIdeal.sig) → Buf (Elt Ideal) ℓ) : Prop :=
  True

def Pre_MmNnPiecesRefIdeal (m : (ℓ : Loc Cert.MmNnPiecesRefIdeal.nD Cert.MmNnPiecesRefIdeal.τ Cert.MmNnPiecesRefIdeal.sig) → Buf (Elt Ideal) ℓ) : Prop :=
  True

def Pre_MmTnPieces (m : (ℓ : Loc Cert.MmTnPieces.nD Cert.MmTnPieces.τ Cert.MmTnPieces.sig) → Buf (Elt Bits) ℓ) : Prop :=
  True

def Pre_MmTnPiecesIdeal (m : (ℓ : Loc Cert.MmTnPiecesIdeal.nD Cert.MmTnPiecesIdeal.τ Cert.MmTnPiecesIdeal.sig) → Buf (Elt Ideal) ℓ) : Prop :=
  True

def Pre_MmTnPiecesRefIdeal (m : (ℓ : Loc Cert.MmTnPiecesRefIdeal.nD Cert.MmTnPiecesRefIdeal.τ Cert.MmTnPiecesRefIdeal.sig) → Buf (Elt Ideal) ℓ) : Prop :=
  True

def Pre_MmNtPieces (m : (ℓ : Loc Cert.MmNtPieces.nD Cert.MmNtPieces.τ Cert.MmNtPieces.sig) → Buf (Elt Bits) ℓ) : Prop :=
  True

def Pre_MmNtPiecesIdeal (m : (ℓ : Loc Cert.MmNtPiecesIdeal.nD Cert.MmNtPiecesIdeal.τ Cert.MmNtPiecesIdeal.sig) → Buf (Elt Ideal) ℓ) : Prop :=
  True

def Pre_MmNtPiecesRefIdeal (m : (ℓ : Loc Cert.MmNtPiecesRefIdeal.nD Cert.MmNtPiecesRefIdeal.τ Cert.MmNtPiecesRefIdeal.sig) → Buf (Elt Ideal) ℓ) : Prop :=
  True

def Pre_SumParts (m : (ℓ : Loc Cert.SumParts.nD Cert.SumParts.τ Cert.SumParts.sig) → Buf (Elt Bits) ℓ) : Prop :=
  True

def Pre_SumPartsIdeal (m : (ℓ : Loc Cert.SumPartsIdeal.nD Cert.SumPartsIdeal.τ Cert.SumPartsIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_AdamFlat (m : (ℓ : Loc Cert.AdamFlat.nD Cert.AdamFlat.τ Cert.AdamFlat.sig) → Buf (Elt Bits) ℓ) : Prop :=
  True

def Pre_AdamFlatIdeal (m : (ℓ : Loc Cert.AdamFlatIdeal.nD Cert.AdamFlatIdeal.τ Cert.AdamFlatIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_SbBwd [hSbBwd : Cert.SbBwd.Facts] : Prop :=
  ∀ (m : (ℓ : Loc Cert.SbBwd.nD Cert.SbBwd.τ Cert.SbBwd.sig) → Buf (Elt Bits) ℓ) (g : Dev Cert.SbBwd.nD → PrngReg), Pre_SbBwd m →
    θ_run (Cert.SbBwd.defs (F := Bits)) (onTc (τ := Cert.SbBwd.τ) (Cert.SbBwd.main (F := Bits))) ⟨m, fun _ => 0, g⟩ (fun r => (∀ c : Dev Cert.SbBwd.nD,
      r.2.mem ((c.tc : Thread Cert.SbBwd.nD Cert.SbBwd.τ).loc Cert.SbBwd.main_arg0) = m ((c.tc : Thread Cert.SbBwd.nD Cert.SbBwd.τ).loc Cert.SbBwd.main_arg0)
      ∧ r.2.mem ((c.tc : Thread Cert.SbBwd.nD Cert.SbBwd.τ).loc Cert.SbBwd.main_arg1) = m ((c.tc : Thread Cert.SbBwd.nD Cert.SbBwd.τ).loc Cert.SbBwd.main_arg1)
      ∧ r.2.mem ((c.tc : Thread Cert.SbBwd.nD Cert.SbBwd.τ).loc Cert.SbBwd.main_arg2) = m ((c.tc : Thread Cert.SbBwd.nD Cert.SbBwd.τ).loc Cert.SbBwd.main_arg2))
      ∧ r.2.sem = fun _ => 0)

def quiescent_SbBwdIdeal [hSbBwdIdeal : Cert.SbBwdIdeal.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
      ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2))
      ∧ r.2.sem = fun _ => 0)

def quiescent_SbBwdIdeal_pre_finite_sb [hSbBwdIdeal : Cert.SbBwdIdeal.Facts] [hPre_finite_sb : Cert.Pre_finite_sb.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal_finite_sb m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
      ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_SbRefIdeal_pre_finite_sb [hSbRefIdeal : Cert.SbRefIdeal.Facts] [hPre_finite_sb : Cert.Pre_finite_sb.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_sb m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdIdeal_pre_finite_rms [hRmsBwdIdeal : Cert.RmsBwdIdeal.Facts] [hPre_finite_rms : Cert.Pre_finite_rms.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_finite_rms m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_RmsRefIdeal_pre_finite_rms [hRmsRefIdeal : Cert.RmsRefIdeal.Facts] [hPre_finite_rms : Cert.Pre_finite_rms.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_finite_rms m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_QkBwd [hQkBwd : Cert.QkBwd.Facts] : Prop :=
  ∀ (m : (ℓ : Loc Cert.QkBwd.nD Cert.QkBwd.τ Cert.QkBwd.sig) → Buf (Elt Bits) ℓ) (g : Dev Cert.QkBwd.nD → PrngReg), Pre_QkBwd m →
    θ_run (Cert.QkBwd.defs (F := Bits)) (onTc (τ := Cert.QkBwd.τ) (Cert.QkBwd.main (F := Bits))) ⟨m, fun _ => 0, g⟩ (fun r => (∀ c : Dev Cert.QkBwd.nD,
      r.2.mem ((c.tc : Thread Cert.QkBwd.nD Cert.QkBwd.τ).loc Cert.QkBwd.main_arg0) = m ((c.tc : Thread Cert.QkBwd.nD Cert.QkBwd.τ).loc Cert.QkBwd.main_arg0)
      ∧ r.2.mem ((c.tc : Thread Cert.QkBwd.nD Cert.QkBwd.τ).loc Cert.QkBwd.main_arg1) = m ((c.tc : Thread Cert.QkBwd.nD Cert.QkBwd.τ).loc Cert.QkBwd.main_arg1)
      ∧ r.2.mem ((c.tc : Thread Cert.QkBwd.nD Cert.QkBwd.τ).loc Cert.QkBwd.main_arg2) = m ((c.tc : Thread Cert.QkBwd.nD Cert.QkBwd.τ).loc Cert.QkBwd.main_arg2)
      ∧ r.2.mem ((c.tc : Thread Cert.QkBwd.nD Cert.QkBwd.τ).loc Cert.QkBwd.main_arg3) = m ((c.tc : Thread Cert.QkBwd.nD Cert.QkBwd.τ).loc Cert.QkBwd.main_arg3))
      ∧ r.2.sem = fun _ => 0)

def quiescent_QkBwdIdeal [hQkBwdIdeal : Cert.QkBwdIdeal.Facts] : Prop :=
  ∀ (m : (ℓ : Loc Cert.QkBwdIdeal.nD Cert.QkBwdIdeal.τ Cert.QkBwdIdeal.sig) → Buf (Elt Ideal) ℓ) (g : Dev Cert.QkBwdIdeal.nD → PrngReg), Pre_QkBwdIdeal m →
    θ_run (Cert.QkBwdIdeal.defs (F := Ideal)) (onTc (τ := Cert.QkBwdIdeal.τ) (Cert.QkBwdIdeal.main (F := Ideal))) ⟨m, fun _ => 0, g⟩ (fun r => (∀ c : Dev Cert.QkBwdIdeal.nD,
      r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
      ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
      ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
      ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3))
      ∧ r.2.sem = fun _ => 0)

def quiescent_QkBwdIdeal_pre_finite_qk [hQkBwdIdeal : Cert.QkBwdIdeal.Facts] [hPre_finite_qk : Cert.Pre_finite_qk.Facts] : Prop :=
  ∀ (m : (ℓ : Loc Cert.QkBwdIdeal.nD Cert.QkBwdIdeal.τ Cert.QkBwdIdeal.sig) → Buf (Elt Ideal) ℓ) (g : Dev Cert.QkBwdIdeal.nD → PrngReg), Pre_QkBwdIdeal_finite_qk m →
    θ_run (Cert.QkBwdIdeal.defs (F := Ideal)) (onTc (τ := Cert.QkBwdIdeal.τ) (Cert.QkBwdIdeal.main (F := Ideal))) ⟨m, fun _ => 0, g⟩ (fun r => (∀ c : Dev Cert.QkBwdIdeal.nD,
      r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
      ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
      ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
      ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3))
      ∧ r.2.sem = fun _ => 0)

def quiescent_QkRefIdeal_pre_finite_qk [hQkRefIdeal : Cert.QkRefIdeal.Facts] [hPre_finite_qk : Cert.Pre_finite_qk.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal_finite_qk m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3))
      ∧ r.2.sem = fun _ => 0)

def quiescent_QkqBwd [hQkqBwd : Cert.QkqBwd.Facts] : Prop :=
  ∀ (m : (ℓ : Loc Cert.QkqBwd.nD Cert.QkqBwd.τ Cert.QkqBwd.sig) → Buf (Elt Bits) ℓ) (g : Dev Cert.QkqBwd.nD → PrngReg), Pre_QkqBwd m →
    θ_run (Cert.QkqBwd.defs (F := Bits)) (onTc (τ := Cert.QkqBwd.τ) (Cert.QkqBwd.main (F := Bits))) ⟨m, fun _ => 0, g⟩ (fun r => (∀ c : Dev Cert.QkqBwd.nD,
      r.2.mem ((c.tc : Thread Cert.QkqBwd.nD Cert.QkqBwd.τ).loc Cert.QkqBwd.main_arg0) = m ((c.tc : Thread Cert.QkqBwd.nD Cert.QkqBwd.τ).loc Cert.QkqBwd.main_arg0)
      ∧ r.2.mem ((c.tc : Thread Cert.QkqBwd.nD Cert.QkqBwd.τ).loc Cert.QkqBwd.main_arg1) = m ((c.tc : Thread Cert.QkqBwd.nD Cert.QkqBwd.τ).loc Cert.QkqBwd.main_arg1)
      ∧ r.2.mem ((c.tc : Thread Cert.QkqBwd.nD Cert.QkqBwd.τ).loc Cert.QkqBwd.main_arg2) = m ((c.tc : Thread Cert.QkqBwd.nD Cert.QkqBwd.τ).loc Cert.QkqBwd.main_arg2)
      ∧ r.2.mem ((c.tc : Thread Cert.QkqBwd.nD Cert.QkqBwd.τ).loc Cert.QkqBwd.main_arg3) = m ((c.tc : Thread Cert.QkqBwd.nD Cert.QkqBwd.τ).loc Cert.QkqBwd.main_arg3))
      ∧ r.2.sem = fun _ => 0)

def quiescent_QkqBwdIdeal [hQkqBwdIdeal : Cert.QkqBwdIdeal.Facts] : Prop :=
  ∀ (m : (ℓ : Loc Cert.QkqBwdIdeal.nD Cert.QkqBwdIdeal.τ Cert.QkqBwdIdeal.sig) → Buf (Elt Ideal) ℓ) (g : Dev Cert.QkqBwdIdeal.nD → PrngReg), Pre_QkqBwdIdeal m →
    θ_run (Cert.QkqBwdIdeal.defs (F := Ideal)) (onTc (τ := Cert.QkqBwdIdeal.τ) (Cert.QkqBwdIdeal.main (F := Ideal))) ⟨m, fun _ => 0, g⟩ (fun r => (∀ c : Dev Cert.QkqBwdIdeal.nD,
      r.2.mem ((c.tc : Thread Cert.QkqBwdIdeal.nD Cert.QkqBwdIdeal.τ).loc Cert.QkqBwdIdeal.main_arg0) = m ((c.tc : Thread Cert.QkqBwdIdeal.nD Cert.QkqBwdIdeal.τ).loc Cert.QkqBwdIdeal.main_arg0)
      ∧ r.2.mem ((c.tc : Thread Cert.QkqBwdIdeal.nD Cert.QkqBwdIdeal.τ).loc Cert.QkqBwdIdeal.main_arg1) = m ((c.tc : Thread Cert.QkqBwdIdeal.nD Cert.QkqBwdIdeal.τ).loc Cert.QkqBwdIdeal.main_arg1)
      ∧ r.2.mem ((c.tc : Thread Cert.QkqBwdIdeal.nD Cert.QkqBwdIdeal.τ).loc Cert.QkqBwdIdeal.main_arg2) = m ((c.tc : Thread Cert.QkqBwdIdeal.nD Cert.QkqBwdIdeal.τ).loc Cert.QkqBwdIdeal.main_arg2)
      ∧ r.2.mem ((c.tc : Thread Cert.QkqBwdIdeal.nD Cert.QkqBwdIdeal.τ).loc Cert.QkqBwdIdeal.main_arg3) = m ((c.tc : Thread Cert.QkqBwdIdeal.nD Cert.QkqBwdIdeal.τ).loc Cert.QkqBwdIdeal.main_arg3))
      ∧ r.2.sem = fun _ => 0)

def quiescent_QkqBwdIdeal_pre_finite_qkq [hQkqBwdIdeal : Cert.QkqBwdIdeal.Facts] [hPre_finite_qkq : Cert.Pre_finite_qkq.Facts] : Prop :=
  ∀ (m : (ℓ : Loc Cert.QkqBwdIdeal.nD Cert.QkqBwdIdeal.τ Cert.QkqBwdIdeal.sig) → Buf (Elt Ideal) ℓ) (g : Dev Cert.QkqBwdIdeal.nD → PrngReg), Pre_QkqBwdIdeal_finite_qkq m →
    θ_run (Cert.QkqBwdIdeal.defs (F := Ideal)) (onTc (τ := Cert.QkqBwdIdeal.τ) (Cert.QkqBwdIdeal.main (F := Ideal))) ⟨m, fun _ => 0, g⟩ (fun r => (∀ c : Dev Cert.QkqBwdIdeal.nD,
      r.2.mem ((c.tc : Thread Cert.QkqBwdIdeal.nD Cert.QkqBwdIdeal.τ).loc Cert.QkqBwdIdeal.main_arg0) = m ((c.tc : Thread Cert.QkqBwdIdeal.nD Cert.QkqBwdIdeal.τ).loc Cert.QkqBwdIdeal.main_arg0)
      ∧ r.2.mem ((c.tc : Thread Cert.QkqBwdIdeal.nD Cert.QkqBwdIdeal.τ).loc Cert.QkqBwdIdeal.main_arg1) = m ((c.tc : Thread Cert.QkqBwdIdeal.nD Cert.QkqBwdIdeal.τ).loc Cert.QkqBwdIdeal.main_arg1)
      ∧ r.2.mem ((c.tc : Thread Cert.QkqBwdIdeal.nD Cert.QkqBwdIdeal.τ).loc Cert.QkqBwdIdeal.main_arg2) = m ((c.tc : Thread Cert.QkqBwdIdeal.nD Cert.QkqBwdIdeal.τ).loc Cert.QkqBwdIdeal.main_arg2)
      ∧ r.2.mem ((c.tc : Thread Cert.QkqBwdIdeal.nD Cert.QkqBwdIdeal.τ).loc Cert.QkqBwdIdeal.main_arg3) = m ((c.tc : Thread Cert.QkqBwdIdeal.nD Cert.QkqBwdIdeal.τ).loc Cert.QkqBwdIdeal.main_arg3))
      ∧ r.2.sem = fun _ => 0)

def quiescent_QkqRefIdeal [hQkqRefIdeal : Cert.QkqRefIdeal.Facts] : Prop :=
  ∀ (m : (ℓ : Loc Cert.QkqRefIdeal.nD Cert.QkqRefIdeal.τ Cert.QkqRefIdeal.sig) → Buf (Elt Ideal) ℓ) (g : Dev Cert.QkqRefIdeal.nD → PrngReg), Pre_QkqRefIdeal m →
    θ_run (Cert.QkqRefIdeal.defs (F := Ideal)) (onTc (τ := Cert.QkqRefIdeal.τ) (Cert.QkqRefIdeal.main (F := Ideal))) ⟨m, fun _ => 0, g⟩ (fun r => (∀ c : Dev Cert.QkqRefIdeal.nD,
      r.2.mem ((c.tc : Thread Cert.QkqRefIdeal.nD Cert.QkqRefIdeal.τ).loc Cert.QkqRefIdeal.main_arg0) = m ((c.tc : Thread Cert.QkqRefIdeal.nD Cert.QkqRefIdeal.τ).loc Cert.QkqRefIdeal.main_arg0)
      ∧ r.2.mem ((c.tc : Thread Cert.QkqRefIdeal.nD Cert.QkqRefIdeal.τ).loc Cert.QkqRefIdeal.main_arg1) = m ((c.tc : Thread Cert.QkqRefIdeal.nD Cert.QkqRefIdeal.τ).loc Cert.QkqRefIdeal.main_arg1)
      ∧ r.2.mem ((c.tc : Thread Cert.QkqRefIdeal.nD Cert.QkqRefIdeal.τ).loc Cert.QkqRefIdeal.main_arg2) = m ((c.tc : Thread Cert.QkqRefIdeal.nD Cert.QkqRefIdeal.τ).loc Cert.QkqRefIdeal.main_arg2)
      ∧ r.2.mem ((c.tc : Thread Cert.QkqRefIdeal.nD Cert.QkqRefIdeal.τ).loc Cert.QkqRefIdeal.main_arg3) = m ((c.tc : Thread Cert.QkqRefIdeal.nD Cert.QkqRefIdeal.τ).loc Cert.QkqRefIdeal.main_arg3))
      ∧ r.2.sem = fun _ => 0)

def quiescent_QkqRefIdeal_pre_finite_qkq [hQkqRefIdeal : Cert.QkqRefIdeal.Facts] [hPre_finite_qkq : Cert.Pre_finite_qkq.Facts] : Prop :=
  ∀ (m : (ℓ : Loc Cert.QkqRefIdeal.nD Cert.QkqRefIdeal.τ Cert.QkqRefIdeal.sig) → Buf (Elt Ideal) ℓ) (g : Dev Cert.QkqRefIdeal.nD → PrngReg), Pre_QkqRefIdeal_finite_qkq m →
    θ_run (Cert.QkqRefIdeal.defs (F := Ideal)) (onTc (τ := Cert.QkqRefIdeal.τ) (Cert.QkqRefIdeal.main (F := Ideal))) ⟨m, fun _ => 0, g⟩ (fun r => (∀ c : Dev Cert.QkqRefIdeal.nD,
      r.2.mem ((c.tc : Thread Cert.QkqRefIdeal.nD Cert.QkqRefIdeal.τ).loc Cert.QkqRefIdeal.main_arg0) = m ((c.tc : Thread Cert.QkqRefIdeal.nD Cert.QkqRefIdeal.τ).loc Cert.QkqRefIdeal.main_arg0)
      ∧ r.2.mem ((c.tc : Thread Cert.QkqRefIdeal.nD Cert.QkqRefIdeal.τ).loc Cert.QkqRefIdeal.main_arg1) = m ((c.tc : Thread Cert.QkqRefIdeal.nD Cert.QkqRefIdeal.τ).loc Cert.QkqRefIdeal.main_arg1)
      ∧ r.2.mem ((c.tc : Thread Cert.QkqRefIdeal.nD Cert.QkqRefIdeal.τ).loc Cert.QkqRefIdeal.main_arg2) = m ((c.tc : Thread Cert.QkqRefIdeal.nD Cert.QkqRefIdeal.τ).loc Cert.QkqRefIdeal.main_arg2)
      ∧ r.2.mem ((c.tc : Thread Cert.QkqRefIdeal.nD Cert.QkqRefIdeal.τ).loc Cert.QkqRefIdeal.main_arg3) = m ((c.tc : Thread Cert.QkqRefIdeal.nD Cert.QkqRefIdeal.τ).loc Cert.QkqRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_finite_conv [hConvRefIdeal : Cert.ConvRefIdeal.Facts] [hPre_finite_conv : Cert.Pre_finite_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3)
      ∧ r.2.mem ((c.tc : Thread Cert.PoolBwd.nD Cert.PoolBwd.τ).loc Cert.PoolBwd.main_arg4) = m ((c.tc : Thread Cert.PoolBwd.nD Cert.PoolBwd.τ).loc Cert.PoolBwd.main_arg4))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolBwdIdeal_pre_finite_pool [hPoolBwdIdeal : Cert.PoolBwdIdeal.Facts] [hPre_finite_pool : Cert.Pre_finite_pool.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_finite_pool m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_PoolRefIdeal_pre_finite_pool [hPoolRefIdeal : Cert.PoolRefIdeal.Facts] [hPre_finite_pool : Cert.Pre_finite_pool.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_pool m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3)
      ∧ r.2.mem ((c.tc : Thread Cert.GluBwd.nD Cert.GluBwd.τ).loc Cert.GluBwd.main_arg4) = m ((c.tc : Thread Cert.GluBwd.nD Cert.GluBwd.τ).loc Cert.GluBwd.main_arg4))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_PrepBwd [hPrepBwd : Cert.PrepBwd.Facts] : Prop :=
  ∀ (m : (ℓ : Loc Cert.PrepBwd.nD Cert.PrepBwd.τ Cert.PrepBwd.sig) → Buf (Elt Bits) ℓ) (g : Dev Cert.PrepBwd.nD → PrngReg), Pre_PrepBwd m →
    θ_run (Cert.PrepBwd.defs (F := Bits)) (onTc (τ := Cert.PrepBwd.τ) (Cert.PrepBwd.main (F := Bits))) ⟨m, fun _ => 0, g⟩ (fun r => (∀ c : Dev Cert.PrepBwd.nD,
      r.2.mem ((c.tc : Thread Cert.PrepBwd.nD Cert.PrepBwd.τ).loc Cert.PrepBwd.main_arg0) = m ((c.tc : Thread Cert.PrepBwd.nD Cert.PrepBwd.τ).loc Cert.PrepBwd.main_arg0)
      ∧ r.2.mem ((c.tc : Thread Cert.PrepBwd.nD Cert.PrepBwd.τ).loc Cert.PrepBwd.main_arg1) = m ((c.tc : Thread Cert.PrepBwd.nD Cert.PrepBwd.τ).loc Cert.PrepBwd.main_arg1)
      ∧ r.2.mem ((c.tc : Thread Cert.PrepBwd.nD Cert.PrepBwd.τ).loc Cert.PrepBwd.main_arg2) = m ((c.tc : Thread Cert.PrepBwd.nD Cert.PrepBwd.τ).loc Cert.PrepBwd.main_arg2)
      ∧ r.2.mem ((c.tc : Thread Cert.PrepBwd.nD Cert.PrepBwd.τ).loc Cert.PrepBwd.main_arg3) = m ((c.tc : Thread Cert.PrepBwd.nD Cert.PrepBwd.τ).loc Cert.PrepBwd.main_arg3)
      ∧ r.2.mem ((c.tc : Thread Cert.PrepBwd.nD Cert.PrepBwd.τ).loc Cert.PrepBwd.main_arg4) = m ((c.tc : Thread Cert.PrepBwd.nD Cert.PrepBwd.τ).loc Cert.PrepBwd.main_arg4)
      ∧ r.2.mem ((c.tc : Thread Cert.PrepBwd.nD Cert.PrepBwd.τ).loc Cert.PrepBwd.main_arg5) = m ((c.tc : Thread Cert.PrepBwd.nD Cert.PrepBwd.τ).loc Cert.PrepBwd.main_arg5)
      ∧ r.2.mem ((c.tc : Thread Cert.PrepBwd.nD Cert.PrepBwd.τ).loc Cert.PrepBwd.main_arg6) = m ((c.tc : Thread Cert.PrepBwd.nD Cert.PrepBwd.τ).loc Cert.PrepBwd.main_arg6)
      ∧ r.2.mem ((c.tc : Thread Cert.PrepBwd.nD Cert.PrepBwd.τ).loc Cert.PrepBwd.main_arg7) = m ((c.tc : Thread Cert.PrepBwd.nD Cert.PrepBwd.τ).loc Cert.PrepBwd.main_arg7)
      ∧ r.2.mem ((c.tc : Thread Cert.PrepBwd.nD Cert.PrepBwd.τ).loc Cert.PrepBwd.main_arg8) = m ((c.tc : Thread Cert.PrepBwd.nD Cert.PrepBwd.τ).loc Cert.PrepBwd.main_arg8))
      ∧ r.2.sem = fun _ => 0)

def quiescent_PrepBwdIdeal [hPrepBwdIdeal : Cert.PrepBwdIdeal.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg), Pre_PrepBwdIdeal m →
    θ_run (Cert.PrepBwdIdeal.defs (F := Ideal)) (onTc (τ := Cert.PrepBwdIdeal.τ) (Cert.PrepBwdIdeal.main (F := Ideal))) ⟨m, fun _ => 0, g⟩ (fun r => (∀ c : Dev Cert.PrepBwdIdeal.nD,
      r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
      ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
      ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
      ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
      ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
      ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
      ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
      ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7)
      ∧ r.2.mem ((c.tc : Thread Cert.PrepBwdIdeal.nD Cert.PrepBwdIdeal.τ).loc Cert.PrepBwdIdeal.main_arg8) = m ((c.tc : Thread Cert.PrepBwdIdeal.nD Cert.PrepBwdIdeal.τ).loc Cert.PrepBwdIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2)
      ∧ r.2.mem ((c.tc : Thread Cert.PoolFwd.nD Cert.PoolFwd.τ).loc Cert.PoolFwd.main_arg3) = m ((c.tc : Thread Cert.PoolFwd.nD Cert.PoolFwd.τ).loc Cert.PoolFwd.main_arg3)
      ∧ r.2.mem ((c.tc : Thread Cert.PoolFwd.nD Cert.PoolFwd.τ).loc Cert.PoolFwd.main_arg4) = m ((c.tc : Thread Cert.PoolFwd.nD Cert.PoolFwd.τ).loc Cert.PoolFwd.main_arg4))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3)
      ∧ r.2.mem ((c.tc : Thread Cert.PoolFwdIdeal.nD Cert.PoolFwdIdeal.τ).loc Cert.PoolFwdIdeal.main_arg4) = m ((c.tc : Thread Cert.PoolFwdIdeal.nD Cert.PoolFwdIdeal.τ).loc Cert.PoolFwdIdeal.main_arg4))
      ∧ r.2.sem = fun _ => 0)

def quiescent_PoolFwdIdeal_pre_finite_poolf [hPoolFwdIdeal : Cert.PoolFwdIdeal.Facts] [hPre_finite_poolf : Cert.Pre_finite_poolf.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_finite_poolf m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3)
      ∧ r.2.mem ((c.tc : Thread Cert.PoolFwdIdeal.nD Cert.PoolFwdIdeal.τ).loc Cert.PoolFwdIdeal.main_arg4) = m ((c.tc : Thread Cert.PoolFwdIdeal.nD Cert.PoolFwdIdeal.τ).loc Cert.PoolFwdIdeal.main_arg4))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3)
      ∧ r.2.mem ((c.tc : Thread Cert.PoolFwdRefIdeal.nD Cert.PoolFwdRefIdeal.τ).loc Cert.PoolFwdRefIdeal.main_arg4) = m ((c.tc : Thread Cert.PoolFwdRefIdeal.nD Cert.PoolFwdRefIdeal.τ).loc Cert.PoolFwdRefIdeal.main_arg4))
      ∧ r.2.sem = fun _ => 0)

def quiescent_PoolFwdRefIdeal_pre_finite_poolf [hPoolFwdRefIdeal : Cert.PoolFwdRefIdeal.Facts] [hPre_finite_poolf : Cert.Pre_finite_poolf.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_finite_poolf m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3)
      ∧ r.2.mem ((c.tc : Thread Cert.PoolFwdRefIdeal.nD Cert.PoolFwdRefIdeal.τ).loc Cert.PoolFwdRefIdeal.main_arg4) = m ((c.tc : Thread Cert.PoolFwdRefIdeal.nD Cert.PoolFwdRefIdeal.τ).loc Cert.PoolFwdRefIdeal.main_arg4))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_QkFwd [hQkFwd : Cert.QkFwd.Facts] : Prop :=
  ∀ (m : (ℓ : Loc Cert.QkFwd.nD Cert.QkFwd.τ Cert.QkFwd.sig) → Buf (Elt Bits) ℓ) (g : Dev Cert.QkFwd.nD → PrngReg), Pre_QkFwd m →
    θ_run (Cert.QkFwd.defs (F := Bits)) (onTc (τ := Cert.QkFwd.τ) (Cert.QkFwd.main (F := Bits))) ⟨m, fun _ => 0, g⟩ (fun r => (∀ c : Dev Cert.QkFwd.nD,
      r.2.mem ((c.tc : Thread Cert.QkFwd.nD Cert.QkFwd.τ).loc Cert.QkFwd.main_arg0) = m ((c.tc : Thread Cert.QkFwd.nD Cert.QkFwd.τ).loc Cert.QkFwd.main_arg0)
      ∧ r.2.mem ((c.tc : Thread Cert.QkFwd.nD Cert.QkFwd.τ).loc Cert.QkFwd.main_arg1) = m ((c.tc : Thread Cert.QkFwd.nD Cert.QkFwd.τ).loc Cert.QkFwd.main_arg1)
      ∧ r.2.mem ((c.tc : Thread Cert.QkFwd.nD Cert.QkFwd.τ).loc Cert.QkFwd.main_arg2) = m ((c.tc : Thread Cert.QkFwd.nD Cert.QkFwd.τ).loc Cert.QkFwd.main_arg2))
      ∧ r.2.sem = fun _ => 0)

def quiescent_QkFwdIdeal [hQkFwdIdeal : Cert.QkFwdIdeal.Facts] : Prop :=
  ∀ (m : (ℓ : Loc Cert.QkFwdIdeal.nD Cert.QkFwdIdeal.τ Cert.QkFwdIdeal.sig) → Buf (Elt Ideal) ℓ) (g : Dev Cert.QkFwdIdeal.nD → PrngReg), Pre_QkFwdIdeal m →
    θ_run (Cert.QkFwdIdeal.defs (F := Ideal)) (onTc (τ := Cert.QkFwdIdeal.τ) (Cert.QkFwdIdeal.main (F := Ideal))) ⟨m, fun _ => 0, g⟩ (fun r => (∀ c : Dev Cert.QkFwdIdeal.nD,
      r.2.mem ((c.tc : Thread Cert.QkFwdIdeal.nD Cert.QkFwdIdeal.τ).loc Cert.QkFwdIdeal.main_arg0) = m ((c.tc : Thread Cert.QkFwdIdeal.nD Cert.QkFwdIdeal.τ).loc Cert.QkFwdIdeal.main_arg0)
      ∧ r.2.mem ((c.tc : Thread Cert.QkFwdIdeal.nD Cert.QkFwdIdeal.τ).loc Cert.QkFwdIdeal.main_arg1) = m ((c.tc : Thread Cert.QkFwdIdeal.nD Cert.QkFwdIdeal.τ).loc Cert.QkFwdIdeal.main_arg1)
      ∧ r.2.mem ((c.tc : Thread Cert.QkFwdIdeal.nD Cert.QkFwdIdeal.τ).loc Cert.QkFwdIdeal.main_arg2) = m ((c.tc : Thread Cert.QkFwdIdeal.nD Cert.QkFwdIdeal.τ).loc Cert.QkFwdIdeal.main_arg2))
      ∧ r.2.sem = fun _ => 0)

def quiescent_QkFwdRefIdeal [hQkFwdRefIdeal : Cert.QkFwdRefIdeal.Facts] : Prop :=
  ∀ (m : (ℓ : Loc Cert.QkFwdRefIdeal.nD Cert.QkFwdRefIdeal.τ Cert.QkFwdRefIdeal.sig) → Buf (Elt Ideal) ℓ) (g : Dev Cert.QkFwdRefIdeal.nD → PrngReg), Pre_QkFwdRefIdeal m →
    θ_run (Cert.QkFwdRefIdeal.defs (F := Ideal)) (onTc (τ := Cert.QkFwdRefIdeal.τ) (Cert.QkFwdRefIdeal.main (F := Ideal))) ⟨m, fun _ => 0, g⟩ (fun r => (∀ c : Dev Cert.QkFwdRefIdeal.nD,
      r.2.mem ((c.tc : Thread Cert.QkFwdRefIdeal.nD Cert.QkFwdRefIdeal.τ).loc Cert.QkFwdRefIdeal.main_arg0) = m ((c.tc : Thread Cert.QkFwdRefIdeal.nD Cert.QkFwdRefIdeal.τ).loc Cert.QkFwdRefIdeal.main_arg0)
      ∧ r.2.mem ((c.tc : Thread Cert.QkFwdRefIdeal.nD Cert.QkFwdRefIdeal.τ).loc Cert.QkFwdRefIdeal.main_arg1) = m ((c.tc : Thread Cert.QkFwdRefIdeal.nD Cert.QkFwdRefIdeal.τ).loc Cert.QkFwdRefIdeal.main_arg1)
      ∧ r.2.mem ((c.tc : Thread Cert.QkFwdRefIdeal.nD Cert.QkFwdRefIdeal.τ).loc Cert.QkFwdRefIdeal.main_arg2) = m ((c.tc : Thread Cert.QkFwdRefIdeal.nD Cert.QkFwdRefIdeal.τ).loc Cert.QkFwdRefIdeal.main_arg2))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3)
      ∧ r.2.mem ((c.tc : Thread Cert.PrepFwdRefIdeal.nD Cert.PrepFwdRefIdeal.τ).loc Cert.PrepFwdRefIdeal.main_arg4) = m ((c.tc : Thread Cert.PrepFwdRefIdeal.nD Cert.PrepFwdRefIdeal.τ).loc Cert.PrepFwdRefIdeal.main_arg4))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0)
      ∧ r.2.mem ((c.tc : Thread Cert.SbFwd.nD Cert.SbFwd.τ).loc Cert.SbFwd.main_arg1) = m ((c.tc : Thread Cert.SbFwd.nD Cert.SbFwd.τ).loc Cert.SbFwd.main_arg1))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1))
      ∧ r.2.sem = fun _ => 0)

def quiescent_SbFwdIdeal_pre_finite_sbf [hSbFwdIdeal : Cert.SbFwdIdeal.Facts] [hPre_finite_sbf : Cert.Pre_finite_sbf.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_finite_sbf m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1))
      ∧ r.2.sem = fun _ => 0)

def quiescent_SbFwdRefIdeal [hSbFwdRefIdeal : Cert.SbFwdRefIdeal.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1))
      ∧ r.2.sem = fun _ => 0)

def quiescent_SbFwdRefIdeal_pre_finite_sbf [hSbFwdRefIdeal : Cert.SbFwdRefIdeal.Facts] [hPre_finite_sbf : Cert.Pre_finite_sbf.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal_finite_sbf m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1))
      ∧ r.2.sem = fun _ => 0)

def quiescent_CoreFwd [hCoreFwd : Cert.CoreFwd.Facts] : Prop :=
  ∀ (m : (ℓ : Loc Cert.CoreFwd.nD Cert.CoreFwd.τ Cert.CoreFwd.sig) → Buf (Elt Bits) ℓ) (g : Dev Cert.CoreFwd.nD → PrngReg), Pre_CoreFwd m →
    θ_run (Cert.CoreFwd.defs (F := Bits)) (onTc (τ := Cert.CoreFwd.τ) (Cert.CoreFwd.main (F := Bits))) ⟨m, fun _ => 0, g⟩ (fun r => (∀ c : Dev Cert.CoreFwd.nD,
      r.2.mem ((c.tc : Thread Cert.CoreFwd.nD Cert.CoreFwd.τ).loc Cert.CoreFwd.main_arg0) = m ((c.tc : Thread Cert.CoreFwd.nD Cert.CoreFwd.τ).loc Cert.CoreFwd.main_arg0)
      ∧ r.2.mem ((c.tc : Thread Cert.CoreFwd.nD Cert.CoreFwd.τ).loc Cert.CoreFwd.main_arg1) = m ((c.tc : Thread Cert.CoreFwd.nD Cert.CoreFwd.τ).loc Cert.CoreFwd.main_arg1)
      ∧ r.2.mem ((c.tc : Thread Cert.CoreFwd.nD Cert.CoreFwd.τ).loc Cert.CoreFwd.main_arg2) = m ((c.tc : Thread Cert.CoreFwd.nD Cert.CoreFwd.τ).loc Cert.CoreFwd.main_arg2)
      ∧ r.2.mem ((c.tc : Thread Cert.CoreFwd.nD Cert.CoreFwd.τ).loc Cert.CoreFwd.main_arg3) = m ((c.tc : Thread Cert.CoreFwd.nD Cert.CoreFwd.τ).loc Cert.CoreFwd.main_arg3)
      ∧ r.2.mem ((c.tc : Thread Cert.CoreFwd.nD Cert.CoreFwd.τ).loc Cert.CoreFwd.main_arg4) = m ((c.tc : Thread Cert.CoreFwd.nD Cert.CoreFwd.τ).loc Cert.CoreFwd.main_arg4)
      ∧ r.2.mem ((c.tc : Thread Cert.CoreFwd.nD Cert.CoreFwd.τ).loc Cert.CoreFwd.main_arg5) = m ((c.tc : Thread Cert.CoreFwd.nD Cert.CoreFwd.τ).loc Cert.CoreFwd.main_arg5)
      ∧ r.2.mem ((c.tc : Thread Cert.CoreFwd.nD Cert.CoreFwd.τ).loc Cert.CoreFwd.main_arg6) = m ((c.tc : Thread Cert.CoreFwd.nD Cert.CoreFwd.τ).loc Cert.CoreFwd.main_arg6)
      ∧ r.2.mem ((c.tc : Thread Cert.CoreFwd.nD Cert.CoreFwd.τ).loc Cert.CoreFwd.main_arg7) = m ((c.tc : Thread Cert.CoreFwd.nD Cert.CoreFwd.τ).loc Cert.CoreFwd.main_arg7))
      ∧ r.2.sem = fun _ => 0)

def quiescent_CoreFwdIdeal [hCoreFwdIdeal : Cert.CoreFwdIdeal.Facts] : Prop :=
  ∀ (m : (ℓ : Loc Cert.CoreFwdIdeal.nD Cert.CoreFwdIdeal.τ Cert.CoreFwdIdeal.sig) → Buf (Elt Ideal) ℓ) (g : Dev Cert.CoreFwdIdeal.nD → PrngReg), Pre_CoreFwdIdeal m →
    θ_run (Cert.CoreFwdIdeal.defs (F := Ideal)) (onTc (τ := Cert.CoreFwdIdeal.τ) (Cert.CoreFwdIdeal.main (F := Ideal))) ⟨m, fun _ => 0, g⟩ (fun r => (∀ c : Dev Cert.CoreFwdIdeal.nD,
      r.2.mem ((c.tc : Thread Cert.CoreFwdIdeal.nD Cert.CoreFwdIdeal.τ).loc Cert.CoreFwdIdeal.main_arg0) = m ((c.tc : Thread Cert.CoreFwdIdeal.nD Cert.CoreFwdIdeal.τ).loc Cert.CoreFwdIdeal.main_arg0)
      ∧ r.2.mem ((c.tc : Thread Cert.CoreFwdIdeal.nD Cert.CoreFwdIdeal.τ).loc Cert.CoreFwdIdeal.main_arg1) = m ((c.tc : Thread Cert.CoreFwdIdeal.nD Cert.CoreFwdIdeal.τ).loc Cert.CoreFwdIdeal.main_arg1)
      ∧ r.2.mem ((c.tc : Thread Cert.CoreFwdIdeal.nD Cert.CoreFwdIdeal.τ).loc Cert.CoreFwdIdeal.main_arg2) = m ((c.tc : Thread Cert.CoreFwdIdeal.nD Cert.CoreFwdIdeal.τ).loc Cert.CoreFwdIdeal.main_arg2)
      ∧ r.2.mem ((c.tc : Thread Cert.CoreFwdIdeal.nD Cert.CoreFwdIdeal.τ).loc Cert.CoreFwdIdeal.main_arg3) = m ((c.tc : Thread Cert.CoreFwdIdeal.nD Cert.CoreFwdIdeal.τ).loc Cert.CoreFwdIdeal.main_arg3)
      ∧ r.2.mem ((c.tc : Thread Cert.CoreFwdIdeal.nD Cert.CoreFwdIdeal.τ).loc Cert.CoreFwdIdeal.main_arg4) = m ((c.tc : Thread Cert.CoreFwdIdeal.nD Cert.CoreFwdIdeal.τ).loc Cert.CoreFwdIdeal.main_arg4)
      ∧ r.2.mem ((c.tc : Thread Cert.CoreFwdIdeal.nD Cert.CoreFwdIdeal.τ).loc Cert.CoreFwdIdeal.main_arg5) = m ((c.tc : Thread Cert.CoreFwdIdeal.nD Cert.CoreFwdIdeal.τ).loc Cert.CoreFwdIdeal.main_arg5)
      ∧ r.2.mem ((c.tc : Thread Cert.CoreFwdIdeal.nD Cert.CoreFwdIdeal.τ).loc Cert.CoreFwdIdeal.main_arg6) = m ((c.tc : Thread Cert.CoreFwdIdeal.nD Cert.CoreFwdIdeal.τ).loc Cert.CoreFwdIdeal.main_arg6)
      ∧ r.2.mem ((c.tc : Thread Cert.CoreFwdIdeal.nD Cert.CoreFwdIdeal.τ).loc Cert.CoreFwdIdeal.main_arg7) = m ((c.tc : Thread Cert.CoreFwdIdeal.nD Cert.CoreFwdIdeal.τ).loc Cert.CoreFwdIdeal.main_arg7))
      ∧ r.2.sem = fun _ => 0)

def quiescent_CoreFwdIdeal_pre_finite_coref [hCoreFwdIdeal : Cert.CoreFwdIdeal.Facts] [hPre_finite_coref : Cert.Pre_finite_coref.Facts] : Prop :=
  ∀ (m : (ℓ : Loc Cert.CoreFwdIdeal.nD Cert.CoreFwdIdeal.τ Cert.CoreFwdIdeal.sig) → Buf (Elt Ideal) ℓ) (g : Dev Cert.CoreFwdIdeal.nD → PrngReg), Pre_CoreFwdIdeal_finite_coref m →
    θ_run (Cert.CoreFwdIdeal.defs (F := Ideal)) (onTc (τ := Cert.CoreFwdIdeal.τ) (Cert.CoreFwdIdeal.main (F := Ideal))) ⟨m, fun _ => 0, g⟩ (fun r => (∀ c : Dev Cert.CoreFwdIdeal.nD,
      r.2.mem ((c.tc : Thread Cert.CoreFwdIdeal.nD Cert.CoreFwdIdeal.τ).loc Cert.CoreFwdIdeal.main_arg0) = m ((c.tc : Thread Cert.CoreFwdIdeal.nD Cert.CoreFwdIdeal.τ).loc Cert.CoreFwdIdeal.main_arg0)
      ∧ r.2.mem ((c.tc : Thread Cert.CoreFwdIdeal.nD Cert.CoreFwdIdeal.τ).loc Cert.CoreFwdIdeal.main_arg1) = m ((c.tc : Thread Cert.CoreFwdIdeal.nD Cert.CoreFwdIdeal.τ).loc Cert.CoreFwdIdeal.main_arg1)
      ∧ r.2.mem ((c.tc : Thread Cert.CoreFwdIdeal.nD Cert.CoreFwdIdeal.τ).loc Cert.CoreFwdIdeal.main_arg2) = m ((c.tc : Thread Cert.CoreFwdIdeal.nD Cert.CoreFwdIdeal.τ).loc Cert.CoreFwdIdeal.main_arg2)
      ∧ r.2.mem ((c.tc : Thread Cert.CoreFwdIdeal.nD Cert.CoreFwdIdeal.τ).loc Cert.CoreFwdIdeal.main_arg3) = m ((c.tc : Thread Cert.CoreFwdIdeal.nD Cert.CoreFwdIdeal.τ).loc Cert.CoreFwdIdeal.main_arg3)
      ∧ r.2.mem ((c.tc : Thread Cert.CoreFwdIdeal.nD Cert.CoreFwdIdeal.τ).loc Cert.CoreFwdIdeal.main_arg4) = m ((c.tc : Thread Cert.CoreFwdIdeal.nD Cert.CoreFwdIdeal.τ).loc Cert.CoreFwdIdeal.main_arg4)
      ∧ r.2.mem ((c.tc : Thread Cert.CoreFwdIdeal.nD Cert.CoreFwdIdeal.τ).loc Cert.CoreFwdIdeal.main_arg5) = m ((c.tc : Thread Cert.CoreFwdIdeal.nD Cert.CoreFwdIdeal.τ).loc Cert.CoreFwdIdeal.main_arg5)
      ∧ r.2.mem ((c.tc : Thread Cert.CoreFwdIdeal.nD Cert.CoreFwdIdeal.τ).loc Cert.CoreFwdIdeal.main_arg6) = m ((c.tc : Thread Cert.CoreFwdIdeal.nD Cert.CoreFwdIdeal.τ).loc Cert.CoreFwdIdeal.main_arg6)
      ∧ r.2.mem ((c.tc : Thread Cert.CoreFwdIdeal.nD Cert.CoreFwdIdeal.τ).loc Cert.CoreFwdIdeal.main_arg7) = m ((c.tc : Thread Cert.CoreFwdIdeal.nD Cert.CoreFwdIdeal.τ).loc Cert.CoreFwdIdeal.main_arg7))
      ∧ r.2.sem = fun _ => 0)

def quiescent_CoreFwdRefIdeal [hCoreFwdRefIdeal : Cert.CoreFwdRefIdeal.Facts] : Prop :=
  ∀ (m : (ℓ : Loc Cert.CoreFwdRefIdeal.nD Cert.CoreFwdRefIdeal.τ Cert.CoreFwdRefIdeal.sig) → Buf (Elt Ideal) ℓ) (g : Dev Cert.CoreFwdRefIdeal.nD → PrngReg), Pre_CoreFwdRefIdeal m →
    θ_run (Cert.CoreFwdRefIdeal.defs (F := Ideal)) (onTc (τ := Cert.CoreFwdRefIdeal.τ) (Cert.CoreFwdRefIdeal.main (F := Ideal))) ⟨m, fun _ => 0, g⟩ (fun r => (∀ c : Dev Cert.CoreFwdRefIdeal.nD,
      r.2.mem ((c.tc : Thread Cert.CoreFwdRefIdeal.nD Cert.CoreFwdRefIdeal.τ).loc Cert.CoreFwdRefIdeal.main_arg0) = m ((c.tc : Thread Cert.CoreFwdRefIdeal.nD Cert.CoreFwdRefIdeal.τ).loc Cert.CoreFwdRefIdeal.main_arg0)
      ∧ r.2.mem ((c.tc : Thread Cert.CoreFwdRefIdeal.nD Cert.CoreFwdRefIdeal.τ).loc Cert.CoreFwdRefIdeal.main_arg1) = m ((c.tc : Thread Cert.CoreFwdRefIdeal.nD Cert.CoreFwdRefIdeal.τ).loc Cert.CoreFwdRefIdeal.main_arg1)
      ∧ r.2.mem ((c.tc : Thread Cert.CoreFwdRefIdeal.nD Cert.CoreFwdRefIdeal.τ).loc Cert.CoreFwdRefIdeal.main_arg2) = m ((c.tc : Thread Cert.CoreFwdRefIdeal.nD Cert.CoreFwdRefIdeal.τ).loc Cert.CoreFwdRefIdeal.main_arg2)
      ∧ r.2.mem ((c.tc : Thread Cert.CoreFwdRefIdeal.nD Cert.CoreFwdRefIdeal.τ).loc Cert.CoreFwdRefIdeal.main_arg3) = m ((c.tc : Thread Cert.CoreFwdRefIdeal.nD Cert.CoreFwdRefIdeal.τ).loc Cert.CoreFwdRefIdeal.main_arg3)
      ∧ r.2.mem ((c.tc : Thread Cert.CoreFwdRefIdeal.nD Cert.CoreFwdRefIdeal.τ).loc Cert.CoreFwdRefIdeal.main_arg4) = m ((c.tc : Thread Cert.CoreFwdRefIdeal.nD Cert.CoreFwdRefIdeal.τ).loc Cert.CoreFwdRefIdeal.main_arg4)
      ∧ r.2.mem ((c.tc : Thread Cert.CoreFwdRefIdeal.nD Cert.CoreFwdRefIdeal.τ).loc Cert.CoreFwdRefIdeal.main_arg5) = m ((c.tc : Thread Cert.CoreFwdRefIdeal.nD Cert.CoreFwdRefIdeal.τ).loc Cert.CoreFwdRefIdeal.main_arg5)
      ∧ r.2.mem ((c.tc : Thread Cert.CoreFwdRefIdeal.nD Cert.CoreFwdRefIdeal.τ).loc Cert.CoreFwdRefIdeal.main_arg6) = m ((c.tc : Thread Cert.CoreFwdRefIdeal.nD Cert.CoreFwdRefIdeal.τ).loc Cert.CoreFwdRefIdeal.main_arg6)
      ∧ r.2.mem ((c.tc : Thread Cert.CoreFwdRefIdeal.nD Cert.CoreFwdRefIdeal.τ).loc Cert.CoreFwdRefIdeal.main_arg7) = m ((c.tc : Thread Cert.CoreFwdRefIdeal.nD Cert.CoreFwdRefIdeal.τ).loc Cert.CoreFwdRefIdeal.main_arg7))
      ∧ r.2.sem = fun _ => 0)

def quiescent_CoreFwdRefIdeal_pre_finite_coref [hCoreFwdRefIdeal : Cert.CoreFwdRefIdeal.Facts] [hPre_finite_coref : Cert.Pre_finite_coref.Facts] : Prop :=
  ∀ (m : (ℓ : Loc Cert.CoreFwdRefIdeal.nD Cert.CoreFwdRefIdeal.τ Cert.CoreFwdRefIdeal.sig) → Buf (Elt Ideal) ℓ) (g : Dev Cert.CoreFwdRefIdeal.nD → PrngReg), Pre_CoreFwdRefIdeal_finite_coref m →
    θ_run (Cert.CoreFwdRefIdeal.defs (F := Ideal)) (onTc (τ := Cert.CoreFwdRefIdeal.τ) (Cert.CoreFwdRefIdeal.main (F := Ideal))) ⟨m, fun _ => 0, g⟩ (fun r => (∀ c : Dev Cert.CoreFwdRefIdeal.nD,
      r.2.mem ((c.tc : Thread Cert.CoreFwdRefIdeal.nD Cert.CoreFwdRefIdeal.τ).loc Cert.CoreFwdRefIdeal.main_arg0) = m ((c.tc : Thread Cert.CoreFwdRefIdeal.nD Cert.CoreFwdRefIdeal.τ).loc Cert.CoreFwdRefIdeal.main_arg0)
      ∧ r.2.mem ((c.tc : Thread Cert.CoreFwdRefIdeal.nD Cert.CoreFwdRefIdeal.τ).loc Cert.CoreFwdRefIdeal.main_arg1) = m ((c.tc : Thread Cert.CoreFwdRefIdeal.nD Cert.CoreFwdRefIdeal.τ).loc Cert.CoreFwdRefIdeal.main_arg1)
      ∧ r.2.mem ((c.tc : Thread Cert.CoreFwdRefIdeal.nD Cert.CoreFwdRefIdeal.τ).loc Cert.CoreFwdRefIdeal.main_arg2) = m ((c.tc : Thread Cert.CoreFwdRefIdeal.nD Cert.CoreFwdRefIdeal.τ).loc Cert.CoreFwdRefIdeal.main_arg2)
      ∧ r.2.mem ((c.tc : Thread Cert.CoreFwdRefIdeal.nD Cert.CoreFwdRefIdeal.τ).loc Cert.CoreFwdRefIdeal.main_arg3) = m ((c.tc : Thread Cert.CoreFwdRefIdeal.nD Cert.CoreFwdRefIdeal.τ).loc Cert.CoreFwdRefIdeal.main_arg3)
      ∧ r.2.mem ((c.tc : Thread Cert.CoreFwdRefIdeal.nD Cert.CoreFwdRefIdeal.τ).loc Cert.CoreFwdRefIdeal.main_arg4) = m ((c.tc : Thread Cert.CoreFwdRefIdeal.nD Cert.CoreFwdRefIdeal.τ).loc Cert.CoreFwdRefIdeal.main_arg4)
      ∧ r.2.mem ((c.tc : Thread Cert.CoreFwdRefIdeal.nD Cert.CoreFwdRefIdeal.τ).loc Cert.CoreFwdRefIdeal.main_arg5) = m ((c.tc : Thread Cert.CoreFwdRefIdeal.nD Cert.CoreFwdRefIdeal.τ).loc Cert.CoreFwdRefIdeal.main_arg5)
      ∧ r.2.mem ((c.tc : Thread Cert.CoreFwdRefIdeal.nD Cert.CoreFwdRefIdeal.τ).loc Cert.CoreFwdRefIdeal.main_arg6) = m ((c.tc : Thread Cert.CoreFwdRefIdeal.nD Cert.CoreFwdRefIdeal.τ).loc Cert.CoreFwdRefIdeal.main_arg6)
      ∧ r.2.mem ((c.tc : Thread Cert.CoreFwdRefIdeal.nD Cert.CoreFwdRefIdeal.τ).loc Cert.CoreFwdRefIdeal.main_arg7) = m ((c.tc : Thread Cert.CoreFwdRefIdeal.nD Cert.CoreFwdRefIdeal.τ).loc Cert.CoreFwdRefIdeal.main_arg7))
      ∧ r.2.sem = fun _ => 0)

def quiescent_CoreBwd [hCoreBwd : Cert.CoreBwd.Facts] : Prop :=
  ∀ (m : (ℓ : Loc Cert.CoreBwd.nD Cert.CoreBwd.τ Cert.CoreBwd.sig) → Buf (Elt Bits) ℓ) (g : Dev Cert.CoreBwd.nD → PrngReg), Pre_CoreBwd m →
    θ_run (Cert.CoreBwd.defs (F := Bits)) (onTc (τ := Cert.CoreBwd.τ) (Cert.CoreBwd.main (F := Bits))) ⟨m, fun _ => 0, g⟩ (fun r => (∀ c : Dev Cert.CoreBwd.nD,
      r.2.mem ((c.tc : Thread Cert.CoreBwd.nD Cert.CoreBwd.τ).loc Cert.CoreBwd.main_arg0) = m ((c.tc : Thread Cert.CoreBwd.nD Cert.CoreBwd.τ).loc Cert.CoreBwd.main_arg0)
      ∧ r.2.mem ((c.tc : Thread Cert.CoreBwd.nD Cert.CoreBwd.τ).loc Cert.CoreBwd.main_arg1) = m ((c.tc : Thread Cert.CoreBwd.nD Cert.CoreBwd.τ).loc Cert.CoreBwd.main_arg1)
      ∧ r.2.mem ((c.tc : Thread Cert.CoreBwd.nD Cert.CoreBwd.τ).loc Cert.CoreBwd.main_arg2) = m ((c.tc : Thread Cert.CoreBwd.nD Cert.CoreBwd.τ).loc Cert.CoreBwd.main_arg2)
      ∧ r.2.mem ((c.tc : Thread Cert.CoreBwd.nD Cert.CoreBwd.τ).loc Cert.CoreBwd.main_arg3) = m ((c.tc : Thread Cert.CoreBwd.nD Cert.CoreBwd.τ).loc Cert.CoreBwd.main_arg3)
      ∧ r.2.mem ((c.tc : Thread Cert.CoreBwd.nD Cert.CoreBwd.τ).loc Cert.CoreBwd.main_arg4) = m ((c.tc : Thread Cert.CoreBwd.nD Cert.CoreBwd.τ).loc Cert.CoreBwd.main_arg4)
      ∧ r.2.mem ((c.tc : Thread Cert.CoreBwd.nD Cert.CoreBwd.τ).loc Cert.CoreBwd.main_arg5) = m ((c.tc : Thread Cert.CoreBwd.nD Cert.CoreBwd.τ).loc Cert.CoreBwd.main_arg5)
      ∧ r.2.mem ((c.tc : Thread Cert.CoreBwd.nD Cert.CoreBwd.τ).loc Cert.CoreBwd.main_arg6) = m ((c.tc : Thread Cert.CoreBwd.nD Cert.CoreBwd.τ).loc Cert.CoreBwd.main_arg6)
      ∧ r.2.mem ((c.tc : Thread Cert.CoreBwd.nD Cert.CoreBwd.τ).loc Cert.CoreBwd.main_arg7) = m ((c.tc : Thread Cert.CoreBwd.nD Cert.CoreBwd.τ).loc Cert.CoreBwd.main_arg7)
      ∧ r.2.mem ((c.tc : Thread Cert.CoreBwd.nD Cert.CoreBwd.τ).loc Cert.CoreBwd.main_arg8) = m ((c.tc : Thread Cert.CoreBwd.nD Cert.CoreBwd.τ).loc Cert.CoreBwd.main_arg8))
      ∧ r.2.sem = fun _ => 0)

def quiescent_CoreBwdIdeal [hCoreBwdIdeal : Cert.CoreBwdIdeal.Facts] : Prop :=
  ∀ (m : (ℓ : Loc Cert.CoreBwdIdeal.nD Cert.CoreBwdIdeal.τ Cert.CoreBwdIdeal.sig) → Buf (Elt Ideal) ℓ) (g : Dev Cert.CoreBwdIdeal.nD → PrngReg), Pre_CoreBwdIdeal m →
    θ_run (Cert.CoreBwdIdeal.defs (F := Ideal)) (onTc (τ := Cert.CoreBwdIdeal.τ) (Cert.CoreBwdIdeal.main (F := Ideal))) ⟨m, fun _ => 0, g⟩ (fun r => (∀ c : Dev Cert.CoreBwdIdeal.nD,
      r.2.mem ((c.tc : Thread Cert.CoreBwdIdeal.nD Cert.CoreBwdIdeal.τ).loc Cert.CoreBwdIdeal.main_arg0) = m ((c.tc : Thread Cert.CoreBwdIdeal.nD Cert.CoreBwdIdeal.τ).loc Cert.CoreBwdIdeal.main_arg0)
      ∧ r.2.mem ((c.tc : Thread Cert.CoreBwdIdeal.nD Cert.CoreBwdIdeal.τ).loc Cert.CoreBwdIdeal.main_arg1) = m ((c.tc : Thread Cert.CoreBwdIdeal.nD Cert.CoreBwdIdeal.τ).loc Cert.CoreBwdIdeal.main_arg1)
      ∧ r.2.mem ((c.tc : Thread Cert.CoreBwdIdeal.nD Cert.CoreBwdIdeal.τ).loc Cert.CoreBwdIdeal.main_arg2) = m ((c.tc : Thread Cert.CoreBwdIdeal.nD Cert.CoreBwdIdeal.τ).loc Cert.CoreBwdIdeal.main_arg2)
      ∧ r.2.mem ((c.tc : Thread Cert.CoreBwdIdeal.nD Cert.CoreBwdIdeal.τ).loc Cert.CoreBwdIdeal.main_arg3) = m ((c.tc : Thread Cert.CoreBwdIdeal.nD Cert.CoreBwdIdeal.τ).loc Cert.CoreBwdIdeal.main_arg3)
      ∧ r.2.mem ((c.tc : Thread Cert.CoreBwdIdeal.nD Cert.CoreBwdIdeal.τ).loc Cert.CoreBwdIdeal.main_arg4) = m ((c.tc : Thread Cert.CoreBwdIdeal.nD Cert.CoreBwdIdeal.τ).loc Cert.CoreBwdIdeal.main_arg4)
      ∧ r.2.mem ((c.tc : Thread Cert.CoreBwdIdeal.nD Cert.CoreBwdIdeal.τ).loc Cert.CoreBwdIdeal.main_arg5) = m ((c.tc : Thread Cert.CoreBwdIdeal.nD Cert.CoreBwdIdeal.τ).loc Cert.CoreBwdIdeal.main_arg5)
      ∧ r.2.mem ((c.tc : Thread Cert.CoreBwdIdeal.nD Cert.CoreBwdIdeal.τ).loc Cert.CoreBwdIdeal.main_arg6) = m ((c.tc : Thread Cert.CoreBwdIdeal.nD Cert.CoreBwdIdeal.τ).loc Cert.CoreBwdIdeal.main_arg6)
      ∧ r.2.mem ((c.tc : Thread Cert.CoreBwdIdeal.nD Cert.CoreBwdIdeal.τ).loc Cert.CoreBwdIdeal.main_arg7) = m ((c.tc : Thread Cert.CoreBwdIdeal.nD Cert.CoreBwdIdeal.τ).loc Cert.CoreBwdIdeal.main_arg7)
      ∧ r.2.mem ((c.tc : Thread Cert.CoreBwdIdeal.nD Cert.CoreBwdIdeal.τ).loc Cert.CoreBwdIdeal.main_arg8) = m ((c.tc : Thread Cert.CoreBwdIdeal.nD Cert.CoreBwdIdeal.τ).loc Cert.CoreBwdIdeal.main_arg8))
      ∧ r.2.sem = fun _ => 0)

def quiescent_MmNn [hMmNn : Cert.MmNn.Facts] : Prop :=
  ∀ (m : (ℓ : Loc Cert.MmNn.nD Cert.MmNn.τ Cert.MmNn.sig) → Buf (Elt Bits) ℓ) (g : Dev Cert.MmNn.nD → PrngReg), Pre_MmNn m →
    θ_run (Cert.MmNn.defs (F := Bits)) (onTc (τ := Cert.MmNn.τ) (Cert.MmNn.main (F := Bits))) ⟨m, fun _ => 0, g⟩ (fun r => (∀ c : Dev Cert.MmNn.nD,
      r.2.mem ((c.tc : Thread Cert.MmNn.nD Cert.MmNn.τ).loc Cert.MmNn.main_arg0) = m ((c.tc : Thread Cert.MmNn.nD Cert.MmNn.τ).loc Cert.MmNn.main_arg0)
      ∧ r.2.mem ((c.tc : Thread Cert.MmNn.nD Cert.MmNn.τ).loc Cert.MmNn.main_arg1) = m ((c.tc : Thread Cert.MmNn.nD Cert.MmNn.τ).loc Cert.MmNn.main_arg1)
      ∧ r.2.mem ((c.tc : Thread Cert.MmNn.nD Cert.MmNn.τ).loc Cert.MmNn.main_arg2) = m ((c.tc : Thread Cert.MmNn.nD Cert.MmNn.τ).loc Cert.MmNn.main_arg2))
      ∧ r.2.sem = fun _ => 0)

def quiescent_MmNnIdeal [hMmNnIdeal : Cert.MmNnIdeal.Facts] : Prop :=
  ∀ (m : (ℓ : Loc Cert.MmNnIdeal.nD Cert.MmNnIdeal.τ Cert.MmNnIdeal.sig) → Buf (Elt Ideal) ℓ) (g : Dev Cert.MmNnIdeal.nD → PrngReg), Pre_MmNnIdeal m →
    θ_run (Cert.MmNnIdeal.defs (F := Ideal)) (onTc (τ := Cert.MmNnIdeal.τ) (Cert.MmNnIdeal.main (F := Ideal))) ⟨m, fun _ => 0, g⟩ (fun r => (∀ c : Dev Cert.MmNnIdeal.nD,
      r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
      ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1)
      ∧ r.2.mem ((c.tc : Thread Cert.MmNnIdeal.nD Cert.MmNnIdeal.τ).loc Cert.MmNnIdeal.main_arg2) = m ((c.tc : Thread Cert.MmNnIdeal.nD Cert.MmNnIdeal.τ).loc Cert.MmNnIdeal.main_arg2))
      ∧ r.2.sem = fun _ => 0)

def quiescent_MmNnRefIdeal [hMmNnRefIdeal : Cert.MmNnRefIdeal.Facts] : Prop :=
  ∀ (m : (ℓ : Loc Cert.MmNnRefIdeal.nD Cert.MmNnRefIdeal.τ Cert.MmNnRefIdeal.sig) → Buf (Elt Ideal) ℓ) (g : Dev Cert.MmNnRefIdeal.nD → PrngReg), Pre_MmNnRefIdeal m →
    θ_run (Cert.MmNnRefIdeal.defs (F := Ideal)) (onTc (τ := Cert.MmNnRefIdeal.τ) (Cert.MmNnRefIdeal.main (F := Ideal))) ⟨m, fun _ => 0, g⟩ (fun r => (∀ c : Dev Cert.MmNnRefIdeal.nD,
      r.2.mem ((c.tc : Thread Cert.MmNnRefIdeal.nD Cert.MmNnRefIdeal.τ).loc Cert.MmNnRefIdeal.main_arg0) = m ((c.tc : Thread Cert.MmNnRefIdeal.nD Cert.MmNnRefIdeal.τ).loc Cert.MmNnRefIdeal.main_arg0)
      ∧ r.2.mem ((c.tc : Thread Cert.MmNnRefIdeal.nD Cert.MmNnRefIdeal.τ).loc Cert.MmNnRefIdeal.main_arg1) = m ((c.tc : Thread Cert.MmNnRefIdeal.nD Cert.MmNnRefIdeal.τ).loc Cert.MmNnRefIdeal.main_arg1)
      ∧ r.2.mem ((c.tc : Thread Cert.MmNnRefIdeal.nD Cert.MmNnRefIdeal.τ).loc Cert.MmNnRefIdeal.main_arg2) = m ((c.tc : Thread Cert.MmNnRefIdeal.nD Cert.MmNnRefIdeal.τ).loc Cert.MmNnRefIdeal.main_arg2))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_MmNnPieces [hMmNnPieces : Cert.MmNnPieces.Facts] : Prop :=
  ∀ (m : (ℓ : Loc Cert.MmNnPieces.nD Cert.MmNnPieces.τ Cert.MmNnPieces.sig) → Buf (Elt Bits) ℓ) (g : Dev Cert.MmNnPieces.nD → PrngReg), Pre_MmNnPieces m →
    θ_run (Cert.MmNnPieces.defs (F := Bits)) (onTc (τ := Cert.MmNnPieces.τ) (Cert.MmNnPieces.main (F := Bits))) ⟨m, fun _ => 0, g⟩ (fun r => (∀ c : Dev Cert.MmNnPieces.nD,
      r.2.mem ((c.tc : Thread Cert.MmNnPieces.nD Cert.MmNnPieces.τ).loc Cert.MmNnPieces.main_arg0) = m ((c.tc : Thread Cert.MmNnPieces.nD Cert.MmNnPieces.τ).loc Cert.MmNnPieces.main_arg0)
      ∧ r.2.mem ((c.tc : Thread Cert.MmNnPieces.nD Cert.MmNnPieces.τ).loc Cert.MmNnPieces.main_arg1) = m ((c.tc : Thread Cert.MmNnPieces.nD Cert.MmNnPieces.τ).loc Cert.MmNnPieces.main_arg1))
      ∧ r.2.sem = fun _ => 0)

def quiescent_MmNnPiecesIdeal [hMmNnPiecesIdeal : Cert.MmNnPiecesIdeal.Facts] : Prop :=
  ∀ (m : (ℓ : Loc Cert.MmNnPiecesIdeal.nD Cert.MmNnPiecesIdeal.τ Cert.MmNnPiecesIdeal.sig) → Buf (Elt Ideal) ℓ) (g : Dev Cert.MmNnPiecesIdeal.nD → PrngReg), Pre_MmNnPiecesIdeal m →
    θ_run (Cert.MmNnPiecesIdeal.defs (F := Ideal)) (onTc (τ := Cert.MmNnPiecesIdeal.τ) (Cert.MmNnPiecesIdeal.main (F := Ideal))) ⟨m, fun _ => 0, g⟩ (fun r => (∀ c : Dev Cert.MmNnPiecesIdeal.nD,
      r.2.mem ((c.tc : Thread Cert.MmNnPiecesIdeal.nD Cert.MmNnPiecesIdeal.τ).loc Cert.MmNnPiecesIdeal.main_arg0) = m ((c.tc : Thread Cert.MmNnPiecesIdeal.nD Cert.MmNnPiecesIdeal.τ).loc Cert.MmNnPiecesIdeal.main_arg0)
      ∧ r.2.mem ((c.tc : Thread Cert.MmNnPiecesIdeal.nD Cert.MmNnPiecesIdeal.τ).loc Cert.MmNnPiecesIdeal.main_arg1) = m ((c.tc : Thread Cert.MmNnPiecesIdeal.nD Cert.MmNnPiecesIdeal.τ).loc Cert.MmNnPiecesIdeal.main_arg1))
      ∧ r.2.sem = fun _ => 0)

def quiescent_MmNnPiecesRefIdeal [hMmNnPiecesRefIdeal : Cert.MmNnPiecesRefIdeal.Facts] : Prop :=
  ∀ (m : (ℓ : Loc Cert.MmNnPiecesRefIdeal.nD Cert.MmNnPiecesRefIdeal.τ Cert.MmNnPiecesRefIdeal.sig) → Buf (Elt Ideal) ℓ) (g : Dev Cert.MmNnPiecesRefIdeal.nD → PrngReg), Pre_MmNnPiecesRefIdeal m →
    θ_run (Cert.MmNnPiecesRefIdeal.defs (F := Ideal)) (onTc (τ := Cert.MmNnPiecesRefIdeal.τ) (Cert.MmNnPiecesRefIdeal.main (F := Ideal))) ⟨m, fun _ => 0, g⟩ (fun r => (∀ c : Dev Cert.MmNnPiecesRefIdeal.nD,
      r.2.mem ((c.tc : Thread Cert.MmNnPiecesRefIdeal.nD Cert.MmNnPiecesRefIdeal.τ).loc Cert.MmNnPiecesRefIdeal.main_arg0) = m ((c.tc : Thread Cert.MmNnPiecesRefIdeal.nD Cert.MmNnPiecesRefIdeal.τ).loc Cert.MmNnPiecesRefIdeal.main_arg0)
      ∧ r.2.mem ((c.tc : Thread Cert.MmNnPiecesRefIdeal.nD Cert.MmNnPiecesRefIdeal.τ).loc Cert.MmNnPiecesRefIdeal.main_arg1) = m ((c.tc : Thread Cert.MmNnPiecesRefIdeal.nD Cert.MmNnPiecesRefIdeal.τ).loc Cert.MmNnPiecesRefIdeal.main_arg1))
      ∧ r.2.sem = fun _ => 0)

def quiescent_MmTnPieces [hMmTnPieces : Cert.MmTnPieces.Facts] : Prop :=
  ∀ (m : (ℓ : Loc Cert.MmTnPieces.nD Cert.MmTnPieces.τ Cert.MmTnPieces.sig) → Buf (Elt Bits) ℓ) (g : Dev Cert.MmTnPieces.nD → PrngReg), Pre_MmTnPieces m →
    θ_run (Cert.MmTnPieces.defs (F := Bits)) (onTc (τ := Cert.MmTnPieces.τ) (Cert.MmTnPieces.main (F := Bits))) ⟨m, fun _ => 0, g⟩ (fun r => (∀ c : Dev Cert.MmTnPieces.nD,
      r.2.mem ((c.tc : Thread Cert.MmTnPieces.nD Cert.MmTnPieces.τ).loc Cert.MmTnPieces.main_arg0) = m ((c.tc : Thread Cert.MmTnPieces.nD Cert.MmTnPieces.τ).loc Cert.MmTnPieces.main_arg0)
      ∧ r.2.mem ((c.tc : Thread Cert.MmTnPieces.nD Cert.MmTnPieces.τ).loc Cert.MmTnPieces.main_arg1) = m ((c.tc : Thread Cert.MmTnPieces.nD Cert.MmTnPieces.τ).loc Cert.MmTnPieces.main_arg1)
      ∧ r.2.mem ((c.tc : Thread Cert.MmTnPieces.nD Cert.MmTnPieces.τ).loc Cert.MmTnPieces.main_arg2) = m ((c.tc : Thread Cert.MmTnPieces.nD Cert.MmTnPieces.τ).loc Cert.MmTnPieces.main_arg2))
      ∧ r.2.sem = fun _ => 0)

def quiescent_MmTnPiecesIdeal [hMmTnPiecesIdeal : Cert.MmTnPiecesIdeal.Facts] : Prop :=
  ∀ (m : (ℓ : Loc Cert.MmTnPiecesIdeal.nD Cert.MmTnPiecesIdeal.τ Cert.MmTnPiecesIdeal.sig) → Buf (Elt Ideal) ℓ) (g : Dev Cert.MmTnPiecesIdeal.nD → PrngReg), Pre_MmTnPiecesIdeal m →
    θ_run (Cert.MmTnPiecesIdeal.defs (F := Ideal)) (onTc (τ := Cert.MmTnPiecesIdeal.τ) (Cert.MmTnPiecesIdeal.main (F := Ideal))) ⟨m, fun _ => 0, g⟩ (fun r => (∀ c : Dev Cert.MmTnPiecesIdeal.nD,
      r.2.mem ((c.tc : Thread Cert.MmTnPiecesIdeal.nD Cert.MmTnPiecesIdeal.τ).loc Cert.MmTnPiecesIdeal.main_arg0) = m ((c.tc : Thread Cert.MmTnPiecesIdeal.nD Cert.MmTnPiecesIdeal.τ).loc Cert.MmTnPiecesIdeal.main_arg0)
      ∧ r.2.mem ((c.tc : Thread Cert.MmTnPiecesIdeal.nD Cert.MmTnPiecesIdeal.τ).loc Cert.MmTnPiecesIdeal.main_arg1) = m ((c.tc : Thread Cert.MmTnPiecesIdeal.nD Cert.MmTnPiecesIdeal.τ).loc Cert.MmTnPiecesIdeal.main_arg1)
      ∧ r.2.mem ((c.tc : Thread Cert.MmTnPiecesIdeal.nD Cert.MmTnPiecesIdeal.τ).loc Cert.MmTnPiecesIdeal.main_arg2) = m ((c.tc : Thread Cert.MmTnPiecesIdeal.nD Cert.MmTnPiecesIdeal.τ).loc Cert.MmTnPiecesIdeal.main_arg2))
      ∧ r.2.sem = fun _ => 0)

def quiescent_MmTnPiecesRefIdeal [hMmTnPiecesRefIdeal : Cert.MmTnPiecesRefIdeal.Facts] : Prop :=
  ∀ (m : (ℓ : Loc Cert.MmTnPiecesRefIdeal.nD Cert.MmTnPiecesRefIdeal.τ Cert.MmTnPiecesRefIdeal.sig) → Buf (Elt Ideal) ℓ) (g : Dev Cert.MmTnPiecesRefIdeal.nD → PrngReg), Pre_MmTnPiecesRefIdeal m →
    θ_run (Cert.MmTnPiecesRefIdeal.defs (F := Ideal)) (onTc (τ := Cert.MmTnPiecesRefIdeal.τ) (Cert.MmTnPiecesRefIdeal.main (F := Ideal))) ⟨m, fun _ => 0, g⟩ (fun r => (∀ c : Dev Cert.MmTnPiecesRefIdeal.nD,
      r.2.mem ((c.tc : Thread Cert.MmTnPiecesRefIdeal.nD Cert.MmTnPiecesRefIdeal.τ).loc Cert.MmTnPiecesRefIdeal.main_arg0) = m ((c.tc : Thread Cert.MmTnPiecesRefIdeal.nD Cert.MmTnPiecesRefIdeal.τ).loc Cert.MmTnPiecesRefIdeal.main_arg0)
      ∧ r.2.mem ((c.tc : Thread Cert.MmTnPiecesRefIdeal.nD Cert.MmTnPiecesRefIdeal.τ).loc Cert.MmTnPiecesRefIdeal.main_arg1) = m ((c.tc : Thread Cert.MmTnPiecesRefIdeal.nD Cert.MmTnPiecesRefIdeal.τ).loc Cert.MmTnPiecesRefIdeal.main_arg1)
      ∧ r.2.mem ((c.tc : Thread Cert.MmTnPiecesRefIdeal.nD Cert.MmTnPiecesRefIdeal.τ).loc Cert.MmTnPiecesRefIdeal.main_arg2) = m ((c.tc : Thread Cert.MmTnPiecesRefIdeal.nD Cert.MmTnPiecesRefIdeal.τ).loc Cert.MmTnPiecesRefIdeal.main_arg2))
      ∧ r.2.sem = fun _ => 0)

def quiescent_MmNtPieces [hMmNtPieces : Cert.MmNtPieces.Facts] : Prop :=
  ∀ (m : (ℓ : Loc Cert.MmNtPieces.nD Cert.MmNtPieces.τ Cert.MmNtPieces.sig) → Buf (Elt Bits) ℓ) (g : Dev Cert.MmNtPieces.nD → PrngReg), Pre_MmNtPieces m →
    θ_run (Cert.MmNtPieces.defs (F := Bits)) (onTc (τ := Cert.MmNtPieces.τ) (Cert.MmNtPieces.main (F := Bits))) ⟨m, fun _ => 0, g⟩ (fun r => (∀ c : Dev Cert.MmNtPieces.nD,
      r.2.mem ((c.tc : Thread Cert.MmNtPieces.nD Cert.MmNtPieces.τ).loc Cert.MmNtPieces.main_arg0) = m ((c.tc : Thread Cert.MmNtPieces.nD Cert.MmNtPieces.τ).loc Cert.MmNtPieces.main_arg0)
      ∧ r.2.mem ((c.tc : Thread Cert.MmNtPieces.nD Cert.MmNtPieces.τ).loc Cert.MmNtPieces.main_arg1) = m ((c.tc : Thread Cert.MmNtPieces.nD Cert.MmNtPieces.τ).loc Cert.MmNtPieces.main_arg1)
      ∧ r.2.mem ((c.tc : Thread Cert.MmNtPieces.nD Cert.MmNtPieces.τ).loc Cert.MmNtPieces.main_arg2) = m ((c.tc : Thread Cert.MmNtPieces.nD Cert.MmNtPieces.τ).loc Cert.MmNtPieces.main_arg2))
      ∧ r.2.sem = fun _ => 0)

def quiescent_MmNtPiecesIdeal [hMmNtPiecesIdeal : Cert.MmNtPiecesIdeal.Facts] : Prop :=
  ∀ (m : (ℓ : Loc Cert.MmNtPiecesIdeal.nD Cert.MmNtPiecesIdeal.τ Cert.MmNtPiecesIdeal.sig) → Buf (Elt Ideal) ℓ) (g : Dev Cert.MmNtPiecesIdeal.nD → PrngReg), Pre_MmNtPiecesIdeal m →
    θ_run (Cert.MmNtPiecesIdeal.defs (F := Ideal)) (onTc (τ := Cert.MmNtPiecesIdeal.τ) (Cert.MmNtPiecesIdeal.main (F := Ideal))) ⟨m, fun _ => 0, g⟩ (fun r => (∀ c : Dev Cert.MmNtPiecesIdeal.nD,
      r.2.mem ((c.tc : Thread Cert.MmNtPiecesIdeal.nD Cert.MmNtPiecesIdeal.τ).loc Cert.MmNtPiecesIdeal.main_arg0) = m ((c.tc : Thread Cert.MmNtPiecesIdeal.nD Cert.MmNtPiecesIdeal.τ).loc Cert.MmNtPiecesIdeal.main_arg0)
      ∧ r.2.mem ((c.tc : Thread Cert.MmNtPiecesIdeal.nD Cert.MmNtPiecesIdeal.τ).loc Cert.MmNtPiecesIdeal.main_arg1) = m ((c.tc : Thread Cert.MmNtPiecesIdeal.nD Cert.MmNtPiecesIdeal.τ).loc Cert.MmNtPiecesIdeal.main_arg1)
      ∧ r.2.mem ((c.tc : Thread Cert.MmNtPiecesIdeal.nD Cert.MmNtPiecesIdeal.τ).loc Cert.MmNtPiecesIdeal.main_arg2) = m ((c.tc : Thread Cert.MmNtPiecesIdeal.nD Cert.MmNtPiecesIdeal.τ).loc Cert.MmNtPiecesIdeal.main_arg2))
      ∧ r.2.sem = fun _ => 0)

def quiescent_MmNtPiecesRefIdeal [hMmNtPiecesRefIdeal : Cert.MmNtPiecesRefIdeal.Facts] : Prop :=
  ∀ (m : (ℓ : Loc Cert.MmNtPiecesRefIdeal.nD Cert.MmNtPiecesRefIdeal.τ Cert.MmNtPiecesRefIdeal.sig) → Buf (Elt Ideal) ℓ) (g : Dev Cert.MmNtPiecesRefIdeal.nD → PrngReg), Pre_MmNtPiecesRefIdeal m →
    θ_run (Cert.MmNtPiecesRefIdeal.defs (F := Ideal)) (onTc (τ := Cert.MmNtPiecesRefIdeal.τ) (Cert.MmNtPiecesRefIdeal.main (F := Ideal))) ⟨m, fun _ => 0, g⟩ (fun r => (∀ c : Dev Cert.MmNtPiecesRefIdeal.nD,
      r.2.mem ((c.tc : Thread Cert.MmNtPiecesRefIdeal.nD Cert.MmNtPiecesRefIdeal.τ).loc Cert.MmNtPiecesRefIdeal.main_arg0) = m ((c.tc : Thread Cert.MmNtPiecesRefIdeal.nD Cert.MmNtPiecesRefIdeal.τ).loc Cert.MmNtPiecesRefIdeal.main_arg0)
      ∧ r.2.mem ((c.tc : Thread Cert.MmNtPiecesRefIdeal.nD Cert.MmNtPiecesRefIdeal.τ).loc Cert.MmNtPiecesRefIdeal.main_arg1) = m ((c.tc : Thread Cert.MmNtPiecesRefIdeal.nD Cert.MmNtPiecesRefIdeal.τ).loc Cert.MmNtPiecesRefIdeal.main_arg1)
      ∧ r.2.mem ((c.tc : Thread Cert.MmNtPiecesRefIdeal.nD Cert.MmNtPiecesRefIdeal.τ).loc Cert.MmNtPiecesRefIdeal.main_arg2) = m ((c.tc : Thread Cert.MmNtPiecesRefIdeal.nD Cert.MmNtPiecesRefIdeal.τ).loc Cert.MmNtPiecesRefIdeal.main_arg2))
      ∧ r.2.sem = fun _ => 0)

def quiescent_SumParts [hSumParts : Cert.SumParts.Facts] : Prop :=
  ∀ (m : (ℓ : Loc Cert.SumParts.nD Cert.SumParts.τ Cert.SumParts.sig) → Buf (Elt Bits) ℓ) (g : Dev Cert.SumParts.nD → PrngReg), Pre_SumParts m →
    θ_run (Cert.SumParts.defs (F := Bits)) (onTc (τ := Cert.SumParts.τ) (Cert.SumParts.main (F := Bits))) ⟨m, fun _ => 0, g⟩ (fun r => (∀ c : Dev Cert.SumParts.nD,
      r.2.mem ((c.tc : Thread Cert.SumParts.nD Cert.SumParts.τ).loc Cert.SumParts.main_arg0) = m ((c.tc : Thread Cert.SumParts.nD Cert.SumParts.τ).loc Cert.SumParts.main_arg0))
      ∧ r.2.sem = fun _ => 0)

def quiescent_SumPartsIdeal [hSumPartsIdeal : Cert.SumPartsIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg), Pre_SumPartsIdeal m →
    θ_run (Cert.SumPartsIdeal.defs (F := Ideal)) (onTc (τ := Cert.SumPartsIdeal.τ) (Cert.SumPartsIdeal.main (F := Ideal))) ⟨m, fun _ => 0, g⟩ (fun r => (∀ c : Dev Cert.SumPartsIdeal.nD,
      r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_AdamFlat [hAdamFlat : Cert.AdamFlat.Facts] : Prop :=
  ∀ (m : (ℓ : Loc Cert.AdamFlat.nD Cert.AdamFlat.τ Cert.AdamFlat.sig) → Buf (Elt Bits) ℓ) (g : Dev Cert.AdamFlat.nD → PrngReg), Pre_AdamFlat m →
    θ_run (Cert.AdamFlat.defs (F := Bits)) (onTc (τ := Cert.AdamFlat.τ) (Cert.AdamFlat.main (F := Bits))) ⟨m, fun _ => 0, g⟩ (fun r => (∀ c : Dev Cert.AdamFlat.nD,
      r.2.mem ((c.tc : Thread Cert.AdamFlat.nD Cert.AdamFlat.τ).loc Cert.AdamFlat.main_arg0) = m ((c.tc : Thread Cert.AdamFlat.nD Cert.AdamFlat.τ).loc Cert.AdamFlat.main_arg0)
      ∧ r.2.mem ((c.tc : Thread Cert.AdamFlat.nD Cert.AdamFlat.τ).loc Cert.AdamFlat.main_arg1) = m ((c.tc : Thread Cert.AdamFlat.nD Cert.AdamFlat.τ).loc Cert.AdamFlat.main_arg1)
      ∧ r.2.mem ((c.tc : Thread Cert.AdamFlat.nD Cert.AdamFlat.τ).loc Cert.AdamFlat.main_arg2) = m ((c.tc : Thread Cert.AdamFlat.nD Cert.AdamFlat.τ).loc Cert.AdamFlat.main_arg2)
      ∧ r.2.mem ((c.tc : Thread Cert.AdamFlat.nD Cert.AdamFlat.τ).loc Cert.AdamFlat.main_arg3) = m ((c.tc : Thread Cert.AdamFlat.nD Cert.AdamFlat.τ).loc Cert.AdamFlat.main_arg3))
      ∧ r.2.sem = fun _ => 0)

def quiescent_AdamFlatIdeal [hAdamFlatIdeal : Cert.AdamFlatIdeal.Facts] : Prop :=
  ∀ (m : (ℓ : Loc Cert.AdamFlatIdeal.nD Cert.AdamFlatIdeal.τ Cert.AdamFlatIdeal.sig) → Buf (Elt Ideal) ℓ) (g : Dev Cert.AdamFlatIdeal.nD → PrngReg), Pre_AdamFlatIdeal m →
    θ_run (Cert.AdamFlatIdeal.defs (F := Ideal)) (onTc (τ := Cert.AdamFlatIdeal.τ) (Cert.AdamFlatIdeal.main (F := Ideal))) ⟨m, fun _ => 0, g⟩ (fun r => (∀ c : Dev Cert.AdamFlatIdeal.nD,
      r.2.mem ((c.tc : Thread Cert.AdamFlatIdeal.nD Cert.AdamFlatIdeal.τ).loc Cert.AdamFlatIdeal.main_arg0) = m ((c.tc : Thread Cert.AdamFlatIdeal.nD Cert.AdamFlatIdeal.τ).loc Cert.AdamFlatIdeal.main_arg0)
      ∧ r.2.mem ((c.tc : Thread Cert.AdamFlatIdeal.nD Cert.AdamFlatIdeal.τ).loc Cert.AdamFlatIdeal.main_arg1) = m ((c.tc : Thread Cert.AdamFlatIdeal.nD Cert.AdamFlatIdeal.τ).loc Cert.AdamFlatIdeal.main_arg1)
      ∧ r.2.mem ((c.tc : Thread Cert.AdamFlatIdeal.nD Cert.AdamFlatIdeal.τ).loc Cert.AdamFlatIdeal.main_arg2) = m ((c.tc : Thread Cert.AdamFlatIdeal.nD Cert.AdamFlatIdeal.τ).loc Cert.AdamFlatIdeal.main_arg2)
      ∧ r.2.mem ((c.tc : Thread Cert.AdamFlatIdeal.nD Cert.AdamFlatIdeal.τ).loc Cert.AdamFlatIdeal.main_arg3) = m ((c.tc : Thread Cert.AdamFlatIdeal.nD Cert.AdamFlatIdeal.τ).loc Cert.AdamFlatIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_LossHead_LossHeadIdeal : Prop :=
  True

def algebraic_LossHeadIdeal_LossRefIdeal [hLossHeadIdeal : Cert.LossHeadIdeal.Facts] [hLossRefIdeal : Cert.LossRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossHeadIdeal m →
    (∀ c : Dev Cert.LossHeadIdeal.nD,
      m' ((c.tc : Thread Cert.LossRefIdeal.nD Cert.LossRefIdeal.τ).loc Cert.LossRefIdeal.main_arg0) = m ((c.tc : Thread Cert.LossHeadIdeal.nD Cert.LossHeadIdeal.τ).loc Cert.LossHeadIdeal.main_arg0)
      ∧ m' ((c.tc : Thread Cert.LossRefIdeal.nD Cert.LossRefIdeal.τ).loc Cert.LossRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_SbBwd_SbBwdIdeal : Prop :=
  IdealRules.named_const.Statement Cert.SbBwdIdeal.κ "inv_sqrt_d" .f32 0x3DB504F3#32 (((Real.sqrt 128)⁻¹ : ℝ) : EReal)

def algebraic_SbBwdIdeal_SbRefIdeal_pre_finite_sb [hSbBwdIdeal : Cert.SbBwdIdeal.Facts] [hSbRefIdeal : Cert.SbRefIdeal.Facts] [hPre_finite_sb : Cert.Pre_finite_sb.Facts] : Prop :=
  ∀ (m : (ℓ : Loc Cert.SbBwdIdeal.nD Cert.SbBwdIdeal.τ Cert.SbBwdIdeal.sig) → Buf (Elt Ideal) ℓ) (g : Dev Cert.SbBwdIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbBwdIdeal_finite_sb m →
    (∀ c : Dev Cert.SbBwdIdeal.nD,
      m' ((c.tc : Thread Cert.SbRefIdeal.nD Cert.SbRefIdeal.τ).loc Cert.SbRefIdeal.main_arg0) = m ((c.tc : Thread Cert.SbBwdIdeal.nD Cert.SbBwdIdeal.τ).loc Cert.SbBwdIdeal.main_arg0)
      ∧ m' ((c.tc : Thread Cert.SbRefIdeal.nD Cert.SbRefIdeal.τ).loc Cert.SbRefIdeal.main_arg1) = m ((c.tc : Thread Cert.SbBwdIdeal.nD Cert.SbBwdIdeal.τ).loc Cert.SbBwdIdeal.main_arg1)
      ∧ m' ((c.tc : Thread Cert.SbRefIdeal.nD Cert.SbRefIdeal.τ).loc Cert.SbRefIdeal.main_arg2) = m ((c.tc : Thread Cert.SbBwdIdeal.nD Cert.SbBwdIdeal.τ).loc Cert.SbBwdIdeal.main_arg2)) →
    ∃ (v0 : (c : Dev Cert.SbBwdIdeal.nD) → Buf (Elt Ideal) ((c.tc : Thread Cert.SbBwdIdeal.nD Cert.SbBwdIdeal.τ).loc Cert.SbBwdIdeal.main_v0_0)) (v1 : (c : Dev Cert.SbBwdIdeal.nD) → Buf (Elt Ideal) ((c.tc : Thread Cert.SbBwdIdeal.nD Cert.SbBwdIdeal.τ).loc Cert.SbBwdIdeal.main_v0_1)) (v2 : (c : Dev Cert.SbBwdIdeal.nD) → Buf (Elt Ideal) ((c.tc : Thread Cert.SbBwdIdeal.nD Cert.SbBwdIdeal.τ).loc Cert.SbBwdIdeal.main_v0_2)),
      θ_run (Cert.SbBwdIdeal.defs (F := Ideal)) (onTc (τ := Cert.SbBwdIdeal.τ) (Cert.SbBwdIdeal.main (F := Ideal))) ⟨m, fun _ => 0, g⟩ (fun r => ∀ c : Dev Cert.SbBwdIdeal.nD,
          r.2.mem ((c.tc : Thread Cert.SbBwdIdeal.nD Cert.SbBwdIdeal.τ).loc Cert.SbBwdIdeal.main_v0_0) = v0 c
          ∧ r.2.mem ((c.tc : Thread Cert.SbBwdIdeal.nD Cert.SbBwdIdeal.τ).loc Cert.SbBwdIdeal.main_v0_1) = v1 c
          ∧ r.2.mem ((c.tc : Thread Cert.SbBwdIdeal.nD Cert.SbBwdIdeal.τ).loc Cert.SbBwdIdeal.main_v0_2) = v2 c
          ∧ r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
          ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
          ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v58) = v0 c
          ∧ r.2.mem ((c.tc : Thread Cert.SbRefIdeal.nD Cert.SbRefIdeal.τ).loc Cert.SbRefIdeal.main_v56) = v1 c
          ∧ r.2.mem ((c.tc : Thread Cert.SbRefIdeal.nD Cert.SbRefIdeal.τ).loc Cert.SbRefIdeal.main_v54) = v2 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2))

def preserves_RmsBwd_RmsBwdIdeal : Prop :=
  True

def algebraic_RmsBwdIdeal_RmsRefIdeal_pre_finite_rms [hRmsBwdIdeal : Cert.RmsBwdIdeal.Facts] [hRmsRefIdeal : Cert.RmsRefIdeal.Facts] [hPre_finite_rms : Cert.Pre_finite_rms.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsBwdIdeal_finite_rms m →
    (∀ c : Dev Cert.RmsBwdIdeal.nD,
      m' ((c.tc : Thread Cert.RmsRefIdeal.nD Cert.RmsRefIdeal.τ).loc Cert.RmsRefIdeal.main_arg0) = m ((c.tc : Thread Cert.RmsBwdIdeal.nD Cert.RmsBwdIdeal.τ).loc Cert.RmsBwdIdeal.main_arg0)
      ∧ m' ((c.tc : Thread Cert.RmsRefIdeal.nD Cert.RmsRefIdeal.τ).loc Cert.RmsRefIdeal.main_arg1) = m ((c.tc : Thread Cert.RmsBwdIdeal.nD Cert.RmsBwdIdeal.τ).loc Cert.RmsBwdIdeal.main_arg1)
      ∧ m' ((c.tc : Thread Cert.RmsRefIdeal.nD Cert.RmsRefIdeal.τ).loc Cert.RmsRefIdeal.main_arg2) = m ((c.tc : Thread Cert.RmsBwdIdeal.nD Cert.RmsBwdIdeal.τ).loc Cert.RmsBwdIdeal.main_arg2)
      ∧ m' ((c.tc : Thread Cert.RmsRefIdeal.nD Cert.RmsRefIdeal.τ).loc Cert.RmsRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v36) = v0 c
          ∧ r.2.mem ((c.tc : Thread Cert.RmsRefIdeal.nD Cert.RmsRefIdeal.τ).loc Cert.RmsRefIdeal.main_v37) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_QkBwd_QkBwdIdeal : Prop :=
  True

def algebraic_QkBwdIdeal_QkRefIdeal_pre_finite_qk [hQkBwdIdeal : Cert.QkBwdIdeal.Facts] [hQkRefIdeal : Cert.QkRefIdeal.Facts] [hPre_finite_qk : Cert.Pre_finite_qk.Facts] : Prop :=
  ∀ (m : (ℓ : Loc Cert.QkBwdIdeal.nD Cert.QkBwdIdeal.τ Cert.QkBwdIdeal.sig) → Buf (Elt Ideal) ℓ) (g : Dev Cert.QkBwdIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkBwdIdeal_finite_qk m →
    (∀ c : Dev Cert.QkBwdIdeal.nD,
      m' ((c.tc : Thread Cert.QkRefIdeal.nD Cert.QkRefIdeal.τ).loc Cert.QkRefIdeal.main_arg0) = m ((c.tc : Thread Cert.QkBwdIdeal.nD Cert.QkBwdIdeal.τ).loc Cert.QkBwdIdeal.main_arg0)
      ∧ m' ((c.tc : Thread Cert.QkRefIdeal.nD Cert.QkRefIdeal.τ).loc Cert.QkRefIdeal.main_arg1) = m ((c.tc : Thread Cert.QkBwdIdeal.nD Cert.QkBwdIdeal.τ).loc Cert.QkBwdIdeal.main_arg1)
      ∧ m' ((c.tc : Thread Cert.QkRefIdeal.nD Cert.QkRefIdeal.τ).loc Cert.QkRefIdeal.main_arg2) = m ((c.tc : Thread Cert.QkBwdIdeal.nD Cert.QkBwdIdeal.τ).loc Cert.QkBwdIdeal.main_arg2)
      ∧ m' ((c.tc : Thread Cert.QkRefIdeal.nD Cert.QkRefIdeal.τ).loc Cert.QkRefIdeal.main_arg3) = m ((c.tc : Thread Cert.QkBwdIdeal.nD Cert.QkBwdIdeal.τ).loc Cert.QkBwdIdeal.main_arg3)) →
    ∃ (v0 : (c : Dev Cert.QkBwdIdeal.nD) → Buf (Elt Ideal) ((c.tc : Thread Cert.QkBwdIdeal.nD Cert.QkBwdIdeal.τ).loc Cert.QkBwdIdeal.main_v4_0)) (v1 : (c : Dev Cert.QkBwdIdeal.nD) → Buf (Elt Ideal) ((c.tc : Thread Cert.QkBwdIdeal.nD Cert.QkBwdIdeal.τ).loc Cert.QkBwdIdeal.main_v4_1)),
      θ_run (Cert.QkBwdIdeal.defs (F := Ideal)) (onTc (τ := Cert.QkBwdIdeal.τ) (Cert.QkBwdIdeal.main (F := Ideal))) ⟨m, fun _ => 0, g⟩ (fun r => ∀ c : Dev Cert.QkBwdIdeal.nD,
          r.2.mem ((c.tc : Thread Cert.QkBwdIdeal.nD Cert.QkBwdIdeal.τ).loc Cert.QkBwdIdeal.main_v4_0) = v0 c
          ∧ r.2.mem ((c.tc : Thread Cert.QkBwdIdeal.nD Cert.QkBwdIdeal.τ).loc Cert.QkBwdIdeal.main_v4_1) = v1 c
          ∧ r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
          ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
          ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
          ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v41) = v0 c
          ∧ r.2.mem ((c.tc : Thread Cert.QkRefIdeal.nD Cert.QkRefIdeal.τ).loc Cert.QkRefIdeal.main_v42) = v1 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2)
          ∧ r.2.mem ((c.tc : Thread Cert.QkRefIdeal.nD Cert.QkRefIdeal.τ).loc Cert.QkRefIdeal.main_arg3) = m' ((c.tc : Thread Cert.QkRefIdeal.nD Cert.QkRefIdeal.τ).loc Cert.QkRefIdeal.main_arg3))

def preserves_QkqBwd_QkqBwdIdeal : Prop :=
  True

def algebraic_QkqBwdIdeal_QkqRefIdeal_pre_finite_qkq [hQkqBwdIdeal : Cert.QkqBwdIdeal.Facts] [hQkqRefIdeal : Cert.QkqRefIdeal.Facts] [hPre_finite_qkq : Cert.Pre_finite_qkq.Facts] : Prop :=
  ∀ (m : (ℓ : Loc Cert.QkqBwdIdeal.nD Cert.QkqBwdIdeal.τ Cert.QkqBwdIdeal.sig) → Buf (Elt Ideal) ℓ) (g : Dev Cert.QkqBwdIdeal.nD → PrngReg)
    (m' : (ℓ : Loc Cert.QkqRefIdeal.nD Cert.QkqRefIdeal.τ Cert.QkqRefIdeal.sig) → Buf (Elt Ideal) ℓ) (g' : Dev Cert.QkqRefIdeal.nD → PrngReg), Pre_QkqBwdIdeal_finite_qkq m →
    (∀ c : Dev Cert.QkqBwdIdeal.nD,
      m' ((c.tc : Thread Cert.QkqRefIdeal.nD Cert.QkqRefIdeal.τ).loc Cert.QkqRefIdeal.main_arg0) = m ((c.tc : Thread Cert.QkqBwdIdeal.nD Cert.QkqBwdIdeal.τ).loc Cert.QkqBwdIdeal.main_arg0)
      ∧ m' ((c.tc : Thread Cert.QkqRefIdeal.nD Cert.QkqRefIdeal.τ).loc Cert.QkqRefIdeal.main_arg1) = m ((c.tc : Thread Cert.QkqBwdIdeal.nD Cert.QkqBwdIdeal.τ).loc Cert.QkqBwdIdeal.main_arg1)
      ∧ m' ((c.tc : Thread Cert.QkqRefIdeal.nD Cert.QkqRefIdeal.τ).loc Cert.QkqRefIdeal.main_arg2) = m ((c.tc : Thread Cert.QkqBwdIdeal.nD Cert.QkqBwdIdeal.τ).loc Cert.QkqBwdIdeal.main_arg2)
      ∧ m' ((c.tc : Thread Cert.QkqRefIdeal.nD Cert.QkqRefIdeal.τ).loc Cert.QkqRefIdeal.main_arg3) = m ((c.tc : Thread Cert.QkqBwdIdeal.nD Cert.QkqBwdIdeal.τ).loc Cert.QkqBwdIdeal.main_arg3)) →
    ∃ (v0 : (c : Dev Cert.QkqBwdIdeal.nD) → Buf (Elt Ideal) ((c.tc : Thread Cert.QkqBwdIdeal.nD Cert.QkqBwdIdeal.τ).loc Cert.QkqBwdIdeal.main_v4_0)) (v1 : (c : Dev Cert.QkqBwdIdeal.nD) → Buf (Elt Ideal) ((c.tc : Thread Cert.QkqBwdIdeal.nD Cert.QkqBwdIdeal.τ).loc Cert.QkqBwdIdeal.main_v4_1)),
      θ_run (Cert.QkqBwdIdeal.defs (F := Ideal)) (onTc (τ := Cert.QkqBwdIdeal.τ) (Cert.QkqBwdIdeal.main (F := Ideal))) ⟨m, fun _ => 0, g⟩ (fun r => ∀ c : Dev Cert.QkqBwdIdeal.nD,
          r.2.mem ((c.tc : Thread Cert.QkqBwdIdeal.nD Cert.QkqBwdIdeal.τ).loc Cert.QkqBwdIdeal.main_v4_0) = v0 c
          ∧ r.2.mem ((c.tc : Thread Cert.QkqBwdIdeal.nD Cert.QkqBwdIdeal.τ).loc Cert.QkqBwdIdeal.main_v4_1) = v1 c
          ∧ r.2.mem ((c.tc : Thread Cert.QkqBwdIdeal.nD Cert.QkqBwdIdeal.τ).loc Cert.QkqBwdIdeal.main_arg0) = m ((c.tc : Thread Cert.QkqBwdIdeal.nD Cert.QkqBwdIdeal.τ).loc Cert.QkqBwdIdeal.main_arg0)
          ∧ r.2.mem ((c.tc : Thread Cert.QkqBwdIdeal.nD Cert.QkqBwdIdeal.τ).loc Cert.QkqBwdIdeal.main_arg1) = m ((c.tc : Thread Cert.QkqBwdIdeal.nD Cert.QkqBwdIdeal.τ).loc Cert.QkqBwdIdeal.main_arg1)
          ∧ r.2.mem ((c.tc : Thread Cert.QkqBwdIdeal.nD Cert.QkqBwdIdeal.τ).loc Cert.QkqBwdIdeal.main_arg2) = m ((c.tc : Thread Cert.QkqBwdIdeal.nD Cert.QkqBwdIdeal.τ).loc Cert.QkqBwdIdeal.main_arg2)
          ∧ r.2.mem ((c.tc : Thread Cert.QkqBwdIdeal.nD Cert.QkqBwdIdeal.τ).loc Cert.QkqBwdIdeal.main_arg3) = m ((c.tc : Thread Cert.QkqBwdIdeal.nD Cert.QkqBwdIdeal.τ).loc Cert.QkqBwdIdeal.main_arg3))
      ∧ θ_run (Cert.QkqRefIdeal.defs (F := Ideal)) (onTc (τ := Cert.QkqRefIdeal.τ) (Cert.QkqRefIdeal.main (F := Ideal))) ⟨m', fun _ => 0, g'⟩ (fun r => ∀ c : Dev Cert.QkqRefIdeal.nD,
          r.2.mem ((c.tc : Thread Cert.QkqRefIdeal.nD Cert.QkqRefIdeal.τ).loc Cert.QkqRefIdeal.main_v41) = v0 c
          ∧ r.2.mem ((c.tc : Thread Cert.QkqRefIdeal.nD Cert.QkqRefIdeal.τ).loc Cert.QkqRefIdeal.main_v42) = v1 c
          ∧ r.2.mem ((c.tc : Thread Cert.QkqRefIdeal.nD Cert.QkqRefIdeal.τ).loc Cert.QkqRefIdeal.main_arg0) = m' ((c.tc : Thread Cert.QkqRefIdeal.nD Cert.QkqRefIdeal.τ).loc Cert.QkqRefIdeal.main_arg0)
          ∧ r.2.mem ((c.tc : Thread Cert.QkqRefIdeal.nD Cert.QkqRefIdeal.τ).loc Cert.QkqRefIdeal.main_arg1) = m' ((c.tc : Thread Cert.QkqRefIdeal.nD Cert.QkqRefIdeal.τ).loc Cert.QkqRefIdeal.main_arg1)
          ∧ r.2.mem ((c.tc : Thread Cert.QkqRefIdeal.nD Cert.QkqRefIdeal.τ).loc Cert.QkqRefIdeal.main_arg2) = m' ((c.tc : Thread Cert.QkqRefIdeal.nD Cert.QkqRefIdeal.τ).loc Cert.QkqRefIdeal.main_arg2)
          ∧ r.2.mem ((c.tc : Thread Cert.QkqRefIdeal.nD Cert.QkqRefIdeal.τ).loc Cert.QkqRefIdeal.main_arg3) = m' ((c.tc : Thread Cert.QkqRefIdeal.nD Cert.QkqRefIdeal.τ).loc Cert.QkqRefIdeal.main_arg3))

def preserves_ConvBwd_ConvBwdIdeal : Prop :=
  True

def algebraic_ConvBwdIdeal_ConvRefIdeal_pre_finite_conv [hConvBwdIdeal : Cert.ConvBwdIdeal.Facts] [hConvRefIdeal : Cert.ConvRefIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal_finite_conv m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v1_0)) (v1 : (c : Dev Cert.ConvBwdIdeal.nD) → Buf (Elt Ideal) ((c.tc : Thread Cert.ConvBwdIdeal.nD Cert.ConvBwdIdeal.τ).loc Cert.ConvBwdIdeal.main_v1_1)) (v2 : (c : Dev Cert.ConvBwdIdeal.nD) → Buf (Elt Ideal) ((c.tc : Thread Cert.ConvBwdIdeal.nD Cert.ConvBwdIdeal.τ).loc Cert.ConvBwdIdeal.main_v1_2)) (v3 : (c : Dev Cert.ConvBwdIdeal.nD) → Buf (Elt Ideal) ((c.tc : Thread Cert.ConvBwdIdeal.nD Cert.ConvBwdIdeal.τ).loc Cert.ConvBwdIdeal.main_v1_3)) (v4 : (c : Dev Cert.ConvBwdIdeal.nD) → Buf (Elt Ideal) ((c.tc : Thread Cert.ConvBwdIdeal.nD Cert.ConvBwdIdeal.τ).loc Cert.ConvBwdIdeal.main_v1_4)) (v5 : (c : Dev Cert.ConvBwdIdeal.nD) → Buf (Elt Ideal) ((c.tc : Thread Cert.ConvBwdIdeal.nD Cert.ConvBwdIdeal.τ).loc Cert.ConvBwdIdeal.main_v1_5)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v1_0) = v0 c
          ∧ r.2.mem ((c.tc : Thread Cert.ConvBwdIdeal.nD Cert.ConvBwdIdeal.τ).loc Cert.ConvBwdIdeal.main_v1_1) = v1 c
          ∧ r.2.mem ((c.tc : Thread Cert.ConvBwdIdeal.nD Cert.ConvBwdIdeal.τ).loc Cert.ConvBwdIdeal.main_v1_2) = v2 c
          ∧ r.2.mem ((c.tc : Thread Cert.ConvBwdIdeal.nD Cert.ConvBwdIdeal.τ).loc Cert.ConvBwdIdeal.main_v1_3) = v3 c
          ∧ r.2.mem ((c.tc : Thread Cert.ConvBwdIdeal.nD Cert.ConvBwdIdeal.τ).loc Cert.ConvBwdIdeal.main_v1_4) = v4 c
          ∧ r.2.mem ((c.tc : Thread Cert.ConvBwdIdeal.nD Cert.ConvBwdIdeal.τ).loc Cert.ConvBwdIdeal.main_v1_5) = v5 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v73) = v0 c
          ∧ r.2.mem ((c.tc : Thread Cert.ConvRefIdeal.nD Cert.ConvRefIdeal.τ).loc Cert.ConvRefIdeal.main_v74) = v1 c
          ∧ r.2.mem ((c.tc : Thread Cert.ConvRefIdeal.nD Cert.ConvRefIdeal.τ).loc Cert.ConvRefIdeal.main_v75) = v2 c
          ∧ r.2.mem ((c.tc : Thread Cert.ConvRefIdeal.nD Cert.ConvRefIdeal.τ).loc Cert.ConvRefIdeal.main_v76) = v3 c
          ∧ r.2.mem ((c.tc : Thread Cert.ConvRefIdeal.nD Cert.ConvRefIdeal.τ).loc Cert.ConvRefIdeal.main_v78) = v4 c
          ∧ r.2.mem ((c.tc : Thread Cert.ConvRefIdeal.nD Cert.ConvRefIdeal.τ).loc Cert.ConvRefIdeal.main_v79) = v5 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_PoolBwd_PoolBwdIdeal : Prop :=
  True

def algebraic_PoolBwdIdeal_PoolRefIdeal_pre_finite_pool [hPoolBwdIdeal : Cert.PoolBwdIdeal.Facts] [hPoolRefIdeal : Cert.PoolRefIdeal.Facts] [hPre_finite_pool : Cert.Pre_finite_pool.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolBwdIdeal_finite_pool m →
    (∀ c : Dev Cert.PoolBwdIdeal.nD,
      m' ((c.tc : Thread Cert.PoolRefIdeal.nD Cert.PoolRefIdeal.τ).loc Cert.PoolRefIdeal.main_arg0) = m ((c.tc : Thread Cert.PoolBwdIdeal.nD Cert.PoolBwdIdeal.τ).loc Cert.PoolBwdIdeal.main_arg0)
      ∧ m' ((c.tc : Thread Cert.PoolRefIdeal.nD Cert.PoolRefIdeal.τ).loc Cert.PoolRefIdeal.main_arg1) = m ((c.tc : Thread Cert.PoolBwdIdeal.nD Cert.PoolBwdIdeal.τ).loc Cert.PoolBwdIdeal.main_arg1)
      ∧ m' ((c.tc : Thread Cert.PoolRefIdeal.nD Cert.PoolRefIdeal.τ).loc Cert.PoolRefIdeal.main_arg2) = m ((c.tc : Thread Cert.PoolBwdIdeal.nD Cert.PoolBwdIdeal.τ).loc Cert.PoolBwdIdeal.main_arg2)
      ∧ m' ((c.tc : Thread Cert.PoolRefIdeal.nD Cert.PoolRefIdeal.τ).loc Cert.PoolRefIdeal.main_arg3) = m ((c.tc : Thread Cert.PoolBwdIdeal.nD Cert.PoolBwdIdeal.τ).loc Cert.PoolBwdIdeal.main_arg3)
      ∧ m' ((c.tc : Thread Cert.PoolRefIdeal.nD Cert.PoolRefIdeal.τ).loc Cert.PoolRefIdeal.main_arg4) = m ((c.tc : Thread Cert.PoolBwdIdeal.nD Cert.PoolBwdIdeal.τ).loc Cert.PoolBwdIdeal.main_arg4)) →
    ∃ (v0 : (c : Dev Cert.PoolBwdIdeal.nD) → Buf (Elt Ideal) ((c.tc : Thread Cert.PoolBwdIdeal.nD Cert.PoolBwdIdeal.τ).loc Cert.PoolBwdIdeal.main_v3_0)) (v1 : (c : Dev Cert.PoolBwdIdeal.nD) → Buf (Elt Ideal) ((c.tc : Thread Cert.PoolBwdIdeal.nD Cert.PoolBwdIdeal.τ).loc Cert.PoolBwdIdeal.main_v3_1)) (v2 : (c : Dev Cert.PoolBwdIdeal.nD) → Buf (Elt Ideal) ((c.tc : Thread Cert.PoolBwdIdeal.nD Cert.PoolBwdIdeal.τ).loc Cert.PoolBwdIdeal.main_v3_2)) (v3 : (c : Dev Cert.PoolBwdIdeal.nD) → Buf (Elt Ideal) ((c.tc : Thread Cert.PoolBwdIdeal.nD Cert.PoolBwdIdeal.τ).loc Cert.PoolBwdIdeal.main_v3_3)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v3_0) = v0 c
          ∧ r.2.mem ((c.tc : Thread Cert.PoolBwdIdeal.nD Cert.PoolBwdIdeal.τ).loc Cert.PoolBwdIdeal.main_v3_1) = v1 c
          ∧ r.2.mem ((c.tc : Thread Cert.PoolBwdIdeal.nD Cert.PoolBwdIdeal.τ).loc Cert.PoolBwdIdeal.main_v3_2) = v2 c
          ∧ r.2.mem ((c.tc : Thread Cert.PoolBwdIdeal.nD Cert.PoolBwdIdeal.τ).loc Cert.PoolBwdIdeal.main_v3_3) = v3 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
          ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v83) = v0 c
          ∧ r.2.mem ((c.tc : Thread Cert.PoolRefIdeal.nD Cert.PoolRefIdeal.τ).loc Cert.PoolRefIdeal.main_v84) = v1 c
          ∧ r.2.mem ((c.tc : Thread Cert.PoolRefIdeal.nD Cert.PoolRefIdeal.τ).loc Cert.PoolRefIdeal.main_v85) = v2 c
          ∧ r.2.mem ((c.tc : Thread Cert.PoolRefIdeal.nD Cert.PoolRefIdeal.τ).loc Cert.PoolRefIdeal.main_v86) = v3 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4))

def preserves_GluBwd_GluBwdIdeal : Prop :=
  True

def algebraic_GluBwdIdeal_GluRefIdeal [hGluBwdIdeal : Cert.GluBwdIdeal.Facts] [hGluRefIdeal : Cert.GluRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluBwdIdeal m →
    (∀ c : Dev Cert.GluBwdIdeal.nD,
      m' ((c.tc : Thread Cert.GluRefIdeal.nD Cert.GluRefIdeal.τ).loc Cert.GluRefIdeal.main_arg0) = m ((c.tc : Thread Cert.GluBwdIdeal.nD Cert.GluBwdIdeal.τ).loc Cert.GluBwdIdeal.main_arg0)
      ∧ m' ((c.tc : Thread Cert.GluRefIdeal.nD Cert.GluRefIdeal.τ).loc Cert.GluRefIdeal.main_arg1) = m ((c.tc : Thread Cert.GluBwdIdeal.nD Cert.GluBwdIdeal.τ).loc Cert.GluBwdIdeal.main_arg1)
      ∧ m' ((c.tc : Thread Cert.GluRefIdeal.nD Cert.GluRefIdeal.τ).loc Cert.GluRefIdeal.main_arg2) = m ((c.tc : Thread Cert.GluBwdIdeal.nD Cert.GluBwdIdeal.τ).loc Cert.GluBwdIdeal.main_arg2)
      ∧ m' ((c.tc : Thread Cert.GluRefIdeal.nD Cert.GluRefIdeal.τ).loc Cert.GluRefIdeal.main_arg3) = m ((c.tc : Thread Cert.GluBwdIdeal.nD Cert.GluBwdIdeal.τ).loc Cert.GluBwdIdeal.main_arg3)
      ∧ m' ((c.tc : Thread Cert.GluRefIdeal.nD Cert.GluRefIdeal.τ).loc Cert.GluRefIdeal.main_arg4) = m ((c.tc : Thread Cert.GluBwdIdeal.nD Cert.GluBwdIdeal.τ).loc Cert.GluBwdIdeal.main_arg4)) →
    ∃ (v0 : (c : Dev Cert.GluBwdIdeal.nD) → Buf (Elt Ideal) ((c.tc : Thread Cert.GluBwdIdeal.nD Cert.GluBwdIdeal.τ).loc Cert.GluBwdIdeal.main_v5_0)) (v1 : (c : Dev Cert.GluBwdIdeal.nD) → Buf (Elt Ideal) ((c.tc : Thread Cert.GluBwdIdeal.nD Cert.GluBwdIdeal.τ).loc Cert.GluBwdIdeal.main_v6_0)) (v2 : (c : Dev Cert.GluBwdIdeal.nD) → Buf (Elt Ideal) ((c.tc : Thread Cert.GluBwdIdeal.nD Cert.GluBwdIdeal.τ).loc Cert.GluBwdIdeal.main_v6_1)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v5_0) = v0 c
          ∧ r.2.mem ((c.tc : Thread Cert.GluBwdIdeal.nD Cert.GluBwdIdeal.τ).loc Cert.GluBwdIdeal.main_v6_0) = v1 c
          ∧ r.2.mem ((c.tc : Thread Cert.GluBwdIdeal.nD Cert.GluBwdIdeal.τ).loc Cert.GluBwdIdeal.main_v6_1) = v2 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
          ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v23) = v0 c
          ∧ r.2.mem ((c.tc : Thread Cert.GluRefIdeal.nD Cert.GluRefIdeal.τ).loc Cert.GluRefIdeal.main_v24) = v1 c
          ∧ r.2.mem ((c.tc : Thread Cert.GluRefIdeal.nD Cert.GluRefIdeal.τ).loc Cert.GluRefIdeal.main_v25) = v2 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_PrepBwd_PrepBwdIdeal : Prop :=
  True

def algebraic_PrepBwdIdeal_PrepRefIdeal [hPrepBwdIdeal : Cert.PrepBwdIdeal.Facts] [hPrepRefIdeal : Cert.PrepRefIdeal.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepBwdIdeal m →
    (∀ c : Dev Cert.PrepBwdIdeal.nD,
      m' ((c.tc : Thread Cert.PrepRefIdeal.nD Cert.PrepRefIdeal.τ).loc Cert.PrepRefIdeal.main_arg0) = m ((c.tc : Thread Cert.PrepBwdIdeal.nD Cert.PrepBwdIdeal.τ).loc Cert.PrepBwdIdeal.main_arg0)
      ∧ m' ((c.tc : Thread Cert.PrepRefIdeal.nD Cert.PrepRefIdeal.τ).loc Cert.PrepRefIdeal.main_arg1) = m ((c.tc : Thread Cert.PrepBwdIdeal.nD Cert.PrepBwdIdeal.τ).loc Cert.PrepBwdIdeal.main_arg1)
      ∧ m' ((c.tc : Thread Cert.PrepRefIdeal.nD Cert.PrepRefIdeal.τ).loc Cert.PrepRefIdeal.main_arg2) = m ((c.tc : Thread Cert.PrepBwdIdeal.nD Cert.PrepBwdIdeal.τ).loc Cert.PrepBwdIdeal.main_arg2)
      ∧ m' ((c.tc : Thread Cert.PrepRefIdeal.nD Cert.PrepRefIdeal.τ).loc Cert.PrepRefIdeal.main_arg3) = m ((c.tc : Thread Cert.PrepBwdIdeal.nD Cert.PrepBwdIdeal.τ).loc Cert.PrepBwdIdeal.main_arg3)
      ∧ m' ((c.tc : Thread Cert.PrepRefIdeal.nD Cert.PrepRefIdeal.τ).loc Cert.PrepRefIdeal.main_arg4) = m ((c.tc : Thread Cert.PrepBwdIdeal.nD Cert.PrepBwdIdeal.τ).loc Cert.PrepBwdIdeal.main_arg4)
      ∧ m' ((c.tc : Thread Cert.PrepRefIdeal.nD Cert.PrepRefIdeal.τ).loc Cert.PrepRefIdeal.main_arg5) = m ((c.tc : Thread Cert.PrepBwdIdeal.nD Cert.PrepBwdIdeal.τ).loc Cert.PrepBwdIdeal.main_arg5)
      ∧ m' ((c.tc : Thread Cert.PrepRefIdeal.nD Cert.PrepRefIdeal.τ).loc Cert.PrepRefIdeal.main_arg6) = m ((c.tc : Thread Cert.PrepBwdIdeal.nD Cert.PrepBwdIdeal.τ).loc Cert.PrepBwdIdeal.main_arg6)
      ∧ m' ((c.tc : Thread Cert.PrepRefIdeal.nD Cert.PrepRefIdeal.τ).loc Cert.PrepRefIdeal.main_arg7) = m ((c.tc : Thread Cert.PrepBwdIdeal.nD Cert.PrepBwdIdeal.τ).loc Cert.PrepBwdIdeal.main_arg7)
      ∧ m' ((c.tc : Thread Cert.PrepRefIdeal.nD Cert.PrepRefIdeal.τ).loc Cert.PrepRefIdeal.main_arg8) = m ((c.tc : Thread Cert.PrepBwdIdeal.nD Cert.PrepBwdIdeal.τ).loc Cert.PrepBwdIdeal.main_arg8)) →
    ∃ (v0 : (c : Dev Cert.PrepBwdIdeal.nD) → Buf (Elt Ideal) ((c.tc : Thread Cert.PrepBwdIdeal.nD Cert.PrepBwdIdeal.τ).loc Cert.PrepBwdIdeal.main_v9_0)) (v1 : (c : Dev Cert.PrepBwdIdeal.nD) → Buf (Elt Ideal) ((c.tc : Thread Cert.PrepBwdIdeal.nD Cert.PrepBwdIdeal.τ).loc Cert.PrepBwdIdeal.main_v9_1)) (v2 : (c : Dev Cert.PrepBwdIdeal.nD) → Buf (Elt Ideal) ((c.tc : Thread Cert.PrepBwdIdeal.nD Cert.PrepBwdIdeal.τ).loc Cert.PrepBwdIdeal.main_v9_2)) (v3 : (c : Dev Cert.PrepBwdIdeal.nD) → Buf (Elt Ideal) ((c.tc : Thread Cert.PrepBwdIdeal.nD Cert.PrepBwdIdeal.τ).loc Cert.PrepBwdIdeal.main_v9_3)) (v4 : (c : Dev Cert.PrepBwdIdeal.nD) → Buf (Elt Ideal) ((c.tc : Thread Cert.PrepBwdIdeal.nD Cert.PrepBwdIdeal.τ).loc Cert.PrepBwdIdeal.main_v9_4)),
      θ_run (Cert.PrepBwdIdeal.defs (F := Ideal)) (onTc (τ := Cert.PrepBwdIdeal.τ) (Cert.PrepBwdIdeal.main (F := Ideal))) ⟨m, fun _ => 0, g⟩ (fun r => ∀ c : Dev Cert.PrepBwdIdeal.nD,
          r.2.mem ((c.tc : Thread Cert.PrepBwdIdeal.nD Cert.PrepBwdIdeal.τ).loc Cert.PrepBwdIdeal.main_v9_0) = v0 c
          ∧ r.2.mem ((c.tc : Thread Cert.PrepBwdIdeal.nD Cert.PrepBwdIdeal.τ).loc Cert.PrepBwdIdeal.main_v9_1) = v1 c
          ∧ r.2.mem ((c.tc : Thread Cert.PrepBwdIdeal.nD Cert.PrepBwdIdeal.τ).loc Cert.PrepBwdIdeal.main_v9_2) = v2 c
          ∧ r.2.mem ((c.tc : Thread Cert.PrepBwdIdeal.nD Cert.PrepBwdIdeal.τ).loc Cert.PrepBwdIdeal.main_v9_3) = v3 c
          ∧ r.2.mem ((c.tc : Thread Cert.PrepBwdIdeal.nD Cert.PrepBwdIdeal.τ).loc Cert.PrepBwdIdeal.main_v9_4) = v4 c
          ∧ r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
          ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
          ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
          ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
          ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
          ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
          ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
          ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7)
          ∧ r.2.mem ((c.tc : Thread Cert.PrepBwdIdeal.nD Cert.PrepBwdIdeal.τ).loc Cert.PrepBwdIdeal.main_arg8) = m ((c.tc : Thread Cert.PrepBwdIdeal.nD Cert.PrepBwdIdeal.τ).loc Cert.PrepBwdIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v145) = v0 c
          ∧ r.2.mem ((c.tc : Thread Cert.PrepRefIdeal.nD Cert.PrepRefIdeal.τ).loc Cert.PrepRefIdeal.main_v146) = v1 c
          ∧ r.2.mem ((c.tc : Thread Cert.PrepRefIdeal.nD Cert.PrepRefIdeal.τ).loc Cert.PrepRefIdeal.main_v147) = v2 c
          ∧ r.2.mem ((c.tc : Thread Cert.PrepRefIdeal.nD Cert.PrepRefIdeal.τ).loc Cert.PrepRefIdeal.main_v148) = v3 c
          ∧ r.2.mem ((c.tc : Thread Cert.PrepRefIdeal.nD Cert.PrepRefIdeal.τ).loc Cert.PrepRefIdeal.main_v149) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def preserves_PoolFwd_PoolFwdIdeal : Prop :=
  True

def algebraic_PoolFwdIdeal_PoolFwdRefIdeal_pre_finite_poolf [hPoolFwdIdeal : Cert.PoolFwdIdeal.Facts] [hPoolFwdRefIdeal : Cert.PoolFwdRefIdeal.Facts] [hPre_finite_poolf : Cert.Pre_finite_poolf.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_finite_poolf m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)
      ∧ m' ((c.tc : Thread Cert.PoolFwdRefIdeal.nD Cert.PoolFwdRefIdeal.τ).loc Cert.PoolFwdRefIdeal.main_arg3) = m ((c.tc : Thread Cert.PoolFwdIdeal.nD Cert.PoolFwdIdeal.τ).loc Cert.PoolFwdIdeal.main_arg3)
      ∧ m' ((c.tc : Thread Cert.PoolFwdRefIdeal.nD Cert.PoolFwdRefIdeal.τ).loc Cert.PoolFwdRefIdeal.main_arg4) = m ((c.tc : Thread Cert.PoolFwdIdeal.nD Cert.PoolFwdIdeal.τ).loc Cert.PoolFwdIdeal.main_arg4)) →
    ∃ (v0 : (c : Dev Cert.PoolFwdIdeal.nD) → Buf (Elt Ideal) ((c.tc : Thread Cert.PoolFwdIdeal.nD Cert.PoolFwdIdeal.τ).loc Cert.PoolFwdIdeal.main_v3)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v3) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
          ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3)
          ∧ r.2.mem ((c.tc : Thread Cert.PoolFwdIdeal.nD Cert.PoolFwdIdeal.τ).loc Cert.PoolFwdIdeal.main_arg4) = m ((c.tc : Thread Cert.PoolFwdIdeal.nD Cert.PoolFwdIdeal.τ).loc Cert.PoolFwdIdeal.main_arg4))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v55) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2)
          ∧ r.2.mem ((c.tc : Thread Cert.PoolFwdRefIdeal.nD Cert.PoolFwdRefIdeal.τ).loc Cert.PoolFwdRefIdeal.main_arg3) = m' ((c.tc : Thread Cert.PoolFwdRefIdeal.nD Cert.PoolFwdRefIdeal.τ).loc Cert.PoolFwdRefIdeal.main_arg3)
          ∧ r.2.mem ((c.tc : Thread Cert.PoolFwdRefIdeal.nD Cert.PoolFwdRefIdeal.τ).loc Cert.PoolFwdRefIdeal.main_arg4) = m' ((c.tc : Thread Cert.PoolFwdRefIdeal.nD Cert.PoolFwdRefIdeal.τ).loc Cert.PoolFwdRefIdeal.main_arg4))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1_0)) (v1 : (c : Dev Cert.RmsFwdIdeal.nD) → Buf (Elt Ideal) ((c.tc : Thread Cert.RmsFwdIdeal.nD Cert.RmsFwdIdeal.τ).loc Cert.RmsFwdIdeal.main_v1_1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1_0) = v0 c
          ∧ r.2.mem ((c.tc : Thread Cert.RmsFwdIdeal.nD Cert.RmsFwdIdeal.τ).loc Cert.RmsFwdIdeal.main_v1_1) = v1 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_v12) = v1 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_QkFwd_QkFwdIdeal : Prop :=
  True

def algebraic_QkFwdIdeal_QkFwdRefIdeal [hQkFwdIdeal : Cert.QkFwdIdeal.Facts] [hQkFwdRefIdeal : Cert.QkFwdRefIdeal.Facts] : Prop :=
  ∀ (m : (ℓ : Loc Cert.QkFwdIdeal.nD Cert.QkFwdIdeal.τ Cert.QkFwdIdeal.sig) → Buf (Elt Ideal) ℓ) (g : Dev Cert.QkFwdIdeal.nD → PrngReg)
    (m' : (ℓ : Loc Cert.QkFwdRefIdeal.nD Cert.QkFwdRefIdeal.τ Cert.QkFwdRefIdeal.sig) → Buf (Elt Ideal) ℓ) (g' : Dev Cert.QkFwdRefIdeal.nD → PrngReg), Pre_QkFwdIdeal m →
    (∀ c : Dev Cert.QkFwdIdeal.nD,
      m' ((c.tc : Thread Cert.QkFwdRefIdeal.nD Cert.QkFwdRefIdeal.τ).loc Cert.QkFwdRefIdeal.main_arg0) = m ((c.tc : Thread Cert.QkFwdIdeal.nD Cert.QkFwdIdeal.τ).loc Cert.QkFwdIdeal.main_arg0)
      ∧ m' ((c.tc : Thread Cert.QkFwdRefIdeal.nD Cert.QkFwdRefIdeal.τ).loc Cert.QkFwdRefIdeal.main_arg1) = m ((c.tc : Thread Cert.QkFwdIdeal.nD Cert.QkFwdIdeal.τ).loc Cert.QkFwdIdeal.main_arg1)
      ∧ m' ((c.tc : Thread Cert.QkFwdRefIdeal.nD Cert.QkFwdRefIdeal.τ).loc Cert.QkFwdRefIdeal.main_arg2) = m ((c.tc : Thread Cert.QkFwdIdeal.nD Cert.QkFwdIdeal.τ).loc Cert.QkFwdIdeal.main_arg2)) →
    ∃ (v0 : (c : Dev Cert.QkFwdIdeal.nD) → Buf (Elt Ideal) ((c.tc : Thread Cert.QkFwdIdeal.nD Cert.QkFwdIdeal.τ).loc Cert.QkFwdIdeal.main_v4)),
      θ_run (Cert.QkFwdIdeal.defs (F := Ideal)) (onTc (τ := Cert.QkFwdIdeal.τ) (Cert.QkFwdIdeal.main (F := Ideal))) ⟨m, fun _ => 0, g⟩ (fun r => ∀ c : Dev Cert.QkFwdIdeal.nD,
          r.2.mem ((c.tc : Thread Cert.QkFwdIdeal.nD Cert.QkFwdIdeal.τ).loc Cert.QkFwdIdeal.main_v4) = v0 c
          ∧ r.2.mem ((c.tc : Thread Cert.QkFwdIdeal.nD Cert.QkFwdIdeal.τ).loc Cert.QkFwdIdeal.main_arg0) = m ((c.tc : Thread Cert.QkFwdIdeal.nD Cert.QkFwdIdeal.τ).loc Cert.QkFwdIdeal.main_arg0)
          ∧ r.2.mem ((c.tc : Thread Cert.QkFwdIdeal.nD Cert.QkFwdIdeal.τ).loc Cert.QkFwdIdeal.main_arg1) = m ((c.tc : Thread Cert.QkFwdIdeal.nD Cert.QkFwdIdeal.τ).loc Cert.QkFwdIdeal.main_arg1)
          ∧ r.2.mem ((c.tc : Thread Cert.QkFwdIdeal.nD Cert.QkFwdIdeal.τ).loc Cert.QkFwdIdeal.main_arg2) = m ((c.tc : Thread Cert.QkFwdIdeal.nD Cert.QkFwdIdeal.τ).loc Cert.QkFwdIdeal.main_arg2))
      ∧ θ_run (Cert.QkFwdRefIdeal.defs (F := Ideal)) (onTc (τ := Cert.QkFwdRefIdeal.τ) (Cert.QkFwdRefIdeal.main (F := Ideal))) ⟨m', fun _ => 0, g'⟩ (fun r => ∀ c : Dev Cert.QkFwdRefIdeal.nD,
          r.2.mem ((c.tc : Thread Cert.QkFwdRefIdeal.nD Cert.QkFwdRefIdeal.τ).loc Cert.QkFwdRefIdeal.main_v34) = v0 c
          ∧ r.2.mem ((c.tc : Thread Cert.QkFwdRefIdeal.nD Cert.QkFwdRefIdeal.τ).loc Cert.QkFwdRefIdeal.main_arg0) = m' ((c.tc : Thread Cert.QkFwdRefIdeal.nD Cert.QkFwdRefIdeal.τ).loc Cert.QkFwdRefIdeal.main_arg0)
          ∧ r.2.mem ((c.tc : Thread Cert.QkFwdRefIdeal.nD Cert.QkFwdRefIdeal.τ).loc Cert.QkFwdRefIdeal.main_arg1) = m' ((c.tc : Thread Cert.QkFwdRefIdeal.nD Cert.QkFwdRefIdeal.τ).loc Cert.QkFwdRefIdeal.main_arg1)
          ∧ r.2.mem ((c.tc : Thread Cert.QkFwdRefIdeal.nD Cert.QkFwdRefIdeal.τ).loc Cert.QkFwdRefIdeal.main_arg2) = m' ((c.tc : Thread Cert.QkFwdRefIdeal.nD Cert.QkFwdRefIdeal.τ).loc Cert.QkFwdRefIdeal.main_arg2))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v31) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_PrepFwd_PrepFwdIdeal : Prop :=
  True

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)
      ∧ m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3)
      ∧ m' ((c.tc : Thread Cert.PrepFwdRefIdeal.nD Cert.PrepFwdRefIdeal.τ).loc Cert.PrepFwdRefIdeal.main_arg4) = m ((c.tc : Thread Cert.PrepFwdIdeal.nD Cert.PrepFwdIdeal.τ).loc Cert.PrepFwdIdeal.main_arg4)) →
    ∃ (v0 : (c : Dev Cert.PrepFwdIdeal.nD) → Buf (Elt Ideal) ((c.tc : Thread Cert.PrepFwdIdeal.nD Cert.PrepFwdIdeal.τ).loc Cert.PrepFwdIdeal.main_v5_0)) (v1 : (c : Dev Cert.PrepFwdIdeal.nD) → Buf (Elt Ideal) ((c.tc : Thread Cert.PrepFwdIdeal.nD Cert.PrepFwdIdeal.τ).loc Cert.PrepFwdIdeal.main_v5_1)) (v2 : (c : Dev Cert.PrepFwdIdeal.nD) → Buf (Elt Ideal) ((c.tc : Thread Cert.PrepFwdIdeal.nD Cert.PrepFwdIdeal.τ).loc Cert.PrepFwdIdeal.main_v5_2)) (v3 : (c : Dev Cert.PrepFwdIdeal.nD) → Buf (Elt Ideal) ((c.tc : Thread Cert.PrepFwdIdeal.nD Cert.PrepFwdIdeal.τ).loc Cert.PrepFwdIdeal.main_v5_3)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v5_0) = v0 c
          ∧ r.2.mem ((c.tc : Thread Cert.PrepFwdIdeal.nD Cert.PrepFwdIdeal.τ).loc Cert.PrepFwdIdeal.main_v5_1) = v1 c
          ∧ r.2.mem ((c.tc : Thread Cert.PrepFwdIdeal.nD Cert.PrepFwdIdeal.τ).loc Cert.PrepFwdIdeal.main_v5_2) = v2 c
          ∧ r.2.mem ((c.tc : Thread Cert.PrepFwdIdeal.nD Cert.PrepFwdIdeal.τ).loc Cert.PrepFwdIdeal.main_v5_3) = v3 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v42) = v0 c
          ∧ r.2.mem ((c.tc : Thread Cert.PrepFwdRefIdeal.nD Cert.PrepFwdRefIdeal.τ).loc Cert.PrepFwdRefIdeal.main_v43) = v1 c
          ∧ r.2.mem ((c.tc : Thread Cert.PrepFwdRefIdeal.nD Cert.PrepFwdRefIdeal.τ).loc Cert.PrepFwdRefIdeal.main_v44) = v2 c
          ∧ r.2.mem ((c.tc : Thread Cert.PrepFwdRefIdeal.nD Cert.PrepFwdRefIdeal.τ).loc Cert.PrepFwdRefIdeal.main_v45) = v3 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2)
          ∧ r.2.mem ((c.tc : Thread Cert.PrepFwdRefIdeal.nD Cert.PrepFwdRefIdeal.τ).loc Cert.PrepFwdRefIdeal.main_arg3) = m' ((c.tc : Thread Cert.PrepFwdRefIdeal.nD Cert.PrepFwdRefIdeal.τ).loc Cert.PrepFwdRefIdeal.main_arg3)
          ∧ r.2.mem ((c.tc : Thread Cert.PrepFwdRefIdeal.nD Cert.PrepFwdRefIdeal.τ).loc Cert.PrepFwdRefIdeal.main_arg4) = m' ((c.tc : Thread Cert.PrepFwdRefIdeal.nD Cert.PrepFwdRefIdeal.τ).loc Cert.PrepFwdRefIdeal.main_arg4))

def preserves_SbFwd_SbFwdIdeal : Prop :=
  IdealRules.named_const.Statement Cert.SbFwdIdeal.κ "inv_sqrt_d" .f32 0x3DB504F3#32 (((Real.sqrt 128)⁻¹ : ℝ) : EReal)

def algebraic_SbFwdIdeal_SbFwdRefIdeal_pre_finite_sbf [hSbFwdIdeal : Cert.SbFwdIdeal.Facts] [hSbFwdRefIdeal : Cert.SbFwdRefIdeal.Facts] [hPre_finite_sbf : Cert.Pre_finite_sbf.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdRefIdeal.nD Cert.SbFwdRefIdeal.τ Cert.SbFwdRefIdeal.sig) → Buf (Elt Ideal) ℓ) (g' : Dev Cert.SbFwdRefIdeal.nD → PrngReg), Pre_SbFwdIdeal_finite_sbf m →
    (∀ c : Dev Cert.SbFwdIdeal.nD,
      m' ((c.tc : Thread Cert.SbFwdRefIdeal.nD Cert.SbFwdRefIdeal.τ).loc Cert.SbFwdRefIdeal.main_arg0) = m ((c.tc : Thread Cert.SbFwdIdeal.nD Cert.SbFwdIdeal.τ).loc Cert.SbFwdIdeal.main_arg0)
      ∧ m' ((c.tc : Thread Cert.SbFwdRefIdeal.nD Cert.SbFwdRefIdeal.τ).loc Cert.SbFwdRefIdeal.main_arg1) = m ((c.tc : Thread Cert.SbFwdIdeal.nD Cert.SbFwdIdeal.τ).loc Cert.SbFwdIdeal.main_arg1)) →
    ∃ (v0 : (c : Dev Cert.SbFwdIdeal.nD) → Buf (Elt Ideal) ((c.tc : Thread Cert.SbFwdIdeal.nD Cert.SbFwdIdeal.τ).loc Cert.SbFwdIdeal.main_v0)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v0) = v0 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
          ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1))
      ∧ θ_run (Cert.SbFwdRefIdeal.defs (F := Ideal)) (onTc (τ := Cert.SbFwdRefIdeal.τ) (Cert.SbFwdRefIdeal.main (F := Ideal))) ⟨m', fun _ => 0, g'⟩ (fun r => ∀ c : Dev Cert.SbFwdRefIdeal.nD,
          r.2.mem ((c.tc : Thread Cert.SbFwdRefIdeal.nD Cert.SbFwdRefIdeal.τ).loc Cert.SbFwdRefIdeal.main_v33) = v0 c
          ∧ r.2.mem ((c.tc : Thread Cert.SbFwdRefIdeal.nD Cert.SbFwdRefIdeal.τ).loc Cert.SbFwdRefIdeal.main_arg0) = m' ((c.tc : Thread Cert.SbFwdRefIdeal.nD Cert.SbFwdRefIdeal.τ).loc Cert.SbFwdRefIdeal.main_arg0)
          ∧ r.2.mem ((c.tc : Thread Cert.SbFwdRefIdeal.nD Cert.SbFwdRefIdeal.τ).loc Cert.SbFwdRefIdeal.main_arg1) = m' ((c.tc : Thread Cert.SbFwdRefIdeal.nD Cert.SbFwdRefIdeal.τ).loc Cert.SbFwdRefIdeal.main_arg1))

def preserves_CoreFwd_CoreFwdIdeal : Prop :=
  True

def algebraic_CoreFwdIdeal_CoreFwdRefIdeal_pre_finite_coref [hCoreFwdIdeal : Cert.CoreFwdIdeal.Facts] [hCoreFwdRefIdeal : Cert.CoreFwdRefIdeal.Facts] [hPre_finite_coref : Cert.Pre_finite_coref.Facts] : Prop :=
  ∀ (m : (ℓ : Loc Cert.CoreFwdIdeal.nD Cert.CoreFwdIdeal.τ Cert.CoreFwdIdeal.sig) → Buf (Elt Ideal) ℓ) (g : Dev Cert.CoreFwdIdeal.nD → PrngReg)
    (m' : (ℓ : Loc Cert.CoreFwdRefIdeal.nD Cert.CoreFwdRefIdeal.τ Cert.CoreFwdRefIdeal.sig) → Buf (Elt Ideal) ℓ) (g' : Dev Cert.CoreFwdRefIdeal.nD → PrngReg), Pre_CoreFwdIdeal_finite_coref m →
    (∀ c : Dev Cert.CoreFwdIdeal.nD,
      m' ((c.tc : Thread Cert.CoreFwdRefIdeal.nD Cert.CoreFwdRefIdeal.τ).loc Cert.CoreFwdRefIdeal.main_arg0) = m ((c.tc : Thread Cert.CoreFwdIdeal.nD Cert.CoreFwdIdeal.τ).loc Cert.CoreFwdIdeal.main_arg0)
      ∧ m' ((c.tc : Thread Cert.CoreFwdRefIdeal.nD Cert.CoreFwdRefIdeal.τ).loc Cert.CoreFwdRefIdeal.main_arg1) = m ((c.tc : Thread Cert.CoreFwdIdeal.nD Cert.CoreFwdIdeal.τ).loc Cert.CoreFwdIdeal.main_arg1)
      ∧ m' ((c.tc : Thread Cert.CoreFwdRefIdeal.nD Cert.CoreFwdRefIdeal.τ).loc Cert.CoreFwdRefIdeal.main_arg2) = m ((c.tc : Thread Cert.CoreFwdIdeal.nD Cert.CoreFwdIdeal.τ).loc Cert.CoreFwdIdeal.main_arg2)
      ∧ m' ((c.tc : Thread Cert.CoreFwdRefIdeal.nD Cert.CoreFwdRefIdeal.τ).loc Cert.CoreFwdRefIdeal.main_arg3) = m ((c.tc : Thread Cert.CoreFwdIdeal.nD Cert.CoreFwdIdeal.τ).loc Cert.CoreFwdIdeal.main_arg3)
      ∧ m' ((c.tc : Thread Cert.CoreFwdRefIdeal.nD Cert.CoreFwdRefIdeal.τ).loc Cert.CoreFwdRefIdeal.main_arg4) = m ((c.tc : Thread Cert.CoreFwdIdeal.nD Cert.CoreFwdIdeal.τ).loc Cert.CoreFwdIdeal.main_arg4)
      ∧ m' ((c.tc : Thread Cert.CoreFwdRefIdeal.nD Cert.CoreFwdRefIdeal.τ).loc Cert.CoreFwdRefIdeal.main_arg5) = m ((c.tc : Thread Cert.CoreFwdIdeal.nD Cert.CoreFwdIdeal.τ).loc Cert.CoreFwdIdeal.main_arg5)
      ∧ m' ((c.tc : Thread Cert.CoreFwdRefIdeal.nD Cert.CoreFwdRefIdeal.τ).loc Cert.CoreFwdRefIdeal.main_arg6) = m ((c.tc : Thread Cert.CoreFwdIdeal.nD Cert.CoreFwdIdeal.τ).loc Cert.CoreFwdIdeal.main_arg6)
      ∧ m' ((c.tc : Thread Cert.CoreFwdRefIdeal.nD Cert.CoreFwdRefIdeal.τ).loc Cert.CoreFwdRefIdeal.main_arg7) = m ((c.tc : Thread Cert.CoreFwdIdeal.nD Cert.CoreFwdIdeal.τ).loc Cert.CoreFwdIdeal.main_arg7)) →
    ∃ (v0 : (c : Dev Cert.CoreFwdIdeal.nD) → Buf (Elt Ideal) ((c.tc : Thread Cert.CoreFwdIdeal.nD Cert.CoreFwdIdeal.τ).loc Cert.CoreFwdIdeal.main_v12_0)) (v1 : (c : Dev Cert.CoreFwdIdeal.nD) → Buf (Elt Ideal) ((c.tc : Thread Cert.CoreFwdIdeal.nD Cert.CoreFwdIdeal.τ).loc Cert.CoreFwdIdeal.main_v12_1)),
      θ_run (Cert.CoreFwdIdeal.defs (F := Ideal)) (onTc (τ := Cert.CoreFwdIdeal.τ) (Cert.CoreFwdIdeal.main (F := Ideal))) ⟨m, fun _ => 0, g⟩ (fun r => ∀ c : Dev Cert.CoreFwdIdeal.nD,
          r.2.mem ((c.tc : Thread Cert.CoreFwdIdeal.nD Cert.CoreFwdIdeal.τ).loc Cert.CoreFwdIdeal.main_v12_0) = v0 c
          ∧ r.2.mem ((c.tc : Thread Cert.CoreFwdIdeal.nD Cert.CoreFwdIdeal.τ).loc Cert.CoreFwdIdeal.main_v12_1) = v1 c
          ∧ r.2.mem ((c.tc : Thread Cert.CoreFwdIdeal.nD Cert.CoreFwdIdeal.τ).loc Cert.CoreFwdIdeal.main_arg0) = m ((c.tc : Thread Cert.CoreFwdIdeal.nD Cert.CoreFwdIdeal.τ).loc Cert.CoreFwdIdeal.main_arg0)
          ∧ r.2.mem ((c.tc : Thread Cert.CoreFwdIdeal.nD Cert.CoreFwdIdeal.τ).loc Cert.CoreFwdIdeal.main_arg1) = m ((c.tc : Thread Cert.CoreFwdIdeal.nD Cert.CoreFwdIdeal.τ).loc Cert.CoreFwdIdeal.main_arg1)
          ∧ r.2.mem ((c.tc : Thread Cert.CoreFwdIdeal.nD Cert.CoreFwdIdeal.τ).loc Cert.CoreFwdIdeal.main_arg2) = m ((c.tc : Thread Cert.CoreFwdIdeal.nD Cert.CoreFwdIdeal.τ).loc Cert.CoreFwdIdeal.main_arg2)
          ∧ r.2.mem ((c.tc : Thread Cert.CoreFwdIdeal.nD Cert.CoreFwdIdeal.τ).loc Cert.CoreFwdIdeal.main_arg3) = m ((c.tc : Thread Cert.CoreFwdIdeal.nD Cert.CoreFwdIdeal.τ).loc Cert.CoreFwdIdeal.main_arg3)
          ∧ r.2.mem ((c.tc : Thread Cert.CoreFwdIdeal.nD Cert.CoreFwdIdeal.τ).loc Cert.CoreFwdIdeal.main_arg4) = m ((c.tc : Thread Cert.CoreFwdIdeal.nD Cert.CoreFwdIdeal.τ).loc Cert.CoreFwdIdeal.main_arg4)
          ∧ r.2.mem ((c.tc : Thread Cert.CoreFwdIdeal.nD Cert.CoreFwdIdeal.τ).loc Cert.CoreFwdIdeal.main_arg5) = m ((c.tc : Thread Cert.CoreFwdIdeal.nD Cert.CoreFwdIdeal.τ).loc Cert.CoreFwdIdeal.main_arg5)
          ∧ r.2.mem ((c.tc : Thread Cert.CoreFwdIdeal.nD Cert.CoreFwdIdeal.τ).loc Cert.CoreFwdIdeal.main_arg6) = m ((c.tc : Thread Cert.CoreFwdIdeal.nD Cert.CoreFwdIdeal.τ).loc Cert.CoreFwdIdeal.main_arg6)
          ∧ r.2.mem ((c.tc : Thread Cert.CoreFwdIdeal.nD Cert.CoreFwdIdeal.τ).loc Cert.CoreFwdIdeal.main_arg7) = m ((c.tc : Thread Cert.CoreFwdIdeal.nD Cert.CoreFwdIdeal.τ).loc Cert.CoreFwdIdeal.main_arg7))
      ∧ θ_run (Cert.CoreFwdRefIdeal.defs (F := Ideal)) (onTc (τ := Cert.CoreFwdRefIdeal.τ) (Cert.CoreFwdRefIdeal.main (F := Ideal))) ⟨m', fun _ => 0, g'⟩ (fun r => ∀ c : Dev Cert.CoreFwdRefIdeal.nD,
          r.2.mem ((c.tc : Thread Cert.CoreFwdRefIdeal.nD Cert.CoreFwdRefIdeal.τ).loc Cert.CoreFwdRefIdeal.main_v20) = v0 c
          ∧ r.2.mem ((c.tc : Thread Cert.CoreFwdRefIdeal.nD Cert.CoreFwdRefIdeal.τ).loc Cert.CoreFwdRefIdeal.main_v34) = v1 c
          ∧ r.2.mem ((c.tc : Thread Cert.CoreFwdRefIdeal.nD Cert.CoreFwdRefIdeal.τ).loc Cert.CoreFwdRefIdeal.main_arg0) = m' ((c.tc : Thread Cert.CoreFwdRefIdeal.nD Cert.CoreFwdRefIdeal.τ).loc Cert.CoreFwdRefIdeal.main_arg0)
          ∧ r.2.mem ((c.tc : Thread Cert.CoreFwdRefIdeal.nD Cert.CoreFwdRefIdeal.τ).loc Cert.CoreFwdRefIdeal.main_arg1) = m' ((c.tc : Thread Cert.CoreFwdRefIdeal.nD Cert.CoreFwdRefIdeal.τ).loc Cert.CoreFwdRefIdeal.main_arg1)
          ∧ r.2.mem ((c.tc : Thread Cert.CoreFwdRefIdeal.nD Cert.CoreFwdRefIdeal.τ).loc Cert.CoreFwdRefIdeal.main_arg2) = m' ((c.tc : Thread Cert.CoreFwdRefIdeal.nD Cert.CoreFwdRefIdeal.τ).loc Cert.CoreFwdRefIdeal.main_arg2)
          ∧ r.2.mem ((c.tc : Thread Cert.CoreFwdRefIdeal.nD Cert.CoreFwdRefIdeal.τ).loc Cert.CoreFwdRefIdeal.main_arg3) = m' ((c.tc : Thread Cert.CoreFwdRefIdeal.nD Cert.CoreFwdRefIdeal.τ).loc Cert.CoreFwdRefIdeal.main_arg3)
          ∧ r.2.mem ((c.tc : Thread Cert.CoreFwdRefIdeal.nD Cert.CoreFwdRefIdeal.τ).loc Cert.CoreFwdRefIdeal.main_arg4) = m' ((c.tc : Thread Cert.CoreFwdRefIdeal.nD Cert.CoreFwdRefIdeal.τ).loc Cert.CoreFwdRefIdeal.main_arg4)
          ∧ r.2.mem ((c.tc : Thread Cert.CoreFwdRefIdeal.nD Cert.CoreFwdRefIdeal.τ).loc Cert.CoreFwdRefIdeal.main_arg5) = m' ((c.tc : Thread Cert.CoreFwdRefIdeal.nD Cert.CoreFwdRefIdeal.τ).loc Cert.CoreFwdRefIdeal.main_arg5)
          ∧ r.2.mem ((c.tc : Thread Cert.CoreFwdRefIdeal.nD Cert.CoreFwdRefIdeal.τ).loc Cert.CoreFwdRefIdeal.main_arg6) = m' ((c.tc : Thread Cert.CoreFwdRefIdeal.nD Cert.CoreFwdRefIdeal.τ).loc Cert.CoreFwdRefIdeal.main_arg6)
          ∧ r.2.mem ((c.tc : Thread Cert.CoreFwdRefIdeal.nD Cert.CoreFwdRefIdeal.τ).loc Cert.CoreFwdRefIdeal.main_arg7) = m' ((c.tc : Thread Cert.CoreFwdRefIdeal.nD Cert.CoreFwdRefIdeal.τ).loc Cert.CoreFwdRefIdeal.main_arg7))

def preserves_CoreBwd_CoreBwdIdeal : Prop :=
  True

def preserves_MmNn_MmNnIdeal : Prop :=
  True

def algebraic_MmNnIdeal_MmNnRefIdeal [hMmNnIdeal : Cert.MmNnIdeal.Facts] [hMmNnRefIdeal : Cert.MmNnRefIdeal.Facts] : Prop :=
  ∀ (m : (ℓ : Loc Cert.MmNnIdeal.nD Cert.MmNnIdeal.τ Cert.MmNnIdeal.sig) → Buf (Elt Ideal) ℓ) (g : Dev Cert.MmNnIdeal.nD → PrngReg)
    (m' : (ℓ : Loc Cert.MmNnRefIdeal.nD Cert.MmNnRefIdeal.τ Cert.MmNnRefIdeal.sig) → Buf (Elt Ideal) ℓ) (g' : Dev Cert.MmNnRefIdeal.nD → PrngReg), Pre_MmNnIdeal m →
    (∀ c : Dev Cert.MmNnIdeal.nD,
      m' ((c.tc : Thread Cert.MmNnRefIdeal.nD Cert.MmNnRefIdeal.τ).loc Cert.MmNnRefIdeal.main_arg0) = m ((c.tc : Thread Cert.MmNnIdeal.nD Cert.MmNnIdeal.τ).loc Cert.MmNnIdeal.main_arg0)
      ∧ m' ((c.tc : Thread Cert.MmNnRefIdeal.nD Cert.MmNnRefIdeal.τ).loc Cert.MmNnRefIdeal.main_arg1) = m ((c.tc : Thread Cert.MmNnIdeal.nD Cert.MmNnIdeal.τ).loc Cert.MmNnIdeal.main_arg1)
      ∧ m' ((c.tc : Thread Cert.MmNnRefIdeal.nD Cert.MmNnRefIdeal.τ).loc Cert.MmNnRefIdeal.main_arg2) = m ((c.tc : Thread Cert.MmNnIdeal.nD Cert.MmNnIdeal.τ).loc Cert.MmNnIdeal.main_arg2)) →
    ∃ (v0 : (c : Dev Cert.MmNnIdeal.nD) → Buf (Elt Ideal) ((c.tc : Thread Cert.MmNnIdeal.nD Cert.MmNnIdeal.τ).loc Cert.MmNnIdeal.main_v0)),
      θ_run (Cert.MmNnIdeal.defs (F := Ideal)) (onTc (τ := Cert.MmNnIdeal.τ) (Cert.MmNnIdeal.main (F := Ideal))) ⟨m, fun _ => 0, g⟩ (fun r => ∀ c : Dev Cert.MmNnIdeal.nD,
          r.2.mem ((c.tc : Thread Cert.MmNnIdeal.nD Cert.MmNnIdeal.τ).loc Cert.MmNnIdeal.main_v0) = v0 c
          ∧ r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
          ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1)
          ∧ r.2.mem ((c.tc : Thread Cert.MmNnIdeal.nD Cert.MmNnIdeal.τ).loc Cert.MmNnIdeal.main_arg2) = m ((c.tc : Thread Cert.MmNnIdeal.nD Cert.MmNnIdeal.τ).loc Cert.MmNnIdeal.main_arg2))
      ∧ θ_run (Cert.MmNnRefIdeal.defs (F := Ideal)) (onTc (τ := Cert.MmNnRefIdeal.τ) (Cert.MmNnRefIdeal.main (F := Ideal))) ⟨m', fun _ => 0, g'⟩ (fun r => ∀ c : Dev Cert.MmNnRefIdeal.nD,
          r.2.mem ((c.tc : Thread Cert.MmNnRefIdeal.nD Cert.MmNnRefIdeal.τ).loc Cert.MmNnRefIdeal.main_v1) = v0 c
          ∧ r.2.mem ((c.tc : Thread Cert.MmNnRefIdeal.nD Cert.MmNnRefIdeal.τ).loc Cert.MmNnRefIdeal.main_arg0) = m' ((c.tc : Thread Cert.MmNnRefIdeal.nD Cert.MmNnRefIdeal.τ).loc Cert.MmNnRefIdeal.main_arg0)
          ∧ r.2.mem ((c.tc : Thread Cert.MmNnRefIdeal.nD Cert.MmNnRefIdeal.τ).loc Cert.MmNnRefIdeal.main_arg1) = m' ((c.tc : Thread Cert.MmNnRefIdeal.nD Cert.MmNnRefIdeal.τ).loc Cert.MmNnRefIdeal.main_arg1)
          ∧ r.2.mem ((c.tc : Thread Cert.MmNnRefIdeal.nD Cert.MmNnRefIdeal.τ).loc Cert.MmNnRefIdeal.main_arg2) = m' ((c.tc : Thread Cert.MmNnRefIdeal.nD Cert.MmNnRefIdeal.τ).loc Cert.MmNnRefIdeal.main_arg2))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)) →
    ∃ (v0 : (c : Dev Cert.MmNtIdeal.nD) → Buf (Elt Ideal) ((c.tc : Thread Cert.MmNtIdeal.nD Cert.MmNtIdeal.τ).loc Cert.MmNtIdeal.main_v0)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v0) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v1) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v0)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v0) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v2) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_MmNnPieces_MmNnPiecesIdeal : Prop :=
  True

def algebraic_MmNnPiecesIdeal_MmNnPiecesRefIdeal [hMmNnPiecesIdeal : Cert.MmNnPiecesIdeal.Facts] [hMmNnPiecesRefIdeal : Cert.MmNnPiecesRefIdeal.Facts] : Prop :=
  ∀ (m : (ℓ : Loc Cert.MmNnPiecesIdeal.nD Cert.MmNnPiecesIdeal.τ Cert.MmNnPiecesIdeal.sig) → Buf (Elt Ideal) ℓ) (g : Dev Cert.MmNnPiecesIdeal.nD → PrngReg)
    (m' : (ℓ : Loc Cert.MmNnPiecesRefIdeal.nD Cert.MmNnPiecesRefIdeal.τ Cert.MmNnPiecesRefIdeal.sig) → Buf (Elt Ideal) ℓ) (g' : Dev Cert.MmNnPiecesRefIdeal.nD → PrngReg), Pre_MmNnPiecesIdeal m →
    (∀ c : Dev Cert.MmNnPiecesIdeal.nD,
      m' ((c.tc : Thread Cert.MmNnPiecesRefIdeal.nD Cert.MmNnPiecesRefIdeal.τ).loc Cert.MmNnPiecesRefIdeal.main_arg0) = m ((c.tc : Thread Cert.MmNnPiecesIdeal.nD Cert.MmNnPiecesIdeal.τ).loc Cert.MmNnPiecesIdeal.main_arg0)
      ∧ m' ((c.tc : Thread Cert.MmNnPiecesRefIdeal.nD Cert.MmNnPiecesRefIdeal.τ).loc Cert.MmNnPiecesRefIdeal.main_arg1) = m ((c.tc : Thread Cert.MmNnPiecesIdeal.nD Cert.MmNnPiecesIdeal.τ).loc Cert.MmNnPiecesIdeal.main_arg1)) →
    ∃ (v0 : (c : Dev Cert.MmNnPiecesIdeal.nD) → Buf (Elt Ideal) ((c.tc : Thread Cert.MmNnPiecesIdeal.nD Cert.MmNnPiecesIdeal.τ).loc Cert.MmNnPiecesIdeal.main_v0)),
      θ_run (Cert.MmNnPiecesIdeal.defs (F := Ideal)) (onTc (τ := Cert.MmNnPiecesIdeal.τ) (Cert.MmNnPiecesIdeal.main (F := Ideal))) ⟨m, fun _ => 0, g⟩ (fun r => ∀ c : Dev Cert.MmNnPiecesIdeal.nD,
          r.2.mem ((c.tc : Thread Cert.MmNnPiecesIdeal.nD Cert.MmNnPiecesIdeal.τ).loc Cert.MmNnPiecesIdeal.main_v0) = v0 c
          ∧ r.2.mem ((c.tc : Thread Cert.MmNnPiecesIdeal.nD Cert.MmNnPiecesIdeal.τ).loc Cert.MmNnPiecesIdeal.main_arg0) = m ((c.tc : Thread Cert.MmNnPiecesIdeal.nD Cert.MmNnPiecesIdeal.τ).loc Cert.MmNnPiecesIdeal.main_arg0)
          ∧ r.2.mem ((c.tc : Thread Cert.MmNnPiecesIdeal.nD Cert.MmNnPiecesIdeal.τ).loc Cert.MmNnPiecesIdeal.main_arg1) = m ((c.tc : Thread Cert.MmNnPiecesIdeal.nD Cert.MmNnPiecesIdeal.τ).loc Cert.MmNnPiecesIdeal.main_arg1))
      ∧ θ_run (Cert.MmNnPiecesRefIdeal.defs (F := Ideal)) (onTc (τ := Cert.MmNnPiecesRefIdeal.τ) (Cert.MmNnPiecesRefIdeal.main (F := Ideal))) ⟨m', fun _ => 0, g'⟩ (fun r => ∀ c : Dev Cert.MmNnPiecesRefIdeal.nD,
          r.2.mem ((c.tc : Thread Cert.MmNnPiecesRefIdeal.nD Cert.MmNnPiecesRefIdeal.τ).loc Cert.MmNnPiecesRefIdeal.main_v2) = v0 c
          ∧ r.2.mem ((c.tc : Thread Cert.MmNnPiecesRefIdeal.nD Cert.MmNnPiecesRefIdeal.τ).loc Cert.MmNnPiecesRefIdeal.main_arg0) = m' ((c.tc : Thread Cert.MmNnPiecesRefIdeal.nD Cert.MmNnPiecesRefIdeal.τ).loc Cert.MmNnPiecesRefIdeal.main_arg0)
          ∧ r.2.mem ((c.tc : Thread Cert.MmNnPiecesRefIdeal.nD Cert.MmNnPiecesRefIdeal.τ).loc Cert.MmNnPiecesRefIdeal.main_arg1) = m' ((c.tc : Thread Cert.MmNnPiecesRefIdeal.nD Cert.MmNnPiecesRefIdeal.τ).loc Cert.MmNnPiecesRefIdeal.main_arg1))

def preserves_MmTnPieces_MmTnPiecesIdeal : Prop :=
  True

def algebraic_MmTnPiecesIdeal_MmTnPiecesRefIdeal [hMmTnPiecesIdeal : Cert.MmTnPiecesIdeal.Facts] [hMmTnPiecesRefIdeal : Cert.MmTnPiecesRefIdeal.Facts] : Prop :=
  ∀ (m : (ℓ : Loc Cert.MmTnPiecesIdeal.nD Cert.MmTnPiecesIdeal.τ Cert.MmTnPiecesIdeal.sig) → Buf (Elt Ideal) ℓ) (g : Dev Cert.MmTnPiecesIdeal.nD → PrngReg)
    (m' : (ℓ : Loc Cert.MmTnPiecesRefIdeal.nD Cert.MmTnPiecesRefIdeal.τ Cert.MmTnPiecesRefIdeal.sig) → Buf (Elt Ideal) ℓ) (g' : Dev Cert.MmTnPiecesRefIdeal.nD → PrngReg), Pre_MmTnPiecesIdeal m →
    (∀ c : Dev Cert.MmTnPiecesIdeal.nD,
      m' ((c.tc : Thread Cert.MmTnPiecesRefIdeal.nD Cert.MmTnPiecesRefIdeal.τ).loc Cert.MmTnPiecesRefIdeal.main_arg0) = m ((c.tc : Thread Cert.MmTnPiecesIdeal.nD Cert.MmTnPiecesIdeal.τ).loc Cert.MmTnPiecesIdeal.main_arg0)
      ∧ m' ((c.tc : Thread Cert.MmTnPiecesRefIdeal.nD Cert.MmTnPiecesRefIdeal.τ).loc Cert.MmTnPiecesRefIdeal.main_arg1) = m ((c.tc : Thread Cert.MmTnPiecesIdeal.nD Cert.MmTnPiecesIdeal.τ).loc Cert.MmTnPiecesIdeal.main_arg1)
      ∧ m' ((c.tc : Thread Cert.MmTnPiecesRefIdeal.nD Cert.MmTnPiecesRefIdeal.τ).loc Cert.MmTnPiecesRefIdeal.main_arg2) = m ((c.tc : Thread Cert.MmTnPiecesIdeal.nD Cert.MmTnPiecesIdeal.τ).loc Cert.MmTnPiecesIdeal.main_arg2)) →
    ∃ (v0 : (c : Dev Cert.MmTnPiecesIdeal.nD) → Buf (Elt Ideal) ((c.tc : Thread Cert.MmTnPiecesIdeal.nD Cert.MmTnPiecesIdeal.τ).loc Cert.MmTnPiecesIdeal.main_v0)),
      θ_run (Cert.MmTnPiecesIdeal.defs (F := Ideal)) (onTc (τ := Cert.MmTnPiecesIdeal.τ) (Cert.MmTnPiecesIdeal.main (F := Ideal))) ⟨m, fun _ => 0, g⟩ (fun r => ∀ c : Dev Cert.MmTnPiecesIdeal.nD,
          r.2.mem ((c.tc : Thread Cert.MmTnPiecesIdeal.nD Cert.MmTnPiecesIdeal.τ).loc Cert.MmTnPiecesIdeal.main_v0) = v0 c
          ∧ r.2.mem ((c.tc : Thread Cert.MmTnPiecesIdeal.nD Cert.MmTnPiecesIdeal.τ).loc Cert.MmTnPiecesIdeal.main_arg0) = m ((c.tc : Thread Cert.MmTnPiecesIdeal.nD Cert.MmTnPiecesIdeal.τ).loc Cert.MmTnPiecesIdeal.main_arg0)
          ∧ r.2.mem ((c.tc : Thread Cert.MmTnPiecesIdeal.nD Cert.MmTnPiecesIdeal.τ).loc Cert.MmTnPiecesIdeal.main_arg1) = m ((c.tc : Thread Cert.MmTnPiecesIdeal.nD Cert.MmTnPiecesIdeal.τ).loc Cert.MmTnPiecesIdeal.main_arg1)
          ∧ r.2.mem ((c.tc : Thread Cert.MmTnPiecesIdeal.nD Cert.MmTnPiecesIdeal.τ).loc Cert.MmTnPiecesIdeal.main_arg2) = m ((c.tc : Thread Cert.MmTnPiecesIdeal.nD Cert.MmTnPiecesIdeal.τ).loc Cert.MmTnPiecesIdeal.main_arg2))
      ∧ θ_run (Cert.MmTnPiecesRefIdeal.defs (F := Ideal)) (onTc (τ := Cert.MmTnPiecesRefIdeal.τ) (Cert.MmTnPiecesRefIdeal.main (F := Ideal))) ⟨m', fun _ => 0, g'⟩ (fun r => ∀ c : Dev Cert.MmTnPiecesRefIdeal.nD,
          r.2.mem ((c.tc : Thread Cert.MmTnPiecesRefIdeal.nD Cert.MmTnPiecesRefIdeal.τ).loc Cert.MmTnPiecesRefIdeal.main_v5) = v0 c
          ∧ r.2.mem ((c.tc : Thread Cert.MmTnPiecesRefIdeal.nD Cert.MmTnPiecesRefIdeal.τ).loc Cert.MmTnPiecesRefIdeal.main_arg0) = m' ((c.tc : Thread Cert.MmTnPiecesRefIdeal.nD Cert.MmTnPiecesRefIdeal.τ).loc Cert.MmTnPiecesRefIdeal.main_arg0)
          ∧ r.2.mem ((c.tc : Thread Cert.MmTnPiecesRefIdeal.nD Cert.MmTnPiecesRefIdeal.τ).loc Cert.MmTnPiecesRefIdeal.main_arg1) = m' ((c.tc : Thread Cert.MmTnPiecesRefIdeal.nD Cert.MmTnPiecesRefIdeal.τ).loc Cert.MmTnPiecesRefIdeal.main_arg1)
          ∧ r.2.mem ((c.tc : Thread Cert.MmTnPiecesRefIdeal.nD Cert.MmTnPiecesRefIdeal.τ).loc Cert.MmTnPiecesRefIdeal.main_arg2) = m' ((c.tc : Thread Cert.MmTnPiecesRefIdeal.nD Cert.MmTnPiecesRefIdeal.τ).loc Cert.MmTnPiecesRefIdeal.main_arg2))

def preserves_MmNtPieces_MmNtPiecesIdeal : Prop :=
  True

def algebraic_MmNtPiecesIdeal_MmNtPiecesRefIdeal [hMmNtPiecesIdeal : Cert.MmNtPiecesIdeal.Facts] [hMmNtPiecesRefIdeal : Cert.MmNtPiecesRefIdeal.Facts] : Prop :=
  ∀ (m : (ℓ : Loc Cert.MmNtPiecesIdeal.nD Cert.MmNtPiecesIdeal.τ Cert.MmNtPiecesIdeal.sig) → Buf (Elt Ideal) ℓ) (g : Dev Cert.MmNtPiecesIdeal.nD → PrngReg)
    (m' : (ℓ : Loc Cert.MmNtPiecesRefIdeal.nD Cert.MmNtPiecesRefIdeal.τ Cert.MmNtPiecesRefIdeal.sig) → Buf (Elt Ideal) ℓ) (g' : Dev Cert.MmNtPiecesRefIdeal.nD → PrngReg), Pre_MmNtPiecesIdeal m →
    (∀ c : Dev Cert.MmNtPiecesIdeal.nD,
      m' ((c.tc : Thread Cert.MmNtPiecesRefIdeal.nD Cert.MmNtPiecesRefIdeal.τ).loc Cert.MmNtPiecesRefIdeal.main_arg0) = m ((c.tc : Thread Cert.MmNtPiecesIdeal.nD Cert.MmNtPiecesIdeal.τ).loc Cert.MmNtPiecesIdeal.main_arg0)
      ∧ m' ((c.tc : Thread Cert.MmNtPiecesRefIdeal.nD Cert.MmNtPiecesRefIdeal.τ).loc Cert.MmNtPiecesRefIdeal.main_arg1) = m ((c.tc : Thread Cert.MmNtPiecesIdeal.nD Cert.MmNtPiecesIdeal.τ).loc Cert.MmNtPiecesIdeal.main_arg1)
      ∧ m' ((c.tc : Thread Cert.MmNtPiecesRefIdeal.nD Cert.MmNtPiecesRefIdeal.τ).loc Cert.MmNtPiecesRefIdeal.main_arg2) = m ((c.tc : Thread Cert.MmNtPiecesIdeal.nD Cert.MmNtPiecesIdeal.τ).loc Cert.MmNtPiecesIdeal.main_arg2)) →
    ∃ (v0 : (c : Dev Cert.MmNtPiecesIdeal.nD) → Buf (Elt Ideal) ((c.tc : Thread Cert.MmNtPiecesIdeal.nD Cert.MmNtPiecesIdeal.τ).loc Cert.MmNtPiecesIdeal.main_v0)),
      θ_run (Cert.MmNtPiecesIdeal.defs (F := Ideal)) (onTc (τ := Cert.MmNtPiecesIdeal.τ) (Cert.MmNtPiecesIdeal.main (F := Ideal))) ⟨m, fun _ => 0, g⟩ (fun r => ∀ c : Dev Cert.MmNtPiecesIdeal.nD,
          r.2.mem ((c.tc : Thread Cert.MmNtPiecesIdeal.nD Cert.MmNtPiecesIdeal.τ).loc Cert.MmNtPiecesIdeal.main_v0) = v0 c
          ∧ r.2.mem ((c.tc : Thread Cert.MmNtPiecesIdeal.nD Cert.MmNtPiecesIdeal.τ).loc Cert.MmNtPiecesIdeal.main_arg0) = m ((c.tc : Thread Cert.MmNtPiecesIdeal.nD Cert.MmNtPiecesIdeal.τ).loc Cert.MmNtPiecesIdeal.main_arg0)
          ∧ r.2.mem ((c.tc : Thread Cert.MmNtPiecesIdeal.nD Cert.MmNtPiecesIdeal.τ).loc Cert.MmNtPiecesIdeal.main_arg1) = m ((c.tc : Thread Cert.MmNtPiecesIdeal.nD Cert.MmNtPiecesIdeal.τ).loc Cert.MmNtPiecesIdeal.main_arg1)
          ∧ r.2.mem ((c.tc : Thread Cert.MmNtPiecesIdeal.nD Cert.MmNtPiecesIdeal.τ).loc Cert.MmNtPiecesIdeal.main_arg2) = m ((c.tc : Thread Cert.MmNtPiecesIdeal.nD Cert.MmNtPiecesIdeal.τ).loc Cert.MmNtPiecesIdeal.main_arg2))
      ∧ θ_run (Cert.MmNtPiecesRefIdeal.defs (F := Ideal)) (onTc (τ := Cert.MmNtPiecesRefIdeal.τ) (Cert.MmNtPiecesRefIdeal.main (F := Ideal))) ⟨m', fun _ => 0, g'⟩ (fun r => ∀ c : Dev Cert.MmNtPiecesRefIdeal.nD,
          r.2.mem ((c.tc : Thread Cert.MmNtPiecesRefIdeal.nD Cert.MmNtPiecesRefIdeal.τ).loc Cert.MmNtPiecesRefIdeal.main_v4) = v0 c
          ∧ r.2.mem ((c.tc : Thread Cert.MmNtPiecesRefIdeal.nD Cert.MmNtPiecesRefIdeal.τ).loc Cert.MmNtPiecesRefIdeal.main_arg0) = m' ((c.tc : Thread Cert.MmNtPiecesRefIdeal.nD Cert.MmNtPiecesRefIdeal.τ).loc Cert.MmNtPiecesRefIdeal.main_arg0)
          ∧ r.2.mem ((c.tc : Thread Cert.MmNtPiecesRefIdeal.nD Cert.MmNtPiecesRefIdeal.τ).loc Cert.MmNtPiecesRefIdeal.main_arg1) = m' ((c.tc : Thread Cert.MmNtPiecesRefIdeal.nD Cert.MmNtPiecesRefIdeal.τ).loc Cert.MmNtPiecesRefIdeal.main_arg1)
          ∧ r.2.mem ((c.tc : Thread Cert.MmNtPiecesRefIdeal.nD Cert.MmNtPiecesRefIdeal.τ).loc Cert.MmNtPiecesRefIdeal.main_arg2) = m' ((c.tc : Thread Cert.MmNtPiecesRefIdeal.nD Cert.MmNtPiecesRefIdeal.τ).loc Cert.MmNtPiecesRefIdeal.main_arg2))

def preserves_SumParts_SumPartsIdeal : Prop :=
  True

def algebraic_SumPartsIdeal_SumRefIdeal [hSumPartsIdeal : Cert.SumPartsIdeal.Facts] [hSumRefIdeal : Cert.SumRefIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumPartsIdeal m →
    (∀ c : Dev Cert.SumPartsIdeal.nD,
      m' ((c.tc : Thread Cert.SumRefIdeal.nD Cert.SumRefIdeal.τ).loc Cert.SumRefIdeal.main_arg0) = m ((c.tc : Thread Cert.SumPartsIdeal.nD Cert.SumPartsIdeal.τ).loc Cert.SumPartsIdeal.main_arg0)) →
    ∃ (v0 : (c : Dev Cert.SumPartsIdeal.nD) → Buf (Elt Ideal) ((c.tc : Thread Cert.SumPartsIdeal.nD Cert.SumPartsIdeal.τ).loc Cert.SumPartsIdeal.main_v0)),
      θ_run (Cert.SumPartsIdeal.defs (F := Ideal)) (onTc (τ := Cert.SumPartsIdeal.τ) (Cert.SumPartsIdeal.main (F := Ideal))) ⟨m, fun _ => 0, g⟩ (fun r => ∀ c : Dev Cert.SumPartsIdeal.nD,
          r.2.mem ((c.tc : Thread Cert.SumPartsIdeal.nD Cert.SumPartsIdeal.τ).loc Cert.SumPartsIdeal.main_v0) = v0 c
          ∧ r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_AdamFlat_AdamFlatIdeal : Prop :=
  True

def algebraic_AdamFlatIdeal_AdamRefIdeal [hAdamFlatIdeal : Cert.AdamFlatIdeal.Facts] [hAdamRefIdeal : Cert.AdamRefIdeal.Facts] : Prop :=
  ∀ (m : (ℓ : Loc Cert.AdamFlatIdeal.nD Cert.AdamFlatIdeal.τ Cert.AdamFlatIdeal.sig) → Buf (Elt Ideal) ℓ) (g : Dev Cert.AdamFlatIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamFlatIdeal m →
    (∀ c : Dev Cert.AdamFlatIdeal.nD,
      m' ((c.tc : Thread Cert.AdamRefIdeal.nD Cert.AdamRefIdeal.τ).loc Cert.AdamRefIdeal.main_arg0) = m ((c.tc : Thread Cert.AdamFlatIdeal.nD Cert.AdamFlatIdeal.τ).loc Cert.AdamFlatIdeal.main_arg0)
      ∧ m' ((c.tc : Thread Cert.AdamRefIdeal.nD Cert.AdamRefIdeal.τ).loc Cert.AdamRefIdeal.main_arg1) = m ((c.tc : Thread Cert.AdamFlatIdeal.nD Cert.AdamFlatIdeal.τ).loc Cert.AdamFlatIdeal.main_arg1)
      ∧ m' ((c.tc : Thread Cert.AdamRefIdeal.nD Cert.AdamRefIdeal.τ).loc Cert.AdamRefIdeal.main_arg2) = m ((c.tc : Thread Cert.AdamFlatIdeal.nD Cert.AdamFlatIdeal.τ).loc Cert.AdamFlatIdeal.main_arg2)
      ∧ m' ((c.tc : Thread Cert.AdamRefIdeal.nD Cert.AdamRefIdeal.τ).loc Cert.AdamRefIdeal.main_arg3) = m ((c.tc : Thread Cert.AdamFlatIdeal.nD Cert.AdamFlatIdeal.τ).loc Cert.AdamFlatIdeal.main_arg3)) →
    ∃ (v0 : (c : Dev Cert.AdamFlatIdeal.nD) → Buf (Elt Ideal) ((c.tc : Thread Cert.AdamFlatIdeal.nD Cert.AdamFlatIdeal.τ).loc Cert.AdamFlatIdeal.main_v0_0)) (v1 : (c : Dev Cert.AdamFlatIdeal.nD) → Buf (Elt Ideal) ((c.tc : Thread Cert.AdamFlatIdeal.nD Cert.AdamFlatIdeal.τ).loc Cert.AdamFlatIdeal.main_v0_1)) (v2 : (c : Dev Cert.AdamFlatIdeal.nD) → Buf (Elt Ideal) ((c.tc : Thread Cert.AdamFlatIdeal.nD Cert.AdamFlatIdeal.τ).loc Cert.AdamFlatIdeal.main_v0_2)),
      θ_run (Cert.AdamFlatIdeal.defs (F := Ideal)) (onTc (τ := Cert.AdamFlatIdeal.τ) (Cert.AdamFlatIdeal.main (F := Ideal))) ⟨m, fun _ => 0, g⟩ (fun r => ∀ c : Dev Cert.AdamFlatIdeal.nD,
          r.2.mem ((c.tc : Thread Cert.AdamFlatIdeal.nD Cert.AdamFlatIdeal.τ).loc Cert.AdamFlatIdeal.main_v0_0) = v0 c
          ∧ r.2.mem ((c.tc : Thread Cert.AdamFlatIdeal.nD Cert.AdamFlatIdeal.τ).loc Cert.AdamFlatIdeal.main_v0_1) = v1 c
          ∧ r.2.mem ((c.tc : Thread Cert.AdamFlatIdeal.nD Cert.AdamFlatIdeal.τ).loc Cert.AdamFlatIdeal.main_v0_2) = v2 c
          ∧ r.2.mem ((c.tc : Thread Cert.AdamFlatIdeal.nD Cert.AdamFlatIdeal.τ).loc Cert.AdamFlatIdeal.main_arg0) = m ((c.tc : Thread Cert.AdamFlatIdeal.nD Cert.AdamFlatIdeal.τ).loc Cert.AdamFlatIdeal.main_arg0)
          ∧ r.2.mem ((c.tc : Thread Cert.AdamFlatIdeal.nD Cert.AdamFlatIdeal.τ).loc Cert.AdamFlatIdeal.main_arg1) = m ((c.tc : Thread Cert.AdamFlatIdeal.nD Cert.AdamFlatIdeal.τ).loc Cert.AdamFlatIdeal.main_arg1)
          ∧ r.2.mem ((c.tc : Thread Cert.AdamFlatIdeal.nD Cert.AdamFlatIdeal.τ).loc Cert.AdamFlatIdeal.main_arg2) = m ((c.tc : Thread Cert.AdamFlatIdeal.nD Cert.AdamFlatIdeal.τ).loc Cert.AdamFlatIdeal.main_arg2)
          ∧ r.2.mem ((c.tc : Thread Cert.AdamFlatIdeal.nD Cert.AdamFlatIdeal.τ).loc Cert.AdamFlatIdeal.main_arg3) = m ((c.tc : Thread Cert.AdamFlatIdeal.nD Cert.AdamFlatIdeal.τ).loc Cert.AdamFlatIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hLossHead : Cert.LossHead.Facts) (hLossHeadIdeal : Cert.LossHeadIdeal.Facts) (hLossRefIdeal : Cert.LossRefIdeal.Facts) (hSbBwd : Cert.SbBwd.Facts) (hSbBwdIdeal : Cert.SbBwdIdeal.Facts) (hSbRefIdeal : Cert.SbRefIdeal.Facts) (hRmsBwd : Cert.RmsBwd.Facts) (hRmsBwdIdeal : Cert.RmsBwdIdeal.Facts) (hRmsRefIdeal : Cert.RmsRefIdeal.Facts) (hQkBwd : Cert.QkBwd.Facts) (hQkBwdIdeal : Cert.QkBwdIdeal.Facts) (hQkRefIdeal : Cert.QkRefIdeal.Facts) (hQkqBwd : Cert.QkqBwd.Facts) (hQkqBwdIdeal : Cert.QkqBwdIdeal.Facts) (hQkqRefIdeal : Cert.QkqRefIdeal.Facts) (hConvBwd : Cert.ConvBwd.Facts) (hConvBwdIdeal : Cert.ConvBwdIdeal.Facts) (hConvRefIdeal : Cert.ConvRefIdeal.Facts) (hPoolBwd : Cert.PoolBwd.Facts) (hPoolBwdIdeal : Cert.PoolBwdIdeal.Facts) (hPoolRefIdeal : Cert.PoolRefIdeal.Facts) (hGluBwd : Cert.GluBwd.Facts) (hGluBwdIdeal : Cert.GluBwdIdeal.Facts) (hGluRefIdeal : Cert.GluRefIdeal.Facts) (hPrepBwd : Cert.PrepBwd.Facts) (hPrepBwdIdeal : Cert.PrepBwdIdeal.Facts) (hPrepRefIdeal : Cert.PrepRefIdeal.Facts) (hPoolFwd : Cert.PoolFwd.Facts) (hPoolFwdIdeal : Cert.PoolFwdIdeal.Facts) (hPoolFwdRefIdeal : Cert.PoolFwdRefIdeal.Facts) (hRmsFwd : Cert.RmsFwd.Facts) (hRmsFwdIdeal : Cert.RmsFwdIdeal.Facts) (hRmsFwdRefIdeal : Cert.RmsFwdRefIdeal.Facts) (hQkFwd : Cert.QkFwd.Facts) (hQkFwdIdeal : Cert.QkFwdIdeal.Facts) (hQkFwdRefIdeal : Cert.QkFwdRefIdeal.Facts) (hConvFwd : Cert.ConvFwd.Facts) (hConvFwdIdeal : Cert.ConvFwdIdeal.Facts) (hConvFwdRefIdeal : Cert.ConvFwdRefIdeal.Facts) (hPrepFwd : Cert.PrepFwd.Facts) (hPrepFwdIdeal : Cert.PrepFwdIdeal.Facts) (hPrepFwdRefIdeal : Cert.PrepFwdRefIdeal.Facts) (hSbFwd : Cert.SbFwd.Facts) (hSbFwdIdeal : Cert.SbFwdIdeal.Facts) (hSbFwdRefIdeal : Cert.SbFwdRefIdeal.Facts) (hCoreFwd : Cert.CoreFwd.Facts) (hCoreFwdIdeal : Cert.CoreFwdIdeal.Facts) (hCoreFwdRefIdeal : Cert.CoreFwdRefIdeal.Facts) (hCoreBwd : Cert.CoreBwd.Facts) (hCoreBwdIdeal : Cert.CoreBwdIdeal.Facts) (hMmNn : Cert.MmNn.Facts) (hMmNnIdeal : Cert.MmNnIdeal.Facts) (hMmNnRefIdeal : Cert.MmNnRefIdeal.Facts) (hMmNt : Cert.MmNt.Facts) (hMmNtIdeal : Cert.MmNtIdeal.Facts) (hMmNtRefIdeal : Cert.MmNtRefIdeal.Facts) (hMmTn : Cert.MmTn.Facts) (hMmTnIdeal : Cert.MmTnIdeal.Facts) (hMmTnRefIdeal : Cert.MmTnRefIdeal.Facts) (hMmNnPieces : Cert.MmNnPieces.Facts) (hMmNnPiecesIdeal : Cert.MmNnPiecesIdeal.Facts) (hMmNnPiecesRefIdeal : Cert.MmNnPiecesRefIdeal.Facts) (hMmTnPieces : Cert.MmTnPieces.Facts) (hMmTnPiecesIdeal : Cert.MmTnPiecesIdeal.Facts) (hMmTnPiecesRefIdeal : Cert.MmTnPiecesRefIdeal.Facts) (hMmNtPieces : Cert.MmNtPieces.Facts) (hMmNtPiecesIdeal : Cert.MmNtPiecesIdeal.Facts) (hMmNtPiecesRefIdeal : Cert.MmNtPiecesRefIdeal.Facts) (hSumParts : Cert.SumParts.Facts) (hSumPartsIdeal : Cert.SumPartsIdeal.Facts) (hSumRefIdeal : Cert.SumRefIdeal.Facts) (hAdamFlat : Cert.AdamFlat.Facts) (hAdamFlatIdeal : Cert.AdamFlatIdeal.Facts) (hAdamRefIdeal : Cert.AdamRefIdeal.Facts) (hPre_finite_sb : Cert.Pre_finite_sb.Facts) (hPre_finite_rms : Cert.Pre_finite_rms.Facts) (hPre_finite_qk : Cert.Pre_finite_qk.Facts) (hPre_finite_qkq : Cert.Pre_finite_qkq.Facts) (hPre_finite_conv : Cert.Pre_finite_conv.Facts) (hPre_finite_pool : Cert.Pre_finite_pool.Facts) (hPre_finite_poolf : Cert.Pre_finite_poolf.Facts) (hPre_finite_sbf : Cert.Pre_finite_sbf.Facts) (hPre_finite_coref : Cert.Pre_finite_coref.Facts),
    quiescent_LossHead (hLossHead := hLossHead)
    ∧ quiescent_LossHeadIdeal (hLossHeadIdeal := hLossHeadIdeal)
    ∧ quiescent_LossRefIdeal (hLossRefIdeal := hLossRefIdeal)
    ∧ quiescent_SbBwd (hSbBwd := hSbBwd)
    ∧ quiescent_SbBwdIdeal (hSbBwdIdeal := hSbBwdIdeal)
    ∧ quiescent_SbBwdIdeal_pre_finite_sb (hSbBwdIdeal := hSbBwdIdeal) (hPre_finite_sb := hPre_finite_sb)
    ∧ quiescent_SbRefIdeal (hSbRefIdeal := hSbRefIdeal)
    ∧ quiescent_SbRefIdeal_pre_finite_sb (hSbRefIdeal := hSbRefIdeal) (hPre_finite_sb := hPre_finite_sb)
    ∧ quiescent_RmsBwd (hRmsBwd := hRmsBwd)
    ∧ quiescent_RmsBwdIdeal (hRmsBwdIdeal := hRmsBwdIdeal)
    ∧ quiescent_RmsBwdIdeal_pre_finite_rms (hRmsBwdIdeal := hRmsBwdIdeal) (hPre_finite_rms := hPre_finite_rms)
    ∧ quiescent_RmsRefIdeal (hRmsRefIdeal := hRmsRefIdeal)
    ∧ quiescent_RmsRefIdeal_pre_finite_rms (hRmsRefIdeal := hRmsRefIdeal) (hPre_finite_rms := hPre_finite_rms)
    ∧ quiescent_QkBwd (hQkBwd := hQkBwd)
    ∧ quiescent_QkBwdIdeal (hQkBwdIdeal := hQkBwdIdeal)
    ∧ quiescent_QkBwdIdeal_pre_finite_qk (hQkBwdIdeal := hQkBwdIdeal) (hPre_finite_qk := hPre_finite_qk)
    ∧ quiescent_QkRefIdeal (hQkRefIdeal := hQkRefIdeal)
    ∧ quiescent_QkRefIdeal_pre_finite_qk (hQkRefIdeal := hQkRefIdeal) (hPre_finite_qk := hPre_finite_qk)
    ∧ quiescent_QkqBwd (hQkqBwd := hQkqBwd)
    ∧ quiescent_QkqBwdIdeal (hQkqBwdIdeal := hQkqBwdIdeal)
    ∧ quiescent_QkqBwdIdeal_pre_finite_qkq (hQkqBwdIdeal := hQkqBwdIdeal) (hPre_finite_qkq := hPre_finite_qkq)
    ∧ quiescent_QkqRefIdeal (hQkqRefIdeal := hQkqRefIdeal)
    ∧ quiescent_QkqRefIdeal_pre_finite_qkq (hQkqRefIdeal := hQkqRefIdeal) (hPre_finite_qkq := hPre_finite_qkq)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvRefIdeal (hConvRefIdeal := hConvRefIdeal)
    ∧ quiescent_ConvRefIdeal_pre_finite_conv (hConvRefIdeal := hConvRefIdeal) (hPre_finite_conv := hPre_finite_conv)
    ∧ quiescent_PoolBwd (hPoolBwd := hPoolBwd)
    ∧ quiescent_PoolBwdIdeal (hPoolBwdIdeal := hPoolBwdIdeal)
    ∧ quiescent_PoolBwdIdeal_pre_finite_pool (hPoolBwdIdeal := hPoolBwdIdeal) (hPre_finite_pool := hPre_finite_pool)
    ∧ quiescent_PoolRefIdeal (hPoolRefIdeal := hPoolRefIdeal)
    ∧ quiescent_PoolRefIdeal_pre_finite_pool (hPoolRefIdeal := hPoolRefIdeal) (hPre_finite_pool := hPre_finite_pool)
    ∧ quiescent_GluBwd (hGluBwd := hGluBwd)
    ∧ quiescent_GluBwdIdeal (hGluBwdIdeal := hGluBwdIdeal)
    ∧ quiescent_GluRefIdeal (hGluRefIdeal := hGluRefIdeal)
    ∧ quiescent_PrepBwd (hPrepBwd := hPrepBwd)
    ∧ quiescent_PrepBwdIdeal (hPrepBwdIdeal := hPrepBwdIdeal)
    ∧ quiescent_PrepRefIdeal (hPrepRefIdeal := hPrepRefIdeal)
    ∧ quiescent_PoolFwd (hPoolFwd := hPoolFwd)
    ∧ quiescent_PoolFwdIdeal (hPoolFwdIdeal := hPoolFwdIdeal)
    ∧ quiescent_PoolFwdIdeal_pre_finite_poolf (hPoolFwdIdeal := hPoolFwdIdeal) (hPre_finite_poolf := hPre_finite_poolf)
    ∧ quiescent_PoolFwdRefIdeal (hPoolFwdRefIdeal := hPoolFwdRefIdeal)
    ∧ quiescent_PoolFwdRefIdeal_pre_finite_poolf (hPoolFwdRefIdeal := hPoolFwdRefIdeal) (hPre_finite_poolf := hPre_finite_poolf)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_QkFwd (hQkFwd := hQkFwd)
    ∧ quiescent_QkFwdIdeal (hQkFwdIdeal := hQkFwdIdeal)
    ∧ quiescent_QkFwdRefIdeal (hQkFwdRefIdeal := hQkFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_SbFwd (hSbFwd := hSbFwd)
    ∧ quiescent_SbFwdIdeal (hSbFwdIdeal := hSbFwdIdeal)
    ∧ quiescent_SbFwdIdeal_pre_finite_sbf (hSbFwdIdeal := hSbFwdIdeal) (hPre_finite_sbf := hPre_finite_sbf)
    ∧ quiescent_SbFwdRefIdeal (hSbFwdRefIdeal := hSbFwdRefIdeal)
    ∧ quiescent_SbFwdRefIdeal_pre_finite_sbf (hSbFwdRefIdeal := hSbFwdRefIdeal) (hPre_finite_sbf := hPre_finite_sbf)
    ∧ quiescent_CoreFwd (hCoreFwd := hCoreFwd)
    ∧ quiescent_CoreFwdIdeal (hCoreFwdIdeal := hCoreFwdIdeal)
    ∧ quiescent_CoreFwdIdeal_pre_finite_coref (hCoreFwdIdeal := hCoreFwdIdeal) (hPre_finite_coref := hPre_finite_coref)
    ∧ quiescent_CoreFwdRefIdeal (hCoreFwdRefIdeal := hCoreFwdRefIdeal)
    ∧ quiescent_CoreFwdRefIdeal_pre_finite_coref (hCoreFwdRefIdeal := hCoreFwdRefIdeal) (hPre_finite_coref := hPre_finite_coref)
    ∧ quiescent_CoreBwd (hCoreBwd := hCoreBwd)
    ∧ quiescent_CoreBwdIdeal (hCoreBwdIdeal := hCoreBwdIdeal)
    ∧ quiescent_MmNn (hMmNn := hMmNn)
    ∧ quiescent_MmNnIdeal (hMmNnIdeal := hMmNnIdeal)
    ∧ quiescent_MmNnRefIdeal (hMmNnRefIdeal := hMmNnRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_MmNnPieces (hMmNnPieces := hMmNnPieces)
    ∧ quiescent_MmNnPiecesIdeal (hMmNnPiecesIdeal := hMmNnPiecesIdeal)
    ∧ quiescent_MmNnPiecesRefIdeal (hMmNnPiecesRefIdeal := hMmNnPiecesRefIdeal)
    ∧ quiescent_MmTnPieces (hMmTnPieces := hMmTnPieces)
    ∧ quiescent_MmTnPiecesIdeal (hMmTnPiecesIdeal := hMmTnPiecesIdeal)
    ∧ quiescent_MmTnPiecesRefIdeal (hMmTnPiecesRefIdeal := hMmTnPiecesRefIdeal)
    ∧ quiescent_MmNtPieces (hMmNtPieces := hMmNtPieces)
    ∧ quiescent_MmNtPiecesIdeal (hMmNtPiecesIdeal := hMmNtPiecesIdeal)
    ∧ quiescent_MmNtPiecesRefIdeal (hMmNtPiecesRefIdeal := hMmNtPiecesRefIdeal)
    ∧ quiescent_SumParts (hSumParts := hSumParts)
    ∧ quiescent_SumPartsIdeal (hSumPartsIdeal := hSumPartsIdeal)
    ∧ quiescent_SumRefIdeal (hSumRefIdeal := hSumRefIdeal)
    ∧ quiescent_AdamFlat (hAdamFlat := hAdamFlat)
    ∧ quiescent_AdamFlatIdeal (hAdamFlatIdeal := hAdamFlatIdeal)
    ∧ quiescent_AdamRefIdeal (hAdamRefIdeal := hAdamRefIdeal)
    ∧ preserves_LossHead_LossHeadIdeal
    ∧ algebraic_LossHeadIdeal_LossRefIdeal (hLossHeadIdeal := hLossHeadIdeal) (hLossRefIdeal := hLossRefIdeal)
    ∧ preserves_SbBwd_SbBwdIdeal
    ∧ algebraic_SbBwdIdeal_SbRefIdeal_pre_finite_sb (hSbBwdIdeal := hSbBwdIdeal) (hSbRefIdeal := hSbRefIdeal) (hPre_finite_sb := hPre_finite_sb)
    ∧ preserves_RmsBwd_RmsBwdIdeal
    ∧ algebraic_RmsBwdIdeal_RmsRefIdeal_pre_finite_rms (hRmsBwdIdeal := hRmsBwdIdeal) (hRmsRefIdeal := hRmsRefIdeal) (hPre_finite_rms := hPre_finite_rms)
    ∧ preserves_QkBwd_QkBwdIdeal
    ∧ algebraic_QkBwdIdeal_QkRefIdeal_pre_finite_qk (hQkBwdIdeal := hQkBwdIdeal) (hQkRefIdeal := hQkRefIdeal) (hPre_finite_qk := hPre_finite_qk)
    ∧ preserves_QkqBwd_QkqBwdIdeal
    ∧ algebraic_QkqBwdIdeal_QkqRefIdeal_pre_finite_qkq (hQkqBwdIdeal := hQkqBwdIdeal) (hQkqRefIdeal := hQkqRefIdeal) (hPre_finite_qkq := hPre_finite_qkq)
    ∧ preserves_ConvBwd_ConvBwdIdeal
    ∧ algebraic_ConvBwdIdeal_ConvRefIdeal_pre_finite_conv (hConvBwdIdeal := hConvBwdIdeal) (hConvRefIdeal := hConvRefIdeal) (hPre_finite_conv := hPre_finite_conv)
    ∧ preserves_PoolBwd_PoolBwdIdeal
    ∧ algebraic_PoolBwdIdeal_PoolRefIdeal_pre_finite_pool (hPoolBwdIdeal := hPoolBwdIdeal) (hPoolRefIdeal := hPoolRefIdeal) (hPre_finite_pool := hPre_finite_pool)
    ∧ preserves_GluBwd_GluBwdIdeal
    ∧ algebraic_GluBwdIdeal_GluRefIdeal (hGluBwdIdeal := hGluBwdIdeal) (hGluRefIdeal := hGluRefIdeal)
    ∧ preserves_PrepBwd_PrepBwdIdeal
    ∧ algebraic_PrepBwdIdeal_PrepRefIdeal (hPrepBwdIdeal := hPrepBwdIdeal) (hPrepRefIdeal := hPrepRefIdeal)
    ∧ preserves_PoolFwd_PoolFwdIdeal
    ∧ algebraic_PoolFwdIdeal_PoolFwdRefIdeal_pre_finite_poolf (hPoolFwdIdeal := hPoolFwdIdeal) (hPoolFwdRefIdeal := hPoolFwdRefIdeal) (hPre_finite_poolf := hPre_finite_poolf)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_QkFwd_QkFwdIdeal
    ∧ algebraic_QkFwdIdeal_QkFwdRefIdeal (hQkFwdIdeal := hQkFwdIdeal) (hQkFwdRefIdeal := hQkFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_SbFwd_SbFwdIdeal
    ∧ algebraic_SbFwdIdeal_SbFwdRefIdeal_pre_finite_sbf (hSbFwdIdeal := hSbFwdIdeal) (hSbFwdRefIdeal := hSbFwdRefIdeal) (hPre_finite_sbf := hPre_finite_sbf)
    ∧ preserves_CoreFwd_CoreFwdIdeal
    ∧ algebraic_CoreFwdIdeal_CoreFwdRefIdeal_pre_finite_coref (hCoreFwdIdeal := hCoreFwdIdeal) (hCoreFwdRefIdeal := hCoreFwdRefIdeal) (hPre_finite_coref := hPre_finite_coref)
    ∧ preserves_CoreBwd_CoreBwdIdeal
    ∧ preserves_MmNn_MmNnIdeal
    ∧ algebraic_MmNnIdeal_MmNnRefIdeal (hMmNnIdeal := hMmNnIdeal) (hMmNnRefIdeal := hMmNnRefIdeal)
    ∧ preserves_MmNt_MmNtIdeal
    ∧ algebraic_MmNtIdeal_MmNtRefIdeal (hMmNtIdeal := hMmNtIdeal) (hMmNtRefIdeal := hMmNtRefIdeal)
    ∧ preserves_MmTn_MmTnIdeal
    ∧ algebraic_MmTnIdeal_MmTnRefIdeal (hMmTnIdeal := hMmTnIdeal) (hMmTnRefIdeal := hMmTnRefIdeal)
    ∧ preserves_MmNnPieces_MmNnPiecesIdeal
    ∧ algebraic_MmNnPiecesIdeal_MmNnPiecesRefIdeal (hMmNnPiecesIdeal := hMmNnPiecesIdeal) (hMmNnPiecesRefIdeal := hMmNnPiecesRefIdeal)
    ∧ preserves_MmTnPieces_MmTnPiecesIdeal
    ∧ algebraic_MmTnPiecesIdeal_MmTnPiecesRefIdeal (hMmTnPiecesIdeal := hMmTnPiecesIdeal) (hMmTnPiecesRefIdeal := hMmTnPiecesRefIdeal)
    ∧ preserves_MmNtPieces_MmNtPiecesIdeal
    ∧ algebraic_MmNtPiecesIdeal_MmNtPiecesRefIdeal (hMmNtPiecesIdeal := hMmNtPiecesIdeal) (hMmNtPiecesRefIdeal := hMmNtPiecesRefIdeal)
    ∧ preserves_SumParts_SumPartsIdeal
    ∧ algebraic_SumPartsIdeal_SumRefIdeal (hSumPartsIdeal := hSumPartsIdeal) (hSumRefIdeal := hSumRefIdeal)
    ∧ preserves_AdamFlat_AdamFlatIdeal
    ∧ algebraic_AdamFlatIdeal_AdamRefIdeal (hAdamFlatIdeal := hAdamFlatIdeal) (hAdamRefIdeal := hAdamRefIdeal)
-- ==== Pre_finite_conv.lean ====
abbrev S2048x11264 : Shape := ⟨2, ![2048, 11264]⟩
abbrev S2048x5632 : Shape := ⟨2, ![2048, 5632]⟩
abbrev S3x11264 : Shape := ⟨2, ![3, 11264]⟩
abbrev S11264 : Shape := ⟨1, ![11264]⟩
abbrev S_ : Shape := ⟨0, ![]⟩

class Facts : Prop where
  bcast_S_S2048x11264 : S_.BroadcastsInDim S2048x11264 (![] : Fin 0 → Fin S2048x11264.rank)
  reducesTo_S2048x11264_S_d0_1 : S2048x11264.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S3x11264 : S_.BroadcastsInDim S3x11264 (![] : Fin 0 → Fin S3x11264.rank)
  reducesTo_S3x11264_S_d0_1 : S3x11264.ReducesTo [0, 1] S_
  bcast_S_S11264 : S_.BroadcastsInDim S11264 (![] : Fin 0 → Fin S11264.rank)
  reducesTo_S11264_S_d0 : S11264.ReducesTo [0] S_

variable [Facts]

def fn_part1 {F : FTy → Type} [FloatOps F] (main_v13 : IVec S_ 1) (main_v16 : IVec S11264 1) : IVec S_ 1 :=
  let main_c_5 : IVec S_ 1 := constantI S_ 1 1#1
  let main_v17 : IVec S_ 1 := (fun x v => Host.reduce IntOp.andi x v reducesTo_S11264_S_d0 h_S_) main_v16 main_c_5
  let main_v18 : IVec S_ 1 := andi main_v13 main_v17
  main_v18

def fn {F : FTy → Type} [FloatOps F] (main_arg0 : FVec F S2048x11264 .f32) (main_arg1 : FVec F S2048x5632 .f32) (main_arg2 : FVec F S3x11264 .f32) (main_arg3 : FVec F S11264 .f32) : IVec S_ 1 :=
  let main_v0 : FVec F S2048x11264 .f32 := Host.absf main_arg0
  let main_cst : FVec F S_ .f32 := constant S_ .f32 0x7F800000#32
  let main_v1 : FVec F S2048x11264 .f32 := broadcastInDim S2048x11264 ![] bcast_S_S2048x11264 main_cst
  let main_v2 : IVec S2048x11264 1 := cmpf .olt main_v0 main_v1
  let main_c : IVec S_ 1 := constantI S_ 1 1#1
  let main_v3 : IVec S_ 1 := (fun x v => Host.reduce IntOp.andi x v reducesTo_S2048x11264_S_d0_1 h_S_) main_v2 main_c
  let main_v4 : FVec F S2048x5632 .f32 := Host.absf main_arg1
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S3x11264 .f32 := Host.absf main_arg2
  let main_cst_2 : FVec F S_ .f32 := constant S_ .f32 0x7F800000#32
  let main_v10 : FVec F S3x11264 .f32 := broadcastInDim S3x11264 ![] bcast_S_S3x11264 main_cst_2
  let main_v11 : IVec S3x11264 1 := cmpf .olt main_v9 main_v10
  let main_c_3 : IVec S_ 1 := constantI S_ 1 1#1
  let main_v12 : IVec S_ 1 := (fun x v => Host.reduce IntOp.andi x v reducesTo_S3x11264_S_d0_1 h_S_) main_v11 main_c_3
  let main_v13 : IVec S_ 1 := andi main_v8 main_v12
  let main_v14 : FVec F S11264 .f32 := Host.absf main_arg3
  let main_cst_4 : FVec F S_ .f32 := constant S_ .f32 0x7F800000#32
  let main_v15 : FVec F S11264 .f32 := broadcastInDim S11264 ![] bcast_S_S11264 main_cst_4
  let main_v16 : IVec S11264 1 := cmpf .olt main_v14 main_v15
  fn_part1 (F := F) main_v13 main_v16
-- ==== Pre_finite_coref.lean ====
abbrev S2048x2048 : Shape := ⟨2, ![2048, 2048]⟩
abbrev S128x64 : Shape := ⟨2, ![128, 64]⟩
abbrev S128x64x16 : Shape := ⟨3, ![128, 64, 16]⟩
abbrev S128x16x64 : Shape := ⟨3, ![128, 16, 64]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128x64x16 : S_.BroadcastsInDim S128x64x16 (![] : Fin 0 → Fin S128x64x16.rank)
  reducesTo_S128x64x16_S_d0_1_2 : S128x64x16.ReducesTo [0, 1, 2] S_
  bcast_S_S128x16x64 : S_.BroadcastsInDim S128x16x64 (![] : Fin 0 → Fin S128x16x64.rank)
  reducesTo_S128x16x64_S_d0_1_2 : S128x16x64.ReducesTo [0, 1, 2] S_

variable [Facts]

def fn_part1 {F : FTy → Type} [FloatOps F] (main_arg4 : FVec F S128x64x16 .f32) (main_arg6 : FVec F S128x16x64 .f32) (main_v13 : IVec S_ 1) (main_v16 : IVec S128x64x16 1) : IVec S_ 1 :=
  let main_c_5 : IVec S_ 1 := constantI S_ 1 1#1
  let main_v17 : IVec S_ 1 := (fun x v => Host.reduce IntOp.andi x v reducesTo_S128x64x16_S_d0_1_2 h_S_) main_v16 main_c_5
  let main_v18 : IVec S_ 1 := andi main_v13 main_v17
  let main_v19 : FVec F S128x64x16 .f32 := Host.absf main_arg4
  let main_cst_6 : FVec F S_ .f32 := constant S_ .f32 0x7F800000#32
  let main_v20 : FVec F S128x64x16 .f32 := broadcastInDim S128x64x16 ![] bcast_S_S128x64x16 main_cst_6
  let main_v21 : IVec S128x64x16 1 := cmpf .olt main_v19 main_v20
  let main_c_7 : IVec S_ 1 := constantI S_ 1 1#1
  let main_v22 : IVec S_ 1 := (fun x v => Host.reduce IntOp.andi x v reducesTo_S128x64x16_S_d0_1_2 h_S_) main_v21 main_c_7
  let main_v23 : IVec S_ 1 := andi main_v18 main_v22
  let main_v24 : FVec F S128x16x64 .f32 := Host.absf main_arg6
  let main_cst_8 : FVec F S_ .f32 := constant S_ .f32 0x7F800000#32
  let main_v25 : FVec F S128x16x64 .f32 := broadcastInDim S128x16x64 ![] bcast_S_S128x16x64 main_cst_8
  let main_v26 : IVec S128x16x64 1 := cmpf .olt main_v24 main_v25
  let main_c_9 : IVec S_ 1 := constantI S_ 1 1#1
  let main_v27 : IVec S_ 1 := (fun x v => Host.reduce IntOp.andi x v reducesTo_S128x16x64_S_d0_1_2 h_S_) main_v26 main_c_9
  let main_v28 : IVec S_ 1 := andi main_v23 main_v27
  main_v28

def fn {F : FTy → Type} [FloatOps F] (main_arg0 : FVec F S2048x2048 .f32) (main_arg1 : FVec F S128x64 .f32) (main_arg2 : FVec F S128x64 .f32) (main_arg3 : FVec F S128x64x16 .f32) (main_arg4 : FVec F S128x64x16 .f32) (main_arg5 : FVec F S128x16x64 .f32) (main_arg6 : FVec F S128x16x64 .f32) (main_arg7 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64x16 .f32 := Host.absf main_arg3
  let main_cst_4 : FVec F S_ .f32 := constant S_ .f32 0x7F800000#32
  let main_v15 : FVec F S128x64x16 .f32 := broadcastInDim S128x64x16 ![] bcast_S_S128x64x16 main_cst_4
  let main_v16 : IVec S128x64x16 1 := cmpf .olt main_v14 main_v15
  fn_part1 (F := F) main_arg4 main_arg6 main_v13 main_v16
-- ==== Pre_finite_pool.lean ====
abbrev S2048x2048 : Shape := ⟨2, ![2048, 2048]⟩
abbrev S4x512x512 : Shape := ⟨3, ![4, 512, 512]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S2048x2048 .f32) (main_arg1 : FVec F S2048x2048 .f32) (main_arg2 : FVec F S4x512x512 .f32) (main_arg3 : FVec F S2048 .f32) (main_arg4 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S4x512x512 .f32 := Host.absf main_arg2
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_c_3 : IVec S_ 1 := constantI S_ 1 1#1
  let main_v12 : IVec S_ 1 := (fun x v => Host.reduce IntOp.andi x v reducesTo_S4x512x512_S_d0_1_2 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Pre_finite_poolf.lean ====
abbrev S2048x2048 : Shape := ⟨2, ![2048, 2048]⟩
abbrev S4x512x512 : Shape := ⟨3, ![4, 512, 512]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) (main_arg2 : FVec F S4x512x512 .f32) (main_arg3 : FVec F S2048 .f32) (main_arg4 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  main_v3
-- ==== Pre_finite_qk.lean ====
abbrev S2048x6144 : Shape := ⟨2, ![2048, 6144]⟩
abbrev S128 : Shape := ⟨1, ![128]⟩
abbrev S2048x2048 : Shape := ⟨2, ![2048, 2048]⟩
abbrev S_ : Shape := ⟨0, ![]⟩

class Facts : Prop where
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S128 : S_.BroadcastsInDim S128 (![] : Fin 0 → Fin S128.rank)
  reducesTo_S128_S_d0 : S128.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x6144 .f32) (main_arg1 : FVec F S128 .f32) (main_arg2 : FVec F S128 .f32) (main_arg3 : FVec F S2048x2048 .f32) : IVec S_ 1 :=
  let main_v0 : FVec F S2048x6144 .f32 := Host.absf main_arg0
  let main_cst : FVec F S_ .f32 := constant S_ .f32 0x7F800000#32
  let main_v1 : FVec F S2048x6144 .f32 := broadcastInDim S2048x6144 ![] bcast_S_S2048x6144 main_cst
  let main_v2 : IVec S2048x6144 1 := cmpf .olt main_v0 main_v1
  let main_c : IVec S_ 1 := constantI S_ 1 1#1
  let main_v3 : IVec S_ 1 := (fun x v => Host.reduce IntOp.andi x v reducesTo_S2048x6144_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Pre_finite_qkq.lean ====
abbrev S2048x6144 : Shape := ⟨2, ![2048, 6144]⟩
abbrev S128 : Shape := ⟨1, ![128]⟩
abbrev S2048x2048 : Shape := ⟨2, ![2048, 2048]⟩
abbrev S_ : Shape := ⟨0, ![]⟩

class Facts : Prop where
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S128 : S_.BroadcastsInDim S128 (![] : Fin 0 → Fin S128.rank)
  reducesTo_S128_S_d0 : S128.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x6144 .f32) (main_arg1 : FVec F S128 .f32) (main_arg2 : FVec F S128 .f32) (main_arg3 : FVec F S2048x2048 .f32) : IVec S_ 1 :=
  let main_v0 : FVec F S2048x6144 .f32 := Host.absf main_arg0
  let main_cst : FVec F S_ .f32 := constant S_ .f32 0x7F800000#32
  let main_v1 : FVec F S2048x6144 .f32 := broadcastInDim S2048x6144 ![] bcast_S_S2048x6144 main_cst
  let main_v2 : IVec S2048x6144 1 := cmpf .olt main_v0 main_v1
  let main_c : IVec S_ 1 := constantI S_ 1 1#1
  let main_v3 : IVec S_ 1 := (fun x v => Host.reduce IntOp.andi x v reducesTo_S2048x6144_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Pre_finite_rms.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x2048 .f32) (main_arg1 : FVec F S2048 .f32) (main_arg2 : FVec F S2048x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Pre_finite_sb.lean ====
abbrev S2048x4096 : Shape := ⟨2, ![2048, 4096]⟩
abbrev S2048x2048 : Shape := ⟨2, ![2048, 2048]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x4096 .bf16) (main_arg1 : FVec F S2048x2048 .bf16) (main_arg2 : FVec F S2048x2048 .bf16) : IVec S_ 1 :=
  let main_v0 : FVec F S2048x4096 .bf16 := Host.absf main_arg0
  let main_cst : FVec F S_ .bf16 := constant S_ .bf16 0x7F80#16
  let main_v1 : FVec F S2048x4096 .bf16 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x2048 .bf16 := Host.absf main_arg1
  let main_cst_0 : FVec F S_ .bf16 := constant S_ .bf16 0x7F80#16
  let main_v5 : FVec F S2048x2048 .bf16 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .bf16 := Host.absf main_arg2
  let main_cst_2 : FVec F S_ .bf16 := constant S_ .bf16 0x7F80#16
  let main_v10 : FVec F S2048x2048 .bf16 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Pre_finite_sbf.lean ====
abbrev S2048x4096 : Shape := ⟨2, ![2048, 4096]⟩
abbrev S2048x2048 : Shape := ⟨2, ![2048, 2048]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn {F : FTy → Type} [FloatOps F] (main_arg0 : FVec F S2048x4096 .bf16) (main_arg1 : FVec F S2048x2048 .bf16) : IVec S_ 1 :=
  let main_v0 : FVec F S2048x4096 .bf16 := Host.absf main_arg0
  let main_cst : FVec F S_ .bf16 := constant S_ .bf16 0x7F80#16
  let main_v1 : FVec F S2048x4096 .bf16 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  main_v3
-- ==== LossHead.lean ====
abbrev S2048x2048 : Shape := ⟨2, ![2048, 2048]⟩
abbrev S8x128 : Shape := ⟨2, ![8, 128]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32_9 : BitVec 32 := 0#32
  let v18 : BitVec 1 := Scalar.cmpi .sgt arg0 c0_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== SbBwd.lean ====
abbrev S2048x4096 : Shape := ⟨2, ![2048, 4096]⟩
abbrev S2048x2048 : Shape := ⟨2, ![2048, 2048]⟩
abbrev S256x128 : Shape := ⟨2, ![256, 128]⟩
abbrev S2048x128 : Shape := ⟨2, ![2048, 128]⟩
abbrev S8x256x256 : Shape := ⟨3, ![8, 256, 256]⟩
abbrev S256x256 : Shape := ⟨2, ![256, 256]⟩
abbrev S256x1 : Shape := ⟨2, ![256, 1]⟩
abbrev S1x256x256 : Shape := ⟨3, ![1, 256, 256]⟩
abbrev S256 : Shape := ⟨1, ![256]⟩

abbrev nBuf : Space → Nat
  | .hbm => 6
  | .vmem => 16
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .f32⟩
  | .local _ .vmem, ⟨9, _⟩ => ⟨S256x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S8x256x256, .f32⟩
  | .local _ .vmem, ⟨15, _⟩ => ⟨S8x256x256, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_8 : BitVec 32 := 0#32
  let arg1 : BitVec 32 := BitVec.ofNat 32 (i 1).val
  let c1_i32 : BitVec 32 := 1#32
  let v19 : BitVec 32 := Scalar.addi arg1 c1_i32
  let v21 : BitVec 32 := Scalar.subi v19 c0_i32_8
  let c1_i32_9 : BitVec 32 := 1#32
  let v23 : BitVec 32 := Scalar.divsi v21 c1_i32_9
  let v24 : BitVec 32 := Scalar.muli v23 c1_i32_9
  let v25 : BitVec 32 := Scalar.addi c0_i32_8 v24
  let c1_i32_10 : BitVec 32 := 1#32
  ⟨c0_i32_8, v25, c1_i32_10⟩
def k0_mult1 (i : grid0.Coords) (k0_t1 : Fin (k0_t1_loop i).trips) : BitVec 32 :=
  let arg1 : BitVec 32 := BitVec.ofNat 32 (i 1).val
  let c0_i32_8 : BitVec 32 := 0#32
  let c1_i32_10 : BitVec 32 := 1#32
  let arg11 : BitVec 32 := Scf.iv c0_i32_8 c1_i32_10 k0_t1
  let v39 : BitVec 32 := Scalar.subi arg1 arg11
  let c256_i32 : BitVec 32 := 256#32
  let v40 : BitVec 32 := Scalar.muli v39 c256_i32
  v40
def k0_off1 (i : grid0.Coords) (k0_t1 : Fin (k0_t1_loop i).trips) : Fin 2 → Nat :=
  let arg1 : BitVec 32 := BitVec.ofNat 32 (i 1).val
  let c0_i32_8 : BitVec 32 := 0#32
  let c1_i32_10 : BitVec 32 := 1#32
  let arg11 : BitVec 32 := Scf.iv c0_i32_8 c1_i32_10 k0_t1
  let v39 : BitVec 32 := Scalar.subi arg1 arg11
  let c256_i32 : BitVec 32 := 256#32
  let v40 : BitVec 32 := Scalar.muli v39 c256_i32
  let v41 : BitVec 32 := v40
  let v42 : Index := Scalar.indexCast v41
  let c0_21 : Index := 0#32
  ![v42.toNat, 0]
def k0_off2 (i : grid0.Coords) (k0_t1 : Fin (k0_t1_loop i).trips) : Fin 3 → Nat :=
  let arg1 : BitVec 32 := BitVec.ofNat 32 (i 1).val
  let c0_i32_8 : BitVec 32 := 0#32
  let c1_i32_10 : BitVec 32 := 1#32
  let arg11 : BitVec 32 := Scf.iv c0_i32_8 c1_i32_10 k0_t1
  let v39 : BitVec 32 := Scalar.subi arg1 arg11
  let v80 : Index := Scalar.indexCast v39
  let c0_32 : Index := 0#32
  let c0_33 : Index := 0#32
  ![v80.toNat, 0, 0]
@[reducible] def k0_t2_loop (i : grid0.Coords) : Scf.Loop 32 :=
  let c0_i32_8 : BitVec 32 := 0#32
  let arg1 : BitVec 32 := BitVec.ofNat 32 (i 1).val
  let c1_i32 : BitVec 32 := 1#32
  let v19 : BitVec 32 := Scalar.addi arg1 c1_i32
  let v21 : BitVec 32 := Scalar.subi v19 c0_i32_8
  let c1_i32_9 : BitVec 32 := 1#32
  let v23 : BitVec 32 := Scalar.divsi v21 c1_i32_9
  let v24 : BitVec 32 := Scalar.muli v23 c1_i32_9
  let v25 : BitVec 32 := Scalar.addi c0_i32_8 v24
  let v22 : BitVec 32 := Scalar.addi c0_i32_8 v21
  let c1_i32_11 : BitVec 32 := 1#32
  ⟨v25, v22, c1_i32_11⟩
def k0_mult2 (i : grid0.Coords) (k0_t2 : Fin (k0_t2_loop i).trips) : BitVec 32 :=
  let arg1 : BitVec 32 := BitVec.ofNat 32 (i 1).val
  let c0_i32_8 : BitVec 32 := 0#32
  let c1_i32 : BitVec 32 := 1#32
  let v19 : BitVec 32 := Scalar.addi arg1 c1_i32
  let v21 : BitVec 32 := Scalar.subi v19 c0_i32_8
  let c1_i32_9 : BitVec 32 := 1#32
  let v23 : BitVec 32 := Scalar.divsi v21 c1_i32_9
  let v24 : BitVec 32 := Scalar.muli v23 c1_i32_9
  let v25 : BitVec 32 := Scalar.addi c0_i32_8 v24
  let c1_i32_11 : BitVec 32 := 1#32
  let arg11 : BitVec 32 := Scf.iv v25 c1_i32_11 k0_t2
  let v39 : BitVec 32 := Scalar.subi arg1 arg11
  let c256_i32 : BitVec 32 := 256#32
  let v40 : BitVec 32 := Scalar.muli v39 c256_i32
  v40
def k0_off3 (i : grid0.Coords) (k0_t2 : Fin (k0_t2_loop i).trips) : Fin 2 → Nat :=
  let arg1 : BitVec 32 := BitVec.ofNat 32 (i 1).val
  let c0_i32_8 : BitVec 32 := 0#32
  let c1_i32 : BitVec 32 := 1#32
  let v19 : BitVec 32 := Scalar.addi arg1 c1_i32
  let v21 : BitVec 32 := Scalar.subi v19 c0_i32_8
  let c1_i32_9 : BitVec 32 := 1#32
  let v23 : BitVec 32 := Scalar.divsi v21 c1_i32_9
  let v24 : BitVec 32 := Scalar.muli v23 c1_i32_9
  let v25 : BitVec 32 := Scalar.addi c0_i32_8 v24
  let c1_i32_11 : BitVec 32 := 1#32
  let arg11 : BitVec 32 := Scf.iv v25 c1_i32_11 k0_t2
  let v39 : BitVec 32 := Scalar.subi arg1 arg11
  let c256_i32 : BitVec 32 := 256#32
  let v40 : BitVec 32 := Scalar.muli v39 c256_i32
  let v41 : BitVec 32 := v40
  let v42 : Index := Scalar.indexCast v41
  let c0_21 : Index := 0#32
  ![v42.toNat, 0]
def k0_off4 (i : grid0.Coords) (k0_t2 : Fin (k0_t2_loop i).trips) : Fin 3 → Nat :=
  let arg1 : BitVec 32 := BitVec.ofNat 32 (i 1).val
  let c0_i32_8 : BitVec 32 := 0#32
  let c1_i32 : BitVec 32 := 1#32
  let v19 : BitVec 32 := Scalar.addi arg1 c1_i32
  let v21 : BitVec 32 := Scalar.subi v19 c0_i32_8
  let c1_i32_9 : BitVec 32 := 1#32
  let v23 : BitVec 32 := Scalar.divsi v21 c1_i32_9
  let v24 : BitVec 32 := Scalar.muli v23 c1_i32_9
  let v25 : BitVec 32 := Scalar.addi c0_i32_8 v24
  let c1_i32_11 : BitVec 32 := 1#32
  let arg11 : BitVec 32 := Scf.iv v25 c1_i32_11 k0_t2
  let v39 : BitVec 32 := Scalar.subi arg1 arg11
  let v80 : Index := Scalar.indexCast v39
  let c0_32 : Index := 0#32
  let c0_33 : Index := 0#32
  ![v80.toNat, 0, 0]
@[reducible] def k0_t3_loop (i : grid0.Coords) : Scf.Loop 32 :=
  let c0_i32_15 : BitVec 32 := 0#32
  let arg1 : BitVec 32 := BitVec.ofNat 32 (i 1).val
  let c1_i32_12 : BitVec 32 := 1#32
  let v28 : BitVec 32 := Scalar.addi arg1 c1_i32_12
  let v31 : BitVec 32 := Scalar.subi v28 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_17 : BitVec 32 := 1#32
  ⟨c0_i32_15, v35, c1_i32_17⟩
def k0_mult3 (i : grid0.Coords) (k0_t3 : Fin (k0_t3_loop i).trips) : BitVec 32 :=
  let c0_i32_15 : BitVec 32 := 0#32
  let c1_i32_17 : BitVec 32 := 1#32
  let arg11 : BitVec 32 := Scf.iv c0_i32_15 c1_i32_17 k0_t3
  let c256_i32 : BitVec 32 := 256#32
  let v39 : BitVec 32 := Scalar.muli arg11 c256_i32
  v39
def k0_off5 (i : grid0.Coords) (k0_t3 : Fin (k0_t3_loop i).trips) : Fin 3 → Nat :=
  let c0_i32_15 : BitVec 32 := 0#32
  let c1_i32_17 : BitVec 32 := 1#32
  let arg11 : BitVec 32 := Scf.iv c0_i32_15 c1_i32_17 k0_t3
  let v41 : Index := Scalar.indexCast arg11
  let c0_21 : Index := 0#32
  let c0_22 : Index := 0#32
  ![v41.toNat, 0, 0]
def k0_off6 (i : grid0.Coords) (k0_t3 : Fin (k0_t3_loop i).trips) : Fin 2 → Nat :=
  let c0_i32_15 : BitVec 32 := 0#32
  let c1_i32_17 : BitVec 32 := 1#32
  let arg11 : BitVec 32 := Scf.iv c0_i32_15 c1_i32_17 k0_t3
  let c256_i32 : BitVec 32 := 256#32
  let v39 : BitVec 32 := Scalar.muli arg11 c256_i32
  let v40 : BitVec 32 := v39
  let v56 : Index := Scalar.indexCast v40
  let c0_27 : Index := 0#32
  ![v56.toNat, 0]
@[reducible] def k0_t4_loop (i : grid0.Coords) : Scf.Loop 32 :=
  let c0_i32_15 : BitVec 32 := 0#32
  let arg1 : BitVec 32 := BitVec.ofNat 32 (i 1).val
  let c1_i32_12 : BitVec 32 := 1#32
  let v28 : BitVec 32 := Scalar.addi arg1 c1_i32_12
  let v31 : BitVec 32 := Scalar.subi v28 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let v32 : BitVec 32 := Scalar.addi c0_i32_15 v31
  let c1_i32_18 : BitVec 32 := 1#32
  ⟨v35, v32, c1_i32_18⟩
def k0_mult4 (i : grid0.Coords) (k0_t4 : Fin (k0_t4_loop i).trips) : BitVec 32 :=
  let c0_i32_15 : BitVec 32 := 0#32
  let arg1 : BitVec 32 := BitVec.ofNat 32 (i 1).val
  let c1_i32_12 : BitVec 32 := 1#32
  let v28 : BitVec 32 := Scalar.addi arg1 c1_i32_12
  let v31 : BitVec 32 := Scalar.subi v28 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg11 : BitVec 32 := Scf.iv v35 c1_i32_18 k0_t4
  let c256_i32 : BitVec 32 := 256#32
  let v39 : BitVec 32 := Scalar.muli arg11 c256_i32
  v39
def k0_off7 (i : grid0.Coords) (k0_t4 : Fin (k0_t4_loop i).trips) : Fin 3 → Nat :=
  let c0_i32_15 : BitVec 32 := 0#32
  let arg1 : BitVec 32 := BitVec.ofNat 32 (i 1).val
  let c1_i32_12 : BitVec 32 := 1#32
  let v28 : BitVec 32 := Scalar.addi arg1 c1_i32_12
  let v31 : BitVec 32 := Scalar.subi v28 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg11 : BitVec 32 := Scf.iv v35 c1_i32_18 k0_t4
  let v41 : Index := Scalar.indexCast arg11
  let c0_21 : Index := 0#32
  let c0_22 : Index := 0#32
  ![v41.toNat, 0, 0]
def k0_off8 (i : grid0.Coords) (k0_t4 : Fin (k0_t4_loop i).trips) : Fin 2 → Nat :=
  let c0_i32_15 : BitVec 32 := 0#32
  let arg1 : BitVec 32 := BitVec.ofNat 32 (i 1).val
  let c1_i32_12 : BitVec 32 := 1#32
  let v28 : BitVec 32 := Scalar.addi arg1 c1_i32_12
  let v31 : BitVec 32 := Scalar.subi v28 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg11 : BitVec 32 := Scf.iv v35 c1_i32_18 k0_t4
  let c256_i32 : BitVec 32 := 256#32
  let v39 : BitVec 32 := Scalar.muli arg11 c256_i32
  let v40 : BitVec 32 := v39
  let v56 : Index := Scalar.indexCast v40
  let c0_27 : Index := 0#32
  ![v56.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SbBwdIdeal.lean ====
variable {F : FTy → Type} [FloatOps F] [Named F]
def κ : String → Option EReal := fun
  | "inv_sqrt_d" => some (((Real.sqrt 128)⁻¹ : ℝ) : EReal)
  | _ => none
-- ==== SbRefIdeal.lean ====
abbrev S2048x4096 : Shape := ⟨2, ![2048, 4096]⟩
abbrev S2048x2048 : Shape := ⟨2, ![2048, 2048]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S16x128x2048 : Shape := ⟨3, ![16, 128, 2048]⟩

abbrev nBuf : Space → Nat
  | .hbm => 181
  | .vmem => 0
  | .smem => 0
  | _ => 0

abbrev hbmTy0_0 (i : Nat) : BufTy := match i % 128 with
  | 0 => ⟨S2048x4096, .bf16⟩
  | 1 => ⟨S2048x2048, .bf16⟩
  | 2 => ⟨S2048x2048, .bf16⟩
  | 3 => ⟨S2048x4096, .f32⟩
  | 4 => ⟨S2048x2048, .f32⟩
  | 5 => ⟨S2048x2048, .f32⟩
  | 6 => ⟨S2048x2048, .f32⟩
  | 7 => ⟨S2048x16x128, .f32⟩
  | 8 => ⟨S16x2048x128, .f32⟩
  | 9 => ⟨S2048x16x128, .f32⟩
  | 10 => ⟨S16x2048x128, .f32⟩
  | 11 => ⟨S2048x16x128, .f32⟩
  | 12 => ⟨S16x2048x128, .f32⟩
  | 13 => ⟨S16x2048x2048, .f32⟩
  | 14 => ⟨S_, .f32⟩
  | 15 => ⟨S_, .f32⟩
  | 16 => ⟨S16x2048x2048, .f32⟩
  | 17 => ⟨S16x2048x2048, .f32⟩
  | 18 => ⟨S2048, .i32⟩
  | 19 => ⟨S1x2048, .i32⟩
  | 20 => ⟨S2048, .i32⟩
  | 21 => ⟨S2048x1, .i32⟩
  | 22 => ⟨S2048x2048, .i32⟩
  | 23 => ⟨S2048x2048, .i32⟩
  | 24 => ⟨S2048x2048, .i1⟩
  | 25 => ⟨S16x2048x2048, .f32⟩
  | 26 => ⟨S_, .f32⟩
  | 27 => ⟨S16x2048x2048, .f32⟩
  | 28 => ⟨S16x2048x2048, .f32⟩
  | 29 => ⟨S16x2048x2048, .f32⟩
  | 30 => ⟨S16x2048x2048, .f32⟩
  | 31 => ⟨S16x2048x2048, .i1⟩
  | 32 => ⟨S16x2048x2048, .f32⟩
  | 33 => ⟨S16x2048x2048, .f32⟩
  | 34 => ⟨S16x2048x2048, .f32⟩
  | 35 => ⟨S16x2048x2048, .f32⟩
  | 36 => ⟨S16x2048x2048, .f32⟩
  | 37 => ⟨S16x2048x2048, .f32⟩
  | 38 => ⟨S16x2048x2048, .f32⟩
  | 39 => ⟨S16x2048x2048, .f32⟩
  | 40 => ⟨S_, .f32⟩
  | 41 => ⟨S16x2048x2048, .f32⟩
  | 42 => ⟨S16x2048x2048, .i1⟩
  | 43 => ⟨S_, .f32⟩
  | 44 => ⟨S16x2048x2048, .f32⟩
  | 45 => ⟨S16x2048x2048, .f32⟩
  | 46 => ⟨S_, .f32⟩
  | 47 => ⟨S16x2048x2048, .f32⟩
  | 48 => ⟨S16x2048x2048, .i1⟩
  | 49 => ⟨S_, .f32⟩
  | 50 => ⟨S16x2048x2048, .f32⟩
  | 51 => ⟨S16x2048x2048, .f32⟩
  | 52 => ⟨S16x2048x2048, .f32⟩
  | 53 => ⟨S16x2048x2048, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S16x2048x2048, .f32⟩
  | 62 => ⟨S16x2048x2048, .i1⟩
  | 63 => ⟨S_, .f32⟩
  | 64 => ⟨S16x2048x2048, .f32⟩
  | 65 => ⟨S16x2048x2048, .f32⟩
  | 66 => ⟨S16x2048x2048, .f32⟩
  | 67 => ⟨S16x2048x2048, .f32⟩
  | 68 => ⟨S16x2048x2048, .f32⟩
  | 69 => ⟨S_, .f32⟩
  | 70 => ⟨S16x2048x2048, .f32⟩
  | 71 => ⟨S16x2048x2048, .f32⟩
  | 72 => ⟨S16x2048x2048, .f32⟩
  | 73 => ⟨S16x2048x2048, .f32⟩
  | 74 => ⟨S16x2048x2048, .f32⟩
  | 75 => ⟨S_, .f32⟩
  | 76 => ⟨S16x2048x2048, .f32⟩
  | 77 => ⟨S16x2048x2048, .f32⟩
  | 78 => ⟨S16x2048x2048, .f32⟩
  | 79 => ⟨S16x2048x2048, .f32⟩
  | 80 => ⟨S16x2048x2048, .i1⟩
  | 81 => ⟨S16x2048x2048, .f32⟩
  | 82 => ⟨S16x2048x2048, .f32⟩
  | 83 => ⟨S16x2048x2048, .f32⟩
  | 84 => ⟨S16x2048x2048, .f32⟩
  | 85 => ⟨S16x2048x2048, .f32⟩
  | 86 => ⟨S16x2048x2048, .f32⟩
  | 87 => ⟨S16x2048x2048, .f32⟩
  | 88 => ⟨S16x2048x2048, .f32⟩
  | 89 => ⟨S_, .f32⟩
  | 90 => ⟨S16x2048x2048, .f32⟩
  | 91 => ⟨S16x2048x2048, .i1⟩
  | 92 => ⟨S_, .f32⟩
  | 93 => ⟨S16x2048x2048, .f32⟩
  | 94 => ⟨S16x2048x2048, .f32⟩
  | 95 => ⟨S_, .f32⟩
  | 96 => ⟨S16x2048x2048, .f32⟩
  | 97 => ⟨S16x2048x2048, .i1⟩
  | 98 => ⟨S_, .f32⟩
  | 99 => ⟨S16x2048x2048, .f32⟩
  | 100 => ⟨S16x2048x2048, .f32⟩
  | 101 => ⟨S16x2048x2048, .f32⟩
  | 102 => ⟨S16x2048x2048, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S16x2048x2048, .f32⟩
  | 111 => ⟨S16x2048x2048, .i1⟩
  | 112 => ⟨S_, .f32⟩
  | 113 => ⟨S16x2048x2048, .f32⟩
  | 114 => ⟨S16x2048x2048, .f32⟩
  | 115 => ⟨S16x2048x2048, .f32⟩
  | 116 => ⟨S16x2048x2048, .f32⟩
  | 117 => ⟨S16x2048x2048, .f32⟩
  | 118 => ⟨S_, .f32⟩
  | 119 => ⟨S16x2048x2048, .f32⟩
  | 120 => ⟨S16x2048x2048, .f32⟩
  | 121 => ⟨S16x2048x2048, .f32⟩
  | 122 => ⟨S_, .f32⟩
  | 123 => ⟨S_, .f32⟩
  | 124 => ⟨S16x2048x2048, .i1⟩
  | 125 => ⟨S16x2048x2048, .f32⟩
  | 126 => ⟨S16x2048x2048, .f32⟩
  | 127 => ⟨S_, .f32⟩
  | _ => ⟨S2048x4096, .bf16⟩

abbrev hbmTy0_1 (i : Nat) : BufTy := match i % 128 with
  | 0 => ⟨S16x2048x2048, .f32⟩
  | 1 => ⟨S_, .f32⟩
  | 2 => ⟨S_, .f32⟩
  | 3 => ⟨S16x2048x2048, .f32⟩
  | 4 => ⟨S16x2048x2048, .f32⟩
  | 5 => ⟨S16x2048x2048, .f32⟩
  | 6 => ⟨S16x2048x2048, .f32⟩
  | 7 => ⟨S_, .f32⟩
  | 8 => ⟨S_, .f32⟩
  | 9 => ⟨S16x2048x2048, .i1⟩
  | 10 => ⟨S16x2048x2048, .f32⟩
  | 11 => ⟨S16x2048x2048, .f32⟩
  | 12 => ⟨S_, .f32⟩
  | 13 => ⟨S16x2048x2048, .f32⟩
  | 14 => ⟨S16x2048x128, .f32⟩
  | 15 => ⟨S2048x16x128, .f32⟩
  | 16 => ⟨S2048x2048, .f32⟩
  | 17 => ⟨S2048x2048, .f32⟩
  | 18 => ⟨S2048x16x128, .f32⟩
  | 19 => ⟨S16x2048x128, .f32⟩
  | 20 => ⟨S16x128x2048, .f32⟩
  | 21 => ⟨S16x2048x128, .f32⟩
  | 22 => ⟨S16x2048x2048, .f32⟩
  | 23 => ⟨S_, .f32⟩
  | 24 => ⟨S16x2048x2048, .f32⟩
  | 25 => ⟨S16x2048x2048, .f32⟩
  | 26 => ⟨S16x2048x2048, .f32⟩
  | 27 => ⟨S16x2048x2048, .f32⟩
  | 28 => ⟨S_, .f32⟩
  | 29 => ⟨S_, .f32⟩
  | 30 => ⟨S16x2048x2048, .f32⟩
  | 31 => ⟨S16x2048x2048, .f32⟩
  | 32 => ⟨S_, .f32⟩
  | 33 => ⟨S16x2048x2048, .f32⟩
  | 34 => ⟨S16x2048x2048, .f32⟩
  | 35 => ⟨S16x2048x2048, .f32⟩
  | 36 => ⟨S16x2048x2048, .f32⟩
  | 37 => ⟨S16x2048x2048, .f32⟩
  | 38 => ⟨S16x2048x2048, .f32⟩
  | 39 => ⟨S16x2048x2048, .f32⟩
  | 40 => ⟨S16x2048x2048, .f32⟩
  | 41 => ⟨S16x2048x2048, .f32⟩
  | 42 => ⟨S16x2048x2048, .f32⟩
  | 43 => ⟨S16x2048x2048, .f32⟩
  | 44 => ⟨S16x2048x2048, .f32⟩
  | 45 => ⟨S16x2048x128, .f32⟩
  | 46 => ⟨S16x2048x128, .f32⟩
  | 47 => ⟨S2048x16x128, .f32⟩
  | 48 => ⟨S2048x2048, .f32⟩
  | 49 => ⟨S2048x16x128, .f32⟩
  | 50 => ⟨S2048x2048, .f32⟩
  | 51 => ⟨S2048x16x128, .f32⟩
  | 52 => ⟨S2048x2048, .f32⟩
  | _ => ⟨S2048x4096, .bf16⟩

abbrev hbmTy (i : Nat) : BufTy := match i / 128 with
  | 0 => hbmTy0_0 i
  | 1 => hbmTy0_1 i
  | _ => ⟨S2048x4096, .bf16⟩

abbrev bufTy : (tb : Table) → Fin (tcTables nBuf tb) → BufTy
  | .hbm, ⟨i, _⟩ => hbmTy i
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v21_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v21_2 : Ref sig .tc := ⟨.hbm, 71, rfl⟩
abbrev main_v21_0 : Ref sig .tc := ⟨.hbm, 72, rfl⟩
abbrev main_v22 : Ref sig .tc := ⟨.hbm, 73, rfl⟩
abbrev main_call1_v0 : Ref sig .tc := ⟨.hbm, 74, rfl⟩
abbrev main_call1_call0_cst : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_call0_v2 : Ref sig .tc := ⟨.hbm, 78, rfl⟩
abbrev main_call1_call0_v3 : Ref sig .tc := ⟨.hbm, 79, rfl⟩
abbrev main_call1_call0_v4 : Ref sig .tc := ⟨.hbm, 80, rfl⟩
abbrev main_call1_call0_v5 : Ref sig .tc := ⟨.hbm, 81, rfl⟩
abbrev main_call1_call0_v6 : Ref sig .tc := ⟨.hbm, 82, rfl⟩
abbrev main_call1_call0_v7 : Ref sig .tc := ⟨.hbm, 83, rfl⟩
abbrev main_call1_call0_v8 : Ref sig .tc := ⟨.hbm, 84, rfl⟩
abbrev main_call1_call0_v9 : Ref sig .tc := ⟨.hbm, 85, rfl⟩
abbrev main_call1_call0_v10 : Ref sig .tc := ⟨.hbm, 86, rfl⟩
abbrev main_call1_call0_v11 : Ref sig .tc := ⟨.hbm, 87, rfl⟩
abbrev main_call1_v1_0 : Ref sig .tc := ⟨.hbm, 88, rfl⟩
abbrev main_call1_call0_cst_0 : Ref sig .tc := ⟨.hbm, 89, rfl⟩
abbrev main_call1_call0_v13 : Ref sig .tc := ⟨.hbm, 90, rfl⟩
abbrev main_call1_call0_v14 : Ref sig .tc := ⟨.hbm, 91, rfl⟩
abbrev main_call1_call0_cst_1 : Ref sig .tc := ⟨.hbm, 92, rfl⟩
abbrev main_call1_call0_v15 : Ref sig .tc := ⟨.hbm, 93, rfl⟩
abbrev main_call1_call0_v16 : Ref sig .tc := ⟨.hbm, 94, rfl⟩
abbrev main_call1_call0_cst_2 : Ref sig .tc := ⟨.hbm, 95, rfl⟩
abbrev main_call1_call0_v17 : Ref sig .tc := ⟨.hbm, 96, rfl⟩
abbrev main_call1_call0_v18 : Ref sig .tc := ⟨.hbm, 97, rfl⟩
abbrev main_call1_call0_cst_3 : Ref sig .tc := ⟨.hbm, 98, rfl⟩
abbrev main_call1_call0_v19 : Ref sig .tc := ⟨.hbm, 99, rfl⟩
abbrev main_call1_call0_v20 : Ref sig .tc := ⟨.hbm, 100, rfl⟩
abbrev main_call1_call0_v21 : Ref sig .tc := ⟨.hbm, 101, rfl⟩
abbrev main_v23_1 : Ref sig .tc := ⟨.hbm, 102, rfl⟩
abbrev main_call1_call0_cst_4 : Ref sig .tc := ⟨.hbm, 103, rfl⟩
abbrev main_call1_call0_cst_5 : Ref sig .tc := ⟨.hbm, 104, rfl⟩
abbrev main_call1_call0_v23 : Ref sig .tc := ⟨.hbm, 105, rfl⟩
abbrev main_call1_call0_cst_6 : Ref sig .tc := ⟨.hbm, 106, rfl⟩
abbrev main_call1_call0_cst_7 : Ref sig .tc := ⟨.hbm, 107, rfl⟩
abbrev main_call1_call0_v24 : Ref sig .tc := ⟨.hbm, 108, rfl⟩
abbrev main_call1_call0_cst_8 : Ref sig .tc := ⟨.hbm, 109, rfl⟩
abbrev main_call1_call0_v25 : Ref sig .tc := ⟨.hbm, 110, rfl⟩
abbrev main_call1_call0_v26 : Ref sig .tc := ⟨.hbm, 111, rfl⟩
abbrev main_call1_call0_cst_9 : Ref sig .tc := ⟨.hbm, 112, rfl⟩
abbrev main_call1_call0_v27 : Ref sig .tc := ⟨.hbm, 113, rfl⟩
abbrev main_call1_call0_v28 : Ref sig .tc := ⟨.hbm, 114, rfl⟩
abbrev main_call1_call0_v29 : Ref sig .tc := ⟨.hbm, 115, rfl⟩
abbrev main_call1_call0_v30 : Ref sig .tc := ⟨.hbm, 116, rfl⟩
abbrev main_call1_call0_v31 : Ref sig .tc := ⟨.hbm, 117, rfl⟩
abbrev main_call1_call0_cst_10 : Ref sig .tc := ⟨.hbm, 118, rfl⟩
abbrev main_call1_call0_v32 : Ref sig .tc := ⟨.hbm, 119, rfl⟩
abbrev main_v23_2 : Ref sig .tc := ⟨.hbm, 120, rfl⟩
abbrev main_v23_0 : Ref sig .tc := ⟨.hbm, 121, rfl⟩
abbrev main_cst_0 : Ref sig .tc := ⟨.hbm, 122, rfl⟩
abbrev main_call2_v0 : Ref sig .tc := ⟨.hbm, 123, rfl⟩
abbrev main_v24_1 : Ref sig .tc := ⟨.hbm, 124, rfl⟩
abbrev main_call2_v2 : Ref sig .tc := ⟨.hbm, 125, rfl⟩
abbrev main_v24_0 : Ref sig .tc := ⟨.hbm, 126, rfl⟩
abbrev main_call2_cst : Ref sig .tc := ⟨.hbm, 127, rfl⟩
abbrev main_v24_2 : Ref sig .tc := ⟨.hbm, 128, rfl⟩
abbrev main_call3_cst : Ref sig .tc := ⟨.hbm, 129, rfl⟩
abbrev main_call3_v0 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_cst_1 : Ref sig .tc := ⟨.hbm, 135, rfl⟩
abbrev main_call4_v0 : Ref sig .tc := ⟨.hbm, 136, rfl⟩
abbrev main_v29_1 : Ref sig .tc := ⟨.hbm, 137, rfl⟩
abbrev main_call4_v2 : Ref sig .tc := ⟨.hbm, 138, rfl⟩
abbrev main_v29_0 : Ref sig .tc := ⟨.hbm, 139, rfl⟩
abbrev main_call4_cst : Ref sig .tc := ⟨.hbm, 140, rfl⟩
abbrev main_v29_2 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_call5_cst : Ref sig .tc := ⟨.hbm, 151, rfl⟩
abbrev main_call5_v0 : Ref sig .tc := ⟨.hbm, 152, rfl⟩
abbrev main_v39 : Ref sig .tc := ⟨.hbm, 153, rfl⟩
abbrev main_v40 : Ref sig .tc := ⟨.hbm, 154, rfl⟩
abbrev main_v41 : Ref sig .tc := ⟨.hbm, 155, rfl⟩
abbrev main_call6_cst : Ref sig .tc := ⟨.hbm, 156, rfl⟩
abbrev main_call6_v0 : Ref sig .tc := ⟨.hbm, 157, rfl⟩
abbrev main_v42 : Ref sig .tc := ⟨.hbm, 158, rfl⟩
abbrev main_v43 : Ref sig .tc := ⟨.hbm, 159, rfl⟩
abbrev main_call7_cst : Ref sig .tc := ⟨.hbm, 160, rfl⟩
abbrev main_call7_v0 : Ref sig .tc := ⟨.hbm, 161, rfl⟩
abbrev main_v44 : Ref sig .tc := ⟨.hbm, 162, rfl⟩
abbrev main_call8_v0 : Ref sig .tc := ⟨.hbm, 163, rfl⟩
abbrev main_call8_v1 : Ref sig .tc := ⟨.hbm, 164, rfl⟩
abbrev main_v45 : Ref sig .tc := ⟨.hbm, 165, rfl⟩
abbrev main_v46 : Ref sig .tc := ⟨.hbm, 166, rfl⟩
abbrev main_call9_v0 : Ref sig .tc := ⟨.hbm, 167, rfl⟩
abbrev main_call9_v1 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩

abbrev nD : Nat := 1
abbrev τ : Topo := Topo.v7x

variable {F : FTy → Type} [FloatOps F]
-- ==== RmsBwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== QkBwd.lean ====
abbrev S2048x6144 : Shape := ⟨2, ![2048, 6144]⟩
abbrev S128 : Shape := ⟨1, ![128]⟩
abbrev S2048x2048 : Shape := ⟨2, ![2048, 2048]⟩
abbrev S1x128 : Shape := ⟨2, ![1, 128]⟩
abbrev S2x128 : Shape := ⟨2, ![2, 128]⟩
abbrev S2x1x128 : Shape := ⟨3, ![2, 1, 128]⟩
abbrev S2048x128 : Shape := ⟨2, ![2048, 128]⟩
abbrev S1x1x128 : Shape := ⟨3, ![1, 1, 128]⟩
abbrev S2048 : Shape := ⟨1, ![2048]⟩
abbrev S2048x1 : Shape := ⟨2, ![2048, 1]⟩

abbrev nBuf : Space → Nat
  | .hbm => 10
  | .vmem => 8
  | .smem => 0
  | _ => 0

abbrev bufTy : (tb : Table) → Fin (tcTables nBuf tb) → BufTy
  | .hbm, ⟨0, _⟩ => ⟨S2048x6144, .f32⟩
  | .hbm, ⟨1, _⟩ => ⟨S128, .f32⟩
  | .hbm, ⟨2, _⟩ => ⟨S128, .f32⟩
  | .hbm, ⟨3, _⟩ => ⟨S2048x2048, .f32⟩
  | .hbm, ⟨4, _⟩ => ⟨S1x128, .f32⟩
  | .hbm, ⟨5, _⟩ => ⟨S1x128, .f32⟩
  | .hbm, ⟨6, _⟩ => ⟨S2x128, .f32⟩
  | .hbm, ⟨7, _⟩ => ⟨S2x1x128, .f32⟩
  | .hbm, ⟨8, _⟩ => ⟨S2048x2048, .bf16⟩
  | .hbm, ⟨9, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S1x1x128, .f32⟩
  | .local _ .vmem, ⟨3, _⟩ => ⟨S2048x128, .f32⟩
  | .local _ .vmem, ⟨4, _⟩ => ⟨S2048x128, .f32⟩
  | .local _ .vmem, ⟨5, _⟩ => ⟨S2048x128, .bf16⟩
  | .local _ .vmem, ⟨6, _⟩ => ⟨S2048x128, .bf16⟩
  | .local _ .vmem, ⟨7, _⟩ => ⟨S1x128, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_13 : BitVec 32 := 0#32
  let v33 : BitVec 1 := Scalar.cmpi .ne v32 c0_i32_13
  v33

def k0_cond2 (i : grid0.Coords) : BitVec 1 :=
  let arg0 : BitVec 32 := BitVec.ofNat 32 (i 0).val
  let c0_i32_14 : BitVec 32 := 0#32
  let v34 : BitVec 1 := Scalar.cmpi .sgt arg0 c0_i32_14
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== QkRefIdeal.lean ====
abbrev S2048x6144 : Shape := ⟨2, ![2048, 6144]⟩
abbrev S128 : Shape := ⟨1, ![128]⟩
abbrev S2048x2048 : Shape := ⟨2, ![2048, 2048]⟩
abbrev S2048x3x16x128 : Shape := ⟨4, ![2048, 3, 16, 128]⟩
abbrev S2048x1x16x128 : Shape := ⟨4, ![2048, 1, 16, 128]⟩
abbrev S2048x16x128 : Shape := ⟨3, ![2048, 16, 128]⟩
abbrev S_ : Shape := ⟨0, ![]⟩
abbrev S2048x16 : Shape := ⟨2, ![2048, 16]⟩
abbrev S2048x16x1 : Shape := ⟨3, ![2048, 16, 1]⟩
abbrev S1x1x128 : Shape := ⟨3, ![1, 1, 128]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S128, .f32⟩
  | .hbm, ⟨2, _⟩ => ⟨S128, .f32⟩
  | .hbm, ⟨3, _⟩ => ⟨S2048x2048, .f32⟩
  | .hbm, ⟨4, _⟩ => ⟨S2048x3x16x128, .f32⟩
  | .hbm, ⟨5, _⟩ => ⟨S2048x1x16x128, .f32⟩
  | .hbm, ⟨6, _⟩ => ⟨S2048x16x128, .f32⟩
  | .hbm, ⟨7, _⟩ => ⟨S2048x16x128, .f32⟩
  | .hbm, ⟨8, _⟩ => ⟨S_, .f32⟩
  | .hbm, ⟨9, _⟩ => ⟨S2048x16, .f32⟩
  | .hbm, ⟨10, _⟩ => ⟨S2048x16x1, .f32⟩
  | .hbm, ⟨11, _⟩ => ⟨S_, .f32⟩
  | .hbm, ⟨12, _⟩ => ⟨S2048x16x1, .f32⟩
  | .hbm, ⟨13, _⟩ => ⟨S2048x16x1, .f32⟩
  | .hbm, ⟨14, _⟩ => ⟨S_, .f32⟩
  | .hbm, ⟨15, _⟩ => ⟨S2048x16x1, .f32⟩
  | .hbm, ⟨16, _⟩ => ⟨S2048x16x1, .f32⟩
  | .hbm, ⟨17, _⟩ => ⟨S2048x16x1, .f32⟩
  | .hbm, ⟨18, _⟩ => ⟨S2048x16x1, .f32⟩
  | .hbm, ⟨19, _⟩ => ⟨S_, .f32⟩
  | .hbm, ⟨20, _⟩ => ⟨S2048x16x1, .f32⟩
  | .hbm, ⟨21, _⟩ => ⟨S2048x16x1, .f32⟩
  | .hbm, ⟨22, _⟩ => ⟨S2048x16x128, .f32⟩
  | .hbm, ⟨23, _⟩ => ⟨S2048x16x128, .f32⟩
  | .hbm, ⟨24, _⟩ => ⟨S1x1x128, .f32⟩
  | .hbm, ⟨25, _⟩ => ⟨S2048x16x128, .f32⟩
  | .hbm, ⟨26, _⟩ => ⟨S2048x16x128, .f32⟩
  | .hbm, ⟨27, _⟩ => ⟨S2048x16x128, .f32⟩
  | .hbm, ⟨28, _⟩ => ⟨S2048x16x128, .f32⟩
  | .hbm, ⟨29, _⟩ => ⟨S_, .f32⟩
  | .hbm, ⟨30, _⟩ => ⟨S128, .f32⟩
  | .hbm, ⟨31, _⟩ => ⟨S1x1x128, .f32⟩
  | .hbm, ⟨32, _⟩ => ⟨S2048x16x128, .f32⟩
  | .hbm, ⟨33, _⟩ => ⟨S2048x16x128, .f32⟩
  | .hbm, ⟨34, _⟩ => ⟨S_, .f32⟩
  | .hbm, ⟨35, _⟩ => ⟨S128, .f32⟩
  | .hbm, ⟨36, _⟩ => ⟨S2048x16x128, .f32⟩
  | .hbm, ⟨37, _⟩ => ⟨S_, .f32⟩
  | .hbm, ⟨38, _⟩ => ⟨S2048x16, .f32⟩
  | .hbm, ⟨39, _⟩ => ⟨S2048x16x1, .f32⟩
  | .hbm, ⟨40, _⟩ => ⟨S2048x16x128, .f32⟩
  | .hbm, ⟨41, _⟩ => ⟨S2048x16x128, .f32⟩
  | .hbm, ⟨42, _⟩ => ⟨S2048x16x1, .f32⟩
  | .hbm, ⟨43, _⟩ => ⟨S_, .f32⟩
  | .hbm, ⟨44, _⟩ => ⟨S2048x16x1, .f32⟩
  | .hbm, ⟨45, _⟩ => ⟨S2048x16x1, .f32⟩
  | .hbm, ⟨46, _⟩ => ⟨S_, .f32⟩
  | .hbm, ⟨47, _⟩ => ⟨S2048x16, .f32⟩
  | .hbm, ⟨48, _⟩ => ⟨S2048x16x128, .f32⟩
  | .hbm, ⟨49, _⟩ => ⟨S2048x16x128, .f32⟩
  | .hbm, ⟨50, _⟩ => ⟨S2048x16x128, .f32⟩
  | .hbm, ⟨51, _⟩ => ⟨S2048x16x128, .f32⟩
  | .hbm, ⟨52, _⟩ => ⟨S2048x16x128, .f32⟩
  | .hbm, ⟨53, _⟩ => ⟨S2048x2048, .f32⟩
  | .hbm, ⟨54, _⟩ => ⟨S2048x2048, .bf16⟩
  | .hbm, ⟨55, _⟩ => ⟨S1x128, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== QkqBwd.lean ====
abbrev S2048x6144 : Shape := ⟨2, ![2048, 6144]⟩
abbrev S128 : Shape := ⟨1, ![128]⟩
abbrev S2048x2048 : Shape := ⟨2, ![2048, 2048]⟩
abbrev S1x128 : Shape := ⟨2, ![1, 128]⟩
abbrev S2x128 : Shape := ⟨2, ![2, 128]⟩
abbrev S2x1x128 : Shape := ⟨3, ![2, 1, 128]⟩
abbrev S2048x128 : Shape := ⟨2, ![2048, 128]⟩
abbrev S1x1x128 : Shape := ⟨3, ![1, 1, 128]⟩
abbrev S2048 : Shape := ⟨1, ![2048]⟩
abbrev S2048x1 : Shape := ⟨2, ![2048, 1]⟩

abbrev nBuf : Space → Nat
  | .hbm => 10
  | .vmem => 8
  | .smem => 0
  | _ => 0

abbrev bufTy : (tb : Table) → Fin (tcTables nBuf tb) → BufTy
  | .hbm, ⟨0, _⟩ => ⟨S2048x6144, .f32⟩
  | .hbm, ⟨1, _⟩ => ⟨S128, .f32⟩
  | .hbm, ⟨2, _⟩ => ⟨S128, .f32⟩
  | .hbm, ⟨3, _⟩ => ⟨S2048x2048, .f32⟩
  | .hbm, ⟨4, _⟩ => ⟨S1x128, .f32⟩
  | .hbm, ⟨5, _⟩ => ⟨S1x128, .f32⟩
  | .hbm, ⟨6, _⟩ => ⟨S2x128, .f32⟩
  | .hbm, ⟨7, _⟩ => ⟨S2x1x128, .f32⟩
  | .hbm, ⟨8, _⟩ => ⟨S2048x2048, .bf16⟩
  | .hbm, ⟨9, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S1x1x128, .f32⟩
  | .local _ .vmem, ⟨3, _⟩ => ⟨S2048x128, .f32⟩
  | .local _ .vmem, ⟨4, _⟩ => ⟨S2048x128, .f32⟩
  | .local _ .vmem, ⟨5, _⟩ => ⟨S2048x128, .bf16⟩
  | .local _ .vmem, ⟨6, _⟩ => ⟨S2048x128, .bf16⟩
  | .local _ .vmem, ⟨7, _⟩ => ⟨S1x128, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_13 : BitVec 32 := 0#32
  let v33 : BitVec 1 := Scalar.cmpi .ne v32 c0_i32_13
  v33

def k0_cond2 (i : grid0.Coords) : BitVec 1 :=
  let arg0 : BitVec 32 := BitVec.ofNat 32 (i 0).val
  let c0_i32_14 : BitVec 32 := 0#32
  let v34 : BitVec 1 := Scalar.cmpi .sgt arg0 c0_i32_14
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== QkqRefIdeal.lean ====
abbrev S2048x6144 : Shape := ⟨2, ![2048, 6144]⟩
abbrev S128 : Shape := ⟨1, ![128]⟩
abbrev S2048x2048 : Shape := ⟨2, ![2048, 2048]⟩
abbrev S2048x3x16x128 : Shape := ⟨4, ![2048, 3, 16, 128]⟩
abbrev S2048x1x16x128 : Shape := ⟨4, ![2048, 1, 16, 128]⟩
abbrev S2048x16x128 : Shape := ⟨3, ![2048, 16, 128]⟩
abbrev S_ : Shape := ⟨0, ![]⟩
abbrev S2048x16 : Shape := ⟨2, ![2048, 16]⟩
abbrev S2048x16x1 : Shape := ⟨3, ![2048, 16, 1]⟩
abbrev S1x1x128 : Shape := ⟨3, ![1, 1, 128]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S128, .f32⟩
  | .hbm, ⟨2, _⟩ => ⟨S128, .f32⟩
  | .hbm, ⟨3, _⟩ => ⟨S2048x2048, .f32⟩
  | .hbm, ⟨4, _⟩ => ⟨S2048x3x16x128, .f32⟩
  | .hbm, ⟨5, _⟩ => ⟨S2048x1x16x128, .f32⟩
  | .hbm, ⟨6, _⟩ => ⟨S2048x16x128, .f32⟩
  | .hbm, ⟨7, _⟩ => ⟨S2048x16x128, .f32⟩
  | .hbm, ⟨8, _⟩ => ⟨S_, .f32⟩
  | .hbm, ⟨9, _⟩ => ⟨S2048x16, .f32⟩
  | .hbm, ⟨10, _⟩ => ⟨S2048x16x1, .f32⟩
  | .hbm, ⟨11, _⟩ => ⟨S_, .f32⟩
  | .hbm, ⟨12, _⟩ => ⟨S2048x16x1, .f32⟩
  | .hbm, ⟨13, _⟩ => ⟨S2048x16x1, .f32⟩
  | .hbm, ⟨14, _⟩ => ⟨S_, .f32⟩
  | .hbm, ⟨15, _⟩ => ⟨S2048x16x1, .f32⟩
  | .hbm, ⟨16, _⟩ => ⟨S2048x16x1, .f32⟩
  | .hbm, ⟨17, _⟩ => ⟨S2048x16x1, .f32⟩
  | .hbm, ⟨18, _⟩ => ⟨S2048x16x1, .f32⟩
  | .hbm, ⟨19, _⟩ => ⟨S_, .f32⟩
  | .hbm, ⟨20, _⟩ => ⟨S2048x16x1, .f32⟩
  | .hbm, ⟨21, _⟩ => ⟨S2048x16x1, .f32⟩
  | .hbm, ⟨22, _⟩ => ⟨S2048x16x128, .f32⟩
  | .hbm, ⟨23, _⟩ => ⟨S2048x16x128, .f32⟩
  | .hbm, ⟨24, _⟩ => ⟨S1x1x128, .f32⟩
  | .hbm, ⟨25, _⟩ => ⟨S2048x16x128, .f32⟩
  | .hbm, ⟨26, _⟩ => ⟨S2048x16x128, .f32⟩
  | .hbm, ⟨27, _⟩ => ⟨S2048x16x128, .f32⟩
  | .hbm, ⟨28, _⟩ => ⟨S2048x16x128, .f32⟩
  | .hbm, ⟨29, _⟩ => ⟨S_, .f32⟩
  | .hbm, ⟨30, _⟩ => ⟨S128, .f32⟩
  | .hbm, ⟨31, _⟩ => ⟨S1x1x128, .f32⟩
  | .hbm, ⟨32, _⟩ => ⟨S2048x16x128, .f32⟩
  | .hbm, ⟨33, _⟩ => ⟨S2048x16x128, .f32⟩
  | .hbm, ⟨34, _⟩ => ⟨S_, .f32⟩
  | .hbm, ⟨35, _⟩ => ⟨S128, .f32⟩
  | .hbm, ⟨36, _⟩ => ⟨S2048x16x128, .f32⟩
  | .hbm, ⟨37, _⟩ => ⟨S_, .f32⟩
  | .hbm, ⟨38, _⟩ => ⟨S2048x16, .f32⟩
  | .hbm, ⟨39, _⟩ => ⟨S2048x16x1, .f32⟩
  | .hbm, ⟨40, _⟩ => ⟨S2048x16x128, .f32⟩
  | .hbm, ⟨41, _⟩ => ⟨S2048x16x128, .f32⟩
  | .hbm, ⟨42, _⟩ => ⟨S2048x16x1, .f32⟩
  | .hbm, ⟨43, _⟩ => ⟨S_, .f32⟩
  | .hbm, ⟨44, _⟩ => ⟨S2048x16x1, .f32⟩
  | .hbm, ⟨45, _⟩ => ⟨S2048x16x1, .f32⟩
  | .hbm, ⟨46, _⟩ => ⟨S_, .f32⟩
  | .hbm, ⟨47, _⟩ => ⟨S2048x16, .f32⟩
  | .hbm, ⟨48, _⟩ => ⟨S2048x16x128, .f32⟩
  | .hbm, ⟨49, _⟩ => ⟨S2048x16x128, .f32⟩
  | .hbm, ⟨50, _⟩ => ⟨S2048x16x128, .f32⟩
  | .hbm, ⟨51, _⟩ => ⟨S2048x16x128, .f32⟩
  | .hbm, ⟨52, _⟩ => ⟨S2048x16x128, .f32⟩
  | .hbm, ⟨53, _⟩ => ⟨S2048x2048, .f32⟩
  | .hbm, ⟨54, _⟩ => ⟨S2048x2048, .bf16⟩
  | .hbm, ⟨55, _⟩ => ⟨S1x128, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== ConvBwd.lean ====
abbrev S2048x11264 : Shape := ⟨2, ![2048, 11264]⟩
abbrev S2048x5632 : Shape := ⟨2, ![2048, 5632]⟩
abbrev S3x11264 : Shape := ⟨2, ![3, 11264]⟩
abbrev S11264 : Shape := ⟨1, ![11264]⟩
abbrev S1x11264 : Shape := ⟨2, ![1, 11264]⟩
abbrev S3x5632 : Shape := ⟨2, ![3, 5632]⟩
abbrev S1x5632 : Shape := ⟨2, ![1, 5632]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 11
  | .vmem => 26
  | .smem => 0
  | _ => 0

abbrev bufTy : (tb : Table) → Fin (tcTables nBuf tb) → BufTy
  | .hbm, ⟨0, _⟩ => ⟨S2048x11264, .f32⟩
  | .hbm, ⟨1, _⟩ => ⟨S2048x5632, .f32⟩
  | .hbm, ⟨2, _⟩ => ⟨S3x11264, .f32⟩
  | .hbm, ⟨3, _⟩ => ⟨S11264, .f32⟩
  | .hbm, ⟨4, _⟩ => ⟨S1x11264, .f32⟩
  | .hbm, ⟨5, _⟩ => ⟨S2048x5632, .bf16⟩
  | .hbm, ⟨6, _⟩ => ⟨S2048x5632, .bf16⟩
  | .hbm, ⟨7, _⟩ => ⟨S3x5632, .f32⟩
  | .hbm, ⟨8, _⟩ => ⟨S3x5632, .f32⟩
  | .hbm, ⟨9, _⟩ => ⟨S1x5632, .f32⟩
  | .hbm, ⟨10, _⟩ => ⟨S1x5632, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S3x256, .f32⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ConvRefIdeal.lean ====
abbrev S2048x11264 : Shape := ⟨2, ![2048, 11264]⟩
abbrev S2048x5632 : Shape := ⟨2, ![2048, 5632]⟩
abbrev S3x11264 : Shape := ⟨2, ![3, 11264]⟩
abbrev S11264 : Shape := ⟨1, ![11264]⟩
abbrev S_ : Shape := ⟨0, ![]⟩
abbrev S2x11264 : Shape := ⟨2, ![2, 11264]⟩
abbrev S2050x11264 : Shape := ⟨2, ![2050, 11264]⟩
abbrev S1x11264 : Shape := ⟨2, ![1, 11264]⟩
abbrev S3x5632 : Shape := ⟨2, ![3, 5632]⟩
abbrev S1x5632 : Shape := ⟨2, ![1, 5632]⟩

abbrev nBuf : Space → Nat
  | .hbm => 116
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x5632, .f32⟩
  | .hbm, ⟨2, _⟩ => ⟨S3x11264, .f32⟩
  | .hbm, ⟨3, _⟩ => ⟨S11264, .f32⟩
  | .hbm, ⟨4, _⟩ => ⟨S_, .f32⟩
  | .hbm, ⟨5, _⟩ => ⟨S2x11264, .f32⟩
  | .hbm, ⟨6, _⟩ => ⟨S2050x11264, .f32⟩
  | .hbm, ⟨7, _⟩ => ⟨S_, .f32⟩
  | .hbm, ⟨8, _⟩ => ⟨S2x11264, .f32⟩
  | .hbm, ⟨9, _⟩ => ⟨S1x11264, .f32⟩
  | .hbm, ⟨10, _⟩ => ⟨S11264, .f32⟩
  | .hbm, ⟨11, _⟩ => ⟨S2048x11264, .f32⟩
  | .hbm, ⟨12, _⟩ => ⟨S1x11264, .f32⟩
  | .hbm, ⟨13, _⟩ => ⟨S2048x11264, .f32⟩
  | .hbm, ⟨14, _⟩ => ⟨S2048x11264, .f32⟩
  | .hbm, ⟨15, _⟩ => ⟨S_, .f32⟩
  | .hbm, ⟨16, _⟩ => ⟨S2048x11264, .f32⟩
  | .hbm, ⟨17, _⟩ => ⟨S2048x11264, .f32⟩
  | .hbm, ⟨18, _⟩ => ⟨S1x11264, .f32⟩
  | .hbm, ⟨19, _⟩ => ⟨S11264, .f32⟩
  | .hbm, ⟨20, _⟩ => ⟨S2048x11264, .f32⟩
  | .hbm, ⟨21, _⟩ => ⟨S1x11264, .f32⟩
  | .hbm, ⟨22, _⟩ => ⟨S2048x11264, .f32⟩
  | .hbm, ⟨23, _⟩ => ⟨S2048x11264, .f32⟩
  | .hbm, ⟨24, _⟩ => ⟨S2048x11264, .f32⟩
  | .hbm, ⟨25, _⟩ => ⟨S1x11264, .f32⟩
  | .hbm, ⟨26, _⟩ => ⟨S11264, .f32⟩
  | .hbm, ⟨27, _⟩ => ⟨S2048x11264, .f32⟩
  | .hbm, ⟨28, _⟩ => ⟨S1x11264, .f32⟩
  | .hbm, ⟨29, _⟩ => ⟨S2048x11264, .f32⟩
  | .hbm, ⟨30, _⟩ => ⟨S2048x11264, .f32⟩
  | .hbm, ⟨31, _⟩ => ⟨S2048x11264, .f32⟩
  | .hbm, ⟨32, _⟩ => ⟨S1x11264, .f32⟩
  | .hbm, ⟨33, _⟩ => ⟨S2048x11264, .f32⟩
  | .hbm, ⟨34, _⟩ => ⟨S2048x11264, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S_, .f32⟩
  | .hbm, ⟨40, _⟩ => ⟨S2048x5632, .f32⟩
  | .hbm, ⟨41, _⟩ => ⟨S2048x5632, .f32⟩
  | .hbm, ⟨42, _⟩ => ⟨S_, .f32⟩
  | .hbm, ⟨43, _⟩ => ⟨S2048x5632, .f32⟩
  | .hbm, ⟨44, _⟩ => ⟨S2048x5632, .f32⟩
  | .hbm, ⟨45, _⟩ => ⟨S_, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S2048x5632, .f32⟩
  | .hbm, ⟨55, _⟩ => ⟨S2048x5632, .f32⟩
  | .hbm, ⟨56, _⟩ => ⟨S2048x5632, .f32⟩
  | .hbm, ⟨57, _⟩ => ⟨S2048x11264, .f32⟩
  | .hbm, ⟨58, _⟩ => ⟨S_, .f32⟩
  | .hbm, ⟨59, _⟩ => ⟨S11264, .f32⟩
  | .hbm, ⟨60, _⟩ => ⟨S1x11264, .f32⟩
  | .hbm, ⟨61, _⟩ => ⟨S_, .f32⟩
  | .hbm, ⟨62, _⟩ => ⟨S11264, .f32⟩
  | .hbm, ⟨63, _⟩ => ⟨S2048x11264, .f32⟩
  | .hbm, ⟨64, _⟩ => ⟨S2048x11264, .f32⟩
  | .hbm, ⟨65, _⟩ => ⟨S2048x11264, .f32⟩
  | .hbm, ⟨66, _⟩ => ⟨S_, .f32⟩
  | .hbm, ⟨67, _⟩ => ⟨S11264, .f32⟩
  | .hbm, ⟨68, _⟩ => ⟨S1x11264, .f32⟩
  | .hbm, ⟨69, _⟩ => ⟨S_, .f32⟩
  | .hbm, ⟨70, _⟩ => ⟨S11264, .f32⟩
  | .hbm, ⟨71, _⟩ => ⟨S_, .f32⟩
  | .hbm, ⟨72, _⟩ => ⟨S2050x11264, .f32⟩
  | .hbm, ⟨73, _⟩ => ⟨S1x11264, .f32⟩
  | .hbm, ⟨74, _⟩ => ⟨S_, .f32⟩
  | .hbm, ⟨75, _⟩ => ⟨S3x11264, .f32⟩
  | .hbm, ⟨76, _⟩ => ⟨S2048x11264, .f32⟩
  | .hbm, ⟨77, _⟩ => ⟨S2048x11264, .f32⟩
  | .hbm, ⟨78, _⟩ => ⟨S2048x11264, .f32⟩
  | .hbm, ⟨79, _⟩ => ⟨S_, .f32⟩
  | .hbm, ⟨80, _⟩ => ⟨S11264, .f32⟩
  | .hbm, ⟨81, _⟩ => ⟨S1x11264, .f32⟩
  | .hbm, ⟨82, _⟩ => ⟨S_, .f32⟩
  | .hbm, ⟨83, _⟩ => ⟨S11264, .f32⟩
  | .hbm, ⟨84, _⟩ => ⟨S_, .f32⟩
  | .hbm, ⟨85, _⟩ => ⟨S2050x11264, .f32⟩
  | .hbm, ⟨86, _⟩ => ⟨S2050x11264, .f32⟩
  | .hbm, ⟨87, _⟩ => ⟨S1x11264, .f32⟩
  | .hbm, ⟨88, _⟩ => ⟨S_, .f32⟩
  | .hbm, ⟨89, _⟩ => ⟨S3x11264, .f32⟩
  | .hbm, ⟨90, _⟩ => ⟨S3x11264, .f32⟩
  | .hbm, ⟨91, _⟩ => ⟨S2048x11264, .f32⟩
  | .hbm, ⟨92, _⟩ => ⟨S2048x11264, .f32⟩
  | .hbm, ⟨93, _⟩ => ⟨S2048x11264, .f32⟩
  | .hbm, ⟨94, _⟩ => ⟨S_, .f32⟩
  | .hbm, ⟨95, _⟩ => ⟨S11264, .f32⟩
  | .hbm, ⟨96, _⟩ => ⟨S1x11264, .f32⟩
  | .hbm, ⟨97, _⟩ => ⟨S_, .f32⟩
  | .hbm, ⟨98, _⟩ => ⟨S11264, .f32⟩
  | .hbm, ⟨99, _⟩ => ⟨S_, .f32⟩
  | .hbm, ⟨100, _⟩ => ⟨S2050x11264, .f32⟩
  | .hbm, ⟨101, _⟩ => ⟨S2050x11264, .f32⟩
  | .hbm, ⟨102, _⟩ => ⟨S1x11264, .f32⟩
  | .hbm, ⟨103, _⟩ => ⟨S_, .f32⟩
  | .hbm, ⟨104, _⟩ => ⟨S3x11264, .f32⟩
  | .hbm, ⟨105, _⟩ => ⟨S3x11264, .f32⟩
  | .hbm, ⟨106, _⟩ => ⟨S2x11264, .f32⟩
  | .hbm, ⟨107, _⟩ => ⟨S2048x11264, .f32⟩
  | .hbm, ⟨108, _⟩ => ⟨S2048x11264, .bf16⟩
  | .hbm, ⟨109, _⟩ => ⟨S2048x5632, .bf16⟩
  | .hbm, ⟨110, _⟩ => ⟨S2048x5632, .bf16⟩
  | .hbm, ⟨111, _⟩ => ⟨S3x5632, .f32⟩
  | .hbm, ⟨112, _⟩ => ⟨S3x5632, .f32⟩
  | .hbm, ⟨113, _⟩ => ⟨S1x11264, .f32⟩
  | .hbm, ⟨114, _⟩ => ⟨S1x5632, .f32⟩
  | .hbm, ⟨115, _⟩ => ⟨S1x5632, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v30_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v30_1 : Ref sig .tc := ⟨.hbm, 48, rfl⟩
abbrev main_v30_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]
-- ==== PoolBwd.lean ====
abbrev S2048x2048 : Shape := ⟨2, ![2048, 2048]⟩
abbrev S4x512x512 : Shape := ⟨3, ![4, 512, 512]⟩
abbrev S2048 : Shape := ⟨1, ![2048]⟩
abbrev S1x2048 : Shape := ⟨2, ![1, 2048]⟩
abbrev S2048x512 : Shape := ⟨2, ![2048, 512]⟩
abbrev S1x512x512 : Shape := ⟨3, ![1, 512, 512]⟩
abbrev S1x512 : Shape := ⟨2, ![1, 512]⟩
abbrev S512x512 : Shape := ⟨2, ![512, 512]⟩
abbrev S512 : Shape := ⟨1, ![512]⟩

abbrev nBuf : Space → Nat
  | .hbm => 12
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x512x512, .f32⟩
  | .hbm, ⟨3, _⟩ => ⟨S2048, .f32⟩
  | .hbm, ⟨4, _⟩ => ⟨S2048, .f32⟩
  | .hbm, ⟨5, _⟩ => ⟨S4x512x512, .bf16⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S4x512x512, .bf16⟩
  | .hbm, ⟨10, _⟩ => ⟨S1x2048, .f32⟩
  | .hbm, ⟨11, _⟩ => ⟨S1x2048, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PoolRefIdeal.lean ====
abbrev S2048x2048 : Shape := ⟨2, ![2048, 2048]⟩
abbrev S4x512x512 : Shape := ⟨3, ![4, 512, 512]⟩
abbrev S2048 : Shape := ⟨1, ![2048]⟩
abbrev S2048x4x512 : Shape := ⟨3, ![2048, 4, 512]⟩
abbrev S_ : Shape := ⟨0, ![]⟩
abbrev S1x4x512 : Shape := ⟨3, ![1, 4, 512]⟩
abbrev S2049x4x512 : Shape := ⟨3, ![2049, 4, 512]⟩
abbrev S2048x1 : Shape := ⟨2, ![2048, 1]⟩
abbrev S4 : Shape := ⟨1, ![4]⟩
abbrev S1x4 : Shape := ⟨2, ![1, 4]⟩
abbrev S2048x4 : Shape := ⟨2, ![2048, 4]⟩
abbrev S2048x4x1 : Shape := ⟨3, ![2048, 4, 1]⟩
abbrev S2048x4x2 : Shape := ⟨3, ![2048, 4, 2]⟩
abbrev S4x512x2048 : Shape := ⟨3, ![4, 512, 2048]⟩
abbrev S1x2048 : Shape := ⟨2, ![1, 2048]⟩
abbrev S4x2048x512 : Shape := ⟨3, ![4, 2048, 512]⟩

abbrev nBuf : Space → Nat
  | .hbm => 112
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x512x512, .f32⟩
  | .hbm, ⟨3, _⟩ => ⟨S2048, .f32⟩
  | .hbm, ⟨4, _⟩ => ⟨S2048, .f32⟩
  | .hbm, ⟨5, _⟩ => ⟨S2048x4x512, .f32⟩
  | .hbm, ⟨6, _⟩ => ⟨S_, .f32⟩
  | .hbm, ⟨7, _⟩ => ⟨S_, .f32⟩
  | .hbm, ⟨8, _⟩ => ⟨S2048x4x512, .f32⟩
  | .hbm, ⟨9, _⟩ => ⟨S1x4x512, .f32⟩
  | .hbm, ⟨10, _⟩ => ⟨S_, .f32⟩
  | .hbm, ⟨11, _⟩ => ⟨S1x4x512, .f32⟩
  | .hbm, ⟨12, _⟩ => ⟨S2049x4x512, .f32⟩
  | .hbm, ⟨13, _⟩ => ⟨S_, .f32⟩
  | .hbm, ⟨14, _⟩ => ⟨S1x4x512, .f32⟩
  | .hbm, ⟨15, _⟩ => ⟨S2048, .i32⟩
  | .hbm, ⟨16, _⟩ => ⟨S2048x1, .i32⟩
  | .hbm, ⟨17, _⟩ => ⟨S4, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S1x4, .i32⟩
  | .hbm, ⟨22, _⟩ => ⟨S_, .i32⟩
  | .hbm, ⟨23, _⟩ => ⟨S2048x1, .i32⟩
  | .hbm, ⟨24, _⟩ => ⟨S2048x1, .i32⟩
  | .hbm, ⟨25, _⟩ => ⟨S2048x4, .i32⟩
  | .hbm, ⟨26, _⟩ => ⟨S2048x4, .i32⟩
  | .hbm, ⟨27, _⟩ => ⟨S2048x4, .i32⟩
  | .hbm, ⟨28, _⟩ => ⟨S_, .i32⟩
  | .hbm, ⟨29, _⟩ => ⟨S2048x4, .i32⟩
  | .hbm, ⟨30, _⟩ => ⟨S2048x4, .i32⟩
  | .hbm, ⟨31, _⟩ => ⟨S_, .i32⟩
  | .hbm, ⟨32, _⟩ => ⟨S2048x1, .i32⟩
  | .hbm, ⟨33, _⟩ => ⟨S2048x1, .i32⟩
  | .hbm, ⟨34, _⟩ => ⟨S2048x4, .i32⟩
  | .hbm, ⟨35, _⟩ => ⟨S2048x4, .i32⟩
  | .hbm, ⟨36, _⟩ => ⟨S2048x4, .f32⟩
  | .hbm, ⟨37, _⟩ => ⟨S4, .i32⟩
  | .hbm, ⟨38, _⟩ => ⟨S1x4, .i32⟩
  | .hbm, ⟨39, _⟩ => ⟨S_, .i32⟩
  | .hbm, ⟨40, _⟩ => ⟨S2048x4, .i32⟩
  | .hbm, ⟨41, _⟩ => ⟨S2048x4, .i1⟩
  | .hbm, ⟨42, _⟩ => ⟨S_, .i32⟩
  | .hbm, ⟨43, _⟩ => ⟨S2048x4, .i32⟩
  | .hbm, ⟨44, _⟩ => ⟨S2048x4, .i32⟩
  | .hbm, ⟨45, _⟩ => ⟨S2048x4, .i32⟩
  | .hbm, ⟨46, _⟩ => ⟨S_, .i32⟩
  | .hbm, ⟨47, _⟩ => ⟨S1x4, .i32⟩
  | .hbm, ⟨48, _⟩ => ⟨S1x4, .i1⟩
  | .hbm, ⟨49, _⟩ => ⟨S_, .i32⟩
  | .hbm, ⟨50, _⟩ => ⟨S1x4, .i32⟩
  | .hbm, ⟨51, _⟩ => ⟨S1x4, .i32⟩
  | .hbm, ⟨52, _⟩ => ⟨S1x4, .i32⟩
  | .hbm, ⟨53, _⟩ => ⟨S2048x4, .i32⟩
  | .hbm, ⟨54, _⟩ => ⟨S2048x4x1, .i32⟩
  | .hbm, ⟨55, _⟩ => ⟨S2048x4x1, .i32⟩
  | .hbm, ⟨56, _⟩ => ⟨S2048x4x2, .i32⟩
  | .hbm, ⟨57, _⟩ => ⟨S2048x4x512, .f32⟩
  | .hbm, ⟨58, _⟩ => ⟨S2048x4x512, .f32⟩
  | .hbm, ⟨59, _⟩ => ⟨S2048x4x512, .f32⟩
  | .hbm, ⟨60, _⟩ => ⟨S2048x4x1, .f32⟩
  | .hbm, ⟨61, _⟩ => ⟨S2048x4x512, .f32⟩
  | .hbm, ⟨62, _⟩ => ⟨S2048x4x512, .f32⟩
  | .hbm, ⟨63, _⟩ => ⟨S2048x4x512, .f32⟩
  | .hbm, ⟨64, _⟩ => ⟨S4x512x2048, .f32⟩
  | .hbm, ⟨65, _⟩ => ⟨S2048x4x512, .f32⟩
  | .hbm, ⟨66, _⟩ => ⟨S2048x2048, .f32⟩
  | .hbm, ⟨67, _⟩ => ⟨S1x2048, .f32⟩
  | .hbm, ⟨68, _⟩ => ⟨S2048x2048, .f32⟩
  | .hbm, ⟨69, _⟩ => ⟨S2048x2048, .f32⟩
  | .hbm, ⟨70, _⟩ => ⟨S1x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S2048x2048, .f32⟩
  | .hbm, ⟨78, _⟩ => ⟨S2048x2048, .f32⟩
  | .hbm, ⟨79, _⟩ => ⟨S_, .f32⟩
  | .hbm, ⟨80, _⟩ => ⟨S2048, .f32⟩
  | .hbm, ⟨81, _⟩ => ⟨S_, .f32⟩
  | .hbm, ⟨82, _⟩ => ⟨S2048, .f32⟩
  | .hbm, ⟨83, _⟩ => ⟨S1x2048, .f32⟩
  | .hbm, ⟨84, _⟩ => ⟨S_, .f32⟩
  | .hbm, ⟨85, _⟩ => ⟨S2048, .f32⟩
  | .hbm, ⟨86, _⟩ => ⟨S2048x4x512, .f32⟩
  | .hbm, ⟨87, _⟩ => ⟨S4x512x2048, .f32⟩
  | .hbm, ⟨88, _⟩ => ⟨S4x2048x512, .f32⟩
  | .hbm, ⟨89, _⟩ => ⟨S2048x4x512, .f32⟩
  | .hbm, ⟨90, _⟩ => ⟨S4x512x512, .f32⟩
  | .hbm, ⟨91, _⟩ => ⟨S4x512x512, .f32⟩
  | .hbm, ⟨92, _⟩ => ⟨S2048x4x512, .f32⟩
  | .hbm, ⟨93, _⟩ => ⟨S2048x4x512, .f32⟩
  | .hbm, ⟨94, _⟩ => ⟨S2048x4x512, .f32⟩
  | .hbm, ⟨95, _⟩ => ⟨S2048x4x512, .f32⟩
  | .hbm, ⟨96, _⟩ => ⟨S_, .f32⟩
  | .hbm, ⟨97, _⟩ => ⟨S2049x4x512, .f32⟩
  | .hbm, ⟨98, _⟩ => ⟨S_, .f32⟩
  | .hbm, ⟨99, _⟩ => ⟨S2049x4x512, .f32⟩
  | .hbm, ⟨100, _⟩ => ⟨S2049x4x512, .f32⟩
  | .hbm, ⟨101, _⟩ => ⟨S2049x4x512, .f32⟩
  | .hbm, ⟨102, _⟩ => ⟨S1x4x512, .f32⟩
  | .hbm, ⟨103, _⟩ => ⟨S2048x4x512, .f32⟩
  | .hbm, ⟨104, _⟩ => ⟨S_, .f32⟩
  | .hbm, ⟨105, _⟩ => ⟨S_, .f32⟩
  | .hbm, ⟨106, _⟩ => ⟨S2048x4x512, .f32⟩
  | .hbm, ⟨107, _⟩ => ⟨S2048x4x512, .f32⟩
  | .hbm, ⟨108, _⟩ => ⟨S2048x2048, .f32⟩
  | .hbm, ⟨109, _⟩ => ⟨S4x512x512, .bf16⟩
  | .hbm, ⟨110, _⟩ => ⟨S1x2048, .f32⟩
  | .hbm, ⟨111, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_cst_13 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_call1_call0_cst : Ref sig .tc := ⟨.hbm, 104, rfl⟩
abbrev main_call1_call0_v0 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== GluBwd.lean ====
abbrev S2048x2048 : Shape := ⟨2, ![2048, 2048]⟩
abbrev S2048x4096 : Shape := ⟨2, ![2048, 4096]⟩
abbrev S4096 : Shape := ⟨1, ![4096]⟩
abbrev S2048x8x512 : Shape := ⟨3, ![2048, 8, 512]⟩
abbrev S8x2048x512 : Shape := ⟨3, ![8, 2048, 512]⟩
abbrev S1x4096 : Shape := ⟨2, ![1, 4096]⟩
abbrev S512x2048 : Shape := ⟨2, ![512, 2048]⟩
abbrev S1x2048x512 : Shape := ⟨3, ![1, 2048, 512]⟩
abbrev S1x512 : Shape := ⟨2, ![1, 512]⟩
abbrev S512x512 : Shape := ⟨2, ![512, 512]⟩
abbrev S2048x512 : Shape := ⟨2, ![2048, 512]⟩
abbrev S256x2048 : Shape := ⟨2, ![256, 2048]⟩
abbrev S256x4096 : Shape := ⟨2, ![256, 4096]⟩

abbrev nBuf : Space → Nat
  | .hbm => 15
  | .vmem => 27
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S4096, .f32⟩
  | .hbm, ⟨3, _⟩ => ⟨S2048x2048, .f32⟩
  | .hbm, ⟨4, _⟩ => ⟨S2048x2048, .f32⟩
  | .hbm, ⟨5, _⟩ => ⟨S2048x8x512, .f32⟩
  | .hbm, ⟨6, _⟩ => ⟨S8x2048x512, .f32⟩
  | .hbm, ⟨7, _⟩ => ⟨S8x2048x512, .bf16⟩
  | .hbm, ⟨8, _⟩ => ⟨S2048x2048, .bf16⟩
  | .hbm, ⟨9, _⟩ => ⟨S1x4096, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x4096, .bf16⟩
  | .hbm, ⟨14, _⟩ => ⟨S1x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x4096, .bf16⟩
  | .local _ .vmem, ⟨25, _⟩ => ⟨S256x4096, .bf16⟩
  | .local _ .vmem, ⟨26, _⟩ => ⟨S1x4096, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_11 : BitVec 32 := 0#32
  let v25 : BitVec 1 := Scalar.cmpi .ne v24 c0_i32_11
  v25

def k1_cond2 (i : grid1.Coords) : BitVec 1 :=
  let arg0 : BitVec 32 := BitVec.ofNat 32 (i 0).val
  let c0_i32_12 : BitVec 32 := 0#32
  let v26 : BitVec 1 := Scalar.cmpi .sgt arg0 c0_i32_12
  let v27 : BitVec 32 := Scalar.extui v26
  let c0_i32_13 : BitVec 32 := 0#32
  let v28 : BitVec 1 := Scalar.cmpi .ne v27 c0_i32_13
  v28

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== GluRefIdeal.lean ====
abbrev S2048x2048 : Shape := ⟨2, ![2048, 2048]⟩
abbrev S2048x4096 : Shape := ⟨2, ![2048, 4096]⟩
abbrev S4096 : Shape := ⟨1, ![4096]⟩
abbrev S1x4096 : Shape := ⟨2, ![1, 4096]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S4096, .f32⟩
  | .hbm, ⟨3, _⟩ => ⟨S2048x2048, .f32⟩
  | .hbm, ⟨4, _⟩ => ⟨S2048x2048, .f32⟩
  | .hbm, ⟨5, _⟩ => ⟨S2048x4096, .f32⟩
  | .hbm, ⟨6, _⟩ => ⟨S1x4096, .f32⟩
  | .hbm, ⟨7, _⟩ => ⟨S2048x4096, .f32⟩
  | .hbm, ⟨8, _⟩ => ⟨S2048x4096, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x4096, .f32⟩
  | .hbm, ⟨28, _⟩ => ⟨S_, .f32⟩
  | .hbm, ⟨29, _⟩ => ⟨S4096, .f32⟩
  | .hbm, ⟨30, _⟩ => ⟨S1x4096, .f32⟩
  | .hbm, ⟨31, _⟩ => ⟨S_, .f32⟩
  | .hbm, ⟨32, _⟩ => ⟨S4096, .f32⟩
  | .hbm, ⟨33, _⟩ => ⟨S2048x2048, .f32⟩
  | .hbm, ⟨34, _⟩ => ⟨S2048x4096, .bf16⟩
  | .hbm, ⟨35, _⟩ => ⟨S1x4096, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== PrepBwd.lean ====
abbrev S128x64 : Shape := ⟨2, ![128, 64]⟩
abbrev S128 : Shape := ⟨1, ![128]⟩
abbrev S128x64x16 : Shape := ⟨3, ![128, 64, 16]⟩
abbrev S128x1x64 : Shape := ⟨3, ![128, 1, 64]⟩
abbrev S128x1x1 : Shape := ⟨3, ![128, 1, 1]⟩
abbrev S128x16x64 : Shape := ⟨3, ![128, 16, 64]⟩
abbrev S128x1 : Shape := ⟨2, ![128, 1]⟩

abbrev nBuf : Space → Nat
  | .hbm => 23
  | .vmem => 14
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128, .f32⟩
  | .hbm, ⟨3, _⟩ => ⟨S128x64x16, .f32⟩
  | .hbm, ⟨4, _⟩ => ⟨S128x64x16, .f32⟩
  | .hbm, ⟨5, _⟩ => ⟨S128x64, .f32⟩
  | .hbm, ⟨6, _⟩ => ⟨S128x64, .f32⟩
  | .hbm, ⟨7, _⟩ => ⟨S128x64x16, .f32⟩
  | .hbm, ⟨8, _⟩ => ⟨S128x64x16, .f32⟩
  | .hbm, ⟨9, _⟩ => ⟨S128x1x64, .f32⟩
  | .hbm, ⟨10, _⟩ => ⟨S128x1x64, .f32⟩
  | .hbm, ⟨11, _⟩ => ⟨S128x1x1, .f32⟩
  | .hbm, ⟨12, _⟩ => ⟨S128x16x64, .f32⟩
  | .hbm, ⟨13, _⟩ => ⟨S128x16x64, .f32⟩
  | .hbm, ⟨14, _⟩ => ⟨S128x1x64, .f32⟩
  | .hbm, ⟨15, _⟩ => ⟨S128x1x64, .f32⟩
  | .hbm, ⟨16, _⟩ => ⟨S128x16x64, .f32⟩
  | .hbm, ⟨17, _⟩ => ⟨S128x16x64, .f32⟩
  | .hbm, ⟨18, _⟩ => ⟨S128x1x64, .f32⟩
  | .hbm, ⟨19, _⟩ => ⟨S128x1x64, .f32⟩
  | .hbm, ⟨20, _⟩ => ⟨S128x1x1, .f32⟩
  | .hbm, ⟨21, _⟩ => ⟨S128x16x64, .f32⟩
  | .hbm, ⟨22, _⟩ => ⟨S128x16x64, .f32⟩
  | .local _ .vmem, ⟨0, _⟩ => ⟨S128x1x64, .f32⟩
  | .local _ .vmem, ⟨1, _⟩ => ⟨S128x1x64, .f32⟩
  | .local _ .vmem, ⟨2, _⟩ => ⟨S128x1x1, .f32⟩
  | .local _ .vmem, ⟨3, _⟩ => ⟨S128x16x64, .f32⟩
  | .local _ .vmem, ⟨4, _⟩ => ⟨S128x16x64, .f32⟩
  | .local _ .vmem, ⟨5, _⟩ => ⟨S128x1x64, .f32⟩
  | .local _ .vmem, ⟨6, _⟩ => ⟨S128x1x64, .f32⟩
  | .local _ .vmem, ⟨7, _⟩ => ⟨S128x16x64, .f32⟩
  | .local _ .vmem, ⟨8, _⟩ => ⟨S128x16x64, .f32⟩
  | .local _ .vmem, ⟨9, _⟩ => ⟨S128x1x64, .f32⟩
  | .local _ .vmem, ⟨10, _⟩ => ⟨S128x1x64, .f32⟩
  | .local _ .vmem, ⟨11, _⟩ => ⟨S128x1x1, .f32⟩
  | .local _ .vmem, ⟨12, _⟩ => ⟨S128x16x64, .f32⟩
  | .local _ .vmem, ⟨13, _⟩ => ⟨S128x16x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S128x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== PrepRefIdeal.lean ====
abbrev S128x64 : Shape := ⟨2, ![128, 64]⟩
abbrev S128 : Shape := ⟨1, ![128]⟩
abbrev S128x64x16 : Shape := ⟨3, ![128, 64, 16]⟩
abbrev S128x1 : Shape := ⟨2, ![128, 1]⟩
abbrev S_ : Shape := ⟨0, ![]⟩
abbrev S128x64x1 : Shape := ⟨3, ![128, 64, 1]⟩
abbrev S128x1x64 : Shape := ⟨3, ![128, 1, 64]⟩
abbrev S128x1x1 : Shape := ⟨3, ![128, 1, 1]⟩
abbrev S128x16x64 : Shape := ⟨3, ![128, 16, 64]⟩

abbrev nBuf : Space → Nat
  | .hbm => 175
  | .vmem => 0
  | .smem => 0
  | _ => 0

abbrev hbmTy0_0 (i : Nat) : BufTy := match i % 128 with
  | 0 => ⟨S128x64, .f32⟩
  | 1 => ⟨S128x64, .f32⟩
  | 2 => ⟨S128, .f32⟩
  | 3 => ⟨S128x64x16, .f32⟩
  | 4 => ⟨S128x64x16, .f32⟩
  | 5 => ⟨S128x64, .f32⟩
  | 6 => ⟨S128x64, .f32⟩
  | 7 => ⟨S128x64x16, .f32⟩
  | 8 => ⟨S128x64x16, .f32⟩
  | 9 => ⟨S128, .f32⟩
  | 10 => ⟨S128x1, .f32⟩
  | 11 => ⟨S128x64, .f32⟩
  | 12 => ⟨S128x64, .f32⟩
  | 13 => ⟨S128x64, .f32⟩
  | 14 => ⟨S128x64, .f32⟩
  | 15 => ⟨S128x64, .f32⟩
  | 16 => ⟨S128x64, .f32⟩
  | 17 => ⟨S128x64, .f32⟩
  | 18 => ⟨S128x64, .f32⟩
  | 19 => ⟨S128x64, .f32⟩
  | 20 => ⟨S128x64, .f32⟩
  | 21 => ⟨S128x64, .f32⟩
  | 22 => ⟨S128x64, .f32⟩
  | 23 => ⟨S128x64, .f32⟩
  | 24 => ⟨S128x64, .f32⟩
  | 25 => ⟨S128x64, .f32⟩
  | 26 => ⟨S128x64, .f32⟩
  | 27 => ⟨S_, .f32⟩
  | 28 => ⟨S128x64, .f32⟩
  | 29 => ⟨S128x64, .f32⟩
  | 30 => ⟨S128x64, .f32⟩
  | 31 => ⟨S128x64, .f32⟩
  | 32 => ⟨S128x64, .f32⟩
  | 33 => ⟨S128x64, .f32⟩
  | 34 => ⟨S128x64, .f32⟩
  | 35 => ⟨S_, .f32⟩
  | 36 => ⟨S128x64, .f32⟩
  | 37 => ⟨S128x64, .f32⟩
  | 38 => ⟨S128x64, .f32⟩
  | 39 => ⟨S_, .f32⟩
  | 40 => ⟨S128x64, .f32⟩
  | 41 => ⟨S128x64, .f32⟩
  | 42 => ⟨S128x64, .f32⟩
  | 43 => ⟨S128x64, .f32⟩
  | 44 => ⟨S128x64, .f32⟩
  | 45 => ⟨S128x64, .f32⟩
  | 46 => ⟨S_, .f32⟩
  | 47 => ⟨S128x64, .f32⟩
  | 48 => ⟨S128x64, .f32⟩
  | 49 => ⟨S128x64x1, .f32⟩
  | 50 => ⟨S128x64x16, .f32⟩
  | 51 => ⟨S128x64x16, .f32⟩
  | 52 => ⟨S128x64x1, .f32⟩
  | 53 => ⟨S128x64x16, .f32⟩
  | 54 => ⟨S128x64x16, .f32⟩
  | 55 => ⟨S128x64x16, .f32⟩
  | 56 => ⟨S128x64x1, .f32⟩
  | 57 => ⟨S128x64x16, .f32⟩
  | 58 => ⟨S128x64x16, .f32⟩
  | 59 => ⟨S128x64x1, .f32⟩
  | 60 => ⟨S128x64x16, .f32⟩
  | 61 => ⟨S128x64x16, .f32⟩
  | 62 => ⟨S128x64x16, .f32⟩
  | 63 => ⟨S128x64x16, .f32⟩
  | 64 => ⟨S128x64x16, .f32⟩
  | 65 => ⟨S128x64x16, .f32⟩
  | 66 => ⟨S128x64x16, .f32⟩
  | 67 => ⟨S128x64x16, .f32⟩
  | 68 => ⟨S_, .f32⟩
  | 69 => ⟨S128x64, .f32⟩
  | 70 => ⟨S128x64x1, .f32⟩
  | 71 => ⟨S_, .f32⟩
  | 72 => ⟨S128x64, .f32⟩
  | 73 => ⟨S128x64x16, .f32⟩
  | 74 => ⟨S128x64x16, .f32⟩
  | 75 => ⟨S128x64x16, .f32⟩
  | 76 => ⟨S_, .f32⟩
  | 77 => ⟨S128x64, .f32⟩
  | 78 => ⟨S128x64x1, .f32⟩
  | 79 => ⟨S_, .f32⟩
  | 80 => ⟨S128x64, .f32⟩
  | 81 => ⟨S128x64x16, .f32⟩
  | 82 => ⟨S128x64x16, .f32⟩
  | 83 => ⟨S128x64x16, .f32⟩
  | 84 => ⟨S128x64x16, .f32⟩
  | 85 => ⟨S128x64x16, .f32⟩
  | 86 => ⟨S128x64x16, .f32⟩
  | 87 => ⟨S_, .f32⟩
  | 88 => ⟨S128x64, .f32⟩
  | 89 => ⟨S128x64x1, .f32⟩
  | 90 => ⟨S_, .f32⟩
  | 91 => ⟨S128x64, .f32⟩
  | 92 => ⟨S128x64, .f32⟩
  | 93 => ⟨S128x64x16, .f32⟩
  | 94 => ⟨S128x64x16, .f32⟩
  | 95 => ⟨S128x64x16, .f32⟩
  | 96 => ⟨S128x64x16, .f32⟩
  | 97 => ⟨S_, .f32⟩
  | 98 => ⟨S128x64, .f32⟩
  | 99 => ⟨S128x64x1, .f32⟩
  | 100 => ⟨S_, .f32⟩
  | 101 => ⟨S128x64, .f32⟩
  | 102 => ⟨S128x64, .f32⟩
  | 103 => ⟨S128x64, .f32⟩
  | 104 => ⟨S128x64, .f32⟩
  | 105 => ⟨S128x64, .f32⟩
  | 106 => ⟨S128x64, .f32⟩
  | 107 => ⟨S128x64, .f32⟩
  | 108 => ⟨S128x64, .f32⟩
  | 109 => ⟨S128x64, .f32⟩
  | 110 => ⟨S128x64, .f32⟩
  | 111 => ⟨S128x64, .f32⟩
  | 112 => ⟨S128x64, .f32⟩
  | 113 => ⟨S128x64, .f32⟩
  | 114 => ⟨S128x64, .f32⟩
  | 115 => ⟨S128x64, .f32⟩
  | 116 => ⟨S128x64, .f32⟩
  | 117 => ⟨S128x64, .f32⟩
  | 118 => ⟨S128x64, .f32⟩
  | 119 => ⟨S128x64, .f32⟩
  | 120 => ⟨S128x64, .f32⟩
  | 121 => ⟨S128x64, .f32⟩
  | 122 => ⟨S128x64, .f32⟩
  | 123 => ⟨S128x64, .f32⟩
  | 124 => ⟨S128x64, .f32⟩
  | 125 => ⟨S128x64, .f32⟩
  | 126 => ⟨S128x64, .f32⟩
  | 127 => ⟨S128x64, .f32⟩
  | _ => ⟨S128x64, .f32⟩

abbrev hbmTy0_1 (i : Nat) : BufTy := match i % 128 with
  | 0 => ⟨S128x64, .f32⟩
  | 1 => ⟨S128x64, .f32⟩
  | 2 => ⟨S128x64, .f32⟩
  | 3 => ⟨S128x64, .f32⟩
  | 4 => ⟨S128x64, .f32⟩
  | 5 => ⟨S128x64, .f32⟩
  | 6 => ⟨S128x64, .f32⟩
  | 7 => ⟨S128x64, .f32⟩
  | 8 => ⟨S128x64, .f32⟩
  | 9 => ⟨S128x64, .f32⟩
  | 10 => ⟨S128x64, .f32⟩
  | 11 => ⟨S_, .f32⟩
  | 12 => ⟨S128, .f32⟩
  | 13 => ⟨S128x1, .f32⟩
  | 14 => ⟨S128x64, .f32⟩
  | 15 => ⟨S128x64, .f32⟩
  | 16 => ⟨S128x64, .f32⟩
  | 17 => ⟨S128x64, .f32⟩
  | 18 => ⟨S128x64, .f32⟩
  | 19 => ⟨S128x64, .f32⟩
  | 20 => ⟨S128x64, .f32⟩
  | 21 => ⟨S128x64, .f32⟩
  | 22 => ⟨S128x64, .f32⟩
  | 23 => ⟨S_, .f32⟩
  | 24 => ⟨S128, .f32⟩
  | 25 => ⟨S128x1, .f32⟩
  | 26 => ⟨S128x1, .f32⟩
  | 27 => ⟨S128x64, .f32⟩
  | 28 => ⟨S128x64, .f32⟩
  | 29 => ⟨S128x64, .f32⟩
  | 30 => ⟨S128x64, .f32⟩
  | 31 => ⟨S128x64, .f32⟩
  | 32 => ⟨S_, .f32⟩
  | 33 => ⟨S128, .f32⟩
  | 34 => ⟨S128x1, .f32⟩
  | 35 => ⟨S128x1, .f32⟩
  | 36 => ⟨S128x64, .f32⟩
  | 37 => ⟨S128x64, .f32⟩
  | 38 => ⟨S128x64, .f32⟩
  | 39 => ⟨S_, .f32⟩
  | 40 => ⟨S128, .f32⟩
  | 41 => ⟨S128, .f32⟩
  | 42 => ⟨S128x1x64, .f32⟩
  | 43 => ⟨S128x1x64, .f32⟩
  | 44 => ⟨S128x1x1, .f32⟩
  | 45 => ⟨S128x16x64, .f32⟩
  | 46 => ⟨S128x16x64, .f32⟩
  | _ => ⟨S128x64, .f32⟩

abbrev hbmTy (i : Nat) : BufTy := match i / 128 with
  | 0 => hbmTy0_0 i
  | 1 => hbmTy0_1 i
  | _ => ⟨S128x64, .f32⟩

abbrev bufTy : (tb : Table) → Fin (tcTables nBuf tb) → BufTy
  | .hbm, ⟨i, _⟩ => hbmTy i
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_cst_10 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_11 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_cst_12 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_cst_13 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_cst_14 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩

abbrev nD : Nat := 1
abbrev τ : Topo := Topo.v7x

variable {F : FTy → Type} [FloatOps F]
-- ==== PoolFwd.lean ====
abbrev S2048x2048 : Shape := ⟨2, ![2048, 2048]⟩
abbrev S4x512x512 : Shape := ⟨3, ![4, 512, 512]⟩
abbrev S2048 : Shape := ⟨1, ![2048]⟩
abbrev S1x2048 : Shape := ⟨2, ![1, 2048]⟩
abbrev S2048x512 : Shape := ⟨2, ![2048, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x512x512, .f32⟩
  | .hbm, ⟨3, _⟩ => ⟨S2048, .f32⟩
  | .hbm, ⟨4, _⟩ => ⟨S2048, .f32⟩
  | .hbm, ⟨5, _⟩ => ⟨S4x512x512, .bf16⟩
  | .hbm, ⟨6, _⟩ => ⟨S1x2048, .f32⟩
  | .hbm, ⟨7, _⟩ => ⟨S1x2048, .f32⟩
  | .hbm, ⟨8, _⟩ => ⟨S2048x2048, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2048x512, .f32⟩
  | .local _ .vmem, ⟨11, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolFwdRefIdeal.lean ====
abbrev S2048x2048 : Shape := ⟨2, ![2048, 2048]⟩
abbrev S4x512x512 : Shape := ⟨3, ![4, 512, 512]⟩
abbrev S2048 : Shape := ⟨1, ![2048]⟩
abbrev S2048x4x512 : Shape := ⟨3, ![2048, 4, 512]⟩
abbrev S_ : Shape := ⟨0, ![]⟩
abbrev S1x4x512 : Shape := ⟨3, ![1, 4, 512]⟩
abbrev S2049x4x512 : Shape := ⟨3, ![2049, 4, 512]⟩
abbrev S2048x1 : Shape := ⟨2, ![2048, 1]⟩
abbrev S4 : Shape := ⟨1, ![4]⟩
abbrev S1x4 : Shape := ⟨2, ![1, 4]⟩
abbrev S2048x4 : Shape := ⟨2, ![2048, 4]⟩
abbrev S2048x4x1 : Shape := ⟨3, ![2048, 4, 1]⟩
abbrev S2048x4x2 : Shape := ⟨3, ![2048, 4, 2]⟩
abbrev S4x512x2048 : Shape := ⟨3, ![4, 512, 2048]⟩
abbrev S1x2048 : Shape := ⟨2, ![1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S4x512x512, .f32⟩
  | .hbm, ⟨3, _⟩ => ⟨S2048, .f32⟩
  | .hbm, ⟨4, _⟩ => ⟨S2048, .f32⟩
  | .hbm, ⟨5, _⟩ => ⟨S2048x4x512, .f32⟩
  | .hbm, ⟨6, _⟩ => ⟨S_, .f32⟩
  | .hbm, ⟨7, _⟩ => ⟨S_, .f32⟩
  | .hbm, ⟨8, _⟩ => ⟨S2048x4x512, .f32⟩
  | .hbm, ⟨9, _⟩ => ⟨S1x4x512, .f32⟩
  | .hbm, ⟨10, _⟩ => ⟨S_, .f32⟩
  | .hbm, ⟨11, _⟩ => ⟨S1x4x512, .f32⟩
  | .hbm, ⟨12, _⟩ => ⟨S2049x4x512, .f32⟩
  | .hbm, ⟨13, _⟩ => ⟨S2048, .i32⟩
  | .hbm, ⟨14, _⟩ => ⟨S2048x1, .i32⟩
  | .hbm, ⟨15, _⟩ => ⟨S4, .i32⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S1x4, .i32⟩
  | .hbm, ⟨20, _⟩ => ⟨S_, .i32⟩
  | .hbm, ⟨21, _⟩ => ⟨S2048x1, .i32⟩
  | .hbm, ⟨22, _⟩ => ⟨S2048x1, .i32⟩
  | .hbm, ⟨23, _⟩ => ⟨S2048x4, .i32⟩
  | .hbm, ⟨24, _⟩ => ⟨S2048x4, .i32⟩
  | .hbm, ⟨25, _⟩ => ⟨S2048x4, .i32⟩
  | .hbm, ⟨26, _⟩ => ⟨S_, .i32⟩
  | .hbm, ⟨27, _⟩ => ⟨S2048x4, .i32⟩
  | .hbm, ⟨28, _⟩ => ⟨S2048x4, .i32⟩
  | .hbm, ⟨29, _⟩ => ⟨S_, .i32⟩
  | .hbm, ⟨30, _⟩ => ⟨S2048x1, .i32⟩
  | .hbm, ⟨31, _⟩ => ⟨S2048x1, .i32⟩
  | .hbm, ⟨32, _⟩ => ⟨S2048x4, .i32⟩
  | .hbm, ⟨33, _⟩ => ⟨S2048x4, .i32⟩
  | .hbm, ⟨34, _⟩ => ⟨S2048x4, .f32⟩
  | .hbm, ⟨35, _⟩ => ⟨S4, .i32⟩
  | .hbm, ⟨36, _⟩ => ⟨S1x4, .i32⟩
  | .hbm, ⟨37, _⟩ => ⟨S_, .i32⟩
  | .hbm, ⟨38, _⟩ => ⟨S2048x4, .i32⟩
  | .hbm, ⟨39, _⟩ => ⟨S2048x4, .i1⟩
  | .hbm, ⟨40, _⟩ => ⟨S_, .i32⟩
  | .hbm, ⟨41, _⟩ => ⟨S2048x4, .i32⟩
  | .hbm, ⟨42, _⟩ => ⟨S2048x4, .i32⟩
  | .hbm, ⟨43, _⟩ => ⟨S2048x4, .i32⟩
  | .hbm, ⟨44, _⟩ => ⟨S_, .i32⟩
  | .hbm, ⟨45, _⟩ => ⟨S1x4, .i32⟩
  | .hbm, ⟨46, _⟩ => ⟨S1x4, .i1⟩
  | .hbm, ⟨47, _⟩ => ⟨S_, .i32⟩
  | .hbm, ⟨48, _⟩ => ⟨S1x4, .i32⟩
  | .hbm, ⟨49, _⟩ => ⟨S1x4, .i32⟩
  | .hbm, ⟨50, _⟩ => ⟨S1x4, .i32⟩
  | .hbm, ⟨51, _⟩ => ⟨S2048x4, .i32⟩
  | .hbm, ⟨52, _⟩ => ⟨S2048x4x1, .i32⟩
  | .hbm, ⟨53, _⟩ => ⟨S2048x4x1, .i32⟩
  | .hbm, ⟨54, _⟩ => ⟨S2048x4x2, .i32⟩
  | .hbm, ⟨55, _⟩ => ⟨S2048x4x512, .f32⟩
  | .hbm, ⟨56, _⟩ => ⟨S2048x4x512, .f32⟩
  | .hbm, ⟨57, _⟩ => ⟨S2048x4x512, .f32⟩
  | .hbm, ⟨58, _⟩ => ⟨S2048x4x1, .f32⟩
  | .hbm, ⟨59, _⟩ => ⟨S2048x4x512, .f32⟩
  | .hbm, ⟨60, _⟩ => ⟨S2048x4x512, .f32⟩
  | .hbm, ⟨61, _⟩ => ⟨S2048x4x512, .f32⟩
  | .hbm, ⟨62, _⟩ => ⟨S4x512x2048, .f32⟩
  | .hbm, ⟨63, _⟩ => ⟨S2048x4x512, .f32⟩
  | .hbm, ⟨64, _⟩ => ⟨S2048x2048, .f32⟩
  | .hbm, ⟨65, _⟩ => ⟨S1x2048, .f32⟩
  | .hbm, ⟨66, _⟩ => ⟨S2048x2048, .f32⟩
  | .hbm, ⟨67, _⟩ => ⟨S2048x2048, .f32⟩
  | .hbm, ⟨68, _⟩ => ⟨S1x2048, .f32⟩
  | .hbm, ⟨69, _⟩ => ⟨S2048x2048, .f32⟩
  | .hbm, ⟨70, _⟩ => ⟨S2048x2048, .f32⟩
  | .hbm, ⟨71, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== RmsFwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .hbm, ⟨4, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsFwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== QkFwd.lean ====
abbrev S2048x6144 : Shape := ⟨2, ![2048, 6144]⟩
abbrev S128 : Shape := ⟨1, ![128]⟩
abbrev S1x128 : Shape := ⟨2, ![1, 128]⟩
abbrev S2x128 : Shape := ⟨2, ![2, 128]⟩
abbrev S2x1x128 : Shape := ⟨3, ![2, 1, 128]⟩
abbrev S2048x4096 : Shape := ⟨2, ![2048, 4096]⟩
abbrev S2048x128 : Shape := ⟨2, ![2048, 128]⟩
abbrev S1x1x128 : Shape := ⟨3, ![1, 1, 128]⟩
abbrev S2048 : Shape := ⟨1, ![2048]⟩
abbrev S2048x1 : Shape := ⟨2, ![2048, 1]⟩

abbrev nBuf : Space → Nat
  | .hbm => 8
  | .vmem => 6
  | .smem => 0
  | _ => 0

abbrev bufTy : (tb : Table) → Fin (tcTables nBuf tb) → BufTy
  | .hbm, ⟨0, _⟩ => ⟨S2048x6144, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S2x128, .f32⟩
  | .hbm, ⟨6, _⟩ => ⟨S2x1x128, .f32⟩
  | .hbm, ⟨7, _⟩ => ⟨S2048x4096, .bf16⟩
  | .local _ .vmem, ⟨0, _⟩ => ⟨S2048x128, .f32⟩
  | .local _ .vmem, ⟨1, _⟩ => ⟨S2048x128, .f32⟩
  | .local _ .vmem, ⟨2, _⟩ => ⟨S1x1x128, .f32⟩
  | .local _ .vmem, ⟨3, _⟩ => ⟨S1x1x128, .f32⟩
  | .local _ .vmem, ⟨4, _⟩ => ⟨S2048x128, .bf16⟩
  | .local _ .vmem, ⟨5, _⟩ => ⟨S2048x128, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QkFwdRefIdeal.lean ====
abbrev S2048x6144 : Shape := ⟨2, ![2048, 6144]⟩
abbrev S128 : Shape := ⟨1, ![128]⟩
abbrev S2048x3x16x128 : Shape := ⟨4, ![2048, 3, 16, 128]⟩
abbrev S2048x1x16x128 : Shape := ⟨4, ![2048, 1, 16, 128]⟩
abbrev S2048x16x128 : Shape := ⟨3, ![2048, 16, 128]⟩
abbrev S_ : Shape := ⟨0, ![]⟩
abbrev S2048x16 : Shape := ⟨2, ![2048, 16]⟩
abbrev S2048x16x1 : Shape := ⟨3, ![2048, 16, 1]⟩
abbrev S1x1x128 : Shape := ⟨3, ![1, 1, 128]⟩
abbrev S2048x2048 : Shape := ⟨2, ![2048, 2048]⟩
abbrev S2048x4096 : Shape := ⟨2, ![2048, 4096]⟩

abbrev nBuf : Space → Nat
  | .hbm => 44
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S128, .f32⟩
  | .hbm, ⟨2, _⟩ => ⟨S128, .f32⟩
  | .hbm, ⟨3, _⟩ => ⟨S2048x3x16x128, .f32⟩
  | .hbm, ⟨4, _⟩ => ⟨S2048x1x16x128, .f32⟩
  | .hbm, ⟨5, _⟩ => ⟨S2048x16x128, .f32⟩
  | .hbm, ⟨6, _⟩ => ⟨S2048x16x128, .f32⟩
  | .hbm, ⟨7, _⟩ => ⟨S_, .f32⟩
  | .hbm, ⟨8, _⟩ => ⟨S2048x16, .f32⟩
  | .hbm, ⟨9, _⟩ => ⟨S2048x16x1, .f32⟩
  | .hbm, ⟨10, _⟩ => ⟨S_, .f32⟩
  | .hbm, ⟨11, _⟩ => ⟨S2048x16x1, .f32⟩
  | .hbm, ⟨12, _⟩ => ⟨S2048x16x1, .f32⟩
  | .hbm, ⟨13, _⟩ => ⟨S_, .f32⟩
  | .hbm, ⟨14, _⟩ => ⟨S2048x16x1, .f32⟩
  | .hbm, ⟨15, _⟩ => ⟨S2048x16x1, .f32⟩
  | .hbm, ⟨16, _⟩ => ⟨S2048x16x1, .f32⟩
  | .hbm, ⟨17, _⟩ => ⟨S2048x16x128, .f32⟩
  | .hbm, ⟨18, _⟩ => ⟨S2048x16x128, .f32⟩
  | .hbm, ⟨19, _⟩ => ⟨S1x1x128, .f32⟩
  | .hbm, ⟨20, _⟩ => ⟨S2048x16x128, .f32⟩
  | .hbm, ⟨21, _⟩ => ⟨S2048x16x128, .f32⟩
  | .hbm, ⟨22, _⟩ => ⟨S2048x1x16x128, .f32⟩
  | .hbm, ⟨23, _⟩ => ⟨S2048x16x128, .f32⟩
  | .hbm, ⟨24, _⟩ => ⟨S2048x16x128, .f32⟩
  | .hbm, ⟨25, _⟩ => ⟨S_, .f32⟩
  | .hbm, ⟨26, _⟩ => ⟨S2048x16, .f32⟩
  | .hbm, ⟨27, _⟩ => ⟨S2048x16x1, .f32⟩
  | .hbm, ⟨28, _⟩ => ⟨S_, .f32⟩
  | .hbm, ⟨29, _⟩ => ⟨S2048x16x1, .f32⟩
  | .hbm, ⟨30, _⟩ => ⟨S2048x16x1, .f32⟩
  | .hbm, ⟨31, _⟩ => ⟨S_, .f32⟩
  | .hbm, ⟨32, _⟩ => ⟨S2048x16x1, .f32⟩
  | .hbm, ⟨33, _⟩ => ⟨S2048x16x1, .f32⟩
  | .hbm, ⟨34, _⟩ => ⟨S2048x16x1, .f32⟩
  | .hbm, ⟨35, _⟩ => ⟨S2048x16x128, .f32⟩
  | .hbm, ⟨36, _⟩ => ⟨S2048x16x128, .f32⟩
  | .hbm, ⟨37, _⟩ => ⟨S1x1x128, .f32⟩
  | .hbm, ⟨38, _⟩ => ⟨S2048x16x128, .f32⟩
  | .hbm, ⟨39, _⟩ => ⟨S2048x16x128, .f32⟩
  | .hbm, ⟨40, _⟩ => ⟨S2048x2048, .f32⟩
  | .hbm, ⟨41, _⟩ => ⟨S2048x2048, .f32⟩
  | .hbm, ⟨42, _⟩ => ⟨S2048x4096, .f32⟩
  | .hbm, ⟨43, _⟩ => ⟨S2048x4096, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== ConvFwd.lean ====
abbrev S2048x11264 : Shape := ⟨2, ![2048, 11264]⟩
abbrev S3x11264 : Shape := ⟨2, ![3, 11264]⟩
abbrev S11264 : Shape := ⟨1, ![11264]⟩
abbrev S1x11264 : Shape := ⟨2, ![1, 11264]⟩
abbrev S2048x5632 : Shape := ⟨2, ![2048, 5632]⟩
abbrev S2048x256 : Shape := ⟨2, ![2048, 256]⟩
abbrev S3x256 : Shape := ⟨2, ![3, 256]⟩
abbrev S1x256 : Shape := ⟨2, ![1, 256]⟩

abbrev nBuf : Space → Nat
  | .hbm => 5
  | .vmem => 14
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S11264, .f32⟩
  | .hbm, ⟨3, _⟩ => ⟨S1x11264, .f32⟩
  | .hbm, ⟨4, _⟩ => ⟨S2048x5632, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdRefIdeal.lean ====
abbrev S2048x11264 : Shape := ⟨2, ![2048, 11264]⟩
abbrev S3x11264 : Shape := ⟨2, ![3, 11264]⟩
abbrev S11264 : Shape := ⟨1, ![11264]⟩
abbrev S_ : Shape := ⟨0, ![]⟩
abbrev S2x11264 : Shape := ⟨2, ![2, 11264]⟩
abbrev S2050x11264 : Shape := ⟨2, ![2050, 11264]⟩
abbrev S1x11264 : Shape := ⟨2, ![1, 11264]⟩
abbrev S2048x5632 : Shape := ⟨2, ![2048, 5632]⟩

abbrev nBuf : Space → Nat
  | .hbm => 45
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S3x11264, .f32⟩
  | .hbm, ⟨2, _⟩ => ⟨S11264, .f32⟩
  | .hbm, ⟨3, _⟩ => ⟨S_, .f32⟩
  | .hbm, ⟨4, _⟩ => ⟨S2x11264, .f32⟩
  | .hbm, ⟨5, _⟩ => ⟨S2050x11264, .f32⟩
  | .hbm, ⟨6, _⟩ => ⟨S1x11264, .f32⟩
  | .hbm, ⟨7, _⟩ => ⟨S11264, .f32⟩
  | .hbm, ⟨8, _⟩ => ⟨S2048x11264, .f32⟩
  | .hbm, ⟨9, _⟩ => ⟨S1x11264, .f32⟩
  | .hbm, ⟨10, _⟩ => ⟨S2048x11264, .f32⟩
  | .hbm, ⟨11, _⟩ => ⟨S2048x11264, .f32⟩
  | .hbm, ⟨12, _⟩ => ⟨S_, .f32⟩
  | .hbm, ⟨13, _⟩ => ⟨S2048x11264, .f32⟩
  | .hbm, ⟨14, _⟩ => ⟨S2048x11264, .f32⟩
  | .hbm, ⟨15, _⟩ => ⟨S1x11264, .f32⟩
  | .hbm, ⟨16, _⟩ => ⟨S11264, .f32⟩
  | .hbm, ⟨17, _⟩ => ⟨S2048x11264, .f32⟩
  | .hbm, ⟨18, _⟩ => ⟨S1x11264, .f32⟩
  | .hbm, ⟨19, _⟩ => ⟨S2048x11264, .f32⟩
  | .hbm, ⟨20, _⟩ => ⟨S2048x11264, .f32⟩
  | .hbm, ⟨21, _⟩ => ⟨S2048x11264, .f32⟩
  | .hbm, ⟨22, _⟩ => ⟨S1x11264, .f32⟩
  | .hbm, ⟨23, _⟩ => ⟨S11264, .f32⟩
  | .hbm, ⟨24, _⟩ => ⟨S2048x11264, .f32⟩
  | .hbm, ⟨25, _⟩ => ⟨S1x11264, .f32⟩
  | .hbm, ⟨26, _⟩ => ⟨S2048x11264, .f32⟩
  | .hbm, ⟨27, _⟩ => ⟨S2048x11264, .f32⟩
  | .hbm, ⟨28, _⟩ => ⟨S2048x11264, .f32⟩
  | .hbm, ⟨29, _⟩ => ⟨S1x11264, .f32⟩
  | .hbm, ⟨30, _⟩ => ⟨S2048x11264, .f32⟩
  | .hbm, ⟨31, _⟩ => ⟨S2048x11264, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S_, .f32⟩
  | .hbm, ⟨37, _⟩ => ⟨S2048x5632, .f32⟩
  | .hbm, ⟨38, _⟩ => ⟨S2048x5632, .f32⟩
  | .hbm, ⟨39, _⟩ => ⟨S_, .f32⟩
  | .hbm, ⟨40, _⟩ => ⟨S2048x5632, .f32⟩
  | .hbm, ⟨41, _⟩ => ⟨S2048x5632, .f32⟩
  | .hbm, ⟨42, _⟩ => ⟨S2048x5632, .f32⟩
  | .hbm, ⟨43, _⟩ => ⟨S2048x5632, .f32⟩
  | .hbm, ⟨44, _⟩ => ⟨S2048x5632, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== PrepFwd.lean ====
abbrev S128x64 : Shape := ⟨2, ![128, 64]⟩
abbrev S128 : Shape := ⟨1, ![128]⟩
abbrev S128x64x16 : Shape := ⟨3, ![128, 64, 16]⟩
abbrev S128x1x64 : Shape := ⟨3, ![128, 1, 64]⟩
abbrev S128x1x1 : Shape := ⟨3, ![128, 1, 1]⟩
abbrev S128x16x64 : Shape := ⟨3, ![128, 16, 64]⟩

abbrev nBuf : Space → Nat
  | .hbm => 14
  | .vmem => 9
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128, .f32⟩
  | .hbm, ⟨3, _⟩ => ⟨S128x64x16, .f32⟩
  | .hbm, ⟨4, _⟩ => ⟨S128x64x16, .f32⟩
  | .hbm, ⟨5, _⟩ => ⟨S128x1x64, .f32⟩
  | .hbm, ⟨6, _⟩ => ⟨S128x1x64, .f32⟩
  | .hbm, ⟨7, _⟩ => ⟨S128x1x1, .f32⟩
  | .hbm, ⟨8, _⟩ => ⟨S128x16x64, .f32⟩
  | .hbm, ⟨9, _⟩ => ⟨S128x16x64, .f32⟩
  | .hbm, ⟨10, _⟩ => ⟨S128x1x64, .f32⟩
  | .hbm, ⟨11, _⟩ => ⟨S128x1x64, .f32⟩
  | .hbm, ⟨12, _⟩ => ⟨S128x16x64, .f32⟩
  | .hbm, ⟨13, _⟩ => ⟨S128x16x64, .f32⟩
  | .local _ .vmem, ⟨0, _⟩ => ⟨S128x1x64, .f32⟩
  | .local _ .vmem, ⟨1, _⟩ => ⟨S128x1x64, .f32⟩
  | .local _ .vmem, ⟨2, _⟩ => ⟨S128x1x1, .f32⟩
  | .local _ .vmem, ⟨3, _⟩ => ⟨S128x16x64, .f32⟩
  | .local _ .vmem, ⟨4, _⟩ => ⟨S128x16x64, .f32⟩
  | .local _ .vmem, ⟨5, _⟩ => ⟨S128x1x64, .f32⟩
  | .local _ .vmem, ⟨6, _⟩ => ⟨S128x1x64, .f32⟩
  | .local _ .vmem, ⟨7, _⟩ => ⟨S128x16x64, .f32⟩
  | .local _ .vmem, ⟨8, _⟩ => ⟨S128x16x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S128x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== PrepFwdRefIdeal.lean ====
abbrev S128x64 : Shape := ⟨2, ![128, 64]⟩
abbrev S128 : Shape := ⟨1, ![128]⟩
abbrev S128x64x16 : Shape := ⟨3, ![128, 64, 16]⟩
abbrev S128x1 : Shape := ⟨2, ![128, 1]⟩
abbrev S_ : Shape := ⟨0, ![]⟩
abbrev S128x64x1 : Shape := ⟨3, ![128, 64, 1]⟩
abbrev S128x1x64 : Shape := ⟨3, ![128, 1, 64]⟩
abbrev S128x16x64 : Shape := ⟨3, ![128, 16, 64]⟩

abbrev nBuf : Space → Nat
  | .hbm => 53
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128, .f32⟩
  | .hbm, ⟨3, _⟩ => ⟨S128x64x16, .f32⟩
  | .hbm, ⟨4, _⟩ => ⟨S128x64x16, .f32⟩
  | .hbm, ⟨5, _⟩ => ⟨S128, .f32⟩
  | .hbm, ⟨6, _⟩ => ⟨S128x1, .f32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x64, .f32⟩
  | .hbm, ⟨11, _⟩ => ⟨S128x64, .f32⟩
  | .hbm, ⟨12, _⟩ => ⟨S128x64, .f32⟩
  | .hbm, ⟨13, _⟩ => ⟨S128x64, .f32⟩
  | .hbm, ⟨14, _⟩ => ⟨S128x64, .f32⟩
  | .hbm, ⟨15, _⟩ => ⟨S128x64, .f32⟩
  | .hbm, ⟨16, _⟩ => ⟨S128x64, .f32⟩
  | .hbm, ⟨17, _⟩ => ⟨S128x64, .f32⟩
  | .hbm, ⟨18, _⟩ => ⟨S128x64, .f32⟩
  | .hbm, ⟨19, _⟩ => ⟨S128x64, .f32⟩
  | .hbm, ⟨20, _⟩ => ⟨S128x64, .f32⟩
  | .hbm, ⟨21, _⟩ => ⟨S_, .f32⟩
  | .hbm, ⟨22, _⟩ => ⟨S128x64, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S128x64, .f32⟩
  | .hbm, ⟨27, _⟩ => ⟨S128x64, .f32⟩
  | .hbm, ⟨28, _⟩ => ⟨S128x64, .f32⟩
  | .hbm, ⟨29, _⟩ => ⟨S_, .f32⟩
  | .hbm, ⟨30, _⟩ => ⟨S128x64, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S128x64, .f32⟩
  | .hbm, ⟨35, _⟩ => ⟨S128x64x1, .f32⟩
  | .hbm, ⟨36, _⟩ => ⟨S128x64x16, .f32⟩
  | .hbm, ⟨37, _⟩ => ⟨S128x64x16, .f32⟩
  | .hbm, ⟨38, _⟩ => ⟨S128x64x1, .f32⟩
  | .hbm, ⟨39, _⟩ => ⟨S128x64x16, .f32⟩
  | .hbm, ⟨40, _⟩ => ⟨S128x64x16, .f32⟩
  | .hbm, ⟨41, _⟩ => ⟨S128x64x16, .f32⟩
  | .hbm, ⟨42, _⟩ => ⟨S128x64x1, .f32⟩
  | .hbm, ⟨43, _⟩ => ⟨S128x64x16, .f32⟩
  | .hbm, ⟨44, _⟩ => ⟨S128x64x16, .f32⟩
  | .hbm, ⟨45, _⟩ => ⟨S128x64x1, .f32⟩
  | .hbm, ⟨46, _⟩ => ⟨S128x64x16, .f32⟩
  | .hbm, ⟨47, _⟩ => ⟨S128x64x16, .f32⟩
  | .hbm, ⟨48, _⟩ => ⟨S128x64x16, .f32⟩
  | .hbm, ⟨49, _⟩ => ⟨S128x1x64, .f32⟩
  | .hbm, ⟨50, _⟩ => ⟨S128x1x64, .f32⟩
  | .hbm, ⟨51, _⟩ => ⟨S128x16x64, .f32⟩
  | .hbm, ⟨52, _⟩ => ⟨S128x16x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩

abbrev nD : Nat := 1
abbrev τ : Topo := Topo.v7x

variable {F : FTy → Type} [FloatOps F]
-- ==== SbFwd.lean ====
abbrev S2048x4096 : Shape := ⟨2, ![2048, 4096]⟩
abbrev S2048x2048 : Shape := ⟨2, ![2048, 2048]⟩
abbrev S256x256 : Shape := ⟨2, ![256, 256]⟩
abbrev S2048x256 : Shape := ⟨2, ![2048, 256]⟩
abbrev S256x128 : Shape := ⟨2, ![256, 128]⟩
abbrev S256x1 : Shape := ⟨2, ![256, 1]⟩
abbrev S256 : Shape := ⟨1, ![256]⟩

abbrev nBuf : Space → Nat
  | .hbm => 3
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x2048, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S256x256, .bf16⟩
  | .local _ .vmem, ⟨7, _⟩ => ⟨S256x256, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v11 : BitVec 32 := Scalar.addi arg1 c1_i32
  let v12 : BitVec 32 := Scalar.subi v11 c0_i32
  let c1_i32_5 : BitVec 32 := 1#32
  let v14 : BitVec 32 := Scalar.divsi v12 c1_i32_5
  let v15 : BitVec 32 := Scalar.muli v14 c1_i32_5
  let v16 : BitVec 32 := Scalar.addi c0_i32 v15
  let c1_i32_6 : BitVec 32 := 1#32
  ⟨c0_i32, v16, c1_i32_6⟩
def k0_mult1 (i : grid0.Coords) (k0_t1 : Fin (k0_t1_loop i).trips) : BitVec 32 :=
  let arg1 : BitVec 32 := BitVec.ofNat 32 (i 1).val
  let c0_i32 : BitVec 32 := 0#32
  let c1_i32_6 : BitVec 32 := 1#32
  let arg6 : BitVec 32 := Scf.iv c0_i32 c1_i32_6 k0_t1
  let v23 : BitVec 32 := Scalar.subi arg1 arg6
  let c256_i32 : BitVec 32 := 256#32
  let v24 : BitVec 32 := Scalar.muli v23 c256_i32
  v24
def k0_off1 (i : grid0.Coords) (k0_t1 : Fin (k0_t1_loop i).trips) : Fin 2 → Nat :=
  let arg1 : BitVec 32 := BitVec.ofNat 32 (i 1).val
  let c0_i32 : BitVec 32 := 0#32
  let c1_i32_6 : BitVec 32 := 1#32
  let arg6 : BitVec 32 := Scf.iv c0_i32 c1_i32_6 k0_t1
  let v23 : BitVec 32 := Scalar.subi arg1 arg6
  let c256_i32 : BitVec 32 := 256#32
  let v24 : BitVec 32 := Scalar.muli v23 c256_i32
  let v25 : BitVec 32 := v24
  let v27 : Index := Scalar.indexCast v25
  let c0_12 : Index := 0#32
  ![v27.toNat, 0]
def k0_off2 (i : grid0.Coords) (k0_t1 : Fin (k0_t1_loop i).trips) : Fin 2 → Nat :=
  let arg1 : BitVec 32 := BitVec.ofNat 32 (i 1).val
  let c0_i32 : BitVec 32 := 0#32
  let c1_i32_6 : BitVec 32 := 1#32
  let arg6 : BitVec 32 := Scf.iv c0_i32 c1_i32_6 k0_t1
  let v23 : BitVec 32 := Scalar.subi arg1 arg6
  let c256_i32 : BitVec 32 := 256#32
  let v24 : BitVec 32 := Scalar.muli v23 c256_i32
  let v25 : BitVec 32 := v24
  let v74 : Index := Scalar.indexCast v25
  let c128_28 : Index := 128#32
  ![v74.toNat, 128]
@[reducible] def k0_t2_loop (i : grid0.Coords) : Scf.Loop 32 :=
  let c0_i32 : BitVec 32 := 0#32
  let arg1 : BitVec 32 := BitVec.ofNat 32 (i 1).val
  let c1_i32 : BitVec 32 := 1#32
  let v11 : BitVec 32 := Scalar.addi arg1 c1_i32
  let v12 : BitVec 32 := Scalar.subi v11 c0_i32
  let c1_i32_5 : BitVec 32 := 1#32
  let v14 : BitVec 32 := Scalar.divsi v12 c1_i32_5
  let v15 : BitVec 32 := Scalar.muli v14 c1_i32_5
  let v16 : BitVec 32 := Scalar.addi c0_i32 v15
  let v13 : BitVec 32 := Scalar.addi c0_i32 v12
  let c1_i32_7 : BitVec 32 := 1#32
  ⟨v16, v13, c1_i32_7⟩
def k0_mult2 (i : grid0.Coords) (k0_t2 : Fin (k0_t2_loop i).trips) : BitVec 32 :=
  let arg1 : BitVec 32 := BitVec.ofNat 32 (i 1).val
  let c0_i32 : BitVec 32 := 0#32
  let c1_i32 : BitVec 32 := 1#32
  let v11 : BitVec 32 := Scalar.addi arg1 c1_i32
  let v12 : BitVec 32 := Scalar.subi v11 c0_i32
  let c1_i32_5 : BitVec 32 := 1#32
  let v14 : BitVec 32 := Scalar.divsi v12 c1_i32_5
  let v15 : BitVec 32 := Scalar.muli v14 c1_i32_5
  let v16 : BitVec 32 := Scalar.addi c0_i32 v15
  let c1_i32_7 : BitVec 32 := 1#32
  let arg6 : BitVec 32 := Scf.iv v16 c1_i32_7 k0_t2
  let v23 : BitVec 32 := Scalar.subi arg1 arg6
  let c256_i32 : BitVec 32 := 256#32
  let v24 : BitVec 32 := Scalar.muli v23 c256_i32
  v24
def k0_off3 (i : grid0.Coords) (k0_t2 : Fin (k0_t2_loop i).trips) : Fin 2 → Nat :=
  let arg1 : BitVec 32 := BitVec.ofNat 32 (i 1).val
  let c0_i32 : BitVec 32 := 0#32
  let c1_i32 : BitVec 32 := 1#32
  let v11 : BitVec 32 := Scalar.addi arg1 c1_i32
  let v12 : BitVec 32 := Scalar.subi v11 c0_i32
  let c1_i32_5 : BitVec 32 := 1#32
  let v14 : BitVec 32 := Scalar.divsi v12 c1_i32_5
  let v15 : BitVec 32 := Scalar.muli v14 c1_i32_5
  let v16 : BitVec 32 := Scalar.addi c0_i32 v15
  let c1_i32_7 : BitVec 32 := 1#32
  let arg6 : BitVec 32 := Scf.iv v16 c1_i32_7 k0_t2
  let v23 : BitVec 32 := Scalar.subi arg1 arg6
  let c256_i32 : BitVec 32 := 256#32
  let v24 : BitVec 32 := Scalar.muli v23 c256_i32
  let v25 : BitVec 32 := v24
  let v27 : Index := Scalar.indexCast v25
  let c0_12 : Index := 0#32
  ![v27.toNat, 0]
def k0_off4 (i : grid0.Coords) (k0_t2 : Fin (k0_t2_loop i).trips) : Fin 2 → Nat :=
  let arg1 : BitVec 32 := BitVec.ofNat 32 (i 1).val
  let c0_i32 : BitVec 32 := 0#32
  let c1_i32 : BitVec 32 := 1#32
  let v11 : BitVec 32 := Scalar.addi arg1 c1_i32
  let v12 : BitVec 32 := Scalar.subi v11 c0_i32
  let c1_i32_5 : BitVec 32 := 1#32
  let v14 : BitVec 32 := Scalar.divsi v12 c1_i32_5
  let v15 : BitVec 32 := Scalar.muli v14 c1_i32_5
  let v16 : BitVec 32 := Scalar.addi c0_i32 v15
  let c1_i32_7 : BitVec 32 := 1#32
  let arg6 : BitVec 32 := Scf.iv v16 c1_i32_7 k0_t2
  let v23 : BitVec 32 := Scalar.subi arg1 arg6
  let c256_i32 : BitVec 32 := 256#32
  let v24 : BitVec 32 := Scalar.muli v23 c256_i32
  let v25 : BitVec 32 := v24
  let v74 : Index := Scalar.indexCast v25
  let c128_28 : Index := 128#32
  ![v74.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbFwdIdeal.lean ====
variable {F : FTy → Type} [FloatOps F] [Named F]
def κ : String → Option EReal := fun
  | "inv_sqrt_d" => some (((Real.sqrt 128)⁻¹ : ℝ) : EReal)
  | _ => none
-- ==== SbFwdRefIdeal.lean ====
abbrev S2048x4096 : Shape := ⟨2, ![2048, 4096]⟩
abbrev S2048x2048 : Shape := ⟨2, ![2048, 2048]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩

abbrev nBuf : Space → Nat
  | .hbm => 77
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x4096, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x16x128, .f32⟩
  | .hbm, ⟨7, _⟩ => ⟨S16x2048x128, .f32⟩
  | .hbm, ⟨8, _⟩ => ⟨S2048x16x128, .f32⟩
  | .hbm, ⟨9, _⟩ => ⟨S16x2048x128, .f32⟩
  | .hbm, ⟨10, _⟩ => ⟨S2048x16x128, .f32⟩
  | .hbm, ⟨11, _⟩ => ⟨S16x2048x128, .f32⟩
  | .hbm, ⟨12, _⟩ => ⟨S16x2048x2048, .f32⟩
  | .hbm, ⟨13, _⟩ => ⟨S_, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S16x2048x2048, .f32⟩
  | .hbm, ⟨25, _⟩ => ⟨S_, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S16x2048x2048, .i1⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S_, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S16x2048x2048, .f32⟩
  | .hbm, ⟨47, _⟩ => ⟨S16x2048x2048, .i1⟩
  | .hbm, ⟨48, _⟩ => ⟨S16x2048x2048, .f32⟩
  | .hbm, ⟨49, _⟩ => ⟨S16x2048x2048, .f32⟩
  | .hbm, ⟨50, _⟩ => ⟨S16x2048x2048, .f32⟩
  | .hbm, ⟨51, _⟩ => ⟨S16x2048x2048, .f32⟩
  | .hbm, ⟨52, _⟩ => ⟨S16x2048x2048, .f32⟩
  | .hbm, ⟨53, _⟩ => ⟨S16x2048x2048, .f32⟩
  | .hbm, ⟨54, _⟩ => ⟨S16x2048x2048, .f32⟩
  | .hbm, ⟨55, _⟩ => ⟨S16x2048x2048, .f32⟩
  | .hbm, ⟨56, _⟩ => ⟨S16x2048x2048, .f32⟩
  | .hbm, ⟨57, _⟩ => ⟨S_, .f32⟩
  | .hbm, ⟨58, _⟩ => ⟨S_, .f32⟩
  | .hbm, ⟨59, _⟩ => ⟨S16x2048x2048, .i1⟩
  | .hbm, ⟨60, _⟩ => ⟨S16x2048x2048, .f32⟩
  | .hbm, ⟨61, _⟩ => ⟨S16x2048x2048, .f32⟩
  | .hbm, ⟨62, _⟩ => ⟨S_, .f32⟩
  | .hbm, ⟨63, _⟩ => ⟨S_, .f32⟩
  | .hbm, ⟨64, _⟩ => ⟨S16x2048x2048, .f32⟩
  | .hbm, ⟨65, _⟩ => ⟨S16x2048x2048, .f32⟩
  | .hbm, ⟨66, _⟩ => ⟨S16x2048x2048, .f32⟩
  | .hbm, ⟨67, _⟩ => ⟨S16x2048x2048, .f32⟩
  | .hbm, ⟨68, _⟩ => ⟨S_, .f32⟩
  | .hbm, ⟨69, _⟩ => ⟨S_, .f32⟩
  | .hbm, ⟨70, _⟩ => ⟨S16x2048x2048, .i1⟩
  | .hbm, ⟨71, _⟩ => ⟨S16x2048x2048, .f32⟩
  | .hbm, ⟨72, _⟩ => ⟨S16x2048x2048, .f32⟩
  | .hbm, ⟨73, _⟩ => ⟨S16x2048x128, .f32⟩
  | .hbm, ⟨74, _⟩ => ⟨S2048x16x128, .f32⟩
  | .hbm, ⟨75, _⟩ => ⟨S2048x2048, .f32⟩
  | .hbm, ⟨76, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_v22 : Ref sig .tc := ⟨.hbm, 40, rfl⟩
abbrev main_call1_v0 : Ref sig .tc := ⟨.hbm, 41, rfl⟩
abbrev main_call1_call0_cst : Ref sig .tc := ⟨.hbm, 42, rfl⟩
abbrev main_call1_call0_v0 : Ref sig .tc := ⟨.hbm, 43, rfl⟩
abbrev main_call1_call0_v1 : Ref sig .tc := ⟨.hbm, 44, rfl⟩
abbrev main_call1_call0_v2 : Ref sig .tc := ⟨.hbm, 45, rfl⟩
abbrev main_call1_call0_v3 : Ref sig .tc := ⟨.hbm, 46, rfl⟩
abbrev main_call1_call0_v4 : Ref sig .tc := ⟨.hbm, 47, rfl⟩
abbrev main_call1_call0_v5 : Ref sig .tc := ⟨.hbm, 48, rfl⟩
abbrev main_call1_call0_v6 : Ref sig .tc := ⟨.hbm, 49, rfl⟩
abbrev main_call1_call0_v7 : Ref sig .tc := ⟨.hbm, 50, rfl⟩
abbrev main_call1_call0_v8 : Ref sig .tc := ⟨.hbm, 51, rfl⟩
abbrev main_call1_call0_v9 : Ref sig .tc := ⟨.hbm, 52, rfl⟩
abbrev main_call1_call0_v10 : Ref sig .tc := ⟨.hbm, 53, rfl⟩
abbrev main_call1_call0_v11 : Ref sig .tc := ⟨.hbm, 54, rfl⟩
abbrev main_call1_v1 : Ref sig .tc := ⟨.hbm, 55, rfl⟩
abbrev main_v23 : Ref sig .tc := ⟨.hbm, 56, rfl⟩
abbrev main_cst_0 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v24 : Ref sig .tc := ⟨.hbm, 61, rfl⟩
abbrev main_call3_cst : Ref sig .tc := ⟨.hbm, 62, rfl⟩
abbrev main_call3_v0 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩

abbrev nD : Nat := 1
abbrev τ : Topo := Topo.v7x

variable {F : FTy → Type} [FloatOps F]
-- ==== CoreFwd.lean ====
abbrev S2048x2048 : Shape := ⟨2, ![2048, 2048]⟩
abbrev S128x64 : Shape := ⟨2, ![128, 64]⟩
abbrev S128x64x16 : Shape := ⟨3, ![128, 64, 16]⟩
abbrev S128x16x64 : Shape := ⟨3, ![128, 16, 64]⟩
abbrev S2048 : Shape := ⟨1, ![2048]⟩
abbrev S2048x64 : Shape := ⟨2, ![2048, 64]⟩
abbrev S2048x128 : Shape := ⟨2, ![2048, 128]⟩
abbrev S1x8192 : Shape := ⟨2, ![1, 8192]⟩
abbrev S1x2048 : Shape := ⟨2, ![1, 2048]⟩
abbrev S128x128 : Shape := ⟨2, ![128, 128]⟩
abbrev S1x512 : Shape := ⟨2, ![1, 512]⟩
abbrev S1x128 : Shape := ⟨2, ![1, 128]⟩
abbrev S2048x512 : Shape := ⟨2, ![2048, 512]⟩
abbrev S128x1024 : Shape := ⟨2, ![128, 1024]⟩
abbrev S128x512 : Shape := ⟨2, ![128, 512]⟩
abbrev S8x512 : Shape := ⟨2, ![8, 512]⟩

abbrev nBuf : Space → Nat
  | .hbm => 22
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S128x64, .f32⟩
  | .hbm, ⟨2, _⟩ => ⟨S128x64, .f32⟩
  | .hbm, ⟨3, _⟩ => ⟨S128x64x16, .f32⟩
  | .hbm, ⟨4, _⟩ => ⟨S128x64x16, .f32⟩
  | .hbm, ⟨5, _⟩ => ⟨S128x16x64, .f32⟩
  | .hbm, ⟨6, _⟩ => ⟨S128x16x64, .f32⟩
  | .hbm, ⟨7, _⟩ => ⟨S2048, .f32⟩
  | .hbm, ⟨8, _⟩ => ⟨S128x16x64, .f32⟩
  | .hbm, ⟨9, _⟩ => ⟨S128x16x64, .f32⟩
  | .hbm, ⟨10, _⟩ => ⟨S2048x64, .f32⟩
  | .hbm, ⟨11, _⟩ => ⟨S2048x64, .f32⟩
  | .hbm, ⟨12, _⟩ => ⟨S2048x128, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x128, .f32⟩
  | .hbm, ⟨17, _⟩ => ⟨S1x8192, .f32⟩
  | .hbm, ⟨18, _⟩ => ⟨S1x8192, .f32⟩
  | .hbm, ⟨19, _⟩ => ⟨S1x2048, .f32⟩
  | .hbm, ⟨20, _⟩ => ⟨S2048x2048, .f32⟩
  | .hbm, ⟨21, _⟩ => ⟨S2048x2048, .bf16⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S2048x512, .f32⟩
  | .local _ .vmem, ⟨17, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_107 : BitVec 32 := 0#32
  let c256_i32 : BitVec 32 := 256#32
  let v386 : BitVec 32 := Scalar.addi c0_i32_107 c256_i32
  let c1_i32_108 : BitVec 32 := 1#32
  ⟨c0_i32_107, v386, c1_i32_108⟩
def k0_mult1 (k0_t1 : Fin k0_t1_loop.trips) : BitVec 32 :=
  let c0_i32_107 : BitVec 32 := 0#32
  let c1_i32_108 : BitVec 32 := 1#32
  let arg11 : BitVec 32 := Scf.iv c0_i32_107 c1_i32_108 k0_t1
  let c8_i32 : BitVec 32 := 8#32
  let v418 : BitVec 32 := Scalar.muli arg11 c8_i32
  v418
def k0_off1 (k0_t1 : Fin k0_t1_loop.trips) : Fin 2 → Nat :=
  let c0_i32_107 : BitVec 32 := 0#32
  let c1_i32_108 : BitVec 32 := 1#32
  let arg11 : BitVec 32 := Scf.iv c0_i32_107 c1_i32_108 k0_t1
  let c8_i32 : BitVec 32 := 8#32
  let v418 : BitVec 32 := Scalar.muli arg11 c8_i32
  let v419 : BitVec 32 := v418
  let v420 : Index := Scalar.indexCast v419
  let c0_126 : Index := 0#32
  ![v420.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CoreFwdRefIdeal.lean ====
abbrev S2048x2048 : Shape := ⟨2, ![2048, 2048]⟩
abbrev S128x64 : Shape := ⟨2, ![128, 64]⟩
abbrev S128x64x16 : Shape := ⟨3, ![128, 64, 16]⟩
abbrev S128x16x64 : Shape := ⟨3, ![128, 16, 64]⟩
abbrev S2048 : Shape := ⟨1, ![2048]⟩
abbrev S2048x128x16 : Shape := ⟨3, ![2048, 128, 16]⟩
abbrev S128x64x2048 : Shape := ⟨3, ![128, 64, 2048]⟩
abbrev S2048x128x64 : Shape := ⟨3, ![2048, 128, 64]⟩
abbrev S_ : Shape := ⟨0, ![]⟩
abbrev S1x128x64 : Shape := ⟨3, ![1, 128, 64]⟩
abbrev S128x16x2048 : Shape := ⟨3, ![128, 16, 2048]⟩
abbrev S128x16 : Shape := ⟨2, ![128, 16]⟩
abbrev S1x128x16 : Shape := ⟨3, ![1, 128, 16]⟩

abbrev nBuf : Space → Nat
  | .hbm => 87
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S128x64, .f32⟩
  | .hbm, ⟨2, _⟩ => ⟨S128x64, .f32⟩
  | .hbm, ⟨3, _⟩ => ⟨S128x64x16, .f32⟩
  | .hbm, ⟨4, _⟩ => ⟨S128x64x16, .f32⟩
  | .hbm, ⟨5, _⟩ => ⟨S128x16x64, .f32⟩
  | .hbm, ⟨6, _⟩ => ⟨S128x16x64, .f32⟩
  | .hbm, ⟨7, _⟩ => ⟨S2048, .f32⟩
  | .hbm, ⟨8, _⟩ => ⟨S2048x128x16, .f32⟩
  | .hbm, ⟨9, _⟩ => ⟨S128x64x2048, .f32⟩
  | .hbm, ⟨10, _⟩ => ⟨S2048x128x64, .f32⟩
  | .hbm, ⟨11, _⟩ => ⟨S128x64x2048, .f32⟩
  | .hbm, ⟨12, _⟩ => ⟨S2048x128x64, .f32⟩
  | .hbm, ⟨13, _⟩ => ⟨S_, .f32⟩
  | .hbm, ⟨14, _⟩ => ⟨S128x64, .f32⟩
  | .hbm, ⟨15, _⟩ => ⟨S_, .f32⟩
  | .hbm, ⟨16, _⟩ => ⟨S2048x128x64, .f32⟩
  | .hbm, ⟨17, _⟩ => ⟨S_, .f32⟩
  | .hbm, ⟨18, _⟩ => ⟨S2048x128x64, .f32⟩
  | .hbm, ⟨19, _⟩ => ⟨S_, .i32⟩
  | .hbm, ⟨20, _⟩ => ⟨S2048x128x64, .f32⟩
  | .hbm, ⟨21, _⟩ => ⟨S2048x128x64, .f32⟩
  | .hbm, ⟨22, _⟩ => ⟨S128x64, .f32⟩
  | .hbm, ⟨23, _⟩ => ⟨S128x64, .f32⟩
  | .hbm, ⟨24, _⟩ => ⟨S_, .i32⟩
  | .hbm, ⟨25, _⟩ => ⟨S128x64, .f32⟩
  | .hbm, ⟨26, _⟩ => ⟨S128x64, .f32⟩
  | .hbm, ⟨27, _⟩ => ⟨S2048x128x64, .f32⟩
  | .hbm, ⟨28, _⟩ => ⟨S2048x128x64, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S1x128x64, .f32⟩
  | .hbm, ⟨34, _⟩ => ⟨S128x64, .f32⟩
  | .hbm, ⟨35, _⟩ => ⟨S_, .i32⟩
  | .hbm, ⟨36, _⟩ => ⟨S_, .i32⟩
  | .hbm, ⟨37, _⟩ => ⟨S1x128x64, .f32⟩
  | .hbm, ⟨38, _⟩ => ⟨S128x64, .f32⟩
  | .hbm, ⟨39, _⟩ => ⟨S128x64, .f32⟩
  | .hbm, ⟨40, _⟩ => ⟨S128x64, .f32⟩
  | .hbm, ⟨41, _⟩ => ⟨S128x64, .f32⟩
  | .hbm, ⟨42, _⟩ => ⟨S128x64, .f32⟩
  | .hbm, ⟨43, _⟩ => ⟨S128x64, .f32⟩
  | .hbm, ⟨44, _⟩ => ⟨S128x64, .f32⟩
  | .hbm, ⟨45, _⟩ => ⟨S128x64, .f32⟩
  | .hbm, ⟨46, _⟩ => ⟨S128x64, .f32⟩
  | .hbm, ⟨47, _⟩ => ⟨S1x128x64, .f32⟩
  | .hbm, ⟨48, _⟩ => ⟨S_, .i32⟩
  | .hbm, ⟨49, _⟩ => ⟨S_, .i32⟩
  | .hbm, ⟨50, _⟩ => ⟨S2048x128x64, .f32⟩
  | .hbm, ⟨51, _⟩ => ⟨S1x128x64, .f32⟩
  | .hbm, ⟨52, _⟩ => ⟨S_, .i32⟩
  | .hbm, ⟨53, _⟩ => ⟨S_, .i32⟩
  | .hbm, ⟨54, _⟩ => ⟨S2048x128x64, .f32⟩
  | .hbm, ⟨55, _⟩ => ⟨S_, .i32⟩
  | .hbm, ⟨56, _⟩ => ⟨S_, .i32⟩
  | .hbm, ⟨57, _⟩ => ⟨S128x16x2048, .f32⟩
  | .hbm, ⟨58, _⟩ => ⟨S2048x128x16, .f32⟩
  | .hbm, ⟨59, _⟩ => ⟨S128x16x2048, .f32⟩
  | .hbm, ⟨60, _⟩ => ⟨S2048x128x16, .f32⟩
  | .hbm, ⟨61, _⟩ => ⟨S2048x128x16, .f32⟩
  | .hbm, ⟨62, _⟩ => ⟨S128x16, .f32⟩
  | .hbm, ⟨63, _⟩ => ⟨S2048x128x16, .f32⟩
  | .hbm, ⟨64, _⟩ => ⟨S1x128x16, .f32⟩
  | .hbm, ⟨65, _⟩ => ⟨S2048x128x16, .f32⟩
  | .hbm, ⟨66, _⟩ => ⟨S2048x128x16, .f32⟩
  | .hbm, ⟨67, _⟩ => ⟨S2048x128x16, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S_, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S_, .f32⟩
  | .hbm, ⟨80, _⟩ => ⟨S2048x2048, .f32⟩
  | .hbm, ⟨81, _⟩ => ⟨S2048x2048, .f32⟩
  | .hbm, ⟨82, _⟩ => ⟨S_, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_c : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev main_while0c_c_14 : Ref sig .tc := ⟨.hbm, 29, rfl⟩
abbrev main_while0c_v35 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_v0 : Ref sig .tc := ⟨.hbm, 33, rfl⟩
abbrev main_while0b_v35 : Ref sig .tc := ⟨.hbm, 34, rfl⟩
abbrev main_while0b_call1_c : Ref sig .tc := ⟨.hbm, 35, rfl⟩
abbrev main_while0b_call1_c_0 : Ref sig .tc := ⟨.hbm, 36, rfl⟩
abbrev main_while0b_call1_v0 : Ref sig .tc := ⟨.hbm, 37, rfl⟩
abbrev main_while0b_v36 : Ref sig .tc := ⟨.hbm, 38, rfl⟩
abbrev main_while0b_v37 : Ref sig .tc := ⟨.hbm, 39, rfl⟩
abbrev main_while0b_v38 : Ref sig .tc := ⟨.hbm, 40, rfl⟩
abbrev main_while0b_v39 : Ref sig .tc := ⟨.hbm, 41, rfl⟩
abbrev main_while0b_v40 : Ref sig .tc := ⟨.hbm, 42, rfl⟩
abbrev main_while0b_v41 : Ref sig .tc := ⟨.hbm, 43, rfl⟩
abbrev main_while0b_v42 : Ref sig .tc := ⟨.hbm, 44, rfl⟩
abbrev main_while0b_v43 : Ref sig .tc := ⟨.hbm, 45, rfl⟩
abbrev main_while0b_v44 : Ref sig .tc := ⟨.hbm, 46, rfl⟩
abbrev main_while0b_call2_v0 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_v45 : Ref sig .tc := ⟨.hbm, 50, rfl⟩
abbrev main_while0b_call3_v0 : Ref sig .tc := ⟨.hbm, 51, rfl⟩
abbrev main_while0b_call3_c : Ref sig .tc := ⟨.hbm, 52, rfl⟩
abbrev main_while0b_call3_c_0 : Ref sig .tc := ⟨.hbm, 53, rfl⟩
abbrev main_while0b_v46 : Ref sig .tc := ⟨.hbm, 54, rfl⟩
abbrev main_while0b_c_14 : Ref sig .tc := ⟨.hbm, 55, rfl⟩
abbrev main_while0b_v47 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_cst_2 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_cst_3 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_cst_4 : Ref sig .tc := ⟨.hbm, 79, rfl⟩
abbrev main_v29 : Ref sig .tc := ⟨.hbm, 80, rfl⟩
abbrev main_v30 : Ref sig .tc := ⟨.hbm, 81, rfl⟩
abbrev main_cst_5 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩

abbrev nD : Nat := 1
abbrev τ : Topo := Topo.v7x

variable {F : FTy → Type} [FloatOps F]

abbrev main_while0_count : Scf.Loop 32 := ⟨0#32, 2048#32, 1#32⟩
-- ==== CoreBwd.lean ====
abbrev S2048x2048 : Shape := ⟨2, ![2048, 2048]⟩
abbrev S128x64 : Shape := ⟨2, ![128, 64]⟩
abbrev S128x64x16 : Shape := ⟨3, ![128, 64, 16]⟩
abbrev S128x16x64 : Shape := ⟨3, ![128, 16, 64]⟩
abbrev S2048 : Shape := ⟨1, ![2048]⟩
abbrev S2048x64 : Shape := ⟨2, ![2048, 64]⟩
abbrev S2048x128 : Shape := ⟨2, ![2048, 128]⟩
abbrev S1x8192 : Shape := ⟨2, ![1, 8192]⟩
abbrev S1x2048 : Shape := ⟨2, ![1, 2048]⟩
abbrev S128x128 : Shape := ⟨2, ![128, 128]⟩
abbrev S1x512 : Shape := ⟨2, ![1, 512]⟩
abbrev S1x128 : Shape := ⟨2, ![1, 128]⟩
abbrev S2048x512 : Shape := ⟨2, ![2048, 512]⟩
abbrev S128x1024 : Shape := ⟨2, ![128, 1024]⟩
abbrev S128x512 : Shape := ⟨2, ![128, 512]⟩
abbrev S8x512 : Shape := ⟨2, ![8, 512]⟩
abbrev S128 : Shape := ⟨1, ![128]⟩
abbrev S512 : Shape := ⟨1, ![512]⟩

abbrev nBuf : Space → Nat
  | .hbm => 29
  | .vmem => 50
  | .smem => 0
  | _ => 0

abbrev bufTy : (tb : Table) → Fin (tcTables nBuf tb) → BufTy
  | .hbm, ⟨0, _⟩ => ⟨S2048x2048, .f32⟩
  | .hbm, ⟨1, _⟩ => ⟨S128x64, .f32⟩
  | .hbm, ⟨2, _⟩ => ⟨S128x64, .f32⟩
  | .hbm, ⟨3, _⟩ => ⟨S128x64x16, .f32⟩
  | .hbm, ⟨4, _⟩ => ⟨S128x64x16, .f32⟩
  | .hbm, ⟨5, _⟩ => ⟨S128x16x64, .f32⟩
  | .hbm, ⟨6, _⟩ => ⟨S128x16x64, .f32⟩
  | .hbm, ⟨7, _⟩ => ⟨S2048, .f32⟩
  | .hbm, ⟨8, _⟩ => ⟨S2048x2048, .f32⟩
  | .hbm, ⟨9, _⟩ => ⟨S128x16x64, .f32⟩
  | .hbm, ⟨10, _⟩ => ⟨S128x16x64, .f32⟩
  | .hbm, ⟨11, _⟩ => ⟨S2048x64, .f32⟩
  | .hbm, ⟨12, _⟩ => ⟨S2048x64, .f32⟩
  | .hbm, ⟨13, _⟩ => ⟨S2048x128, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x128, .f32⟩
  | .hbm, ⟨18, _⟩ => ⟨S1x8192, .f32⟩
  | .hbm, ⟨19, _⟩ => ⟨S1x8192, .f32⟩
  | .hbm, ⟨20, _⟩ => ⟨S1x2048, .f32⟩
  | .hbm, ⟨21, _⟩ => ⟨S2048x2048, .f32⟩
  | .hbm, ⟨22, _⟩ => ⟨S2048x2048, .bf16⟩
  | .hbm, ⟨23, _⟩ => ⟨S2048x2048, .f32⟩
  | .hbm, ⟨24, _⟩ => ⟨S2048x128, .f32⟩
  | .hbm, ⟨25, _⟩ => ⟨S2048x128, .f32⟩
  | .hbm, ⟨26, _⟩ => ⟨S1x8192, .f32⟩
  | .hbm, ⟨27, _⟩ => ⟨S1x8192, .f32⟩
  | .hbm, ⟨28, _⟩ => ⟨S1x2048, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S2048x512, .f32⟩
  | .local _ .vmem, ⟨17, _⟩ => ⟨S2048x512, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x128, .f32⟩
  | .local _ .vmem, ⟨33, _⟩ => ⟨S1x128, .f32⟩
  | .local _ .vmem, ⟨34, _⟩ => ⟨S2048x128, .f32⟩
  | .local _ .vmem, ⟨35, _⟩ => ⟨S2048x128, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S128x128, .f32⟩
  | .local _ .vmem, ⟨40, _⟩ => ⟨S1x512, .f32⟩
  | .local _ .vmem, ⟨41, _⟩ => ⟨S1x512, .f32⟩
  | .local _ .vmem, ⟨42, _⟩ => ⟨S1x512, .f32⟩
  | .local _ .vmem, ⟨43, _⟩ => ⟨S1x512, .f32⟩
  | .local _ .vmem, ⟨44, _⟩ => ⟨S1x128, .f32⟩
  | .local _ .vmem, ⟨45, _⟩ => ⟨S1x128, .f32⟩
  | .local _ .vmem, ⟨46, _⟩ => ⟨S2048x512, .f32⟩
  | .local _ .vmem, ⟨47, _⟩ => ⟨S2048x512, .f32⟩
  | .local _ .vmem, ⟨48, _⟩ => ⟨S2048x512, .f32⟩
  | .local _ .vmem, ⟨49, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_stg13_1 : Ref sig .tc := ⟨.vmem, 45, rfl⟩
abbrev cc1_scratch0 : Ref sig .tc := ⟨.vmem, 46, rfl⟩
abbrev cc1_scratch1 : Ref sig .tc := ⟨.vmem, 47, rfl⟩
abbrev cc1_scratch2 : Ref sig .tc := ⟨.vmem, 48, rfl⟩
abbrev cc1_scratch3 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_107 : BitVec 32 := 0#32
  let c256_i32 : BitVec 32 := 256#32
  let v386 : BitVec 32 := Scalar.addi c0_i32_107 c256_i32
  let c1_i32_108 : BitVec 32 := 1#32
  ⟨c0_i32_107, v386, c1_i32_108⟩
def k0_mult1 (k0_t1 : Fin k0_t1_loop.trips) : BitVec 32 :=
  let c0_i32_107 : BitVec 32 := 0#32
  let c1_i32_108 : BitVec 32 := 1#32
  let arg11 : BitVec 32 := Scf.iv c0_i32_107 c1_i32_108 k0_t1
  let c8_i32 : BitVec 32 := 8#32
  let v418 : BitVec 32 := Scalar.muli arg11 c8_i32
  v418
def k0_off1 (k0_t1 : Fin k0_t1_loop.trips) : Fin 2 → Nat :=
  let c0_i32_107 : BitVec 32 := 0#32
  let c1_i32_108 : BitVec 32 := 1#32
  let arg11 : BitVec 32 := Scf.iv c0_i32_107 c1_i32_108 k0_t1
  let c8_i32 : BitVec 32 := 8#32
  let v418 : BitVec 32 := Scalar.muli arg11 c8_i32
  let v419 : BitVec 32 := v418
  let v420 : Index := Scalar.indexCast v419
  let c0_126 : Index := 0#32
  ![v420.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

@[reducible] def k1_t1_loop : Scf.Loop 32 :=
  let c0_i32_123 : BitVec 32 := 0#32
  let c256_i32 : BitVec 32 := 256#32
  let v422 : BitVec 32 := Scalar.addi c0_i32_123 c256_i32
  let c1_i32_124 : BitVec 32 := 1#32
  ⟨c0_i32_123, v422, c1_i32_124⟩
def k1_mult1 (k1_t1 : Fin k1_t1_loop.trips) : BitVec 32 :=
  let c0_i32_123 : BitVec 32 := 0#32
  let c1_i32_124 : BitVec 32 := 1#32
  let arg19 : BitVec 32 := Scf.iv c0_i32_123 c1_i32_124 k1_t1
  let c8_i32 : BitVec 32 := 8#32
  let v885 : BitVec 32 := Scalar.muli arg19 c8_i32
  v885
def k1_off1 (k1_t1 : Fin k1_t1_loop.trips) : Fin 2 → Nat :=
  let c0_i32_123 : BitVec 32 := 0#32
  let c1_i32_124 : BitVec 32 := 1#32
  let arg19 : BitVec 32 := Scf.iv c0_i32_123 c1_i32_124 k1_t1
  let c8_i32 : BitVec 32 := 8#32
  let v885 : BitVec 32 := Scalar.muli arg19 c8_i32
  let v886 : BitVec 32 := v885
  let v887 : Index := Scalar.indexCast v886
  let c0_289 : Index := 0#32
  ![v887.toNat, 0]
@[reducible] def k1_t2_loop : Scf.Loop 32 :=
  let c0_i32_210 : BitVec 32 := 0#32
  let c256_i32_211 : BitVec 32 := 256#32
  let v712 : BitVec 32 := Scalar.addi c0_i32_210 c256_i32_211
  let c1_i32_212 : BitVec 32 := 1#32
  ⟨c0_i32_210, v712, c1_i32_212⟩
def k1_mult2 (k1_t2 : Fin k1_t2_loop.trips) : BitVec 32 :=
  let c255_i32 : BitVec 32 := 255#32
  let c0_i32_210 : BitVec 32 := 0#32
  let c1_i32_212 : BitVec 32 := 1#32
  let arg19 : BitVec 32 := Scf.iv c0_i32_210 c1_i32_212 k1_t2
  let v885 : BitVec 32 := Scalar.subi c255_i32 arg19
  let c8_i32 : BitVec 32 := 8#32
  let v886 : BitVec 32 := Scalar.muli v885 c8_i32
  v886
def k1_off2 (k1_t2 : Fin k1_t2_loop.trips) : Fin 2 → Nat :=
  let c255_i32 : BitVec 32 := 255#32
  let c0_i32_210 : BitVec 32 := 0#32
  let c1_i32_212 : BitVec 32 := 1#32
  let arg19 : BitVec 32 := Scf.iv c0_i32_210 c1_i32_212 k1_t2
  let v885 : BitVec 32 := Scalar.subi c255_i32 arg19
  let c8_i32 : BitVec 32 := 8#32
  let v886 : BitVec 32 := Scalar.muli v885 c8_i32
  let v887 : BitVec 32 := v886
  let v888 : Index := Scalar.indexCast v887
  let c0_289 : Index := 0#32
  ![v888.toNat, 0]
@[reducible] def k1_t3_loop : Scf.Loop 32 :=
  let c0_i32_215 : BitVec 32 := 0#32
  let c256_i32_216 : BitVec 32 := 256#32
  let v716 : BitVec 32 := Scalar.addi c0_i32_215 c256_i32_216
  let c1_i32_217 : BitVec 32 := 1#32
  ⟨c0_i32_215, v716, c1_i32_217⟩
def k1_mult3 (k1_t3 : Fin k1_t3_loop.trips) : BitVec 32 :=
  let c0_i32_215 : BitVec 32 := 0#32
  let c1_i32_217 : BitVec 32 := 1#32
  let arg19 : BitVec 32 := Scf.iv c0_i32_215 c1_i32_217 k1_t3
  let c8_i32 : BitVec 32 := 8#32
  let v885 : BitVec 32 := Scalar.muli arg19 c8_i32
  v885
def k1_mult4 (k1_t3 : Fin k1_t3_loop.trips) : BitVec 32 :=
  let c0_i32_215 : BitVec 32 := 0#32
  let c1_i32_217 : BitVec 32 := 1#32
  let arg19 : BitVec 32 := Scf.iv c0_i32_215 c1_i32_217 k1_t3
  let c1_i32_289 : BitVec 32 := 1#32
  let v887 : BitVec 32 := Scalar.subi arg19 c1_i32_289
  let c0_i32_290 : BitVec 32 := 0#32
  let v888 : BitVec 32 := Scalar.maxsi v887 c0_i32_290
  let c8_i32_291 : BitVec 32 := 8#32
  let v889 : BitVec 32 := Scalar.muli v888 c8_i32_291
  v889
def k1_off3 (k1_t3 : Fin k1_t3_loop.trips) : Fin 2 → Nat :=
  let c0_i32_215 : BitVec 32 := 0#32
  let c1_i32_217 : BitVec 32 := 1#32
  let arg19 : BitVec 32 := Scf.iv c0_i32_215 c1_i32_217 k1_t3
  let c1_i32_289 : BitVec 32 := 1#32
  let v887 : BitVec 32 := Scalar.subi arg19 c1_i32_289
  let c0_i32_290 : BitVec 32 := 0#32
  let v888 : BitVec 32 := Scalar.maxsi v887 c0_i32_290
  let c8_i32_291 : BitVec 32 := 8#32
  let v889 : BitVec 32 := Scalar.muli v888 c8_i32_291
  let v890 : BitVec 32 := v889
  let v895 : Index := Scalar.indexCast v890
  let c0_296 : Index := 0#32
  ![v895.toNat, 0]
def k1_off4 (k1_t3 : Fin k1_t3_loop.trips) : Fin 2 → Nat :=
  let c0_i32_215 : BitVec 32 := 0#32
  let c1_i32_217 : BitVec 32 := 1#32
  let arg19 : BitVec 32 := Scf.iv c0_i32_215 c1_i32_217 k1_t3
  let c8_i32 : BitVec 32 := 8#32
  let v885 : BitVec 32 := Scalar.muli arg19 c8_i32
  let v886 : BitVec 32 := v885
  let v900 : Index := Scalar.indexCast v886
  let c0_298 : Index := 0#32
  ![v900.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S128x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== MmNn.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmNnRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MmNt.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .f32⟩
  | .local _ .vmem, ⟨5, _⟩ => ⟨S512x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmNtRefIdeal.lean ====
abbrev S2048x2048 : Shape := ⟨2, ![2048, 2048]⟩
abbrev S5632x2048 : Shape := ⟨2, ![5632, 2048]⟩
abbrev S2048x5632 : Shape := ⟨2, ![2048, 5632]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmTn.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmTnRefIdeal.lean ====
abbrev S2048x5632 : Shape := ⟨2, ![2048, 5632]⟩
abbrev S2048x2048 : Shape := ⟨2, ![2048, 2048]⟩
abbrev S5632x2048 : Shape := ⟨2, ![5632, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .hbm, ⟨3, _⟩ => ⟨S5632x2048, .f32⟩
  | .hbm, ⟨4, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmNnPieces.lean ====
abbrev S2048x2048 : Shape := ⟨2, ![2048, 2048]⟩
abbrev S8x2048x1408 : Shape := ⟨3, ![8, 2048, 1408]⟩
abbrev S2048x11264 : Shape := ⟨2, ![2048, 11264]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x11264, .f32⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .f32⟩
  | .local _ .vmem, ⟨5, _⟩ => ⟨S512x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmNnPiecesRefIdeal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x8x1408, .bf16⟩
  | .hbm, ⟨3, _⟩ => ⟨S2048x11264, .bf16⟩
  | .hbm, ⟨4, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmTnPieces.lean ====
abbrev S2048x2048 : Shape := ⟨2, ![2048, 2048]⟩
abbrev S2048x5632 : Shape := ⟨2, ![2048, 5632]⟩
abbrev S8x2048x1408 : Shape := ⟨3, ![8, 2048, 1408]⟩
abbrev S2048x512 : Shape := ⟨2, ![2048, 512]⟩
abbrev S2048x1408 : Shape := ⟨2, ![2048, 1408]⟩
abbrev S1x512x1408 : Shape := ⟨3, ![1, 512, 1408]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S8x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x512x1408, .bf16⟩
  | .local _ .vmem, ⟨7, _⟩ => ⟨S1x512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmTnPiecesRefIdeal.lean ====
abbrev S2048x2048 : Shape := ⟨2, ![2048, 2048]⟩
abbrev S2048x5632 : Shape := ⟨2, ![2048, 5632]⟩
abbrev S2048x11264 : Shape := ⟨2, ![2048, 11264]⟩
abbrev S2048x8x1408 : Shape := ⟨3, ![2048, 8, 1408]⟩
abbrev S8x2048x1408 : Shape := ⟨3, ![8, 2048, 1408]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2048x2048, .bf16⟩
  | .hbm, ⟨4, _⟩ => ⟨S2048x11264, .bf16⟩
  | .hbm, ⟨5, _⟩ => ⟨S2048x11264, .f32⟩
  | .hbm, ⟨6, _⟩ => ⟨S2048x8x1408, .f32⟩
  | .hbm, ⟨7, _⟩ => ⟨S8x2048x1408, .f32⟩
  | .hbm, ⟨8, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MmNtPieces.lean ====
abbrev S2048x5632 : Shape := ⟨2, ![2048, 5632]⟩
abbrev S8x2048x1408 : Shape := ⟨3, ![8, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S8x2048x1408, .bf16⟩
  | .hbm, ⟨3, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmNtPiecesRefIdeal.lean ====
abbrev S2048x5632 : Shape := ⟨2, ![2048, 5632]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S11264x2048 : Shape := ⟨2, ![11264, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S8x2048x1408, .bf16⟩
  | .hbm, ⟨3, _⟩ => ⟨S2048x8x1408, .bf16⟩
  | .hbm, ⟨4, _⟩ => ⟨S2048x11264, .bf16⟩
  | .hbm, ⟨5, _⟩ => ⟨S2048x11264, .bf16⟩
  | .hbm, ⟨6, _⟩ => ⟨S11264x2048, .bf16⟩
  | .hbm, ⟨7, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SumParts.lean ====
abbrev S8x1472x512 : Shape := ⟨3, ![8, 1472, 512]⟩
abbrev S1472x512 : Shape := ⟨2, ![1472, 512]⟩
abbrev S8x64x512 : Shape := ⟨3, ![8, 64, 512]⟩
abbrev S64x512 : Shape := ⟨2, ![64, 512]⟩
abbrev S1x64x512 : Shape := ⟨3, ![1, 64, 512]⟩

abbrev nBuf : Space → Nat
  | .hbm => 2
  | .vmem => 4
  | .smem => 0
  | _ => 0

abbrev bufTy : (tb : Table) → Fin (tcTables nBuf tb) → BufTy
  | .hbm, ⟨0, _⟩ => ⟨S8x1472x512, .f32⟩
  | .hbm, ⟨1, _⟩ => ⟨S1472x512, .f32⟩
  | .local _ .vmem, ⟨0, _⟩ => ⟨S8x64x512, .f32⟩
  | .local _ .vmem, ⟨1, _⟩ => ⟨S8x64x512, .f32⟩
  | .local _ .vmem, ⟨2, _⟩ => ⟨S64x512, .f32⟩
  | .local _ .vmem, ⟨3, _⟩ => ⟨S64x512, .f32⟩
  | _, _ => ⟨S8x1472x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![23], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumRefIdeal.lean ====
abbrev S8x1472x512 : Shape := ⟨3, ![8, 1472, 512]⟩
abbrev S_ : Shape := ⟨0, ![]⟩
abbrev S1472x512 : Shape := ⟨2, ![1472, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x1472x512, .f32⟩
  | .hbm, ⟨1, _⟩ => ⟨S_, .f32⟩
  | .hbm, ⟨2, _⟩ => ⟨S1472x512, .f32⟩
  | _, _ => ⟨S8x1472x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamFlat.lean ====
abbrev S1216x512 : Shape := ⟨2, ![1216, 512]⟩
abbrev S64x512 : Shape := ⟨2, ![64, 512]⟩

abbrev nBuf : Space → Nat
  | .hbm => 7
  | .vmem => 14
  | .smem => 0
  | _ => 0

abbrev bufTy : (tb : Table) → Fin (tcTables nBuf tb) → BufTy
  | .hbm, ⟨0, _⟩ => ⟨S1216x512, .f32⟩
  | .hbm, ⟨1, _⟩ => ⟨S1216x512, .f32⟩
  | .hbm, ⟨2, _⟩ => ⟨S1216x512, .f32⟩
  | .hbm, ⟨3, _⟩ => ⟨S1216x512, .f32⟩
  | .hbm, ⟨4, _⟩ => ⟨S1216x512, .f32⟩
  | .hbm, ⟨5, _⟩ => ⟨S1216x512, .f32⟩
  | .hbm, ⟨6, _⟩ => ⟨S1216x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | _, _ => ⟨S1216x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S1216x512 : Shape := ⟨2, ![1216, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1216x512, .f32⟩
  | .hbm, ⟨1, _⟩ => ⟨S1216x512, .f32⟩
  | .hbm, ⟨2, _⟩ => ⟨S1216x512, .f32⟩
  | .hbm, ⟨3, _⟩ => ⟨S1216x512, .f32⟩
  | .hbm, ⟨4, _⟩ => ⟨S_, .f32⟩
  | .hbm, ⟨5, _⟩ => ⟨S1216x512, .f32⟩
  | .hbm, ⟨6, _⟩ => ⟨S1216x512, .f32⟩
  | .hbm, ⟨7, _⟩ => ⟨S_, .f32⟩
  | .hbm, ⟨8, _⟩ => ⟨S1216x512, .f32⟩
  | .hbm, ⟨9, _⟩ => ⟨S1216x512, .f32⟩
  | .hbm, ⟨10, _⟩ => ⟨S1216x512, .f32⟩
  | .hbm, ⟨11, _⟩ => ⟨S_, .f32⟩
  | .hbm, ⟨12, _⟩ => ⟨S1216x512, .f32⟩
  | .hbm, ⟨13, _⟩ => ⟨S1216x512, .f32⟩
  | .hbm, ⟨14, _⟩ => ⟨S1216x512, .f32⟩
  | .hbm, ⟨15, _⟩ => ⟨S_, .f32⟩
  | .hbm, ⟨16, _⟩ => ⟨S1216x512, .f32⟩
  | .hbm, ⟨17, _⟩ => ⟨S1216x512, .f32⟩
  | .hbm, ⟨18, _⟩ => ⟨S1216x512, .f32⟩
  | .hbm, ⟨19, _⟩ => ⟨S_, .f32⟩
  | .hbm, ⟨20, _⟩ => ⟨S1216x512, .f32⟩
  | .hbm, ⟨21, _⟩ => ⟨S1216x512, .f32⟩
  | .hbm, ⟨22, _⟩ => ⟨S_, .f32⟩
  | .hbm, ⟨23, _⟩ => ⟨S1216x512, .f32⟩
  | .hbm, ⟨24, _⟩ => ⟨S1216x512, .f32⟩
  | .hbm, ⟨25, _⟩ => ⟨S1216x512, .f32⟩
  | .hbm, ⟨26, _⟩ => ⟨S_, .f32⟩
  | .hbm, ⟨27, _⟩ => ⟨S1216x512, .f32⟩
  | .hbm, ⟨28, _⟩ => ⟨S1216x512, .f32⟩
  | .hbm, ⟨29, _⟩ => ⟨S1216x512, .f32⟩
  | .hbm, ⟨30, _⟩ => ⟨S_, .f32⟩
  | .hbm, ⟨31, _⟩ => ⟨S1216x512, .f32⟩
  | .hbm, ⟨32, _⟩ => ⟨S1216x512, .f32⟩
  | .hbm, ⟨33, _⟩ => ⟨S1216x512, .f32⟩
  | .hbm, ⟨34, _⟩ => ⟨S_, .f32⟩
  | .hbm, ⟨35, _⟩ => ⟨S1216x512, .f32⟩
  | .hbm, ⟨36, _⟩ => ⟨S1216x512, .f32⟩
  | _, _ => ⟨S1216x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Base.lean ====
/- Sums and constants of the extended reals: the facts the value modules share. -/
module

public import Idealize.ShloMosaic.Lib.Pipeline.ValueKit
public import Idealize.ShloMosaic.Lib.Pointwise
public import Idealize.ShloMosaic.Lib.Claim

@[expose] public section

noncomputable section

namespace Cert.Base

open Idealize.ShloMosaic Idealize.ShloMosaic.TcCoe

/-- A finite sum of reals, read in the extended reals. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite nonnegative factor moves out of a sum of extended reals, on the right. -/
theorem sum_mul {ι : Type*} (s : Finset ι) (f : ι → EReal) {c : EReal} (h0 : 0 ≤ c) (ht : c ≠ ⊤) :
    ∑ k ∈ s, f k * c = (∑ k ∈ s, f k) * c := by
  classical
  induction s using Finset.induction_on with
  | empty => simp
  | insert a s ha ih =>
    rw [Finset.sum_insert ha, Finset.sum_insert ha, ih, EReal.right_distrib_of_nonneg_of_ne_top h0 ht]

/-- The same, on the left. -/
theorem mul_sum {ι : Type*} (s : Finset ι) (f : ι → EReal) {c : EReal} (h0 : 0 ≤ c) (ht : c ≠ ⊤) :
    ∑ k ∈ s, c * f k = c * ∑ k ∈ s, f k := by
  simp only [mul_comm c]
  exact sum_mul s f h0 ht

/-- The float words of the constants, as reals. -/
theorem word_half : Ideal.ofBits .f32 0x3F000000#32 = ((1 / 2 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_2048 : Ideal.ofBits .f32 0x45000000#32 = ((2048 : ℝ) : EReal) := by
  simp [Ideal.ofBits, Ideal.ieee, -EReal.coe_mul]; norm_num

theorem word_inv_2048 : Ideal.ofBits .f32 0x3A000000#32 = ((1 / 2048 : ℝ) : EReal) := by
  simp [Ideal.ofBits, Ideal.ieee, -EReal.coe_mul]; norm_num

theorem word_inv_4096 : Ideal.ofBits .f32 0x39800000#32 = ((1 / 4096 : ℝ) : EReal) := by
  simp [Ideal.ofBits, Ideal.ieee, -EReal.coe_mul]; norm_num

/-! ### Finiteness from a printed precondition -/

theorem and_one {a b : BitVec 1} (h : IntOp.andi a b = 1#1) : a = 1#1 ∧ b = 1#1 := by
  revert h; revert a b; decide

theorem real_of_abs_lt_top {x : EReal} (h : max x (-x) < ⊤) : x = ((x.toReal : ℝ) : EReal) := by
  refine (EReal.coe_toReal ?_ ?_).symm
  · rintro rfl; simp at h
  · rintro rfl; simp at h

/-- An element whose magnitude compares below the infinity's word is a real number (a `bf16` array). -/
theorem real_of_word_bf16 {x : EReal} (h : FloatOps.cmpf (F := Ideal) (φ := .bf16) .olt (FloatOps.hostAbsf (F := Ideal) (φ := .bf16) x) (FloatOps.ofBits (F := Ideal) .bf16 0x7F80#16) = 1#1) :
    x = ((x.toReal : ℝ) : EReal) := by
  have e : Ideal.ofBits .bf16 0x7F80#16 = ⊤ := by simp [Ideal.ofBits, Ideal.ieee]
  refine real_of_abs_lt_top ?_
  by_contra hn
  revert h
  show ¬ (BitVec.ofBool (decide (max x (-x) < Ideal.ofBits .bf16 0x7F80#16)) = 1#1)
  rw [e, decide_eq_false hn]
  decide

/-- The same for an `f32` array. -/
theorem real_of_word_f32 {x : EReal} (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have e : Ideal.ofBits .f32 0x7F800000#32 = ⊤ := by simp [Ideal.ofBits, Ideal.ieee]
  refine real_of_abs_lt_top ?_
  by_contra hn
  revert h
  show ¬ (BitVec.ofBool (decide (max x (-x) < Ideal.ofBits .f32 0x7F800000#32)) = 1#1)
  rw [e, decide_eq_false hn]
  decide

/-- An array of real numbers is a real array. -/
theorem real_fun {ι : Type*} {X : ι → EReal} (h : ∀ y, X y = (((X y).toReal : ℝ) : EReal)) :
    ∃ x : ι → ℝ, X = fun y => (x y : EReal) :=
  ⟨fun y => (X y).toReal, funext h⟩

/-- A sum over the two leading axes of an array of rank 3. -/
theorem sum_axes01 {a b n : ℕ} (h : (⟨3, ![a, b, n]⟩ : Shape).ReducesTo [0, 1] ⟨1, ![n]⟩)
    (v : (⟨3, ![a, b, n]⟩ : Shape).Idx → EReal) (c : EReal) (j : (⟨1, ![n]⟩ : Shape).Idx) :
    Ideal.hostReduceAdd h v c j = c + ∑ r : Fin a, ∑ s : Fin b, v (ix3 r s (j 0)) := by
  have e : ∀ (r : Fin a) (s : Fin b) (k : Fin n), h.drop (ix3 r s k) = ix1 k := fun r s k => funext fun d => by
    match d with
    | ⟨0, _⟩ => exact Fin.ext rfl
  obtain ⟨k, rfl⟩ : ∃ k : Fin n, j = ix1 k := ⟨j 0, eq_ix1 j⟩
  refine congrArg (c + ·) ?_
  rw [Finset.sum_filter, sum_idx3]
  refine Finset.sum_congr rfl fun r _ => Finset.sum_congr rfl fun s _ => ?_
  rw [Finset.sum_eq_single k]
  · rw [e, if_pos rfl]; rfl
  · intro k' _ hk
    rw [e, if_neg]
    exact fun q => hk (congrFun q 0)
  · exact fun q => absurd (Finset.mem_univ k) q

end Cert.Base

end
-- ==== Proof.Loss.lean ====
module

public import proofs.«01_k».proof.Defs
public import proofs.«01_k».proof.Proof.Base
public import proofs.«01_k».proof.Proof.Gen.LossHeadIdeal.Value
public import proofs.«01_k».proof.Proof.Gen.LossRefIdeal.Read

@[expose] public section

set_option maxRecDepth 16384

noncomputable section

open Idealize.ShloMosaic Idealize.ShloMosaic.TcCoe Idealize.SL.Sem
open Idealize.ShloMosaic.Pipeline (Dat)

namespace Cert.LossHeadIdeal.Loss

open Cert.LossHeadIdeal Cert.LossHeadIdeal.Gen

open LossRefIdeal.Read

variable (m : (ℓ : Loc nD τ sig) → Buf (Elt Ideal) ℓ)

/-- The prediction and the target, as the entry memory holds them. -/
abbrev Y (c : Dev nD) : FVec Ideal S2048x2048 .f32 := m ((c : Thread nD τ).loc main_arg0)
abbrev T (c : Dev nD) : FVec Ideal S2048x2048 .f32 := m ((c : Thread nD τ).loc main_arg1)

theorem idx_val : ∀ t : Fin cfg0.N, win0_0.index t = ![t.val, 0]
    ∧ win0_1.index t = ![t.val, 0]
    ∧ win0_2.index t = ![t.val, 0]
    ∧ win0_3.index t = ![0, 0] :=
  (by decide +kernel : ∀ t : Fin grid0.N, _)

theorem N_lt (t : Fin cfg0.N) : t.val < 8 := lt_of_lt_of_eq t.isLt N_0

/-- The reference's gradient at an index: (½·1/2048)·(2·(y − t)), one factor 1/2048. -/
theorem grad_apply (a0 a1 : FVec Ideal S2048x2048 .f32) (i) :
    val_main_v14 (F := Ideal) a0 a1 i = (a0 i - a1 i) * Ideal.ofBits .f32 0x3A000000#32 := by
  simp only [val_main_v14_apply, val_main_v13_apply,
    val_main_v12_apply, val_main_v11_apply, val_main_v10_apply,
    val_main_v9_apply, val_main_v3_apply, val_main_v2_apply,
    val_main_v0_apply, val_main_cst_apply, val_main_cst_4_apply,
    val_main_cst_5_apply, val_main_cst_6_apply, Ideal.ofBits_def, Ideal.mulf_def,
    Ideal.subf_def, Ideal.hostDivf_def, Ideal.ofBits_one_f32, mul_one, Base.word_half, Base.word_two, Base.word_2048,
    Base.word_inv_2048]
  rw [Ideal.div_coe (by norm_num), ← mul_assoc, ← EReal.coe_mul, ← EReal.coe_mul, mul_comm]
  norm_num

/-- The reference's loss: ½ the sum over the rows of the mean of the squared errors of a row. -/
theorem loss_apply (a0 a1 : FVec Ideal S2048x2048 .f32) (j) :
    val_main_v15 (F := Ideal) a0 a1 j
      = ∑ r : Fin 2048, (∑ l : Fin 2048, (a0 (ix2 r l) - a1 (ix2 r l)) * (a0 (ix2 r l) - a1 (ix2 r l)))
          * Ideal.ofBits .f32 0x39800000#32 := by
  pointwise [val_main_v15, val_main_v8, val_main_cst_3, val_main_v7, val_main_cst_2, val_main_v6, val_main_v5,
    val_main_cst_1, val_main_v4, val_main_cst_0, val_main_v1, val_main_v0]
  rw [Base.word_half, Base.word_2048, Base.word_inv_4096,
    ← Base.mul_sum _ _ (EReal.coe_nonneg.mpr (by norm_num)) (EReal.coe_ne_top _)]
  refine Finset.sum_congr rfl fun r _ => ?_
  rw [Ideal.div_coe (by norm_num), mul_comm, mul_assoc, ← EReal.coe_mul]
  norm_num

theorem final_2 (c : Dev nD) : (dats m 0 c).arrAt 2 (cfgs 0).N
    = val_main_v14 (F := Ideal) (Y m c) (T m c) := by
  refine (dats m 0 c).arrAt_eq_of_covers 2 _ (by decide +kernel) fun t hf y => ?_
  have ht := N_lt t
  blk_simp
  rw [after0_2, grad_apply]
  by_cases h : t.val % 8 = 0
  · rw [outsAt0_A m c t h (by omega)]; dsimp only; frame_out
    pointwise [k0_pay1, k0_pay2]
    blk_point [iblk, V, idx_val t]
  · rw [outsAt0_B m c t h (by omega)]; dsimp only; frame_out
    pointwise [k0_pay1, k0_pay2]
    blk_point [iblk, V, idx_val t]

/-- What the body adds to its running sum does not depend on the lane. -/
theorem part_apply (x0 x1 : FVec Ideal S256x2048 .f32) (j : S8x128.Idx) :
    k0_pay3 (F := Ideal) x0 x1 j
      = ∑ r : Fin 256, (∑ l : Fin 2048, (x0 (ix2 r l) - x1 (ix2 r l)) * (x0 (ix2 r l) - x1 (ix2 r l)))
          * Ideal.ofBits .f32 0x39800000#32 := by
  pointwise [k0_pay3, k0_pay1]
  rw [Base.word_inv_4096, Base.sum_mul]
  · exact EReal.coe_nonneg.mpr (by norm_num)
  · exact EReal.coe_ne_top _

theorem final_3 (c : Dev nD) : (dats m 0 c).arrAt 3 (cfgs 0).N
    = val_main_v15 (F := Ideal) (Y m c) (T m c) := by
  refine (dats m 0 c).arrAt_eq_of_after_last 3 t0_7 (by decide +kernel) _ fun j => ?_
  blk_simp
  rw [after0_3, Pipeline.eq_sum_fin_of_reset_step_apply_last (fun n h => (outsAt0 m c n h).2) 8 (fun _ => 0)
    (fun t j => k0_pay3 (iblk m c 0 t) (iblk m c 1 t) j)
    (fun t h j => by have := N_lt t; rw [outsAt0_A m c t h (by omega)]; frame_out; exact (zero_add _).symm)
    (fun t h j => by have := N_lt t; rw [outsAt0_B m c t h (by omega)]; frame_out; pointwise [k0_pay4])
    (le_of_eq N_0) t0_7 rfl j, zero_add, loss_apply]
  simp only [part_apply]
  refine Fin.sum_mul_add_congr fun t k hl => ?_
  blk_point [iblk, V, idx_val t]

/-- The pair: the kernel's two results are the reference's. -/
theorem value : Cert.algebraic_LossHeadIdeal_LossRefIdeal := by
  pair_intro
  · run_from Cert.LossHeadIdeal.Gen.run_main m g
  · hlo_run
    · exact (val_main_v14_eq _ _).trans (final_2 m c).symm
    · exact (val_main_v15_eq _ _).trans (final_3 m c).symm

end Cert.LossHeadIdeal.Loss

end
-- ==== Proof.SbLoops.lean ====
module

public import proofs.«01_k».proof.Defs
public import proofs.«01_k».proof.Proof.Gen.SbBwdIdeal.Frame
public import proofs.«01_k».proof.Proof.Gen.SbBwdIdeal.Launch
public import proofs.«01_k».proof.Proof.Gen.SbBwdIdeal.Skeleton
public import proofs.«01_k».proof.Proof.Gen.SbBwdIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-!
The loops of the stick-breaking attention's gradient: the contents of the buffers they write and the values
they carry, trip by trip.
-/

@[expose] public section

set_option maxRecDepth 16384

noncomputable section

namespace Cert.SbBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.SbBwdIdeal Cert.SbBwdIdeal.Gen

variable {F : FTy → Type} [FloatOps F] [Named F]

local notation "𝕄" => MT nD τ sig Unit (Elt F) ℕ (UR sig nD τ) ℕ

section Loops

variable (c : Dev nD) (i : grid0.Coords)
  (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8x256x256 .f32) (harg9 : arg9.IsWhole) (arg10 : Memref sig .tc .vmem S8x256x256 .f32) (harg10 : arg10.IsWhole)
  (arg1 : BitVec 32) (v0 v1 : Vec F S256x128 .bf16)

abbrev R1 (k : Fin (k0_t1_loop i).trips) := Rect.unit (s := S2048x128) (k0_off1 i k) S256x128.size (k0_off1_inb i k)
abbrev R2 (k : Fin (k0_t1_loop i).trips) := Rect.unit (s := S8x256x256) (k0_off2 i k) S1x256x256.size (k0_off2_inb i k)
abbrev R5 (k : Fin (k0_t3_loop i).trips) := Rect.unit (s := S8x256x256) (k0_off5 i k) S1x256x256.size (k0_off5_inb i k)
abbrev R6 (k : Fin (k0_t3_loop i).trips) := Rect.unit (s := S2048x128) (k0_off6 i k) S256x128.size (k0_off6_inb i k)

/-- The first loop's carried row sums after `k` trips. -/
def run1 (X3 : Buf (Elt F) (arg3.view.loc (c : Thread nD τ))) : ℕ → FVec F S256x1 .f32
  | 0 => k0_pay31
  | k + 1 => if h : k < (k0_t1_loop i).trips then
      k0_pay33 (run1 X3 k) (k0_pay12 i arg1 v0 0#32 1#32 ⟨k, h⟩ (arg3.view.readAt (Elt F) (R1 i ⟨k, h⟩).toLoadRect X3))
    else run1 X3 k

/-- The weights' buffer after `k` trips of the first loop. -/
def buf9 (X3 : Buf (Elt F) (arg3.view.loc (c : Thread nD τ))) (f : Buf (Elt F) (arg9.view.loc (c : Thread nD τ))) :
    ℕ → Buf (Elt F) (arg9.view.loc (c : Thread nD τ))
  | 0 => f
  | k + 1 => if h : k < (k0_t1_loop i).trips then
      arg9.view.writes (Elt F) (buf9 X3 f k) [⟨R2 i ⟨k, h⟩, k0_pay13 i arg1 v0 k0_pay27 0#32 1#32 ⟨k, h⟩ (run1 c i arg3 arg1 v0 X3 k) (arg3.view.readAt (Elt F) (R1 i ⟨k, h⟩).toLoadRect X3)⟩]
    else buf9 X3 f k

/-- The log-sigmoids' buffer after `k` trips of the first loop. -/
def buf10 (X3 : Buf (Elt F) (arg3.view.loc (c : Thread nD τ))) (f : Buf (Elt F) (arg10.view.loc (c : Thread nD τ))) :
    ℕ → Buf (Elt F) (arg10.view.loc (c : Thread nD τ))
  | 0 => f
  | k + 1 => if h : k < (k0_t1_loop i).trips then
      arg10.view.writes (Elt F) (buf10 X3 f k) [⟨R2 i ⟨k, h⟩, k0_pay32 (k0_pay11 v0 (arg3.view.readAt (Elt F) (R1 i ⟨k, h⟩).toLoadRect X3))⟩]
    else buf10 X3 f k

set_option warn.classDefReducibility false in
/-- The first loop: the score block's keys stay, the weights' and log-sigmoids' buffers gain a block a trip. -/
@[sl_loop] def loopInv1 (X3 : Buf (Elt F) (arg3.view.loc (c : Thread nD τ))) (f9 : Buf (Elt F) (arg9.view.loc (c : Thread nD τ)))
    (f10 : Buf (Elt F) (arg10.view.loc (c : Thread nD τ))) :
    LoopInv (M := 𝕄) Idealize.ShloMosaic.frame (wpE (defs₀ (F := F)) Variants.none (c : Thread nD τ) none) Set.univ
      (k0_t1_loop i).lb (k0_t1_loop i).ub (k0_t1_loop i).st (k0_t1_ok i) (k0_pay31 (F := F))
      (k0_t1_body (F := F) i arg2 harg2 arg3 harg3 arg4 harg4 arg5 harg5 arg6 harg6 arg7 harg7 arg8 harg8 arg9 harg9 arg10 harg10 arg1 v0) where
  inv k acc := iprop((arg3.view.loc (c : Thread nD τ) ↦[arg3.view.set]{fullShare} X3)
    ∗ (arg9.view.loc (c : Thread nD τ) ↦[arg9.view.set]{fullShare} buf9 c i arg3 arg9 arg1 v0 X3 f9 k)
    ∗ (arg10.view.loc (c : Thread nD τ) ↦[arg10.view.set]{fullShare} buf10 c i arg3 arg10 v0 X3 f10 k)
    ∗ ⌜acc = run1 c i arg3 arg1 v0 X3 k⌝)
  step k acc := by
    have hk := k.isLt
    simp only [buf9, buf10, run1, dif_pos hk]
    iintro ⟨H3, H9, H10, %ha⟩
    subst ha
    unfold k0_t1_body
    simp only [k0_part1_eq_skeleton]
    sl_exec
    sl_step
    isplitl [H3]; · iexact H3
    isplitl [H9]; · iexact H9
    isplitl [H10]; · iexact H10
    ipureintro; rfl

set_option warn.classDefReducibility false in
/-- The second loop makes no trip. -/
@[sl_loop] def loopInv2 (v25 : BitVec 32) (init : FVec F S256x1 .f32) :
    LoopInv (M := 𝕄) Idealize.ShloMosaic.frame (wpE (defs₀ (F := F)) Variants.none (c : Thread nD τ) none) Set.univ
      (k0_t2_loop i).lb (k0_t2_loop i).ub (k0_t2_loop i).st (k0_t2_ok i) init
      (k0_t2_body (F := F) i arg2 harg2 arg3 harg3 arg4 harg4 arg5 harg5 arg6 harg6 arg7 harg7 arg8 harg8 arg9 harg9 arg10 harg10 arg1 v0 v25) where
  inv k acc := iprop(⌜acc = init⌝)
  step k _ := absurd k.isLt (Nat.not_lt.2 (Nat.le_trans (k0_t2_abs i).2.1 (Nat.zero_le _)))

/-- The third loop's carried pair after `k` trips: the gradient of the queries and the row sums. -/
def run3 (X3 : Buf (Elt F) (arg3.view.loc (c : Thread nD τ))) (X4 : Buf (Elt F) (arg4.view.loc (c : Thread nD τ)))
    (f9 : Buf (Elt F) (arg9.view.loc (c : Thread nD τ))) (f10 : Buf (Elt F) (arg10.view.loc (c : Thread nD τ))) :
    ℕ → FVec F S256x128 .f32 × FVec F S256x1 .f32
  | 0 => (k0_pay36, k0_pay37)
  | k + 1 => if h : k < (k0_t3_loop i).trips then
      (k0_pay1 (run3 X3 X4 f9 f10 k).1
          (k0_pay22 i arg1 v1 k0_pay28 0#32 1#32 ⟨k, h⟩ (run3 X3 X4 f9 f10 k).2 (arg9.view.readAt (Elt F) (R5 i ⟨k, h⟩).toLoadRect f9)
            (arg10.view.readAt (Elt F) (R5 i ⟨k, h⟩).toLoadRect f10) (arg4.view.readAt (Elt F) (R6 i ⟨k, h⟩).toLoadRect X4)
            (arg3.view.readAt (Elt F) (R6 i ⟨k, h⟩).toLoadRect X3)),
        k0_pay4 (run3 X3 X4 f9 f10 k).2
          (k0_pay20 v1 (arg9.view.readAt (Elt F) (R5 i ⟨k, h⟩).toLoadRect f9) (arg4.view.readAt (Elt F) (R6 i ⟨k, h⟩).toLoadRect X4)))
    else run3 X3 X4 f9 f10 k

/-- The keys' gradient's buffer after `k` trips of the third loop. -/
def buf7 (X3 : Buf (Elt F) (arg3.view.loc (c : Thread nD τ))) (X4 : Buf (Elt F) (arg4.view.loc (c : Thread nD τ)))
    (f9 : Buf (Elt F) (arg9.view.loc (c : Thread nD τ))) (f10 : Buf (Elt F) (arg10.view.loc (c : Thread nD τ)))
    (f : Buf (Elt F) (arg7.view.loc (c : Thread nD τ))) :
    ℕ → Buf (Elt F) (arg7.view.loc (c : Thread nD τ))
  | 0 => f
  | k + 1 => if h : k < (k0_t3_loop i).trips then
      arg7.view.writes (Elt F) (buf7 X3 X4 f9 f10 f k) [⟨R6 i ⟨k, h⟩,
        k0_pay2 v0 (k0_pay21 i arg1 v1 k0_pay28 0#32 1#32 ⟨k, h⟩ (run3 c i arg3 arg4 arg9 arg10 arg1 v1 X3 X4 f9 f10 k).2
            (arg9.view.readAt (Elt F) (R5 i ⟨k, h⟩).toLoadRect f9) (arg10.view.readAt (Elt F) (R5 i ⟨k, h⟩).toLoadRect f10)
            (arg4.view.readAt (Elt F) (R6 i ⟨k, h⟩).toLoadRect X4))
          (arg7.view.readAt (Elt F) (R6 i ⟨k, h⟩).toLoadRect (buf7 X3 X4 f9 f10 f k))⟩]
    else buf7 X3 X4 f9 f10 f k

/-- The values' gradient's buffer after `k` trips of the third loop. -/
def buf8 (f9 : Buf (Elt F) (arg9.view.loc (c : Thread nD τ))) (f : Buf (Elt F) (arg8.view.loc (c : Thread nD τ))) :
    ℕ → Buf (Elt F) (arg8.view.loc (c : Thread nD τ))
  | 0 => f
  | k + 1 => if h : k < (k0_t3_loop i).trips then
      arg8.view.writes (Elt F) (buf8 f9 f k) [⟨R6 i ⟨k, h⟩,
        k0_pay3 v1 (k0_pay19 (arg9.view.readAt (Elt F) (R5 i ⟨k, h⟩).toLoadRect f9))
          (arg8.view.readAt (Elt F) (R6 i ⟨k, h⟩).toLoadRect (buf8 f9 f k))⟩]
    else buf8 f9 f k

set_option warn.classDefReducibility false in
/-- The third loop: the keys, values, weights and log-sigmoids stay, the two gradients' buffers gain a block a trip. -/
@[sl_loop] def loopInv3 (X3 : Buf (Elt F) (arg3.view.loc (c : Thread nD τ))) (X4 : Buf (Elt F) (arg4.view.loc (c : Thread nD τ)))
    (f9 : Buf (Elt F) (arg9.view.loc (c : Thread nD τ))) (f10 : Buf (Elt F) (arg10.view.loc (c : Thread nD τ)))
    (f7 : Buf (Elt F) (arg7.view.loc (c : Thread nD τ))) (f8 : Buf (Elt F) (arg8.view.loc (c : Thread nD τ))) :
    LoopInv (M := 𝕄) Idealize.ShloMosaic.frame (wpE (defs₀ (F := F)) Variants.none (c : Thread nD τ) none) Set.univ
      (k0_t3_loop i).lb (k0_t3_loop i).ub (k0_t3_loop i).st (k0_t3_ok i) ((k0_pay36 (F := F)), (k0_pay37 (F := F)))
      (k0_t3_body (F := F) i arg2 harg2 arg3 harg3 arg4 harg4 arg5 harg5 arg6 harg6 arg7 harg7 arg8 harg8 arg9 harg9 arg10 harg10 arg1 v0 v1 (k0_pay28 (F := F)) 0#32) where
  inv k acc := iprop((arg3.view.loc (c : Thread nD τ) ↦[arg3.view.set]{fullShare} X3)
    ∗ (arg4.view.loc (c : Thread nD τ) ↦[arg4.view.set]{fullShare} X4)
    ∗ (arg9.view.loc (c : Thread nD τ) ↦[arg9.view.set]{fullShare} f9)
    ∗ (arg10.view.loc (c : Thread nD τ) ↦[arg10.view.set]{fullShare} f10)
    ∗ (arg7.view.loc (c : Thread nD τ) ↦[arg7.view.set]{fullShare} buf7 c i arg3 arg4 arg7 arg9 arg10 arg1 v0 v1 X3 X4 f9 f10 f7 k)
    ∗ (arg8.view.loc (c : Thread nD τ) ↦[arg8.view.set]{fullShare} buf8 c i arg8 arg9 v1 f9 f8 k)
    ∗ ⌜acc = run3 c i arg3 arg4 arg9 arg10 arg1 v1 X3 X4 f9 f10 k⌝)
  step k acc := by
    have hk := k.isLt
    simp only [buf7, buf8, run3, dif_pos hk]
    iintro ⟨H3, H4, H9, H10, H7, H8, %ha⟩
    subst ha
    unfold k0_t3_body
    simp only [k0_part3_eq_skeleton]
    sl_exec
    sl_step
    isplitl [H3]; · iexact H3
    isplitl [H4]; · iexact H4
    isplitl [H9]; · iexact H9
    isplitl [H10]; · iexact H10
    isplitl [H7]; · iexact H7
    isplitl [H8]; · iexact H8
    ipureintro; rfl

set_option warn.classDefReducibility false in
/-- The fourth loop makes no trip. -/
@[sl_loop] def loopInv4 (v15 : FVec F S256x256 .bf16) (v35 : BitVec 32) (init : FVec F S256x128 .f32 × FVec F S256x1 .f32) :
    LoopInv (M := 𝕄) Idealize.ShloMosaic.frame (wpE (defs₀ (F := F)) Variants.none (c : Thread nD τ) none) Set.univ
      (k0_t4_loop i).lb (k0_t4_loop i).ub (k0_t4_loop i).st (k0_t4_ok i) init
      (k0_t4_body (F := F) i arg2 harg2 arg3 harg3 arg4 harg4 arg5 harg5 arg6 harg6 arg7 harg7 arg8 harg8 arg9 harg9 arg10 harg10 arg1 v0 v1 v15 v35) where
  inv k acc := iprop(⌜acc = init⌝)
  step k _ := absurd k.isLt (Nat.not_lt.2 (Nat.le_trans (k0_t4_abs i).2.1 (Nat.zero_le _)))

end Loops

end Cert.SbBwdIdeal.Run

end
-- ==== Proof.SbRun.lean ====
module

public import proofs.«01_k».proof.Defs
public import proofs.«01_k».proof.Proof.Gen.SbBwdIdeal.Frame
public import proofs.«01_k».proof.Proof.Gen.SbBwdIdeal.Launch
public import proofs.«01_k».proof.Proof.Gen.SbBwdIdeal.Skeleton
public import proofs.«01_k».proof.Proof.Gen.SbBwdIdeal.Points
public import proofs.«01_k».proof.Proof.SbLoops
public import Idealize.ShloMosaic.Lib.VecWindow
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-!
The kernel of the stick-breaking attention's gradient at one grid point: what it leaves in its three output
blocks, as functions of what it reads, whatever its two scratch buffers held before; the run of the whole
program and its frame.
-/

@[expose] public section

set_option maxRecDepth 16384

noncomputable section

namespace Cert.SbBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.SbBwdIdeal Cert.SbBwdIdeal.Gen

variable {F : FTy → Type} [FloatOps F] [Named F]

local notation "𝕄" => MT nD τ sig Unit (Elt F) ℕ (UR sig nD τ) ℕ

section Pure

variable (i : grid0.Coords) (arg1 : BitVec 32) (x2 x5 : Vec F S256x128 .bf16) (x3 x4 : Vec F S2048x128 .bf16)

/-- The keys of the first loop's trip. -/
def keys1 (k : Fin (k0_t1_loop i).trips) : Vec F S256x128 .bf16 :=
  VecWindow.window x3 (k0_off1 i k) S256x128.size (k0_off1_inb i k)

/-- The rows of a whole array that the third loop's trip reads. -/
def rows3 (k : Fin (k0_t3_loop i).trips) : Vec F S256x128 .bf16 :=
  VecWindow.window x3 (k0_off6 i k) S256x128.size (k0_off6_inb i k)

/-- The first loop's carried row sums. -/
def rowsum1 : ℕ → FVec F S256x1 .f32
  | 0 => k0_pay31
  | k + 1 => if h : k < (k0_t1_loop i).trips then
      k0_pay33 (rowsum1 k) (k0_pay12 i arg1 x2 0#32 1#32 ⟨k, h⟩ (keys1 i x3 ⟨k, h⟩))
    else rowsum1 k

/-- The block of weights the first loop's trip stores. -/
def tile9 (k : Fin (k0_t1_loop i).trips) : FVec F S1x256x256 .f32 :=
  k0_pay13 i arg1 x2 k0_pay27 0#32 1#32 k (rowsum1 i arg1 x2 x3 k) (keys1 i x3 k)

/-- The block of log-sigmoids the first loop's trip stores. -/
def tile10 (k : Fin (k0_t1_loop i).trips) : FVec F S1x256x256 .f32 := k0_pay32 (k0_pay11 x2 (keys1 i x3 k))

theorem trips1_eq : ∀ i : grid0.Coords, (k0_t1_loop i).trips = (i 1).val + 1 := by decide +kernel
theorem trips3_eq : ∀ i : grid0.Coords, (k0_t3_loop i).trips = (i 1).val + 1 := by decide +kernel
theorem off1_eq : ∀ (i : grid0.Coords) (k : Fin (k0_t1_loop i).trips), k0_off1 i k = ![256 * ((i 1).val - k.val), 0] := by decide +kernel
theorem off2_eq : ∀ (i : grid0.Coords) (k : Fin (k0_t1_loop i).trips), k0_off2 i k = ![(i 1).val - k.val, 0, 0] := by decide +kernel

/-- The first loop's trip that stores the block the third loop's trip `j` reads. -/
def rev (j : Fin (k0_t3_loop i).trips) : Fin (k0_t1_loop i).trips :=
  ⟨(i 1).val - j.val, Nat.lt_of_lt_of_eq (Nat.lt_succ_of_le (Nat.sub_le _ _)) (trips1_eq i).symm⟩

theorem off5_rev (j : Fin (k0_t3_loop i).trips) : k0_off5 i j = k0_off2 i (rev i j) := by
  have h := Nat.lt_of_lt_of_eq j.isLt (trips3_eq i)
  rw [k0_off5_eq, off2_eq]
  have e : (i 1).val - (rev i j).val = j.val := by simp only [rev]; omega
  rw [e]

/-- The third loop's carried pair. -/
def pair3 : ℕ → FVec F S256x128 .f32 × FVec F S256x1 .f32
  | 0 => (k0_pay36, k0_pay37)
  | k + 1 => if h : k < (k0_t3_loop i).trips then
      (k0_pay1 (pair3 k).1
          (k0_pay22 i arg1 x5 k0_pay28 0#32 1#32 ⟨k, h⟩ (pair3 k).2 (tile9 i arg1 x2 x3 (rev i ⟨k, h⟩))
            (tile10 i x2 x3 (rev i ⟨k, h⟩)) (rows3 i x4 ⟨k, h⟩) (rows3 i x3 ⟨k, h⟩)),
        k0_pay4 (pair3 k).2 (k0_pay20 x5 (tile9 i arg1 x2 x3 (rev i ⟨k, h⟩)) (rows3 i x4 ⟨k, h⟩)))
    else pair3 k

/-- The score block's gradient at the third loop's trip. -/
def dscore (k : Fin (k0_t3_loop i).trips) : FVec F S256x256 .bf16 :=
  k0_pay21 i arg1 x5 k0_pay28 0#32 1#32 k (pair3 i arg1 x2 x5 x3 x4 k).2 (tile9 i arg1 x2 x3 (rev i k))
    (tile10 i x2 x3 (rev i k)) (rows3 i x4 k)

/-- The keys' gradient after the third loop's first trips. -/
def dkeys (y : Vec F S2048x128 .f32) : ℕ → Vec F S2048x128 .f32
  | 0 => y
  | k + 1 => if h : k < (k0_t3_loop i).trips then
      VecWindow.put (dkeys y k) (k0_off6 i ⟨k, h⟩) S256x128.size
        (k0_pay2 x2 (dscore i arg1 x2 x5 x3 x4 ⟨k, h⟩) (VecWindow.window (dkeys y k) (k0_off6 i ⟨k, h⟩) S256x128.size (k0_off6_inb i ⟨k, h⟩)))
    else dkeys y k

/-- The values' gradient after the third loop's first trips. -/
def dvals (y : Vec F S2048x128 .f32) : ℕ → Vec F S2048x128 .f32
  | 0 => y
  | k + 1 => if h : k < (k0_t3_loop i).trips then
      VecWindow.put (dvals y k) (k0_off6 i ⟨k, h⟩) S256x128.size
        (k0_pay3 x5 (k0_pay19 (tile9 i arg1 x2 x3 (rev i ⟨k, h⟩))) (VecWindow.window (dvals y k) (k0_off6 i ⟨k, h⟩) S256x128.size (k0_off6_inb i ⟨k, h⟩)))
    else dvals y k

end Pure

section Reads

variable (c : Dev nD) (i : grid0.Coords)
  (arg2 : Memref sig .tc .vmem S256x128 .bf16) {harg2 : arg2.IsWhole} (arg3 : Memref sig .tc .vmem S2048x128 .bf16) {harg3 : arg3.IsWhole} (arg4 : Memref sig .tc .vmem S2048x128 .bf16) {harg4 : arg4.IsWhole} (arg5 : Memref sig .tc .vmem S256x128 .bf16) {harg5 : arg5.IsWhole} (arg6 : Memref sig .tc .vmem S256x128 .f32) {harg6 : arg6.IsWhole} (arg7 : Memref sig .tc .vmem S2048x128 .f32) {harg7 : arg7.IsWhole} (arg8 : Memref sig .tc .vmem S2048x128 .f32) {harg8 : arg8.IsWhole} (arg9 : Memref sig .tc .vmem S8x256x256 .f32) {harg9 : arg9.IsWhole} (arg10 : Memref sig .tc .vmem S8x256x256 .f32) {harg10 : arg10.IsWhole}
  (arg1 : BitVec 32) (x2 x5 : Vec F S256x128 .bf16) (x3 x4 : Vec F S2048x128 .bf16)
  {X3 : Buf (Elt F) (arg3.view.loc (c : Thread nD τ))} {X4 : Buf (Elt F) (arg4.view.loc (c : Thread nD τ))}
  (h3 : arg3.view.read (Elt F) X3 = x3) (h4 : arg4.view.read (Elt F) X4 = x4)

include h3 in
theorem run1_eq (k : ℕ) : run1 c i arg3 arg1 x2 X3 k = rowsum1 i arg1 x2 x3 k := by
  induction k with
  | zero => rfl
  | succ k ih =>
    unfold run1 rowsum1
    rw [ih]
    split_ifs with h
    · rw [View.readAt_unit _ _ _ rfl (k0_off1_inb i ⟨k, h⟩), h3]; rfl
    · rfl

include h3 in
/-- After `n` trips of the first loop the weights' buffer holds the blocks of those trips. -/
theorem read9 (f : Buf (Elt F) (arg9.view.loc (c : Thread nD τ))) (n : ℕ) (k : Fin (k0_t1_loop i).trips) (hk : k.val < n) :
    VecWindow.window (arg9.view.read (Elt F) (buf9 c i arg3 arg9 arg1 x2 X3 f n)) (k0_off2 i k) S1x256x256.size (k0_off2_inb i k)
      = tile9 i arg1 x2 x3 k := by
  induction n with
  | zero => exact absurd hk (Nat.not_lt_zero _)
  | succ n ih =>
    unfold buf9
    split_ifs with h
    · rw [View.read_writes_cons_put _ _ _ _ _ rfl, View.writes_nil]
      rcases Nat.lt_succ_iff_lt_or_eq.mp hk with hlt | heq
      · rw [VecWindow.window_put_of_disjoint _ _ _ _ _ _ _ 0, ih hlt]
        have hn := h
        rw [trips1_eq] at hn
        have e1 : k0_off2 i k 0 = (i 1).val - k.val := by rw [off2_eq]; rfl
        have e2 : k0_off2 i ⟨n, h⟩ 0 = (i 1).val - n := by rw [off2_eq]; rfl
        have e3 : S1x256x256.size 0 = 1 := rfl
        rw [e1, e2, e3]; omega
      · obtain rfl : k = ⟨n, h⟩ := Fin.ext heq
        rw [VecWindow.window_put_same, run1_eq c i arg3 arg1 x2 x3 h3, View.readAt_unit _ _ _ rfl (k0_off1_inb i ⟨n, h⟩), h3]; rfl
    · exact ih (lt_of_lt_of_le k.isLt (not_lt.mp h))

include h3 in
/-- After `n` trips of the first loop the log-sigmoids' buffer holds the blocks of those trips. -/
theorem read10 (f : Buf (Elt F) (arg10.view.loc (c : Thread nD τ))) (n : ℕ) (k : Fin (k0_t1_loop i).trips) (hk : k.val < n) :
    VecWindow.window (arg10.view.read (Elt F) (buf10 c i arg3 arg10 x2 X3 f n)) (k0_off2 i k) S1x256x256.size (k0_off2_inb i k)
      = tile10 i x2 x3 k := by
  induction n with
  | zero => exact absurd hk (Nat.not_lt_zero _)
  | succ n ih =>
    unfold buf10
    split_ifs with h
    · rw [View.read_writes_cons_put _ _ _ _ _ rfl, View.writes_nil]
      rcases Nat.lt_succ_iff_lt_or_eq.mp hk with hlt | heq
      · rw [VecWindow.window_put_of_disjoint _ _ _ _ _ _ _ 0, ih hlt]
        have hn := h
        rw [trips1_eq] at hn
        have e1 : k0_off2 i k 0 = (i 1).val - k.val := by rw [off2_eq]; rfl
        have e2 : k0_off2 i ⟨n, h⟩ 0 = (i 1).val - n := by rw [off2_eq]; rfl
        have e3 : S1x256x256.size 0 = 1 := rfl
        rw [e1, e2, e3]; omega
      · obtain rfl : k = ⟨n, h⟩ := Fin.ext heq
        rw [VecWindow.window_put_same, View.readAt_unit _ _ _ rfl (k0_off1_inb i ⟨n, h⟩), h3]; rfl
    · exact ih (lt_of_lt_of_le k.isLt (not_lt.mp h))

variable {f9 : Buf (Elt F) (arg9.view.loc (c : Thread nD τ))} {f10 : Buf (Elt F) (arg10.view.loc (c : Thread nD τ))}
  (h9 : ∀ j, arg9.view.readAt (Elt F) (R5 i j).toLoadRect f9 = tile9 i arg1 x2 x3 (rev i j))
  (h10 : ∀ j, arg10.view.readAt (Elt F) (R5 i j).toLoadRect f10 = tile10 i x2 x3 (rev i j))

include h3 in
theorem read9_rev (f : Buf (Elt F) (arg9.view.loc (c : Thread nD τ))) (j : Fin (k0_t3_loop i).trips) :
    arg9.view.readAt (Elt F) (R5 i j).toLoadRect (buf9 c i arg3 arg9 arg1 x2 X3 f (k0_t1_loop i).trips) = tile9 i arg1 x2 x3 (rev i j) := by
  rw [View.readAt_unit _ _ _ (off5_rev i j) (k0_off2_inb i (rev i j))]
  exact read9 c i arg3 arg9 arg1 x2 x3 h3 f _ _ (rev i j).isLt

include h3 in
theorem read10_rev (f : Buf (Elt F) (arg10.view.loc (c : Thread nD τ))) (j : Fin (k0_t3_loop i).trips) :
    arg10.view.readAt (Elt F) (R5 i j).toLoadRect (buf10 c i arg3 arg10 x2 X3 f (k0_t1_loop i).trips) = tile10 i x2 x3 (rev i j) := by
  rw [View.readAt_unit _ _ _ (off5_rev i j) (k0_off2_inb i (rev i j))]
  exact read10 c i arg3 arg10 x2 x3 h3 f _ _ (rev i j).isLt

include h3 h4 h9 h10 in
theorem run3_eq (k : ℕ) : run3 c i arg3 arg4 arg9 arg10 arg1 x5 X3 X4 f9 f10 k = pair3 i arg1 x2 x5 x3 x4 k := by
  induction k with
  | zero => rfl
  | succ k ih =>
    unfold run3 pair3
    rw [ih]
    split_ifs with h
    · rw [h9, h10, View.readAt_unit _ _ _ rfl (k0_off6_inb i ⟨k, h⟩), View.readAt_unit _ _ _ rfl (k0_off6_inb i ⟨k, h⟩), h3, h4]; rfl
    · rfl

include h3 h4 h9 h10 in
theorem read7 (f : Buf (Elt F) (arg7.view.loc (c : Thread nD τ))) (y : Vec F S2048x128 .f32) (h7 : arg7.view.read (Elt F) f = y) (k : ℕ) :
    arg7.view.read (Elt F) (buf7 c i arg3 arg4 arg7 arg9 arg10 arg1 x2 x5 X3 X4 f9 f10 f k) = dkeys i arg1 x2 x5 x3 x4 y k := by
  induction k with
  | zero => exact h7
  | succ k ih =>
    unfold buf7 dkeys
    split_ifs with h
    · rw [View.read_writes_cons_put _ _ _ _ _ rfl, View.writes_nil, run3_eq c i arg3 arg4 arg9 arg10 arg1 x2 x5 x3 x4 h3 h4 h9 h10, h9, h10,
        View.readAt_unit _ _ _ rfl (k0_off6_inb i ⟨k, h⟩), View.readAt_unit _ _ _ rfl (k0_off6_inb i ⟨k, h⟩), h4, ih]; rfl
    · exact ih

include h9 in
theorem read8 (f : Buf (Elt F) (arg8.view.loc (c : Thread nD τ))) (y : Vec F S2048x128 .f32) (h8 : arg8.view.read (Elt F) f = y) (k : ℕ) :
    arg8.view.read (Elt F) (buf8 c i arg8 arg9 x5 f9 f k) = dvals i arg1 x2 x5 x3 y k := by
  induction k with
  | zero => exact h8
  | succ k ih =>
    unfold buf8 dvals
    split_ifs with h
    · rw [View.read_writes_cons_put _ _ _ _ _ rfl, View.writes_nil, h9,
        View.readAt_unit _ _ _ rfl (k0_off6_inb i ⟨k, h⟩), ih]
    · exact ih

end Reads

/-- The queries' gradient the body leaves at a point. -/
def outq (i : grid0.Coords) (x2 x5 : Vec F S256x128 .bf16) (x3 x4 : Vec F S2048x128 .bf16) : Vec F S256x128 .f32 :=
  (pair3 i (BitVec.ofNat 32 (i 1).val) x2 x5 x3 x4 (k0_t3_loop i).trips).1

/-- The keys' gradient the body leaves at a point that finds `y`. -/
def outk (i : grid0.Coords) (x2 x5 : Vec F S256x128 .bf16) (x3 x4 : Vec F S2048x128 .bf16) (y : Vec F S2048x128 .f32) : Vec F S2048x128 .f32 :=
  dkeys i (BitVec.ofNat 32 (i 1).val) x2 x5 x3 x4 y (k0_t3_loop i).trips

/-- The values' gradient the body leaves at a point that finds `y`. -/
def outv (i : grid0.Coords) (x2 x5 : Vec F S256x128 .bf16) (x3 : Vec F S2048x128 .bf16) (y : Vec F S2048x128 .f32) : Vec F S2048x128 .f32 :=
  dvals i (BitVec.ofNat 32 (i 1).val) x2 x5 x3 y (k0_t3_loop i).trips

section Final

variable (c : Dev nD) (i : grid0.Coords)
  (arg2 : Memref sig .tc .vmem S256x128 .bf16) {harg2 : arg2.IsWhole} (arg3 : Memref sig .tc .vmem S2048x128 .bf16) {harg3 : arg3.IsWhole} (arg4 : Memref sig .tc .vmem S2048x128 .bf16) {harg4 : arg4.IsWhole} (arg5 : Memref sig .tc .vmem S256x128 .bf16) {harg5 : arg5.IsWhole} (arg6 : Memref sig .tc .vmem S256x128 .f32) {harg6 : arg6.IsWhole} (arg7 : Memref sig .tc .vmem S2048x128 .f32) {harg7 : arg7.IsWhole} (arg8 : Memref sig .tc .vmem S2048x128 .f32) {harg8 : arg8.IsWhole} (arg9 : Memref sig .tc .vmem S8x256x256 .f32) {harg9 : arg9.IsWhole} (arg10 : Memref sig .tc .vmem S8x256x256 .f32) {harg10 : arg10.IsWhole}
  (x2 x5 : Vec F S256x128 .bf16) (x3 x4 : Vec F S2048x128 .bf16)
  {f3 : Buf (Elt F) (arg3.view.loc (c : Thread nD τ))} {f4 : Buf (Elt F) (arg4.view.loc (c : Thread nD τ))}
  (h3 : arg3.view.read (Elt F) f3 = x3) (h4 : arg4.view.read (Elt F) f4 = x4)
  {w0 w1 : Vec F S256x128 .bf16} (h0 : w0 = x2) (h1 : w1 = x5)
  (f9 : Buf (Elt F) (arg9.view.loc (c : Thread nD τ))) (f10 : Buf (Elt F) (arg10.view.loc (c : Thread nD τ)))

theorem read_full (arg : Memref sig .tc .vmem S2048x128 .f32) (f : arg.view.ty.Contents (Elt F)) (w : Vec F S2048x128 .f32) :
    arg.view.read (Elt F) (arg.view.writes (Elt F) f [⟨Rect.unit (s := S2048x128) ![0, 0] S2048x128.size inb_S2048x128_S2048x128_0_0, w⟩]) = w :=
  View.read_writes_full _ _ _ _ _

include h3 h4 h0 h1 in
theorem final6 : (run3 c i arg3 arg4 arg9 arg10 (BitVec.ofNat 32 (i 1).val) w1 f3 f4
      (buf9 c i arg3 arg9 (BitVec.ofNat 32 (i 1).val) w0 f3 f9 (k0_t1_loop i).trips)
      (buf10 c i arg3 arg10 w0 f3 f10 (k0_t1_loop i).trips) (k0_t3_loop i).trips).1 = outq i x2 x5 x3 x4 := by
  subst h0 h1
  rw [run3_eq c i arg3 arg4 arg9 arg10 _ w0 w1 x3 x4 h3 h4 (read9_rev c i arg3 arg9 _ w0 x3 h3 f9) (read10_rev c i arg3 arg10 w0 x3 h3 f10)]
  rfl

include h3 h4 h0 h1 in
theorem final7 (f : Buf (Elt F) (arg7.view.loc (c : Thread nD τ))) (y : Vec F S2048x128 .f32) (h7 : arg7.view.read (Elt F) f = y) :
    arg7.view.read (Elt F) (buf7 c i arg3 arg4 arg7 arg9 arg10 (BitVec.ofNat 32 (i 1).val) w0 w1 f3 f4
      (buf9 c i arg3 arg9 (BitVec.ofNat 32 (i 1).val) w0 f3 f9 (k0_t1_loop i).trips)
      (buf10 c i arg3 arg10 w0 f3 f10 (k0_t1_loop i).trips) f (k0_t3_loop i).trips) = outk i x2 x5 x3 x4 y := by
  subst h0 h1
  exact read7 c i arg3 arg4 arg7 arg9 arg10 _ w0 w1 x3 x4 h3 h4 (read9_rev c i arg3 arg9 _ w0 x3 h3 f9) (read10_rev c i arg3 arg10 w0 x3 h3 f10) f y h7 _

include h3 h0 h1 in
theorem final8 (f : Buf (Elt F) (arg8.view.loc (c : Thread nD τ))) (y : Vec F S2048x128 .f32) (h8 : arg8.view.read (Elt F) f = y) :
    arg8.view.read (Elt F) (buf8 c i arg8 arg9 w1
      (buf9 c i arg3 arg9 (BitVec.ofNat 32 (i 1).val) w0 f3 f9 (k0_t1_loop i).trips) f (k0_t3_loop i).trips) = outv i x2 x5 x3 y := by
  subst h0 h1
  exact read8 c i arg8 arg9 _ w0 w1 x3 (read9_rev c i arg3 arg9 _ w0 x3 h3 f9) f y h8 _

end Final

section Kernel

variable (c : Dev nD) (i : grid0.Coords)
  (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8x256x256 .f32) (harg9 : arg9.IsWhole) (arg10 : Memref sig .tc .vmem S8x256x256 .f32) (harg10 : arg10.IsWhole)
  (x2 : Vec F S256x128 .bf16) (x3 x4 : Vec F S2048x128 .bf16) (x5 : Vec F S256x128 .bf16)

abbrev v18 (i : grid0.Coords) : BitVec 1 := Scalar.cmpi .ne (Scalar.extui (Scalar.cmpi .eq (BitVec.ofNat 32 (i 1).val) 0#32) : BitVec 32) 0#32
abbrev body (F : FTy → Type) [FloatOps F] [Named F] (i : grid0.Coords)
  (arg2 : Memref sig .tc .vmem S256x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S8x256x256 .f32) (harg9 : arg9.IsWhole) (arg10 : Memref sig .tc .vmem S8x256x256 .f32) (harg10 : arg10.IsWhole) := cc0_sb_datt (F := F) i arg2 harg2 arg3 harg3 arg4 harg4 arg5 harg5 arg6 harg6 arg7 harg7 arg8 harg8 arg9 harg9 arg10 harg10

set_option maxHeartbeats 1000000 in
/-- The body at the first block of queries: the keys' and values' gradients start from zero. -/
theorem runA (hc : v18 i = 1#1) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outq i x2 x5 x3 x4) ∗ owns (c : Thread nD τ) arg7 fullShare (outk i x2 x5 x3 x4 k0_pay29) ∗ owns (c : Thread nD τ) arg8 fullShare (outv i x2 x5 x3 k0_pay30) ∗ (∃ d, owns (c : Thread nD τ) arg9 fullShare d) ∗ (∃ d, owns (c : Thread nD τ) arg10 fullShare d)) -∗ K ⟨⟩))
      ⊢ wp frame (wpE (defs₀ (F := F)) Variants.none c none) Set.univ (body F i arg2 harg2 arg3 harg3 arg4 harg4 arg5 harg5 arg6 harg6 arg7 harg7 arg8 harg8 arg9 harg9 arg10 harg10) K := by
  unfold body
  simp only [cc0_sb_datt_eq_skeleton]; unfold cc0_sb_datt_skel
  simp only [k0_part5_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  have e2 : arg2.view.readAt (Elt F) (Rect.unit (s := S256x128) ![0, 0] S256x128.size inb_S256x128_S256x128_0_0).toLoadRect f2 = x2 := (View.readAt_full _ _ _).trans hf2
  have e5 : arg5.view.readAt (Elt F) (Rect.unit (s := S256x128) ![0, 0] S256x128.size inb_S256x128_S256x128_0_0).toLoadRect f5 = x5 := (View.readAt_full _ _ _).trans hf5
  sl_exec (disch := sl_exact hc)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    exact (View.read_writes_full _ _ _ _ _).trans (final6 c i arg3 arg4 arg9 arg10 x2 x5 x3 x4 hf3 hf4 (Eq.refl x2) (Eq.refl x5) f9 f10)
  isplitl [H7]
  · iexists _; isplitr
    swap; · iexact H7
    ipureintro
    exact final7 c i arg3 arg4 arg7 arg9 arg10 x2 x5 x3 x4 hf3 hf4 (Eq.refl x2) (Eq.refl x5) f9 f10 (arg7.view.writes (Elt F) arg7.view.junk [⟨Rect.unit (s := S2048x128) ![0, 0] S2048x128.size inb_S2048x128_S2048x128_0_0, k0_pay29 (F := F)⟩]) (k0_pay29 (F := F))
      (read_full arg7 arg7.view.junk (k0_pay29 (F := F)))
  isplitl [H8]
  · iexists _; isplitr
    swap; · iexact H8
    ipureintro
    exact final8 c i arg3 arg8 arg9 x2 x5 x3 hf3 (Eq.refl x2) (Eq.refl x5) f9 (arg8.view.writes (Elt F) arg8.view.junk [⟨Rect.unit (s := S2048x128) ![0, 0] S2048x128.size inb_S2048x128_S2048x128_0_0, k0_pay30 (F := F)⟩]) (k0_pay30 (F := F))
      (read_full arg8 arg8.view.junk (k0_pay30 (F := F)))
  isplitl [H9]
  · iexists _; iexists _; isplitr
    swap; · iexact H9
    ipureintro; rfl
  iexists _; iexists _; isplitr
  swap; · iexact H10
  ipureintro; rfl

set_option maxHeartbeats 1000000 in
/-- The body at a later block of queries: the keys' and values' gradients go on from what the point finds. -/
theorem runB (hc : v18 i ≠ 1#1) (x7 x8 : Vec F S2048x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare x7 ∗ owns (c : Thread nD τ) arg8 fullShare x8 ∗ (∃ d, owns (c : Thread nD τ) arg9 fullShare d) ∗ (∃ d, owns (c : Thread nD τ) arg10 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outq i x2 x5 x3 x4) ∗ owns (c : Thread nD τ) arg7 fullShare (outk i x2 x5 x3 x4 x7) ∗ owns (c : Thread nD τ) arg8 fullShare (outv i x2 x5 x3 x8) ∗ (∃ d, owns (c : Thread nD τ) arg9 fullShare d) ∗ (∃ d, owns (c : Thread nD τ) arg10 fullShare d)) -∗ K ⟨⟩))
      ⊢ wp frame (wpE (defs₀ (F := F)) Variants.none c none) Set.univ (body F i arg2 harg2 arg3 harg3 arg4 harg4 arg5 harg5 arg6 harg6 arg7 harg7 arg8 harg8 arg9 harg9 arg10 harg10) K := by
  unfold body
  simp only [cc0_sb_datt_eq_skeleton]; unfold cc0_sb_datt_skel
  simp only [k0_part5_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
  have e2 : arg2.view.readAt (Elt F) (Rect.unit (s := S256x128) ![0, 0] S256x128.size inb_S256x128_S256x128_0_0).toLoadRect f2 = x2 := (View.readAt_full _ _ _).trans hf2
  have e5 : arg5.view.readAt (Elt F) (Rect.unit (s := S256x128) ![0, 0] S256x128.size inb_S256x128_S256x128_0_0).toLoadRect f5 = x5 := (View.readAt_full _ _ _).trans hf5
  sl_exec (disch := sl_exact hc)
  sl_step
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr
    swap; · iexact H6
    ipureintro
    exact (View.read_writes_full _ _ _ _ _).trans (final6 c i arg3 arg4 arg9 arg10 x2 x5 x3 x4 hf3 hf4 (Eq.refl x2) (Eq.refl x5) f9 f10)
  isplitl [H7]
  · iexists _; isplitr
    swap; · iexact H7
    ipureintro
    exact final7 c i arg3 arg4 arg7 arg9 arg10 x2 x5 x3 x4 hf3 hf4 (Eq.refl x2) (Eq.refl x5) f9 f10 _ _ (hf7)
  isplitl [H8]
  · iexists _; isplitr
    swap; · iexact H8
    ipureintro
    exact final8 c i arg3 arg8 arg9 x2 x5 x3 hf3 (Eq.refl x2) (Eq.refl x5) f9 _ _ (hf8)
  isplitl [H9]
  · iexists _; iexists _; isplitr
    swap; · iexact H9
    ipureintro; rfl
  iexists _; iexists _; isplitr
  swap; · iexact H10
  ipureintro; rfl

end Kernel

/-! ## The proof data -/

variable (m : (ℓ : Loc nD τ sig) → Buf (Elt F) ℓ) (ρ : Dev nD → PrngReg)

/-- The keys' gradient after point `n` of the grid: from zero at a head's first block of queries. -/
def accK (c : Dev nD) : (n : ℕ) → n < cfg0.N → Vec F S2048x128 .f32
  | 0, h => outk (grid0.coords ⟨0, h⟩) (iblk m c 0 ⟨0, h⟩) (iblk m c 3 ⟨0, h⟩) (iblk m c 1 ⟨0, h⟩) (iblk m c 2 ⟨0, h⟩) k0_pay29
  | n + 1, h => outk (grid0.coords ⟨n + 1, h⟩) (iblk m c 0 ⟨n + 1, h⟩) (iblk m c 3 ⟨n + 1, h⟩) (iblk m c 1 ⟨n + 1, h⟩) (iblk m c 2 ⟨n + 1, h⟩)
      (if (n + 1) % 8 = 0 then k0_pay29 else accK c n (Nat.lt_of_succ_lt h))

/-- The values' gradient after point `n` of the grid: from zero at a head's first block of queries. -/
def accV (c : Dev nD) : (n : ℕ) → n < cfg0.N → Vec F S2048x128 .f32
  | 0, h => outv (grid0.coords ⟨0, h⟩) (iblk m c 0 ⟨0, h⟩) (iblk m c 3 ⟨0, h⟩) (iblk m c 1 ⟨0, h⟩) k0_pay30
  | n + 1, h => outv (grid0.coords ⟨n + 1, h⟩) (iblk m c 0 ⟨n + 1, h⟩) (iblk m c 3 ⟨n + 1, h⟩) (iblk m c 1 ⟨n + 1, h⟩)
      (if (n + 1) % 8 = 0 then k0_pay30 else accV c n (Nat.lt_of_succ_lt h))

theorem coord1_eq : ∀ t : Fin grid0.N, (grid0.coords t 1).val = t.val % 8 := by decide +kernel
theorem v18_iff : ∀ t : Fin grid0.N, v18 (grid0.coords t) = 1#1 ↔ t.val % 8 = 0 := by decide +kernel

theorem accK_A (c : Dev nD) (t : Fin cfg0.N) (h : t.val % 8 = 0) :
    accK m c t.val t.isLt = outk (grid0.coords t) (iblk m c 0 t) (iblk m c 3 t) (iblk m c 1 t) (iblk m c 2 t) k0_pay29 := by
  obtain ⟨n, hn⟩ := t
  cases n with
  | zero => rfl
  | succ n => unfold accK; rw [if_pos h]

theorem accV_A (c : Dev nD) (t : Fin cfg0.N) (h : t.val % 8 = 0) :
    accV m c t.val t.isLt = outv (grid0.coords t) (iblk m c 0 t) (iblk m c 3 t) (iblk m c 1 t) k0_pay30 := by
  obtain ⟨n, hn⟩ := t
  cases n with
  | zero => rfl
  | succ n => unfold accV; rw [if_pos h]

theorem accK_B (c : Dev nD) (t : Fin cfg0.N) (h : t.val % 8 ≠ 0) (h' : t.val - 1 < cfg0.N) :
    accK m c t.val t.isLt = outk (grid0.coords t) (iblk m c 0 t) (iblk m c 3 t) (iblk m c 1 t) (iblk m c 2 t) (accK m c (t.val - 1) h') := by
  obtain ⟨n, hn⟩ := t
  cases n with
  | zero => exact absurd rfl h
  | succ n => conv_lhs => unfold accK
              rw [if_neg h]; rfl

theorem accV_B (c : Dev nD) (t : Fin cfg0.N) (h : t.val % 8 ≠ 0) (h' : t.val - 1 < cfg0.N) :
    accV m c t.val t.isLt = outv (grid0.coords t) (iblk m c 0 t) (iblk m c 3 t) (iblk m c 1 t) (accV m c (t.val - 1) h') := by
  obtain ⟨n, hn⟩ := t
  cases n with
  | zero => exact absurd rfl h
  | succ n => conv_lhs => unfold accV
              rw [if_neg h]; rfl

/-- The pipeline's proof data: each input block stays, each output block is the body's; the invariant holds the
    scratch buffers at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outq (grid0.coords t) (iblk m c 0 t) (iblk m c 3 t) (iblk m c 1 t) (iblk m c 2 t)
    | ⟨5, _⟩ => accK m c t.val t.isLt
    | ⟨6, _⟩ => accV m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outq (grid0.coords t) (iblk m c 0 t) (iblk m c 3 t) (iblk m c 1 t) (iblk m c 2 t) := by dsimp only [dats]
theorem after_5 (c : Dev nD) (t : Fin cfg0.N) : (dats m 0 c).after 5 t = accK m c t.val t.isLt := by dsimp only [dats]
theorem after_6 (c : Dev nD) (t : Fin cfg0.N) : (dats m 0 c).after 6 t = accV m c t.val t.isLt := by dsimp only [dats]

theorem before_0 (c : Dev nD) (t : Fin cfg0.N) (d) : (dats m 0 c).before 0 t d = iblk m c 0 t := before0_0_of m _ (A_eq m c 0) (after_0 m c) t d
theorem before_1 (c : Dev nD) (t : Fin cfg0.N) (d) : (dats m 0 c).before 1 t d = iblk m c 1 t := before0_1_of m _ (A_eq m c 1) (after_1 m c) t d
theorem before_2 (c : Dev nD) (t : Fin cfg0.N) (d) : (dats m 0 c).before 2 t d = iblk m c 2 t := before0_2_of m _ (A_eq m c 2) (after_2 m c) t d
theorem before_3 (c : Dev nD) (t : Fin cfg0.N) (d) : (dats m 0 c).before 3 t d = iblk m c 3 t := before0_3_of m _ (A_eq m c 3) (after_3 m c) t d

theorem before_5 (c : Dev nD) (t : Fin cfg0.N) (h : t.val % 8 ≠ 0) (d) :
    (dats m 0 c).before 5 t d = accK m c (t.val - 1) (Nat.lt_of_le_of_lt (Nat.sub_le _ _) t.isLt) := by
  have ht : t.val ≠ 0 := fun e => h (by rw [e])
  rw [(dats m 0 c).before_out_kept 5 rfl t ht (Bool.eq_false_iff.mpr fun e => by have := (flush0_5 _).mp e; dsimp only at this; omega) (fun _ => rfl) (fun _ _ => rfl), after_5]

theorem before_6 (c : Dev nD) (t : Fin cfg0.N) (h : t.val % 8 ≠ 0) (d) :
    (dats m 0 c).before 6 t d = accV m c (t.val - 1) (Nat.lt_of_le_of_lt (Nat.sub_le _ _) t.isLt) := by
  have ht : t.val ≠ 0 := fun e => h (by rw [e])
  rw [(dats m 0 c).before_out_kept 6 rfl t ht (Bool.eq_false_iff.mpr fun e => by have := (flush0_6 _).mp e; dsimp only at this; omega) (fun _ => rfl) (fun _ _ => rfl), after_6]

abbrev scM0 : Memref sig .tc .vmem S8x256x256 .f32 := Memref.whole cc0_scratch0
abbrev scM1 : Memref sig .tc .vmem S8x256x256 .f32 := Memref.whole cc0_scratch1

theorem PhiA_eq (c : Dev nD) :
    (Pipeline.ΦA spec0 c : sProp 𝕄)
      = iprop(((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (Pipeline.ΦA spec0 c : sProp 𝕄) from rfl,
    show (dats m 0 c).Φ t.castSucc = (Pipeline.ΦA spec0 c : sProp 𝕄) from rfl,
    show (dats m 0 c).owesAt () t.succ = (dats m 0 c).owesAt () t.castSucc from rfl,
    after_0, after_1, after_2, after_3, after_4, after_5, after_6, PhiA_eq]
  by_cases h : t.val % 8 = 0
  · rw [accK_A m c t h, accV_A m c t h]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ scM0 (Memref.isWhole_whole _) scM1 (Memref.isWhole_whole _) (iblk m c 0 t) (iblk m c 1 t) (iblk m c 2 t) (iblk m c 3 t) ((v18_iff t).mpr h) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accK_B m c t h (Nat.lt_of_le_of_lt (Nat.sub_le _ _) t.isLt), accV_B m c t h (Nat.lt_of_le_of_lt (Nat.sub_le _ _) t.isLt)]
    simp only [before_5 m c t h, before_6 m c t h]
    iintro ⟨⟨⟨HS0, HS1⟩, HR⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ scM0 (Memref.isWhole_whole _) scM1 (Memref.isWhole_whole _) (iblk m c 0 t) (iblk m c 1 t) (iblk m c 2 t) (iblk m c 3 t) (fun e => h ((v18_iff t).mp e)) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR]
    · isplitl [HS0 HS1]
      · isplitl [HS0]; · iexact HS0
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- From any memory with zero counters the whole program terminates, every array of the pipeline at what the proof
    data says, the counters zero. -/
theorem run_quiescent : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end unchanged and every counter is zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.SbBwdIdeal.Run

end
-- ==== Proof.SbFrame.lean ====
module

public import proofs.«01_k».proof.Proof.SbRun
public import proofs.«01_k».proof.Proof.Gen.SbBwd
public import proofs.«01_k».proof.Proof.Gen.SbRefIdeal
public import proofs.«01_k».proof.Proof.Gen.SbRefIdeal.Run

/-!
The frame claims of the stick-breaking attention's gradient: the kernel at words and at extended reals by one
run, and the reference.
-/

@[expose] public section

set_option maxRecDepth 65536

noncomputable section

namespace Cert.SbClaims

open Idealize.ShloMosaic Idealize.SL.Sem

/-- At words a named constant is its word. -/
@[reducible] def namedWords : Named Bits := ⟨fun _ _ {φ} w => Scalar.ofBits φ w⟩

theorem defs_eq : Cert.SbBwd.defs (F := Bits) = (letI := namedWords; Cert.SbBwdIdeal.defs (F := Bits)) := by
  sl_kernel_rfl

theorem main_eq : Cert.SbBwd.main (F := Bits) = (letI := namedWords; Cert.SbBwdIdeal.main (F := Bits)) := by
  sl_kernel_rfl

theorem frame_kernel : Cert.quiescent_SbBwd := by
  intro m ρ _
  rw [defs_eq, main_eq]
  letI := namedWords
  exact Cert.SbBwdIdeal.Run.frame_all (F := Bits) m ρ

theorem frame_ideal : Cert.quiescent_SbBwdIdeal := fun m ρ _ => Cert.SbBwdIdeal.Run.frame_all m ρ

variable [Cert.Pre_finite_sb.Facts]

theorem frame_ideal_pre : Cert.quiescent_SbBwdIdeal_pre_finite_sb := fun m ρ _ => Cert.SbBwdIdeal.Run.frame_all m ρ

theorem frame_ref : Cert.quiescent_SbRefIdeal := fun m ρ _ =>
  (θ_run Cert.SbRefIdeal.defs _ _).mono (fun r h => ⟨fun c => (h c).2.2.2, sem_eq_zero_of_no_sems (by decide) r.2⟩)
    (Cert.SbRefIdeal.Value.run (F := Ideal) m ρ)

theorem frame_ref_pre : Cert.quiescent_SbRefIdeal_pre_finite_sb := fun m ρ _ => frame_ref m ρ trivial

theorem preserves : Cert.preserves_SbBwd_SbBwdIdeal :=
  IdealRules.named_const.statement Cert.SbBwdIdeal.κ "inv_sqrt_d" .f32 0x3DB504F3#32 (((Real.sqrt 128)⁻¹ : ℝ) : EReal) rfl

end Cert.SbClaims

end
-- ==== Proof.SbMath.lean ====
module

public import proofs.«01_k».proof.Proof.Base

/-!
Stick-breaking attention and its gradient over the reals, one head: rows of queries `Q` and of cotangents `D`, rows of
keys `K` and of values `V`, each row a function of its feature. Sums over blocks of 256 rows are put together.
-/

@[expose] public section

noncomputable section

namespace Cert.Stick

variable (Q K V D : ℕ → ℕ → ℝ) (s : ℝ)

/-- The score of query `r` and key `c`. -/
def score (r c : ℕ) : ℝ := (∑ d : Fin 128, Q r d * K c d) * s

/-- The logarithm of the sigmoid. -/
def logSig (x : ℝ) : ℝ := min x 0 - Real.log (1 + Real.exp (-|x|))

/-- The logarithm of what a stick keeps at key `c`, zero from the diagonal on. -/
def keep (r c : ℕ) : ℝ := if c < r then logSig (score Q K s r c) - score Q K s r c else 0

/-- The weight of key `c` for query `r`: its share of the stick that the keys after it have left. -/
def weight (r c : ℕ) : ℝ :=
  if c < r then Real.exp (logSig (score Q K s r c) + ∑ x ∈ Finset.Ico (c + 1) 2048, keep Q K s r x) else 0

/-- The weight times the cotangent of the weight. -/
def pull (r c : ℕ) : ℝ := weight Q K s r c * ∑ d : Fin 128, D r d * V c d

/-- The cotangent of the unscaled score. -/
def dscore (r c : ℕ) : ℝ :=
  if c < r then (pull Q K V D s r c * (1 - Real.exp (logSig (score Q K s r c)))
    - (∑ x ∈ Finset.range c, pull Q K V D s r x) * Real.exp (logSig (score Q K s r c))) * s else 0

theorem keep_of_le {r c : ℕ} (h : r ≤ c) : keep Q K s r c = 0 := if_neg (by omega)
theorem weight_of_le {r c : ℕ} (h : r ≤ c) : weight Q K s r c = 0 := if_neg (by omega)
theorem pull_of_le {r c : ℕ} (h : r ≤ c) : pull Q K V D s r c = 0 := by
  unfold pull; rw [weight_of_le _ _ _ h, zero_mul]
theorem dscore_of_le {r c : ℕ} (h : r ≤ c) : dscore Q K V D s r c = 0 := if_neg (by omega)

/-- A sum over the first `n + 1` blocks. -/
theorem sum_blocks_succ (f : ℕ → ℝ) (n : ℕ) :
    ∑ x ∈ Finset.range (256 * (n + 1)), f x = ∑ x ∈ Finset.range (256 * n), f x + ∑ c : Fin 256, f (256 * n + c) := by
  rw [Nat.mul_succ, Finset.sum_range_add, Fin.sum_univ_eq_sum_range (fun c => f (256 * n + c))]

/-- A sum over the blocks from `n` on to `m`. -/
theorem sum_blocks_pred {M : Type} [AddCommMonoid M] (f : ℕ → M) {n m : ℕ} (h : n < m) :
    ∑ x ∈ Finset.Ico (256 * n) (256 * m), f x
      = ∑ x ∈ Finset.Ico (256 * (n + 1)) (256 * m), f x + ∑ c : Fin 256, f (256 * n + c) := by
  have e : ∑ c : Fin 256, f (256 * n + c) = ∑ x ∈ Finset.Ico (256 * n) (256 * (n + 1)), f x := by
    rw [Finset.sum_Ico_eq_sum_range, Fin.sum_univ_eq_sum_range (fun c => f (256 * n + c))]
    congr 2; omega
  rw [e, add_comm, Finset.sum_Ico_consecutive _ (by omega) (by omega)]

/-- What follows key `c` inside its block. -/
theorem sum_after (f : ℕ → ℝ) (n c : ℕ) (hc : c < 256) :
    ∑ x : Fin 256, (if c < x.val then f (256 * n + x) else 0) = ∑ x ∈ Finset.Ico (256 * n + c + 1) (256 * (n + 1)), f x := by
  rw [Fin.sum_univ_eq_sum_range (fun x => if c < x then f (256 * n + x) else 0), ← Finset.sum_filter]
  refine Finset.sum_bij (fun x _ => 256 * n + x) ?_ ?_ ?_ ?_
  · intro x hx; simp only [Finset.mem_filter, Finset.mem_range, Finset.mem_Ico] at hx ⊢; omega
  · intro a _ b _ h; simpa using h
  · intro b hb; simp only [Finset.mem_Ico] at hb
    exact ⟨b - 256 * n, by simp only [Finset.mem_filter, Finset.mem_range]; omega, by omega⟩
  · intro x _; rfl

/-- What comes before key `c` inside its block, with the blocks before it. -/
theorem sum_before (f : ℕ → ℝ) (n c : ℕ) (hc : c < 256) :
    ∑ x : Fin 256, (if x.val < c then f (256 * n + x) else 0) + ∑ x ∈ Finset.range (256 * n), f x
      = ∑ x ∈ Finset.range (256 * n + c), f x := by
  rw [Fin.sum_univ_eq_sum_range (fun x => if x < c then f (256 * n + x) else 0), ← Finset.sum_filter, Finset.sum_range_add, add_comm]
  congr 1
  refine Finset.sum_congr (Finset.ext fun x => ?_) fun _ _ => rfl
  simp only [Finset.mem_filter, Finset.mem_range]; omega

/-- The keys after `c`, cut at the end of a block of queries that holds `r`. -/
theorem sum_keep_cut {r a b : ℕ} (h : r ≤ b) (hab : a ≤ b) (hb : b ≤ 2048) :
    ∑ x ∈ Finset.Ico a b, keep Q K s r x = ∑ x ∈ Finset.Ico a 2048, keep Q K s r x := by
  rw [← Finset.sum_Ico_consecutive (keep Q K s r) hab hb,
    Finset.sum_eq_zero (s := Finset.Ico b 2048) fun x hx => keep_of_le Q K s (h.trans (Finset.mem_Ico.mp hx).1), add_zero]

/-- A sum over keys is cut at a block of queries that holds `r`. -/
theorem sum_cut {M : Type} [AddCommMonoid M] (f : ℕ → M) {a b : ℕ} (hab : a ≤ b) (h : ∀ x, a ≤ x → f x = 0) :
    ∑ x ∈ Finset.range a, f x = ∑ x ∈ Finset.range b, f x := by
  rw [Finset.range_eq_Ico, Finset.range_eq_Ico, ← Finset.sum_Ico_consecutive f (Nat.zero_le a) hab,
    Finset.sum_eq_zero (s := Finset.Ico a b) fun x hx => h x (Finset.mem_Ico.mp hx).1, add_zero]

theorem logSig_neg (x : ℝ) : logSig (-x) = logSig x - x := by
  unfold logSig
  rw [abs_neg]
  rcases le_total x 0 with h | h
  · rw [min_eq_left h, min_eq_right (by linarith)]; ring
  · rw [min_eq_right h, min_eq_left (by linarith)]; ring

theorem exp_logSig_neg (x : ℝ) : Real.exp (logSig (-x)) = 1 - Real.exp (logSig x) := by
  rw [eq_sub_iff_add_eq]
  unfold logSig
  rw [abs_neg, Real.exp_sub, Real.exp_sub, Real.exp_log (by positivity)]
  rcases le_total x 0 with h | h
  · rw [min_eq_left h, min_eq_right (by linarith), abs_of_nonpos h, neg_neg, Real.exp_zero]
    field_simp
  · rw [min_eq_right h, min_eq_left (by linarith), abs_of_nonneg h, Real.exp_zero]
    field_simp; ring

end Cert.Stick

end
-- ==== Proof.SbCells.lean ====
module

public import proofs.«01_k».proof.Defs
public import proofs.«01_k».proof.Proof.Base
public import proofs.«01_k».proof.Proof.SbMath
public import proofs.«01_k».proof.Proof.SbRun

/-!
What the kernel of the stick-breaking attention's gradient computes at one grid point, over the reals: its blocks are
the blocks of `Cert.Stick`'s functions.
-/

@[expose] public section

set_option maxRecDepth 16384

noncomputable section

open Idealize.ShloMosaic Idealize.ShloMosaic.TcCoe Idealize.SL.Sem
open Idealize.ShloMosaic.Pipeline (Dat)

namespace Cert.SbBwdIdeal.Val
open Cert.SbBwdIdeal Cert.SbBwdIdeal.Gen Cert.SbBwdIdeal.Run Cert.Stick

theorem scale_eq : (Named.named κ "inv_sqrt_d" 0x3DB504F3#32 : Ideal .f32) = (((Real.sqrt 128)⁻¹ : ℝ) : EReal) := rfl

/-- The scale of the scores. -/
abbrev sc : ℝ := (Real.sqrt 128)⁻¹

theorem logSig_cell (x : ℝ) : min (x : EReal) 0 - Ideal.log1p (Ideal.exp (0 - FloatOps.absf (F := Ideal) (φ := .f32) (x : EReal))) = ((logSig x : ℝ) : EReal) := by
  have e1 : (FloatOps.absf (F := Ideal) (φ := .f32) (x : EReal)) = ((|x| : ℝ) : EReal) := by
    show max (x : EReal) (-(x : EReal)) = _
    rw [← EReal.coe_neg, ← EReal.coe_strictMono.monotone.map_max]; rfl
  have e2 : (1 : EReal) + ((Real.exp (-|x|) : ℝ) : EReal) = ((1 + Real.exp (-|x|) : ℝ) : EReal) := by norm_cast
  rw [e1, zero_sub, ← EReal.coe_neg, Ideal.exp_coe, Ideal.log1p, e2, Ideal.log_coe, if_neg (not_le.mpr (by positivity)),
    ← EReal.coe_zero, ← EReal.coe_strictMono.monotone.map_min, ← EReal.coe_sub]
  rfl

theorem word_lt {a b : ℕ} (ha : a < 2 ^ 31) (hb : b < 2 ^ 31) {α : Type} (u v : α) :
    Scalar.select (IntOp.cmpi .slt (BitVec.ofNat 32 a) (BitVec.ofNat 32 b)) u v = if a < b then u else v := by
  unfold Scalar.select
  exact if_congr (WordCmp.cmpi_slt_ofNat_eq_one_iff (w := 32) ha hb) rfl rfl

theorem word_gt {a b : ℕ} (ha : a < 2 ^ 31) (hb : b < 2 ^ 31) {α : Type} (u v : α) :
    Scalar.select (IntOp.cmpi .sgt (BitVec.ofNat 32 a) (BitVec.ofNat 32 b)) u v = if b < a then u else v := by
  unfold Scalar.select
  exact if_congr (WordCmp.cmpi_sgt_ofNat_eq_one_iff (w := 32) ha hb) rfl rfl

theorem ite_coe (p : Prop) [Decidable p] (a b : ℝ) : (if p then (a : EReal) else (b : EReal)) = ((if p then a else b : ℝ) : EReal) := by
  split_ifs <;> rfl

variable (i : grid0.Coords) (x2 x5 : Vec Ideal S256x128 .bf16) (x3 x4 : Vec Ideal S2048x128 .bf16) (Q K V D : ℕ → ℕ → ℝ)

theorem i_lt : (i 1).val < 8 := (i 1).isLt

theorem keys1_apply (k : Fin (k0_t1_loop i).trips) (y : S256x128.Idx)
    (h3 : ∀ y : S2048x128.Idx, x3 y = ((K (y 0).val (y 1).val : ℝ) : EReal)) :
    keys1 i x3 k y = ((K (256 * ((i 1).val - k.val) + (y 0).val) (y 1).val : ℝ) : EReal) := by
  unfold keys1
  show x3 ((Rect.unit (s := S2048x128) (k0_off1 i k) S256x128.size (k0_off1_inb i k)).emb y) = _
  have e0 : k0_off1 i k 0 + 1 * (y 0).val = 256 * ((i 1).val - k.val) + (y 0).val := by rw [off1_eq, Nat.one_mul]; rfl
  have e1 : k0_off1 i k 1 + 1 * (y 1).val = (y 1).val := by rw [off1_eq, Nat.one_mul]; exact Nat.zero_add _
  rw [h3]
  exact congrArg (fun z : ℝ => (z : EReal)) (congrArg₂ K e0 e1)

theorem off6_eq : ∀ (i : grid0.Coords) (k : Fin (k0_t3_loop i).trips), k0_off6 i k = ![256 * k.val, 0] := by decide +kernel

theorem rows3_apply (k : Fin (k0_t3_loop i).trips) (y : S256x128.Idx)
    (h3 : ∀ y : S2048x128.Idx, x3 y = ((K (y 0).val (y 1).val : ℝ) : EReal)) :
    rows3 i x3 k y = ((K (256 * k.val + (y 0).val) (y 1).val : ℝ) : EReal) := by
  unfold rows3
  show x3 ((Rect.unit (s := S2048x128) (k0_off6 i k) S256x128.size (k0_off6_inb i k)).emb y) = _
  have e0 : k0_off6 i k 0 + 1 * (y 0).val = 256 * k.val + (y 0).val := by rw [off6_eq, Nat.one_mul]; rfl
  have e1 : k0_off6 i k 1 + 1 * (y 1).val = (y 1).val := by rw [off6_eq, Nat.one_mul]; exact Nat.zero_add _
  rw [h3]
  exact congrArg (fun z : ℝ => (z : EReal)) (congrArg₂ K e0 e1)

section Block

variable (h2 : ∀ y : S256x128.Idx, x2 y = ((Q (256 * (i 1).val + (y 0).val) (y 1).val : ℝ) : EReal))

include h2 in
theorem score_cell (x : Vec Ideal S256x128 .bf16) (b : ℕ) (hx : ∀ y : S256x128.Idx, x y = ((K (b + (y 0).val) (y 1).val : ℝ) : EReal))
    (y : S256x256.Idx) : k0_pay9 x2 x y = ((score Q K sc (256 * (i 1).val + (y 0).val) (b + (y 1).val) : ℝ) : EReal) := by
  pointwise [k0_pay9]
  simp only [h2, hx, ← EReal.coe_mul, ← Base.coe_sum, scale_eq]
  rfl

include h2 in
theorem logSig_block (x : Vec Ideal S256x128 .bf16) (b : ℕ) (hx : ∀ y : S256x128.Idx, x y = ((K (b + (y 0).val) (y 1).val : ℝ) : EReal))
    (y : S256x256.Idx) : k0_pay11 x2 x y = ((logSig (score Q K sc (256 * (i 1).val + (y 0).val) (b + (y 1).val)) : ℝ) : EReal) := by
  pointwise [k0_pay11]
  rw [score_cell i x2 Q K h2 x b hx, logSig_cell]

theorem words0 (b a : ℕ) : IntOp.addi (Scalar.muli (BitVec.ofNat 32 b) 256#32) (BitVec.ofNat 32 a) = BitVec.ofNat 32 (256 * b + a) := by
  show BitVec.ofNat 32 b * BitVec.ofNat 32 256 + BitVec.ofNat 32 a = _
  rw [← BitVec.ofNat_mul, ← BitVec.ofNat_add, Nat.mul_comm]

theorem iv_eq (k : ℕ) : Scf.iv 0#32 1#32 k = BitVec.ofNat 32 k := by
  show 0#32 + BitVec.ofNat 32 k * 1#32 = _
  rw [BitVec.mul_one, BitVec.zero_add]

theorem words1 (k : Fin (k0_t1_loop i).trips) (a : ℕ) :
    IntOp.addi (Scalar.muli (Scalar.subi (BitVec.ofNat 32 (i 1).val) (Scf.iv 0#32 1#32 k.val)) 256#32) (BitVec.ofNat 32 a)
      = BitVec.ofNat 32 (256 * ((i 1).val - k.val) + a) := by
  have hk := Nat.lt_of_lt_of_eq k.isLt (trips1_eq i)
  have e : Scalar.subi (BitVec.ofNat 32 (i 1).val) (Scf.iv 0#32 1#32 k.val) = BitVec.ofNat 32 ((i 1).val - k.val) := by
    rw [iv_eq]
    show BitVec.ofNat 32 (i 1).val - BitVec.ofNat 32 k.val = _
    have e' : (i 1).val = ((i 1).val - k.val) + k.val := by omega
    conv_lhs => rw [e', BitVec.ofNat_add, BitVec.add_sub_cancel]
  rw [e, words0]

theorem mask_cell (k : Fin (k0_t1_loop i).trips) (y : S256x256.Idx) {α : Type} (u v : α) :
    Scalar.select (k0_pay10 i (BitVec.ofNat 32 (i 1).val) 0#32 1#32 k y) u v
      = if 256 * ((i 1).val - k.val) + (y 1).val < 256 * (i 1).val + (y 0).val then u else v := by
  have h := i_lt i
  have h0 : (y 0).val < 256 := (y 0).isLt
  have h1 : (y 1).val < 256 := (y 1).isLt
  pointwise [k0_pay10]
  rw [words1 i k, words0, word_lt (by omega) (by omega)]

include h2 in
theorem keep_cell (k : Fin (k0_t1_loop i).trips) (x : Vec Ideal S256x128 .bf16)
    (hx : ∀ y : S256x128.Idx, x y = ((K (256 * ((i 1).val - k.val) + (y 0).val) (y 1).val : ℝ) : EReal)) (y : S256x256.Idx) :
    k0_pay12 i (BitVec.ofNat 32 (i 1).val) x2 0#32 1#32 k x y
      = ((keep Q K sc (256 * (i 1).val + (y 0).val) (256 * ((i 1).val - k.val) + (y 1).val) : ℝ) : EReal) := by
  have e : k0_pay12 i (BitVec.ofNat 32 (i 1).val) x2 0#32 1#32 k x y
      = Scalar.select (k0_pay10 i (BitVec.ofNat 32 (i 1).val) 0#32 1#32 k y) (k0_pay11 x2 x y - k0_pay9 x2 x y) 0 := by
    pointwise [k0_pay12]
  rw [e, mask_cell, logSig_block i x2 Q K h2 x _ hx, score_cell i x2 Q K h2 x _ hx, ← EReal.coe_sub, ← EReal.coe_zero, ite_coe]
  rfl

theorem tri_cell (c : ℕ) (hc : c < 256) (f : ℕ → ℝ) (x : Fin 256 → EReal) (hx : ∀ a, x a = ((f a.val : ℝ) : EReal)) :
    ∑ a, Scalar.select (IntOp.cmpi .sgt (BitVec.ofNat 32 a.val) (BitVec.ofNat 32 c)) (x a) 0
      = ((∑ a : Fin 256, (if c < a.val then f a.val else 0) : ℝ) : EReal) := by
  rw [Base.coe_sum]
  refine Finset.sum_congr rfl fun a _ => ?_
  have ha := a.isLt
  rw [word_gt (by omega) (by omega), hx, ← EReal.coe_zero, ite_coe]

theorem tri_cell' (c : ℕ) (hc : c < 256) (f : ℕ → ℝ) (x : Fin 256 → EReal) (hx : ∀ a, x a = ((f a.val : ℝ) : EReal)) :
    ∑ a, Scalar.select (IntOp.cmpi .slt (BitVec.ofNat 32 a.val) (BitVec.ofNat 32 c)) (x a) 0
      = ((∑ a : Fin 256, (if a.val < c then f a.val else 0) : ℝ) : EReal) := by
  rw [Base.coe_sum]
  refine Finset.sum_congr rfl fun a _ => ?_
  have ha := a.isLt
  rw [word_lt (by omega) (by omega), hx, ← EReal.coe_zero, ite_coe]

include h2 in
theorem rowsum1_apply (h3 : ∀ y : S2048x128.Idx, x3 y = ((K (y 0).val (y 1).val : ℝ) : EReal)) (k : ℕ) (hk : k ≤ (i 1).val + 1) (y : S256x1.Idx) :
    rowsum1 i (BitVec.ofNat 32 (i 1).val) x2 x3 k y
      = ((∑ x ∈ Finset.Ico (256 * ((i 1).val + 1 - k)) (256 * ((i 1).val + 1)), keep Q K sc (256 * (i 1).val + (y 0).val) x : ℝ) : EReal) := by
  induction k with
  | zero =>
    show k0_pay31 (F := Ideal) y = _
    pointwise [k0_pay31]
    exact congrArg (fun z : ℝ => (z : EReal)) (Finset.sum_eq_zero fun x hx => absurd (Finset.mem_Ico.mp hx) (by omega)).symm
  | succ k ih =>
    unfold rowsum1
    have hlt : k < (k0_t1_loop i).trips := by rw [trips1_eq]; omega
    rw [dif_pos hlt]
    have e : ∀ (x : FVec Ideal S256x1 .f32) (w : FVec Ideal S256x256 .f32), k0_pay33 x w y = x y + ∑ c : Fin 256, w (ValueIdx.ix2 (y 0) c) := by
      intro x w
      pointwise [k0_pay33]
      rfl
    rw [e, ih (by omega), sum_blocks_pred (keep Q K sc (256 * (i 1).val + (y 0).val)) (n := (i 1).val + 1 - (k + 1)) (by omega), EReal.coe_add, Base.coe_sum Finset.univ]
    have e1 : (i 1).val + 1 - (k + 1) + 1 = (i 1).val + 1 - k := by omega
    have e2 : (i 1).val + 1 - (k + 1) = (i 1).val - k := by omega
    rw [e1, e2]
    congr 1
    refine Finset.sum_congr rfl fun c _ => ?_
    rw [keep_cell i x2 Q K h2 ⟨k, hlt⟩ _ (fun y => keys1_apply i x3 K ⟨k, hlt⟩ y h3)]

include h2 in
theorem tile9_apply (h3 : ∀ y : S2048x128.Idx, x3 y = ((K (y 0).val (y 1).val : ℝ) : EReal)) (k : Fin (k0_t1_loop i).trips) (y : S1x256x256.Idx) :
    tile9 i (BitVec.ofNat 32 (i 1).val) x2 x3 k y
      = ((weight Q K sc (256 * (i 1).val + (y 1).val) (256 * ((i 1).val - k.val) + (y 2).val) : ℝ) : EReal) := by
  have hi := i_lt i
  have hk := Nat.lt_of_lt_of_eq k.isLt (trips1_eq i)
  have hy1 : (y 1).val < 256 := (y 1).isLt
  have hy2 : (y 2).val < 256 := (y 2).isLt
  have hkeys := fun y => keys1_apply i x3 K k y h3
  have hkeep := keep_cell i x2 Q K h2 k _ hkeys
  unfold tile9
  pointwise [k0_pay13, k0_pay27]
  rw [mask_cell, logSig_block i x2 Q K h2 _ _ hkeys, rowsum1_apply i x2 x3 Q K h2 h3 k.val (by omega),
    tri_cell (y 2).val hy2 (fun a => keep Q K sc (256 * (i 1).val + (y 1).val) (256 * ((i 1).val - k.val) + a)) _ (fun a => hkeep _),
    tri_cell (y 2).val hy2 (fun a => 0) _ (fun a => by rw [hkeep, ← EReal.coe_sub, sub_self])]
  have e : ∑ a : Fin 256, (if (y 2).val < a.val then keep Q K sc (256 * (i 1).val + (y 1).val) (256 * ((i 1).val - k.val) + a.val) else 0)
      + ∑ a : Fin 256, (if (y 2).val < a.val then 0 else 0)
      + ∑ x ∈ Finset.Ico (256 * ((i 1).val + 1 - k.val)) (256 * ((i 1).val + 1)), keep Q K sc (256 * (i 1).val + (y 1).val) x
      = ∑ x ∈ Finset.Ico (256 * ((i 1).val - k.val) + (y 2).val + 1) 2048, keep Q K sc (256 * (i 1).val + (y 1).val) x := by
    have e1 : (i 1).val + 1 - k.val = (i 1).val - k.val + 1 := by omega
    rw [sum_after _ _ _ hy2, e1]
    simp only [ite_self, Finset.sum_const_zero, add_zero]
    rw [Finset.sum_Ico_consecutive _ (by omega) (by omega), sum_keep_cut Q K sc (by omega) (by omega) (by omega)]
  rw [← EReal.coe_add, ← EReal.coe_add, ← EReal.coe_add, Ideal.exp_coe, ← EReal.coe_zero, ite_coe]
  exact congrArg (fun S : ℝ => ((if 256 * ((i 1).val - k.val) + (y 2).val < 256 * (i 1).val + (y 1).val then
    Real.exp (logSig (score Q K sc (256 * (i 1).val + (y 1).val) (256 * ((i 1).val - k.val) + (y 2).val)) + S) else 0 : ℝ) : EReal)) e

include h2 in
theorem tile10_apply (h3 : ∀ y : S2048x128.Idx, x3 y = ((K (y 0).val (y 1).val : ℝ) : EReal)) (k : Fin (k0_t1_loop i).trips) (y : S1x256x256.Idx) :
    tile10 i x2 x3 k y
      = ((Real.exp (logSig (score Q K sc (256 * (i 1).val + (y 1).val) (256 * ((i 1).val - k.val) + (y 2).val))) : ℝ) : EReal) := by
  unfold tile10
  pointwise [k0_pay32]
  rw [logSig_block i x2 Q K h2 _ _ (fun y => keys1_apply i x3 K k y h3), Ideal.exp_coe]
  rfl

variable (h5 : ∀ y : S256x128.Idx, x5 y = ((D (256 * (i 1).val + (y 0).val) (y 1).val : ℝ) : EReal))
  (h3 : ∀ y : S2048x128.Idx, x3 y = ((K (y 0).val (y 1).val : ℝ) : EReal))
  (h4 : ∀ y : S2048x128.Idx, x4 y = ((V (y 0).val (y 1).val : ℝ) : EReal))

include h2 h3 in
/-- The block of weights the third loop's trip reads. -/
theorem tile9_rev (j : Fin (k0_t3_loop i).trips) (y : S1x256x256.Idx) :
    tile9 i (BitVec.ofNat 32 (i 1).val) x2 x3 (rev i j) y
      = ((weight Q K sc (256 * (i 1).val + (y 1).val) (256 * j.val + (y 2).val) : ℝ) : EReal) := by
  have hj := Nat.lt_of_lt_of_eq j.isLt (trips3_eq i)
  rw [tile9_apply i x2 x3 Q K h2 h3]
  have e : (i 1).val - (rev i j).val = j.val := by simp only [rev]; omega
  rw [e]

include h2 h3 in
theorem tile10_rev (j : Fin (k0_t3_loop i).trips) (y : S1x256x256.Idx) :
    tile10 i x2 x3 (rev i j) y
      = ((Real.exp (logSig (score Q K sc (256 * (i 1).val + (y 1).val) (256 * j.val + (y 2).val))) : ℝ) : EReal) := by
  have hj := Nat.lt_of_lt_of_eq j.isLt (trips3_eq i)
  rw [tile10_apply i x2 x3 Q K h2 h3]
  have e : (i 1).val - (rev i j).val = j.val := by simp only [rev]; omega
  rw [e]

include h2 h3 h4 h5 in
theorem pull_cell (j : Fin (k0_t3_loop i).trips) (y : S256x256.Idx) :
    k0_pay20 x5 (tile9 i (BitVec.ofNat 32 (i 1).val) x2 x3 (rev i j)) (rows3 i x4 j) y
      = ((pull Q K V D sc (256 * (i 1).val + (y 0).val) (256 * j.val + (y 1).val) : ℝ) : EReal) := by
  pointwise [k0_pay20, k0_pay19]
  simp only [h5, rows3_apply i x4 V j _ h4, ← EReal.coe_mul, ← Base.coe_sum]
  rw [tile9_rev i x2 x3 Q K h2 h3, ← EReal.coe_mul]
  rfl

include h2 h3 h4 h5 in
theorem pair3_snd (n : ℕ) (hn : n ≤ (i 1).val + 1) (y : S256x1.Idx) :
    (pair3 i (BitVec.ofNat 32 (i 1).val) x2 x5 x3 x4 n).2 y
      = ((∑ x ∈ Finset.range (256 * n), pull Q K V D sc (256 * (i 1).val + (y 0).val) x : ℝ) : EReal) := by
  induction n with
  | zero =>
    show k0_pay37 (F := Ideal) y = _
    pointwise [k0_pay37]
    rfl
  | succ n ih =>
    unfold pair3
    have hlt : n < (k0_t3_loop i).trips := by rw [trips3_eq]; omega
    rw [dif_pos hlt]
    have e : ∀ (x : FVec Ideal S256x1 .f32) (w : FVec Ideal S256x256 .f32), k0_pay4 x w y = x y + ∑ c : Fin 256, w (ValueIdx.ix2 (y 0) c) := by
      intro x w
      pointwise [k0_pay4]
      rfl
    dsimp only
    rw [e, ih (by omega), sum_blocks_succ, EReal.coe_add, Base.coe_sum Finset.univ]
    congr 1
    refine Finset.sum_congr rfl fun c _ => ?_
    exact pull_cell i x2 x5 x3 x4 Q K V D h2 h5 h3 h4 ⟨n, hlt⟩ _

include h2 h3 h4 h5 in
theorem dscore_cell (j : Fin (k0_t3_loop i).trips) (y : S256x256.Idx) :
    Run.dscore i (BitVec.ofNat 32 (i 1).val) x2 x5 x3 x4 j y
      = ((Stick.dscore Q K V D sc (256 * (i 1).val + (y 0).val) (256 * j.val + (y 1).val) : ℝ) : EReal) := by
  have hi := i_lt i
  have hj := Nat.lt_of_lt_of_eq j.isLt (trips3_eq i)
  have hy0 : (y 0).val < 256 := (y 0).isLt
  have hy1 : (y 1).val < 256 := (y 1).isLt
  have hp := pull_cell i x2 x5 x3 x4 Q K V D h2 h5 h3 h4 j
  unfold Run.dscore
  pointwise [k0_pay21, k0_pay28]
  rw [iv_eq, words0, words0, word_lt (by omega) (by omega), hp, tile10_rev i x2 x3 Q K h2 h3,
    pair3_snd i x2 x5 x3 x4 Q K V D h2 h5 h3 h4 j.val (by omega),
    tri_cell' (y 1).val hy1 (fun a => pull Q K V D sc (256 * (i 1).val + (y 0).val) (256 * j.val + a)) _ (fun a => hp _),
    tri_cell' (y 1).val hy1 (fun a => 0) _ (fun a => by rw [hp, ← EReal.coe_sub, sub_self]), scale_eq]
  have e : ∑ a : Fin 256, (if a.val < (y 1).val then pull Q K V D sc (256 * (i 1).val + (y 0).val) (256 * j.val + a.val) else 0)
      + ∑ a : Fin 256, (if a.val < (y 1).val then 0 else 0)
      + ∑ x ∈ Finset.range (256 * j.val), pull Q K V D sc (256 * (i 1).val + (y 0).val) x
      = ∑ x ∈ Finset.range (256 * j.val + (y 1).val), pull Q K V D sc (256 * (i 1).val + (y 0).val) x := by
    simp only [ite_self, Finset.sum_const_zero, add_zero]
    exact sum_before _ _ _ hy1
  rw [← EReal.coe_add, ← EReal.coe_add, ← EReal.coe_one, ← EReal.coe_sub, ← EReal.coe_mul, ← EReal.coe_mul, ← EReal.coe_sub,
    ← EReal.coe_mul, ← EReal.coe_zero, ite_coe]
  exact congrArg (fun S : ℝ => ((if 256 * j.val + (y 1).val < 256 * (i 1).val + (y 0).val then
    (pull Q K V D sc (256 * (i 1).val + (y 0).val) (256 * j.val + (y 1).val)
        * (1 - Real.exp (logSig (score Q K sc (256 * (i 1).val + (y 0).val) (256 * j.val + (y 1).val))))
      - S * Real.exp (logSig (score Q K sc (256 * (i 1).val + (y 0).val) (256 * j.val + (y 1).val)))) * sc else 0 : ℝ) : EReal)) e

include h2 h3 h4 h5 in
theorem pair3_fst (n : ℕ) (hn : n ≤ (i 1).val + 1) (y : S256x128.Idx) :
    (pair3 i (BitVec.ofNat 32 (i 1).val) x2 x5 x3 x4 n).1 y
      = ((∑ x ∈ Finset.range (256 * n), Stick.dscore Q K V D sc (256 * (i 1).val + (y 0).val) x * K x (y 1).val : ℝ) : EReal) := by
  induction n with
  | zero =>
    show k0_pay36 (F := Ideal) y = _
    pointwise [k0_pay36]
    rfl
  | succ n ih =>
    unfold pair3
    have hlt : n < (k0_t3_loop i).trips := by rw [trips3_eq]; omega
    rw [dif_pos hlt]
    have e : k0_pay22 i (BitVec.ofNat 32 (i 1).val) x5 k0_pay28 0#32 1#32 ⟨n, hlt⟩ (pair3 i (BitVec.ofNat 32 (i 1).val) x2 x5 x3 x4 n).2
        (tile9 i (BitVec.ofNat 32 (i 1).val) x2 x3 (rev i ⟨n, hlt⟩)) (tile10 i x2 x3 (rev i ⟨n, hlt⟩)) (rows3 i x4 ⟨n, hlt⟩) (rows3 i x3 ⟨n, hlt⟩) y
        = ∑ c : Fin 256, Run.dscore i (BitVec.ofNat 32 (i 1).val) x2 x5 x3 x4 ⟨n, hlt⟩ (ValueIdx.ix2 (y 0) c) * rows3 i x3 ⟨n, hlt⟩ (ValueIdx.ix2 c (y 1)) := by
      unfold Run.dscore
      pointwise [k0_pay22]
      rfl
    have e' : ∀ (x w : FVec Ideal S256x128 .f32), k0_pay1 x w y = x y + w y := fun x w => by pointwise [k0_pay1]
    dsimp only
    rw [e', e, ih (by omega), sum_blocks_succ, EReal.coe_add, Base.coe_sum Finset.univ]
    congr 1
    refine Finset.sum_congr rfl fun c _ => ?_
    rw [dscore_cell i x2 x5 x3 x4 Q K V D h2 h5 h3 h4 ⟨n, hlt⟩, rows3_apply i x3 K ⟨n, hlt⟩ _ h3, ← EReal.coe_mul]

include h2 h3 h4 h5 in
/-- The queries' gradient of the block. -/
theorem outq_apply (y : S256x128.Idx) : outq i x2 x5 x3 x4 y
    = ((∑ x ∈ Finset.range 2048, Stick.dscore Q K V D sc (256 * (i 1).val + (y 0).val) x * K x (y 1).val : ℝ) : EReal) := by
  have hi := i_lt i
  have hy0 : (y 0).val < 256 := (y 0).isLt
  unfold outq
  rw [trips3_eq, pair3_fst i x2 x5 x3 x4 Q K V D h2 h5 h3 h4 _ le_rfl]
  rw [sum_cut _ (b := 2048) (by omega) fun x hx => by rw [dscore_of_le Q K V D sc (by omega), zero_mul]]

theorem put_rows (x : S2048x128.Idx → EReal) (k : Fin (k0_t3_loop i).trips) (w : S256x128.Idx → EReal) (y : S2048x128.Idx) :
    VecWindow.put (s := S2048x128) x (k0_off6 i k) S256x128.size w y
      = if h : 256 * k.val ≤ (y 0).val ∧ (y 0).val < 256 * k.val + 256 then
          w (ValueIdx.ix2 (⟨(y 0).val - 256 * k.val, by omega⟩ : Fin 256) (y 1)) else x y := by
  have e0 : k0_off6 i k 0 = 256 * k.val := by rw [off6_eq]; rfl
  have e1 : k0_off6 i k 1 = 0 := by rw [off6_eq]; rfl
  unfold VecWindow.put
  by_cases h : 256 * k.val ≤ (y 0).val ∧ (y 0).val < 256 * k.val + 256
  · have h' : ∀ a, k0_off6 i k a ≤ (y a).val ∧ (y a).val < k0_off6 i k a + S256x128.size a := fun a => by
      match a with
      | ⟨0, _⟩ => exact ⟨e0.trans_le h.1, h.2.trans_eq (by rw [← e0]; rfl)⟩
      | ⟨1, _⟩ => exact ⟨e1.trans_le (Nat.zero_le _), Nat.lt_of_lt_of_eq (y 1).isLt ((Nat.zero_add _).symm.trans (congrArg (· + 128) e1.symm))⟩
    rw [dif_pos h', dif_pos h]
    refine congrArg w (funext fun a => Fin.ext ?_)
    match a with
    | ⟨0, _⟩ => exact congrArg ((y 0).val - ·) e0
    | ⟨1, _⟩ => exact congrArg ((y 1).val - ·) e1
  · rw [dif_neg h, dif_neg fun h' => h ⟨e0.symm.trans_le (h' 0).1, Nat.lt_of_lt_of_eq (h' 0).2 (congrArg (· + 256) e0)⟩]

theorem window_rows (x : S2048x128.Idx → EReal) (k : Fin (k0_t3_loop i).trips) (y : S256x128.Idx) :
    VecWindow.window (s := S2048x128) x (k0_off6 i k) S256x128.size (k0_off6_inb i k) y
      = x (ValueIdx.ix2 (⟨256 * k.val + (y 0).val, by
          have hi := i_lt i
          have hk := Nat.lt_of_lt_of_eq k.isLt (trips3_eq i)
          have : (y 0).val < 256 := (y 0).isLt
          omega⟩ : Fin 2048) (y 1)) := by
  have e0 : k0_off6 i k 0 = 256 * k.val := by rw [off6_eq]; rfl
  have e1 : k0_off6 i k 1 = 0 := by rw [off6_eq]; rfl
  refine congrArg x (funext fun a => Fin.ext ?_)
  match a with
  | ⟨0, _⟩ => exact (congrArg₂ (· + ·) e0 (Nat.one_mul _))
  | ⟨1, _⟩ => exact (congrArg₂ (· + ·) e1 (Nat.one_mul _)).trans (Nat.zero_add _)

include h2 h3 h4 h5 in
theorem dkeys_apply (Y : Vec Ideal S2048x128 .f32) (n : ℕ) (hn : n ≤ (i 1).val + 1) (y : S2048x128.Idx) :
    dkeys i (BitVec.ofNat 32 (i 1).val) x2 x5 x3 x4 Y n y
      = if (y 0).val < 256 * n then
          (Y y : EReal) + ((∑ r : Fin 256, Stick.dscore Q K V D sc (256 * (i 1).val + r.val) (y 0).val * Q (256 * (i 1).val + r.val) (y 1).val : ℝ) : EReal)
        else Y y := by
  induction n generalizing y with
  | zero => exact (if_neg (by omega)).symm
  | succ n ih =>
    unfold dkeys
    have hlt : n < (k0_t3_loop i).trips := by rw [trips3_eq]; omega
    have hn' : n < (i 1).val + 1 := hn
    rw [dif_pos hlt, put_rows]
    simp only
    split_ifs with h h' h'
    · have e : ∀ (w : FVec Ideal S256x256 .bf16) (v : Vec Ideal S256x128 .f32) (y : S256x128.Idx),
          k0_pay2 x2 w v y = (v y : EReal) + ∑ r : Fin 256, (w (ValueIdx.ix2 r (y 0)) : EReal) * x2 (ValueIdx.ix2 r (y 1)) := by
        intro w v y
        pointwise [k0_pay2]
        rfl
      have hc : 256 * n + ((y 0).val - 256 * n) = (y 0).val := by omega
      have hi' : ∀ u : Fin 2048, u.val = (y 0).val → (ValueIdx.ix2 u (y 1) : S2048x128.Idx) = y := fun u hu => funext fun a => Fin.ext (by
        match a with
        | ⟨0, _⟩ => exact hu
        | ⟨1, _⟩ => rfl)
      rw [e, window_rows, ih (by omega)]
      refine (congrArg₂ (· + ·) ((if_neg ?_).trans (congrArg Y (hi' _ hc))) ((Finset.sum_congr rfl fun r _ => ?_).trans (Base.coe_sum _ _).symm))
      · exact Nat.not_lt.mpr (Nat.le_add_right _ _)
      · refine (congrArg₂ (· * ·) (dscore_cell i x2 x5 x3 x4 Q K V D h2 h5 h3 h4 ⟨n, hlt⟩ _) (h2 _)).trans ((EReal.coe_mul _ _).symm.trans ?_)
        exact congrArg (fun x => ((Stick.dscore Q K V D sc (256 * (i 1).val + r.val) x * Q (256 * (i 1).val + r.val) (y 1).val : ℝ) : EReal)) hc
    · omega
    · rw [ih (by omega), if_pos (by omega)]
    · rw [ih (by omega), if_neg (by omega)]

include h2 h3 h4 h5 in
/-- The keys' gradient after the block: every row gains the block's terms. -/
theorem outk_apply (Y : Vec Ideal S2048x128 .f32) (y : S2048x128.Idx) :
    outk i x2 x5 x3 x4 Y y
      = (Y y : EReal) + ((∑ r : Fin 256, Stick.dscore Q K V D sc (256 * (i 1).val + r.val) (y 0).val * Q (256 * (i 1).val + r.val) (y 1).val : ℝ) : EReal) := by
  unfold outk
  rw [trips3_eq, dkeys_apply i x2 x5 x3 x4 Q K V D h2 h5 h3 h4 Y _ le_rfl]
  split_ifs with h
  · rfl
  · rw [Finset.sum_eq_zero fun r _ => by rw [dscore_of_le Q K V D sc (by have := r.isLt; omega), zero_mul], EReal.coe_zero, add_zero]

include h2 h3 in
theorem weight_cell (j : Fin (k0_t3_loop i).trips) (y : S256x256.Idx) :
    k0_pay19 (tile9 i (BitVec.ofNat 32 (i 1).val) x2 x3 (rev i j)) y
      = ((weight Q K sc (256 * (i 1).val + (y 0).val) (256 * j.val + (y 1).val) : ℝ) : EReal) := by
  pointwise [k0_pay19]
  exact tile9_rev i x2 x3 Q K h2 h3 j _

include h2 h3 h5 in
theorem dvals_apply (Y : Vec Ideal S2048x128 .f32) (n : ℕ) (hn : n ≤ (i 1).val + 1) (y : S2048x128.Idx) :
    dvals i (BitVec.ofNat 32 (i 1).val) x2 x5 x3 Y n y
      = if (y 0).val < 256 * n then
          (Y y : EReal) + ((∑ r : Fin 256, Stick.weight Q K sc (256 * (i 1).val + r.val) (y 0).val * D (256 * (i 1).val + r.val) (y 1).val : ℝ) : EReal)
        else Y y := by
  induction n generalizing y with
  | zero => exact (if_neg (by omega)).symm
  | succ n ih =>
    unfold dvals
    have hlt : n < (k0_t3_loop i).trips := by rw [trips3_eq]; omega
    have hn' : n < (i 1).val + 1 := hn
    rw [dif_pos hlt, put_rows]
    simp only
    split_ifs with h h' h'
    · have e : ∀ (w : FVec Ideal S256x256 .bf16) (v : Vec Ideal S256x128 .f32) (y : S256x128.Idx),
          k0_pay3 x5 w v y = (v y : EReal) + ∑ r : Fin 256, (w (ValueIdx.ix2 r (y 0)) : EReal) * x5 (ValueIdx.ix2 r (y 1)) := by
        intro w v y
        pointwise [k0_pay3]
        rfl
      have hc : 256 * n + ((y 0).val - 256 * n) = (y 0).val := by omega
      have hi' : ∀ u : Fin 2048, u.val = (y 0).val → (ValueIdx.ix2 u (y 1) : S2048x128.Idx) = y := fun u hu => funext fun a => Fin.ext (by
        match a with
        | ⟨0, _⟩ => exact hu
        | ⟨1, _⟩ => rfl)
      rw [e, window_rows, ih (by omega)]
      refine (congrArg₂ (· + ·) ((if_neg ?_).trans (congrArg Y (hi' _ hc))) ((Finset.sum_congr rfl fun r _ => ?_).trans (Base.coe_sum _ _).symm))
      · exact Nat.not_lt.mpr (Nat.le_add_right _ _)
      · refine (congrArg₂ (· * ·) (weight_cell i x2 x3 Q K h2 h3 ⟨n, hlt⟩ _) (h5 _)).trans ((EReal.coe_mul _ _).symm.trans ?_)
        exact congrArg (fun x => ((Stick.weight Q K sc (256 * (i 1).val + r.val) x * D (256 * (i 1).val + r.val) (y 1).val : ℝ) : EReal)) hc
    · omega
    · rw [ih (by omega), if_pos (by omega)]
    · rw [ih (by omega), if_neg (by omega)]

include h2 h3 h5 in
/-- The values' gradient after the block. -/
theorem outv_apply (Y : Vec Ideal S2048x128 .f32) (y : S2048x128.Idx) :
    outv i x2 x5 x3 Y y
      = (Y y : EReal) + ((∑ r : Fin 256, Stick.weight Q K sc (256 * (i 1).val + r.val) (y 0).val * D (256 * (i 1).val + r.val) (y 1).val : ℝ) : EReal) := by
  unfold outv
  rw [trips3_eq, dvals_apply i x2 x5 x3 Q K D h2 h5 h3 Y _ le_rfl]
  split_ifs with h
  · rfl
  · rw [Finset.sum_eq_zero fun r _ => by rw [weight_of_le Q K sc (by have := r.isLt; omega), zero_mul], EReal.coe_zero, add_zero]

end Block

end Cert.SbBwdIdeal.Val
end
-- ==== Proof.SbOuts.lean ====
module

public import proofs.«01_k».proof.Proof.SbCells

/-! The gradients `_sb_bwd` leaves, as closed forms of finite arguments. -/

@[expose] public section

set_option maxRecDepth 16384

noncomputable section

open Idealize.ShloMosaic Idealize.ShloMosaic.TcCoe Idealize.SL.Sem
open Idealize.ShloMosaic.Pipeline (Dat)

namespace Cert.SbBwdIdeal.Val

open Cert.SbBwdIdeal Cert.SbBwdIdeal.Gen Cert.SbBwdIdeal.Run
open Cert.Stick

/-- The real entry of a matrix at natural-number coordinates. -/
def entry {a b : ℕ} [NeZero a] [NeZero b] (X : (⟨2, ![a, b]⟩ : Shape).Idx → EReal) (r c : ℕ) : ℝ :=
  (X (ValueIdx.ix2 (Fin.ofNat a r) (Fin.ofNat b c))).toReal

theorem entry_eq {a b : ℕ} [NeZero a] [NeZero b] (X : (⟨2, ![a, b]⟩ : Shape).Idx → EReal)
    (hX : ∀ y, X y = ((X y).toReal : EReal)) (y : (⟨2, ![a, b]⟩ : Shape).Idx) (r c : ℕ) (h0 : (y 0).val = r) (h1 : (y 1).val = c) :
    X y = ((entry X r c : ℝ) : EReal) := by
  subst h0 h1
  have e : y = ValueIdx.ix2 (Fin.ofNat a (y 0).val) (Fin.ofNat b (y 1).val) := by
    funext k
    match k with
    | ⟨0, _⟩ => exact Fin.ext (Nat.mod_eq_of_lt (y 0).isLt).symm
    | ⟨1, _⟩ => exact Fin.ext (Nat.mod_eq_of_lt (y 1).isLt).symm
  unfold entry
  rw [← e]
  exact hX y

section Heads

variable (X : S2048x4096.Idx → EReal) (Y Z : S2048x2048.Idx → EReal) (h : ℕ)

/-- Head `h`'s queries, keys, values and cotangents. -/
def Qh (r d : ℕ) : ℝ := entry (a := 2048) (b := 4096) X r (128 * h + d)
def Kh (r d : ℕ) : ℝ := entry (a := 2048) (b := 4096) X r (2048 + (128 * h + d))
def Th (r d : ℕ) : ℝ := entry (a := 2048) (b := 2048) Y r (128 * h + d)

/-- The queries', keys' and values' gradients at head `h`. -/
def dq (r d : ℕ) : ℝ := ∑ x ∈ Finset.range 2048, dscore (Qh X h) (Kh X h) (Th Y h) (Th Z h) sc r x * Kh X h x d
def dk (n x d : ℕ) : ℝ := ∑ r ∈ Finset.range n, dscore (Qh X h) (Kh X h) (Th Y h) (Th Z h) sc r x * Qh X h r d
def dv (n x d : ℕ) : ℝ := ∑ r ∈ Finset.range n, weight (Qh X h) (Kh X h) sc r x * Th Z h r d

end Heads

variable (m : (ℓ : Loc nD τ sig) → Buf (Elt Ideal) ℓ)

abbrev A0 (c : Dev nD) : S2048x4096.Idx → EReal := m ((c.tc : Thread nD τ).loc main_arg0)
abbrev A1 (c : Dev nD) : S2048x2048.Idx → EReal := m ((c.tc : Thread nD τ).loc main_arg1)
abbrev A2 (c : Dev nD) : S2048x2048.Idx → EReal := m ((c.tc : Thread nD τ).loc main_arg2)

theorem N_lt (t : Fin cfg0.N) : t.val < 128 := lt_of_lt_of_eq t.isLt N_0

theorem idx_val : ∀ t : Fin cfg0.N, win0_0.index t = ![t.val % 8, t.val / 8] ∧ win0_1.index t = ![0, t.val / 8 + 16]
    ∧ win0_2.index t = ![0, t.val / 8] ∧ win0_3.index t = ![t.val % 8, t.val / 8] ∧ win0_4.index t = ![t.val % 8, t.val / 8]
    ∧ win0_5.index t = ![0, t.val / 8] ∧ win0_6.index t = ![0, t.val / 8] := by decide +kernel

section Finite

variable (c : Dev nD) (f0 : ∀ y, A0 m c y = ((A0 m c y).toReal : EReal)) (f1 : ∀ y, A1 m c y = ((A1 m c y).toReal : EReal))
  (f2 : ∀ y, A2 m c y = ((A2 m c y).toReal : EReal)) (t : Fin cfg0.N)

include f0 in
theorem blk0 (y : S256x128.Idx) : iblk m c 0 t y
    = ((Qh (A0 m c) (t.val / 8) (256 * (grid0.coords t 1).val + (y 0).val) (y 1).val : ℝ) : EReal) := by
  have hi := idx_val t
  refine entry_eq (A0 m c) f0 _ _ _ ?_ ?_
  · rw [coord1_eq]; blk_simp [hi]; omega
  · blk_simp [hi]; omega

include f0 in
theorem blk1 (y : S2048x128.Idx) : iblk m c 1 t y
    = ((Kh (A0 m c) (t.val / 8) (y 0).val (y 1).val : ℝ) : EReal) := by
  have hi := idx_val t
  refine entry_eq (A0 m c) f0 _ _ _ ?_ ?_
  · blk_simp [hi]
  · blk_simp [hi]; omega

include f1 in
theorem blk2 (y : S2048x128.Idx) : iblk m c 2 t y
    = ((Th (A1 m c) (t.val / 8) (y 0).val (y 1).val : ℝ) : EReal) := by
  have hi := idx_val t
  refine entry_eq (A1 m c) f1 _ _ _ ?_ ?_
  · blk_simp [hi]
  · blk_simp [hi]; omega

include f2 in
theorem blk3 (y : S256x128.Idx) : iblk m c 3 t y
    = ((Th (A2 m c) (t.val / 8) (256 * (grid0.coords t 1).val + (y 0).val) (y 1).val : ℝ) : EReal) := by
  have hi := idx_val t
  refine entry_eq (A2 m c) f2 _ _ _ ?_ ?_
  · rw [coord1_eq]; blk_simp [hi]; omega
  · blk_simp [hi]; omega

include f0 f1 f2 in
/-- The keys' gradient after a head's first blocks of queries. -/
theorem accK_apply (h n : ℕ) (hn : n < 8) (ht : 8 * h + n < cfg0.N) (y : S2048x128.Idx) :
    accK m c (8 * h + n) ht y = ((dk (A0 m c) (A1 m c) (A2 m c) h (256 * (n + 1)) (y 0).val (y 1).val : ℝ) : EReal) := by
  have step : ∀ (n : ℕ) (hn : n < 8) (ht : 8 * h + n < cfg0.N) (W : Vec Ideal S2048x128 .f32) (y : S2048x128.Idx),
      outk (grid0.coords ⟨8 * h + n, ht⟩) (iblk m c 0 ⟨8 * h + n, ht⟩) (iblk m c 3 ⟨8 * h + n, ht⟩) (iblk m c 1 ⟨8 * h + n, ht⟩) (iblk m c 2 ⟨8 * h + n, ht⟩) W y
      = (W y : EReal) + ((∑ r : Fin 256, dscore (Qh (A0 m c) h) (Kh (A0 m c) h) (Th (A1 m c) h) (Th (A2 m c) h) sc (256 * n + r.val) (y 0).val * Qh (A0 m c) h (256 * n + r.val) (y 1).val : ℝ) : EReal) := by
    intro n hn ht W y
    have hd : (8 * h + n) / 8 = h := by omega
    have hc : (grid0.coords ⟨8 * h + n, ht⟩ 1).val = n := (coord1_eq _).trans (show (8 * h + n) % 8 = n by omega)
    rw [outk_apply _ _ _ _ _ _ _ _ _ (blk0 m c f0 ⟨8 * h + n, ht⟩) (blk3 m c f2 ⟨8 * h + n, ht⟩) (blk1 m c f0 ⟨8 * h + n, ht⟩) (blk2 m c f1 ⟨8 * h + n, ht⟩), hc]
    simp only [hd]
  induction n generalizing y with
  | zero =>
    refine (congrFun (accK_A m c ⟨8 * h + 0, ht⟩ (show (8 * h + 0) % 8 = 0 by omega)) y).trans ((step 0 hn ht _ y).trans ?_)
    have z : (k0_pay29 (F := Ideal) y : EReal) = 0 := by
      pointwise [k0_pay29]
    rw [z, zero_add]
    unfold dk
    rw [sum_blocks_succ]
    simp
  | succ n ih =>
    refine (congrFun (accK_B m c ⟨8 * h + (n + 1), ht⟩ (show (8 * h + (n + 1)) % 8 ≠ 0 by omega) (by simp only; omega)) y).trans ((step _ hn ht _ y).trans ?_)
    refine (congrArg (· + _) (ih (by omega) (by omega) y)).trans ?_
    rw [← EReal.coe_add]
    unfold dk
    rw [sum_blocks_succ _ (n + 1)]

include f0 f2 in
/-- The values' gradient after a head's first blocks of queries. -/
theorem accV_apply (h n : ℕ) (hn : n < 8) (ht : 8 * h + n < cfg0.N) (y : S2048x128.Idx) :
    accV m c (8 * h + n) ht y = ((dv (A0 m c) (A2 m c) h (256 * (n + 1)) (y 0).val (y 1).val : ℝ) : EReal) := by
  have step : ∀ (n : ℕ) (hn : n < 8) (ht : 8 * h + n < cfg0.N) (W : Vec Ideal S2048x128 .f32) (y : S2048x128.Idx),
      outv (grid0.coords ⟨8 * h + n, ht⟩) (iblk m c 0 ⟨8 * h + n, ht⟩) (iblk m c 3 ⟨8 * h + n, ht⟩) (iblk m c 1 ⟨8 * h + n, ht⟩) W y
      = (W y : EReal) + ((∑ r : Fin 256, weight (Qh (A0 m c) h) (Kh (A0 m c) h) sc (256 * n + r.val) (y 0).val * Th (A2 m c) h (256 * n + r.val) (y 1).val : ℝ) : EReal) := by
    intro n hn ht W y
    have hd : (8 * h + n) / 8 = h := by omega
    have hc : (grid0.coords ⟨8 * h + n, ht⟩ 1).val = n := (coord1_eq _).trans (show (8 * h + n) % 8 = n by omega)
    rw [outv_apply _ _ _ _ _ _ _ (blk0 m c f0 ⟨8 * h + n, ht⟩) (blk3 m c f2 ⟨8 * h + n, ht⟩) (blk1 m c f0 ⟨8 * h + n, ht⟩), hc]
    simp only [hd]
  induction n generalizing y with
  | zero =>
    refine (congrFun (accV_A m c ⟨8 * h + 0, ht⟩ (show (8 * h + 0) % 8 = 0 by omega)) y).trans ((step 0 hn ht _ y).trans ?_)
    have z : (k0_pay30 (F := Ideal) y : EReal) = 0 := by
      pointwise [k0_pay30]
    rw [z, zero_add]
    unfold dv
    rw [sum_blocks_succ]
    simp
  | succ n ih =>
    refine (congrFun (accV_B m c ⟨8 * h + (n + 1), ht⟩ (show (8 * h + (n + 1)) % 8 ≠ 0 by omega) (by simp only; omega)) y).trans ((step _ hn ht _ y).trans ?_)
    refine (congrArg (· + _) (ih (by omega) (by omega) y)).trans ?_
    rw [← EReal.coe_add]
    unfold dv
    rw [sum_blocks_succ _ (n + 1)]

include f0 f1 f2 in
theorem final_4 : (dats m 0 c).arrAt 4 (cfgs 0).N
    = fun y => ((dq (A0 m c) (A1 m c) (A2 m c) ((y 1).val / 128) (y 0).val ((y 1).val % 128) : ℝ) : EReal) := by
  refine (dats m 0 c).arrAt_eq_of_covers 4 _ (by decide +kernel) fun t hf y => ?_
  have hi := idx_val t
  have hy1 : (y 1).val < 128 := (y 1).isLt
  blk_simp
  rw [after_4, outq_apply _ _ _ _ _ _ _ _ _ (blk0 m c f0 t) (blk3 m c f2 t) (blk1 m c f0 t) (blk2 m c f1 t) y, coord1_eq]
  have e1 : (t.val / 8 * 128 + (y 1).val) / 128 = t.val / 8 := by omega
  have e2 : (t.val / 8 * 128 + (y 1).val) % 128 = (y 1).val := by omega
  blk_simp [hi]
  rw [e1, e2, Nat.mul_comm (t.val % 8) 256]
  rfl

include f0 f1 f2 in
theorem final_5 : (dats m 0 c).arrAt 5 (cfgs 0).N
    = fun y => ((dk (A0 m c) (A1 m c) (A2 m c) ((y 1).val / 128) 2048 (y 0).val ((y 1).val % 128) : ℝ) : EReal) := by
  refine (dats m 0 c).arrAt_eq_of_covers 5 _ (by decide +kernel) fun t hf y => ?_
  have hi := idx_val t
  have hy1 : (y 1).val < 128 := (y 1).isLt
  have h7 := (flush0_5 t).mp hf
  have ht : t.val = 8 * (t.val / 8) + 7 := by omega
  blk_simp
  rw [after_5]
  have e1 : (t.val / 8 * 128 + (y 1).val) / 128 = t.val / 8 := by omega
  have e2 : (t.val / 8 * 128 + (y 1).val) % 128 = (y 1).val := by omega
  have e3 : accK m c t.val t.isLt = accK m c (8 * (t.val / 8) + 7) (by omega) := by congr
  rw [e3, accK_apply m c f0 f1 f2 (t.val / 8) 7 (by omega)]
  blk_simp [hi]
  rw [e1, e2]

include f0 f2 in
theorem final_6 : (dats m 0 c).arrAt 6 (cfgs 0).N
    = fun y => ((dv (A0 m c) (A2 m c) ((y 1).val / 128) 2048 (y 0).val ((y 1).val % 128) : ℝ) : EReal) := by
  refine (dats m 0 c).arrAt_eq_of_covers 6 _ (by decide +kernel) fun t hf y => ?_
  have hi := idx_val t
  have hy1 : (y 1).val < 128 := (y 1).isLt
  have h7 := (flush0_6 t).mp hf
  have ht : t.val = 8 * (t.val / 8) + 7 := by omega
  blk_simp
  rw [after_6]
  have e1 : (t.val / 8 * 128 + (y 1).val) / 128 = t.val / 8 := by omega
  have e2 : (t.val / 8 * 128 + (y 1).val) % 128 = (y 1).val := by omega
  have e3 : accV m c t.val t.isLt = accV m c (8 * (t.val / 8) + 7) (by omega) := by congr
  rw [e3, accV_apply m c f0 f2 (t.val / 8) 7 (by omega)]
  blk_simp [hi]
  rw [e1, e2]

end Finite

end Cert.SbBwdIdeal.Val

end
-- ==== Proof.SbRef.lean ====
module

public import proofs.«01_k».proof.Defs
public import proofs.«01_k».proof.Proof.SbOuts
public import proofs.«01_k».proof.Proof.Gen.SbRefIdeal.Read

/-! The reference of `_sb_bwd` as closed forms of finite arguments. -/

@[expose] public section

set_option maxRecDepth 16384

noncomputable section

open Idealize.ShloMosaic Idealize.ShloMosaic.TcCoe Idealize.SL.Sem

namespace Cert.SbRefIdeal.Val

open Cert.SbRefIdeal Cert.SbRefIdeal.Read Cert.SbRefIdeal.Gen Cert.Stick
open Cert.SbBwdIdeal.Val (entry entry_eq Qh Kh Th dq dk dv sc)

/-! ### Window sums along the keys -/

theorem foldl_sum {ι : Type} (l : List ι) (f : ι → EReal) (v : EReal) :
    l.foldl (fun r n => r + f n) v = v + (l.map f).sum := by
  induction l generalizing v with
  | nil => simp
  | cons a l ih => rw [List.foldl_cons, ih, List.map_cons, List.sum_cons, add_assoc]

theorem window_sum (k : ℕ) (hi : Fin 3 → ℕ) (x : S16x2048x2048.Idx → EReal)
    (h : S16x2048x2048.ReduceWindows (![1, 1, 2048] : Fin 3 → ℕ) ![1, 1, 1] ![0, 0, k] hi S16x2048x2048)
    (g : ℕ → ℕ → ℕ → ℝ) (hx : ∀ y, x y = ((g (y 0).val (y 1).val (y 2).val : ℝ) : EReal)) (v : S_.Idx → EReal) (hu : 0 < S_.numel) (hv : v (Shape.Idx.first hu) = 0) (j : S16x2048x2048.Idx) :
    Host.reduceWindowAdd (F := Ideal) (φ := .f32) ![1, 1, 2048] ![1, 1, 1] ![0, 0, k] hi x v h hu j
      = ((∑ l ∈ Finset.range 2048, if k ≤ (j 2).val + l ∧ (j 2).val + l - k < 2048 then g (j 0).val (j 1).val ((j 2).val + l - k) else 0 : ℝ) : EReal) := by
  unfold Host.reduceWindowAdd
  rw [Ideal.hostReduceWindowAdd_def, hv]
  unfold Ideal.hostReduceWindowAdd Host.reduceWindow
  dsimp only
  rw [foldl_sum, ← List.ofFn_eq_map, List.sum_ofFn, zero_add]
  refine ((⟨3, ![1, 1, 2048]⟩ : Shape).rowMajor.sum_comp _).symm.trans ?_
  simp only [Equiv.symm_apply_apply]
  rw [sum_idx3, Fin.sum_univ_one, Fin.sum_univ_one, ← Fin.sum_univ_eq_sum_range (fun l => if k ≤ (j 2).val + l ∧ (j 2).val + l - k < 2048 then g (j 0).val (j 1).val ((j 2).val + l - k) else 0), Base.coe_sum]
  refine Finset.sum_congr rfl fun l _ => ?_
  by_cases hc : k ≤ (j 2).val + l.val ∧ (j 2).val + l.val - k < 2048
  · rw [dif_pos, if_pos hc, hx]
    · simp
    · intro a
      match a with
      | ⟨0, _⟩ => have h0 : (j 0).val < 16 := (j 0).isLt; simpa using h0
      | ⟨1, _⟩ => have h1 : (j 1).val < 2048 := (j 1).isLt; simpa using h1
      | ⟨2, _⟩ => simpa using hc
  · rw [dif_neg, if_neg hc]
    · rfl
    · intro hin
      exact hc (by simpa using hin 2)

/-- A sum over the keys from `j` on. -/
theorem from_sum (f : ℕ → ℝ) (j : ℕ) (hj : j < 2048) :
    (∑ l ∈ Finset.range 2048, if 0 ≤ j + l ∧ j + l - 0 < 2048 then f (j + l - 0) else 0) = ∑ x ∈ Finset.Ico j 2048, f x := by
  rw [Finset.sum_Ico_eq_sum_range]
  refine ((Finset.sum_subset (Finset.range_subset_range.mpr (Nat.sub_le 2048 j)) fun l _ hl => if_neg ?_).symm.trans (Finset.sum_congr rfl fun l hl => if_pos ?_))
  · simp only [Finset.mem_range] at hl; omega
  · simp only [Finset.mem_range] at hl; omega

/-- A sum over the keys up to `j`. -/
theorem upto_sum (f : ℕ → ℝ) (j : ℕ) (hj : j < 2048) :
    (∑ l ∈ Finset.range 2048, if 2047 ≤ j + l ∧ j + l - 2047 < 2048 then f (j + l - 2047) else 0) = ∑ x ∈ Finset.range (j + 1), f x := by
  have e : 2048 = (2047 - j) + (j + 1) := by omega
  rw [e, Finset.sum_range_add, Finset.sum_eq_zero, zero_add]
  · refine Finset.sum_congr rfl fun l hl => ?_
    simp only [Finset.mem_range] at hl
    rw [if_pos (by omega)]
    congr 1; omega
  · intro l hl
    simp only [Finset.mem_range] at hl
    exact if_neg (by omega)

/-! ### The scores -/

section Chain

variable (X : S2048x4096.Idx → EReal) (Y Z : S2048x2048.Idx → EReal)
  (f0 : ∀ y, X y = ((X y).toReal : EReal)) (f1 : ∀ y, Y y = ((Y y).toReal : EReal)) (f2 : ∀ y, Z y = ((Z y).toReal : EReal))

include f0 in
theorem q_cell (y : S16x2048x128.Idx) : val_main_v5 (F := Ideal) X y = ((Qh X (y 0).val (y 1).val (y 2).val : ℝ) : EReal) := by
  pointwise [val_main_v5, val_main_v4, val_main_v1, val_main_v0]
  exact entry_eq (a := 2048) (b := 4096) X f0 _ _ _ rfl (congrArg (· + (y 2).val) (Nat.mul_comm (y 0).val 128))

include f0 in
theorem k_cell (y : S16x2048x128.Idx) : val_main_v7 (F := Ideal) X y = ((Kh X (y 0).val (y 1).val (y 2).val : ℝ) : EReal) := by
  pointwise [val_main_v7, val_main_v6, val_main_v2, val_main_v0]
  exact entry_eq (a := 2048) (b := 4096) X f0 _ _ _ rfl (congrArg (fun x => 2048 + (x + (y 2).val)) (Nat.mul_comm (y 0).val 128))

include f1 in
theorem v_cell (y : S16x2048x128.Idx) : val_main_v9 (F := Ideal) Y y = ((Th Y (y 0).val (y 1).val (y 2).val : ℝ) : EReal) := by
  pointwise [val_main_v9, val_main_v8, val_main_v3]
  exact entry_eq (a := 2048) (b := 2048) Y f1 _ _ _ rfl (congrArg (· + (y 2).val) (Nat.mul_comm (y 0).val 128))

include f2 in
theorem d_cell (y : S16x2048x128.Idx) : val_main_v35 (F := Ideal) Z y = ((Th Z (y 0).val (y 1).val (y 2).val : ℝ) : EReal) := by
  pointwise [val_main_v35, val_main_v34, val_main_v33]
  exact entry_eq (a := 2048) (b := 2048) Z f2 _ _ _ rfl (congrArg (· + (y 2).val) (Nat.mul_comm (y 0).val 128))

theorem word_128 : Ideal.ofBits .f32 0x43000000#32 = ((128 : ℝ) : EReal) := by
  simp [Ideal.ofBits, Ideal.ieee, -EReal.coe_mul]; norm_num

theorem root : Ideal.sqrt (Ideal.ofBits .f32 0x43000000#32) = ((Real.sqrt 128 : ℝ) : EReal) := by
  rw [word_128, Ideal.sqrt_coe, if_neg (by norm_num)]

theorem div_root (x : ℝ) : Ideal.div (x : EReal) (Ideal.sqrt (Ideal.ofBits .f32 0x43000000#32)) = ((x * sc : ℝ) : EReal) := by
  rw [root, Ideal.div_coe (by positivity), ← EReal.coe_mul, one_div]

include f0 in
theorem z_cell (y : S16x2048x2048.Idx) : val_main_v13 (F := Ideal) X y = ((score (Qh X (y 0).val) (Kh X (y 0).val) sc (y 1).val (y 2).val : ℝ) : EReal) := by
  pointwise [val_main_v13, val_main_v12, val_main_v11, val_main_v10, val_main_cst]
  simp only [q_cell X f0, k_cell X f0, ← EReal.coe_mul, ← Base.coe_sum]
  exact div_root _

/-! ### The logarithm of the sigmoid and its derivative -/

theorem ne_inf (x : ℝ) : ¬ (x : EReal) = Ideal.ofBits .f32 0x7F800000#32 := by
  have e : Ideal.ofBits .f32 0x7F800000#32 = ⊤ := by simp [Ideal.ofBits, Ideal.ieee]
  rw [e]; exact EReal.coe_ne_top x

theorem softplus_real (x : ℝ) : (if (x : EReal) ≠ (x : EReal) then (x : EReal)
    else max (x : EReal) 0 + Ideal.log1p (Ideal.exp (-FloatOps.absf (F := Ideal) (φ := .f32) (x : EReal)))) = ((-logSig (-x) : ℝ) : EReal) := by
  have e1 : (FloatOps.absf (F := Ideal) (φ := .f32) (x : EReal)) = ((|x| : ℝ) : EReal) := by
    show max (x : EReal) (-(x : EReal)) = _
    rw [← EReal.coe_neg, ← EReal.coe_strictMono.monotone.map_max]; rfl
  have e2 : (1 : EReal) + ((Real.exp (-|x|) : ℝ) : EReal) = ((1 + Real.exp (-|x|) : ℝ) : EReal) := by norm_cast
  rw [if_neg (fun h => h rfl), e1, ← EReal.coe_neg, Ideal.exp_coe, Ideal.log1p, e2, Ideal.log_coe, if_neg (not_le.mpr (by positivity)),
    ← EReal.coe_zero, ← EReal.coe_strictMono.monotone.map_max, ← EReal.coe_add]
  unfold logSig
  rw [abs_neg, neg_sub, sub_eq_add_neg, add_comm (Real.log _), ← max_neg_neg, neg_neg, neg_zero]

/-- The score at an index, a real number. -/
abbrev zz (y : S16x2048x2048.Idx) : ℝ := score (Qh X (y 0).val) (Kh X (y 0).val) sc (y 1).val (y 2).val

include f0 in
theorem sp_neg_cell (y : S16x2048x2048.Idx) : val_main_call0_v1_0 (F := Ideal) X y = ((-logSig (zz X y) : ℝ) : EReal) := by
  pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [z_cell X f0, ← EReal.coe_neg, softplus_real, neg_neg]

include f0 in
theorem sp_cell (y : S16x2048x2048.Idx) : val_main_call1_v1_0 (F := Ideal) X y = ((-logSig (-zz X y) : ℝ) : EReal) := by
  pointwise [val_main_call1_v1_0, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, val_main_v22]
  rw [z_cell X f0]
  simp only [neg_neg]
  exact softplus_real _

include f0 in
theorem one_sub_cell (y : S16x2048x2048.Idx) : val_main_v21_1 (F := Ideal) X y = ((1 - Real.exp (logSig (zz X y)) : ℝ) : EReal) := by
  pointwise [val_main_v21_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_call0_cst_0, val_main_call0_call0_cst_1, val_main_call0_call0_cst_2, val_main_call0_call0_cst_3, val_main_call0_v0]
  rw [z_cell X f0, sp_neg_cell X f0, ← EReal.coe_neg, if_neg (ne_inf _), if_neg (ne_inf _), ← EReal.coe_sub, Ideal.exp_coe, ← exp_logSig_neg, logSig_neg]
  exact congrArg (fun x : ℝ => ((Real.exp x : ℝ) : EReal)) (by ring)

include f0 in
theorem sig_cell (y : S16x2048x2048.Idx) : val_main_v23_1 (F := Ideal) X y = ((Real.exp (logSig (zz X y)) : ℝ) : EReal) := by
  pointwise [val_main_v23_1, val_main_call1_call0_v21, val_main_call1_call0_v20, val_main_call1_call0_v19, val_main_call1_call0_v18, val_main_call1_call0_v17, val_main_call1_call0_v16, val_main_call1_call0_v15, val_main_call1_call0_v14, val_main_call1_call0_v13, val_main_call1_call0_cst_0, val_main_call1_call0_cst_1, val_main_call1_call0_cst_2, val_main_call1_call0_cst_3, val_main_call1_v0, val_main_v22]
  rw [z_cell X f0, sp_cell X f0]
  simp only [neg_neg]
  rw [if_neg (ne_inf _), if_neg (ne_inf _), ← EReal.coe_sub, Ideal.exp_coe, logSig_neg]
  exact congrArg (fun x : ℝ => ((Real.exp x : ℝ) : EReal)) (by ring)

/-! ### The weights -/

theorem below (y : S16x2048x2048.Idx) {α : Type} (u v : α) :
    Scalar.select (IntOp.cmpi .slt (BitVec.ofNat 32 (y 2).val) (BitVec.ofNat 32 (y 1).val)) u v = if (y 2).val < (y 1).val then u else v := by
  have h1 : (y 1).val < 2048 := (y 1).isLt
  have h2 : (y 2).val < 2048 := (y 2).isLt
  exact Cert.SbBwdIdeal.Val.word_lt (by omega) (by omega) u v

theorem word_0 : Ideal.ofBits .f32 0#32 = 0 := by simp [Ideal.ofBits, Ideal.ieee]

theorem zero_cell : id (constant (F := Ideal) S_ .f32 0#32) ValueIdx.ix0 = 0 := word_0

include f0 in
theorem keep_cell (y : S16x2048x2048.Idx) : val_main_v24_0 (F := Ideal) X y = ((keep (Qh X (y 0).val) (Kh X (y 0).val) sc (y 1).val (y 2).val : ℝ) : EReal) := by
  pointwise [val_main_v24_0, val_main_v24_1, val_main_call2_v2, val_main_call2_v0, val_main_cst_0, val_main_v20, val_main_v19, val_main_v18, val_main_v17, val_main_v16, val_main_v15, val_main_v14, val_main_v23_0]
  rw [sp_cell X f0, below, ← EReal.coe_neg, neg_neg, logSig_neg]
  unfold keep
  split_ifs
  · rfl
  · exact zero_cell

include f0 in
theorem after_cell (y : S16x2048x2048.Idx) : val_main_v25 (F := Ideal) X y
    = ((∑ x ∈ Finset.Ico (y 2).val 2048, keep (Qh X (y 0).val) (Kh X (y 0).val) sc (y 1).val x : ℝ) : EReal) := by
  have z : val_main_call3_v0 (F := Ideal) (Shape.Idx.first h_S_) = 0 := by
    pointwise [val_main_call3_v0, val_main_call3_cst]
  unfold val_main_v25
  refine (window_sum 0 _ _ _ (fun h r c => keep (Qh X h) (Kh X h) sc r c) (keep_cell X f0) _ _ z y).trans ?_
  exact congrArg (fun x : ℝ => (x : EReal)) (from_sum (keep (Qh X (y 0).val) (Kh X (y 0).val) sc (y 1).val) (y 2).val (y 2).isLt)

include f0 in
theorem exp_cell (y : S16x2048x2048.Idx) : val_main_v28 (F := Ideal) X y
    = ((Real.exp (logSig (zz X y) + ∑ x ∈ Finset.Ico ((y 2).val + 1) 2048, keep (Qh X (y 0).val) (Kh X (y 0).val) sc (y 1).val x) : ℝ) : EReal) := by
  pointwise [val_main_v28, val_main_v27, val_main_v26, val_main_v21_0]
  rw [sp_neg_cell X f0, keep_cell X f0, after_cell X f0, ← EReal.coe_neg, neg_neg, ← EReal.coe_sub, ← EReal.coe_add, Ideal.exp_coe]
  have h2 : (y 2).val < 2048 := (y 2).isLt
  refine congrArg (fun x : ℝ => ((Real.exp (logSig (zz X y) + x) : ℝ) : EReal)) ?_
  exact (congrArg (· - _) (Finset.sum_eq_sum_Ico_succ_bot h2 _)).trans (add_sub_cancel_left _ _)

include f0 in
theorem weight_cell (y : S16x2048x2048.Idx) : val_main_v29_0 (F := Ideal) X y = ((weight (Qh X (y 0).val) (Kh X (y 0).val) sc (y 1).val (y 2).val : ℝ) : EReal) := by
  pointwise [val_main_v29_0, val_main_v29_1, val_main_call4_v2, val_main_call4_v0, val_main_cst_1, val_main_v20, val_main_v19, val_main_v18, val_main_v17, val_main_v16, val_main_v15, val_main_v14]
  rw [exp_cell X f0, below]
  unfold weight
  split_ifs
  · rfl
  · exact zero_cell

/-! ### The cotangents -/

include f0 f1 f2 in
theorem pull_cell (y : S16x2048x2048.Idx) : val_main_v40 (F := Ideal) X Y Z y
    = ((pull (Qh X (y 0).val) (Kh X (y 0).val) (Th Y (y 0).val) (Th Z (y 0).val) sc (y 1).val (y 2).val : ℝ) : EReal) := by
  pointwise [val_main_v40, val_main_v39, val_main_v38, val_main_v29_1, val_main_call5_v0, val_main_call5_cst, val_main_v20, val_main_v19, val_main_v18, val_main_v17, val_main_v16, val_main_v15, val_main_v14]
  rw [exp_cell X f0, below]
  simp only [v_cell Y f1, d_cell Z f2, ← EReal.coe_mul, ← Base.coe_sum]
  unfold pull weight
  split_ifs
  · exact (EReal.coe_mul _ _).symm.trans (congrArg (fun x : ℝ => (x : EReal)) (mul_comm _ _))
  · exact congrArg (fun x : ℝ => (x : EReal)) (zero_mul _).symm

include f0 f1 f2 in
theorem upto_cell (y : S16x2048x2048.Idx) : val_main_v42 (F := Ideal) X Y Z y
    = ((∑ x ∈ Finset.range ((y 2).val + 1), pull (Qh X (y 0).val) (Kh X (y 0).val) (Th Y (y 0).val) (Th Z (y 0).val) sc (y 1).val x : ℝ) : EReal) := by
  have z : val_main_call6_v0 (F := Ideal) (Shape.Idx.first h_S_) = 0 := by
    pointwise [val_main_call6_v0, val_main_call6_cst]
  unfold val_main_v42
  refine (window_sum 2047 _ _ _ (fun h r c => pull (Qh X h) (Kh X h) (Th Y h) (Th Z h) sc r c) (pull_cell X Y Z f0 f1 f2) _ _ z y).trans ?_
  exact congrArg (fun x : ℝ => (x : EReal)) (upto_sum (pull (Qh X (y 0).val) (Kh X (y 0).val) (Th Y (y 0).val) (Th Z (y 0).val) sc (y 1).val) (y 2).val (y 2).isLt)

include f0 f1 f2 in
theorem dscore_cell (y : S16x2048x2048.Idx) : val_main_v50 (F := Ideal) X Y Z y
    = ((dscore (Qh X (y 0).val) (Kh X (y 0).val) (Th Y (y 0).val) (Th Z (y 0).val) sc (y 1).val (y 2).val : ℝ) : EReal) := by
  pointwise [val_main_v50, val_main_v49, val_main_v11, val_main_cst, val_main_v48, val_main_v47, val_main_v46, val_main_v45, val_main_call9_v1, val_main_call9_v0,
    val_main_call8_v1, val_main_call8_v0, val_main_v44, val_main_v43, val_main_v41, val_main_v24_1, val_main_call7_v0, val_main_call7_cst, val_main_v20, val_main_v19, val_main_v18, val_main_v17, val_main_v16, val_main_v15, val_main_v14]
  rw [below, upto_cell X Y Z f0 f1 f2, pull_cell X Y Z f0 f1 f2, sig_cell X f0, one_sub_cell X f0]
  rw [Finset.sum_range_succ]
  unfold dscore
  split_ifs with h
  · simp only [← EReal.coe_neg, ← EReal.coe_mul, ← EReal.coe_add]
    refine (div_root _).trans (congrArg (fun x : ℝ => (x : EReal)) ?_)
    ring
  · have e : pull (Qh X (y 0).val) (Kh X (y 0).val) (Th Y (y 0).val) (Th Z (y 0).val) sc (y 1).val (y 2).val = 0 :=
      pull_of_le _ _ _ _ _ (Nat.not_lt.mp h)
    rw [e, ← EReal.coe_zero]
    simp only [← EReal.coe_neg, ← EReal.coe_mul, ← EReal.coe_add]
    refine (div_root _).trans (congrArg (fun x : ℝ => (x : EReal)) ?_)
    ring

/-! ### The gradients -/

include f0 f1 f2 in
theorem dq_eq : val_main_v58 (F := Ideal) X Y Z = fun y => ((dq X Y Z ((y 1).val / 128) (y 0).val ((y 1).val % 128) : ℝ) : EReal) := by
  funext y
  pointwise [val_main_v58, val_main_v57, val_main_v52]
  simp only [dscore_cell X Y Z f0 f1 f2, k_cell X f0, ← EReal.coe_mul, ← Base.coe_sum]
  exact congrArg (fun x : ℝ => (x : EReal)) (Fin.sum_univ_eq_sum_range (fun x => dscore (Qh X ((y 1).val / 128)) (Kh X ((y 1).val / 128)) (Th Y ((y 1).val / 128)) (Th Z ((y 1).val / 128)) sc (y 0).val x * Kh X ((y 1).val / 128) x ((y 1).val % 128)) 2048)

include f0 f1 f2 in
theorem dk_eq : val_main_v56 (F := Ideal) X Y Z = fun y => ((dk X Y Z ((y 1).val / 128) 2048 (y 0).val ((y 1).val % 128) : ℝ) : EReal) := by
  funext y
  pointwise [val_main_v56, val_main_v55, val_main_v51]
  simp only [dscore_cell X Y Z f0 f1 f2, q_cell X f0, ← EReal.coe_mul, ← Base.coe_sum]
  exact congrArg (fun x : ℝ => (x : EReal)) (Fin.sum_univ_eq_sum_range (fun r => dscore (Qh X ((y 1).val / 128)) (Kh X ((y 1).val / 128)) (Th Y ((y 1).val / 128)) (Th Z ((y 1).val / 128)) sc r (y 0).val * Qh X ((y 1).val / 128) r ((y 1).val % 128)) 2048)

include f0 f2 in
theorem dv_eq : val_main_v54 (F := Ideal) X Z = fun y => ((dv X Z ((y 1).val / 128) 2048 (y 0).val ((y 1).val % 128) : ℝ) : EReal) := by
  funext y
  pointwise [val_main_v54, val_main_v53, val_main_v37, val_main_v36]
  simp only [weight_cell X f0, d_cell Z f2, ← EReal.coe_mul, ← Base.coe_sum]
  exact congrArg (fun x : ℝ => (x : EReal)) ((Finset.sum_congr rfl fun r _ => mul_comm _ _).trans (Fin.sum_univ_eq_sum_range (fun r => weight (Qh X ((y 1).val / 128)) (Kh X ((y 1).val / 128)) sc r (y 0).val * Th Z ((y 1).val / 128) r ((y 1).val % 128)) 2048))

end Chain

end Cert.SbRefIdeal.Val

end
-- ==== Proof.SbValue.lean ====
module

public import proofs.«01_k».proof.Proof.SbFrame
public import proofs.«01_k».proof.Proof.SbRef
public import Idealize.ShloMosaic.Lib.ReduceAll

/-! The value of `_sb_bwd`: on finite arguments the kernel and the reference leave the same three gradients. -/

@[expose] public section

set_option maxRecDepth 16384

noncomputable section

namespace Cert.SbClaims

open Idealize.ShloMosaic Idealize.SL.Sem
open Cert.SbBwdIdeal.Val (A0 A1 A2 final_4 final_5 final_6)
open Cert.SbRefIdeal.Val (dq_eq dk_eq dv_eq)

variable [Cert.Pre_finite_sb.Facts]

theorem finite (X : FVec Ideal Cert.Pre_finite_sb.S2048x4096 .bf16) (Y Z : FVec Ideal Cert.Pre_finite_sb.S2048x2048 .bf16)
    (h : Cert.Pre_finite_sb.fn (F := Ideal) X Y Z = fun _ => 1#1) :
    (∀ y, X y = (((X y : EReal).toReal : ℝ) : EReal)) ∧ (∀ y, Y y = (((Y y : EReal).toReal : ℝ) : EReal))
      ∧ (∀ y, Z y = (((Z y : EReal).toReal : ℝ) : EReal)) := by
  have e := congrFun h ValueIdx.ix0
  dsimp only [Cert.Pre_finite_sb.fn] at e
  obtain ⟨e1, e2⟩ := Base.and_one e
  obtain ⟨e0, e1⟩ := Base.and_one e1
  haveI : Subsingleton Cert.Pre_finite_sb.S_.Idx := ⟨fun a b => funext fun k => k.elim0⟩
  exact ⟨fun y => Base.real_of_word_bf16 (Host.reduce_andi_all _ _ _ _ _ e0 y),
    fun y => Base.real_of_word_bf16 (Host.reduce_andi_all _ _ _ _ _ e1 y),
    fun y => Base.real_of_word_bf16 (Host.reduce_andi_all _ _ _ _ _ e2 y)⟩

theorem value : Cert.algebraic_SbBwdIdeal_SbRefIdeal_pre_finite_sb := by
  pair_intro
  · run_from Cert.SbBwdIdeal.Run.run_main m g
  · refine (θ_run Cert.SbRefIdeal.defs _ _).mono (fun _ h c => ⟨(h c).1.trans ?_, (h c).2.1.trans ?_, (h c).2.2.1.trans ?_, (h c).2.2.2⟩)
      (Cert.SbRefIdeal.Value.run (F := Ideal) m' g')
    all_goals
      obtain ⟨f0, f1, f2⟩ := finite _ _ _ (hpre c)
      obtain ⟨e0, e1, e2⟩ := hagree c
    · refine (Cert.SbRefIdeal.Read.val_main_v58_eq m' c).trans ?_
      rw [e0, e1, e2]
      exact (dq_eq _ _ _ f0 f1 f2).trans (final_4 m c f0 f1 f2).symm
    · refine (Cert.SbRefIdeal.Read.val_main_v56_eq m' c).trans ?_
      rw [e0, e1, e2]
      exact (dk_eq _ _ _ f0 f1 f2).trans (final_5 m c f0 f1 f2).symm
    · refine (Cert.SbRefIdeal.Read.val_main_v54_eq m' c).trans ?_
      rw [e0, e2]
      exact (dv_eq _ _ f0 f2).trans (final_6 m c f0 f2).symm

end Cert.SbClaims

end
-- ==== Proof.Norm.lean ====
/- The gradient of a row's root-mean-square norm, over the reals: what the two backward norms share. -/
module

public import proofs.«01_k».proof.Proof.Base

@[expose] public section

noncomputable section

namespace Cert.Norm

open Idealize.ShloMosaic Idealize.ShloMosaic.TcCoe

/-- The `1e-6` under the root, as its word says it. -/
def eps : ℝ := 8796093 / 2 ^ 43

theorem eps_pos : 0 < eps := by norm_num [eps]

theorem word_eps : Ideal.ofBits .f32 897988541#32 = (eps : EReal) := by
  simp [Ideal.ofBits, Ideal.ieee, eps, -EReal.coe_mul]; ring

theorem word_128 : Ideal.ofBits .f32 1124073472#32 = ((128 : ℝ) : EReal) := by
  simp [Ideal.ofBits, Ideal.ieee, -EReal.coe_mul]; norm_num

theorem word_neg_half : Ideal.ofBits .f32 3204448256#32 = ((-(1 / 2) : ℝ) : EReal) := by
  simp [Ideal.ofBits, Ideal.ieee, -EReal.coe_mul]; norm_num

variable {ι : Type*} [Fintype ι] (x d : ι → ℝ) (n : ℝ)

/-- The mean square of a row, with the `1e-6`. -/
theorem rho_pos (hn : 0 < n) : 0 < (∑ i, x i * x i) * (1 / n) + eps :=
  add_pos_of_nonneg_of_pos (mul_nonneg (Finset.sum_nonneg fun i _ => mul_self_nonneg _) (by positivity)) eps_pos

theorem rsqrt_rho (hn : 0 < n) : Ideal.rsqrt (((∑ i, x i * x i) * (1 / n) + eps : ℝ) : EReal)
    = (((Real.sqrt ((∑ i, x i * x i) * (1 / n) + eps))⁻¹ : ℝ) : EReal) := by
  have h := rho_pos x n hn
  rw [Ideal.rsqrt_coe, if_neg (not_lt.mpr h.le), if_neg h.ne']

theorem div_rho (hn : 0 < n) (a : EReal) : Ideal.div a (((∑ i, x i * x i) * (1 / n) + eps : ℝ) : EReal)
    = a * ((1 / ((∑ i, x i * x i) * (1 / n) + eps) : ℝ) : EReal) :=
  Ideal.div_coe (rho_pos x n hn).ne' a

/-- The gradient in the row: automatic differentiation's three terms are the closed form's two. -/
theorem grad (hn : 0 < n) (k : ι) :
    d k * (Real.sqrt ((∑ i, x i * x i) * (1 / n) + eps))⁻¹
      + (x k * ((∑ i, x i * d i) * (-(1 / 2) * ((Real.sqrt ((∑ i, x i * x i) * (1 / n) + eps))⁻¹
          * (1 / ((∑ i, x i * x i) * (1 / n) + eps)))) * (1 / n))
        + ((∑ i, x i * d i) * (-(1 / 2) * ((Real.sqrt ((∑ i, x i * x i) * (1 / n) + eps))⁻¹
          * (1 / ((∑ i, x i * x i) * (1 / n) + eps)))) * (1 / n)) * x k)
    = (Real.sqrt ((∑ i, x i * x i) * (1 / n) + eps))⁻¹ * (d k - x k * (Real.sqrt ((∑ i, x i * x i) * (1 / n) + eps))⁻¹
        * ((∑ i, d i * (x i * (Real.sqrt ((∑ i, x i * x i) * (1 / n) + eps))⁻¹)) * (1 / n))) := by
  have h := rho_pos x n hn
  generalize (∑ i, x i * x i) * (1 / n) + eps = ρ at h ⊢
  have e : (∑ i, d i * (x i * (Real.sqrt ρ)⁻¹)) = (∑ i, x i * d i) * (Real.sqrt ρ)⁻¹ := by
    rw [Finset.sum_mul]; exact Finset.sum_congr rfl fun i _ => by ring
  rw [e]
  have q : (Real.sqrt ρ)⁻¹ * (Real.sqrt ρ)⁻¹ = 1 / ρ := by
    rw [← mul_inv, Real.mul_self_sqrt h.le, one_div]
  rw [← q]
  ring

end Cert.Norm

end
-- ==== Proof.Rms.lean ====
module

public import proofs.«01_k».proof.Defs
public import proofs.«01_k».proof.Proof.Norm
public import proofs.«01_k».proof.Proof.Gen.RmsBwdIdeal.Value
public import proofs.«01_k».proof.Proof.Gen.RmsRefIdeal.Run
public import proofs.«01_k».proof.Proof.Gen.RmsRefIdeal.Read
public import Idealize.ShloMosaic.Lib.ReduceAll

/-! The value of `_rms_bwd`: the gradient of the norm in its rows (with the residual's cotangent) and in its gain. -/

@[expose] public section

set_option maxRecDepth 16384

noncomputable section

open Idealize.ShloMosaic Idealize.ShloMosaic.TcCoe Idealize.SL.Sem
open Idealize.ShloMosaic.Pipeline (Dat)

namespace Cert.RmsBwdIdeal.Val

open Cert.RmsBwdIdeal Cert.RmsBwdIdeal.Gen
open Cert.RmsRefIdeal.Read

variable (m : (ℓ : Loc nD τ sig) → Buf (Elt Ideal) ℓ)

abbrev A0 (c : Dev nD) : FVec Ideal S2048x2048 .f32 := m ((c : Thread nD τ).loc main_arg0)
abbrev A1 (c : Dev nD) : FVec Ideal S2048 .f32 := m ((c : Thread nD τ).loc main_arg1)
abbrev A2 (c : Dev nD) : FVec Ideal S2048x2048 .f32 := m ((c : Thread nD τ).loc main_arg2)
abbrev A3 (c : Dev nD) : FVec Ideal S2048x2048 .f32 := m ((c : Thread nD τ).loc main_arg3)

/-- The inverse root of a row's mean square. -/
def rinv (x : Fin 2048 → ℝ) : ℝ := (Real.sqrt ((∑ i, x i * x i) * (1 / 2048) + Norm.eps))⁻¹

/-- The gradient in the rows, on real rows: the closed form. -/
def dxr (x d : Fin 2048 → ℝ) (k : Fin 2048) : ℝ :=
  rinv x * (d k - x k * rinv x * ((∑ i, d i * (x i * rinv x)) * (1 / 2048)))

theorem dx_kernel (x0 x1 : S256x2048.Idx → ℝ) (x2 : S1x2048.Idx → ℝ) (x3 : FVec Ideal S256x2048 .f32) (y : S256x2048.Idx) :
    k0_pay4 (F := Ideal) (fun i => (x0 i : EReal)) (fun i => (x1 i : EReal)) (fun i => (x2 i : EReal)) x3 y
      = x3 y + ((dxr (fun l => x0 (ix2 (y 0) l)) (fun l => x1 (ix2 (y 0) l) * x2 (ix2 0 l)) (y 1) : ℝ) : EReal) := by
  idx_vars y
  pointwise [k0_pay4, k0_pay3, k0_pay2]
  simp only [Base.word_2048, Norm.word_eps, ← EReal.coe_mul, ← Base.coe_sum, Ideal.div_coe (by norm_num : (2048 : ℝ) ≠ 0),
    ← EReal.coe_add, Norm.rsqrt_rho _ 2048 (by norm_num), ← EReal.coe_sub]
  rfl

theorem dg_kernel (x0 : S256x2048.Idx → ℝ) (x1 : FVec Ideal S256x2048 .f32) (y : S1x2048.Idx) :
    k0_pay5 (F := Ideal) (fun i => (x0 i : EReal)) x1 y
      = ∑ r : Fin 256, x1 (ix2 r (y 1)) * ((x0 (ix2 r (y 1)) * rinv (fun l => x0 (ix2 r l)) : ℝ) : EReal) := by
  pointwise [k0_pay5, k0_pay3, k0_pay2]
  simp only [Base.word_2048, Norm.word_eps, ← EReal.coe_mul, ← Base.coe_sum, Ideal.div_coe (by norm_num : (2048 : ℝ) ≠ 0),
    ← EReal.coe_add, Norm.rsqrt_rho _ 2048 (by norm_num), ← EReal.coe_sub]
  rfl

theorem dx_ref (x0 x2 : S2048x2048.Idx → ℝ) (x3 : FVec Ideal S2048x2048 .f32) (x1 : S2048.Idx → ℝ) (y : S2048x2048.Idx) :
    val_main_v36 (F := Ideal) (fun i => (x0 i : EReal)) (fun i => (x1 i : EReal)) (fun i => (x2 i : EReal)) x3 y
      = x3 y + ((dxr (fun l => x0 (ix2 (y 0) l)) (fun l => x2 (ix2 (y 0) l) * x1 (ix1 l)) (y 1) : ℝ) : EReal) := by
  idx_vars y
  pointwise [val_main_v36, val_main_v34, val_main_v27, val_main_v26, val_main_v20, val_main_v19, val_main_v13, val_main_v25,
    val_main_v7, val_main_v6, val_main_v4, val_main_v2, val_main_v1, val_main_v0, val_main_cst, val_main_v3,
    val_main_cst_0, val_main_v5, val_main_cst_1, val_main_v33, val_main_v32, val_main_v31, val_main_v30,
    val_main_v28, val_main_v24, val_main_v23, val_main_v22, val_main_cst_5, val_main_v10, val_main_v9,
    val_main_cst_2, val_main_v8, val_main_v29, val_main_cst_6, val_main_cst_7, val_main_v35]
  simp only [Base.word_2048, Norm.word_eps, Norm.word_neg_half, ← EReal.coe_mul, ← Base.coe_sum,
    Ideal.div_coe (by norm_num : (2048 : ℝ) ≠ 0),
    ← EReal.coe_add, Norm.rsqrt_rho _ 2048 (by norm_num), Norm.div_rho _ 2048 (by norm_num), ← EReal.coe_sub,
    Fin.sum_univ_one, add_assoc]
  exact congrArg (fun z : ℝ => x3 (ix2 y0 y1) + (z : EReal))
    (Norm.grad (fun l => x0 (ix2 y0 l)) (fun l => x2 (ix2 y0 l) * x1 (ix1 l)) 2048 (by norm_num) y1)

theorem dg_ref (x0 : S2048x2048.Idx → ℝ) (x2 : FVec Ideal S2048x2048 .f32) (y : S1x2048.Idx) :
    val_main_v37 (F := Ideal) (fun i => (x0 i : EReal)) x2 y
      = ∑ r : Fin 2048, x2 (ix2 r (y 1)) * ((x0 (ix2 r (y 1)) * rinv (fun l => x0 (ix2 r l)) : ℝ) : EReal) := by
  pointwise [val_main_v37, val_main_v21, val_main_v18, val_main_v17, val_main_v16, val_main_v12, val_main_v11, val_main_v7,
    val_main_v6, val_main_v4, val_main_v2, val_main_v1, val_main_v0, val_main_cst, val_main_v3, val_main_cst_0,
    val_main_v5, val_main_cst_1, val_main_cst_3, val_main_cst_4]
  simp only [Base.word_2048, Norm.word_eps, ← EReal.coe_mul, ← Base.coe_sum, Ideal.div_coe (by norm_num : (2048 : ℝ) ≠ 0),
    ← EReal.coe_add, Norm.rsqrt_rho _ 2048 (by norm_num), Fin.sum_univ_one]
  exact Finset.sum_congr rfl fun r _ => mul_comm _ _

theorem idx_val : ∀ t : Fin cfg0.N, win0_0.index t = ![t.val, 0] ∧ win0_1.index t = ![0, 0]
    ∧ win0_2.index t = ![t.val, 0] ∧ win0_3.index t = ![t.val, 0]
    ∧ win0_4.index t = ![t.val, 0] ∧ win0_5.index t = ![0, 0] := by decide +kernel

theorem N_lt (t : Fin cfg0.N) : t.val < 8 := lt_of_lt_of_eq t.isLt N_0

/-- Row `r` of the tile of rows at point `t`. -/
def row (t : Fin cfg0.N) (r : Fin 256) : Fin 2048 := ⟨t.val * 256 + r.val, by have := N_lt t; omega⟩

theorem blk0 (c : Dev nD) (t : Fin cfg0.N) : iblk m c 0 t = fun i : S256x2048.Idx => A0 m c (ix2 (row t (i 0)) (i 1)) := by
  funext i; blk_point [iblk, V, idx_val t, row]

theorem blk1 (c : Dev nD) (t : Fin cfg0.N) : iblk m c 1 t = fun i : S1x2048.Idx => A1 m c (ix1 (i 1)) := by
  funext i; blk_point [iblk, V, idx_val t]

theorem blk2 (c : Dev nD) (t : Fin cfg0.N) : iblk m c 2 t = fun i : S256x2048.Idx => A2 m c (ix2 (row t (i 0)) (i 1)) := by
  funext i; blk_point [iblk, V, idx_val t, row]

theorem blk3 (c : Dev nD) (t : Fin cfg0.N) : iblk m c 3 t = fun i : S256x2048.Idx => A3 m c (ix2 (row t (i 0)) (i 1)) := by
  funext i; blk_point [iblk, V, idx_val t, row]

variable (c : Dev nD) {x0 x2 : S2048x2048.Idx → ℝ} {x1 : S2048.Idx → ℝ} (h0 : A0 m c = fun i => (x0 i : EReal))
  (h1 : A1 m c = fun i => (x1 i : EReal)) (h2 : A2 m c = fun i => (x2 i : EReal))

include h0 h1 h2 in
theorem final_4 : (dats m 0 c).arrAt 4 (cfgs 0).N = val_main_v36 (F := Ideal) (A0 m c) (A1 m c) (A2 m c) (A3 m c) := by
  refine (dats m 0 c).arrAt_eq_of_covers 4 _ (by decide +kernel) fun t hf y => ?_
  have ht := N_lt t
  have e : k0_pay4 (iblk m c 0 t) (iblk m c 2 t) (iblk m c 1 t) (iblk m c 3 t) y
      = val_main_v36 (F := Ideal) (A0 m c) (A1 m c) (A2 m c) (A3 m c) (ix2 (row t (y 0)) (y 1)) := by
    rw [blk0, blk1, blk2, blk3, h0, h1, h2, dx_kernel, dx_ref]
    rfl
  blk_simp [idx_val t]
  rw [after0_4]
  by_cases h : t.val % 8 = 0
  · rw [outsAt0_A m c t h (by omega)]; dsimp only; frame_out
    refine e.trans (congrArg _ ?_)
    idx_vars y; blk_ext [idx_val t, row]
  · rw [outsAt0_B m c t h (by omega)]; dsimp only; frame_out
    refine e.trans (congrArg _ ?_)
    idx_vars y; blk_ext [idx_val t, row]

include h0 in
theorem final_5 : (dats m 0 c).arrAt 5 (cfgs 0).N = val_main_v37 (F := Ideal) (A0 m c) (A2 m c) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0)
    (fun t j => k0_pay5 (iblk m c 0 t) (iblk m c 2 t) j)
    (fun t h j => by have := N_lt t; rw [outsAt0_A m c t h (by omega)]; frame_out; exact (zero_add _).symm)
    (fun t h j => by have := N_lt t; rw [outsAt0_B m c t h (by omega)]; frame_out; pointwise [k0_pay1])
    (le_of_eq N_0) t0_7 rfl j, zero_add]
  simp only [blk0, blk2]
  rw [h0, dg_ref]
  simp only [dg_kernel]
  refine Fin.sum_mul_add_congr fun t k hl => ?_
  rfl

section Value

variable [Cert.Pre_finite_rms.Facts]

theorem finite (X : FVec Ideal Cert.Pre_finite_rms.S2048x2048 .f32) (Y : FVec Ideal Cert.Pre_finite_rms.S2048 .f32)
    (Z W : FVec Ideal Cert.Pre_finite_rms.S2048x2048 .f32) (h : Cert.Pre_finite_rms.fn (F := Ideal) X Y Z W = fun _ => 1#1) :
    (∃ x : S2048x2048.Idx → ℝ, X = fun i => (x i : EReal)) ∧ (∃ y : S2048.Idx → ℝ, Y = fun i => (y i : EReal))
      ∧ ∃ z : S2048x2048.Idx → ℝ, Z = fun i => (z i : EReal) := by
  have e := congrFun h ValueIdx.ix0
  dsimp only [Cert.Pre_finite_rms.fn] at e
  obtain ⟨e1, e2⟩ := Base.and_one e
  obtain ⟨e0, e1⟩ := Base.and_one e1
  haveI : Subsingleton Cert.Pre_finite_rms.S_.Idx := ⟨fun a b => funext fun k => k.elim0⟩
  exact ⟨Base.real_fun fun y => Base.real_of_word_f32 (Host.reduce_andi_all _ _ _ _ _ e0 y),
    Base.real_fun fun y => Base.real_of_word_f32 (Host.reduce_andi_all _ _ _ _ _ e1 y),
    Base.real_fun fun y => Base.real_of_word_f32 (Host.reduce_andi_all _ _ _ _ _ e2 y)⟩

/-- The pair: on finite rows, gain and cotangent the kernel's two results are the reference's. -/
theorem value : Cert.algebraic_RmsBwdIdeal_RmsRefIdeal_pre_finite_rms := by
  pair_intro
  · run_from Cert.RmsBwdIdeal.Gen.run_main m g
  · refine (θ_run Cert.RmsRefIdeal.defs _ _).mono (fun _ h c => ⟨(h c).1.trans ?_, (h c).2.1.trans ?_, (h c).2.2⟩)
      (Cert.RmsRefIdeal.Value.run (F := Ideal) m' g')
    all_goals
      obtain ⟨⟨x0, h0⟩, ⟨x1, h1⟩, x2, h2⟩ := finite _ _ _ _ (hpre c)
      obtain ⟨e0, e1, e2, e3⟩ := hagree c
    · refine (val_main_v36_eq _ _ _ _).trans ?_
      rw [e0, e1, e2, e3]
      exact (final_4 m c h0 h1 h2).symm
    · refine (val_main_v37_eq _ _).trans ?_
      rw [e0, e2]
      exact (final_5 m c h0).symm

/-- The reference's run leaves its arguments; it has no semaphore. -/
theorem frame_ref : Cert.quiescent_RmsRefIdeal := fun m ρ _ =>
  (θ_run Cert.RmsRefIdeal.defs _ _).mono (fun r h => ⟨fun c => (h c).2.2, sem_eq_zero_of_no_sems (by decide) r.2⟩)
    (Cert.RmsRefIdeal.Value.run (F := Ideal) m ρ)

end Value

end Cert.RmsBwdIdeal.Val

end
-- ==== Proof.Qk.lean ====
module

public import proofs.«01_k».proof.Defs
public import proofs.«01_k».proof.Proof.Norm
public import proofs.«01_k».proof.Proof.Gen.QkBwdIdeal.Value
public import proofs.«01_k».proof.Proof.Gen.QkRefIdeal.Run
public import proofs.«01_k».proof.Proof.Gen.QkRefIdeal.Read
public import Idealize.ShloMosaic.Lib.ReduceAll

@[expose] public section

set_option maxRecDepth 16384

/-! The value of `_qk_norm_bwd` (the keys' norm): the gradient in the keys and in their gain. -/

noncomputable section

open Idealize.ShloMosaic Idealize.ShloMosaic.TcCoe Idealize.SL.Sem
open Idealize.ShloMosaic.Pipeline (Dat)

namespace Cert.QkBwdIdeal.Val

open Cert.QkBwdIdeal Cert.QkBwdIdeal.Gen
open Cert.QkRefIdeal.Read

variable (m : (ℓ : Loc nD τ sig) → Buf (Elt Ideal) ℓ)

abbrev A0 (c : Dev nD) : FVec Ideal S2048x6144 .f32 := m ((c : Thread nD τ).loc main_arg0)
abbrev A2 (c : Dev nD) : FVec Ideal S128 .f32 := m ((c : Thread nD τ).loc main_arg2)
abbrev A3 (c : Dev nD) : FVec Ideal S2048x2048 .f32 := m ((c : Thread nD τ).loc main_arg3)

/-- The inverse root of a head's mean square. -/
def rinv (x : Fin 128 → ℝ) : ℝ := (Real.sqrt ((∑ i, x i * x i) * (1 / 128) + Norm.eps))⁻¹

/-- The gradient in one head's row: the closed form. -/
def dxr (x d : Fin 128 → ℝ) (k : Fin 128) : ℝ :=
  rinv x * (d k - x k * rinv x * ((∑ i, d i * (x i * rinv x)) * (1 / 128)))

theorem dx_kernel (x0 x1 : S2048x128.Idx → ℝ) (x2 : S1x1x128.Idx → ℝ) (y : S2048x128.Idx) :
    k0_pay3 (F := Ideal) (fun i => (x0 i : EReal)) (fun i => (x1 i : EReal)) (fun i => (x2 i : EReal)) y
      = ((dxr (fun l => x0 (ix2 (y 0) l)) (fun l => x1 (ix2 (y 0) l) * x2 (ix3 0 0 l)) (y 1) : ℝ) : EReal) := by
  idx_vars y
  pointwise [k0_pay3, k0_pay2, k0_pay1]
  simp only [Norm.word_128, Norm.word_eps, ← EReal.coe_mul, ← Base.coe_sum, Ideal.div_coe (by norm_num : (128 : ℝ) ≠ 0),
    ← EReal.coe_add, Norm.rsqrt_rho _ 128 (by norm_num), ← EReal.coe_sub]
  rfl

theorem dg_kernel (x0 : S2048x128.Idx → ℝ) (x1 : FVec Ideal S2048x128 .f32) (y : S1x128.Idx) :
    k0_pay4 (F := Ideal) (fun i => (x0 i : EReal)) x1 y
      = ∑ r : Fin 2048, x1 (ix2 r (y 1)) * ((x0 (ix2 r (y 1)) * rinv (fun l => x0 (ix2 r l)) : ℝ) : EReal) := by
  pointwise [k0_pay4, k0_pay2, k0_pay1]
  simp only [Norm.word_128, Norm.word_eps, ← EReal.coe_mul, ← Base.coe_sum, Ideal.div_coe (by norm_num : (128 : ℝ) ≠ 0),
    ← EReal.coe_add, Norm.rsqrt_rho _ 128 (by norm_num), ← EReal.coe_sub]
  rfl

/-- Lane `l` of head `h`, in the keys' columns and in the cotangent's. -/
def kcol (h : Fin 16) (l : Fin 128) : Fin 6144 := ⟨2048 + (h.val * 128 + l.val), by omega⟩
def col (h : Fin 16) (l : Fin 128) : Fin 2048 := ⟨h.val * 128 + l.val, by omega⟩

theorem dx_ref (x0 : S2048x6144.Idx → ℝ) (x2 : S128.Idx → ℝ) (x3 : S2048x2048.Idx → ℝ) (r : Fin 2048) (h : Fin 16) (l : Fin 128) :
    val_main_v41 (F := Ideal) (fun i => (x0 i : EReal)) (fun i => (x2 i : EReal)) (fun i => (x3 i : EReal)) (ix2 r (col h l))
      = ((dxr (fun l => x0 (ix2 r (kcol h l))) (fun l => x3 (ix2 r (col h l)) * x2 (ix1 l)) l : ℝ) : EReal) := by
  have e1 : (col h l).val / 128 = h.val := by show (h.val * 128 + l.val) / 128 = h.val; omega
  have e2 : (col h l).val % 128 = l.val := by show (h.val * 128 + l.val) % 128 = l.val; omega
  pointwise [val_main_v41, val_main_v40, val_main_v39, val_main_v37, val_main_v30, val_main_v24, val_main_v19, val_main_v23,
    val_main_v16, val_main_v29, val_main_v10, val_main_v9, val_main_v7, val_main_v5, val_main_v4, val_main_v3,
    val_main_v2, val_main_v1, val_main_v0, val_main_cst, val_main_v6, val_main_cst_0, val_main_v8, val_main_cst_1,
    val_main_v36, val_main_v35, val_main_v34, val_main_v33, val_main_v31, val_main_v28, val_main_v27, val_main_v26,
    val_main_cst_5, val_main_v13, val_main_v12, val_main_cst_2, val_main_v11, val_main_v32, val_main_cst_6,
    val_main_cst_7, val_main_v38]
  simp only [e1, e2]
  simp only [Norm.word_128, Norm.word_eps, Norm.word_neg_half, ← EReal.coe_mul, ← Base.coe_sum,
    Ideal.div_coe (by norm_num : (128 : ℝ) ≠ 0),
    ← EReal.coe_add, Norm.rsqrt_rho _ 128 (by norm_num), Norm.div_rho _ 128 (by norm_num), ← EReal.coe_sub,
    Fin.sum_univ_one, add_assoc]
  exact congrArg (fun z : ℝ => (z : EReal))
    (Norm.grad (fun l => x0 (ix2 r (kcol h l))) (fun l => x3 (ix2 r (col h l)) * x2 (ix1 l)) 128 (by norm_num) l)

theorem dg_ref (x0 : S2048x6144.Idx → ℝ) (x3 : FVec Ideal S2048x2048 .f32) (y : S1x128.Idx) :
    val_main_v42 (F := Ideal) (fun i => (x0 i : EReal)) x3 y
      = ∑ h : Fin 16, ∑ r : Fin 2048, x3 (ix2 r (col h (y 1)))
          * ((x0 (ix2 r (kcol h (y 1))) * rinv (fun l => x0 (ix2 r (kcol h l))) : ℝ) : EReal) := by
  idx_vars y
  pointwise [Base.sum_axes01, val_main_v42, val_main_v25, val_main_v22, val_main_v21, val_main_v20, val_main_v15, val_main_v2, val_main_v1,
    val_main_v0, val_main_v14, val_main_v10, val_main_v9, val_main_v7, val_main_v5, val_main_v4, val_main_v3,
    val_main_cst, val_main_v6, val_main_cst_0, val_main_v8, val_main_cst_1, val_main_v19, val_main_cst_3,
    val_main_cst_4]
  simp only [Norm.word_128, Norm.word_eps, ← EReal.coe_mul, ← Base.coe_sum, Ideal.div_coe (by norm_num : (128 : ℝ) ≠ 0),
    ← EReal.coe_add, Norm.rsqrt_rho _ 128 (by norm_num), Fin.sum_univ_one, add_assoc]
  rw [Finset.sum_comm]
  exact Finset.sum_congr rfl fun h _ => Finset.sum_congr rfl fun r _ => mul_comm _ _

theorem idx_val : ∀ t : Fin cfg0.N, win0_0.index t = ![0, t.val + 16] ∧ win0_1.index t = ![1, 0, 0]
    ∧ win0_2.index t = ![0, t.val] ∧ win0_3.index t = ![0, t.val] ∧ win0_4.index t = ![0, 0] := by decide +kernel

theorem N_lt (t : Fin cfg0.N) : t.val < 16 := lt_of_lt_of_eq t.isLt N_0

/-- The head of point `t`. -/
def head (t : Fin cfg0.N) : Fin 16 := ⟨t.val, N_lt t⟩

theorem blk0 (c : Dev nD) (t : Fin cfg0.N) : iblk m c 0 t = fun i : S2048x128.Idx => A0 m c (ix2 (i 0) (kcol (head t) (i 1))) := by
  funext i; idx_vars i; blk_point [iblk, V, idx_val t, kcol, head]

theorem blk1 (c : Dev nD) (t : Fin cfg0.N) : iblk m c 1 t = fun i : S1x1x128.Idx => A2 m c (ix1 (i 2)) := by
  funext i; idx_vars i; blk_simp [iblk, idx_val t]; entry_read; pointwise
  have e : ((View.whole main_v3).slice (win0_1.rect t)).emb (ix3 i0 i1 i2) = ix3 (1 : Fin 2) (0 : Fin 1) i2 := by
    blk_ext [idx_val t]
  rw [e]; rfl

theorem blk2 (c : Dev nD) (t : Fin cfg0.N) : iblk m c 2 t = fun i : S2048x128.Idx => A3 m c (ix2 (i 0) (col (head t) (i 1))) := by
  funext i; idx_vars i; blk_point [iblk, V, idx_val t, col, head]

variable (c : Dev nD) {x0 : S2048x6144.Idx → ℝ} {x2 : S128.Idx → ℝ} {x3 : S2048x2048.Idx → ℝ}
  (h0 : A0 m c = fun i => (x0 i : EReal)) (h2 : A2 m c = fun i => (x2 i : EReal)) (h3 : A3 m c = fun i => (x3 i : EReal))

include h0 h2 h3 in
theorem final_3 : (dats m 0 c).arrAt 3 (cfgs 0).N = val_main_v41 (F := Ideal) (A0 m c) (A2 m c) (A3 m c) := by
  refine (dats m 0 c).arrAt_eq_of_covers 3 _ (by decide +kernel) fun t hf y => ?_
  have ht := N_lt t
  obtain ⟨r, l, rfl⟩ : ∃ (r : Fin 2048) (l : Fin 128), y = ix2 r l := ⟨y 0, y 1, eq_ix2 y⟩
  have e : k0_pay3 (iblk m c 0 t) (iblk m c 2 t) (iblk m c 1 t) (ix2 r l)
      = val_main_v41 (F := Ideal) (A0 m c) (A2 m c) (A3 m c) (ix2 r (col (head t) l)) := by
    rw [blk0, blk1, blk2, h0, h2, h3, dx_kernel, dx_ref]
    rfl
  blk_simp [idx_val t]
  rw [after0_3]
  by_cases h : t.val % 16 = 0
  · rw [outsAt0_A m c t h (by omega)]; dsimp only; frame_out
    refine e.trans (congrArg _ ?_)
    blk_ext [idx_val t, col, head]
  · rw [outsAt0_B m c t h (by omega)]; dsimp only; frame_out
    refine e.trans (congrArg _ ?_)
    blk_ext [idx_val t, col, head]

include h0 in
theorem final_4 : (dats m 0 c).arrAt 4 (cfgs 0).N = val_main_v42 (F := Ideal) (A0 m c) (A3 m c) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0)
    (fun t j => k0_pay4 (iblk m c 0 t) (iblk m c 2 t) j)
    (fun t h j => by have := N_lt t; rw [outsAt0_A m c t h (by omega)]; frame_out; exact (zero_add _).symm)
    (fun t h j => by have := N_lt t; rw [outsAt0_B m c t h (by omega)]; frame_out; pointwise [k0_pay5])
    (le_of_eq N_0) t0_15 rfl j, zero_add]
  simp only [blk0, blk2]
  rw [h0, dg_ref]
  simp only [dg_kernel]
  rfl

section Value

variable [Cert.Pre_finite_qk.Facts]

theorem finite (X : FVec Ideal Cert.Pre_finite_qk.S2048x6144 .f32) (Q Y : FVec Ideal Cert.Pre_finite_qk.S128 .f32)
    (Z : FVec Ideal Cert.Pre_finite_qk.S2048x2048 .f32) (h : Cert.Pre_finite_qk.fn (F := Ideal) X Q Y Z = fun _ => 1#1) :
    (∃ x : S2048x6144.Idx → ℝ, X = fun i => (x i : EReal)) ∧ (∃ y : S128.Idx → ℝ, Y = fun i => (y i : EReal))
      ∧ ∃ z : S2048x2048.Idx → ℝ, Z = fun i => (z i : EReal) := by
  have e := congrFun h ValueIdx.ix0
  dsimp only [Cert.Pre_finite_qk.fn] at e
  obtain ⟨e1, e2⟩ := Base.and_one e
  obtain ⟨e0, e1⟩ := Base.and_one e1
  haveI : Subsingleton Cert.Pre_finite_qk.S_.Idx := ⟨fun a b => funext fun k => k.elim0⟩
  exact ⟨Base.real_fun fun y => Base.real_of_word_f32 (Host.reduce_andi_all _ _ _ _ _ e0 y),
    Base.real_fun fun y => Base.real_of_word_f32 (Host.reduce_andi_all _ _ _ _ _ e1 y),
    Base.real_fun fun y => Base.real_of_word_f32 (Host.reduce_andi_all _ _ _ _ _ e2 y)⟩

/-- The pair: on finite keys, gain and cotangent the kernel's two results are the reference's. -/
theorem value : Cert.algebraic_QkBwdIdeal_QkRefIdeal_pre_finite_qk := by
  pair_intro
  · run_from Cert.QkBwdIdeal.Gen.run_main m g
  · refine (θ_run Cert.QkRefIdeal.defs _ _).mono (fun _ h c => ⟨(h c).1.trans ?_, (h c).2.1.trans ?_, (h c).2.2⟩)
      (Cert.QkRefIdeal.Value.run (F := Ideal) m' g')
    all_goals
      obtain ⟨⟨x0, h0⟩, ⟨x2, h2⟩, x3, h3⟩ := finite _ _ _ _ (hpre c)
      obtain ⟨e0, e1, e2, e3⟩ := hagree c
    · refine (val_main_v41_eq m' c).trans ?_
      rw [e0, e2, e3]
      exact (final_3 m c h0 h2 h3).symm
    · refine (val_main_v42_eq _ _).trans ?_
      rw [e0, e3]
      exact (final_4 m c h0).symm

/-- The reference's run leaves its arguments; it has no semaphore. -/
theorem frame_ref : Cert.quiescent_QkRefIdeal := fun m ρ _ =>
  (θ_run Cert.QkRefIdeal.defs _ _).mono (fun r h => ⟨fun c => (h c).2.2, sem_eq_zero_of_no_sems (by decide) r.2⟩)
    (Cert.QkRefIdeal.Value.run (F := Ideal) m ρ)

end Value

end Cert.QkBwdIdeal.Val

end
-- ==== Proof.Qkq.lean ====
module

public import proofs.«01_k».proof.Defs
public import proofs.«01_k».proof.Proof.Qk
public import proofs.«01_k».proof.Proof.Gen.QkqBwdIdeal.Value
public import proofs.«01_k».proof.Proof.Gen.QkqRefIdeal.Run
public import proofs.«01_k».proof.Proof.Gen.QkqRefIdeal.Read
public import Idealize.ShloMosaic.Lib.ReduceAll

@[expose] public section

set_option maxRecDepth 16384

/-! The value of `_qk_norm_bwd` (the queries' norm): the gradient in the queries and in their gain.
The call differs from the keys' in its windows' first block only, so the closed forms are the keys'. -/

noncomputable section

open Idealize.ShloMosaic Idealize.ShloMosaic.TcCoe Idealize.SL.Sem
open Idealize.ShloMosaic.Pipeline (Dat)

namespace Cert.QkqBwdIdeal.Val

open Cert.QkqBwdIdeal Cert.QkqBwdIdeal.Gen
open Cert.QkqRefIdeal.Read
open Cert.QkBwdIdeal.Val (dxr rinv)

variable (m : (ℓ : Loc nD τ sig) → Buf (Elt Ideal) ℓ)

abbrev A0 (c : Dev nD) : FVec Ideal S2048x6144 .f32 := m ((c : Thread nD τ).loc main_arg0)
abbrev A1 (c : Dev nD) : FVec Ideal S128 .f32 := m ((c : Thread nD τ).loc main_arg1)
abbrev A3 (c : Dev nD) : FVec Ideal S2048x2048 .f32 := m ((c : Thread nD τ).loc main_arg3)

theorem dx_kernel (x0 x1 : S2048x128.Idx → ℝ) (x2 : S1x1x128.Idx → ℝ) (y : S2048x128.Idx) :
    k0_pay3 (F := Ideal) (fun i => (x0 i : EReal)) (fun i => (x1 i : EReal)) (fun i => (x2 i : EReal)) y
      = ((dxr (fun l => x0 (ix2 (y 0) l)) (fun l => x1 (ix2 (y 0) l) * x2 (ix3 0 0 l)) (y 1) : ℝ) : EReal) :=
  Cert.QkBwdIdeal.Val.dx_kernel x0 x1 x2 y

theorem dg_kernel (x0 : S2048x128.Idx → ℝ) (x1 : FVec Ideal S2048x128 .f32) (y : S1x128.Idx) :
    k0_pay4 (F := Ideal) (fun i => (x0 i : EReal)) x1 y
      = ∑ r : Fin 2048, x1 (ix2 r (y 1)) * ((x0 (ix2 r (y 1)) * rinv (fun l => x0 (ix2 r l)) : ℝ) : EReal) :=
  Cert.QkBwdIdeal.Val.dg_kernel x0 x1 y

/-- Lane `l` of head `h`, in the queries' columns and in the cotangent's. -/
def qcol (h : Fin 16) (l : Fin 128) : Fin 6144 := ⟨h.val * 128 + l.val, by omega⟩
def col (h : Fin 16) (l : Fin 128) : Fin 2048 := ⟨h.val * 128 + l.val, by omega⟩

theorem dx_ref (x0 : S2048x6144.Idx → ℝ) (x1 : S128.Idx → ℝ) (x3 : S2048x2048.Idx → ℝ) (r : Fin 2048) (h : Fin 16) (l : Fin 128) :
    val_main_v41 (F := Ideal) (fun i => (x0 i : EReal)) (fun i => (x1 i : EReal)) (fun i => (x3 i : EReal)) (ix2 r (col h l))
      = ((dxr (fun l => x0 (ix2 r (qcol h l))) (fun l => x3 (ix2 r (col h l)) * x1 (ix1 l)) l : ℝ) : EReal) := by
  have e1 : (col h l).val / 128 = h.val := by show (h.val * 128 + l.val) / 128 = h.val; omega
  have e2 : (col h l).val % 128 = l.val := by show (h.val * 128 + l.val) % 128 = l.val; omega
  pointwise [val_main_v41, val_main_v40, val_main_v39, val_main_v37, val_main_v30, val_main_v24, val_main_v19, val_main_v23,
    val_main_v16, val_main_v29, val_main_v10, val_main_v9, val_main_v7, val_main_v5, val_main_v4, val_main_v3,
    val_main_v2, val_main_v1, val_main_v0, val_main_cst, val_main_v6, val_main_cst_0, val_main_v8, val_main_cst_1,
    val_main_v36, val_main_v35, val_main_v34, val_main_v33, val_main_v31, val_main_v28, val_main_v27, val_main_v26,
    val_main_cst_5, val_main_v13, val_main_v12, val_main_cst_2, val_main_v11, val_main_v32, val_main_cst_6,
    val_main_cst_7, val_main_v38]
  simp only [e1, e2]
  simp only [Norm.word_128, Norm.word_eps, Norm.word_neg_half, ← EReal.coe_mul, ← Base.coe_sum,
    Ideal.div_coe (by norm_num : (128 : ℝ) ≠ 0),
    ← EReal.coe_add, Norm.rsqrt_rho _ 128 (by norm_num), Norm.div_rho _ 128 (by norm_num), ← EReal.coe_sub,
    Fin.sum_univ_one, add_assoc]
  exact congrArg (fun z : ℝ => (z : EReal))
    (Norm.grad (fun l => x0 (ix2 r (qcol h l))) (fun l => x3 (ix2 r (col h l)) * x1 (ix1 l)) 128 (by norm_num) l)

theorem dg_ref (x0 : S2048x6144.Idx → ℝ) (x3 : FVec Ideal S2048x2048 .f32) (y : S1x128.Idx) :
    val_main_v42 (F := Ideal) (fun i => (x0 i : EReal)) x3 y
      = ∑ h : Fin 16, ∑ r : Fin 2048, x3 (ix2 r (col h (y 1)))
          * ((x0 (ix2 r (qcol h (y 1))) * rinv (fun l => x0 (ix2 r (qcol h l))) : ℝ) : EReal) := by
  idx_vars y
  pointwise [Base.sum_axes01, val_main_v42, val_main_v25, val_main_v22, val_main_v21, val_main_v20, val_main_v15, val_main_v2, val_main_v1,
    val_main_v0, val_main_v14, val_main_v10, val_main_v9, val_main_v7, val_main_v5, val_main_v4, val_main_v3,
    val_main_cst, val_main_v6, val_main_cst_0, val_main_v8, val_main_cst_1, val_main_v19, val_main_cst_3,
    val_main_cst_4]
  simp only [Norm.word_128, Norm.word_eps, ← EReal.coe_mul, ← Base.coe_sum, Ideal.div_coe (by norm_num : (128 : ℝ) ≠ 0),
    ← EReal.coe_add, Norm.rsqrt_rho _ 128 (by norm_num), Fin.sum_univ_one, add_assoc]
  rw [Finset.sum_comm]
  exact Finset.sum_congr rfl fun h _ => Finset.sum_congr rfl fun r _ => mul_comm _ _

theorem idx_val : ∀ t : Fin cfg0.N, win0_0.index t = ![0, t.val] ∧ win0_1.index t = ![0, 0, 0]
    ∧ win0_2.index t = ![0, t.val] ∧ win0_3.index t = ![0, t.val] ∧ win0_4.index t = ![0, 0] := by decide +kernel

theorem N_lt (t : Fin cfg0.N) : t.val < 16 := lt_of_lt_of_eq t.isLt N_0

/-- The head of point `t`. -/
def head (t : Fin cfg0.N) : Fin 16 := ⟨t.val, N_lt t⟩

theorem blk0 (c : Dev nD) (t : Fin cfg0.N) : iblk m c 0 t = fun i : S2048x128.Idx => A0 m c (ix2 (i 0) (qcol (head t) (i 1))) := by
  funext i; idx_vars i; blk_point [iblk, V, idx_val t, qcol, head]

theorem blk1 (c : Dev nD) (t : Fin cfg0.N) : iblk m c 1 t = fun i : S1x1x128.Idx => A1 m c (ix1 (i 2)) := by
  funext i; idx_vars i; blk_simp [iblk, idx_val t]; entry_read; pointwise
  have e : ((View.whole main_v3).slice (win0_1.rect t)).emb (ix3 i0 i1 i2) = ix3 (0 : Fin 2) (0 : Fin 1) i2 := by
    blk_ext [idx_val t]
  rw [e]; rfl

theorem blk2 (c : Dev nD) (t : Fin cfg0.N) : iblk m c 2 t = fun i : S2048x128.Idx => A3 m c (ix2 (i 0) (col (head t) (i 1))) := by
  funext i; idx_vars i; blk_point [iblk, V, idx_val t, col, head]

variable (c : Dev nD) {x0 : S2048x6144.Idx → ℝ} {x1 : S128.Idx → ℝ} {x3 : S2048x2048.Idx → ℝ}
  (h0 : A0 m c = fun i => (x0 i : EReal)) (h1 : A1 m c = fun i => (x1 i : EReal)) (h3 : A3 m c = fun i => (x3 i : EReal))

include h0 h1 h3 in
theorem final_3 : (dats m 0 c).arrAt 3 (cfgs 0).N = val_main_v41 (F := Ideal) (A0 m c) (A1 m c) (A3 m c) := by
  refine (dats m 0 c).arrAt_eq_of_covers 3 _ (by decide +kernel) fun t hf y => ?_
  have ht := N_lt t
  obtain ⟨r, l, rfl⟩ : ∃ (r : Fin 2048) (l : Fin 128), y = ix2 r l := ⟨y 0, y 1, eq_ix2 y⟩
  have e : k0_pay3 (iblk m c 0 t) (iblk m c 2 t) (iblk m c 1 t) (ix2 r l)
      = val_main_v41 (F := Ideal) (A0 m c) (A1 m c) (A3 m c) (ix2 r (col (head t) l)) := by
    rw [blk0, blk1, blk2, h0, h1, h3, dx_kernel, dx_ref]
    rfl
  blk_simp [idx_val t]
  rw [after0_3]
  by_cases h : t.val % 16 = 0
  · rw [outsAt0_A m c t h (by omega)]; dsimp only; frame_out
    refine e.trans (congrArg _ ?_)
    blk_ext [idx_val t, col, head]
  · rw [outsAt0_B m c t h (by omega)]; dsimp only; frame_out
    refine e.trans (congrArg _ ?_)
    blk_ext [idx_val t, col, head]

include h0 in
theorem final_4 : (dats m 0 c).arrAt 4 (cfgs 0).N = val_main_v42 (F := Ideal) (A0 m c) (A3 m c) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0)
    (fun t j => k0_pay4 (iblk m c 0 t) (iblk m c 2 t) j)
    (fun t h j => by have := N_lt t; rw [outsAt0_A m c t h (by omega)]; frame_out; exact (zero_add _).symm)
    (fun t h j => by have := N_lt t; rw [outsAt0_B m c t h (by omega)]; frame_out; pointwise [k0_pay5])
    (le_of_eq N_0) t0_15 rfl j, zero_add]
  simp only [blk0, blk2]
  rw [h0, dg_ref]
  simp only [dg_kernel]
  rfl

section Value

variable [Cert.Pre_finite_qkq.Facts]

theorem finite (X : FVec Ideal Cert.Pre_finite_qkq.S2048x6144 .f32) (Q Y : FVec Ideal Cert.Pre_finite_qkq.S128 .f32)
    (Z : FVec Ideal Cert.Pre_finite_qkq.S2048x2048 .f32) (h : Cert.Pre_finite_qkq.fn (F := Ideal) X Q Y Z = fun _ => 1#1) :
    (∃ x : S2048x6144.Idx → ℝ, X = fun i => (x i : EReal)) ∧ (∃ y : S128.Idx → ℝ, Q = fun i => (y i : EReal))
      ∧ ∃ z : S2048x2048.Idx → ℝ, Z = fun i => (z i : EReal) := by
  have e := congrFun h ValueIdx.ix0
  dsimp only [Cert.Pre_finite_qkq.fn] at e
  obtain ⟨e1, e2⟩ := Base.and_one e
  obtain ⟨e0, e1⟩ := Base.and_one e1
  haveI : Subsingleton Cert.Pre_finite_qkq.S_.Idx := ⟨fun a b => funext fun k => k.elim0⟩
  exact ⟨Base.real_fun fun y => Base.real_of_word_f32 (Host.reduce_andi_all _ _ _ _ _ e0 y),
    Base.real_fun fun y => Base.real_of_word_f32 (Host.reduce_andi_all _ _ _ _ _ e1 y),
    Base.real_fun fun y => Base.real_of_word_f32 (Host.reduce_andi_all _ _ _ _ _ e2 y)⟩

/-- The pair: on finite queries, gain and cotangent the kernel's two results are the reference's. -/
theorem value : Cert.algebraic_QkqBwdIdeal_QkqRefIdeal_pre_finite_qkq := by
  pair_intro
  · run_from Cert.QkqBwdIdeal.Gen.run_main m g
  · refine (θ_run Cert.QkqRefIdeal.defs _ _).mono (fun _ h c => ⟨(h c).1.trans ?_, (h c).2.1.trans ?_, (h c).2.2⟩)
      (Cert.QkqRefIdeal.Value.run (F := Ideal) m' g')
    all_goals
      obtain ⟨⟨x0, h0⟩, ⟨x1, h1⟩, x3, h3⟩ := finite _ _ _ _ (hpre c)
      obtain ⟨e0, e1, e2, e3⟩ := hagree c
    · refine (val_main_v41_eq m' c).trans ?_
      rw [e0, e1, e3]
      exact (final_3 m c h0 h1 h3).symm
    · refine (val_main_v42_eq _ _).trans ?_
      rw [e0, e3]
      exact (final_4 m c h0).symm

/-- The reference's run leaves its arguments; it has no semaphore. -/
theorem frame_ref : Cert.quiescent_QkqRefIdeal := fun m ρ _ =>
  (θ_run Cert.QkqRefIdeal.defs _ _).mono (fun r h => ⟨fun c => (h c).2.2, sem_eq_zero_of_no_sems (by decide) r.2⟩)
    (Cert.QkqRefIdeal.Value.run (F := Ideal) m ρ)

end Value

end Cert.QkqBwdIdeal.Val

end
-- ==== Proof.ConvMath.lean ====
/- The causal convolution of three taps along a column of 2048 rows, and its gradients, over the reals. -/
module

public import proofs.«01_k».proof.Proof.Base
public import Idealize.ShloMosaic.Lib.WordCmp

@[expose] public section

noncomputable section

namespace Cert.Conv

open Idealize.ShloMosaic Idealize.ShloMosaic.TcCoe

/-- A column moved down by `k` rows, zeros coming in at the top. -/
def dn (k : ℕ) (u : Fin 2048 → ℝ) (r : Fin 2048) : ℝ :=
  if h : r.val < k then 0 else u ⟨r.val - k, by omega⟩

/-- A column moved up by `k` rows, zeros coming in at the bottom. -/
def up (k : ℕ) (u : Fin 2048 → ℝ) (r : Fin 2048) : ℝ :=
  if h : r.val + k < 2048 then u ⟨r.val + k, h⟩ else 0

/-- The convolution of a column: the taps on the rows two above, one above and here. -/
def conv (w0 w1 w2 b : ℝ) (u : Fin 2048 → ℝ) (r : Fin 2048) : ℝ :=
  b + ((w0 * dn 2 u r + w1 * dn 1 u r) + w2 * u r)

/-- The logistic function. -/
def sg (z : ℝ) : ℝ := (1 + Real.exp (-z))⁻¹

/-- The cotangent of the convolved values, from the gate `g` and the cotangent `d` of the gated product. -/
def dval (d g : ℝ) : ℝ := d * (g * sg g)

/-- The cotangent of the gate. -/
def dgate (d v g : ℝ) : ℝ := d * v * (sg g * (1 + g * (1 - sg g)))

/-- The convolution's gradient in its column. -/
def dup (w0 w1 w2 : ℝ) (d : Fin 2048 → ℝ) (r : Fin 2048) : ℝ :=
  w0 * up 2 d r + w1 * up 1 d r + w2 * d r

/-- The gradient in the three taps. -/
def dw (u d : Fin 2048 → ℝ) (k : Fin 3) : ℝ := ∑ r, u r * up (2 - k.val) d r

theorem div_one (z : ℝ) : Ideal.div 1 (1 + Ideal.exp ((-z : ℝ) : EReal)) = ((sg z : ℝ) : EReal) := by
  have h : (1 + Real.exp (-z)) ≠ 0 := by positivity
  rw [Ideal.exp_coe, ← EReal.coe_one, ← EReal.coe_add, Ideal.div_coe h, ← EReal.coe_mul, sg, one_mul, one_div]

theorem sel_dn (k : ℕ) (hk : k < 2048) (u : Fin 2048 → ℝ) (r : Fin 2048) :
    Scalar.select (IntOp.cmpi .sge (BitVec.ofNat 32 r.val) (BitVec.ofNat 32 k))
      ((u ⟨(r.val + 2048 - k) % 2048, Nat.mod_lt _ (by norm_num)⟩ : ℝ) : EReal) 0 = ((dn k u r : ℝ) : EReal) := by
  have hr := r.isLt
  have e := WordCmp.cmpi_sge_ofNat_eq_one_iff (w := 32) (a := r.val) (b := k) (by norm_num; omega) (by norm_num; omega)
  rw [dn, Scalar.select]
  by_cases h : r.val < k
  · refine (if_neg fun hc => absurd (e.1 hc) (by omega)).trans ?_; rw [dif_pos h]; rfl
  · refine (if_pos (e.2 (by omega))).trans ?_; rw [dif_neg h]
    have : (r.val + 2048 - k) % 2048 = r.val - k := by omega
    simp only [this]

theorem sel_up (k : ℕ) (hk : 0 < k) (hk' : k < 2048) (u : Fin 2048 → ℝ) (r : Fin 2048) :
    Scalar.select (IntOp.cmpi .slt (BitVec.ofNat 32 r.val) (BitVec.ofNat 32 (2048 - k)))
      ((u ⟨(r.val + 2048 - (2048 - k)) % 2048, Nat.mod_lt _ (by norm_num)⟩ : ℝ) : EReal) 0 = ((up k u r : ℝ) : EReal) := by
  have hr := r.isLt
  have e := WordCmp.cmpi_slt_ofNat_eq_one_iff (w := 32) (a := r.val) (b := 2048 - k) (by norm_num; omega) (by norm_num; omega)
  rw [up, Scalar.select]
  by_cases h : r.val + k < 2048
  · refine (if_pos (e.2 (by omega))).trans ?_; rw [dif_pos h]
    have : (r.val + 2048 - (2048 - k)) % 2048 = r.val + k := by omega
    simp only [this]
  · refine (if_neg fun hc => absurd (e.1 hc) (by omega)).trans ?_; rw [dif_neg h]; rfl

theorem dn_mul (k : ℕ) (w : ℝ) (u : Fin 2048 → ℝ) (r : Fin 2048) : dn k (fun r => w * u r) r = w * dn k u r := by
  unfold dn; split_ifs <;> simp

theorem up_mul (k : ℕ) (w : ℝ) (u : Fin 2048 → ℝ) (r : Fin 2048) : up k (fun r => w * u r) r = w * up k u r := by
  unfold up; split_ifs <;> simp

theorem sel_up1 (a : ℝ) (u : Fin 2048 → ℝ) (r : Fin 2048) :
    Scalar.select (IntOp.cmpi .slt (BitVec.ofNat 32 r.val) 2047#32)
      ((a * u ⟨(r.val + 2048 - 2047) % 2048, Nat.mod_lt _ (by norm_num)⟩ : ℝ) : EReal) 0 = ((a * up 1 u r : ℝ) : EReal) :=
  (sel_up 1 (by norm_num) (by norm_num) (fun r => a * u r) r).trans (congrArg _ (up_mul 1 a u r))

theorem sel_up1' (u : Fin 2048 → ℝ) (r : Fin 2048) :
    Scalar.select (IntOp.cmpi .slt (BitVec.ofNat 32 r.val) 2047#32)
      ((u ⟨(r.val + 2048 - 2047) % 2048, Nat.mod_lt _ (by norm_num)⟩ : ℝ) : EReal) 0 = ((up 1 u r : ℝ) : EReal) :=
  sel_up 1 (by norm_num) (by norm_num) u r

theorem sel_up2 (a : ℝ) (u : Fin 2048 → ℝ) (r : Fin 2048) :
    Scalar.select (IntOp.cmpi .slt (BitVec.ofNat 32 r.val) 2046#32)
      ((a * u ⟨(r.val + 2048 - 2046) % 2048, Nat.mod_lt _ (by norm_num)⟩ : ℝ) : EReal) 0 = ((a * up 2 u r : ℝ) : EReal) :=
  (sel_up 2 (by norm_num) (by norm_num) (fun r => a * u r) r).trans (congrArg _ (up_mul 2 a u r))

theorem sel_up2' (u : Fin 2048 → ℝ) (r : Fin 2048) :
    Scalar.select (IntOp.cmpi .slt (BitVec.ofNat 32 r.val) 2046#32)
      ((u ⟨(r.val + 2048 - 2046) % 2048, Nat.mod_lt _ (by norm_num)⟩ : ℝ) : EReal) 0 = ((up 2 u r : ℝ) : EReal) :=
  sel_up 2 (by norm_num) (by norm_num) u r

/-- Moving one factor up or the other down gives one sum. -/
theorem sum_up (k : ℕ) (u d : Fin 2048 → ℝ) : ∑ r, u r * up k d r = ∑ r, d r * dn k u r := by
  have e1 : ∀ r, u r * up k d r = ∑ s : Fin 2048, if s.val = r.val + k then u r * d s else 0 := by
    intro r
    unfold up
    split_ifs with h
    · rw [Finset.sum_eq_single ⟨r.val + k, h⟩]
      · simp
      · intro s _ hs; rw [if_neg]; intro e; exact hs (Fin.ext e)
      · simp
    · rw [mul_zero, Finset.sum_eq_zero]
      intro s _; rw [if_neg]; have := s.isLt; omega
  have e2 : ∀ s, d s * dn k u s = ∑ r : Fin 2048, if s.val = r.val + k then u r * d s else 0 := by
    intro s
    have hs := s.isLt
    unfold dn
    split_ifs with h
    · rw [mul_zero, Finset.sum_eq_zero]
      intro r _; rw [if_neg]; omega
    · rw [Finset.sum_eq_single ⟨s.val - k, by omega⟩]
      · rw [if_pos (by show s.val = s.val - k + k; omega), mul_comm]
      · intro r _ hr; rw [if_neg]; intro e; exact hr (Fin.ext (by show r.val = s.val - k; omega))
      · simp
  simp only [e1, e2]
  exact Finset.sum_comm

/-- The sum over the rows that a column moved up by two reaches. -/
theorem sum_up_two (u d : Fin 2048 → ℝ) :
    ∑ r, u r * up 2 d r = ∑ x : Fin 2046, d ⟨2 + x.val, by omega⟩ * u ⟨x.val, by omega⟩ := by
  have h := Fin.sum_univ_add (a := 2046) (b := 2) fun r : Fin 2048 => u r * up 2 d r
  refine h.trans ?_
  rw [Finset.sum_eq_zero (s := (Finset.univ : Finset (Fin 2))), add_zero]
  · refine Finset.sum_congr rfl fun x _ => ?_
    have hx := x.isLt
    unfold up
    rw [dif_pos (by show x.val + 2 < 2048; omega), mul_comm]
    congr 2
    exact Fin.ext (Nat.add_comm _ _)
  · intro x _
    unfold up
    rw [dif_neg (by show ¬ 2046 + x.val + 2 < 2048; omega), mul_zero]

theorem up_zero (d : Fin 2048 → ℝ) (r : Fin 2048) : up 0 d r = d r := by
  unfold up; rw [dif_pos (by have := r.isLt; omega)]; rfl

/-! The same moves as slices of a column that two zeros have been put before. -/

theorem slice_dn2 (u : Fin 2048 → ℝ) (r : Fin 2048) :
    (if h : r.val < 2 then (0 : EReal) else ((u ⟨r.val - 2, by omega⟩ : ℝ) : EReal)) = ((dn 2 u r : ℝ) : EReal) := by
  unfold dn; split_ifs <;> rfl

theorem slice_dn1 (u : Fin 2048 → ℝ) (r : Fin 2048) :
    (if h : 1 + r.val < 2 then (0 : EReal) else ((u ⟨1 + r.val - 2, by omega⟩ : ℝ) : EReal)) = ((dn 1 u r : ℝ) : EReal) := by
  have e : 1 + r.val - 2 = r.val - 1 := by omega
  unfold dn
  by_cases h : r.val < 1
  · rw [dif_pos (by omega), dif_pos h]; rfl
  · rw [dif_neg (by omega), dif_neg h]; simp only [e]

theorem slice_up1 (w : ℝ) (u : Fin 2048 → ℝ) (r : Fin 2048) [Decidable (1 ≤ 2 + r.val ∧ 2 + r.val - 1 < 2048)] :
    (if h : 1 ≤ 2 + r.val ∧ 2 + r.val - 1 < 2048 then ((w * u ⟨2 + r.val - 1, h.2⟩ : ℝ) : EReal) else 0)
      = ((w * up 1 u r : ℝ) : EReal) := by
  have e : 2 + r.val - 1 = r.val + 1 := by omega
  unfold up
  by_cases h : r.val + 1 < 2048
  · rw [dif_pos ⟨by omega, by omega⟩, dif_pos h]; simp only [e]
  · rw [dif_neg (by omega), dif_neg h, mul_zero]; rfl

theorem slice_up2 (w : ℝ) (u : Fin 2048 → ℝ) (r : Fin 2048) [Decidable (2 + r.val < 2048)] :
    (if h : 2 + r.val < 2048 then ((w * u ⟨2 + r.val, h⟩ : ℝ) : EReal) else 0)
      = ((w * up 2 u r : ℝ) : EReal) := by
  have e : 2 + r.val = r.val + 2 := by omega
  unfold up
  by_cases h : r.val + 2 < 2048
  · rw [dif_pos (by omega), dif_pos h]; simp only [e]
  · rw [dif_neg (by omega), dif_neg h, mul_zero]; rfl

/-- The three taps' sums, each put on its row. -/
theorem tap (k : Fin 3) (f : Fin 3 → ℝ) [Decidable (2 ≤ k.val ∧ k.val - 2 < 1)] [Decidable (1 ≤ k.val ∧ k.val - 1 < 1)]
    [Decidable (k.val < 1)] :
    (((if h : 2 ≤ k.val ∧ k.val - 2 < 1 then (f 2 : EReal) else 0) + if h : 1 ≤ k.val ∧ k.val - 1 < 1 then (f 1 : EReal) else 0)
      + if h : k.val < 1 then (f 0 : EReal) else 0) = (f k : EReal) := by
  fin_cases k <;> simp

theorem dw_two (u d : Fin 2048 → ℝ) : ∑ r, (d r : EReal) * (u r : EReal) = ((dw u d 2 : ℝ) : EReal) := by
  simp only [← EReal.coe_mul, ← Base.coe_sum, dw]
  refine congrArg (fun z : ℝ => (z : EReal)) (Finset.sum_congr rfl fun r _ => ?_)
  rw [show 2 - (2 : Fin 3).val = 0 from rfl, up_zero, mul_comm]

theorem dw_one (u d : Fin 2048 → ℝ) : ∑ r, (d r : EReal) * ((dn 1 u r : ℝ) : EReal) = ((dw u d 1 : ℝ) : EReal) := by
  simp only [← EReal.coe_mul, ← Base.coe_sum, dw]
  exact congrArg (fun z : ℝ => (z : EReal)) (sum_up 1 u d).symm

theorem dw_zero (u d : Fin 2048 → ℝ) : ∑ x : Fin 2, (d ⟨x.val, by omega⟩ : EReal) * 0
    + ∑ x : Fin 2046, (d ⟨2 + x.val, by omega⟩ : EReal) * (u ⟨x.val, by omega⟩ : EReal) = ((dw u d 0 : ℝ) : EReal) := by
  simp only [mul_zero, Finset.sum_const_zero, zero_add, ← EReal.coe_mul, ← Base.coe_sum, dw]
  exact congrArg (fun z : ℝ => (z : EReal)) (sum_up_two u d).symm

end Cert.Conv
-- ==== Proof.ConvCells.lean ====
module

public import proofs.«01_k».proof.Defs
public import proofs.«01_k».proof.Proof.ConvMath
public import proofs.«01_k».proof.Proof.Gen.ConvBwdIdeal.Value
public import proofs.«01_k».proof.Proof.Gen.ConvRefIdeal.Run
public import proofs.«01_k».proof.Proof.Gen.ConvRefIdeal.Read
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.ConvBwdIdeal.Val

open Cert.ConvBwdIdeal Cert.ConvBwdIdeal.Gen
open Cert.ConvRefIdeal.Read

section Kernel

variable (x0 x1 x2 : S2048x256.Idx → ℝ) (x3 x4 : S3x256.Idx → ℝ) (x5 x6 : S1x256.Idx → ℝ)

/-- A tile's convolved column. -/
def tconv (x : S2048x256.Idx → ℝ) (w : S3x256.Idx → ℝ) (b : S1x256.Idx → ℝ) (l : Fin 256) : Fin 2048 → ℝ :=
  Conv.conv (w (ix2 0 l)) (w (ix2 1 l)) (w (ix2 2 l)) (b (ix2 0 l)) fun r => x (ix2 r l)

def tval (l : Fin 256) (r : Fin 2048) : ℝ := Conv.dval (x2 (ix2 r l)) (tconv x1 x4 x6 l r)

def tgate (l : Fin 256) (r : Fin 2048) : ℝ := Conv.dgate (x2 (ix2 r l)) (tconv x0 x3 x5 l r) (tconv x1 x4 x6 l r)

theorem pay27 : k0_pay27 (F := Ideal) (fun i => (x0 i : EReal)) (fun i => (x1 i : EReal)) (fun i => (x2 i : EReal))
    (fun i => (x3 i : EReal)) (fun i => (x4 i : EReal)) (fun i => (x5 i : EReal)) (fun i => (x6 i : EReal))
    = fun y => ((tval x1 x2 x4 x6 (y 1) (y 0) : ℝ) : EReal) := by
  funext y
  idx_vars y
  have g2 := Conv.sel_dn 2 (by norm_num) (fun r => x4 (ix2 0 y1) * x1 (ix2 r y1)) y0
  have g1 := Conv.sel_dn 1 (by norm_num) (fun r => x4 (ix2 1 y1) * x1 (ix2 r y1)) y0
  pointwise [k0_pay27, k0_pay26, k0_pay25, k0_pay24, k0_pay23, k0_pay14, k0_pay13, k0_pay12, k0_pay11, k0_pay10, k0_pay9,
    k0_pay8, k0_pay7, k0_pay6]
  simp only [← EReal.coe_mul, g1, g2, Conv.dn_mul, ← EReal.coe_add, zero_sub, ← EReal.coe_neg, Conv.div_one]
  refine congrArg (fun z : ℝ => (z : EReal)) ?_
  rw [tval, tconv, Conv.dval, Conv.conv]
  ring_nf

theorem pay28 : k0_pay28 (F := Ideal) (fun i => (x0 i : EReal)) (fun i => (x1 i : EReal)) (fun i => (x2 i : EReal))
    (fun i => (x3 i : EReal)) (fun i => (x4 i : EReal)) (fun i => (x5 i : EReal)) (fun i => (x6 i : EReal))
    = fun y => ((tgate x0 x1 x2 x3 x4 x5 x6 (y 1) (y 0) : ℝ) : EReal) := by
  funext y
  idx_vars y
  have v2 := Conv.sel_dn 2 (by norm_num) (fun r => x3 (ix2 0 y1) * x0 (ix2 r y1)) y0
  have v1 := Conv.sel_dn 1 (by norm_num) (fun r => x3 (ix2 1 y1) * x0 (ix2 r y1)) y0
  have g2 := Conv.sel_dn 2 (by norm_num) (fun r => x4 (ix2 0 y1) * x1 (ix2 r y1)) y0
  have g1 := Conv.sel_dn 1 (by norm_num) (fun r => x4 (ix2 1 y1) * x1 (ix2 r y1)) y0
  pointwise [k0_pay28, k0_pay26, k0_pay25, k0_pay24, k0_pay23, k0_pay14, k0_pay13, k0_pay12, k0_pay11, k0_pay10, k0_pay9,
    k0_pay8, k0_pay7, k0_pay6]
  simp only [← EReal.coe_mul, g1, g2, v1, v2, Conv.dn_mul, ← EReal.coe_add, zero_sub, ← EReal.coe_neg, Conv.div_one]
  simp only [← EReal.coe_one, ← EReal.coe_sub, ← EReal.coe_add, ← EReal.coe_mul]
  refine congrArg (fun z : ℝ => (z : EReal)) ?_
  rw [tgate, tconv, tconv, Conv.dgate, Conv.conv, Conv.conv]
  have e : ∀ a b c d : ℝ, a + b + c + d = a + (b + c + d) := fun a b c d => by ring
  simp only [e]

theorem pay29 : k0_pay29 (F := Ideal) (fun i => (x0 i : EReal)) (fun i => (x1 i : EReal)) (fun i => (x2 i : EReal))
    (fun i => (x3 i : EReal)) (fun i => (x4 i : EReal)) (fun i => (x5 i : EReal)) (fun i => (x6 i : EReal))
    = fun y => ((Conv.up 2 (tval x1 x2 x4 x6 (y 1)) (y 0) : ℝ) : EReal) := by
  have e := pay27 x0 x1 x2 x3 x4 x5 x6
  unfold k0_pay27 at e
  funext y
  idx_vars y
  unfold k0_pay29 k0_pay15
  rw [e]
  pointwise
  exact Conv.sel_up2' _ _

theorem out7 (y) : out0_7 (F := Ideal) (fun i => (x0 i : EReal)) (fun i => (x1 i : EReal)) (fun i => (x2 i : EReal))
    (fun i => (x3 i : EReal)) (fun i => (x4 i : EReal)) (fun i => (x5 i : EReal)) (fun i => (x6 i : EReal)) y
    = ((Conv.dup (x3 (ix2 0 (y 1))) (x3 (ix2 1 (y 1))) (x3 (ix2 2 (y 1))) (tval x1 x2 x4 x6 (y 1)) (y 0) : ℝ) : EReal) := by
  unfold out0_7
  frame_out
  rw [pay27, pay29]
  idx_vars y
  pointwise [k0_pay19, k0_pay18, k0_pay16]
  simp only [← EReal.coe_mul, Conv.sel_up1, Conv.sel_up2, Conv.sel_up1', Conv.sel_up2', ← EReal.coe_add]
  rfl

theorem out8 (y) : out0_8 (F := Ideal) (fun i => (x0 i : EReal)) (fun i => (x1 i : EReal)) (fun i => (x2 i : EReal))
    (fun i => (x3 i : EReal)) (fun i => (x4 i : EReal)) (fun i => (x5 i : EReal)) (fun i => (x6 i : EReal)) y
    = ((Conv.dup (x4 (ix2 0 (y 1))) (x4 (ix2 1 (y 1))) (x4 (ix2 2 (y 1))) (tgate x0 x1 x2 x3 x4 x5 x6 (y 1)) (y 0) : ℝ) : EReal) := by
  unfold out0_8 k0_pay31
  frame_out
  rw [pay28]
  idx_vars y
  pointwise [k0_pay5, k0_pay2, k0_pay1, k0_pay20, k0_pay21, k0_pay22, k0_pay30, k0_pay32]
  simp only [← EReal.coe_mul, Conv.sel_up1, Conv.sel_up2, Conv.sel_up1', Conv.sel_up2', ← EReal.coe_add]
  rfl

theorem out9 (y) : out0_9 (F := Ideal) (fun i => (x0 i : EReal)) (fun i => (x1 i : EReal)) (fun i => (x2 i : EReal))
    (fun i => (x3 i : EReal)) (fun i => (x4 i : EReal)) (fun i => (x5 i : EReal)) (fun i => (x6 i : EReal)) y
    = ((Conv.dw (fun r => x0 (ix2 r (y 1))) (tval x1 x2 x4 x6 (y 1)) (y 0) : ℝ) : EReal) := by
  unfold out0_9
  frame_out
  rw [pay27, pay29]
  idx_vars y
  pointwise [k0_pay17, k0_pay16]
  simp only [← EReal.coe_mul, Conv.sel_up1, Conv.sel_up2, Conv.sel_up1', Conv.sel_up2', ← EReal.coe_add, ← Base.coe_sum]
  unfold Conv.dw
  fin_cases y0
  · rfl
  · rfl
  · simp [Conv.up_zero]

theorem out10 (y) : out0_10 (F := Ideal) (fun i => (x0 i : EReal)) (fun i => (x1 i : EReal)) (fun i => (x2 i : EReal))
    (fun i => (x3 i : EReal)) (fun i => (x4 i : EReal)) (fun i => (x5 i : EReal)) (fun i => (x6 i : EReal)) y
    = ((Conv.dw (fun r => x1 (ix2 r (y 1))) (tgate x0 x1 x2 x3 x4 x5 x6 (y 1)) (y 0) : ℝ) : EReal) := by
  unfold out0_10 k0_pay31
  frame_out
  rw [pay28]
  idx_vars y
  pointwise [k0_pay3, k0_pay2, k0_pay1, k0_pay20, k0_pay21, k0_pay22, k0_pay30, k0_pay32]
  simp only [← EReal.coe_mul, Conv.sel_up1, Conv.sel_up2, Conv.sel_up1', Conv.sel_up2', ← EReal.coe_add, ← Base.coe_sum]
  unfold Conv.dw
  fin_cases y0
  · rfl
  · rfl
  · simp [Conv.up_zero]

theorem out11 (y) : out0_11 (F := Ideal) (fun i => (x0 i : EReal)) (fun i => (x1 i : EReal)) (fun i => (x2 i : EReal))
    (fun i => (x3 i : EReal)) (fun i => (x4 i : EReal)) (fun i => (x5 i : EReal)) (fun i => (x6 i : EReal)) y
    = ((∑ r, tval x1 x2 x4 x6 (y 1) r : ℝ) : EReal) := by
  unfold out0_11
  frame_out
  rw [pay27]
  idx_vars y
  pointwise [k0_pay18]
  exact (Base.coe_sum _ _).symm

theorem out12 (y) : out0_12 (F := Ideal) (fun i => (x0 i : EReal)) (fun i => (x1 i : EReal)) (fun i => (x2 i : EReal))
    (fun i => (x3 i : EReal)) (fun i => (x4 i : EReal)) (fun i => (x5 i : EReal)) (fun i => (x6 i : EReal)) y
    = ((∑ r, tgate x0 x1 x2 x3 x4 x5 x6 (y 1) r : ℝ) : EReal) := by
  unfold out0_12
  frame_out
  rw [pay28]
  idx_vars y
  pointwise [k0_pay4]
  exact (Base.coe_sum _ _).symm

end Kernel
end Cert.ConvBwdIdeal.Val
-- ==== Proof.ConvRef.lean ====
module

public import proofs.«01_k».proof.Defs
public import proofs.«01_k».proof.Proof.ConvCells
public import proofs.«01_k».proof.Proof.Gen.ConvBwdIdeal.Value
public import proofs.«01_k».proof.Proof.Gen.ConvRefIdeal.Run
public import proofs.«01_k».proof.Proof.Gen.ConvRefIdeal.Read
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.ConvBwdIdeal.Val

open Cert.ConvBwdIdeal Cert.ConvBwdIdeal.Gen
open Cert.ConvRefIdeal.Read

section Reference

variable (x0 : Cert.ConvRefIdeal.S2048x11264.Idx → ℝ) (x1 : Cert.ConvRefIdeal.S2048x5632.Idx → ℝ)
  (x2 : Cert.ConvRefIdeal.S3x11264.Idx → ℝ) (x3 : Cert.ConvRefIdeal.S11264.Idx → ℝ)

/-- Column `n` of the values' half and of the gates' half. -/
def vcol (n : Fin 5632) : Fin 11264 := ⟨n.val, by omega⟩
def gcol (n : Fin 5632) : Fin 11264 := ⟨5632 + n.val, by omega⟩

/-- A convolved column. -/
def rconv (n : Fin 11264) : Fin 2048 → ℝ :=
  Conv.conv (x2 (ix2 0 n)) (x2 (ix2 1 n)) (x2 (ix2 2 n)) (x3 (ix1 n)) fun r => x0 (ix2 r n)

def rval (n : Fin 5632) (r : Fin 2048) : ℝ := Conv.dval (x1 (ix2 r n)) (rconv x0 x2 x3 (gcol n) r)

def rgate (n : Fin 5632) (r : Fin 2048) : ℝ :=
  Conv.dgate (x1 (ix2 r n)) (rconv x0 x2 x3 (vcol n) r) (rconv x0 x2 x3 (gcol n) r)

/-- The cotangent of the convolution's result. -/
def rd (n : Fin 11264) (r : Fin 2048) : ℝ :=
  if h : n.val < 5632 then rval x0 x1 x2 x3 ⟨n.val, h⟩ r else rgate x0 x1 x2 x3 ⟨n.val - 5632, by omega⟩ r

theorem rd_vcol (n : Fin 5632) : rd x0 x1 x2 x3 (vcol n) = rval x0 x1 x2 x3 n := by
  funext r; rw [rd, dif_pos (show (vcol n).val < 5632 from n.isLt)]; rfl

theorem rd_gcol (n : Fin 5632) : rd x0 x1 x2 x3 (gcol n) = rgate x0 x1 x2 x3 n := by
  funext r
  have e : (gcol n).val - 5632 = n.val := by show 5632 + n.val - 5632 = n.val; omega
  rw [rd, dif_neg (show ¬ (gcol n).val < 5632 by show ¬ 5632 + n.val < 5632; omega)]; simp only [e]

theorem v27 (y0 : Fin 2048) (y1 : Fin 11264) :
    val_main_v27 (F := Ideal) (fun i => (x0 i : EReal)) (fun i => (x2 i : EReal)) (fun i => (x3 i : EReal)) (ix2 y0 y1)
    = ((rconv x0 x2 x3 y1 y0 : ℝ) : EReal) := by
  have e2 := Conv.slice_dn2 (fun r => x0 (ix2 r y1)) y0
  have e1 := Conv.slice_dn1 (fun r => x0 (ix2 r y1)) y0
  pointwise [val_main_v27, val_main_v26, val_main_v25, val_main_v24, val_main_v17, val_main_v10, val_main_v9,
    val_main_cst_1, val_main_v8, val_main_v7, val_main_v6, val_main_v4, val_main_v3, val_main_v5, val_main_v1,
    val_main_v0, val_main_cst, val_main_v16, val_main_v15, val_main_v14, val_main_v12, val_main_v11, val_main_v13,
    val_main_v23, val_main_v22, val_main_v21, val_main_v19, val_main_v18, val_main_v20]
  simp only [e1, e2, ← EReal.coe_mul, ← EReal.coe_add]
  rfl

theorem v35 (y0 : Fin 2048) (y1 : Fin 11264) :
    val_main_v35 (F := Ideal) (fun i => (x0 i : EReal)) (fun i => (x1 i : EReal)) (fun i => (x2 i : EReal))
    (fun i => (x3 i : EReal)) (ix2 y0 y1) = ((rd x0 x1 x2 x3 y1 y0 : ℝ) : EReal) := by
  pointwise [val_main_v35, val_main_v32, val_main_v30_0, val_main_v29, val_main_v30_2, val_main_call0_v4,
    val_main_call0_cst_0, val_main_call0_v3, val_main_call0_v2, val_main_call0_cst, val_main_call0_v1,
    val_main_call0_v0, val_main_v34, val_main_call1_v1, val_main_v33, val_main_v28, val_main_call1_v2,
    val_main_call1_v0, val_main_v30_1, val_main_call0_v7, val_main_call0_v6, val_main_call0_cst_1]
  by_cases h : y1.val < 5632
  · rw [dif_pos h]
    simp only [v27, ← EReal.coe_neg, Conv.div_one, ← EReal.coe_mul]
    refine congrArg (fun z : ℝ => (z : EReal)) ?_
    rw [rd, dif_pos h, rval, Conv.dval]
    exact mul_comm _ _
  · rw [dif_neg h]
    simp only [v27, ← EReal.coe_neg, Conv.div_one]
    simp only [← EReal.coe_mul, ← EReal.coe_one, ← EReal.coe_sub, ← EReal.coe_add]
    refine congrArg (fun z : ℝ => (z : EReal)) ?_
    rw [rd, dif_neg h, rgate, Conv.dgate]
    simp only [vcol, gcol]
    ring

section Results

theorem v73 (y) : val_main_v73 (F := Ideal) (fun i => (x0 i : EReal)) (fun i => (x1 i : EReal)) (fun i => (x2 i : EReal))
    (fun i => (x3 i : EReal)) y
    = ((Conv.dup (x2 (ix2 0 (vcol (y 1)))) (x2 (ix2 1 (vcol (y 1)))) (x2 (ix2 2 (vcol (y 1)))) (rval x0 x1 x2 x3 (y 1)) (y 0) : ℝ) : EReal) := by
  idx_vars y
  have e1 := fun i => @Conv.slice_up1 (x2 (ix2 1 (vcol y1))) (rd x0 x1 x2 x3 (vcol y1)) y0 i
  have e2 := fun i => @Conv.slice_up2 (x2 (ix2 0 (vcol y1))) (rd x0 x1 x2 x3 (vcol y1)) y0 i
  rw [← rd_vcol]
  unfold vcol at *
  pointwise [val_main_v73, val_main_v72, val_main_v71, val_main_v66, val_main_v55, val_main_v45, val_main_v40, val_main_v39,
    val_main_v21, val_main_v19, val_main_v18, val_main_cst_6, val_main_v54, val_main_v49, val_main_v48,
    val_main_v14, val_main_v12, val_main_v11, val_main_cst_10, val_main_v65, val_main_v60, val_main_v59,
    val_main_v6, val_main_v4, val_main_v3, val_main_cst_14, v35]
  have hy : y1.val < 11264 := by omega
  simp only [hy, and_true, dite_true, ← EReal.coe_mul, e1, e2, ← EReal.coe_add]
  refine congrArg (fun z : ℝ => (z : EReal)) ?_
  unfold Conv.dup
  ring

theorem v74 (y) : val_main_v74 (F := Ideal) (fun i => (x0 i : EReal)) (fun i => (x1 i : EReal)) (fun i => (x2 i : EReal))
    (fun i => (x3 i : EReal)) y
    = ((Conv.dup (x2 (ix2 0 (gcol (y 1)))) (x2 (ix2 1 (gcol (y 1)))) (x2 (ix2 2 (gcol (y 1)))) (rgate x0 x1 x2 x3 (y 1)) (y 0) : ℝ) : EReal) := by
  idx_vars y
  have e1 := fun i => @Conv.slice_up1 (x2 (ix2 1 (gcol y1))) (rd x0 x1 x2 x3 (gcol y1)) y0 i
  have e2 := fun i => @Conv.slice_up2 (x2 (ix2 0 (gcol y1))) (rd x0 x1 x2 x3 (gcol y1)) y0 i
  rw [← rd_gcol]
  unfold gcol at *
  pointwise [val_main_v74, val_main_v72, val_main_v71, val_main_v66, val_main_v55, val_main_v45, val_main_v40, val_main_v39,
    val_main_v21, val_main_v19, val_main_v18, val_main_cst_6, val_main_v54, val_main_v49, val_main_v48,
    val_main_v14, val_main_v12, val_main_v11, val_main_cst_10, val_main_v65, val_main_v60, val_main_v59,
    val_main_v6, val_main_v4, val_main_v3, val_main_cst_14, v35]
  have hy : 5632 + y1.val < 11264 := by omega
  simp only [hy, and_true, dite_true, ← EReal.coe_mul, e1, e2, ← EReal.coe_add]
  refine congrArg (fun z : ℝ => (z : EReal)) ?_
  unfold Conv.dup
  ring

theorem v75 (y) : val_main_v75 (F := Ideal) (fun i => (x0 i : EReal)) (fun i => (x1 i : EReal)) (fun i => (x2 i : EReal))
    (fun i => (x3 i : EReal)) y
    = ((Conv.dw (fun r => x0 (ix2 r (vcol (y 1)))) (rval x0 x1 x2 x3 (y 1)) (y 0) : ℝ) : EReal) := by
  idx_vars y
  have e0 := Conv.dw_zero (fun r => x0 (ix2 r (vcol y1))) (rd x0 x1 x2 x3 (vcol y1))
  have e1 := Conv.dw_one (fun r => x0 (ix2 r (vcol y1))) (rd x0 x1 x2 x3 (vcol y1))
  have e2 := Conv.dw_two (fun r => x0 (ix2 r (vcol y1))) (rd x0 x1 x2 x3 (vcol y1))
  have e := fun x => Conv.slice_dn1 (fun r => x0 (ix2 r (vcol y1))) x
  have hy : y1.val < 11264 := by omega
  have hk := fun i j k => @Conv.tap y0 (Conv.dw (fun r => x0 (ix2 r (vcol y1))) (rd x0 x1 x2 x3 (vcol y1))) i j k
  rw [← rd_vcol]
  unfold vcol at *
  pointwise [val_main_v75, val_main_v69, val_main_v58, val_main_v47, val_main_v46, val_main_v44, val_main_v43, val_main_v42,
    val_main_v41, val_main_v20, val_main_v1, val_main_v0, val_main_cst, val_main_cst_4, val_main_cst_5,
    val_main_cst_7, val_main_v57, val_main_v56, val_main_v53, val_main_v52, val_main_v51, val_main_v50,
    val_main_v13, val_main_cst_8, val_main_cst_9, val_main_cst_11, val_main_v68, val_main_v67, val_main_v64,
    val_main_v63, val_main_v62, val_main_v61, val_main_v5, val_main_cst_12, val_main_cst_13, val_main_cst_15, v35]
  simp only [Fin.sum_univ_one, hy, and_true, e, e0, e1, e2, hk]

theorem v76 (y) : val_main_v76 (F := Ideal) (fun i => (x0 i : EReal)) (fun i => (x1 i : EReal)) (fun i => (x2 i : EReal))
    (fun i => (x3 i : EReal)) y
    = ((Conv.dw (fun r => x0 (ix2 r (gcol (y 1)))) (rgate x0 x1 x2 x3 (y 1)) (y 0) : ℝ) : EReal) := by
  idx_vars y
  have e0 := Conv.dw_zero (fun r => x0 (ix2 r (gcol y1))) (rd x0 x1 x2 x3 (gcol y1))
  have e1 := Conv.dw_one (fun r => x0 (ix2 r (gcol y1))) (rd x0 x1 x2 x3 (gcol y1))
  have e2 := Conv.dw_two (fun r => x0 (ix2 r (gcol y1))) (rd x0 x1 x2 x3 (gcol y1))
  have e := fun x => Conv.slice_dn1 (fun r => x0 (ix2 r (gcol y1))) x
  have hy : 5632 + y1.val < 11264 := by omega
  have hk := fun i j k => @Conv.tap y0 (Conv.dw (fun r => x0 (ix2 r (gcol y1))) (rd x0 x1 x2 x3 (gcol y1))) i j k
  rw [← rd_gcol]
  unfold gcol at *
  pointwise [val_main_v76, val_main_v69, val_main_v58, val_main_v47, val_main_v46, val_main_v44, val_main_v43, val_main_v42,
    val_main_v41, val_main_v20, val_main_v1, val_main_v0, val_main_cst, val_main_cst_4, val_main_cst_5,
    val_main_cst_7, val_main_v57, val_main_v56, val_main_v53, val_main_v52, val_main_v51, val_main_v50,
    val_main_v13, val_main_cst_8, val_main_cst_9, val_main_cst_11, val_main_v68, val_main_v67, val_main_v64,
    val_main_v63, val_main_v62, val_main_v61, val_main_v5, val_main_cst_12, val_main_cst_13, val_main_cst_15, v35]
  simp only [Fin.sum_univ_one, hy, and_true, e, e0, e1, e2, hk]

theorem v78 (y) : val_main_v78 (F := Ideal) (fun i => (x0 i : EReal)) (fun i => (x1 i : EReal)) (fun i => (x2 i : EReal))
    (fun i => (x3 i : EReal)) y = ((∑ r, rval x0 x1 x2 x3 (y 1) r : ℝ) : EReal) := by
  idx_vars y
  pointwise [val_main_v78, val_main_v77, val_main_v38, val_main_v37, val_main_v36, val_main_cst_2, val_main_cst_3]
  simp only [v35, Fin.sum_univ_one]
  rw [← rd_vcol]
  exact (Base.coe_sum _ _).symm

theorem v79 (y) : val_main_v79 (F := Ideal) (fun i => (x0 i : EReal)) (fun i => (x1 i : EReal)) (fun i => (x2 i : EReal))
    (fun i => (x3 i : EReal)) y = ((∑ r, rgate x0 x1 x2 x3 (y 1) r : ℝ) : EReal) := by
  idx_vars y
  pointwise [val_main_v79, val_main_v77, val_main_v38, val_main_v37, val_main_v36, val_main_cst_2, val_main_cst_3]
  simp only [v35, Fin.sum_univ_one]
  rw [← rd_gcol]
  exact (Base.coe_sum _ _).symm

end Results
end Reference
end Cert.ConvBwdIdeal.Val
-- ==== Proof.Conv.lean ====
module

public import proofs.«01_k».proof.Defs
public import proofs.«01_k».proof.Proof.ConvRef
public import proofs.«01_k».proof.Proof.Gen.ConvBwdIdeal.Value
public import proofs.«01_k».proof.Proof.Gen.ConvRefIdeal.Run
public import proofs.«01_k».proof.Proof.Gen.ConvRefIdeal.Read
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.ConvBwdIdeal.Val

open Cert.ConvBwdIdeal Cert.ConvBwdIdeal.Gen
open Cert.ConvRefIdeal.Read

variable (m : (ℓ : Loc nD τ sig) → Buf (Elt Ideal) ℓ)

abbrev A0 (c : Dev nD) : FVec Ideal S2048x11264 .f32 := m ((c : Thread nD τ).loc main_arg0)
abbrev A1 (c : Dev nD) : FVec Ideal S2048x5632 .f32 := m ((c : Thread nD τ).loc main_arg1)
abbrev A2 (c : Dev nD) : FVec Ideal S3x11264 .f32 := m ((c : Thread nD τ).loc main_arg2)
abbrev A3 (c : Dev nD) : FVec Ideal S11264 .f32 := m ((c : Thread nD τ).loc main_arg3)

theorem idx_val : ∀ t : Fin cfg0.N, win0_0.index t = ![0, t.val] ∧ win0_1.index t = ![0, t.val + 22]
    ∧ win0_2.index t = ![0, t.val] ∧ win0_3.index t = ![0, t.val] ∧ win0_4.index t = ![0, t.val + 22]
    ∧ win0_5.index t = ![0, t.val] ∧ win0_6.index t = ![0, t.val + 22] ∧ win0_7.index t = ![0, t.val]
    ∧ win0_8.index t = ![0, t.val] ∧ win0_9.index t = ![0, t.val] ∧ win0_10.index t = ![0, t.val]
    ∧ win0_11.index t = ![0, t.val] ∧ win0_12.index t = ![0, t.val] := by decide +kernel

theorem N_lt (t : Fin cfg0.N) : t.val < 22 := lt_of_lt_of_eq t.isLt N_0

/-- Column `l` of tile `t`. -/
def tcol (t : Fin cfg0.N) (l : Fin 256) : Fin 5632 := ⟨t.val * 256 + l.val, by have := N_lt t; omega⟩

theorem blk0 (c : Dev nD) (t : Fin cfg0.N) : iblk m c 0 t = fun i : S2048x256.Idx => A0 m c (ix2 (i 0) (vcol (tcol t (i 1)))) := by
  funext i; idx_vars i; blk_point [iblk, V, idx_val t, tcol, vcol, gcol]

theorem blk1 (c : Dev nD) (t : Fin cfg0.N) : iblk m c 1 t = fun i : S2048x256.Idx => A0 m c (ix2 (i 0) (gcol (tcol t (i 1)))) := by
  funext i; idx_vars i; blk_point [iblk, V, idx_val t, tcol, vcol, gcol]

theorem blk2 (c : Dev nD) (t : Fin cfg0.N) : iblk m c 2 t = fun i : S2048x256.Idx => A1 m c (ix2 (i 0) (tcol t (i 1))) := by
  funext i; idx_vars i; blk_point [iblk, V, idx_val t, tcol, vcol, gcol]

theorem blk3 (c : Dev nD) (t : Fin cfg0.N) : iblk m c 3 t = fun i : S3x256.Idx => A2 m c (ix2 (i 0) (vcol (tcol t (i 1)))) := by
  funext i; idx_vars i; blk_point [iblk, V, idx_val t, tcol, vcol, gcol]

theorem blk4 (c : Dev nD) (t : Fin cfg0.N) : iblk m c 4 t = fun i : S3x256.Idx => A2 m c (ix2 (i 0) (gcol (tcol t (i 1)))) := by
  funext i; idx_vars i; blk_point [iblk, V, idx_val t, tcol, vcol, gcol]

theorem blk5 (c : Dev nD) (t : Fin cfg0.N) : iblk m c 5 t = fun i : S1x256.Idx => A3 m c (ix1 (vcol (tcol t (i 1)))) := by
  funext i; idx_vars i; blk_simp [iblk, idx_val t]; entry_read; pointwise
  have e : ((View.whole main_v0).slice (win0_5.rect t)).emb (ix2 i0 i1) = ix2 (0 : Fin 1) (vcol (tcol t i1)) := by
    blk_ext [idx_val t, tcol, vcol, gcol]
  rw [e]; rfl

theorem blk6 (c : Dev nD) (t : Fin cfg0.N) : iblk m c 6 t = fun i : S1x256.Idx => A3 m c (ix1 (gcol (tcol t (i 1)))) := by
  funext i; idx_vars i; blk_simp [iblk, idx_val t]; entry_read; pointwise
  have e : ((View.whole main_v0).slice (win0_6.rect t)).emb (ix2 i0 i1) = ix2 (0 : Fin 1) (gcol (tcol t i1)) := by
    blk_ext [idx_val t, tcol, vcol, gcol]
  rw [e]; rfl

variable (c : Dev nD) {x0 : S2048x11264.Idx → ℝ} {x1 : S2048x5632.Idx → ℝ} {x2 : S3x11264.Idx → ℝ} {x3 : S11264.Idx → ℝ}
  (h0 : A0 m c = fun i => (x0 i : EReal)) (h1 : A1 m c = fun i => (x1 i : EReal)) (h2 : A2 m c = fun i => (x2 i : EReal))
  (h3 : A3 m c = fun i => (x3 i : EReal))

include h0 h1 h2 h3 in
theorem final_7 : (dats m 0 c).arrAt 7 (cfgs 0).N = val_main_v73 (F := Ideal) (A0 m c) (A1 m c) (A2 m c) (A3 m c) := by
  refine (dats m 0 c).arrAt_eq_of_covers 7 _ (by decide +kernel) fun t hf y => ?_
  have ht := N_lt t
  obtain ⟨r, l, rfl⟩ : ∃ (r : Fin 2048) (l : Fin 256), y = ix2 r l := ⟨y 0, y 1, eq_ix2 y⟩
  have e : out0_7 (iblk m c 0 t) (iblk m c 1 t) (iblk m c 2 t) (iblk m c 3 t) (iblk m c 4 t) (iblk m c 5 t) (iblk m c 6 t) (ix2 r l)
      = val_main_v73 (F := Ideal) (A0 m c) (A1 m c) (A2 m c) (A3 m c) (ix2 r (tcol t l)) := by
    rw [blk0, blk1, blk2, blk3, blk4, blk5, blk6, h0, h1, h2, h3, out7, v73]
    rfl
  blk_simp [idx_val t]
  rw [after0_7]
  refine e.trans (congrArg _ ?_)
  blk_ext [idx_val t, tcol]

include h0 h1 h2 h3 in
theorem final_8 : (dats m 0 c).arrAt 8 (cfgs 0).N = val_main_v74 (F := Ideal) (A0 m c) (A1 m c) (A2 m c) (A3 m c) := by
  refine (dats m 0 c).arrAt_eq_of_covers 8 _ (by decide +kernel) fun t hf y => ?_
  have ht := N_lt t
  obtain ⟨r, l, rfl⟩ : ∃ (r : Fin 2048) (l : Fin 256), y = ix2 r l := ⟨y 0, y 1, eq_ix2 y⟩
  have e : out0_8 (iblk m c 0 t) (iblk m c 1 t) (iblk m c 2 t) (iblk m c 3 t) (iblk m c 4 t) (iblk m c 5 t) (iblk m c 6 t) (ix2 r l)
      = val_main_v74 (F := Ideal) (A0 m c) (A1 m c) (A2 m c) (A3 m c) (ix2 r (tcol t l)) := by
    rw [blk0, blk1, blk2, blk3, blk4, blk5, blk6, h0, h1, h2, h3, out8, v74]
    rfl
  blk_simp [idx_val t]
  rw [after0_8]
  refine e.trans (congrArg _ ?_)
  blk_ext [idx_val t, tcol]

include h0 h1 h2 h3 in
theorem final_9 : (dats m 0 c).arrAt 9 (cfgs 0).N = val_main_v75 (F := Ideal) (A0 m c) (A1 m c) (A2 m c) (A3 m c) := by
  refine (dats m 0 c).arrAt_eq_of_covers 9 _ (by decide +kernel) fun t hf y => ?_
  have ht := N_lt t
  obtain ⟨r, l, rfl⟩ : ∃ (r : Fin 3) (l : Fin 256), y = ix2 r l := ⟨y 0, y 1, eq_ix2 y⟩
  have e : out0_9 (iblk m c 0 t) (iblk m c 1 t) (iblk m c 2 t) (iblk m c 3 t) (iblk m c 4 t) (iblk m c 5 t) (iblk m c 6 t) (ix2 r l)
      = val_main_v75 (F := Ideal) (A0 m c) (A1 m c) (A2 m c) (A3 m c) (ix2 r (tcol t l)) := by
    rw [blk0, blk1, blk2, blk3, blk4, blk5, blk6, h0, h1, h2, h3, out9, v75]
    rfl
  blk_simp [idx_val t]
  rw [after0_9]
  refine e.trans (congrArg _ ?_)
  blk_ext [idx_val t, tcol]

include h0 h1 h2 h3 in
theorem final_10 : (dats m 0 c).arrAt 10 (cfgs 0).N = val_main_v76 (F := Ideal) (A0 m c) (A1 m c) (A2 m c) (A3 m c) := by
  refine (dats m 0 c).arrAt_eq_of_covers 10 _ (by decide +kernel) fun t hf y => ?_
  have ht := N_lt t
  obtain ⟨r, l, rfl⟩ : ∃ (r : Fin 3) (l : Fin 256), y = ix2 r l := ⟨y 0, y 1, eq_ix2 y⟩
  have e : out0_10 (iblk m c 0 t) (iblk m c 1 t) (iblk m c 2 t) (iblk m c 3 t) (iblk m c 4 t) (iblk m c 5 t) (iblk m c 6 t) (ix2 r l)
      = val_main_v76 (F := Ideal) (A0 m c) (A1 m c) (A2 m c) (A3 m c) (ix2 r (tcol t l)) := by
    rw [blk0, blk1, blk2, blk3, blk4, blk5, blk6, h0, h1, h2, h3, out10, v76]
    rfl
  blk_simp [idx_val t]
  rw [after0_10]
  refine e.trans (congrArg _ ?_)
  blk_ext [idx_val t, tcol]

include h0 h1 h2 h3 in
theorem final_11 : (dats m 0 c).arrAt 11 (cfgs 0).N = val_main_v78 (F := Ideal) (A0 m c) (A1 m c) (A2 m c) (A3 m c) := by
  refine (dats m 0 c).arrAt_eq_of_covers 11 _ (by decide +kernel) fun t hf y => ?_
  have ht := N_lt t
  obtain ⟨r, l, rfl⟩ : ∃ (r : Fin 1) (l : Fin 256), y = ix2 r l := ⟨y 0, y 1, eq_ix2 y⟩
  have e : out0_11 (iblk m c 0 t) (iblk m c 1 t) (iblk m c 2 t) (iblk m c 3 t) (iblk m c 4 t) (iblk m c 5 t) (iblk m c 6 t) (ix2 r l)
      = val_main_v78 (F := Ideal) (A0 m c) (A1 m c) (A2 m c) (A3 m c) (ix2 r (tcol t l)) := by
    rw [blk0, blk1, blk2, blk3, blk4, blk5, blk6, h0, h1, h2, h3, out11, v78]
    rfl
  blk_simp [idx_val t]
  rw [after0_11]
  refine e.trans (congrArg _ ?_)
  blk_ext [idx_val t, tcol]

include h0 h1 h2 h3 in
theorem final_12 : (dats m 0 c).arrAt 12 (cfgs 0).N = val_main_v79 (F := Ideal) (A0 m c) (A1 m c) (A2 m c) (A3 m c) := by
  refine (dats m 0 c).arrAt_eq_of_covers 12 _ (by decide +kernel) fun t hf y => ?_
  have ht := N_lt t
  obtain ⟨r, l, rfl⟩ : ∃ (r : Fin 1) (l : Fin 256), y = ix2 r l := ⟨y 0, y 1, eq_ix2 y⟩
  have e : out0_12 (iblk m c 0 t) (iblk m c 1 t) (iblk m c 2 t) (iblk m c 3 t) (iblk m c 4 t) (iblk m c 5 t) (iblk m c 6 t) (ix2 r l)
      = val_main_v79 (F := Ideal) (A0 m c) (A1 m c) (A2 m c) (A3 m c) (ix2 r (tcol t l)) := by
    rw [blk0, blk1, blk2, blk3, blk4, blk5, blk6, h0, h1, h2, h3, out12, v79]
    rfl
  blk_simp [idx_val t]
  rw [after0_12]
  refine e.trans (congrArg _ ?_)
  blk_ext [idx_val t, tcol]

section Value

variable [Cert.Pre_finite_conv.Facts]

theorem finite (X : FVec Ideal Cert.Pre_finite_conv.S2048x11264 .f32) (Y : FVec Ideal Cert.Pre_finite_conv.S2048x5632 .f32)
    (W : FVec Ideal Cert.Pre_finite_conv.S3x11264 .f32) (B : FVec Ideal Cert.Pre_finite_conv.S11264 .f32)
    (h : Cert.Pre_finite_conv.fn (F := Ideal) X Y W B = fun _ => 1#1) :
    (∃ x : S2048x11264.Idx → ℝ, X = fun i => (x i : EReal)) ∧ (∃ y : S2048x5632.Idx → ℝ, Y = fun i => (y i : EReal))
      ∧ (∃ w : S3x11264.Idx → ℝ, W = fun i => (w i : EReal)) ∧ ∃ b : S11264.Idx → ℝ, B = fun i => (b i : EReal) := by
  have e := congrFun h ValueIdx.ix0
  dsimp only [Cert.Pre_finite_conv.fn] at e
  obtain ⟨e1, e3⟩ := Base.and_one e
  obtain ⟨e1, e2⟩ := Base.and_one e1
  obtain ⟨e0, e1⟩ := Base.and_one e1
  haveI : Subsingleton Cert.Pre_finite_conv.S_.Idx := ⟨fun a b => funext fun k => k.elim0⟩
  exact ⟨Base.real_fun fun y => Base.real_of_word_f32 (Host.reduce_andi_all _ _ _ _ _ e0 y),
    Base.real_fun fun y => Base.real_of_word_f32 (Host.reduce_andi_all _ _ _ _ _ e1 y),
    Base.real_fun fun y => Base.real_of_word_f32 (Host.reduce_andi_all _ _ _ _ _ e2 y),
    Base.real_fun fun y => Base.real_of_word_f32 (Host.reduce_andi_all _ _ _ _ _ e3 y)⟩

set_option maxHeartbeats 1000000 in
/-- The pair: on finite arguments the kernel's six results are the reference's. -/
theorem value : Cert.algebraic_ConvBwdIdeal_ConvRefIdeal_pre_finite_conv := by
  pair_intro
  · run_from Cert.ConvBwdIdeal.Gen.run_main m g
  · refine (θ_run Cert.ConvRefIdeal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
      (Cert.ConvRefIdeal.Value.run (F := Ideal) m' g')
    all_goals
      obtain ⟨⟨x0, h0⟩, ⟨x1, h1⟩, ⟨x2, h2⟩, x3, h3⟩ := finite _ _ _ _ (hpre c)
      obtain ⟨e0, e1, e2, e3⟩ := hagree c
    · refine (val_main_v73_eq m' c).trans ?_
      rw [e0, e1, e2, e3]
      exact (final_7 m c h0 h1 h2 h3).symm
    · refine (val_main_v74_eq m' c).trans ?_
      rw [e0, e1, e2, e3]
      exact (final_8 m c h0 h1 h2 h3).symm
    · refine (val_main_v75_eq m' c).trans ?_
      rw [e0, e1, e2, e3]
      exact (final_9 m c h0 h1 h2 h3).symm
    · refine (val_main_v76_eq m' c).trans ?_
      rw [e0, e1, e2, e3]
      exact (final_10 m c h0 h1 h2 h3).symm
    · refine (val_main_v78_eq m' c).trans ?_
      rw [e0, e1, e2, e3]
      exact (final_11 m c h0 h1 h2 h3).symm
    · refine (val_main_v79_eq m' c).trans ?_
      rw [e0, e1, e2, e3]
      exact (final_12 m c h0 h1 h2 h3).symm

/-- The reference's run leaves its arguments; it has no semaphore. -/
theorem frame_ref : Cert.quiescent_ConvRefIdeal := fun m ρ _ =>
  (θ_run Cert.ConvRefIdeal.defs _ _).mono
    (fun r h => ⟨fun c => (h c).2.2.2.2.2.2, sem_eq_zero_of_no_sems (by decide) r.2⟩)
    (Cert.ConvRefIdeal.Value.run (F := Ideal) m ρ)

end Value

end Cert.ConvBwdIdeal.Val

end
-- ==== Proof.PoolMath.lean ====
/- Sums over a window of the rows above (or below) in a column, by doubling and by running sums, over the reals. -/
module

public import proofs.«01_k».proof.Proof.Base

@[expose] public section

noncomputable section

namespace Cert.Pool

open Idealize.ShloMosaic Idealize.ShloMosaic.TcCoe

/-- The sum of the `n` rows ending at row `r`, of those that exist. -/
def above (n : ℕ) (x : ℕ → ℝ) (r : ℕ) : ℝ := ∑ j ∈ Finset.range n, if j ≤ r then x (r - j) else 0

/-- The sum of the `n` rows beginning at row `r`. -/
def below (n : ℕ) (x : ℕ → ℝ) (r : ℕ) : ℝ := ∑ j ∈ Finset.range n, x (r + j)

theorem above_one (x : ℕ → ℝ) : above 1 x = x := by funext r; simp [above]

theorem below_one (x : ℕ → ℝ) : below 1 x = x := by funext r; simp [below]

theorem above_add (n m : ℕ) (x : ℕ → ℝ) (r : ℕ) :
    above n x r + (if n ≤ r then above m x (r - n) else 0) = above (n + m) x r := by
  unfold above
  rw [Finset.sum_range_add]
  refine congrArg (_ + ·) ?_
  split
  · next h =>
    refine Finset.sum_congr rfl fun j _ => ?_
    by_cases hj : j ≤ r - n
    · rw [if_pos hj, if_pos (by omega)]; congr 1; omega
    · rw [if_neg hj, if_neg (by omega)]
  · next h =>
    refine (Finset.sum_eq_zero fun j _ => ?_).symm
    rw [if_neg (by omega)]

theorem below_add (n m : ℕ) (x : ℕ → ℝ) (r : ℕ) : below n x r + below m x (r + n) = below (n + m) x r := by
  unfold below
  rw [Finset.sum_range_add]
  refine congrArg (_ + ·) (Finset.sum_congr rfl fun j _ => ?_)
  rw [Nat.add_assoc]

/-- The window of group `g`: 2, 4, 8 or 16 rows. -/
def win (g : ℕ) : ℕ := 2 ^ (g + 1)

/-- One doubling: past `g` steps nothing changes. -/
theorem above_step (g j : ℕ) (x : ℕ → ℝ) (r : ℕ) :
    (if j ≤ g then above (2 ^ min j (g + 1)) x r + (if 2 ^ j ≤ r then above (2 ^ min j (g + 1)) x (r - 2 ^ j) else 0)
      else above (2 ^ min j (g + 1)) x r) = above (2 ^ min (j + 1) (g + 1)) x r := by
  split
  · next h =>
    rw [min_eq_left (by omega : j ≤ g + 1), min_eq_left (by omega : j + 1 ≤ g + 1), above_add, pow_succ, mul_two]
  · next h =>
    rw [min_eq_right (by omega : g + 1 ≤ j), min_eq_right (by omega : g + 1 ≤ j + 1)]

theorem below_step (g j : ℕ) (x : ℕ → ℝ) (r : ℕ) :
    (if j ≤ g then below (2 ^ min j (g + 1)) x r + below (2 ^ min j (g + 1)) x (r + 2 ^ j)
      else below (2 ^ min j (g + 1)) x r) = below (2 ^ min (j + 1) (g + 1)) x r := by
  split
  · next h =>
    rw [min_eq_left (by omega : j ≤ g + 1), min_eq_left (by omega : j + 1 ≤ g + 1), below_add, pow_succ, mul_two]
  · next h =>
    rw [min_eq_right (by omega : g + 1 ≤ j), min_eq_right (by omega : g + 1 ≤ j + 1)]

/-- Past the column's end a window of rows below holds nothing. -/
theorem below_end {n : ℕ} {x : ℕ → ℝ} (hx : ∀ r, 2048 ≤ r → x r = 0) (r : ℕ) (hr : 2048 ≤ r) : below n x r = 0 :=
  Finset.sum_eq_zero fun j _ => hx _ (by omega)

/-- How many rows the window of group `g` holds at row `r`. -/
def cnt (g r : ℕ) : ℕ := min (r + 1) (win g)

theorem cnt_pos (g r : ℕ) : (cnt g r : ℝ) ≠ 0 := by
  have : 0 < win g := Nat.pow_pos (by norm_num)
  have : 0 < cnt g r := lt_min (by omega) this
  exact_mod_cast this.ne'

/-- The pooled row less the row itself. -/
def pooled (g : ℕ) (x : ℕ → ℝ) (r : ℕ) : ℝ := above (win g) x r * (1 / (cnt g r : ℝ)) - x r

/-- The pooling's gradient. -/
def unpool (g : ℕ) (p : ℕ → ℝ) (r : ℕ) : ℝ := below (win g) (fun r => p r * (1 / (cnt g r : ℝ))) r - p r

/-- A column of 2048 rows, zero past its end. -/
def ext (f : Fin 2048 → ℝ) (r : ℕ) : ℝ := if h : r < 2048 then f ⟨r, h⟩ else 0

theorem ext_val (f : Fin 2048 → ℝ) (r : Fin 2048) : ext f r.val = f r := dif_pos r.isLt

theorem ext_end (f : Fin 2048 → ℝ) (r : ℕ) (h : 2048 ≤ r) : ext f r = 0 := dif_neg (by omega)

/-- The rows of a window end at `r` and begin at the row the window's lower end names. -/
def lo (g r : ℕ) : ℕ := r + 1 - win g

theorem above_eq (g : ℕ) (x : ℕ → ℝ) (r : ℕ) :
    above (win g) x r = (∑ i ∈ Finset.range (r + 1), x i) - ∑ i ∈ Finset.range (lo g r), x i := by
  have e : ∑ i ∈ Finset.range (r + 1), x i = (∑ i ∈ Finset.range (lo g r), x i) + ∑ i ∈ Finset.range (cnt g r), x (lo g r + i) := by
    rw [← Finset.sum_range_add]; congr 2; unfold lo cnt; omega
  rw [e, add_sub_cancel_left]
  unfold above
  rw [← Finset.sum_filter]
  have hf : (Finset.range (win g)).filter (fun j => j ≤ r) = Finset.range (cnt g r) := by
    ext j; simp only [Finset.mem_filter, Finset.mem_range, cnt]; omega
  rw [hf, ← Finset.sum_range_reflect]
  refine Finset.sum_congr rfl fun j hj => ?_
  have := Finset.mem_range.1 hj
  congr 1; unfold lo; unfold cnt at *; omega

/-- Summing, from row `r` on, what a row receives and taking away what its window's lower end takes leaves the window below. -/
theorem below_eq (g : ℕ) (m : ℕ → ℝ) (hm : ∀ r, 2048 ≤ r → m r = 0) (r : ℕ) (hr : r < 2048) :
    ∑ n ∈ Finset.range 2048, (if r + n < 2048 then m (r + n) + -∑ s ∈ Finset.range 2048, (if lo g s = r + n + 1 then m s else 0) else 0)
      = below (win g) m r := by
  have h1 : ∑ n ∈ Finset.range 2048, (if r + n < 2048 then m (r + n) else 0) = ∑ i ∈ Finset.range 2048, (if r ≤ i then m i else 0) := by
    rw [← Finset.sum_filter, ← Finset.sum_filter]
    refine Finset.sum_nbij' (fun n => r + n) (fun i => i - r) ?_ ?_ ?_ ?_ ?_ <;> intro i hi <;>
      simp only [Finset.mem_filter, Finset.mem_range] at hi ⊢ <;> omega
  have h2 : ∑ n ∈ Finset.range 2048, (if r + n < 2048 then ∑ s ∈ Finset.range 2048, (if lo g s = r + n + 1 then m s else 0) else 0)
      = ∑ s ∈ Finset.range 2048, (if r + win g ≤ s then m s else 0) := by
    have e : ∀ n ∈ Finset.range 2048, (if r + n < 2048 then ∑ s ∈ Finset.range 2048, (if lo g s = r + n + 1 then m s else 0) else 0)
        = ∑ s ∈ Finset.range 2048, (if r + n < 2048 ∧ lo g s = r + n + 1 then m s else 0) := fun n _ => by
      by_cases h : r + n < 2048
      · rw [if_pos h]; exact Finset.sum_congr rfl fun s _ => by simp only [h, true_and]
      · rw [if_neg h]; exact (Finset.sum_eq_zero fun s _ => if_neg fun hh => h hh.1).symm
    rw [Finset.sum_congr rfl e, Finset.sum_comm]
    refine Finset.sum_congr rfl fun s hs => ?_
    have hs := Finset.mem_range.1 hs
    by_cases h : r + win g ≤ s
    · have hl : lo g s = r + (s - r - win g) + 1 := by unfold lo; omega
      rw [if_pos h, Finset.sum_eq_single (s - r - win g)]
      · rw [if_pos ⟨by omega, hl⟩]
      · intro b _ hb; exact if_neg fun hh => hb (by have := hh.2; omega)
      · intro hb; exact absurd (Finset.mem_range.2 (by omega)) hb
    · rw [if_neg h]
      exact Finset.sum_eq_zero fun n _ => if_neg fun hh => h (by have := hh.2; unfold lo at this; omega)
  have e : ∀ n ∈ Finset.range 2048, (if r + n < 2048 then m (r + n) + -∑ s ∈ Finset.range 2048, (if lo g s = r + n + 1 then m s else 0) else 0)
      = (if r + n < 2048 then m (r + n) else 0) - (if r + n < 2048 then ∑ s ∈ Finset.range 2048, (if lo g s = r + n + 1 then m s else 0) else 0) := fun n _ => by
    split <;> ring
  rw [Finset.sum_congr rfl e, Finset.sum_sub_distrib, h1, h2, ← Finset.sum_sub_distrib]
  have e' : ∀ s ∈ Finset.range 2048, ((if r ≤ s then m s else 0) - (if r + win g ≤ s then m s else 0)) = if r ≤ s ∧ s < r + win g then m s else 0 := fun s _ => by
    by_cases a : r ≤ s <;> by_cases b : r + win g ≤ s
    · rw [if_pos a, if_pos b, if_neg (by omega), sub_self]
    · rw [if_pos a, if_neg b, if_pos (by omega), sub_zero]
    · omega
    · rw [if_neg a, if_neg b, if_neg (by omega), sub_zero]
  rw [Finset.sum_congr rfl e', ← Finset.sum_filter]
  unfold below
  symm
  refine Finset.sum_bij_ne_zero (fun j _ _ => r + j) ?_ ?_ ?_ ?_
  · intro j hj hne
    have : r + j < 2048 := by by_contra hc; exact hne (hm _ (by omega))
    have := Finset.mem_range.1 hj
    simp only [Finset.mem_filter, Finset.mem_range]; omega
  · intro a _ _ b _ _ h; omega
  · intro s hs _
    simp only [Finset.mem_filter, Finset.mem_range] at hs
    refine ⟨s - r, Finset.mem_range.2 (by omega), ?_, by omega⟩
    rw [show r + (s - r) = s by omega]; assumption
  · intro j _ _; rfl

end Cert.Pool
end
-- ==== Proof.PoolCells.lean ====
module

public import proofs.«01_k».proof.Defs
public import proofs.«01_k».proof.Proof.PoolMath
public import Idealize.ShloMosaic.Lib.WordCmp
public import proofs.«01_k».proof.Proof.Gen.PoolBwdIdeal.Value
public import proofs.«01_k».proof.Proof.Gen.PoolRefIdeal.Run
public import proofs.«01_k».proof.Proof.Gen.PoolRefIdeal.Read
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.PoolBwdIdeal.Val

open Cert.PoolBwdIdeal Cert.PoolBwdIdeal.Gen
open Cert.PoolRefIdeal.Read

section Steps

/-- One doubling downwards, where the group's number reaches `c`: the rows `k` above are added. -/
def stepDn (g c k : BitVec 32) (v : FVec Ideal S2048x512 .f32) : FVec Ideal S2048x512 .f32 :=
  Scalar.select (Scalar.cmpi .sge g c)
    (addf v (select (cmpi .sge (iota .tc S2048x512 32 [0] iota_S2048x512_d0_w32) (broadcast S2048x512 k)) (dynamicRotate 0 k none v rotates_S2048x512_d0)
      (broadcast S2048x512 (Scalar.ofBits .f32 0x00000000#32)))) v

/-- One doubling upwards: the rows `2048 - k` below are added. -/
def stepUp (g c k : BitVec 32) (v : FVec Ideal S2048x512 .f32) : FVec Ideal S2048x512 .f32 :=
  Scalar.select (Scalar.cmpi .sge g c)
    (addf v (select (cmpi .slt (iota .tc S2048x512 32 [0] iota_S2048x512_d0_w32) (broadcast S2048x512 k)) (dynamicRotate 0 k none v rotates_S2048x512_d0)
      (broadcast S2048x512 (Scalar.ofBits .f32 0x00000000#32)))) v

theorem sel_dn {g j k r : ℕ} (hg : g < 4) (hj : j < 4) (hk : k < 2048) (hr : r < 2048) (a b : EReal) :
    Scalar.select (Scalar.cmpi .sge (BitVec.ofNat 32 g) (BitVec.ofNat 32 j))
      (a + Scalar.select (IntOp.cmpi .sge (BitVec.ofNat 32 r) (BitVec.ofNat 32 k)) b 0) a = if j ≤ g then a + (if k ≤ r then b else 0) else a := by
  have e1 := WordCmp.cmpi_sge_ofNat_eq_one_iff (w := 32) (a := g) (b := j) (by omega) (by omega)
  have e2 := WordCmp.cmpi_sge_ofNat_eq_one_iff (w := 32) (a := r) (b := k) (by omega) (by omega)
  have h2 : Scalar.select (IntOp.cmpi .sge (BitVec.ofNat 32 r) (BitVec.ofNat 32 k)) b (0 : EReal) = if k ≤ r then b else 0 := by
    by_cases h : k ≤ r
    · rw [if_pos h]; exact if_pos (e2.2 h)
    · rw [if_neg h]; exact if_neg fun hc => h (e2.1 hc)
  rw [h2]
  by_cases h : j ≤ g
  · rw [if_pos h]; exact if_pos (e1.2 h)
  · rw [if_neg h]; exact if_neg fun hc => h (e1.1 hc)

theorem sel_up {g j k r : ℕ} (hg : g < 4) (hj : j < 4) (hk : k < 2048) (hr : r < 2048) (a b : EReal) :
    Scalar.select (Scalar.cmpi .sge (BitVec.ofNat 32 g) (BitVec.ofNat 32 j))
      (a + Scalar.select (IntOp.cmpi .slt (BitVec.ofNat 32 r) (BitVec.ofNat 32 k)) b 0) a = if j ≤ g then a + (if r < k then b else 0) else a := by
  have e1 := WordCmp.cmpi_sge_ofNat_eq_one_iff (w := 32) (a := g) (b := j) (by omega) (by omega)
  have e2 := WordCmp.cmpi_slt_ofNat_eq_one_iff (w := 32) (a := r) (b := k) (by omega) (by omega)
  have h2 : Scalar.select (IntOp.cmpi .slt (BitVec.ofNat 32 r) (BitVec.ofNat 32 k)) b (0 : EReal) = if r < k then b else 0 := by
    by_cases h : r < k
    · rw [if_pos h]; exact if_pos (e2.2 h)
    · rw [if_neg h]; exact if_neg fun hc => h (e2.1 hc)
  rw [h2]
  by_cases h : j ≤ g
  · rw [if_pos h]; exact if_pos (e1.2 h)
  · rw [if_neg h]; exact if_neg fun hc => h (e1.1 hc)

/-- A tensor whose columns are the window sums `above` after `j` doublings. -/
def Above (g j : ℕ) (X : Fin 512 → ℕ → ℝ) (v : FVec Ideal S2048x512 .f32) : Prop :=
  ∀ (r : Fin 2048) (l : Fin 512), v (ix2 r l) = ((Pool.above (2 ^ min j (g + 1)) (X l) r.val : ℝ) : EReal)

/-- A tensor whose columns are the window sums `below` after `j` doublings. -/
def Below (g j : ℕ) (X : Fin 512 → ℕ → ℝ) (v : FVec Ideal S2048x512 .f32) : Prop :=
  ∀ (r : Fin 2048) (l : Fin 512), v (ix2 r l) = ((Pool.below (2 ^ min j (g + 1)) (X l) r.val : ℝ) : EReal)

theorem above_of_sel {g j : ℕ} {X : Fin 512 → ℕ → ℝ} {v : FVec Ideal S2048x512 .f32} (hv : Above g j X v) (hj : j < 4) (r : Fin 2048) (l : Fin 512)
    (b : Fin 2048) (hb : 2 ^ j ≤ r.val → b.val = r.val - 2 ^ j) :
    (if j ≤ g then v (ix2 r l) + (if 2 ^ j ≤ r.val then v (ix2 b l) else 0) else v (ix2 r l))
      = ((Pool.above (2 ^ min (j + 1) (g + 1)) (X l) r.val : ℝ) : EReal) := by
  rw [← Pool.above_step, hv]
  by_cases h : j ≤ g
  · rw [if_pos h, if_pos h]
    by_cases h' : 2 ^ j ≤ r.val
    · rw [if_pos h', if_pos h', hv, hb h', ← EReal.coe_add]
    · rw [if_neg h', if_neg h', ← EReal.coe_zero, ← EReal.coe_add]
  · rw [if_neg h, if_neg h]

theorem below_of_sel {g j : ℕ} {X : Fin 512 → ℕ → ℝ} {v : FVec Ideal S2048x512 .f32} (hX : ∀ l r, 2048 ≤ r → X l r = 0)
    (hv : Below g j X v) (hj : j < 4) (r : Fin 2048) (l : Fin 512) (b : Fin 2048) (hb : r.val < 2048 - 2 ^ j → b.val = r.val + 2 ^ j) :
    (if j ≤ g then v (ix2 r l) + (if r.val < 2048 - 2 ^ j then v (ix2 b l) else 0) else v (ix2 r l))
      = ((Pool.below (2 ^ min (j + 1) (g + 1)) (X l) r.val : ℝ) : EReal) := by
  rw [← Pool.below_step, hv]
  by_cases h : j ≤ g
  · rw [if_pos h, if_pos h]
    by_cases h' : r.val < 2048 - 2 ^ j
    · rw [if_pos h', hv, hb h', ← EReal.coe_add]
    · rw [if_neg h', Pool.below_end (hX l) (r.val + 2 ^ j) (by omega), ← EReal.coe_zero, ← EReal.coe_add]
  · rw [if_neg h, if_neg h]

theorem dn0 {g : ℕ} (hg : g < 4) {X : Fin 512 → ℕ → ℝ} {v : FVec Ideal S2048x512 .f32} (hv : Above g 0 X v) :
    Above g 1 X (stepDn (BitVec.ofNat 32 g) 0#32 1#32 v) := by
  intro y0 y1
  have h0 := y0.isLt
  pointwise [stepDn]
  refine (sel_dn (j := 0) (k := 1) hg (by omega) (by omega) h0 _ _).trans ?_
  exact above_of_sel hv (by omega) y0 y1 _ (by intro h; show (y0.val + 2048 - 1) % 2048 = _; omega)

theorem up0 {g : ℕ} (hg : g < 4) {X : Fin 512 → ℕ → ℝ} (hX : ∀ l r, 2048 ≤ r → X l r = 0) {v : FVec Ideal S2048x512 .f32} (hv : Below g 0 X v) :
    Below g 1 X (stepUp (BitVec.ofNat 32 g) 0#32 2047#32 v) := by
  intro y0 y1
  have h0 := y0.isLt
  pointwise [stepUp]
  refine (sel_up (j := 0) (k := 2047) hg (by omega) (by omega) h0 _ _).trans ?_
  exact below_of_sel hX hv (by omega) y0 y1 _ (by intro h; show (y0.val + 2048 - 2047) % 2048 = _; omega)

theorem dn1 {g : ℕ} (hg : g < 4) {X : Fin 512 → ℕ → ℝ} {v : FVec Ideal S2048x512 .f32} (hv : Above g 1 X v) :
    Above g 2 X (stepDn (BitVec.ofNat 32 g) 1#32 2#32 v) := by
  intro y0 y1
  have h0 := y0.isLt
  pointwise [stepDn]
  refine (sel_dn (j := 1) (k := 2) hg (by omega) (by omega) h0 _ _).trans ?_
  exact above_of_sel hv (by omega) y0 y1 _ (by intro h; show (y0.val + 2048 - 2) % 2048 = _; omega)

theorem up1 {g : ℕ} (hg : g < 4) {X : Fin 512 → ℕ → ℝ} (hX : ∀ l r, 2048 ≤ r → X l r = 0) {v : FVec Ideal S2048x512 .f32} (hv : Below g 1 X v) :
    Below g 2 X (stepUp (BitVec.ofNat 32 g) 1#32 2046#32 v) := by
  intro y0 y1
  have h0 := y0.isLt
  pointwise [stepUp]
  refine (sel_up (j := 1) (k := 2046) hg (by omega) (by omega) h0 _ _).trans ?_
  exact below_of_sel hX hv (by omega) y0 y1 _ (by intro h; show (y0.val + 2048 - 2046) % 2048 = _; omega)

theorem dn2 {g : ℕ} (hg : g < 4) {X : Fin 512 → ℕ → ℝ} {v : FVec Ideal S2048x512 .f32} (hv : Above g 2 X v) :
    Above g 3 X (stepDn (BitVec.ofNat 32 g) 2#32 4#32 v) := by
  intro y0 y1
  have h0 := y0.isLt
  pointwise [stepDn]
  refine (sel_dn (j := 2) (k := 4) hg (by omega) (by omega) h0 _ _).trans ?_
  exact above_of_sel hv (by omega) y0 y1 _ (by intro h; show (y0.val + 2048 - 4) % 2048 = _; omega)

theorem up2 {g : ℕ} (hg : g < 4) {X : Fin 512 → ℕ → ℝ} (hX : ∀ l r, 2048 ≤ r → X l r = 0) {v : FVec Ideal S2048x512 .f32} (hv : Below g 2 X v) :
    Below g 3 X (stepUp (BitVec.ofNat 32 g) 2#32 2044#32 v) := by
  intro y0 y1
  have h0 := y0.isLt
  pointwise [stepUp]
  refine (sel_up (j := 2) (k := 2044) hg (by omega) (by omega) h0 _ _).trans ?_
  exact below_of_sel hX hv (by omega) y0 y1 _ (by intro h; show (y0.val + 2048 - 2044) % 2048 = _; omega)

theorem dn3 {g : ℕ} (hg : g < 4) {X : Fin 512 → ℕ → ℝ} {v : FVec Ideal S2048x512 .f32} (hv : Above g 3 X v) :
    Above g 4 X (stepDn (BitVec.ofNat 32 g) 3#32 8#32 v) := by
  intro y0 y1
  have h0 := y0.isLt
  pointwise [stepDn]
  refine (sel_dn (j := 3) (k := 8) hg (by omega) (by omega) h0 _ _).trans ?_
  exact above_of_sel hv (by omega) y0 y1 _ (by intro h; show (y0.val + 2048 - 8) % 2048 = _; omega)

theorem up3 {g : ℕ} (hg : g < 4) {X : Fin 512 → ℕ → ℝ} (hX : ∀ l r, 2048 ≤ r → X l r = 0) {v : FVec Ideal S2048x512 .f32} (hv : Below g 3 X v) :
    Below g 4 X (stepUp (BitVec.ofNat 32 g) 3#32 2040#32 v) := by
  intro y0 y1
  have h0 := y0.isLt
  pointwise [stepUp]
  refine (sel_up (j := 3) (k := 2040) hg (by omega) (by omega) h0 _ _).trans ?_
  exact below_of_sel hX hv (by omega) y0 y1 _ (by intro h; show (y0.val + 2048 - 2040) % 2048 = _; omega)

theorem toInt_small {n : ℕ} (h : n ≤ 2048) : (BitVec.ofNat 32 n).toInt = n := by
  rw [BitVec.toInt_ofNat', Int.bmod_eq_of_le] <;> omega

theorem count_word {g r : ℕ} (hg : g < 4) (hr : r < 2048) :
    FloatOps.sitofp (F := Ideal) .f32 (IntOp.minsi (IntOp.addi (BitVec.ofNat 32 r) 1#32) (Scalar.shli (2#32) (BitVec.ofNat 32 g)))
      = ((Pool.cnt g r : ℝ) : EReal) := by
  have e : IntOp.minsi (IntOp.addi (BitVec.ofNat 32 r) 1#32) (Scalar.shli (2#32) (BitVec.ofNat 32 g)) = BitVec.ofNat 32 (Pool.cnt g r) := by
    have ha : IntOp.addi (BitVec.ofNat 32 r) 1#32 = BitVec.ofNat 32 (r + 1) := (BitVec.ofNat_add r 1).symm
    have hs : Scalar.shli (2#32) (BitVec.ofNat 32 g) = BitVec.ofNat 32 (Pool.win g) := by
      interval_cases g <;> rfl
    have hw : Pool.win g ≤ 16 := by
      interval_cases g <;> decide
    rw [ha, hs]
    have hl := BitVec.slt_iff_toInt_lt (x := BitVec.ofNat 32 (r + 1)) (y := BitVec.ofNat 32 (Pool.win g))
    rw [toInt_small (by omega), toInt_small (by omega)] at hl
    unfold IntOp.minsi Pool.cnt
    by_cases h : r + 1 < Pool.win g
    · rw [if_pos (hl.2 (by exact_mod_cast h)), min_eq_left h.le]
    · rw [if_neg fun hc => h (by exact_mod_cast hl.1 hc), min_eq_right (by omega)]
  rw [e]
  have hc : Pool.cnt g r ≤ 2048 := (min_le_left _ _).trans (by omega)
  show (((BitVec.ofNat 32 (Pool.cnt g r)).toInt : ℝ) : EReal) = _
  rw [toInt_small hc]; norm_cast

theorem count (i : grid0.Coords) (y0 : Fin 2048) (y1 : Fin 512) : k0_pay2 (F := Ideal) i (ix2 y0 y1) = ((Pool.cnt (i 0).val y0.val : ℝ) : EReal) := by
  have h := count_word (i 0).isLt y0.isLt
  pointwise [k0_pay2]
  exact h

theorem p3 (i : grid0.Coords) (v0 : Vec Ideal S2048x512 .f32) : k0_pay3 (F := Ideal) i v0 =
   stepDn (BitVec.ofNat 32 (i 0).val) 2#32 4#32 (stepDn (BitVec.ofNat 32 (i 0).val) 1#32 2#32 (stepDn (BitVec.ofNat 32 (i 0).val) 0#32 1#32 v0)) := rfl
theorem p1 (g : BitVec 32) (v72 v73 : FVec Ideal S2048x512 .f32) : k0_pay1 (F := Ideal) g v72 v73 0#32 =
   subf (stepUp g 3#32 2040#32 (stepUp g 2#32 2044#32 (stepUp g 1#32 2046#32 (stepUp g 0#32 2047#32 v73)))) v72 := rfl
theorem p6 (i : grid0.Coords) (v0 : Vec Ideal S2048x512 .f32) : k0_pay6 v0 (k0_pay2 i) (k0_pay3 i v0) (Scalar.cmpi .sge (BitVec.ofNat 32 (i 0).val) 3#32) k0_pay4 (k0_pay5 i v0)
    = truncf .bf16 (subf (divf (stepDn (BitVec.ofNat 32 (i 0).val) 3#32 8#32 (k0_pay3 i v0)) (k0_pay2 i)) v0) bitsLt_bf16_f32 := rfl
end Steps

section Outs

variable (v0 : FVec Ideal S2048x512 .f32) (v7 v34 : FVec Ideal S2048x512 .f32) (v35 : BitVec 1) (v38 : IVec S2048x512 1) (v39 : FVec Ideal S2048x512 .f32)
  (a1 : S2048x512.Idx → ℝ) (a2 : S1x512x512.Idx → ℝ) (a4 : S1x512.Idx → ℝ) (b : FVec Ideal S1x512 .f32) (p : Fin 2048 → Fin 512 → ℝ)
  (hp : ∀ r k, k0_pay6 v0 v7 v34 v35 v38 v39 (ix2 r k) = ((p r k : ℝ) : EReal))

include hp in
theorem t8 (y1 : Fin 512) : k0_pay8 (F := Ideal) v0 v7 v34 v35 v38 v39 (fun i => (a2 i : EReal)) b (fun i => (a1 i : EReal)) (ix2 0 y1)
    = ∑ r : Fin 2048, ((a1 (ix2 r y1) : ℝ) : EReal) * (((∑ k : Fin 512, p r k * a2 (ix3 0 k y1) : ℝ) : EReal) + b (ix2 0 y1)) := by
  pointwise [k0_pay8, k0_pay7]
  simp only [hp, ← EReal.coe_mul, ← Base.coe_sum]

theorem t10 (y1 : Fin 512) : k0_pay10 (F := Ideal) (fun i => (a1 i : EReal)) (fun i => (a4 i : EReal)) (ix2 0 y1)
    = ((∑ r : Fin 2048, a1 (ix2 r y1) * a4 (ix2 0 y1) : ℝ) : EReal) := by
  pointwise [k0_pay10, k0_pay9]
  simp only [← EReal.coe_mul, ← Base.coe_sum]

include hp in
theorem t12 (y1 y2 : Fin 512) : k0_pay12 (F := Ideal) v0 v7 v34 v35 v38 v39 (fun i => (a1 i : EReal)) (fun i => (a4 i : EReal)) (ix3 0 y1 y2)
    = ((∑ r : Fin 2048, p r y1 * (a1 (ix2 r y2) * a4 (ix2 0 y2)) : ℝ) : EReal) := by
  pointwise [k0_pay12, k0_pay11, k0_pay9]
  simp only [hp, ← EReal.coe_mul, ← Base.coe_sum]

theorem t13 (y0 : Fin 2048) (y1 : Fin 512) : k0_pay13 (F := Ideal) (fun i => (a2 i : EReal)) (fun i => (a1 i : EReal)) (fun i => (a4 i : EReal)) (ix2 y0 y1)
    = ((∑ c : Fin 512, a1 (ix2 y0 c) * a4 (ix2 0 c) * a2 (ix3 0 y1 c) : ℝ) : EReal) := by
  pointwise [k0_pay13, k0_pay11, k0_pay9, k0_pay7]
  simp only [← EReal.coe_mul, ← Base.coe_sum]

/-- The pooled rows of a block. -/
theorem pooled_cell (i : grid0.Coords) (a0 : S2048x512.Idx → ℝ) (r : Fin 2048) (l : Fin 512) :
    k0_pay6 (F := Ideal) (fun j => (a0 j : EReal)) (k0_pay2 i) (k0_pay3 i fun j => (a0 j : EReal)) (Scalar.cmpi .sge (BitVec.ofNat 32 (i 0).val) 3#32) k0_pay4
      (k0_pay5 i fun j => (a0 j : EReal)) (ix2 r l) = ((Pool.pooled (i 0).val (Pool.ext fun r => a0 (ix2 r l)) r.val : ℝ) : EReal) := by
  have hg : (i 0).val < 4 := (i 0).isLt
  have h0 : Above (i 0).val 0 (fun l => Pool.ext fun r => a0 (ix2 r l)) fun j => ((a0 j : ℝ) : EReal) := fun r l => by
    rw [Nat.zero_min, pow_zero, Pool.above_one]; exact congrArg (fun z : ℝ => (z : EReal)) (Pool.ext_val (fun r => a0 (ix2 r l)) r).symm
  have h3 := dn3 hg (dn2 hg (dn1 hg (dn0 hg h0))) r l
  rw [p6, p3]
  show Ideal.div (stepDn _ _ _ _ (ix2 r l)) (k0_pay2 (F := Ideal) i (ix2 r l)) - ((a0 (ix2 r l) : ℝ) : EReal) = _
  rw [h3, count, Ideal.div_coe (Pool.cnt_pos _ _), ← EReal.coe_mul, ← EReal.coe_sub, ← Pool.ext_val (fun r => a0 (ix2 r l)) r]
  rw [min_eq_right (by omega : (i 0).val + 1 ≤ 3 + 1)]
  rfl

/-- The gradient of a block. -/
theorem unpool_cell (i : grid0.Coords) (r : Fin 2048) (l : Fin 512) :
    k0_pay1 (F := Ideal) (BitVec.ofNat 32 (i 0).val) (k0_pay13 (fun i => (a2 i : EReal)) (fun i => (a1 i : EReal)) (fun i => (a4 i : EReal)))
      (k0_pay14 (k0_pay2 i) (fun i => (a2 i : EReal)) (fun i => (a1 i : EReal)) (fun i => (a4 i : EReal))) 0#32 (ix2 r l)
      = ((Pool.unpool (i 0).val (Pool.ext fun r => ∑ c : Fin 512, a1 (ix2 r c) * a4 (ix2 0 c) * a2 (ix3 0 l c)) r.val : ℝ) : EReal) := by
  have hg : (i 0).val < 4 := (i 0).isLt
  set q : Fin 512 → ℕ → ℝ := fun l => Pool.ext fun r => ∑ c : Fin 512, a1 (ix2 r c) * a4 (ix2 0 c) * a2 (ix3 0 l c) with hq
  have h13 : ∀ (r : Fin 2048) (l : Fin 512), k0_pay13 (F := Ideal) (fun i => (a2 i : EReal)) (fun i => (a1 i : EReal)) (fun i => (a4 i : EReal)) (ix2 r l)
      = ((q l r.val : ℝ) : EReal) := fun r l => by
    rw [t13, hq]; exact congrArg (fun z : ℝ => (z : EReal)) (Pool.ext_val (fun r => ∑ c : Fin 512, a1 (ix2 r c) * a4 (ix2 0 c) * a2 (ix3 0 l c)) r).symm
  have hX : ∀ (l : Fin 512) (r : ℕ), 2048 ≤ r → q l r * (1 / (Pool.cnt (i 0).val r : ℝ)) = 0 := fun l r h => by
    rw [hq]; simp only [Pool.ext_end _ r h, zero_mul]
  have h0 : Below (i 0).val 0 (fun l r => q l r * (1 / (Pool.cnt (i 0).val r : ℝ)))
      (k0_pay14 (F := Ideal) (k0_pay2 i) (fun i => (a2 i : EReal)) (fun i => (a1 i : EReal)) (fun i => (a4 i : EReal))) := fun r l => by
    rw [Nat.zero_min, pow_zero, Pool.below_one]
    show Ideal.div (k0_pay13 (F := Ideal) _ _ _ (ix2 r l)) (k0_pay2 (F := Ideal) i (ix2 r l)) = _
    rw [h13, count, Ideal.div_coe (Pool.cnt_pos _ _), ← EReal.coe_mul]
  have h3 := up3 hg hX (up2 hg hX (up1 hg hX (up0 hg hX h0))) r l
  rw [p1]
  show stepUp _ _ _ _ (ix2 r l) - k0_pay13 (F := Ideal) _ _ _ (ix2 r l) = _
  rw [h3, h13, ← EReal.coe_sub, min_eq_right (by omega : (i 0).val + 1 ≤ 3 + 1)]
  rfl

end Outs
end Cert.PoolBwdIdeal.Val
-- ==== Proof.PoolScan.lean ====
/- Reading a running sum along the first axis, a gather of rows and an accumulating scatter of rows, at real arrays. -/
module

public import proofs.«01_k».proof.Proof.Base
public import proofs.«01_k».proof.Proof.Gen.PoolRefIdeal.Read

@[expose] public section

noncomputable section

namespace Cert.Pool

open Idealize.ShloMosaic Idealize.ShloMosaic.TcCoe

/-- A left fold that adds one term for each position is the sum of the terms. -/
theorem foldl_add {n : ℕ} (f : Fin n → EReal) : (List.finRange n).foldl (fun r i => r + f i) 0 = ∑ i, f i := by
  rw [Fin.sum_univ_def, List.sum_eq_foldl, List.foldl_map]

theorem numel_col (n : ℕ) : (⟨3, ![n, 1, 1]⟩ : Shape).numel = n := by
  simp [Shape.numel, Fin.prod_univ_succ]

theorem symm_col {n : ℕ} (i : Fin (⟨3, ![n, 1, 1]⟩ : Shape).numel) :
    (⟨3, ![n, 1, 1]⟩ : Shape).rowMajor.symm i = ix3 (i.cast (numel_col n)) (0 : Fin 1) (0 : Fin 1) :=
  ((⟨3, ![n, 1, 1]⟩ : Shape).rowMajor.symm_apply_eq).2 (Fin.ext (by
    rw [Shape.rowMajor_val_three]
    show i.val = (i.val * 1 + 0) * 1 + 0
    omega))

/-- A sum over a window of whole length along the first axis, the operand padded with `l` zeros before it: entry `r` sums
    the operand's rows `r + n - l` that exist. -/
theorem window_sum {N A C : ℕ} (l : ℕ) (hi : Fin 3 → ℕ) (h : (⟨3, ![N, A, C]⟩ : Shape).ReduceWindows ![N, 1, 1] ![1, 1, 1] ![l, 0, 0] hi ⟨3, ![N, A, C]⟩)
    (X : ℕ → Fin A → Fin C → ℝ) (r : Fin N) (a : Fin A) (c : Fin C) :
    Ideal.hostReduceWindowAdd ![N, 1, 1] ![1, 1, 1] ![l, 0, 0] hi h (fun i : (⟨3, ![N, A, C]⟩ : Shape).Idx => ((X (i 0).val (i 1) (i 2) : ℝ) : EReal)) 0 (ix3 r a c)
      = ((∑ n : Fin N, (if l ≤ r.val + n.val ∧ r.val + n.val - l < N then X (r.val + n.val - l) a c else 0) : ℝ) : EReal) := by
  unfold Ideal.hostReduceWindowAdd Host.reduceWindow
  refine (foldl_add _).trans ?_
  rw [Base.coe_sum]
  refine Fintype.sum_equiv (finCongr (numel_col N)) _ _ fun n => ?_
  have e0 : ((⟨3, ![N, 1, 1]⟩ : Shape).rowMajor.symm n 0).val = n.val := by rw [symm_col]; rfl
  have e1 : ((⟨3, ![N, 1, 1]⟩ : Shape).rowMajor.symm n 1).val = 0 := by rw [symm_col]; rfl
  have e2 : ((⟨3, ![N, 1, 1]⟩ : Shape).rowMajor.symm n 2).val = 0 := by rw [symm_col]; rfl
  by_cases hc : l ≤ r.val + n.val ∧ r.val + n.val - l < N
  · have hp : ∀ q : Fin 3, (![l, 0, 0] : Fin 3 → ℕ) q ≤ (ix3 r a c q).val * (![1, 1, 1] : Fin 3 → ℕ) q + ((⟨3, ![N, 1, 1]⟩ : Shape).rowMajor.symm n q).val
        ∧ (ix3 r a c q).val * (![1, 1, 1] : Fin 3 → ℕ) q + ((⟨3, ![N, 1, 1]⟩ : Shape).rowMajor.symm n q).val - (![l, 0, 0] : Fin 3 → ℕ) q < (![N, A, C] : Fin 3 → ℕ) q := by
      intro q
      match q with
      | ⟨0, _⟩ =>
        show l ≤ r.val * 1 + ((⟨3, ![N, 1, 1]⟩ : Shape).rowMajor.symm n 0).val ∧ r.val * 1 + ((⟨3, ![N, 1, 1]⟩ : Shape).rowMajor.symm n 0).val - l < N
        rw [e0]; omega
      | ⟨1, _⟩ =>
        show 0 ≤ a.val * 1 + ((⟨3, ![N, 1, 1]⟩ : Shape).rowMajor.symm n 1).val ∧ a.val * 1 + ((⟨3, ![N, 1, 1]⟩ : Shape).rowMajor.symm n 1).val - 0 < A
        rw [e1]; have := a.isLt; omega
      | ⟨2, _⟩ =>
        show 0 ≤ c.val * 1 + ((⟨3, ![N, 1, 1]⟩ : Shape).rowMajor.symm n 2).val ∧ c.val * 1 + ((⟨3, ![N, 1, 1]⟩ : Shape).rowMajor.symm n 2).val - 0 < C
        rw [e2]; have := c.isLt; omega
    refine (dif_pos hp).trans ?_
    have g0 : r.val * 1 + ((⟨3, ![N, 1, 1]⟩ : Shape).rowMajor.symm n 0).val - l = r.val + n.val - l := by rw [e0]; omega
    have g1 : (⟨a.val * 1 + ((⟨3, ![N, 1, 1]⟩ : Shape).rowMajor.symm n 1).val - 0, (hp 1).2⟩ : Fin A) = a := Fin.ext (by show a.val * 1 + _ - 0 = a.val; rw [e1]; omega)
    have g2 : (⟨c.val * 1 + ((⟨3, ![N, 1, 1]⟩ : Shape).rowMajor.symm n 2).val - 0, (hp 2).2⟩ : Fin C) = c := Fin.ext (by show c.val * 1 + _ - 0 = c.val; rw [e2]; omega)
    show ((X (r.val * 1 + ((⟨3, ![N, 1, 1]⟩ : Shape).rowMajor.symm n 0).val - l) (⟨a.val * 1 + ((⟨3, ![N, 1, 1]⟩ : Shape).rowMajor.symm n 1).val - 0, (hp 1).2⟩ : Fin A)
      (⟨c.val * 1 + ((⟨3, ![N, 1, 1]⟩ : Shape).rowMajor.symm n 2).val - 0, (hp 2).2⟩ : Fin C) : ℝ) : EReal) = ((if l ≤ r.val + n.val ∧ r.val + n.val - l < N then X (r.val + n.val - l) a c else 0 : ℝ) : EReal)
    rw [g0, g1, g2, if_pos hc]
  · refine (dif_neg fun hp => hc ?_).trans ?_
    · have h0 := hp 0
      change l ≤ r.val * 1 + ((⟨3, ![N, 1, 1]⟩ : Shape).rowMajor.symm n 0).val ∧ r.val * 1 + ((⟨3, ![N, 1, 1]⟩ : Shape).rowMajor.symm n 0).val - l < N at h0
      rw [e0] at h0; omega
    · show (0 : EReal) = ((if l ≤ r.val + n.val ∧ r.val + n.val - l < N then X (r.val + n.val - l) a c else 0 : ℝ) : EReal)
      rw [if_neg hc]; rfl

section Rows
open Cert.PoolRefIdeal

variable (idx : IVec S2048x4x2 32) (lo : Fin 2048 → Fin 4 → ℕ) (hlo : ∀ s a, lo s a ≤ 2048)
  (h0 : ∀ s a, idx (ix3 s a 0) = BitVec.ofNat 32 (lo s a)) (h1 : ∀ s a, idx (ix3 s a 1) = BitVec.ofNat 32 a.val)

theorem toInt_ofNat {n : ℕ} (h : n ≤ 2048) : (BitVec.ofNat 32 n).toInt = n := by
  rw [BitVec.toInt_ofNat', Int.bmod_eq_of_le] <;> omega

include hlo h0 h1 in
/-- A gather of rows reads the row its index names. -/
theorem gather_rows {α : Type} (x : S2049x4x512.Idx → α) (s : Fin 2048) (a : Fin 4) (c : Fin 512) :
    Host.gather gather_S2049x4x512_S2048x4x2_S2048x4x512_2_01_n_n_01_2_11512 x idx (ix3 s a c)
      = x (ix3 ⟨lo s a, Nat.lt_succ_of_le (hlo s a)⟩ a c) := by
  unfold Host.gather
  refine congrArg x (funext fun q => Fin.ext ?_)
  have i0 : GatherDims.siIdx gather_S2049x4x512_S2048x4x2_S2048x4x512_2_01_n_n_01_2_11512 (ix3 s a c) ⟨0, by decide⟩ = ix3 s a 0 := by
    funext b; match b with | ⟨0, _⟩ => rfl | ⟨1, _⟩ => rfl | ⟨2, _⟩ => rfl
  have i1 : GatherDims.siIdx gather_S2049x4x512_S2048x4x2_S2048x4x512_2_01_n_n_01_2_11512 (ix3 s a c) ⟨1, by decide⟩ = ix3 s a 1 := by
    funext b; match b with | ⟨0, _⟩ => rfl | ⟨1, _⟩ => rfl | ⟨2, _⟩ => rfl
  match q with
  | ⟨0, _⟩ =>
    show min (idx (GatherDims.siIdx _ (ix3 s a c) ⟨0, by decide⟩)).toInt.toNat (2049 - 1) + 0 + 0 = lo s a
    rw [i0, h0, toInt_ofNat (hlo s a)]; have := hlo s a; omega
  | ⟨1, _⟩ =>
    show min (idx (GatherDims.siIdx _ (ix3 s a c) ⟨1, by decide⟩)).toInt.toNat (4 - 1) + 0 + 0 = a.val
    rw [i1, h1, toInt_ofNat (by omega)]; omega
  | ⟨2, _⟩ => show 0 + 0 + c.val = c.val; omega

include hlo h0 h1 in
/-- An update of the scatter lands on the row its index names. -/
theorem lands (s : Fin 2048) (a : Fin 4) (c : Fin 512) :
    ScatterDims.resultIdx? scatter_S2049x4x512_S2048x4x2_S2048x4x512_2_01_01_2 (ix3 s a c) idx
      = some (ix3 ⟨lo s a, Nat.lt_succ_of_le (hlo s a)⟩ a c) := by
  have i0 : ScatterDims.siIdx scatter_S2049x4x512_S2048x4x2_S2048x4x512_2_01_01_2 (ix3 s a c) ⟨0, by decide⟩ = ix3 s a 0 := by
    funext b; match b with | ⟨0, _⟩ => rfl | ⟨1, _⟩ => rfl | ⟨2, _⟩ => rfl
  have i1 : ScatterDims.siIdx scatter_S2049x4x512_S2048x4x2_S2048x4x512_2_01_01_2 (ix3 s a c) ⟨1, by decide⟩ = ix3 s a 1 := by
    funext b; match b with | ⟨0, _⟩ => rfl | ⟨1, _⟩ => rfl | ⟨2, _⟩ => rfl
  have e0 : ScatterDims.start scatter_S2049x4x512_S2048x4x2_S2048x4x512_2_01_01_2 (ix3 s a c) idx 0 = (lo s a : ℤ) := by
    show (idx (ScatterDims.siIdx _ (ix3 s a c) ⟨0, by decide⟩)).toInt = _
    rw [i0, h0, toInt_ofNat (hlo s a)]
  have e1 : ScatterDims.start scatter_S2049x4x512_S2048x4x2_S2048x4x512_2_01_01_2 (ix3 s a c) idx 1 = (a.val : ℤ) := by
    show (idx (ScatterDims.siIdx _ (ix3 s a c) ⟨1, by decide⟩)).toInt = _
    rw [i1, h1, toInt_ofNat (by omega)]
  have e2 : ScatterDims.start scatter_S2049x4x512_S2048x4x2_S2048x4x512_2_01_01_2 (ix3 s a c) idx 2 = 0 := rfl
  have w0 : ScatterDims.window scatter_S2049x4x512_S2048x4x2_S2048x4x512_2_01_01_2 (ix3 s a c) 0 = 0 := rfl
  have w1 : ScatterDims.window scatter_S2049x4x512_S2048x4x2_S2048x4x512_2_01_01_2 (ix3 s a c) 1 = 0 := rfl
  have w2 : ScatterDims.window scatter_S2049x4x512_S2048x4x2_S2048x4x512_2_01_01_2 (ix3 s a c) 2 = c.val := rfl
  have hb := hlo s a
  unfold ScatterDims.resultIdx?
  rw [dif_pos (by
    intro q
    match q with
    | ⟨0, _⟩ => show 0 ≤ ScatterDims.start scatter_S2049x4x512_S2048x4x2_S2048x4x512_2_01_01_2 (ix3 s a c) idx 0 + (ScatterDims.window scatter_S2049x4x512_S2048x4x2_S2048x4x512_2_01_01_2 (ix3 s a c) 0 : ℤ) ∧ ScatterDims.start scatter_S2049x4x512_S2048x4x2_S2048x4x512_2_01_01_2 (ix3 s a c) idx 0 + (ScatterDims.window scatter_S2049x4x512_S2048x4x2_S2048x4x512_2_01_01_2 (ix3 s a c) 0 : ℤ) < (2049 : ℕ); rw [e0, w0]; omega
    | ⟨1, _⟩ => show 0 ≤ ScatterDims.start scatter_S2049x4x512_S2048x4x2_S2048x4x512_2_01_01_2 (ix3 s a c) idx 1 + (ScatterDims.window scatter_S2049x4x512_S2048x4x2_S2048x4x512_2_01_01_2 (ix3 s a c) 1 : ℤ) ∧ ScatterDims.start scatter_S2049x4x512_S2048x4x2_S2048x4x512_2_01_01_2 (ix3 s a c) idx 1 + (ScatterDims.window scatter_S2049x4x512_S2048x4x2_S2048x4x512_2_01_01_2 (ix3 s a c) 1 : ℤ) < (4 : ℕ); rw [e1, w1]; omega
    | ⟨2, _⟩ => show 0 ≤ ScatterDims.start scatter_S2049x4x512_S2048x4x2_S2048x4x512_2_01_01_2 (ix3 s a c) idx 2 + (ScatterDims.window scatter_S2049x4x512_S2048x4x2_S2048x4x512_2_01_01_2 (ix3 s a c) 2 : ℤ) ∧ ScatterDims.start scatter_S2049x4x512_S2048x4x2_S2048x4x512_2_01_01_2 (ix3 s a c) idx 2 + (ScatterDims.window scatter_S2049x4x512_S2048x4x2_S2048x4x512_2_01_01_2 (ix3 s a c) 2 : ℤ) < (512 : ℕ); rw [e2, w2]; omega)]
  refine congrArg some (funext fun q => Fin.ext ?_)
  match q with
  | ⟨0, _⟩ => show (ScatterDims.start scatter_S2049x4x512_S2048x4x2_S2048x4x512_2_01_01_2 (ix3 s a c) idx 0 + (ScatterDims.window scatter_S2049x4x512_S2048x4x2_S2048x4x512_2_01_01_2 (ix3 s a c) 0 : ℤ)).toNat = _; rw [e0, w0]; simp
  | ⟨1, _⟩ => show (ScatterDims.start scatter_S2049x4x512_S2048x4x2_S2048x4x512_2_01_01_2 (ix3 s a c) idx 1 + (ScatterDims.window scatter_S2049x4x512_S2048x4x2_S2048x4x512_2_01_01_2 (ix3 s a c) 1 : ℤ)).toNat = _; rw [e1, w1]; simp
  | ⟨2, _⟩ => show (ScatterDims.start scatter_S2049x4x512_S2048x4x2_S2048x4x512_2_01_01_2 (ix3 s a c) idx 2 + (ScatterDims.window scatter_S2049x4x512_S2048x4x2_S2048x4x512_2_01_01_2 (ix3 s a c) 2 : ℤ)).toNat = _; rw [e2, w2]; simp

include hlo h0 h1 in
/-- A scatter of rows adds, to each row, the updates whose index names it. -/
theorem scatter_rows (x : S2049x4x512.Idx → EReal) (u : Fin 2048 → Fin 4 → Fin 512 → ℝ) (t : Fin 2049) (a : Fin 4) (c : Fin 512)
    (hx : x (ix3 t a c) = 0) :
    Ideal.hostScatterAdd scatter_S2049x4x512_S2048x4x2_S2048x4x512_2_01_01_2 x idx (fun i => ((u (i 0) (i 1) (i 2) : ℝ) : EReal)) (ix3 t a c)
      = ((∑ s, (if lo s a = t.val then u s a c else 0) : ℝ) : EReal) := by
  unfold Ideal.hostScatterAdd
  rw [hx, zero_add, Base.coe_sum]
  have hr : ∀ s : Fin 2048, ((if lo s a = t.val then u s a c else 0 : ℝ) : EReal) = if lo s a = t.val then ((u s a c : ℝ) : EReal) else 0 := fun s => by
    split <;> rfl
  rw [Finset.sum_congr rfl fun s _ => hr s, ← Finset.sum_filter]
  have key : ∀ i : S2048x4x512.Idx, ScatterDims.resultIdx? scatter_S2049x4x512_S2048x4x2_S2048x4x512_2_01_01_2 i idx = some (ix3 t a c)
      → lo (i 0) a = t.val ∧ i 1 = a ∧ i 2 = c := by
    intro i hi
    obtain ⟨s, a', c', rfl⟩ : ∃ s a' c', i = ix3 s a' c' := ⟨_, _, _, eq_ix3 i⟩
    rw [lands idx lo hlo h0 h1] at hi
    have hi := Option.some.inj hi
    have e0 : lo s a' = t.val := congrArg Fin.val (congrFun hi 0)
    have e1 : a' = a := congrFun hi 1
    have e2 : c' = c := congrFun hi 2
    subst e1
    exact ⟨e0, rfl, e2⟩
  refine Finset.sum_nbij' (fun i => i 0) (fun s => ix3 s a c) ?_ ?_ ?_ ?_ ?_
  · intro i hi
    exact Finset.mem_filter.2 ⟨Finset.mem_univ _, (key i (Finset.mem_filter.1 hi).2).1⟩
  · intro s hs
    refine Finset.mem_filter.2 ⟨Finset.mem_univ _, ?_⟩
    rw [lands idx lo hlo h0 h1]
    refine congrArg some (congrArg (fun r => ix3 r a c) (Fin.ext (Finset.mem_filter.1 hs).2))
  · intro i hi
    obtain ⟨_, e1, e2⟩ := key i (Finset.mem_filter.1 hi).2
    rw [← e1, ← e2]
    exact (eq_ix3 i).symm
  · intro s hs
    rfl
  · intro i hi
    obtain ⟨_, e1, e2⟩ := key i (Finset.mem_filter.1 hi).2
    show ((u (i 0) (i 1) (i 2) : ℝ) : EReal) = ((u (i 0) a c : ℝ) : EReal)
    rw [e1, e2]

end Rows
end Cert.Pool
end
-- ==== Proof.PoolRef.lean ====
module

public import proofs.«01_k».proof.Defs
public import proofs.«01_k».proof.Proof.PoolCells
public import proofs.«01_k».proof.Proof.PoolScan
public import proofs.«01_k».proof.Proof.Gen.PoolBwdIdeal.Value
public import proofs.«01_k».proof.Proof.Gen.PoolRefIdeal.Run
public import proofs.«01_k».proof.Proof.Gen.PoolRefIdeal.Read
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.PoolBwdIdeal.Val

open Cert.PoolBwdIdeal Cert.PoolBwdIdeal.Gen
open Cert.PoolRefIdeal.Read

section Reference
variable (x0 x1 : Cert.PoolRefIdeal.S2048x2048.Idx → ℝ) (x2 : Cert.PoolRefIdeal.S4x512x512.Idx → ℝ) (x3 : FVec Ideal Cert.PoolRefIdeal.S2048 .f32)
  (x4 : Cert.PoolRefIdeal.S2048.Idx → ℝ)

/-- Column `c` of group `a`. -/
def gcol (a : Fin 4) (c : Fin 512) : Fin 2048 := ⟨a.val * 512 + c.val, by omega⟩

theorem lo_word {g r : ℕ} (hg : g < 4) (hr : r < 2048) :
    IntOp.maxsi (IntOp.subi (IntOp.addi (BitVec.ofNat 32 r) 1#32) (IntOp.shli ArithUnit.host (2#32) (BitVec.ofNat 32 g))) 0#32
      = BitVec.ofNat 32 (Pool.lo g r) := by
  have ha : IntOp.addi (BitVec.ofNat 32 r) 1#32 = BitVec.ofNat 32 (r + 1) := (BitVec.ofNat_add r 1).symm
  have hs : IntOp.shli ArithUnit.host (2#32) (BitVec.ofNat 32 g) = BitVec.ofNat 32 (Pool.win g) := by
    interval_cases g <;> rfl
  have hw : Pool.win g ≤ 16 := by
    interval_cases g <;> decide
  rw [ha, hs]
  unfold IntOp.maxsi Pool.lo
  have e : (IntOp.subi (BitVec.ofNat 32 (r + 1)) (BitVec.ofNat 32 (Pool.win g))).toInt = (r + 1 : ℤ) - Pool.win g := by
    show (BitVec.ofNat 32 (r + 1) - BitVec.ofNat 32 (Pool.win g)).toInt = _
    rw [BitVec.toInt_sub, toInt_small (by omega), toInt_small (by omega), Int.bmod_eq_of_le] <;> push_cast <;> omega
  have hl := BitVec.slt_iff_toInt_lt (x := 0#32) (y := IntOp.subi (BitVec.ofNat 32 (r + 1)) (BitVec.ofNat 32 (Pool.win g)))
  rw [e] at hl
  by_cases h : Pool.win g < r + 1
  · rw [if_pos (hl.2 (show (0 : ℤ) < (r + 1 : ℤ) - Pool.win g by omega))]
    refine BitVec.eq_of_toInt_eq ?_
    rw [e, toInt_small (by omega)]; omega
  · rw [if_neg fun hc => h (by have := hl.1 hc; change (0 : ℤ) < (r + 1 : ℤ) - Pool.win g at this; omega), Nat.sub_eq_zero_of_le (by omega)]

theorem lo_le (g r : ℕ) (hr : r < 2048) : Pool.lo g r ≤ 2048 := by unfold Pool.lo; omega

theorem sel_nonneg {n : ℕ} (h : n ≤ 2048) (x : BitVec 32) :
    Scalar.select (IntOp.cmpi .slt (BitVec.ofNat 32 n) 0#32) x (BitVec.ofNat 32 n) = BitVec.ofNat 32 n := by
  have e := WordCmp.cmpi_slt_ofNat_eq_one_iff (w := 32) (a := n) (b := 0) (by omega) (by omega)
  exact if_neg fun hc => absurd (e.1 hc) (by omega)

theorem v30 (s : Fin 2048) (a : Fin 4) : val_main_v30 (F := Ideal) (ix2 s a) = BitVec.ofNat 32 (Pool.lo a.val s.val) := by
  have h1 := lo_word a.isLt s.isLt
  have h2 := sel_nonneg (lo_le a.val s.val s.isLt) (IntOp.addi (BitVec.ofNat 32 (Pool.lo a.val s.val)) 2049#32)
  pointwise [val_main_v30, val_main_v27, val_main_v18, val_main_v16, val_main_v14, val_main_v13, val_main_v7, val_main_v6,
    val_main_v12, val_main_c_1, val_main_v15, val_main_v11, val_main_v10, val_main_v9, val_main_c, val_main_v8,
    val_main_v17, val_main_c_2, val_main_v26, val_main_c_4, val_main_v29, val_main_v28, val_main_c_5]
  rw [h1]
  exact h2

theorem v35 (a : Fin 4) : val_main_v35 (F := Ideal) (ix2 0 a) = BitVec.ofNat 32 a.val := by
  have h2 := sel_nonneg (show a.val ≤ 2048 by omega) (IntOp.addi (BitVec.ofNat 32 a.val) 4#32)
  pointwise [val_main_v35, val_main_v32, val_main_v25, val_main_v24, val_main_v31, val_main_c_6, val_main_v34, val_main_v33,
    val_main_c_7]
  exact h2

theorem v39 (s : Fin 2048) (a : Fin 4) : val_main_v39 (F := Ideal) (ix3 s a 0) = BitVec.ofNat 32 (Pool.lo a.val s.val) := by
  pointwise [val_main_v39, val_main_v37, val_main_v38, val_main_v36]
  exact v30 s a

theorem v39' (s : Fin 2048) (a : Fin 4) : val_main_v39 (F := Ideal) (ix3 s a 1) = BitVec.ofNat 32 a.val := by
  pointwise [val_main_v39, val_main_v37, val_main_v38, val_main_v36]
  exact v35 a

theorem cnt_word {g r : ℕ} (hg : g < 4) (hr : r < 2048) :
    FloatOps.sitofp (F := Ideal) .f32 (IntOp.subi (IntOp.addi (BitVec.ofNat 32 r) 1#32) (BitVec.ofNat 32 (Pool.lo g r))) = ((Pool.cnt g r : ℝ) : EReal) := by
  have ha : IntOp.addi (BitVec.ofNat 32 r) 1#32 = BitVec.ofNat 32 (r + 1) := (BitVec.ofNat_add r 1).symm
  have e : (IntOp.subi (BitVec.ofNat 32 (r + 1)) (BitVec.ofNat 32 (Pool.lo g r))).toInt = Pool.cnt g r := by
    show (BitVec.ofNat 32 (r + 1) - BitVec.ofNat 32 (Pool.lo g r)).toInt = _
    have := lo_le g r hr
    rw [BitVec.toInt_sub, toInt_small (by omega), toInt_small (by omega)]
    unfold Pool.lo Pool.cnt
    rw [Int.bmod_eq_of_le] <;> push_cast <;> omega
  rw [ha]
  show ((((IntOp.subi (BitVec.ofNat 32 (r + 1)) (BitVec.ofNat 32 (Pool.lo g r))).toInt : ℤ) : ℝ) : EReal) = _
  rw [e]; norm_cast

theorem v23 (s : Fin 2048) (a : Fin 4) : val_main_v23 (F := Ideal) (ix2 s a) = ((Pool.cnt a.val s.val : ℝ) : EReal) := by
  have h1 := lo_word a.isLt s.isLt
  have h2 := cnt_word a.isLt s.isLt
  pointwise [val_main_v23, val_main_v22, val_main_v21, val_main_v20, val_main_v7, val_main_v6, val_main_v19, val_main_c_3,
    val_main_v18, val_main_v16, val_main_v14, val_main_v13, val_main_v12, val_main_c_1, val_main_v15, val_main_v11,
    val_main_v10, val_main_v9, val_main_c, val_main_v8, val_main_v17, val_main_c_2]
  rw [h1]
  exact h2

/-- A column of the rows. -/
def rx (a : Fin 4) (c : Fin 512) : ℕ → ℝ := Pool.ext fun r => x0 (ix2 r (gcol a c))

/-- A column of the cotangent of the pooled rows. -/
def rq (a : Fin 4) (c : Fin 512) : ℕ → ℝ :=
  Pool.ext fun r => ∑ x : Fin 512, x1 (ix2 r (gcol a x)) * x4 (ix1 (gcol a x)) * x2 (ix3 a c x)

def rm (a : Fin 4) (c : Fin 512) (r : ℕ) : ℝ := rq x1 x2 x4 a c r * (1 / (Pool.cnt a.val r : ℝ))

theorem rm_end (a : Fin 4) (c : Fin 512) (r : ℕ) (h : 2048 ≤ r) : rm x1 x2 x4 a c r = 0 := by
  rw [rm, rq, Pool.ext_end _ r h, zero_mul]

/-- The rows by groups. -/
theorem v0 (s : Fin 2048) (a : Fin 4) (c : Fin 512) : val_main_v0 (F := Ideal) (fun i => (x0 i : EReal)) (ix3 s a c) = ((rx x0 a c s.val : ℝ) : EReal) := by
  pointwise [val_main_v0]
  exact congrArg (fun z : ℝ => (z : EReal)) (Pool.ext_val (fun r => x0 (ix2 r (gcol a c))) s).symm

/-- The running sum. -/
theorem v1 (s : Fin 2048) (a : Fin 4) (c : Fin 512) :
    val_main_v1 (F := Ideal) (fun i => (x0 i : EReal)) (ix3 s a c) = ((∑ i ∈ Finset.range (s.val + 1), rx x0 a c i : ℝ) : EReal) := by
  have e : val_main_v0 (F := Ideal) (fun i => (x0 i : EReal)) = fun i => ((rx x0 (i 1) (i 2) (i 0).val : ℝ) : EReal) := by
    funext i
    obtain ⟨s, a, c, rfl⟩ : ∃ s a c, i = ix3 s a c := ⟨_, _, _, eq_ix3 i⟩
    exact v0 x0 s a c
  have z : val_main_call0_call0_v0 (F := Ideal) (Shape.Idx.first Cert.PoolRefIdeal.Gen.h_S_) = (0 : EReal) := by
    pointwise [val_main_call0_call0_v0, val_main_call0_call0_cst]
  unfold val_main_v1 Host.reduceWindowAdd
  rw [Ideal.hostReduceWindowAdd_def, z, e]
  refine (Pool.window_sum 2047 _ _ (fun r a c => rx x0 a c r) s a c).trans (congrArg (fun z : ℝ => (z : EReal)) ?_)
  rw [Fin.sum_univ_eq_sum_range (fun n => if 2047 ≤ s.val + n ∧ s.val + n - 2047 < 2048 then rx x0 a c (s.val + n - 2047) else 0) 2048, ← Finset.sum_filter]
  have hs := s.isLt
  refine Finset.sum_nbij' (fun n => s.val + n - 2047) (fun i => i + 2047 - s.val) ?_ ?_ ?_ ?_ ?_ <;> intro i hi <;>
    simp only [Finset.mem_filter, Finset.mem_range] at hi ⊢ <;> omega

/-- The running sum before a row. -/
theorem v4 (t : Fin 2049) (a : Fin 4) (c : Fin 512) :
    val_main_v4 (F := Ideal) (fun i => (x0 i : EReal)) (ix3 t a c) = ((∑ i ∈ Finset.range t.val, rx x0 a c i : ℝ) : EReal) := by
  have h : (if h : t.val < 1 then (0 : EReal) else val_main_v1 (F := Ideal) (fun i => (x0 i : EReal)) (ix3 ⟨t.val - 1, by omega⟩ a c))
      = ((∑ i ∈ Finset.range t.val, rx x0 a c i : ℝ) : EReal) := by
    by_cases h : t.val < 1
    · rw [dif_pos h, Nat.lt_one_iff.1 h, Finset.sum_range_zero]; rfl
    · rw [dif_neg h, v1]
      refine congrArg (fun z : ℝ => (z : EReal)) (congrArg (fun n => ∑ i ∈ Finset.range n, rx x0 a c i) ?_)
      show t.val - 1 + 1 = t.val
      omega
  pointwise [val_main_v4, val_main_v3, val_main_cst]
  exact h

theorem v40 (s : Fin 2048) (a : Fin 4) (c : Fin 512) :
    val_main_v40 (F := Ideal) (fun i => (x0 i : EReal)) (ix3 s a c) = ((∑ i ∈ Finset.range (Pool.lo a.val s.val), rx x0 a c i : ℝ) : EReal) := by
  unfold val_main_v40
  rw [Pool.gather_rows _ (fun s a => Pool.lo a.val s.val) (fun s a => lo_le _ _ s.isLt) v39 v39' _ s a c, v4]

/-- The pooled rows. -/
theorem v46 (s : Fin 2048) (a : Fin 4) (c : Fin 512) :
    val_main_v46 (F := Ideal) (fun i => (x0 i : EReal)) (ix3 s a c) = ((Pool.pooled a.val (rx x0 a c) s.val : ℝ) : EReal) := by
  have h4 := v4 x0 ⟨1 + s.val, by omega⟩ a c
  have h40 := v40 x0 s a c
  have h23 := v23 s a
  have hx : x0 (ix2 s ⟨a.val * 512 + c.val, by omega⟩) = rx x0 a c s.val := (Pool.ext_val (fun r => x0 (ix2 r (gcol a c))) s).symm
  have hd := fun x : EReal => Ideal.div_coe (Pool.cnt_pos a.val s.val) x
  have e : Pool.pooled a.val (rx x0 a c) s.val
      = ((∑ i ∈ Finset.range (1 + s.val), rx x0 a c i) - ∑ i ∈ Finset.range (Pool.lo a.val s.val), rx x0 a c i) * (1 / (Pool.cnt a.val s.val : ℝ)) - rx x0 a c s.val := by
    rw [Pool.pooled, Pool.above_eq, Nat.add_comm 1]
  rw [e]
  pointwise [val_main_v46, val_main_v45, val_main_v42, val_main_v41, val_main_v44, val_main_v43, val_main_v0]
  simp only [h4, h40, h23, hx, hd, ← EReal.coe_sub, ← EReal.coe_mul]

theorem v71 (s : Fin 2048) (a : Fin 4) (c : Fin 512) :
    val_main_v71 (F := Ideal) (fun i => (x1 i : EReal)) (fun i => (x2 i : EReal)) (fun i => (x4 i : EReal)) (ix3 s a c) = ((-rq x1 x2 x4 a c s.val : ℝ) : EReal) := by
  have e : rq x1 x2 x4 a c s.val = ∑ x : Fin 512, x1 (ix2 s (gcol a x)) * x4 (ix1 (gcol a x)) * x2 (ix3 a c x) := Pool.ext_val _ s
  rw [e]
  pointwise [val_main_v71, val_main_v68, val_main_v67, val_main_v66, val_main_v65, val_main_v60, val_main_v59, val_main_v53]
  simp only [← EReal.coe_mul, ← Base.coe_sum, ← EReal.coe_neg]
  rfl

theorem v73 (s : Fin 2048) (a : Fin 4) (c : Fin 512) :
    val_main_v73 (F := Ideal) (fun i => (x1 i : EReal)) (fun i => (x2 i : EReal)) (fun i => (x4 i : EReal)) (ix3 s a c) = ((rm x1 x2 x4 a c s.val : ℝ) : EReal) := by
  have e : rq x1 x2 x4 a c s.val = ∑ x : Fin 512, x1 (ix2 s (gcol a x)) * x4 (ix1 (gcol a x)) * x2 (ix3 a c x) := Pool.ext_val _ s
  have h23 := v23 s a
  have hd := fun x : EReal => Ideal.div_coe (Pool.cnt_pos a.val s.val) x
  rw [rm, e]
  pointwise [val_main_v73, val_main_v68, val_main_v67, val_main_v66, val_main_v65, val_main_v60, val_main_v59, val_main_v53,
    val_main_v72, val_main_v43]
  simp only [h23, hd, ← EReal.coe_mul, ← Base.coe_sum]
  rfl

theorem v77 (t : Fin 2049) (a : Fin 4) (c : Fin 512) :
    val_main_v77 (F := Ideal) (fun i => (x1 i : EReal)) (fun i => (x2 i : EReal)) (fun i => (x4 i : EReal)) (ix3 t a c)
      = ((-∑ s ∈ Finset.range 2048, (if Pool.lo a.val s = t.val then rm x1 x2 x4 a c s else 0) : ℝ) : EReal) := by
  have e : val_main_v74 (F := Ideal) (fun i => (x1 i : EReal)) (fun i => (x2 i : EReal)) (fun i => (x4 i : EReal)) = fun i => (((fun s a c => -rm x1 x2 x4 a c s.val : Fin 2048 → Fin 4 → Fin 512 → ℝ) (i 0) (i 1) (i 2) : ℝ) : EReal) := by
    funext i
    obtain ⟨s, a, c, rfl⟩ : ∃ s a c, i = ix3 s a c := ⟨_, _, _, eq_ix3 i⟩
    show -(val_main_v73 (F := Ideal) (fun i => (x1 i : EReal)) (fun i => (x2 i : EReal)) (fun i => (x4 i : EReal)) (ix3 s a c)) = _
    rw [v73]; rfl
  have z : val_main_v76 (F := Ideal) (ix3 t a c) = (0 : EReal) := by
    pointwise [val_main_v76, val_main_cst_13]
  unfold val_main_v77 Host.scatterAdd
  rw [Ideal.hostScatterAdd_def, e]
  refine (Pool.scatter_rows _ (fun s a => Pool.lo a.val s.val) (fun s a => lo_le _ _ s.isLt) v39 v39' _ (fun s a c => -rm x1 x2 x4 a c s.val) t a c z).trans (congrArg (fun z : ℝ => (z : EReal)) ?_)
  rw [← Fin.sum_univ_eq_sum_range (fun s => if Pool.lo a.val s = t.val then rm x1 x2 x4 a c s else 0) 2048, ← Finset.sum_neg_distrib]
  refine Finset.sum_congr rfl fun s _ => ?_
  split <;> simp

theorem v80 (r : Fin 2048) (a : Fin 4) (c : Fin 512) :
    val_main_v80 (F := Ideal) (fun i => (x1 i : EReal)) (fun i => (x2 i : EReal)) (fun i => (x4 i : EReal)) (ix3 r a c)
      = ((rm x1 x2 x4 a c r.val + -∑ s ∈ Finset.range 2048, (if Pool.lo a.val s = r.val + 1 then rm x1 x2 x4 a c s else 0) : ℝ) : EReal) := by
  have h73 := v73 x1 x2 x4 r a c
  have h77 := v77 x1 x2 x4 ⟨1 + r.val, by omega⟩ a c
  rw [show (⟨1 + r.val, by omega⟩ : Fin 2049).val = r.val + 1 from Nat.add_comm _ _] at h77
  rw [EReal.coe_add, ← h77, ← h73]
  pointwise [val_main_v80, val_main_v78, val_main_v75, val_main_cst_12]

theorem v81 (r : Fin 2048) (a : Fin 4) (c : Fin 512) :
    val_main_v81 (F := Ideal) (fun i => (x1 i : EReal)) (fun i => (x2 i : EReal)) (fun i => (x4 i : EReal)) (ix3 r a c) = ((Pool.below (Pool.win a.val) (rm x1 x2 x4 a c) r.val : ℝ) : EReal) := by
  have e : val_main_v80 (F := Ideal) (fun i => (x1 i : EReal)) (fun i => (x2 i : EReal)) (fun i => (x4 i : EReal)) = fun i => (((fun r a c => rm x1 x2 x4 a c r
      + -∑ s ∈ Finset.range 2048, (if Pool.lo a.val s = r + 1 then rm x1 x2 x4 a c s else 0) : ℕ → Fin 4 → Fin 512 → ℝ) (i 0).val (i 1) (i 2) : ℝ) : EReal) := by
    funext i
    obtain ⟨s, a, c, rfl⟩ : ∃ s a c, i = ix3 s a c := ⟨_, _, _, eq_ix3 i⟩
    exact v80 x1 x2 x4 s a c
  have z : val_main_call1_call0_v0 (F := Ideal) (Shape.Idx.first Cert.PoolRefIdeal.Gen.h_S_) = (0 : EReal) := by
    pointwise [val_main_call1_call0_v0, val_main_call1_call0_cst]
  unfold val_main_v81 Host.reduceWindowAdd
  rw [Ideal.hostReduceWindowAdd_def, z, e]
  refine (Pool.window_sum 0 _ _ (fun r a c => rm x1 x2 x4 a c r
      + -∑ s ∈ Finset.range 2048, (if Pool.lo a.val s = r + 1 then rm x1 x2 x4 a c s else 0)) r a c).trans (congrArg (fun z : ℝ => (z : EReal)) ?_)
  rw [← Pool.below_eq a.val (rm x1 x2 x4 a c) (rm_end x1 x2 x4 a c) r.val r.isLt, Finset.sum_range (n := 2048)]
  refine Finset.sum_congr rfl fun n _ => ?_
  simp only [Nat.zero_le, true_and, Nat.sub_zero]

/-- The rows' gradient. -/
theorem v83 (r : Fin 2048) (a : Fin 4) (c : Fin 512) :
    val_main_v83 (F := Ideal) (fun i => (x1 i : EReal)) (fun i => (x2 i : EReal)) (fun i => (x4 i : EReal)) (ix2 r (gcol a c)) = ((Pool.unpool a.val (rq x1 x2 x4 a c) r.val : ℝ) : EReal) := by
  have h71 := v71 x1 x2 x4 r a c
  have h81 := v81 x1 x2 x4 r a c
  have e : val_main_v83 (F := Ideal) (fun i => (x1 i : EReal)) (fun i => (x2 i : EReal)) (fun i => (x4 i : EReal)) (ix2 r (gcol a c)) = val_main_v71 (F := Ideal) (fun i => (x1 i : EReal)) (fun i => (x2 i : EReal)) (fun i => (x4 i : EReal)) (ix3 r a c) + val_main_v81 (F := Ideal) (fun i => (x1 i : EReal)) (fun i => (x2 i : EReal)) (fun i => (x4 i : EReal)) (ix3 r a c) := by
    have hr := r.isLt
    have ha := a.isLt
    have hc := c.isLt
    rw [val_main_v83_apply]
    have ei : idx_main_v83 (ix2 r (gcol a c)) = ix3 r a c := by
      funext b
      match b with
      | ⟨0, _⟩ => exact Fin.ext (show (r.val * 2048 + (a.val * 512 + c.val)) / 2048 = r.val by omega)
      | ⟨1, _⟩ => exact Fin.ext (show (r.val * 2048 + (a.val * 512 + c.val)) / 512 % 4 = a.val by omega)
      | ⟨2, _⟩ => exact Fin.ext (show (r.val * 2048 + (a.val * 512 + c.val)) % 512 = c.val by omega)
    rw [ei, val_main_v82_apply]; rfl
  rw [e, h71, h81, ← EReal.coe_add]
  refine congrArg (fun z : ℝ => (z : EReal)) ?_
  show -rq x1 x2 x4 a c r.val + Pool.below (Pool.win a.val) (rm x1 x2 x4 a c) r.val = Pool.below (Pool.win a.val) (rm x1 x2 x4 a c) r.val - rq x1 x2 x4 a c r.val
  ring

/-- The weights' gradient. -/
theorem v84 (a : Fin 4) (k c : Fin 512) :
    val_main_v84 (F := Ideal) (fun i => (x0 i : EReal)) (fun i => (x1 i : EReal)) (fun i => (x4 i : EReal)) (ix3 a k c)
      = ((∑ r : Fin 2048, Pool.pooled a.val (rx x0 a k) r.val * (x1 (ix2 r (gcol a c)) * x4 (ix1 (gcol a c))) : ℝ) : EReal) := by
  have h46 := fun r => v46 x0 r a k
  have hc : ∀ r : Fin 2048, Pool.pooled a.val (rx x0 a k) r.val * (x1 (ix2 r (gcol a c)) * x4 (ix1 (gcol a c)))
      = x1 (ix2 r (gcol a c)) * x4 (ix1 (gcol a c)) * Pool.pooled a.val (rx x0 a k) r.val := fun r => mul_comm _ _
  rw [Finset.sum_congr rfl fun r _ => hc r]
  pointwise [val_main_v84, val_main_v70, val_main_v69, val_main_v66, val_main_v65, val_main_v60, val_main_v59, val_main_v53]
  simp only [h46, ← EReal.coe_mul, ← Base.coe_sum]
  rfl

/-- The bias's gradient. -/
theorem v85 (a : Fin 4) (c : Fin 512) :
    val_main_v85 (F := Ideal) (fun i => (x1 i : EReal)) (fun i => (x4 i : EReal)) (ix2 0 (gcol a c))
      = ((∑ r : Fin 2048, x1 (ix2 r (gcol a c)) * x4 (ix1 (gcol a c)) : ℝ) : EReal) := by
  pointwise [val_main_v85, val_main_v64, val_main_v63, val_main_v62, val_main_v60, val_main_v59, val_main_v53,
    val_main_cst_10, val_main_cst_11]
  simp only [← EReal.coe_mul, ← Base.coe_sum, Fin.sum_univ_one]

/-- The scale's gradient. -/
theorem v86 (a : Fin 4) (c : Fin 512) :
    val_main_v86 (F := Ideal) (fun i => (x0 i : EReal)) (fun i => (x1 i : EReal)) (fun i => (x2 i : EReal)) x3 (ix2 0 (gcol a c))
      = ∑ r : Fin 2048, ((x1 (ix2 r (gcol a c)) : ℝ) : EReal)
          * (((∑ k : Fin 512, Pool.pooled a.val (rx x0 a k) r.val * x2 (ix3 a k c) : ℝ) : EReal) + x3 (ix1 (gcol a c))) := by
  have ea : ∀ h : (gcol a c).val / 512 < 4, (⟨(gcol a c).val / 512, h⟩ : Fin 4) = a := fun h =>
    Fin.ext (show (a.val * 512 + c.val) / 512 = a.val by omega)
  have ec : ∀ h : (gcol a c).val % 512 < 512, (⟨(gcol a c).val % 512, h⟩ : Fin 512) = c := fun h =>
    Fin.ext (show (a.val * 512 + c.val) % 512 = c.val by omega)
  have h46 := fun r k => v46 x0 r a k
  have hm : ∀ (r : Fin 2048) (k : Fin 512), Pool.pooled a.val (rx x0 a k) r.val * x2 (ix3 a k c) = x2 (ix3 a k c) * Pool.pooled a.val (rx x0 a k) r.val :=
    fun r k => mul_comm _ _
  simp only [hm]
  pointwise [val_main_v86, val_main_v61, val_main_v58, val_main_v57, val_main_v56, val_main_v52, val_main_v49, val_main_v48,
    val_main_v47, val_main_v51, val_main_v50, val_main_cst_8, val_main_cst_9]
  simp only [ea, ec, h46, ← EReal.coe_mul, ← Base.coe_sum, Fin.sum_univ_one]
  exact Finset.sum_congr rfl fun r _ => mul_comm _ _

end Reference
end Cert.PoolBwdIdeal.Val
-- ==== Proof.Pool.lean ====
module

public import proofs.«01_k».proof.Defs
public import proofs.«01_k».proof.Proof.PoolRef
public import proofs.«01_k».proof.Proof.PoolCells
public import proofs.«01_k».proof.Proof.Gen.PoolBwdIdeal.Value
public import proofs.«01_k».proof.Proof.Gen.PoolRefIdeal.Run
public import proofs.«01_k».proof.Proof.Gen.PoolRefIdeal.Read
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.PoolBwdIdeal.Val

open Cert.PoolBwdIdeal Cert.PoolBwdIdeal.Gen
open Cert.PoolRefIdeal.Read

variable (m : (ℓ : Loc nD τ sig) → Buf (Elt Ideal) ℓ)

abbrev A0 (c : Dev nD) : FVec Ideal S2048x2048 .f32 := m ((c : Thread nD τ).loc main_arg0)
abbrev A1 (c : Dev nD) : FVec Ideal S2048x2048 .f32 := m ((c : Thread nD τ).loc main_arg1)
abbrev A2 (c : Dev nD) : FVec Ideal S4x512x512 .f32 := m ((c : Thread nD τ).loc main_arg2)
abbrev A3 (c : Dev nD) : FVec Ideal S2048 .f32 := m ((c : Thread nD τ).loc main_arg3)
abbrev A4 (c : Dev nD) : FVec Ideal S2048 .f32 := m ((c : Thread nD τ).loc main_arg4)

theorem idx_val : ∀ t : Fin cfg0.N, win0_0.index t = ![0, t.val] ∧ win0_1.index t = ![0, t.val]
    ∧ win0_2.index t = ![t.val, 0, 0] ∧ win0_3.index t = ![0, t.val] ∧ win0_4.index t = ![0, t.val]
    ∧ win0_5.index t = ![0, t.val] ∧ win0_6.index t = ![t.val, 0, 0] ∧ win0_7.index t = ![0, t.val]
    ∧ win0_8.index t = ![0, t.val] := by decide +kernel

theorem N_lt (t : Fin cfg0.N) : t.val < 4 := lt_of_lt_of_eq t.isLt N_0

/-- The group a point works on. -/
def grp (t : Fin cfg0.N) : Fin 4 := ⟨t.val, N_lt t⟩

theorem coord_val : ∀ t : Fin cfg0.N, ((grid0.coords t) 0).val = t.val := by decide +kernel

theorem blk0 (c : Dev nD) (t : Fin cfg0.N) : iblk m c 0 t = fun i : S2048x512.Idx => A0 m c (ix2 (i 0) (gcol (grp t) (i 1))) := by
  funext i; idx_vars i; blk_point [iblk, V, idx_val t, grp, gcol]

theorem blk1 (c : Dev nD) (t : Fin cfg0.N) : iblk m c 1 t = fun i : S2048x512.Idx => A1 m c (ix2 (i 0) (gcol (grp t) (i 1))) := by
  funext i; idx_vars i; blk_point [iblk, V, idx_val t, grp, gcol]

theorem blk2 (c : Dev nD) (t : Fin cfg0.N) : iblk m c 2 t = fun i : S1x512x512.Idx => A2 m c (ix3 (grp t) (i 1) (i 2)) := by
  funext i; idx_vars i; blk_simp [iblk, idx_val t]; entry_read; pointwise
  have e : ((View.whole main_v0).slice (win0_2.rect t)).emb (ix3 i0 i1 i2) = ix3 (grp t) i1 i2 := by
    blk_ext [idx_val t, grp, gcol]
  rw [e]

theorem blk3 (c : Dev nD) (t : Fin cfg0.N) : iblk m c 3 t = fun i : S1x512.Idx => A3 m c (ix1 (gcol (grp t) (i 1))) := by
  funext i; idx_vars i; blk_simp [iblk, idx_val t]; entry_read; pointwise
  have e : ((View.whole main_v1).slice (win0_3.rect t)).emb (ix2 i0 i1) = ix2 (0 : Fin 1) (gcol (grp t) i1) := by
    blk_ext [idx_val t, grp, gcol]
  rw [e]; rfl

theorem blk4 (c : Dev nD) (t : Fin cfg0.N) : iblk m c 4 t = fun i : S1x512.Idx => A4 m c (ix1 (gcol (grp t) (i 1))) := by
  funext i; idx_vars i; blk_simp [iblk, idx_val t]; entry_read; pointwise
  have e : ((View.whole main_v2).slice (win0_4.rect t)).emb (ix2 i0 i1) = ix2 (0 : Fin 1) (gcol (grp t) i1) := by
    blk_ext [idx_val t, grp, gcol]
  rw [e]; rfl

section Outs

variable (i : grid0.Coords) (a0 a1 : S2048x512.Idx → ℝ) (a2 : S1x512x512.Idx → ℝ) (b : FVec Ideal S1x512 .f32) (a4 : S1x512.Idx → ℝ)

theorem out5 (r : Fin 2048) (l : Fin 512) :
    out0_5 (F := Ideal) i (fun j => (a0 j : EReal)) (fun j => (a1 j : EReal)) (fun j => (a2 j : EReal)) b (fun j => (a4 j : EReal)) (ix2 r l)
      = ((Pool.unpool (i 0).val (Pool.ext fun r => ∑ c : Fin 512, a1 (ix2 r c) * a4 (ix2 0 c) * a2 (ix3 0 l c)) r.val : ℝ) : EReal) := by
  have h := unpool_cell a1 a2 a4 i r l
  unfold out0_5
  frame_out
  exact h

theorem out6 (y1 y2 : Fin 512) :
    out0_6 (F := Ideal) i (fun j => (a0 j : EReal)) (fun j => (a1 j : EReal)) (fun j => (a2 j : EReal)) b (fun j => (a4 j : EReal)) (ix3 0 y1 y2)
      = ((∑ r : Fin 2048, Pool.pooled (i 0).val (Pool.ext fun r => a0 (ix2 r y1)) r.val * (a1 (ix2 r y2) * a4 (ix2 0 y2)) : ℝ) : EReal) := by
  have h := fun r l => pooled_cell i a0 r l
  unfold_out out0_6
  frame_out
  refine t12 _ _ _ _ _ _ a1 a4 (fun r l => Pool.pooled (i 0).val (Pool.ext fun r => a0 (ix2 r l)) r.val) (fun r l => ?_) y1 y2
  exact h r l

theorem out7 (y1 : Fin 512) :
    out0_7 (F := Ideal) i (fun j => (a0 j : EReal)) (fun j => (a1 j : EReal)) (fun j => (a2 j : EReal)) b (fun j => (a4 j : EReal)) (ix2 0 y1)
      = ((∑ r : Fin 2048, a1 (ix2 r y1) * a4 (ix2 0 y1) : ℝ) : EReal) := by
  have h := t10 a1 a4 y1
  unfold out0_7
  frame_out
  exact h

theorem out8 (y1 : Fin 512) :
    out0_8 (F := Ideal) i (fun j => (a0 j : EReal)) (fun j => (a1 j : EReal)) (fun j => (a2 j : EReal)) b (fun j => (a4 j : EReal)) (ix2 0 y1)
      = ∑ r : Fin 2048, ((a1 (ix2 r y1) : ℝ) : EReal)
          * (((∑ k : Fin 512, Pool.pooled (i 0).val (Pool.ext fun r => a0 (ix2 r k)) r.val * a2 (ix3 0 k y1) : ℝ) : EReal) + b (ix2 0 y1)) := by
  have h := fun r l => pooled_cell i a0 r l
  unfold_out out0_8
  frame_out
  refine t8 _ _ _ _ _ _ a1 a2 b _ (fun r l => ?_) y1
  exact h r l

end Outs

variable (c : Dev nD) {x0 x1 : S2048x2048.Idx → ℝ} {x2 : S4x512x512.Idx → ℝ} {x4 : S2048.Idx → ℝ}
  (h0 : A0 m c = fun i => (x0 i : EReal)) (h1 : A1 m c = fun i => (x1 i : EReal)) (h2 : A2 m c = fun i => (x2 i : EReal))
  (h4 : A4 m c = fun i => (x4 i : EReal))

include h0 h1 h2 h4 in
theorem final_5 : (dats m 0 c).arrAt 5 (cfgs 0).N = val_main_v83 (F := Ideal) (A1 m c) (A2 m c) (A4 m c) := by
  refine (dats m 0 c).arrAt_eq_of_covers 5 _ (by decide +kernel) fun t hf y => ?_
  have ht := N_lt t
  obtain ⟨r, l, rfl⟩ : ∃ (r : Fin 2048) (l : Fin 512), y = ix2 r l := ⟨y 0, y 1, eq_ix2 y⟩
  have e : out0_5 (grid0.coords t) (iblk m c 0 t) (iblk m c 1 t) (iblk m c 2 t) (iblk m c 3 t) (iblk m c 4 t) (ix2 r l)
      = val_main_v83 (F := Ideal) (A1 m c) (A2 m c) (A4 m c) (ix2 r (gcol (grp t) l)) := by
    rw [blk0, blk1, blk2, blk3, blk4, h0, h1, h2, h4, out5, v83, coord_val t]
    rfl
  blk_simp [idx_val t]
  rw [after0_5]
  refine e.trans (congrArg _ ?_)
  blk_ext [idx_val t, grp, gcol]

include h0 h1 h2 h4 in
theorem final_6 : (dats m 0 c).arrAt 6 (cfgs 0).N = val_main_v84 (F := Ideal) (A0 m c) (A1 m c) (A4 m c) := by
  refine (dats m 0 c).arrAt_eq_of_covers 6 _ (by decide +kernel) fun t hf y => ?_
  have ht := N_lt t
  obtain ⟨r, k, l, rfl⟩ : ∃ (r : Fin 1) (k l : Fin 512), y = ix3 r k l := ⟨y 0, y 1, y 2, eq_ix3 y⟩
  have e : out0_6 (grid0.coords t) (iblk m c 0 t) (iblk m c 1 t) (iblk m c 2 t) (iblk m c 3 t) (iblk m c 4 t) (ix3 r k l)
      = val_main_v84 (F := Ideal) (A0 m c) (A1 m c) (A4 m c) (ix3 (grp t) k l) := by
    obtain rfl : r = 0 := Subsingleton.elim _ _
    rw [blk0, blk1, blk2, blk3, blk4, h0, h1, h2, h4, out6, v84, coord_val t]
    rfl
  blk_simp [idx_val t]
  rw [after0_6]
  refine e.trans (congrArg _ ?_)
  blk_ext [idx_val t, grp, gcol]

include h0 h1 h2 h4 in
theorem final_7 : (dats m 0 c).arrAt 7 (cfgs 0).N = val_main_v85 (F := Ideal) (A1 m c) (A4 m c) := by
  refine (dats m 0 c).arrAt_eq_of_covers 7 _ (by decide +kernel) fun t hf y => ?_
  have ht := N_lt t
  obtain ⟨r, l, rfl⟩ : ∃ (r : Fin 1) (l : Fin 512), y = ix2 r l := ⟨y 0, y 1, eq_ix2 y⟩
  have e : out0_7 (grid0.coords t) (iblk m c 0 t) (iblk m c 1 t) (iblk m c 2 t) (iblk m c 3 t) (iblk m c 4 t) (ix2 r l)
      = val_main_v85 (F := Ideal) (A1 m c) (A4 m c) (ix2 r (gcol (grp t) l)) := by
    obtain rfl : r = 0 := Subsingleton.elim _ _
    rw [blk0, blk1, blk2, blk3, blk4, h0, h1, h2, h4, out7, v85]
    rfl
  blk_simp [idx_val t]
  rw [after0_7]
  refine e.trans (congrArg _ ?_)
  blk_ext [idx_val t, grp, gcol]

include h0 h1 h2 h4 in
theorem final_8 : (dats m 0 c).arrAt 8 (cfgs 0).N = val_main_v86 (F := Ideal) (A0 m c) (A1 m c) (A2 m c) (A3 m c) := by
  refine (dats m 0 c).arrAt_eq_of_covers 8 _ (by decide +kernel) fun t hf y => ?_
  have ht := N_lt t
  obtain ⟨r, l, rfl⟩ : ∃ (r : Fin 1) (l : Fin 512), y = ix2 r l := ⟨y 0, y 1, eq_ix2 y⟩
  have e : out0_8 (grid0.coords t) (iblk m c 0 t) (iblk m c 1 t) (iblk m c 2 t) (iblk m c 3 t) (iblk m c 4 t) (ix2 r l)
      = val_main_v86 (F := Ideal) (A0 m c) (A1 m c) (A2 m c) (A3 m c) (ix2 r (gcol (grp t) l)) := by
    obtain rfl : r = 0 := Subsingleton.elim _ _
    rw [blk0, blk1, blk2, blk3, blk4, h0, h1, h2, h4, out8, v86, coord_val t]
    rfl
  blk_simp [idx_val t]
  rw [after0_8]
  refine e.trans (congrArg _ ?_)
  blk_ext [idx_val t, grp, gcol]

section Value

variable [Cert.Pre_finite_pool.Facts]

theorem finite (X Y : FVec Ideal Cert.Pre_finite_pool.S2048x2048 .f32)
    (W : FVec Ideal Cert.Pre_finite_pool.S4x512x512 .f32) (B C : FVec Ideal Cert.Pre_finite_pool.S2048 .f32)
    (h : Cert.Pre_finite_pool.fn (F := Ideal) X Y W B C = fun _ => 1#1) :
    (∃ x : S2048x2048.Idx → ℝ, X = fun i => (x i : EReal)) ∧ (∃ y : S2048x2048.Idx → ℝ, Y = fun i => (y i : EReal))
      ∧ (∃ w : S4x512x512.Idx → ℝ, W = fun i => (w i : EReal)) ∧ ∃ b : S2048.Idx → ℝ, C = fun i => (b i : EReal) := by
  have e := congrFun h ValueIdx.ix0
  dsimp only [Cert.Pre_finite_pool.fn] at e
  obtain ⟨e1, e3⟩ := Base.and_one e
  obtain ⟨e1, e2⟩ := Base.and_one e1
  obtain ⟨e0, e1⟩ := Base.and_one e1
  haveI : Subsingleton Cert.Pre_finite_pool.S_.Idx := ⟨fun a b => funext fun k => k.elim0⟩
  exact ⟨Base.real_fun fun y => Base.real_of_word_f32 (Host.reduce_andi_all _ _ _ _ _ e0 y),
    Base.real_fun fun y => Base.real_of_word_f32 (Host.reduce_andi_all _ _ _ _ _ e1 y),
    Base.real_fun fun y => Base.real_of_word_f32 (Host.reduce_andi_all _ _ _ _ _ e2 y),
    Base.real_fun fun y => Base.real_of_word_f32 (Host.reduce_andi_all _ _ _ _ _ e3 y)⟩

set_option maxHeartbeats 1000000 in
/-- The pair: on finite arguments the kernel's four results are the reference's. -/
theorem value : Cert.algebraic_PoolBwdIdeal_PoolRefIdeal_pre_finite_pool := by
  pair_intro
  · run_from Cert.PoolBwdIdeal.Gen.run_main m g
  · refine (θ_run Cert.PoolRefIdeal.defs _ _).mono (fun _ h c => ⟨(h c).1.trans ?_, (h c).2.1.trans ?_, (h c).2.2.1.trans ?_,
      (h c).2.2.2.1.trans ?_, (h c).2.2.2.2⟩)
      (Cert.PoolRefIdeal.Value.run (F := Ideal) m' g')
    all_goals
      obtain ⟨⟨x0, h0⟩, ⟨x1, h1⟩, ⟨x2, h2⟩, x4, h4⟩ := finite _ _ _ _ _ (hpre c)
      obtain ⟨e0, e1, e2, e3, e4⟩ := hagree c
    · refine (val_main_v83_eq m' c).trans ?_
      rw [e1, e2, e4]
      exact (final_5 m c h0 h1 h2 h4).symm
    · refine (val_main_v84_eq m' c).trans ?_
      rw [e0, e1, e4]
      exact (final_6 m c h0 h1 h2 h4).symm
    · refine (val_main_v85_eq _ _).trans ?_
      rw [e1, e4]
      exact (final_7 m c h0 h1 h2 h4).symm
    · refine (val_main_v86_eq m' c).trans ?_
      rw [e0, e1, e2, e3]
      exact (final_8 m c h0 h1 h2 h4).symm

/-- The reference's run leaves its arguments; it has no semaphore. -/
theorem frame_ref : Cert.quiescent_PoolRefIdeal := fun m ρ _ =>
  (θ_run Cert.PoolRefIdeal.defs _ _).mono
    (fun r h => ⟨fun c => (h c).2.2.2.2, sem_eq_zero_of_no_sems (by decide) r.2⟩)
    (Cert.PoolRefIdeal.Value.run (F := Ideal) m ρ)

end Value

end Cert.PoolBwdIdeal.Val

end
-- ==== Proof.GluA.lean ====
module

public import proofs.«01_k».proof.Proof.Gen.GluBwdIdeal.Launch
public import proofs.«01_k».proof.Proof.Gen.GluBwdIdeal.Skeleton
public import proofs.«01_k».proof.Proof.Gen.GluBwdIdeal.Points
public import Idealize.ShloMosaic.Lib.Pipeline.FrameBody
public import Idealize.ShloMosaic.Lib.Ring
public import Idealize.ShloMosaic.Lib.Tactic
public import Idealize.ShloMosaic.Lib.WordCmp

/-!
The gated unit's forward call, on the arrays it finds: what one step of its grid does, at any field of numbers.
-/

@[expose] public section

set_option maxRecDepth 16384

noncomputable section

namespace Cert.GluBwdIdeal.Run

open Cert.GluBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at a grid point, read off the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, for any proof data whose array is the one found and whose body leaves the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x2048 := Rect.unit (s := S512x2048) ![0, 0] S512x2048.size inb_S512x2048_S512x2048_0_0
abbrev r0_1 : Rect S1x2048x512 := Rect.unit (s := S1x2048x512) ![0, 0, 0] S1x2048x512.size inb_S1x2048x512_S1x2048x512_0_0_0
abbrev r0_2 : Rect S1x512 := Rect.unit (s := S1x512) ![0, 0] S1x512.size inb_S1x512_S1x512_0_0
abbrev r0_3 : Rect S512x512 := Rect.unit (s := S512x512) ![0, 0] S512x512.size inb_S512x512_S512x512_0_0

/-- What a step leaves in the residual block: `x` plus the gated value. -/
def out0_6 (x0 : Vec F S512x2048 .bf16) (x1 : Vec F S1x2048x512 .bf16) (x2 : Vec F S1x2048x512 .bf16) (x3 : Vec F S1x512 .f32) (x4 : Vec F S1x512 .f32) (x5 : Vec F S512x512 .f32) : Vec F S512x512 .f32 :=
  View.canon [⟨r0_3, k0_pay4 (View.ld x0 r0_0) (View.ld x1 r0_1) (View.ld x3 r0_2) (View.ld x2 r0_1) (View.ld x4 r0_2) (View.ld x5 r0_3)⟩]

theorem cover0_6 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

/-- What a step leaves in the block of values. -/
def out0_7 (x0 : Vec F S512x2048 .bf16) (x1 : Vec F S1x2048x512 .bf16) (x2 : Vec F S1x2048x512 .bf16) (x3 : Vec F S1x512 .f32) (x4 : Vec F S1x512 .f32) (x5 : Vec F S512x512 .f32) : Vec F S512x512 .f32 :=
  View.canon [⟨r0_3, k0_pay2 (View.ld x0 r0_0) (View.ld x1 r0_1) (View.ld x3 r0_2)⟩]

theorem cover0_7 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

/-- What a step leaves in the block of gates. -/
def out0_8 (x0 : Vec F S512x2048 .bf16) (x1 : Vec F S1x2048x512 .bf16) (x2 : Vec F S1x2048x512 .bf16) (x3 : Vec F S1x512 .f32) (x4 : Vec F S1x512 .f32) (x5 : Vec F S512x512 .f32) : Vec F S512x512 .f32 :=
  View.canon [⟨r0_3, k0_pay3 (View.ld x0 r0_0) (View.ld x2 r0_1) (View.ld x4 r0_2)⟩]

theorem cover0_8 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

set_option maxHeartbeats 1000000 in
/-- One step of the forward kernel: the inputs stay, the three outputs hold what the step computes from the input blocks. -/
theorem sound_kernel0 (c : Dev nD) (E : Set ℕ) (i : grid0.Coords) (arg2 : Memref sig .tc .vmem S512x2048 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole)
    (x0 : Vec F S512x2048 .bf16) (x1 : Vec F S1x2048x512 .bf16) (x2 : Vec F S1x2048x512 .bf16) (x3 : Vec F S1x512 .f32) (x4 : Vec F S1x512 .f32) (x5 : Vec F S512x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5) ∗ owns (c : Thread nD τ) arg9 fullShare (out0_7 x0 x1 x2 x3 x4 x5) ∗ owns (c : Thread nD τ) arg10 fullShare (out0_8 x0 x1 x2 x3 x4 x5)) -∗ K ⟨⟩))
      ⊢ wp frame (wpE (defs₀ (F := F)) Variants.none c none) E (cc0_ssm_glu i arg2 harg2 arg3 harg3 arg4 harg4 arg5 harg5 arg6 harg6 arg7 harg7 arg8 harg8 arg9 harg9 arg10 harg10) K := by
  simp only [cc0_ssm_glu_eq_skeleton]; unfold cc0_ssm_glu_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_8 _)

/-- The forward call's proof data: the arrays as found, the inputs' buffers at their blocks, the outputs' at what a step leaves. Two windows read the weights and two the bias, so an input has its share of its array. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What a step starts from. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- What a step ends with. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row0 (t : Fin cfg0.N) :
    defs₀ (F := F) .tc cfg0.body (cfg0.bodyArgs t (cfg0.slots t)) = bodyAt0 t := by
  unfold defs₀; rw [Defs.onTc_tc]

/-- The step's obligation at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.GluBwdIdeal.Run

end
-- ==== Proof.GluB.lean ====
module

public import proofs.«01_k».proof.Proof.Gen.GluBwdIdeal.Launch
public import proofs.«01_k».proof.Proof.Gen.GluBwdIdeal.Skeleton
public import proofs.«01_k».proof.Proof.Gen.GluBwdIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-!
The gated unit's gradient call, on the arrays it finds: what each step of its grid does, at any field of numbers. The
first step stores the bias gradient, every later step adds to it.
-/

@[expose] public section

set_option maxRecDepth 16384

noncomputable section

namespace Cert.GluBwdIdeal.Run

open Cert.GluBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at a grid point, read off the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The step is the first one. -/
abbrev cond1_0 (i : grid1.Coords) : Prop := k1_cond1 i = 1#1
theorem hcond1_0 : ∀ t : Fin cfg1.N, cond1_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond1_0, k1_cond1, e0]
    word_cmp
   : ∀ t : Fin grid1.N, cond1_0 (grid1.coords t) ↔ t.val % 8 = 0)

/-- The step is a later one. -/
abbrev cond1_1 (i : grid1.Coords) : Prop := k1_cond2 i = 1#1
theorem hcond1_1 : ∀ t : Fin cfg1.N, cond1_1 (grid1.coords t) ↔ 1 ≤ t.val :=
  (by decide +kernel : ∀ t : Fin grid1.N, cond1_1 (grid1.coords t) ↔ 1 ≤ t.val)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Whether the bias gradient's buffer holds nothing a step stored: before the first step and after the last. -/
def freshTab1_4 : ℕ → Bool
  | 0 => true
  | n + 1 => (0x80 : ℕ).testBit n
theorem freshTab1_4_step : ∀ t : Fin cfg1.N,
    freshTab1_4 (t.val + 1) = ((cfg1.win 4).flush t || (cfg1.idle 4 (cfg1.grid.coords t) && freshTab1_4 t.val)) := by decide +kernel
theorem fresh1_4_eq (t : Fin cfg1.N) : cfg1.fresh 4 t.val = freshTab1_4 t.val :=
  Pipeline.Cfg.fresh_tab cfg1 4 freshTab1_4 rfl freshTab1_4_step t.val (Nat.le_of_lt t.isLt)
theorem liveAt1_4_A : ∀ t : Fin cfg1.N, cond1_0 (grid1.coords t) → ¬cond1_1 (grid1.coords t) → cfg1.idle 4 (grid1.coords t) = false := by decide +kernel
theorem liveAt1_4_B : ∀ t : Fin cfg1.N, ¬cond1_0 (grid1.coords t) → cond1_1 (grid1.coords t) → cfg1.idle 4 (grid1.coords t) = false := by decide +kernel
theorem notFresh1_4_B : ∀ t : Fin cfg1.N, ¬cond1_0 (grid1.coords t) → cond1_1 (grid1.coords t) → cfg1.fresh 4 t.val = false := by
  intro t; rw [fresh1_4_eq t]; revert t; decide +kernel

abbrev VO1_3 : View sig .tc .vmem S256x4096 .bf16 := (Memref.whole cc1_stg3_0 : Memref sig .tc .vmem S256x4096 .bf16).view
abbrev VO1_4 : View sig .tc .vmem S1x4096 .f32 := (Memref.whole cc1_stg4_0 : Memref sig .tc .vmem S1x4096 .f32).view
abbrev ms1_0 (t : Fin cfg1.N) : Memref sig .tc .vmem S256x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4096 .f32 := win1_4.stage (cfg1.slots t 4)
abbrev hs1_4 (t : Fin cfg1.N) : (ms1_4 t).IsWhole := hstage1_4 ((cfg1.slots t 4).cast nbuf1_4)

set_option maxHeartbeats 1000000 in
/-- The first step: what it stores, with the proof that it runs and stores it. -/
noncomputable def kernelRun1_A (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x4096 .bf16) (harg4 : arg4.IsWhole) (arg5 : Memref sig .tc .vmem S1x4096 .f32) (harg5 : arg5.IsWhole) (hc0 : cond1_0 i) (hc1 : ¬cond1_1 i)
    (x0 : Vec F S256x2048 .f32) (x1 : Vec F S256x2048 .f32) (x2 : Vec F S256x2048 .f32) :
    Σ' (L3 : List (View.Piece (Elt F) S256x4096 .bf16)), { L4 : List (View.Piece (Elt F) S1x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc1_ssm_dglu i arg1 harg1 arg2 harg2 arg3 harg3 arg4 harg4 arg5 harg5) K } := by
  refine ⟨?_, ?_, fun E K => ?run⟩
  case run =>
    simp only [cc1_ssm_dglu_eq_skeleton]; unfold cc1_ssm_dglu_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

set_option maxHeartbeats 1000000 in
/-- A later step, which adds to the bias gradient the step before left. -/
noncomputable def kernelRun1_B (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x4096 .bf16) (harg4 : arg4.IsWhole) (arg5 : Memref sig .tc .vmem S1x4096 .f32) (harg5 : arg5.IsWhole) (hc0 : ¬cond1_0 i) (hc1 : cond1_1 i)
    (x0 : Vec F S256x2048 .f32) (x1 : Vec F S256x2048 .f32) (x2 : Vec F S256x2048 .f32) (xo4 : Vec F S1x4096 .f32) :
    Σ' (L3 : List (View.Piece (Elt F) S256x4096 .bf16)), { L4 : List (View.Piece (Elt F) S1x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc1_ssm_dglu i arg1 harg1 arg2 harg2 arg3 harg3 arg4 harg4 arg5 harg5) K } := by
  refine ⟨?_, ?_, fun E K => ?run⟩
  case run =>
    simp only [cc1_ssm_dglu_eq_skeleton]; unfold cc1_ssm_dglu_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0; obtain rfl := harg2.eq_unread hf1; obtain rfl := harg3.eq_unread hf2; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

theorem cover1_A_3 (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x4096 .bf16) (harg4 : arg4.IsWhole) (arg5 : Memref sig .tc .vmem S1x4096 .f32) (harg5 : arg5.IsWhole) (hc0 : cond1_0 i) (hc1 : ¬cond1_1 i)
    (x0 : Vec F S256x2048 .f32) (x1 : Vec F S256x2048 .f32) (x2 : Vec F S256x2048 .f32) (y : S256x4096.Idx) :
    ∃ pc ∈ (kernelRun1_A c i arg1 harg1 arg2 harg2 arg3 harg3 arg4 harg4 arg5 harg5 hc0 hc1 x0 x1 x2).1, y ∈ pc.1.set :=
  View.cover_of_tiledL (kernelRun1_A c i arg1 harg1 arg2 harg2 arg3 harg3 arg4 harg4 arg5 harg5 hc0 hc1 x0 x1 x2).1 S256x4096.size (by sl_kernel_rfl) y

def out1_A_3 (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x4096 .bf16) (harg4 : arg4.IsWhole) (arg5 : Memref sig .tc .vmem S1x4096 .f32) (harg5 : arg5.IsWhole) (hc0 : cond1_0 i) (hc1 : ¬cond1_1 i)
    (x0 : Vec F S256x2048 .f32) (x1 : Vec F S256x2048 .f32) (x2 : Vec F S256x2048 .f32) : Vec F S256x4096 .bf16 :=
  VO1_3.read (Elt F) (VO1_3.writes (Elt F) VO1_3.junk (kernelRun1_A c i arg1 harg1 arg2 harg2 arg3 harg3 arg4 harg4 arg5 harg5 hc0 hc1 x0 x1 x2).1)

theorem cover1_A_4 (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x4096 .bf16) (harg4 : arg4.IsWhole) (arg5 : Memref sig .tc .vmem S1x4096 .f32) (harg5 : arg5.IsWhole) (hc0 : cond1_0 i) (hc1 : ¬cond1_1 i)
    (x0 : Vec F S256x2048 .f32) (x1 : Vec F S256x2048 .f32) (x2 : Vec F S256x2048 .f32) (y : S1x4096.Idx) :
    ∃ pc ∈ (kernelRun1_A c i arg1 harg1 arg2 harg2 arg3 harg3 arg4 harg4 arg5 harg5 hc0 hc1 x0 x1 x2).2.1, y ∈ pc.1.set :=
  View.cover_of_tiledL (kernelRun1_A c i arg1 harg1 arg2 harg2 arg3 harg3 arg4 harg4 arg5 harg5 hc0 hc1 x0 x1 x2).2.1 S1x4096.size (by sl_kernel_rfl) y

def out1_A_4 (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x4096 .bf16) (harg4 : arg4.IsWhole) (arg5 : Memref sig .tc .vmem S1x4096 .f32) (harg5 : arg5.IsWhole) (hc0 : cond1_0 i) (hc1 : ¬cond1_1 i)
    (x0 : Vec F S256x2048 .f32) (x1 : Vec F S256x2048 .f32) (x2 : Vec F S256x2048 .f32) : Vec F S1x4096 .f32 :=
  VO1_4.read (Elt F) (VO1_4.writes (Elt F) VO1_4.junk (kernelRun1_A c i arg1 harg1 arg2 harg2 arg3 harg3 arg4 harg4 arg5 harg5 hc0 hc1 x0 x1 x2).2.1)

theorem cover1_B_3 (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x4096 .bf16) (harg4 : arg4.IsWhole) (arg5 : Memref sig .tc .vmem S1x4096 .f32) (harg5 : arg5.IsWhole) (hc0 : ¬cond1_0 i) (hc1 : cond1_1 i)
    (x0 : Vec F S256x2048 .f32) (x1 : Vec F S256x2048 .f32) (x2 : Vec F S256x2048 .f32) (xo4 : Vec F S1x4096 .f32) (y : S256x4096.Idx) :
    ∃ pc ∈ (kernelRun1_B c i arg1 harg1 arg2 harg2 arg3 harg3 arg4 harg4 arg5 harg5 hc0 hc1 x0 x1 x2 xo4).1, y ∈ pc.1.set :=
  View.cover_of_tiledL (kernelRun1_B c i arg1 harg1 arg2 harg2 arg3 harg3 arg4 harg4 arg5 harg5 hc0 hc1 x0 x1 x2 xo4).1 S256x4096.size (by sl_kernel_rfl) y

def out1_B_3 (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x4096 .bf16) (harg4 : arg4.IsWhole) (arg5 : Memref sig .tc .vmem S1x4096 .f32) (harg5 : arg5.IsWhole) (hc0 : ¬cond1_0 i) (hc1 : cond1_1 i)
    (x0 : Vec F S256x2048 .f32) (x1 : Vec F S256x2048 .f32) (x2 : Vec F S256x2048 .f32) (xo4 : Vec F S1x4096 .f32) : Vec F S256x4096 .bf16 :=
  VO1_3.read (Elt F) (VO1_3.writes (Elt F) VO1_3.junk (kernelRun1_B c i arg1 harg1 arg2 harg2 arg3 harg3 arg4 harg4 arg5 harg5 hc0 hc1 x0 x1 x2 xo4).1)

theorem cover1_B_4 (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x4096 .bf16) (harg4 : arg4.IsWhole) (arg5 : Memref sig .tc .vmem S1x4096 .f32) (harg5 : arg5.IsWhole) (hc0 : ¬cond1_0 i) (hc1 : cond1_1 i)
    (x0 : Vec F S256x2048 .f32) (x1 : Vec F S256x2048 .f32) (x2 : Vec F S256x2048 .f32) (xo4 : Vec F S1x4096 .f32) (y : S1x4096.Idx) :
    ∃ pc ∈ (kernelRun1_B c i arg1 harg1 arg2 harg2 arg3 harg3 arg4 harg4 arg5 harg5 hc0 hc1 x0 x1 x2 xo4).2.1, y ∈ pc.1.set :=
  View.cover_of_tiledL (kernelRun1_B c i arg1 harg1 arg2 harg2 arg3 harg3 arg4 harg4 arg5 harg5 hc0 hc1 x0 x1 x2 xo4).2.1 S1x4096.size (by sl_kernel_rfl) y

def out1_B_4 (c : Dev nD) (i : grid1.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x4096 .bf16) (harg4 : arg4.IsWhole) (arg5 : Memref sig .tc .vmem S1x4096 .f32) (harg5 : arg5.IsWhole) (hc0 : ¬cond1_0 i) (hc1 : cond1_1 i)
    (x0 : Vec F S256x2048 .f32) (x1 : Vec F S256x2048 .f32) (x2 : Vec F S256x2048 .f32) (xo4 : Vec F S1x4096 .f32) : Vec F S1x4096 .f32 :=
  VO1_4.read (Elt F) (VO1_4.writes (Elt F) VO1_4.junk (kernelRun1_B c i arg1 harg1 arg2 harg2 arg3 harg3 arg4 harg4 arg5 harg5 hc0 hc1 x0 x1 x2 xo4).2.1)

/-- What the two outputs' buffers hold after each step. -/
def outsAt1 (c : Dev nD) : (n : ℕ) → n < cfg1.N → Vec F S256x4096 .bf16 × Vec F S1x4096 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : 1 ≤ (n + 1) then
        False.elim (by have hN : n + 1 < 8 := lt_of_lt_of_eq hn (show cfg1.N = 8 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : 1 ≤ (n + 1) then
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        False.elim (by have hN : n + 1 < 8 := lt_of_lt_of_eq hn (show cfg1.N = 8 from N_1); omega)

theorem outsAt1_A (c : Dev nD) (t : Fin cfg1.N) (h0 : t.val % 8 = 0) (h1 : ¬1 ≤ t.val) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (fun h => h1 ((hcond1_1 t).mp h)) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : 1 ≤ t.val) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The gradient call's proof data: the arrays as found, the inputs' buffers at their blocks, the outputs' at what the steps so far have left. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- No step leaves the bias gradient's buffer alone. -/
theorem hcarry1_4 (c : Dev nD) : ∀ (t : Fin cfg1.N) (_ : t.val ≠ 0), cfg1.idle 4 (grid1.coords t) = true → cfg1.fresh 4 t.val = false →
    (dat1 V c).after 4 t = (dat1 V c).after 4 ⟨t.val - 1, by omega⟩ := by
  intro t _ hi _
  have hN : t.val < 8 := lt_of_lt_of_eq t.isLt (show cfg1.N = 8 from N_1)
  rw [after1_4, after1_4]
  by_cases h0 : t.val % 8 = 0
  · by_cases h1 : 1 ≤ t.val
    · exfalso; omega
    · rw [liveAt1_4_A t ((hcond1_0 t).mpr h0) (fun h => h1 ((hcond1_1 t).mp h))] at hi
      exact absurd hi Bool.false_ne_true
  · by_cases h1 : 1 ≤ t.val
    · rw [liveAt1_4_B t (fun h => h0 ((hcond1_0 t).mp h)) ((hcond1_1 t).mpr h1)] at hi
      exact absurd hi Bool.false_ne_true
    · exfalso; omega
/-- A later step finds the bias gradient as the step before left it. -/
theorem before1_4_B (c : Dev nD) (t : Fin cfg1.N) (h0 : ¬t.val % 8 = 0) (h1 : 1 ≤ t.val) (d) :
    (dat1 V c).before 4 t d = (outsAt1 V c (t.val - 1) (Nat.lt_of_le_of_lt (Nat.sub_le _ _) t.isLt)).2 := by
  rw [Dat.before_out_traj _ 4 rfl (fun _ _ => rfl) (hcarry1_4 V c) t.val t rfl d,
    if_neg (by rw [notFresh1_4_B t (fun h => h0 ((hcond1_0 t).mp h)) ((hcond1_1 t).mpr h1)]; exact Bool.false_ne_true)]
  dsimp only [dat1]

/-- What a step starts from. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- What a step ends with. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  have hN : t.val < 8 := lt_of_lt_of_eq t.isLt (show cfg1.N = 8 from N_1)
  by_cases h0 : t.val % 8 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4_A t ((hcond1_0 t).mpr h0) (fun h => h1 ((hcond1_1 t).mp h))], after1_4]
      rw [outsAt1_A V c t h0 h1]
      unfold out1_A_3 out1_A_4; (try dsimp only)
      iintro ⟨HΦ, Ho, ⟨%d0, H0⟩, ⟨%d1, H1⟩, ⟨%d2, H2⟩, ⟨%d3, H3⟩, ⟨%d4, H4⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 Set.univ _)
      isplitl [H0]; · iexact H0
      isplitl [H1]; · iexact H1
      isplitl [H2]; · iexact H2
      isplitl [H3]; · iexists _; iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c _ _ _ _ _ _ _ _ _ _ _ _ _ _ _ _)
      unfold owns; iexists _; isplitr
      swap; · iexact H4
      ipureintro; exact View.read_writes_of_cover _ _ _ _ _ (cover1_A_4 c _ _ _ _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4_B t (fun h => h0 ((hcond1_0 t).mp h)) ((hcond1_1 t).mpr h1)], after1_4]
      rw [outsAt1_B V c t h0 h1]
      simp only [before1_4_B V c t h0 h1]
      unfold out1_B_3 out1_B_4; (try dsimp only)
      iintro ⟨HΦ, Ho, ⟨%d0, H0⟩, ⟨%d1, H1⟩, ⟨%d2, H2⟩, ⟨%d3, H3⟩, ⟨%d4, H4⟩⟩
      iapply ((kernelRun1_B c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_B_3 c _ _ _ _ _ _ _ _ _ _ _ _ _ _ _ _ _)
      unfold owns; iexists _; isplitr
      swap; · iexact H4
      ipureintro; exact View.read_writes_of_cover _ _ _ _ _ (cover1_B_4 c _ _ _ _ _ _ _ _ _ _ _ _ _ _ _ _ _)
    · exfalso; omega

theorem defs₀_row1 (t : Fin cfg1.N) :
    defs₀ (F := F) .tc cfg1.body (cfg1.bodyArgs t (cfg1.slots t)) = bodyAt1 t := by
  unfold defs₀; rw [Defs.onTc_tc]

/-- The step's obligation at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.GluBwdIdeal.Run

end
-- ==== Proof.GluRun.lean ====
module

public import proofs.«01_k».proof.Proof.GluA
public import proofs.«01_k».proof.Proof.GluB
public import Idealize.ShloMosaic.Lib.Pipeline.RegionsLoop
public import Idealize.ShloMosaic.Lib.Pipeline.FrameSuffix

/-!
The gated unit's forward call followed by its gradient call: the whole program's run, at any field of numbers.
-/

@[expose] public section

set_option maxRecDepth 16384

noncomputable section

namespace Cert.GluBwdIdeal.Run

open Cert.GluBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4]

theorem hostOps0_fresh : (hostOps0 : List (HloOp τ sig (Elt F))).Forall fun op => op.fresh = ∅ := by
  simp only [List.Forall]; repeat' constructor
/-- What the host lines before the first call write. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffers when the forward call starts. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers when the forward call ends: its arrays as it leaves them, the rest as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers when the gradient call ends. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)

abbrev adm : (p : Fin 2) → (pcfgs (F := F) p).Adm := fun p => (cfgs p).toPCfg_adm
/-- Both calls' proof data, each on the arrays it finds. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides along: the generator register, and owing nothing. -/
abbrev R (c : Dev nD) : sProp 𝕄 := iprop((∃ r, prngReg c r) ∗ ∃ W, owes (c : Thread nD τ) (0 : CellTallies nD τ sig Unit) W)
/-- A stretch of host lines as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- The forward call as a segment. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gradient call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program as segments: host lines, forward call, gradient call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The program runs to the end and every buffer of the core ends at the last boundary's contents. -/
theorem run_all : θ_run defs (onTc (τ := τ) (main (F := F))) ⟨m, fun _ => 0, ρ⟩ (fun r =>
      (∀ (c : Dev nD) (b : Ref sig .tc), Proc.devRef .tc b ∈ Pipeline.ucRefs τ sig → r.2.mem ((c : Thread nD τ).loc b) = V3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨fun c b hb => h c _ hb, funext fun g => hz g (.inr (no_unscoped g.2))⟩)

/-- The frame: the arguments end as launched, and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c main_arg0 (mem_uc main_arg0 (by decide))).trans (W3_main_arg0 m ρ c),
     (h.1 c main_arg1 (mem_uc main_arg1 (by decide))).trans (W3_main_arg1 m ρ c),
     (h.1 c main_arg2 (mem_uc main_arg2 (by decide))).trans (W3_main_arg2 m ρ c),
     (h.1 c main_arg3 (mem_uc main_arg3 (by decide))).trans (W3_main_arg3 m ρ c),
     (h.1 c main_arg4 (mem_uc main_arg4 (by decide))).trans (W3_main_arg4 m ρ c)⟩, h.2⟩) (run_all m ρ)

/-- The three results: the residual stream of the forward call, the two gradients of the gradient call; the arguments stay. -/
theorem run_results : θ_run defs (onTc (τ := τ) (main (F := F))) ⟨m, fun _ => 0, ρ⟩ (fun r => ∀ c : Dev nD,
      r.2.mem ((c.tc : Thread nD τ).loc main_v5_0) = (dat0 (V1 m ρ) c).arrAt 6 cfg0.N
      ∧ r.2.mem ((c.tc : Thread nD τ).loc main_v6_0) = (dat1 (V2 m ρ) c).arrAt 3 cfg1.N
      ∧ r.2.mem ((c.tc : Thread nD τ).loc main_v6_1) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h.1 c main_v5_0 (mem_uc main_v5_0 (by decide))).trans ((W3_of_ne m ρ c main_v5_0 (by decide)).trans (W2_arr m ρ c 6)),
     (h.1 c main_v6_0 (mem_uc main_v6_0 (by decide))).trans (W3_arr m ρ c 3),
     (h.1 c main_v6_1 (mem_uc main_v6_1 (by decide))).trans (W3_arr m ρ c 4),
     (h.1 c main_arg0 (mem_uc main_arg0 (by decide))).trans (W3_main_arg0 m ρ c),
     (h.1 c main_arg1 (mem_uc main_arg1 (by decide))).trans (W3_main_arg1 m ρ c),
     (h.1 c main_arg2 (mem_uc main_arg2 (by decide))).trans (W3_main_arg2 m ρ c),
     (h.1 c main_arg3 (mem_uc main_arg3 (by decide))).trans (W3_main_arg3 m ρ c),
     (h.1 c main_arg4 (mem_uc main_arg4 (by decide))).trans (W3_main_arg4 m ρ c)⟩) (run_all m ρ)

end Cert.GluBwdIdeal.Run

end
-- ==== Proof.GluCells.lean ====
module

public import proofs.«01_k».proof.Proof.Base
public import proofs.«01_k».proof.Proof.GluRun
public import proofs.«01_k».proof.Proof.Gen.GluRefIdeal.Run
public import proofs.«01_k».proof.Proof.Gen.GluRefIdeal.Read

/-!
The gated unit, cell by cell: with blocks given as functions of their indices, the forward call's value, gate and
residual are the reference's, and the gradient call's rows are the reference's rows.
-/

@[expose] public section

set_option maxRecDepth 16384

noncomputable section

open Idealize.ShloMosaic Idealize.ShloMosaic.TcCoe Idealize.SL.Sem

namespace Cert.GluBwdIdeal.Val

open Cert.GluBwdIdeal Cert.GluBwdIdeal.Gen
open Cert.GluRefIdeal.Read

variable (Y : FVec Ideal S2048x2048 .f32) (W : FVec Ideal S2048x4096 .f32) (B : FVec Ideal S4096 .f32)
  (X D : FVec Ideal S2048x2048 .f32)

/-- A block of `gv + b` from a block of rows of `y` and a block of columns of the weights. -/
theorem cell_val (ρ : Fin 512 → Fin 2048) (σ : Fin 512 → Fin 4096) (r l : Fin 512) :
    k0_pay2 (F := Ideal) (fun i : S512x2048.Idx => Y (ix2 (ρ (i 0)) (i 1))) (fun i : S1x2048x512.Idx => W (ix2 (i 1) (σ (i 2))))
        (fun i : S1x512.Idx => B (ix1 (σ (i 1)))) (ix2 r l)
      = val_main_v3 (F := Ideal) Y W B (ix2 (ρ r) (σ l)) := by
  pointwise [k0_pay2, k0_pay1, val_main_v3, val_main_v2, val_main_v1, val_main_v0]

theorem cell_gate (ρ : Fin 512 → Fin 2048) (σ : Fin 512 → Fin 4096) (r l : Fin 512) :
    k0_pay3 (F := Ideal) (fun i : S512x2048.Idx => Y (ix2 (ρ (i 0)) (i 1))) (fun i : S1x2048x512.Idx => W (ix2 (i 1) (σ (i 2))))
        (fun i : S1x512.Idx => B (ix1 (σ (i 1)))) (ix2 r l)
      = val_main_v3 (F := Ideal) Y W B (ix2 (ρ r) (σ l)) := cell_val Y W B ρ σ r l

/-- The column of the value and of the gate that go with a result column. -/
def lo (c : Fin 2048) : Fin 4096 := ⟨c.val, by omega⟩
def hi (c : Fin 2048) : Fin 4096 := ⟨2048 + c.val, by omega⟩

theorem val_at (r c : Fin 2048) : val_main_v4 (F := Ideal) Y W B (ix2 r c) = val_main_v3 (F := Ideal) Y W B (ix2 r (lo c)) := by
  unfold val_main_v4
  generalize val_main_v3 (F := Ideal) Y W B = G
  pointwise
  rfl

theorem gate_at (r c : Fin 2048) : val_main_v5 (F := Ideal) Y W B (ix2 r c) = val_main_v3 (F := Ideal) Y W B (ix2 r (hi c)) := by
  unfold val_main_v5
  generalize val_main_v3 (F := Ideal) Y W B = G
  pointwise
  rfl

/-- The residual stream's block. -/
theorem cell_mid (x0 : FVec Ideal S512x2048 .bf16) (x1 x2 : FVec Ideal S1x2048x512 .bf16) (x3 x4 : FVec Ideal S1x512 .f32)
    (ρ κ : Fin 512 → Fin 2048) (r l : Fin 512)
    (hv : k0_pay2 (F := Ideal) x0 x1 x3 (ix2 r l) = val_main_v4 (F := Ideal) Y W B (ix2 (ρ r) (κ l)))
    (hg : k0_pay3 (F := Ideal) x0 x2 x4 (ix2 r l) = val_main_v5 (F := Ideal) Y W B (ix2 (ρ r) (κ l))) :
    k0_pay4 (F := Ideal) x0 x1 x3 x2 x4 (fun i : S512x512.Idx => X (ix2 (ρ (i 0)) (κ (i 1)))) (ix2 r l)
      = val_main_v23 (F := Ideal) Y W B X (ix2 (ρ r) (κ l)) := by
  unfold k0_pay4
  generalize k0_pay2 (F := Ideal) x0 x1 x3 = P at *
  generalize k0_pay3 (F := Ideal) x0 x2 x4 = Q at *
  unfold val_main_v23 val_main_v15 val_main_v11 val_main_v9 val_main_v7 val_main_v6
  generalize val_main_v4 (F := Ideal) Y W B = P' at *
  generalize val_main_v5 (F := Ideal) Y W B = Q' at *
  pointwise [val_main_v10, val_main_cst_0, val_main_v8, val_main_cst]
  rw [hv, hg, zero_sub]

/-- The gradient call's row. -/
theorem cell_grad (ρ : Fin 256 → Fin 2048) (r : Fin 256) (l : Fin 4096) :
    k1_pay1 (F := Ideal) (fun i : S256x2048.Idx => val_main_v5 (F := Ideal) Y W B (ix2 (ρ (i 0)) (i 1)))
        (fun i : S256x2048.Idx => D (ix2 (ρ (i 0)) (i 1))) (fun i : S256x2048.Idx => val_main_v4 (F := Ideal) Y W B (ix2 (ρ (i 0)) (i 1))) (ix2 r l)
      = val_main_v19 (F := Ideal) Y W B D (ix2 (ρ r) l) := by
  unfold val_main_v19 val_main_v18 val_main_v17 val_main_v16 val_main_v14 val_main_v13 val_main_v11 val_main_v9 val_main_v7 val_main_v6 k1_pay1
  generalize val_main_v4 (F := Ideal) Y W B = P'
  generalize val_main_v5 (F := Ideal) Y W B = Q'
  pointwise [val_main_v10, val_main_cst_0, val_main_v8, val_main_cst, val_main_v12, val_main_cst_1]
  simp only [zero_sub, mul_comm (D _) (P' _)]

/-- The bias gradient is the sum of the rows. -/
theorem bias_ref (y : S1x4096.Idx) :
    val_main_v25 (F := Ideal) Y W B D y = ∑ r : Fin 2048, val_main_v19 (F := Ideal) Y W B D (ix2 r (y 1)) := by
  unfold val_main_v25 val_main_v22 val_main_v21 val_main_v20
  generalize val_main_v19 (F := Ideal) Y W B D = G
  pointwise [val_main_cst_2, val_main_cst_3]
  exact Fin.sum_univ_one _

theorem bias_kernel (G P Q : FVec Ideal S256x2048 .f32) (y : S1x4096.Idx) :
    k1_pay3 (F := Ideal) G P Q y = ∑ r : Fin 256, k1_pay1 (F := Ideal) G P Q (ix2 r (y 1)) := by
  unfold k1_pay3
  generalize k1_pay1 (F := Ideal) G P Q = G
  pointwise

end Cert.GluBwdIdeal.Val

end
-- ==== Proof.Glu.lean ====
module

public import proofs.«01_k».proof.Defs
public import proofs.«01_k».proof.Proof.GluCells
public import proofs.«01_k».proof.Proof.Gen.GluBwd

/-!
The value of the gated unit: the residual stream of the forward call, and both gradients of the gradient call, which
reads the value and the gate the forward call left.
-/

@[expose] public section

set_option maxRecDepth 16384

noncomputable section

open Idealize.ShloMosaic Idealize.ShloMosaic.TcCoe Idealize.SL.Sem
open Idealize.ShloMosaic.Pipeline (Dat)

namespace Cert.GluBwdIdeal.Val

open Cert.GluBwdIdeal Cert.GluBwdIdeal.Gen Cert.GluBwdIdeal.Run
open Cert.GluRefIdeal.Read

variable (m : (ℓ : Loc nD τ sig) → Buf (Elt Ideal) ℓ) (ρ : Dev nD → PrngReg)

abbrev A0 (c : Dev nD) : FVec Ideal S2048x2048 .f32 := m ((c : Thread nD τ).loc main_arg0)
abbrev A1 (c : Dev nD) : FVec Ideal S2048x4096 .f32 := m ((c : Thread nD τ).loc main_arg1)
abbrev A2 (c : Dev nD) : FVec Ideal S4096 .f32 := m ((c : Thread nD τ).loc main_arg2)
abbrev A3 (c : Dev nD) : FVec Ideal S2048x2048 .f32 := m ((c : Thread nD τ).loc main_arg3)
abbrev A4 (c : Dev nD) : FVec Ideal S2048x2048 .f32 := m ((c : Thread nD τ).loc main_arg4)

/-! ### The forward call -/

theorem idx0 : ∀ t : Fin cfg0.N, win0_0.index t = ![t.val / 4, 0] ∧ win0_1.index t = ![t.val % 4, 0, 0]
    ∧ win0_2.index t = ![t.val % 4 + 4, 0, 0] ∧ win0_3.index t = ![0, t.val % 4] ∧ win0_4.index t = ![0, t.val % 4 + 4]
    ∧ win0_5.index t = ![t.val / 4, t.val % 4] ∧ win0_6.index t = ![t.val / 4, t.val % 4]
    ∧ win0_7.index t = ![t.val / 4, t.val % 4] ∧ win0_8.index t = ![t.val / 4, t.val % 4] := by decide +kernel

theorem N0_lt (t : Fin cfg0.N) : t.val < 16 := lt_of_lt_of_eq t.isLt N_0

/-- The row and the column of the result that a cell of point `t`'s tile is. -/
def row0 (t : Fin cfg0.N) (r : Fin 512) : Fin 2048 := ⟨t.val / 4 * 512 + r.val, by have := N0_lt t; omega⟩
def col0 (t : Fin cfg0.N) (l : Fin 512) : Fin 2048 := ⟨t.val % 4 * 512 + l.val, by omega⟩

theorem weights (c : Dev nD) (n : Fin 8) (k : Fin 2048) (l : Fin 512) :
    V1 m ρ c main_v2 (ix3 n k l) = A1 m c (ix2 k ⟨n.val * 512 + l.val, by omega⟩) := by
  show StableHlo.after hostOps0 (W0 m ρ c) (Proc.devRef .tc main_v2) _ = _
  entry_read
  pointwise

theorem rows (c : Dev nD) (r k : Fin 2048) : V1 m ρ c main_v3 (ix2 r k) = A0 m c (ix2 r k) := by
  show StableHlo.after hostOps0 (W0 m ρ c) (Proc.devRef .tc main_v3) _ = _
  entry_read
  pointwise

theorem bias (c : Dev nD) (l : Fin 4096) : V1 m ρ c main_v4 (ix2 (0 : Fin 1) l) = A2 m c (ix1 l) := by
  show StableHlo.after hostOps0 (W0 m ρ c) (Proc.devRef .tc main_v4) _ = _
  entry_read
  pointwise

theorem in0_0 (c : Dev nD) (t : Fin cfg0.N) :
    iblk0 (V1 m ρ) c 0 t = fun i : S512x2048.Idx => A0 m c (ix2 (row0 t (i 0)) (i 1)) := by
  funext i; idx_vars i; blk_simp [iblk0, idx0 t]
  have e : (win0_0.blk t).view.emb (ix2 i0 i1) = ix2 (row0 t i0) i1 := by blk_ext [idx0 t, row0]
  rw [e, rows]

theorem in0_1 (c : Dev nD) (t : Fin cfg0.N) :
    iblk0 (V1 m ρ) c 1 t = fun i : S1x2048x512.Idx => A1 m c (ix2 (i 1) (lo (col0 t (i 2)))) := by
  funext i; idx_vars i; blk_simp [iblk0, idx0 t]
  have e : (win0_1.blk t).view.emb (ix3 i0 i1 i2) = ix3 (⟨t.val % 4, by omega⟩ : Fin 8) i1 i2 := by blk_ext [idx0 t]
  rw [e, weights]; rfl

theorem in0_2 (c : Dev nD) (t : Fin cfg0.N) :
    iblk0 (V1 m ρ) c 2 t = fun i : S1x2048x512.Idx => A1 m c (ix2 (i 1) (hi (col0 t (i 2)))) := by
  funext i; idx_vars i; blk_simp [iblk0, idx0 t]
  have e : (win0_2.blk t).view.emb (ix3 i0 i1 i2) = ix3 (⟨t.val % 4 + 4, by omega⟩ : Fin 8) i1 i2 := by blk_ext [idx0 t]
  rw [e, weights]; refine congrArg (A1 m c) ?_; blk_ext [hi, col0]

theorem in0_3 (c : Dev nD) (t : Fin cfg0.N) :
    iblk0 (V1 m ρ) c 3 t = fun i : S1x512.Idx => A2 m c (ix1 (lo (col0 t (i 1)))) := by
  funext i; idx_vars i; blk_simp [iblk0, idx0 t]
  have e : (win0_3.blk t).view.emb (ix2 i0 i1) = ix2 (0 : Fin 1) (lo (col0 t i1)) := by blk_ext [idx0 t, lo, col0]
  rw [e, bias]

theorem in0_4 (c : Dev nD) (t : Fin cfg0.N) :
    iblk0 (V1 m ρ) c 4 t = fun i : S1x512.Idx => A2 m c (ix1 (hi (col0 t (i 1)))) := by
  funext i; idx_vars i; blk_simp [iblk0, idx0 t]
  have e : (win0_4.blk t).view.emb (ix2 i0 i1) = ix2 (0 : Fin 1) (hi (col0 t i1)) := by blk_ext [idx0 t, hi, col0]
  rw [e, bias]

theorem in0_5 (c : Dev nD) (t : Fin cfg0.N) :
    iblk0 (V1 m ρ) c 5 t = fun i : S512x512.Idx => A3 m c (ix2 (row0 t (i 0)) (col0 t (i 1))) := by
  funext i; idx_vars i; blk_point [iblk0, idx0 t, row0, col0]

section Forward

variable (c : Dev nD)

theorem val_block (t : Fin cfg0.N) (r l : Fin 512) :
    k0_pay2 (F := Ideal) (iblk0 (V1 m ρ) c 0 t) (iblk0 (V1 m ρ) c 1 t) (iblk0 (V1 m ρ) c 3 t) (ix2 r l)
      = val_main_v4 (F := Ideal) (A0 m c) (A1 m c) (A2 m c) (ix2 (row0 t r) (col0 t l)) := by
  rw [in0_0, in0_1, in0_3, val_at]
  exact cell_val _ _ _ (row0 t) (fun l => lo (col0 t l)) r l

theorem gate_block (t : Fin cfg0.N) (r l : Fin 512) :
    k0_pay3 (F := Ideal) (iblk0 (V1 m ρ) c 0 t) (iblk0 (V1 m ρ) c 2 t) (iblk0 (V1 m ρ) c 4 t) (ix2 r l)
      = val_main_v5 (F := Ideal) (A0 m c) (A1 m c) (A2 m c) (ix2 (row0 t r) (col0 t l)) := by
  rw [in0_0, in0_2, in0_4, gate_at]
  exact cell_gate _ _ _ (row0 t) (fun l => hi (col0 t l)) r l

theorem final_mid : (dat0 (V1 m ρ) c).arrAt 6 cfg0.N = val_main_v23 (F := Ideal) (A0 m c) (A1 m c) (A2 m c) (A3 m c) := by
  refine (dat0 (V1 m ρ) c).arrAt_eq_of_covers 6 _ (by decide +kernel) fun t hf y => ?_
  obtain ⟨r, l, rfl⟩ : ∃ r l : Fin 512, y = ix2 r l := ⟨y 0, y 1, eq_ix2 y⟩
  have e : out0_6 (iblk0 (V1 m ρ) c 0 t) (iblk0 (V1 m ρ) c 1 t) (iblk0 (V1 m ρ) c 2 t) (iblk0 (V1 m ρ) c 3 t) (iblk0 (V1 m ρ) c 4 t)
      (iblk0 (V1 m ρ) c 5 t) (ix2 r l) = val_main_v23 (F := Ideal) (A0 m c) (A1 m c) (A2 m c) (A3 m c) (ix2 (row0 t r) (col0 t l)) := by
    unfold out0_6; frame_out
    rw [in0_5]
    exact cell_mid _ _ _ _ _ _ _ _ _ (row0 t) (col0 t) r l (val_block m ρ c t r l) (gate_block m ρ c t r l)
  blk_simp [idx0 t]
  rw [after0_6]
  refine e.trans (congrArg _ ?_)
  blk_ext [idx0 t, row0, col0]

theorem final_val : (dat0 (V1 m ρ) c).arrAt 7 cfg0.N = val_main_v4 (F := Ideal) (A0 m c) (A1 m c) (A2 m c) := by
  refine (dat0 (V1 m ρ) c).arrAt_eq_of_covers 7 _ (by decide +kernel) fun t hf y => ?_
  obtain ⟨r, l, rfl⟩ : ∃ r l : Fin 512, y = ix2 r l := ⟨y 0, y 1, eq_ix2 y⟩
  have e : out0_7 (iblk0 (V1 m ρ) c 0 t) (iblk0 (V1 m ρ) c 1 t) (iblk0 (V1 m ρ) c 2 t) (iblk0 (V1 m ρ) c 3 t) (iblk0 (V1 m ρ) c 4 t)
      (iblk0 (V1 m ρ) c 5 t) (ix2 r l) = val_main_v4 (F := Ideal) (A0 m c) (A1 m c) (A2 m c) (ix2 (row0 t r) (col0 t l)) := by
    unfold out0_7; frame_out
    exact val_block m ρ c t r l
  blk_simp [idx0 t]
  rw [after0_7]
  refine e.trans (congrArg _ ?_)
  blk_ext [idx0 t, row0, col0]

theorem final_gate : (dat0 (V1 m ρ) c).arrAt 8 cfg0.N = val_main_v5 (F := Ideal) (A0 m c) (A1 m c) (A2 m c) := by
  refine (dat0 (V1 m ρ) c).arrAt_eq_of_covers 8 _ (by decide +kernel) fun t hf y => ?_
  obtain ⟨r, l, rfl⟩ : ∃ r l : Fin 512, y = ix2 r l := ⟨y 0, y 1, eq_ix2 y⟩
  have e : out0_8 (iblk0 (V1 m ρ) c 0 t) (iblk0 (V1 m ρ) c 1 t) (iblk0 (V1 m ρ) c 2 t) (iblk0 (V1 m ρ) c 3 t) (iblk0 (V1 m ρ) c 4 t)
      (iblk0 (V1 m ρ) c 5 t) (ix2 r l) = val_main_v5 (F := Ideal) (A0 m c) (A1 m c) (A2 m c) (ix2 (row0 t r) (col0 t l)) := by
    unfold out0_8; frame_out
    exact gate_block m ρ c t r l
  blk_simp [idx0 t]
  rw [after0_8]
  refine e.trans (congrArg _ ?_)
  blk_ext [idx0 t, row0, col0]

end Forward

/-! ### The gradient call -/

theorem idx1 : ∀ t : Fin cfg1.N, win1_0.index t = ![t.val, 0] ∧ win1_1.index t = ![t.val, 0] ∧ win1_2.index t = ![t.val, 0]
    ∧ win1_3.index t = ![t.val, 0] ∧ win1_4.index t = ![0, 0] := by decide +kernel

theorem N1_lt (t : Fin cfg1.N) : t.val < 8 := lt_of_lt_of_eq t.isLt N_1

/-- Row `r` of the tile of rows at point `t`. -/
def row1 (t : Fin cfg1.N) (r : Fin 256) : Fin 2048 := ⟨t.val * 256 + r.val, by have := N1_lt t; omega⟩

section Gradient

variable (c : Dev nD)

/-- The gradient call finds the cotangent as launched, the value and the gate as the forward call left them. -/
theorem found_dout : V2 m ρ c main_arg4 = A4 m c := W2_args m ρ c main_arg4 (by decide)
theorem found_val : V2 m ρ c main_v5_1 = val_main_v4 (F := Ideal) (A0 m c) (A1 m c) (A2 m c) := (W2_arr m ρ c 7).trans (final_val m ρ c)
theorem found_gate : V2 m ρ c main_v5_2 = val_main_v5 (F := Ideal) (A0 m c) (A1 m c) (A2 m c) := (W2_arr m ρ c 8).trans (final_gate m ρ c)

theorem in1_0 (t : Fin cfg1.N) : iblk1 (V2 m ρ) c 0 t = fun i : S256x2048.Idx => A4 m c (ix2 (row1 t (i 0)) (i 1)) := by
  funext i; idx_vars i; blk_simp [iblk1, idx1 t]
  have e : (win1_0.blk t).view.emb (ix2 i0 i1) = ix2 (row1 t i0) i1 := by blk_ext [idx1 t, row1]
  rw [e, found_dout]

theorem in1_1 (t : Fin cfg1.N) : iblk1 (V2 m ρ) c 1 t
    = fun i : S256x2048.Idx => val_main_v4 (F := Ideal) (A0 m c) (A1 m c) (A2 m c) (ix2 (row1 t (i 0)) (i 1)) := by
  funext i; idx_vars i; blk_simp [iblk1, idx1 t]
  have e : (win1_1.blk t).view.emb (ix2 i0 i1) = ix2 (row1 t i0) i1 := by blk_ext [idx1 t, row1]
  rw [e, found_val]

theorem in1_2 (t : Fin cfg1.N) : iblk1 (V2 m ρ) c 2 t
    = fun i : S256x2048.Idx => val_main_v5 (F := Ideal) (A0 m c) (A1 m c) (A2 m c) (ix2 (row1 t (i 0)) (i 1)) := by
  funext i; idx_vars i; blk_simp [iblk1, idx1 t]
  have e : (win1_2.blk t).view.emb (ix2 i0 i1) = ix2 (row1 t i0) i1 := by blk_ext [idx1 t, row1]
  rw [e, found_gate]

theorem grad_block (t : Fin cfg1.N) (r : Fin 256) (l : Fin 4096) :
    k1_pay1 (F := Ideal) (iblk1 (V2 m ρ) c 2 t) (iblk1 (V2 m ρ) c 0 t) (iblk1 (V2 m ρ) c 1 t) (ix2 r l)
      = val_main_v19 (F := Ideal) (A0 m c) (A1 m c) (A2 m c) (A4 m c) (ix2 (row1 t r) l) := by
  rw [in1_0, in1_1, in1_2]
  exact cell_grad _ _ _ _ (row1 t) r l

theorem final_dgv : (dat1 (V2 m ρ) c).arrAt 3 cfg1.N = val_main_v24 (F := Ideal) (A0 m c) (A1 m c) (A2 m c) (A4 m c) := by
  refine (dat1 (V2 m ρ) c).arrAt_eq_of_covers 3 _ (by decide +kernel) fun t hf y => ?_
  have ht := N1_lt t
  have e : k1_pay2 (F := Ideal) (iblk1 (V2 m ρ) c 2 t) (iblk1 (V2 m ρ) c 0 t) (iblk1 (V2 m ρ) c 1 t) y
      = val_main_v24 (F := Ideal) (A0 m c) (A1 m c) (A2 m c) (A4 m c) (ix2 (row1 t (y 0)) (y 1)) := by
    obtain ⟨r, l, rfl⟩ : ∃ (r : Fin 256) (l : Fin 4096), y = ix2 r l := ⟨y 0, y 1, eq_ix2 y⟩
    exact grad_block m ρ c t r l
  blk_simp [idx1 t]
  rw [after1_3]
  by_cases h : t.val % 8 = 0
  · rw [outsAt1_A (V2 m ρ) c t h (by omega)]; dsimp only; frame_out
    refine e.trans (congrArg _ ?_)
    idx_vars y; blk_ext [idx1 t, row1]
  · rw [outsAt1_B (V2 m ρ) c t h (by omega)]; dsimp only; frame_out
    refine e.trans (congrArg _ ?_)
    idx_vars y; blk_ext [idx1 t, row1]

theorem final_db : (dat1 (V2 m ρ) c).arrAt 4 cfg1.N = val_main_v25 (F := Ideal) (A0 m c) (A1 m c) (A2 m c) (A4 m c) := by
  refine (dat1 (V2 m ρ) c).arrAt_eq_of_after_last 4 t1_7 (by decide +kernel) _ fun j => ?_
  blk_simp
  rw [after1_4, Pipeline.eq_sum_fin_of_reset_step_apply_last (fun n h => (outsAt1 (V2 m ρ) c n h).2) 8 (fun _ => 0)
    (fun t j => k1_pay3 (iblk1 (V2 m ρ) c 2 t) (iblk1 (V2 m ρ) c 0 t) (iblk1 (V2 m ρ) c 1 t) j)
    (fun t h j => by have := N1_lt t; rw [outsAt1_A (V2 m ρ) c t h (by omega)]; frame_out; exact (zero_add _).symm)
    (fun t h j => by have := N1_lt t; rw [outsAt1_B (V2 m ρ) c t h (by omega)]; frame_out; pointwise [k1_pay4])
    (le_of_eq N_1) t1_7 rfl j, zero_add]
  rw [bias_ref]
  simp only [bias_kernel]
  refine Fin.sum_mul_add_congr fun t k hl => ?_
  exact grad_block m ρ c t k (j 1)

end Gradient

/-- The pair: the kernel's three results are the reference's. -/
theorem value : Cert.algebraic_GluBwdIdeal_GluRefIdeal := by
  pair_intro
  · run_from Cert.GluBwdIdeal.Run.run_results m g
  · refine (θ_run Cert.GluRefIdeal.defs _ _).mono (fun _ h c => ⟨(h c).1.trans ?_, (h c).2.1.trans ?_, (h c).2.2.1.trans ?_, (h c).2.2.2⟩)
      (Cert.GluRefIdeal.Value.run (F := Ideal) m' g')
    all_goals obtain ⟨e0, e1, e2, e3, e4⟩ := hagree c
    · refine (val_main_v23_eq _ _ _ _).trans ?_
      rw [e0, e1, e2, e3]
      exact (final_mid m g c).symm
    · refine (val_main_v24_eq _ _ _ _).trans ?_
      rw [e0, e1, e2, e4]
      exact (final_dgv m g c).symm
    · refine (val_main_v25_eq _ _ _ _).trans ?_
      rw [e0, e1, e2, e4]
      exact (final_db m g c).symm

/-! ### The frames -/

theorem defs_eq : Cert.GluBwd.defs (F := Bits) = Cert.GluBwdIdeal.defs (F := Bits) := by sl_kernel_rfl

theorem main_eq : Cert.GluBwd.main (F := Bits) = Cert.GluBwdIdeal.main (F := Bits) := by sl_kernel_rfl

theorem frame_kernel : Cert.quiescent_GluBwd := by
  intro m ρ _
  rw [defs_eq, main_eq]
  exact frame_all (F := Bits) m ρ

theorem frame_ideal : Cert.quiescent_GluBwdIdeal := fun m ρ _ => frame_all m ρ

/-- The reference's run leaves its arguments; it has no semaphore. -/
theorem frame_ref : Cert.quiescent_GluRefIdeal := fun m ρ _ =>
  (θ_run Cert.GluRefIdeal.defs _ _).mono
    (fun r h => ⟨fun c => (h c).2.2.2, sem_eq_zero_of_no_sems (by decide) r.2⟩)
    (Cert.GluRefIdeal.Value.run (F := Ideal) m ρ)

end Cert.GluBwdIdeal.Val

end
-- ==== Proof.PrepCells.lean ====
module

public import proofs.«01_k».proof.Defs
public import proofs.«01_k».proof.Proof.Base
public import proofs.«01_k».proof.Proof.Gen.PrepBwdIdeal.Frame
public import proofs.«01_k».proof.Proof.Gen.PrepRefIdeal.Run
public import proofs.«01_k».proof.Proof.Gen.PrepRefIdeal.Read
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.PrepBwdIdeal.Val

open Cert.PrepBwdIdeal Cert.PrepBwdIdeal.Gen
open Cert.PrepRefIdeal.Read

/-- One number per group and state, as the kernel's block holds it. -/
def row (x : FVec Ideal S128x64 .f32) : FVec Ideal S128x1x64 .f32 := fun i => x (ix2 (i 0) (i 2))
/-- One number per group, state and channel; the kernel's block has the channel before the state. -/
def mat (x : FVec Ideal S128x64x16 .f32) : FVec Ideal S128x16x64 .f32 := fun i => x (ix3 (i 0) (i 2) (i 1))
/-- One number per group. -/
def rate (x : FVec Ideal S128 .f32) : FVec Ideal S128x1x1 .f32 := fun i => x (ix1 (i 0))

variable {x0 x1 x5 x6 : FVec Ideal S128x64 .f32} {x2 : FVec Ideal S128 .f32} {x3 x4 x7 x8 : FVec Ideal S128x64x16 .f32}

section Cells

/-! Each value the kernel's body names is, cell by cell, a value of the reference. -/

variable {v1 v3 v13 v16 v17 v21 v22 v23 v26 v28 v31 v32 v35 v38 v40 v41 v46 v48 v71 v78 v82 v113 v136 v137 : FVec Ideal S128x1x64 .f32}
variable {v7 v9 : FVec Ideal S128x16x64 .f32}
variable {v10 v132 : FVec Ideal S128x1x1 .f32}
variable (h1 : ∀ (a : Fin 128) (p : Fin 64), v1 (ix3 a 0 p) = x0 (ix2 a p))
  (h3 : ∀ (a : Fin 128) (p : Fin 64), v3 (ix3 a 0 p) = x1 (ix2 a p))
  (h7 : ∀ (a : Fin 128) (c : Fin 16) (p : Fin 64), v7 (ix3 a c p) = x3 (ix3 a p c))
  (h9 : ∀ (a : Fin 128) (c : Fin 16) (p : Fin 64), v9 (ix3 a c p) = x4 (ix3 a p c))
  (h10 : ∀ (a : Fin 128), v10 (ix3 a 0 0) = val_main_v0 (F := Ideal) x2 (ix1 a))
  (h13 : ∀ (a : Fin 128) (p : Fin 64), v13 (ix3 a 0 p) = val_main_v4 (F := Ideal) x0 x2 (ix2 a p))
  (h16 : ∀ (a : Fin 128) (p : Fin 64), v16 (ix3 a 0 p) = val_main_v7 (F := Ideal) x1 x2 (ix2 a p))
  (h17 : ∀ (a : Fin 128) (p : Fin 64), v17 (ix3 a 0 p) = val_main_v8 (F := Ideal) x1 x2 (ix2 a p))
  (h21 : ∀ (a : Fin 128) (p : Fin 64), v21 (ix3 a 0 p) = val_main_v12 (F := Ideal) x1 x2 (ix2 a p))
  (h22 : ∀ (a : Fin 128) (p : Fin 64), v22 (ix3 a 0 p) = val_main_v13 (F := Ideal) x1 x2 (ix2 a p))
  (h23 : ∀ (a : Fin 128) (p : Fin 64), v23 (ix3 a 0 p) = val_main_v14 (F := Ideal) x0 x1 x2 (ix2 a p))
  (h26 : ∀ (a : Fin 128) (p : Fin 64), v26 (ix3 a 0 p) = val_main_v17 (F := Ideal) x0 x1 (ix2 a p))
  (h28 : ∀ (a : Fin 128) (p : Fin 64), v28 (ix3 a 0 p) = val_main_v19 (F := Ideal) x0 x1 x2 (ix2 a p))
  (h31 : ∀ (a : Fin 128) (p : Fin 64), v31 (ix3 a 0 p) = val_main_v22 (F := Ideal) x0 x1 x2 (ix2 a p))
  (h32 : ∀ (a : Fin 128) (p : Fin 64), v32 (ix3 a 0 p) = val_main_v23 (F := Ideal) x0 x1 x2 (ix2 a p))
  (h35 : ∀ (a : Fin 128) (p : Fin 64), v35 (ix3 a 0 p) = val_main_v26 (F := Ideal) x0 x1 (ix2 a p))
  (h38 : ∀ (a : Fin 128) (p : Fin 64), v38 (ix3 a 0 p) = val_main_v29 (F := Ideal) x0 x1 x2 (ix2 a p))
  (h40 : ∀ (a : Fin 128) (p : Fin 64), v40 (ix3 a 0 p) = val_main_v31 (F := Ideal) x0 x1 x2 (ix2 a p))
  (h41 : ∀ (a : Fin 128) (p : Fin 64), v41 (ix3 a 0 p) = val_main_v32 (F := Ideal) x0 x1 x2 (ix2 a p))
  (h46 : ∀ (a : Fin 128) (p : Fin 64), v46 (ix3 a 0 p) = x5 (ix2 a p))
  (h48 : ∀ (a : Fin 128) (p : Fin 64), v48 (ix3 a 0 p) = x6 (ix2 a p))
  (h71 : ∀ (a : Fin 128) (p : Fin 64), v71 (ix3 a 0 p) = val_main_v73 (F := Ideal) x3 x4 x7 x8 (ix2 a p))
  (h78 : ∀ (a : Fin 128) (p : Fin 64), v78 (ix3 a 0 p) = val_main_v81 (F := Ideal) x3 x4 x7 x8 (ix2 a p))
  (h82 : ∀ (a : Fin 128) (p : Fin 64), v82 (ix3 a 0 p) = val_main_v84 (F := Ideal) x0 x1 x2 x3 x4 x7 x8 (ix2 a p))
  (h113 : ∀ (a : Fin 128) (p : Fin 64), v113 (ix3 a 0 p) = val_main_v113 (F := Ideal) x0 x1 x2 x3 x4 x7 x8 (ix2 a p))
  (h132 : ∀ (a : Fin 128), v132 (ix3 a 0 0) = val_main_v131 (F := Ideal) x0 x1 x2 x3 x4 x5 x6 x7 x8 (ix2 a 0))
  (h136 : ∀ (a : Fin 128) (p : Fin 64), v136 (ix3 a 0 p) = val_main_v135 (F := Ideal) x0 x1 x2 x3 x4 x5 x6 x7 x8 (ix2 a p))
  (h137 : ∀ (a : Fin 128) (p : Fin 64), v137 (ix3 a 0 p) = val_main_v136 (F := Ideal) x0 x1 x2 x3 x4 x5 x6 x7 x8 (ix2 a p))

theorem k1 (a : Fin 128) (p : Fin 64) : k0_pay3 (F := Ideal) (row x0) (ix3 a 0 p) = x0 (ix2 a p) := by
  pointwise [k0_pay3, row, mat]

theorem k3 (a : Fin 128) (p : Fin 64) : k0_pay4 (F := Ideal) (row x1) (ix3 a 0 p) = x1 (ix2 a p) := by
  pointwise [k0_pay4, row, mat]

theorem k7 (a : Fin 128) (c : Fin 16) (p : Fin 64) : k0_pay5 (F := Ideal) (mat x3) (ix3 a c p) = x3 (ix3 a p c) := by
  pointwise [k0_pay5, row, mat]

theorem k9 (a : Fin 128) (c : Fin 16) (p : Fin 64) : k0_pay6 (F := Ideal) (mat x4) (ix3 a c p) = x4 (ix3 a p c) := by
  pointwise [k0_pay6, row, mat]

theorem k10 (a : Fin 128) : k0_pay7 (F := Ideal) (rate x2) (ix3 a 0 0) = val_main_v0 (F := Ideal) x2 (ix1 a) := by
  pointwise [k0_pay7, row, mat, rate,
    val_main_v0]

theorem k13 (a : Fin 128) (p : Fin 64) : k0_pay8 (F := Ideal) (row x0) (rate x2) (ix3 a 0 p) = val_main_v4 (F := Ideal) x0 x2 (ix2 a p) := by
  pointwise [k0_pay8, row, mat, rate,
    val_main_v4, val_main_v3, val_main_v2, val_main_v1]
  simp only [k10, k1, Fin.sum_univ_one, zero_sub]

theorem k15 (a : Fin 128) (p : Fin 64) : k0_pay9 (F := Ideal) (row x1) (rate x2) (ix3 a 0 p) = val_main_v6 (F := Ideal) x1 x2 (ix2 a p) := by
  pointwise [k0_pay9, row, mat, rate,
    val_main_v6, val_main_v5, val_main_v1]
  simp only [k10, k3, Fin.sum_univ_one, zero_sub]

theorem k16 (a : Fin 128) (p : Fin 64) : k0_pay10 (F := Ideal) (row x1) (rate x2) (ix3 a 0 p) = val_main_v7 (F := Ideal) x1 x2 (ix2 a p) := by
  pointwise [k0_pay10, row, mat, rate,
    val_main_v7]
  simp only [k15, Fin.sum_univ_one, zero_sub]

theorem k17 (a : Fin 128) (p : Fin 64) : k0_pay11 (F := Ideal) (row x1) (rate x2) (ix3 a 0 p) = val_main_v8 (F := Ideal) x1 x2 (ix2 a p) := by
  pointwise [k0_pay11, row, mat, rate,
    val_main_v8]
  simp only [k15, Fin.sum_univ_one, zero_sub]

theorem k18 (a : Fin 128) (p : Fin 64) : k0_pay12 (F := Ideal) (row x0) (row x1) (rate x2) (ix3 a 0 p) = val_main_v9 (F := Ideal) x0 x1 x2 (ix2 a p) := by
  pointwise [k0_pay12, row, mat, rate,
    val_main_v9]
  simp only [k13, k16, Fin.sum_univ_one, zero_sub]

theorem k20 (a : Fin 128) (p : Fin 64) : k0_pay13 (F := Ideal) (row x1) (rate x2) (ix3 a 0 p) = val_main_v11 (F := Ideal) x1 x2 (ix2 a p) := by
  pointwise [k0_pay13, row, mat, rate,
    val_main_v11, val_main_v10, val_main_v1]
  simp only [k10, k3, Fin.sum_univ_one, zero_sub]

theorem k21 (a : Fin 128) (p : Fin 64) : k0_pay14 (F := Ideal) (row x1) (rate x2) (ix3 a 0 p) = val_main_v12 (F := Ideal) x1 x2 (ix2 a p) := by
  pointwise [k0_pay14, row, mat, rate,
    val_main_v12]
  simp only [k20, Fin.sum_univ_one, zero_sub]

theorem k22 (a : Fin 128) (p : Fin 64) : k0_pay15 (F := Ideal) (row x1) (rate x2) (ix3 a 0 p) = val_main_v13 (F := Ideal) x1 x2 (ix2 a p) := by
  pointwise [k0_pay15, row, mat, rate,
    val_main_v13]
  simp only [k20, Fin.sum_univ_one, zero_sub]

theorem k23 (a : Fin 128) (p : Fin 64) : k0_pay16 (F := Ideal) (row x0) (row x1) (rate x2) (ix3 a 0 p) = val_main_v14 (F := Ideal) x0 x1 x2 (ix2 a p) := by
  pointwise [k0_pay16, row, mat, rate,
    val_main_v14]
  simp only [k13, k21, Fin.sum_univ_one, zero_sub]

theorem k26 (a : Fin 128) (p : Fin 64) : k0_pay17 (F := Ideal) (row x0) (row x1) (ix3 a 0 p) = val_main_v17 (F := Ideal) x0 x1 (ix2 a p) := by
  pointwise [k0_pay17, row, mat, rate,
    val_main_v17, val_main_v15, val_main_v16]
  simp only [k1, k3, Fin.sum_univ_one, zero_sub]

theorem k28 (a : Fin 128) (p : Fin 64) : k0_pay18 (F := Ideal) (row x0) (row x1) (rate x2) (ix3 a 0 p) = val_main_v19 (F := Ideal) x0 x1 x2 (ix2 a p) := by
  pointwise [k0_pay18, row, mat, rate,
    val_main_v19, val_main_v18, val_main_cst]
  simp only [k18, Fin.sum_univ_one, zero_sub]

theorem k31 (a : Fin 128) (p : Fin 64) : k0_pay19 (F := Ideal) (row x0) (row x1) (rate x2) (ix3 a 0 p) = val_main_v22 (F := Ideal) x0 x1 x2 (ix2 a p) := by
  pointwise [k0_pay19, row, mat, rate,
    val_main_v22, val_main_v20, val_main_v21]
  simp only [k28, k1, k23, k3, Fin.sum_univ_one, zero_sub]

theorem k32 (a : Fin 128) (p : Fin 64) : k0_pay20 (F := Ideal) (row x0) (row x1) (rate x2) (ix3 a 0 p) = val_main_v23 (F := Ideal) x0 x1 x2 (ix2 a p) := by
  pointwise [k0_pay20, row, mat, rate,
    val_main_v23]
  simp only [k31, k26, Fin.sum_univ_one, zero_sub]

theorem k35 (a : Fin 128) (p : Fin 64) : k0_pay21 (F := Ideal) (row x0) (row x1) (ix3 a 0 p) = val_main_v26 (F := Ideal) x0 x1 (ix2 a p) := by
  pointwise [k0_pay21, row, mat, rate,
    val_main_v26, val_main_v25, val_main_cst_0, val_main_v24]
  simp only [k26, Fin.sum_univ_one, zero_sub]

theorem k38 (a : Fin 128) (p : Fin 64) : k0_pay22 (F := Ideal) (row x0) (row x1) (rate x2) (ix3 a 0 p) = val_main_v29 (F := Ideal) x0 x1 x2 (ix2 a p) := by
  pointwise [k0_pay22, row, mat, rate,
    val_main_v29, val_main_v28, val_main_cst_1]
  simp only [k18, Fin.sum_univ_one, zero_sub]

theorem k40 (a : Fin 128) (p : Fin 64) : k0_pay23 (F := Ideal) (row x0) (row x1) (rate x2) (ix3 a 0 p) = val_main_v31 (F := Ideal) x0 x1 x2 (ix2 a p) := by
  pointwise [k0_pay23, row, mat, rate,
    val_main_v31, val_main_v27, val_main_v30]
  simp only [k23, k1, k38, k3, Fin.sum_univ_one, zero_sub]

theorem k41 (a : Fin 128) (p : Fin 64) : k0_pay24 (F := Ideal) (row x0) (row x1) (rate x2) (ix3 a 0 p) = val_main_v32 (F := Ideal) x0 x1 x2 (ix2 a p) := by
  pointwise [k0_pay24, row, mat, rate,
    val_main_v32]
  simp only [k40, k26, Fin.sum_univ_one, zero_sub]

theorem k46 (a : Fin 128) (p : Fin 64) : k0_pay25 (F := Ideal) (row x5) (ix3 a 0 p) = x5 (ix2 a p) := by
  pointwise [k0_pay25, row, mat]

theorem k48 (a : Fin 128) (p : Fin 64) : k0_pay26 (F := Ideal) (row x6) (ix3 a 0 p) = x6 (ix2 a p) := by
  pointwise [k0_pay26, row, mat]

include h32 h41 in
theorem k67 (a : Fin 128) (c : Fin 16) (p : Fin 64) : k0_pay30 (F := Ideal) v32 v41 (mat x7) (mat x8) (ix3 a c p) = val_main_v68 (F := Ideal) x0 x1 x2 x7 x8 (ix3 a p c) := by
  pointwise [k0_pay30, k0_pay28, k0_pay29, k0_pay27, row, mat, rate,
    val_main_v68, val_main_v59, val_main_v58, val_main_v43, val_main_v50, val_main_v67, val_main_v66, val_main_v39, val_main_v65]
  simp only [h32, h41, Fin.sum_univ_one, zero_sub]

include h7 h9 in
theorem k71 (a : Fin 128) (p : Fin 64) : k0_pay31 (F := Ideal) v7 v9 (mat x7) (mat x8) (ix3 a 0 p) = val_main_v73 (F := Ideal) x3 x4 x7 x8 (ix2 a p) := by
  pointwise [k0_pay31, k0_pay28, k0_pay29, k0_pay27, row, mat, rate,
    val_main_v73, val_main_v57, val_main_v56, val_main_v55, val_main_v54, val_main_v51, val_main_cst_3, val_main_cst_4, val_main_v72, val_main_v71, val_main_v70, val_main_v69, val_main_v65, val_main_cst_7, val_main_cst_8]
  simp only [h7, h9, Fin.sum_univ_one, zero_sub]

include h32 h41 in
theorem k74 (a : Fin 128) (c : Fin 16) (p : Fin 64) : k0_pay32 (F := Ideal) v32 v41 (mat x7) (mat x8) (ix3 a c p) = val_main_v76 (F := Ideal) x0 x1 x2 x7 x8 (ix3 a p c) := by
  pointwise [k0_pay32, k0_pay28, k0_pay27, row, mat, rate,
    val_main_v76, val_main_v53, val_main_v52, val_main_v46, val_main_v51, val_main_v75, val_main_v74, val_main_v36, val_main_v64]
  simp only [h32, h41, Fin.sum_univ_one, zero_sub]

include h7 h9 in
theorem k78 (a : Fin 128) (p : Fin 64) : k0_pay33 (F := Ideal) v7 v9 (mat x7) (mat x8) (ix3 a 0 p) = val_main_v81 (F := Ideal) x3 x4 x7 x8 (ix2 a p) := by
  pointwise [k0_pay33, k0_pay28, k0_pay27, row, mat, rate,
    val_main_v81, val_main_v63, val_main_v62, val_main_v61, val_main_v60, val_main_v50, val_main_cst_5, val_main_cst_6, val_main_v80, val_main_v79, val_main_v78, val_main_v77, val_main_v64, val_main_cst_9, val_main_cst_10]
  simp only [h7, h9, Fin.sum_univ_one, zero_sub]

include h7 h9 h26 h40 in
theorem k82 (a : Fin 128) (p : Fin 64) : k0_pay34 (F := Ideal) v7 v9 v26 v40 (mat x7) (mat x8) (ix3 a 0 p) = val_main_v84 (F := Ideal) x0 x1 x2 x3 x4 x7 x8 (ix2 a p) := by
  pointwise [k0_pay34, row, mat, rate,
    val_main_v84, val_main_v83, val_main_v82, val_main_v35, val_main_v34, val_main_cst_2, val_main_v33]
  simp only [h7, h9, h26, h40, (k71 h7 h9), Fin.sum_univ_one, zero_sub]

include h26 h71 in
theorem k83 (a : Fin 128) (p : Fin 64) : k0_pay35 (F := Ideal) v26 v71 (ix3 a 0 p) = val_main_v85 (F := Ideal) x0 x1 x3 x4 x7 x8 (ix2 a p) := by
  pointwise [k0_pay35, row, mat, rate,
    val_main_v85]
  simp only [h26, h71, Fin.sum_univ_one, zero_sub]

include h26 h71 in
theorem k85 (a : Fin 128) (p : Fin 64) : k0_pay36 (F := Ideal) v26 v71 (ix3 a 0 p) = val_main_v86 (F := Ideal) x0 x1 x3 x4 x7 x8 (ix2 a p) := by
  pointwise [k0_pay36, row, mat, rate,
    val_main_v86]
  simp only [h26, h71, (k83 h26 h71), Fin.sum_univ_one, zero_sub]

include h31 h35 h78 h82 in
theorem k96 (a : Fin 128) (p : Fin 64) : k0_pay37 (F := Ideal) v31 v35 v78 v82 (ix3 a 0 p) = val_main_v96 (F := Ideal) x0 x1 x2 x3 x4 x7 x8 (ix2 a p) := by
  pointwise [k0_pay37, row, mat, rate,
    val_main_v96, val_main_v95, val_main_v94, val_main_v93]
  simp only [h31, h35, h78, h82, Fin.sum_univ_one, zero_sub]

include h26 h78 in
theorem k97 (a : Fin 128) (p : Fin 64) : k0_pay38 (F := Ideal) v26 v78 (ix3 a 0 p) = val_main_v97 (F := Ideal) x0 x1 x3 x4 x7 x8 (ix2 a p) := by
  pointwise [k0_pay38, row, mat, rate,
    val_main_v97]
  simp only [h26, h78, Fin.sum_univ_one, zero_sub]

include h1 h3 h26 h48 h71 h78 in
theorem k101 (a : Fin 128) (p : Fin 64) : k0_pay39 (F := Ideal) v1 v3 v26 v48 v71 v78 (ix3 a 0 p) = val_main_v101 (F := Ideal) x0 x1 x3 x4 x6 x7 x8 (ix2 a p) := by
  pointwise [k0_pay39, row, mat, rate,
    val_main_v101, val_main_v92, val_main_v91, val_main_v100]
  simp only [h1, h3, h26, h48, h71, h78, (k83 h26 h71), (k97 h26 h78), Fin.sum_univ_one, zero_sub]

include h1 h3 h26 h46 h71 h78 in
theorem k105 (a : Fin 128) (p : Fin 64) : k0_pay40 (F := Ideal) v1 v3 v26 v46 v71 v78 (ix3 a 0 p) = val_main_v105 (F := Ideal) x0 x1 x3 x4 x5 x7 x8 (ix2 a p) := by
  pointwise [k0_pay40, row, mat, rate,
    val_main_v105, val_main_v89, val_main_v88, val_main_v104]
  simp only [h1, h3, h26, h46, h71, h78, (k85 h26 h71), (k97 h26 h78), Fin.sum_univ_one, zero_sub]

include h1 h23 h26 h28 h31 h35 h71 h78 h82 in
theorem k113 (a : Fin 128) (p : Fin 64) : k0_pay41 (F := Ideal) v1 v23 v26 v28 v31 v35 v71 v78 v82 (ix3 a 0 p) = val_main_v113 (F := Ideal) x0 x1 x2 x3 x4 x7 x8 (ix2 a p) := by
  pointwise [k0_pay41, row, mat, rate,
    val_main_v113, val_main_v111, val_main_v103, val_main_v90, val_main_v102, val_main_v110, val_main_v112]
  simp only [h1, h23, h26, h28, h31, h35, h71, h78, h82, (k83 h26 h71), (k97 h26 h78), (k96 h31 h35 h78 h82), Fin.sum_univ_one, zero_sub]

include h1 h3 h13 h22 h26 h48 h71 h78 in
theorem k116 (a : Fin 128) (p : Fin 64) : k0_pay42 (F := Ideal) v1 v3 v13 v22 v26 v48 v71 v78 (ix3 a 0 p) = val_main_v116 (F := Ideal) x0 x1 x2 x3 x4 x6 x7 x8 (ix2 a p) := by
  pointwise [k0_pay42, row, mat, rate,
    val_main_v116, val_main_v114]
  simp only [h1, h3, h13, h22, h26, h48, h71, h78, (k101 h1 h3 h26 h48 h71 h78), Fin.sum_univ_one, zero_sub]

include h1 h3 h13 h17 h26 h46 h71 h78 in
theorem k128 (a : Fin 128) (p : Fin 64) : k0_pay43 (F := Ideal) v1 v3 v13 v17 v26 v46 v71 v78 (ix3 a 0 p) = val_main_v127 (F := Ideal) x0 x1 x2 x3 x4 x5 x7 x8 (ix2 a p) := by
  pointwise [k0_pay43, row, mat, rate,
    val_main_v127, val_main_v126, val_main_v123]
  simp only [h1, h3, h13, h17, h26, h46, h71, h78, (k105 h1 h3 h26 h46 h71 h78), Fin.sum_univ_one, zero_sub]

include h1 h3 h13 h17 h22 h26 h46 h48 h71 h78 in
theorem k132 (a : Fin 128) : k0_pay44 (F := Ideal) v1 v3 v13 v17 v22 v26 v46 v48 v71 v78 (ix3 a 0 0) = val_main_v131 (F := Ideal) x0 x1 x2 x3 x4 x5 x6 x7 x8 (ix2 a 0) := by
  pointwise [k0_pay44, row, mat, rate,
    val_main_v131, val_main_v119, val_main_v118, val_main_v117, val_main_cst_11, val_main_v130, val_main_v129, val_main_v128, val_main_cst_12]
  simp only [h1, h3, h13, h17, h22, h26, h46, h48, h71, h78, (k116 h1 h3 h13 h22 h26 h48 h71 h78), (k128 h1 h3 h13 h17 h26 h46 h71 h78), Fin.sum_univ_one, zero_sub]

include h1 h3 h10 h13 h17 h22 h23 h26 h31 h35 h38 h46 h48 h71 h78 h82 in
theorem k135 (a : Fin 128) (p : Fin 64) : k0_pay45 (F := Ideal) v1 v3 v10 v13 v17 v22 v23 v26 v31 v35 v38 v46 v48 v71 v78 v82 (ix3 a 0 p) = val_main_v134 (F := Ideal) x0 x1 x2 x3 x4 x5 x6 x7 x8 (ix2 a p) := by
  pointwise [k0_pay45, row, mat, rate,
    val_main_v134, val_main_v122, val_main_v109, val_main_v107, val_main_v99, val_main_v87, val_main_v98, val_main_v106, val_main_v108, val_main_v121, val_main_v120, val_main_v1, val_main_v133, val_main_v132]
  simp only [h1, h3, h10, h13, h17, h22, h23, h26, h31, h35, h38, h46, h48, h71, h78, h82, (k85 h26 h71), (k97 h26 h78), (k96 h31 h35 h78 h82), (k116 h1 h3 h13 h22 h26 h48 h71 h78), (k128 h1 h3 h13 h17 h26 h46 h71 h78), Fin.sum_univ_one, zero_sub]

include h1 h3 h13 h16 h21 h26 h46 h48 h71 h78 in
theorem k136 (a : Fin 128) (p : Fin 64) : k0_pay46 (F := Ideal) v1 v3 v13 v16 v21 v26 v46 v48 v71 v78 (ix3 a 0 p) = val_main_v135 (F := Ideal) x0 x1 x2 x3 x4 x5 x6 x7 x8 (ix2 a p) := by
  pointwise [k0_pay46, row, mat, rate,
    val_main_v135, val_main_v125, val_main_v115, val_main_v124]
  simp only [h1, h3, h13, h16, h21, h26, h46, h48, h71, h78, (k101 h1 h3 h26 h48 h71 h78), (k105 h1 h3 h26 h46 h71 h78), Fin.sum_univ_one, zero_sub]

include h1 h3 h13 h16 h21 h26 h46 h48 h71 h78 in
theorem k137 (a : Fin 128) (p : Fin 64) : k0_pay47 (F := Ideal) v1 v3 v13 v16 v21 v26 v46 v48 v71 v78 (ix3 a 0 p) = val_main_v136 (F := Ideal) x0 x1 x2 x3 x4 x5 x6 x7 x8 (ix2 a p) := by
  pointwise [k0_pay47, row, mat, rate,
    val_main_v136]
  simp only [h1, h3, h13, h16, h21, h26, h46, h48, h71, h78, (k136 h1 h3 h13 h16 h21 h26 h46 h48 h71 h78), Fin.sum_univ_one, zero_sub]

include h10 h113 h136 in
theorem k143 (a : Fin 128) (p : Fin 64) : k0_pay1 (F := Ideal) v10 v113 v136 (ix3 a 0 p) = val_main_v142 (F := Ideal) x0 x1 x2 x3 x4 x5 x6 x7 x8 (ix2 a p) := by
  pointwise [k0_pay1, row, mat, rate,
    val_main_v142, val_main_v141, val_main_v140, val_main_v1]
  simp only [h10, h113, h136, Fin.sum_univ_one, zero_sub]

include h10 h132 h137 in
theorem k144 (a : Fin 128) : k0_pay2 (F := Ideal) v10 v132 v137 (ix3 a 0 0) = val_main_v144 (F := Ideal) x0 x1 x2 x3 x4 x5 x6 x7 x8 (ix1 a) := by
  pointwise [k0_pay2, row, mat, rate,
    val_main_v144, val_main_v143, val_main_v139, val_main_v138, val_main_v137, val_main_cst_13, val_main_cst_14]
  simp only [h10, h132, h137, Fin.sum_univ_one, zero_sub]

end Cells

end Cert.PrepBwdIdeal.Val

end
-- ==== Proof.Prep.lean ====
module

public import proofs.«01_k».proof.Defs
public import proofs.«01_k».proof.Proof.PrepCells
public import proofs.«01_k».proof.Proof.Gen.PrepBwdIdeal.Frame
public import proofs.«01_k».proof.Proof.Gen.PrepRefIdeal.Run
public import proofs.«01_k».proof.Proof.Gen.PrepRefIdeal.Read
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.PrepBwdIdeal.Val

open Cert.PrepBwdIdeal Cert.PrepBwdIdeal.Gen
open Cert.PrepRefIdeal.Read

variable (m : (ℓ : Loc nD τ sig) → Buf (Elt Ideal) ℓ)

abbrev A0 (c : Dev nD) : FVec Ideal S128x64 .f32 := m ((c : Thread nD τ).loc main_arg0)
abbrev A1 (c : Dev nD) : FVec Ideal S128x64 .f32 := m ((c : Thread nD τ).loc main_arg1)
abbrev A2 (c : Dev nD) : FVec Ideal S128 .f32 := m ((c : Thread nD τ).loc main_arg2)
abbrev A3 (c : Dev nD) : FVec Ideal S128x64x16 .f32 := m ((c : Thread nD τ).loc main_arg3)
abbrev A4 (c : Dev nD) : FVec Ideal S128x64x16 .f32 := m ((c : Thread nD τ).loc main_arg4)
abbrev A5 (c : Dev nD) : FVec Ideal S128x64 .f32 := m ((c : Thread nD τ).loc main_arg5)
abbrev A6 (c : Dev nD) : FVec Ideal S128x64 .f32 := m ((c : Thread nD τ).loc main_arg6)
abbrev A7 (c : Dev nD) : FVec Ideal S128x64x16 .f32 := m ((c : Thread nD τ).loc main_arg7)
abbrev A8 (c : Dev nD) : FVec Ideal S128x64x16 .f32 := m ((c : Thread nD τ).loc main_arg8)

theorem idx_val : ∀ t : Fin cfg0.N, win0_0.index t = ![0, 0, 0] ∧ win0_1.index t = ![0, 0, 0] ∧ win0_2.index t = ![0, 0, 0] ∧ win0_3.index t = ![0, 0, 0] ∧ win0_4.index t = ![0, 0, 0]
    ∧ win0_5.index t = ![0, 0, 0] ∧ win0_6.index t = ![0, 0, 0] ∧ win0_7.index t = ![0, 0, 0] ∧ win0_8.index t = ![0, 0, 0] ∧ win0_9.index t = ![0, 0, 0]
    ∧ win0_10.index t = ![0, 0, 0] ∧ win0_11.index t = ![0, 0, 0] ∧ win0_12.index t = ![0, 0, 0] ∧ win0_13.index t = ![0, 0, 0] := by decide +kernel

theorem blk0 (c : Dev nD) (t : Fin cfg0.N) : iblk m c 0 t = row (A0 m c) := by
  funext i; idx_vars i; blk_simp [iblk, idx_val t]; entry_read; pointwise
  have e : ((View.whole main_v0).slice (win0_0.rect t)).emb (ix3 i0 i1 i2) = ix3 i0 i1 i2 := by blk_ext [idx_val t]
  rw [e]; rfl

theorem blk1 (c : Dev nD) (t : Fin cfg0.N) : iblk m c 1 t = row (A1 m c) := by
  funext i; idx_vars i; blk_simp [iblk, idx_val t]; entry_read; pointwise
  have e : ((View.whole main_v1).slice (win0_1.rect t)).emb (ix3 i0 i1 i2) = ix3 i0 i1 i2 := by blk_ext [idx_val t]
  rw [e]; rfl

theorem blk2 (c : Dev nD) (t : Fin cfg0.N) : iblk m c 2 t = rate (A2 m c) := by
  funext i; idx_vars i; blk_simp [iblk, idx_val t]; entry_read; pointwise
  have e : ((View.whole main_v2).slice (win0_2.rect t)).emb (ix3 i0 i1 i2) = ix3 i0 i1 i2 := by blk_ext [idx_val t]
  rw [e]; rfl

theorem blk3 (c : Dev nD) (t : Fin cfg0.N) : iblk m c 3 t = mat (A3 m c) := by
  funext i; idx_vars i; blk_simp [iblk, idx_val t]; entry_read; pointwise
  have e : ((View.whole main_v3).slice (win0_3.rect t)).emb (ix3 i0 i1 i2) = ix3 i0 i1 i2 := by blk_ext [idx_val t]
  rw [e]; rfl

theorem blk4 (c : Dev nD) (t : Fin cfg0.N) : iblk m c 4 t = mat (A4 m c) := by
  funext i; idx_vars i; blk_simp [iblk, idx_val t]; entry_read; pointwise
  have e : ((View.whole main_v4).slice (win0_4.rect t)).emb (ix3 i0 i1 i2) = ix3 i0 i1 i2 := by blk_ext [idx_val t]
  rw [e]; rfl

theorem blk5 (c : Dev nD) (t : Fin cfg0.N) : iblk m c 5 t = row (A5 m c) := by
  funext i; idx_vars i; blk_simp [iblk, idx_val t]; entry_read; pointwise
  have e : ((View.whole main_v5).slice (win0_5.rect t)).emb (ix3 i0 i1 i2) = ix3 i0 i1 i2 := by blk_ext [idx_val t]
  rw [e]; rfl

theorem blk6 (c : Dev nD) (t : Fin cfg0.N) : iblk m c 6 t = row (A6 m c) := by
  funext i; idx_vars i; blk_simp [iblk, idx_val t]; entry_read; pointwise
  have e : ((View.whole main_v6).slice (win0_6.rect t)).emb (ix3 i0 i1 i2) = ix3 i0 i1 i2 := by blk_ext [idx_val t]
  rw [e]; rfl

theorem blk7 (c : Dev nD) (t : Fin cfg0.N) : iblk m c 7 t = mat (A7 m c) := by
  funext i; idx_vars i; blk_simp [iblk, idx_val t]; entry_read; pointwise
  have e : ((View.whole main_v7).slice (win0_7.rect t)).emb (ix3 i0 i1 i2) = ix3 i0 i1 i2 := by blk_ext [idx_val t]
  rw [e]; rfl

theorem blk8 (c : Dev nD) (t : Fin cfg0.N) : iblk m c 8 t = mat (A8 m c) := by
  funext i; idx_vars i; blk_simp [iblk, idx_val t]; entry_read; pointwise
  have e : ((View.whole main_v8).slice (win0_8.rect t)).emb (ix3 i0 i1 i2) = ix3 i0 i1 i2 := by blk_ext [idx_val t]
  rw [e]; rfl

section Outs

variable (x0 x1 x5 x6 : FVec Ideal S128x64 .f32) (x2 : FVec Ideal S128 .f32) (x3 x4 x7 x8 : FVec Ideal S128x64x16 .f32)

theorem out9 (a : Fin 128) (p : Fin 64) : out0_9 (F := Ideal) (row x0) (row x1) (rate x2) (mat x3) (mat x4) (row x5) (row x6) (mat x7) (mat x8) (ix3 a 0 p)
    = val_main_v145 (F := Ideal) x0 x1 x2 x3 x4 x5 x6 x7 x8 (ix3 a 0 p) := by
  have h := k143 k10 (k113 k1 k23 k26 k28 k31 k35 (k71 k7 k9) (k78 k7 k9) (k82 k7 k9 k26 k40)) (k136 k1 k3 k13 k16 k21 k26 k46 k48 (k71 k7 k9) (k78 k7 k9)) (x0 := x0) (x1 := x1) (x2 := x2) (x3 := x3) (x4 := x4) (x5 := x5) (x6 := x6) (x7 := x7) (x8 := x8) a p
  unfold_out out0_9
  frame_out
  refine h.trans ?_
  pointwise [val_main_v145]

theorem out10 (a : Fin 128) (p : Fin 64) : out0_10 (F := Ideal) (row x0) (row x1) (rate x2) (mat x3) (mat x4) (row x5) (row x6) (mat x7) (mat x8) (ix3 a 0 p)
    = val_main_v146 (F := Ideal) x0 x1 x2 x3 x4 x5 x6 x7 x8 (ix3 a 0 p) := by
  have h := k135 k1 k3 k10 k13 k17 k22 k23 k26 k31 k35 k38 k46 k48 (k71 k7 k9) (k78 k7 k9) (k82 k7 k9 k26 k40) (x0 := x0) (x1 := x1) (x2 := x2) (x3 := x3) (x4 := x4) (x5 := x5) (x6 := x6) (x7 := x7) (x8 := x8) a p
  unfold_out out0_10
  frame_out
  refine h.trans ?_
  pointwise [val_main_v146]

theorem out11 (a : Fin 128) : out0_11 (F := Ideal) (row x0) (row x1) (rate x2) (mat x3) (mat x4) (row x5) (row x6) (mat x7) (mat x8) (ix3 a 0 0)
    = val_main_v147 (F := Ideal) x0 x1 x2 x3 x4 x5 x6 x7 x8 (ix3 a 0 0) := by
  have h := k144 k10 (k132 k1 k3 k13 k17 k22 k26 k46 k48 (k71 k7 k9) (k78 k7 k9)) (k137 k1 k3 k13 k16 k21 k26 k46 k48 (k71 k7 k9) (k78 k7 k9)) (x0 := x0) (x1 := x1) (x2 := x2) (x3 := x3) (x4 := x4) (x5 := x5) (x6 := x6) (x7 := x7) (x8 := x8) a
  unfold_out out0_11
  frame_out
  refine h.trans ?_
  pointwise [val_main_v147]

theorem out12 (a : Fin 128) (c : Fin 16) (p : Fin 64) : out0_12 (F := Ideal) (row x0) (row x1) (rate x2) (mat x3) (mat x4) (row x5) (row x6) (mat x7) (mat x8) (ix3 a c p)
    = val_main_v148 (F := Ideal) x0 x1 x2 x7 x8 (ix3 a c p) := by
  have h := k74 k32 k41 (x0 := x0) (x1 := x1) (x2 := x2) (x7 := x7) (x8 := x8) a c p
  unfold_out out0_12
  frame_out
  refine h.trans ?_
  pointwise [val_main_v148]

theorem out13 (a : Fin 128) (c : Fin 16) (p : Fin 64) : out0_13 (F := Ideal) (row x0) (row x1) (rate x2) (mat x3) (mat x4) (row x5) (row x6) (mat x7) (mat x8) (ix3 a c p)
    = val_main_v149 (F := Ideal) x0 x1 x2 x7 x8 (ix3 a c p) := by
  have h := k67 k32 k41 (x0 := x0) (x1 := x1) (x2 := x2) (x7 := x7) (x8 := x8) a c p
  unfold_out out0_13
  frame_out
  refine h.trans ?_
  pointwise [val_main_v149]

end Outs

variable (c : Dev nD)

theorem final_9 : (dats m 0 c).arrAt 9 (cfgs 0).N = val_main_v145 (F := Ideal) (A0 m c) (A1 m c) (A2 m c) (A3 m c) (A4 m c) (A5 m c) (A6 m c) (A7 m c) (A8 m c) := by
  refine (dats m 0 c).arrAt_eq_of_covers 9 _ (by decide +kernel) fun t hf y => ?_
  obtain ⟨a, u, p, rfl⟩ : ∃ (a : Fin 128) (u : Fin 1) (p : Fin 64), y = ix3 a u p := ⟨y 0, y 1, y 2, eq_ix3 y⟩
  obtain rfl : u = 0 := Subsingleton.elim _ _
  have e : out0_9 (iblk m c 0 t) (iblk m c 1 t) (iblk m c 2 t) (iblk m c 3 t) (iblk m c 4 t) (iblk m c 5 t) (iblk m c 6 t) (iblk m c 7 t)
      (iblk m c 8 t) (ix3 a 0 p) = val_main_v145 (F := Ideal) (A0 m c) (A1 m c) (A2 m c) (A3 m c) (A4 m c) (A5 m c) (A6 m c) (A7 m c) (A8 m c) (ix3 a 0 p) := by
    rw [blk0, blk1, blk2, blk3, blk4, blk5, blk6, blk7, blk8, out9]
  blk_simp [idx_val t]
  rw [after0_9]
  refine e.trans (congrArg _ ?_)
  blk_ext [idx_val t]

theorem final_10 : (dats m 0 c).arrAt 10 (cfgs 0).N = val_main_v146 (F := Ideal) (A0 m c) (A1 m c) (A2 m c) (A3 m c) (A4 m c) (A5 m c) (A6 m c) (A7 m c) (A8 m c) := by
  refine (dats m 0 c).arrAt_eq_of_covers 10 _ (by decide +kernel) fun t hf y => ?_
  obtain ⟨a, u, p, rfl⟩ : ∃ (a : Fin 128) (u : Fin 1) (p : Fin 64), y = ix3 a u p := ⟨y 0, y 1, y 2, eq_ix3 y⟩
  obtain rfl : u = 0 := Subsingleton.elim _ _
  have e : out0_10 (iblk m c 0 t) (iblk m c 1 t) (iblk m c 2 t) (iblk m c 3 t) (iblk m c 4 t) (iblk m c 5 t) (iblk m c 6 t) (iblk m c 7 t)
      (iblk m c 8 t) (ix3 a 0 p) = val_main_v146 (F := Ideal) (A0 m c) (A1 m c) (A2 m c) (A3 m c) (A4 m c) (A5 m c) (A6 m c) (A7 m c) (A8 m c) (ix3 a 0 p) := by
    rw [blk0, blk1, blk2, blk3, blk4, blk5, blk6, blk7, blk8, out10]
  blk_simp [idx_val t]
  rw [after0_10]
  refine e.trans (congrArg _ ?_)
  blk_ext [idx_val t]

theorem final_11 : (dats m 0 c).arrAt 11 (cfgs 0).N = val_main_v147 (F := Ideal) (A0 m c) (A1 m c) (A2 m c) (A3 m c) (A4 m c) (A5 m c) (A6 m c) (A7 m c) (A8 m c) := by
  refine (dats m 0 c).arrAt_eq_of_covers 11 _ (by decide +kernel) fun t hf y => ?_
  obtain ⟨a, u, v, rfl⟩ : ∃ (a : Fin 128) (u v : Fin 1), y = ix3 a u v := ⟨y 0, y 1, y 2, eq_ix3 y⟩
  obtain rfl : u = 0 := Subsingleton.elim _ _
  obtain rfl : v = 0 := Subsingleton.elim _ _
  have e : out0_11 (iblk m c 0 t) (iblk m c 1 t) (iblk m c 2 t) (iblk m c 3 t) (iblk m c 4 t) (iblk m c 5 t) (iblk m c 6 t) (iblk m c 7 t)
      (iblk m c 8 t) (ix3 a 0 0) = val_main_v147 (F := Ideal) (A0 m c) (A1 m c) (A2 m c) (A3 m c) (A4 m c) (A5 m c) (A6 m c) (A7 m c) (A8 m c) (ix3 a 0 0) := by
    rw [blk0, blk1, blk2, blk3, blk4, blk5, blk6, blk7, blk8, out11]
  blk_simp [idx_val t]
  rw [after0_11]
  refine e.trans (congrArg _ ?_)
  blk_ext [idx_val t]

theorem final_12 : (dats m 0 c).arrAt 12 (cfgs 0).N = val_main_v148 (F := Ideal) (A0 m c) (A1 m c) (A2 m c) (A7 m c) (A8 m c) := by
  refine (dats m 0 c).arrAt_eq_of_covers 12 _ (by decide +kernel) fun t hf y => ?_
  obtain ⟨a, u, p, rfl⟩ : ∃ (a : Fin 128) (u : Fin 16) (p : Fin 64), y = ix3 a u p := ⟨y 0, y 1, y 2, eq_ix3 y⟩
  have e : out0_12 (iblk m c 0 t) (iblk m c 1 t) (iblk m c 2 t) (iblk m c 3 t) (iblk m c 4 t) (iblk m c 5 t) (iblk m c 6 t) (iblk m c 7 t)
      (iblk m c 8 t) (ix3 a u p) = val_main_v148 (F := Ideal) (A0 m c) (A1 m c) (A2 m c) (A7 m c) (A8 m c) (ix3 a u p) := by
    rw [blk0, blk1, blk2, blk3, blk4, blk5, blk6, blk7, blk8, out12]
  blk_simp [idx_val t]
  rw [after0_12]
  refine e.trans (congrArg _ ?_)
  blk_ext [idx_val t]

theorem final_13 : (dats m 0 c).arrAt 13 (cfgs 0).N = val_main_v149 (F := Ideal) (A0 m c) (A1 m c) (A2 m c) (A7 m c) (A8 m c) := by
  refine (dats m 0 c).arrAt_eq_of_covers 13 _ (by decide +kernel) fun t hf y => ?_
  obtain ⟨a, u, p, rfl⟩ : ∃ (a : Fin 128) (u : Fin 16) (p : Fin 64), y = ix3 a u p := ⟨y 0, y 1, y 2, eq_ix3 y⟩
  have e : out0_13 (iblk m c 0 t) (iblk m c 1 t) (iblk m c 2 t) (iblk m c 3 t) (iblk m c 4 t) (iblk m c 5 t) (iblk m c 6 t) (iblk m c 7 t)
      (iblk m c 8 t) (ix3 a u p) = val_main_v149 (F := Ideal) (A0 m c) (A1 m c) (A2 m c) (A7 m c) (A8 m c) (ix3 a u p) := by
    rw [blk0, blk1, blk2, blk3, blk4, blk5, blk6, blk7, blk8, out13]
  blk_simp [idx_val t]
  rw [after0_13]
  refine e.trans (congrArg _ ?_)
  blk_ext [idx_val t]

set_option maxHeartbeats 1000000 in
/-- The pair: the kernel's five results are the reference's. -/
theorem value : Cert.algebraic_PrepBwdIdeal_PrepRefIdeal := by
  pair_intro
  · run_from Cert.PrepBwdIdeal.Gen.run_main m g
  · refine (θ_run Cert.PrepRefIdeal.defs _ _).mono (fun _ h c => ⟨(h c).1.trans ?_, (h c).2.1.trans ?_, (h c).2.2.1.trans ?_,
      (h c).2.2.2.1.trans ?_, (h c).2.2.2.2.1.trans ?_, (h c).2.2.2.2.2⟩)
      (Cert.PrepRefIdeal.Value.run (F := Ideal) m' g')
    all_goals obtain ⟨e0, e1, e2, e3, e4, e5, e6, e7, e8⟩ := hagree c
    · refine (val_main_v145_eq m' c).trans ?_
      rw [e0, e1, e2, e3, e4, e5, e6, e7, e8]
      exact (final_9 m c).symm
    · refine (val_main_v146_eq m' c).trans ?_
      rw [e0, e1, e2, e3, e4, e5, e6, e7, e8]
      exact (final_10 m c).symm
    · refine (val_main_v147_eq m' c).trans ?_
      rw [e0, e1, e2, e3, e4, e5, e6, e7, e8]
      exact (final_11 m c).symm
    · refine (val_main_v148_eq _ _ _ _ _).trans ?_
      rw [e0, e1, e2, e7, e8]
      exact (final_12 m c).symm
    · refine (val_main_v149_eq _ _ _ _ _).trans ?_
      rw [e0, e1, e2, e7, e8]
      exact (final_13 m c).symm

/-- The reference's run leaves its arguments; it has no semaphore. -/
theorem frame_ref : Cert.quiescent_PrepRefIdeal := fun m ρ _ =>
  (θ_run Cert.PrepRefIdeal.defs _ _).mono
    (fun r h => ⟨fun c => (h c).2.2.2.2.2, sem_eq_zero_of_no_sems (by decide) r.2⟩)
    (Cert.PrepRefIdeal.Value.run (F := Ideal) m ρ)

end Cert.PrepBwdIdeal.Val

end
-- ==== Proof.PoolFwd.lean ====
module

public import proofs.«01_k».proof.Defs
public import proofs.«01_k».proof.Proof.PoolRef
public import proofs.«01_k».proof.Proof.Gen.PoolFwdIdeal.Value
public import proofs.«01_k».proof.Proof.Gen.PoolFwdRefIdeal.Run
public import proofs.«01_k».proof.Proof.Gen.PoolFwdRefIdeal.Read
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.PoolFwdIdeal.Val

open Cert.PoolFwdIdeal Cert.PoolFwdIdeal.Gen
open Cert.PoolFwdRefIdeal.Read
open Cert.PoolBwdIdeal.Val (gcol rx)

section Cells

/-- The pooled rows a block multiplies by its matrix. -/
def pooledBlk (i : grid0.Coords) (v0 : Vec Ideal S2048x512 .f32) : FVec Ideal S2048x512 .bf16 :=
  truncf .bf16 (subf (divf (Cert.PoolBwdIdeal.Val.stepDn (BitVec.ofNat 32 (i 0).val) 3#32 8#32 (k0_pay3 i v0)) (k0_pay2 i)) v0) bitsLt_bf16_f32

/-- They are the ones the backward call computes from the same block. -/
theorem pooledBlk_cell (i : grid0.Coords) (a0 : S2048x512.Idx → ℝ) (r : Fin 2048) (l : Fin 512) :
    pooledBlk i (fun j => (a0 j : EReal)) (ix2 r l) = ((Pool.pooled (i 0).val (Pool.ext fun r => a0 (ix2 r l)) r.val : ℝ) : EReal) :=
  Cert.PoolBwdIdeal.Val.pooled_cell i a0 r l

variable (w : FVec Ideal S1x512x512 .bf16) (b sc : FVec Ideal S1x512 .f32) (x : FVec Ideal S2048x512 .f32)

/-- What the block becomes of its pooled rows. -/
def mixed (p : FVec Ideal S2048x512 .bf16) : FVec Ideal S2048x512 .f32 :=
  addf x (mulf (addf (matmul dot_S2048x512_S512x512_S2048x512_1_0_0_1_n_n none p (shapeCast S512x512 w shapeCasts_S1x512x512_S512x512)
    (constant S2048x512 .f32 0x00000000#32)) (broadcastTo S2048x512 (shapeCast S1x512 b shapeCasts_S1x512_S1x512) broadcasts_S1x512_S2048x512))
    (broadcastTo S2048x512 (shapeCast S1x512 sc shapeCasts_S1x512_S1x512) broadcasts_S1x512_S2048x512))

theorem mixed_cell (p : FVec Ideal S2048x512 .bf16) (r : Fin 2048) (l : Fin 512) :
    mixed w b sc x p (ix2 r l) = x (ix2 r l) + ((∑ k : Fin 512, p (ix2 r k) * w (ix3 0 k l)) + b (ix2 0 l)) * sc (ix2 0 l) := by
  pointwise [mixed]

theorem out5 (i : grid0.Coords) (a0 : FVec Ideal S2048x512 .f32) : out0_5 (F := Ideal) i a0 x w b sc = mixed w b sc x (pooledBlk i a0) := by
  unfold out0_5
  frame_out
  rfl

end Cells

section Reference

/-- The pooled array of the two references is one. -/
theorem pooled_ref (X : FVec Ideal Cert.PoolFwdRefIdeal.S2048x2048 .f32) :
    val_main_v45 (F := Ideal) X = Cert.PoolRefIdeal.Read.val_main_v46 (F := Ideal) X := rfl

variable (x0 : Cert.PoolFwdRefIdeal.S2048x2048.Idx → ℝ) (X : FVec Ideal Cert.PoolFwdRefIdeal.S2048x2048 .f32)
  (W : FVec Ideal Cert.PoolFwdRefIdeal.S4x512x512 .f32) (B S : FVec Ideal Cert.PoolFwdRefIdeal.S2048 .f32)

theorem v55 (r : Fin 2048) (a : Fin 4) (c : Fin 512) :
    val_main_v55 (F := Ideal) (fun i => (x0 i : EReal)) X W B S (ix2 r (gcol a c))
      = X (ix2 r (gcol a c)) + ((∑ k : Fin 512, ((Pool.pooled a.val (rx x0 a k) r.val : ℝ) : EReal) * W (ix3 a k c)) + B (ix1 (gcol a c)))
          * S (ix1 (gcol a c)) := by
  have h := fun k => Cert.PoolBwdIdeal.Val.v46 x0 r a k
  have hq : (gcol a c).val / 512 < 4 := by show (a.val * 512 + c.val) / 512 < 4; omega
  have hr : (gcol a c).val % 512 < 512 := by omega
  have e1 : (⟨(gcol a c).val / 512, hq⟩ : Fin 4) = a := Fin.ext (by show (a.val * 512 + c.val) / 512 = a.val; omega)
  have e2 : (⟨(gcol a c).val % 512, hr⟩ : Fin 512) = c := Fin.ext (by show (a.val * 512 + c.val) % 512 = c.val; omega)
  pointwise [val_main_v55, val_main_v54, val_main_v53, val_main_v52, val_main_v51, val_main_v50, val_main_v49, val_main_v48, val_main_v47,
    val_main_v46]
  simp only [e1, e2, pooled_ref, h]
  exact congrArg (fun z => X (ix2 r (gcol a c)) + (z + B (ix1 (gcol a c))) * S (ix1 (gcol a c))) (Finset.sum_congr rfl fun _ _ => mul_comm _ _)

end Reference

variable (m : (ℓ : Loc nD τ sig) → Buf (Elt Ideal) ℓ)

abbrev A0 (c : Dev nD) : FVec Ideal S2048x2048 .f32 := m ((c : Thread nD τ).loc main_arg0)
abbrev A1 (c : Dev nD) : FVec Ideal S2048x2048 .f32 := m ((c : Thread nD τ).loc main_arg1)
abbrev A2 (c : Dev nD) : FVec Ideal S4x512x512 .f32 := m ((c : Thread nD τ).loc main_arg2)
abbrev A3 (c : Dev nD) : FVec Ideal S2048 .f32 := m ((c : Thread nD τ).loc main_arg3)
abbrev A4 (c : Dev nD) : FVec Ideal S2048 .f32 := m ((c : Thread nD τ).loc main_arg4)

theorem idx_val : ∀ t : Fin cfg0.N, win0_0.index t = ![0, t.val] ∧ win0_1.index t = ![0, t.val]
    ∧ win0_2.index t = ![t.val, 0, 0] ∧ win0_3.index t = ![0, t.val] ∧ win0_4.index t = ![0, t.val]
    ∧ win0_5.index t = ![0, t.val] := by decide +kernel

theorem N_lt (t : Fin cfg0.N) : t.val < 4 := lt_of_lt_of_eq t.isLt N_0

/-- The group a point works on. -/
def grp (t : Fin cfg0.N) : Fin 4 := ⟨t.val, N_lt t⟩

theorem coord_val : ∀ t : Fin cfg0.N, ((grid0.coords t) 0).val = t.val := by decide +kernel

theorem blk0 (c : Dev nD) (t : Fin cfg0.N) : iblk m c 0 t = fun i : S2048x512.Idx => A0 m c (ix2 (i 0) (gcol (grp t) (i 1))) := by
  funext i; idx_vars i; blk_point [iblk, V, idx_val t, grp, gcol]

theorem blk1 (c : Dev nD) (t : Fin cfg0.N) : iblk m c 1 t = fun i : S2048x512.Idx => A1 m c (ix2 (i 0) (gcol (grp t) (i 1))) := by
  funext i; idx_vars i; blk_point [iblk, V, idx_val t, grp, gcol]

theorem blk2 (c : Dev nD) (t : Fin cfg0.N) : iblk m c 2 t = fun i : S1x512x512.Idx => A2 m c (ix3 (grp t) (i 1) (i 2)) := by
  funext i; idx_vars i; blk_simp [iblk, idx_val t]; entry_read; pointwise
  have e : ((View.whole main_v0).slice (win0_2.rect t)).emb (ix3 i0 i1 i2) = ix3 (grp t) i1 i2 := by
    blk_ext [idx_val t, grp, gcol]
  rw [e]

theorem blk3 (c : Dev nD) (t : Fin cfg0.N) : iblk m c 3 t = fun i : S1x512.Idx => A3 m c (ix1 (gcol (grp t) (i 1))) := by
  funext i; idx_vars i; blk_simp [iblk, idx_val t]; entry_read; pointwise
  have e : ((View.whole main_v1).slice (win0_3.rect t)).emb (ix2 i0 i1) = ix2 (0 : Fin 1) (gcol (grp t) i1) := by
    blk_ext [idx_val t, grp, gcol]
  rw [e]; rfl

theorem blk4 (c : Dev nD) (t : Fin cfg0.N) : iblk m c 4 t = fun i : S1x512.Idx => A4 m c (ix1 (gcol (grp t) (i 1))) := by
  funext i; idx_vars i; blk_simp [iblk, idx_val t]; entry_read; pointwise
  have e : ((View.whole main_v2).slice (win0_4.rect t)).emb (ix2 i0 i1) = ix2 (0 : Fin 1) (gcol (grp t) i1) := by
    blk_ext [idx_val t, grp, gcol]
  rw [e]; rfl

theorem final_5 (c : Dev nD) {x0 : S2048x2048.Idx → ℝ} (h0 : A0 m c = fun i => (x0 i : EReal)) :
    (dats m 0 c).arrAt 5 (cfgs 0).N = val_main_v55 (F := Ideal) (A0 m c) (A1 m c) (A2 m c) (A3 m c) (A4 m c) := by
  refine (dats m 0 c).arrAt_eq_of_covers 5 _ (by decide +kernel) fun t hf y => ?_
  have ht := N_lt t
  obtain ⟨r, l, rfl⟩ : ∃ (r : Fin 2048) (l : Fin 512), y = ix2 r l := ⟨y 0, y 1, eq_ix2 y⟩
  have e : out0_5 (grid0.coords t) (iblk m c 0 t) (iblk m c 1 t) (iblk m c 2 t) (iblk m c 3 t) (iblk m c 4 t) (ix2 r l)
      = val_main_v55 (F := Ideal) (A0 m c) (A1 m c) (A2 m c) (A3 m c) (A4 m c) (ix2 r (gcol (grp t) l)) := by
    have hp := fun k => pooledBlk_cell (grid0.coords t) (fun i => x0 (ix2 (i 0) (gcol (grp t) (i 1)))) r k
    rw [blk0, blk1, blk2, blk3, blk4, h0, out5, v55, mixed_cell]
    simp only [hp, coord_val t]
    rfl
  blk_simp [idx_val t]
  rw [after0_5]
  refine e.trans (congrArg _ ?_)
  blk_ext [idx_val t, grp, gcol]

section Value

variable [Cert.Pre_finite_poolf.Facts]

theorem finite (X Y : FVec Ideal Cert.Pre_finite_poolf.S2048x2048 .f32)
    (W : FVec Ideal Cert.Pre_finite_poolf.S4x512x512 .f32) (B C : FVec Ideal Cert.Pre_finite_poolf.S2048 .f32)
    (h : Cert.Pre_finite_poolf.fn (F := Ideal) X Y W B C = fun _ => 1#1) :
    ∃ x : S2048x2048.Idx → ℝ, X = fun i => (x i : EReal) := by
  have e := congrFun h ValueIdx.ix0
  dsimp only [Cert.Pre_finite_poolf.fn] at e
  haveI : Subsingleton Cert.Pre_finite_poolf.S_.Idx := ⟨fun a b => funext fun k => k.elim0⟩
  exact Base.real_fun fun y => Base.real_of_word_f32 (Host.reduce_andi_all _ _ _ _ _ e y)

/-- The pair: on a finite `h` the kernel's result is the reference's. -/
theorem value : Cert.algebraic_PoolFwdIdeal_PoolFwdRefIdeal_pre_finite_poolf := by
  pair_intro
  · run_from Cert.PoolFwdIdeal.Gen.run_main m g
  · refine (θ_run Cert.PoolFwdRefIdeal.defs _ _).mono (fun _ h c => ⟨(h c).1.trans ?_, (h c).2⟩)
      (Cert.PoolFwdRefIdeal.Value.run (F := Ideal) m' g')
    obtain ⟨x0, h0⟩ := finite _ _ _ _ _ (hpre c)
    obtain ⟨e0, e1, e2, e3, e4⟩ := hagree c
    refine (val_main_v55_eq m' c).trans ?_
    rw [e0, e1, e2, e3, e4]
    exact (final_5 m c h0).symm

/-- The reference's run leaves its arguments; it has no semaphore. -/
theorem frame_ref : Cert.quiescent_PoolFwdRefIdeal := fun m ρ _ =>
  (θ_run Cert.PoolFwdRefIdeal.defs _ _).mono
    (fun r h => ⟨fun c => (h c).2, sem_eq_zero_of_no_sems (by decide) r.2⟩)
    (Cert.PoolFwdRefIdeal.Value.run (F := Ideal) m ρ)

end Value

end Cert.PoolFwdIdeal.Val

end
-- ==== Proof.RmsFwd.lean ====
module

public import proofs.«01_k».proof.Defs
public import proofs.«01_k».proof.Proof.Base
public import proofs.«01_k».proof.Proof.Gen.RmsFwdIdeal.Value
public import proofs.«01_k».proof.Proof.Gen.RmsFwdRefIdeal.Run
public import proofs.«01_k».proof.Proof.Gen.RmsFwdRefIdeal.Read

/-! The value of `_rms_fwd`: the norm of the rows, rounded and not; both programs compute one expression. -/

@[expose] public section

set_option maxRecDepth 16384

noncomputable section

open Idealize.ShloMosaic Idealize.ShloMosaic.TcCoe Idealize.SL.Sem
open Idealize.ShloMosaic.Pipeline (Dat)

namespace Cert.RmsFwdIdeal.Val

open Cert.RmsFwdIdeal Cert.RmsFwdIdeal.Gen
open Cert.RmsFwdRefIdeal.Read

/-- The norm of a row tile, cell by cell. -/
theorem cell (X : FVec Ideal S2048x2048 .f32) (G : FVec Ideal S2048 .f32) (ρ : Fin 256 → Fin 2048) (r : Fin 256) (l : Fin 2048) :
    k0_pay1 (F := Ideal) (fun i : S256x2048.Idx => X (ix2 (ρ (i 0)) (i 1))) (fun i : S1x2048.Idx => G (ix1 (i 1))) (ix2 r l)
      = val_main_v12 (F := Ideal) X G (ix2 (ρ r) l) := by
  pointwise [k0_pay1, val_main_v12, val_main_v11, val_main_v10, val_main_v9, val_main_v8, val_main_v7, val_main_v6, val_main_v5,
    val_main_cst_1, val_main_v4, val_main_v3, val_main_cst_0, val_main_v2, val_main_v1, val_main_v0, val_main_cst]

theorem cell16 (X : FVec Ideal S2048x2048 .f32) (G : FVec Ideal S2048 .f32) (ρ : Fin 256 → Fin 2048) (r : Fin 256) (l : Fin 2048) :
    k0_pay2 (F := Ideal) (fun i : S256x2048.Idx => X (ix2 (ρ (i 0)) (i 1))) (fun i : S1x2048.Idx => G (ix1 (i 1))) (ix2 r l)
      = val_main_v13 (F := Ideal) X G (ix2 (ρ r) l) := cell X G ρ r l

variable (m : (ℓ : Loc nD τ sig) → Buf (Elt Ideal) ℓ)

abbrev A0 (c : Dev nD) : FVec Ideal S2048x2048 .f32 := m ((c : Thread nD τ).loc main_arg0)
abbrev A1 (c : Dev nD) : FVec Ideal S2048 .f32 := m ((c : Thread nD τ).loc main_arg1)

theorem idx_val : ∀ t : Fin cfg0.N, win0_0.index t = ![t.val, 0] ∧ win0_1.index t = ![0, 0]
    ∧ win0_2.index t = ![t.val, 0] ∧ win0_3.index t = ![t.val, 0] := by decide +kernel

theorem N_lt (t : Fin cfg0.N) : t.val < 8 := lt_of_lt_of_eq t.isLt N_0

/-- Row `r` of the tile of rows at point `t`. -/
def row (t : Fin cfg0.N) (r : Fin 256) : Fin 2048 := ⟨t.val * 256 + r.val, by have := N_lt t; omega⟩

theorem blk0 (c : Dev nD) (t : Fin cfg0.N) : iblk m c 0 t = fun i : S256x2048.Idx => A0 m c (ix2 (row t (i 0)) (i 1)) := by
  funext i; idx_vars i; blk_point [iblk, V, idx_val t, row]

theorem blk1 (c : Dev nD) (t : Fin cfg0.N) : iblk m c 1 t = fun i : S1x2048.Idx => A1 m c (ix1 (i 1)) := by
  funext i; idx_vars i; blk_simp [iblk, idx_val t]; entry_read; pointwise
  have e : ((View.whole main_v0).slice (win0_1.rect t)).emb (ix2 i0 i1) = ix2 (0 : Fin 1) i1 := by
    blk_ext [idx_val t]
  rw [e]; rfl

theorem final_2 (c : Dev nD) : (dats m 0 c).arrAt 2 (cfgs 0).N = val_main_v13 (F := Ideal) (A0 m c) (A1 m c) := by
  refine (dats m 0 c).arrAt_eq_of_covers 2 _ (by decide +kernel) fun t hf y => ?_
  have ht := N_lt t
  obtain ⟨r, l, rfl⟩ : ∃ (r : Fin 256) (l : Fin 2048), y = ix2 r l := ⟨y 0, y 1, eq_ix2 y⟩
  have e : out0_2 (iblk m c 0 t) (iblk m c 1 t) (ix2 r l) = val_main_v13 (F := Ideal) (A0 m c) (A1 m c) (ix2 (row t r) l) := by
    rw [blk0, blk1]; unfold out0_2; frame_out
    exact cell16 _ _ (row t) r l
  blk_simp [idx_val t]
  rw [after0_2]
  refine e.trans (congrArg _ ?_)
  blk_ext [idx_val t, row]

theorem final_3 (c : Dev nD) : (dats m 0 c).arrAt 3 (cfgs 0).N = val_main_v12 (F := Ideal) (A0 m c) (A1 m c) := by
  refine (dats m 0 c).arrAt_eq_of_covers 3 _ (by decide +kernel) fun t hf y => ?_
  have ht := N_lt t
  obtain ⟨r, l, rfl⟩ : ∃ (r : Fin 256) (l : Fin 2048), y = ix2 r l := ⟨y 0, y 1, eq_ix2 y⟩
  have e : out0_3 (iblk m c 0 t) (iblk m c 1 t) (ix2 r l) = val_main_v12 (F := Ideal) (A0 m c) (A1 m c) (ix2 (row t r) l) := by
    rw [blk0, blk1]; unfold out0_3; frame_out
    exact cell _ _ (row t) r l
  blk_simp [idx_val t]
  rw [after0_3]
  refine e.trans (congrArg _ ?_)
  blk_ext [idx_val t, row]

/-- The pair: the kernel's two results are the reference's. -/
theorem value : Cert.algebraic_RmsFwdIdeal_RmsFwdRefIdeal := by
  pair_intro
  · run_from Cert.RmsFwdIdeal.Gen.run_main m g
  · refine (θ_run Cert.RmsFwdRefIdeal.defs _ _).mono (fun _ h c => ⟨(h c).1.trans ?_, (h c).2.1.trans ?_, (h c).2.2⟩)
      (Cert.RmsFwdRefIdeal.Value.run (F := Ideal) m' g')
    all_goals obtain ⟨e0, e1⟩ := hagree c
    · refine (val_main_v13_eq _ _).trans ?_
      rw [e0, e1]
      exact (final_2 m c).symm
    · refine (val_main_v12_eq _ _).trans ?_
      rw [e0, e1]
      exact (final_3 m c).symm

/-- The reference's run leaves its arguments; it has no semaphore. -/
theorem frame_ref : Cert.quiescent_RmsFwdRefIdeal := fun m ρ _ =>
  (θ_run Cert.RmsFwdRefIdeal.defs _ _).mono
    (fun r h => ⟨fun c => (h c).2.2, sem_eq_zero_of_no_sems (by decide) r.2⟩)
    (Cert.RmsFwdRefIdeal.Value.run (F := Ideal) m ρ)

end Cert.RmsFwdIdeal.Val

end
-- ==== Proof.QkFwd.lean ====
module

public import proofs.«01_k».proof.Defs
public import proofs.«01_k».proof.Proof.Base
public import proofs.«01_k».proof.Proof.Gen.QkFwdIdeal.Value
public import proofs.«01_k».proof.Proof.Gen.QkFwdRefIdeal.Run
public import proofs.«01_k».proof.Proof.Gen.QkFwdRefIdeal.Read

/-! The value of `_qk_norm_fwd`: each head of the queries, then each head of the keys, by the norm of its row. -/

@[expose] public section

set_option maxRecDepth 16384

noncomputable section

open Idealize.ShloMosaic Idealize.ShloMosaic.TcCoe Idealize.SL.Sem
open Idealize.ShloMosaic.Pipeline (Dat)

namespace Cert.QkFwdIdeal.Val

open Cert.QkFwdIdeal Cert.QkFwdIdeal.Gen
open Cert.QkFwdRefIdeal.Read

/-- Lane `l` of head `h`: among the columns of one part, of the projection (the keys' come second), of the result. -/
def col (h : Fin 16) (l : Fin 128) : Fin 2048 := ⟨h.val * 128 + l.val, by omega⟩
def qcol (h : Fin 16) (l : Fin 128) : Fin 6144 := ⟨h.val * 128 + l.val, by omega⟩
def kcol (h : Fin 16) (l : Fin 128) : Fin 6144 := ⟨2048 + h.val * 128 + l.val, by omega⟩
def qout (h : Fin 16) (l : Fin 128) : Fin 4096 := ⟨h.val * 128 + l.val, by omega⟩
def kout (h : Fin 16) (l : Fin 128) : Fin 4096 := ⟨2048 + (h.val * 128 + l.val), by omega⟩

variable (X : FVec Ideal S2048x6144 .f32) (G H : FVec Ideal S128 .f32) (r : Fin 2048) (h : Fin 16) (l : Fin 128)

theorem q_cell : k0_pay1 (F := Ideal) (fun i : S2048x128.Idx => X (ix2 (i 0) (qcol h (i 1)))) (fun i : S1x1x128.Idx => G (ix1 (i 2))) (ix2 r l)
      = val_main_v31 (F := Ideal) X G (ix2 r (col h l)) := by
  have e1 : (col h l).val / 128 = h.val := by show (h.val * 128 + l.val) / 128 = h.val; omega
  have e2 : (col h l).val % 128 = l.val := by show (h.val * 128 + l.val) % 128 = l.val; omega
  pointwise [k0_pay1, val_main_v31, val_main_v15, val_main_v14, val_main_v13, val_main_v12, val_main_v11, val_main_v10, val_main_v9,
    val_main_v8, val_main_cst_1, val_main_v7, val_main_v6, val_main_cst_0, val_main_v5, val_main_v4, val_main_cst, val_main_v3, val_main_v2, val_main_v1, val_main_v0]
  simp only [e1, e2]
  rfl

theorem k_cell : k0_pay1 (F := Ideal) (fun i : S2048x128.Idx => X (ix2 (i 0) (kcol h (i 1)))) (fun i : S1x1x128.Idx => G (ix1 (i 2))) (ix2 r l)
      = val_main_v32 (F := Ideal) X G (ix2 r (col h l)) := by
  have e1 : (col h l).val / 128 = h.val := by show (h.val * 128 + l.val) / 128 = h.val; omega
  have e2 : (col h l).val % 128 = l.val := by show (h.val * 128 + l.val) % 128 = l.val; omega
  pointwise [k0_pay1, val_main_v32, val_main_v30, val_main_v29, val_main_v28, val_main_v27, val_main_v26, val_main_v25, val_main_v24,
    val_main_v23, val_main_cst_4, val_main_v22, val_main_v21, val_main_cst_3, val_main_v20, val_main_v19, val_main_cst_2, val_main_v18, val_main_v17, val_main_v16, val_main_v0]
  simp only [e1, e2]
  rfl

theorem out_q : val_main_v34 (F := Ideal) X G H (ix2 r (qout h l)) = val_main_v31 (F := Ideal) X G (ix2 r (col h l)) := by
  have e : (qout h l).val < 2048 := by show h.val * 128 + l.val < 2048; omega
  pointwise [val_main_v34, val_main_v33]
  rw [dif_pos e]
  rfl

theorem out_k : val_main_v34 (F := Ideal) X G H (ix2 r (kout h l)) = val_main_v32 (F := Ideal) X H (ix2 r (col h l)) := by
  have e : ¬ (kout h l).val < 2048 := by show ¬ 2048 + (h.val * 128 + l.val) < 2048; omega
  have e' : (kout h l).val - 2048 = h.val * 128 + l.val := by show 2048 + (h.val * 128 + l.val) - 2048 = _; omega
  pointwise [val_main_v34, val_main_v33]
  rw [dif_neg e]
  exact congrArg (fun k => val_main_v32 (F := Ideal) X H (ix2 r k)) (Fin.ext e')

variable (m : (ℓ : Loc nD τ sig) → Buf (Elt Ideal) ℓ)

abbrev A0 (c : Dev nD) : FVec Ideal S2048x6144 .f32 := m ((c : Thread nD τ).loc main_arg0)
abbrev A1 (c : Dev nD) : FVec Ideal S128 .f32 := m ((c : Thread nD τ).loc main_arg1)
abbrev A2 (c : Dev nD) : FVec Ideal S128 .f32 := m ((c : Thread nD τ).loc main_arg2)

theorem idx_val : ∀ t : Fin cfg0.N, win0_0.index t = ![0, t.val] ∧ win0_1.index t = ![t.val / 16, 0, 0]
    ∧ win0_2.index t = ![0, t.val] := by decide +kernel

theorem N_lt (t : Fin cfg0.N) : t.val < 32 := lt_of_lt_of_eq t.isLt N_0

/-- A point of the grid is a head of the queries or one of the keys. -/
theorem q_or_k (t : Fin cfg0.N) : (∃ h : Fin 16, t.val = h.val) ∨ ∃ h : Fin 16, t.val = 16 + h.val := by
  have := N_lt t
  by_cases e : t.val < 16
  · exact Or.inl ⟨⟨t.val, e⟩, rfl⟩
  · exact Or.inr ⟨⟨t.val - 16, by omega⟩, by show t.val = 16 + (t.val - 16); omega⟩

variable (c : Dev nD) (t : Fin cfg0.N) {h}

theorem blk0_q (e : t.val = h.val) : iblk m c 0 t = fun i : S2048x128.Idx => A0 m c (ix2 (i 0) (qcol h (i 1))) := by
  funext i; idx_vars i; blk_point [iblk, V, idx_val t, qcol, e]

theorem blk0_k (e : t.val = 16 + h.val) : iblk m c 0 t = fun i : S2048x128.Idx => A0 m c (ix2 (i 0) (kcol h (i 1))) := by
  funext i; idx_vars i; blk_point [iblk, V, idx_val t, kcol, e]

theorem blk1_q (e : t.val = h.val) : iblk m c 1 t = fun i : S1x1x128.Idx => A1 m c (ix1 (i 2)) := by
  have ht : t.val / 16 = 0 := by have := h.isLt; omega
  funext i; idx_vars i; blk_simp [iblk, idx_val t]; entry_read; pointwise
  have e : ((View.whole main_v3).slice (win0_1.rect t)).emb (ix3 i0 i1 i2) = ix3 (0 : Fin 2) (0 : Fin 1) i2 := by
    blk_ext [idx_val t]
  rw [e]; rfl

theorem blk1_k (e : t.val = 16 + h.val) : iblk m c 1 t = fun i : S1x1x128.Idx => A2 m c (ix1 (i 2)) := by
  have ht : t.val / 16 = 1 := by have := h.isLt; omega
  funext i; idx_vars i; blk_simp [iblk, idx_val t]; entry_read; pointwise
  have e : ((View.whole main_v3).slice (win0_1.rect t)).emb (ix3 i0 i1 i2) = ix3 (1 : Fin 2) (0 : Fin 1) i2 := by
    blk_ext [idx_val t]
  rw [e]; rfl

theorem final_2 : (dats m 0 c).arrAt 2 (cfgs 0).N = val_main_v34 (F := Ideal) (A0 m c) (A1 m c) (A2 m c) := by
  refine (dats m 0 c).arrAt_eq_of_covers 2 _ (by decide +kernel) fun t hf y => ?_
  have ht := N_lt t
  obtain ⟨r, l, rfl⟩ : ∃ (r : Fin 2048) (l : Fin 128), y = ix2 r l := ⟨y 0, y 1, eq_ix2 y⟩
  obtain ⟨h, et⟩ | ⟨h, et⟩ := q_or_k t
  · have e : out0_2 (iblk m c 0 t) (iblk m c 1 t) (ix2 r l) = val_main_v34 (F := Ideal) (A0 m c) (A1 m c) (A2 m c) (ix2 r (qout h l)) := by
      rw [blk0_q m c t et, blk1_q m c t et, out_q]; unfold out0_2; frame_out
      exact q_cell _ _ r h l
    blk_simp [idx_val t]
    rw [after0_2]
    refine e.trans (congrArg _ ?_)
    blk_ext [idx_val t, qout, et]
  · have e : out0_2 (iblk m c 0 t) (iblk m c 1 t) (ix2 r l) = val_main_v34 (F := Ideal) (A0 m c) (A1 m c) (A2 m c) (ix2 r (kout h l)) := by
      rw [blk0_k m c t et, blk1_k m c t et, out_k]; unfold out0_2; frame_out
      exact k_cell _ _ r h l
    blk_simp [idx_val t]
    rw [after0_2]
    refine e.trans (congrArg _ ?_)
    blk_ext [idx_val t, kout, et]

/-- The pair: the kernel's result is the reference's. -/
theorem value : Cert.algebraic_QkFwdIdeal_QkFwdRefIdeal := by
  pair_intro
  · run_from Cert.QkFwdIdeal.Gen.run_main m g
  · refine (θ_run Cert.QkFwdRefIdeal.defs _ _).mono (fun _ h c => ⟨(h c).1.trans ?_, (h c).2⟩)
      (Cert.QkFwdRefIdeal.Value.run (F := Ideal) m' g')
    obtain ⟨e0, e1, e2⟩ := hagree c
    refine (val_main_v34_eq _ _ _).trans ?_
    rw [e0, e1, e2]
    exact (final_2 m c).symm

/-- The reference's run leaves its arguments; it has no semaphore. -/
theorem frame_ref : Cert.quiescent_QkFwdRefIdeal := fun m ρ _ =>
  (θ_run Cert.QkFwdRefIdeal.defs _ _).mono
    (fun r h => ⟨fun c => (h c).2, sem_eq_zero_of_no_sems (by decide) r.2⟩)
    (Cert.QkFwdRefIdeal.Value.run (F := Ideal) m ρ)

end Cert.QkFwdIdeal.Val

end
-- ==== Proof.ConvFwd.lean ====
module

public import proofs.«01_k».proof.Defs
public import proofs.«01_k».proof.Proof.Base
public import Idealize.ShloMosaic.Lib.WordCmp
public import proofs.«01_k».proof.Proof.Gen.ConvFwdIdeal.Value
public import proofs.«01_k».proof.Proof.Gen.ConvFwdRefIdeal.Run
public import proofs.«01_k».proof.Proof.Gen.ConvFwdRefIdeal.Read

/-! The value of `_conv_gate_fwd`: the short convolution of each column of values and gates, and the gated product. -/

@[expose] public section

set_option maxRecDepth 16384

noncomputable section

open Idealize.ShloMosaic Idealize.ShloMosaic.TcCoe Idealize.SL.Sem
open Idealize.ShloMosaic.Pipeline (Dat)

namespace Cert.ConvFwdIdeal.Val

open Cert.ConvFwdIdeal Cert.ConvFwdIdeal.Gen
open Cert.ConvFwdRefIdeal.Read

/-- A column moved down by `k` rows, zeros coming in at the top. -/
def dn (k : ℕ) (u : Fin 2048 → EReal) (r : Fin 2048) : EReal :=
  if h : r.val < k then 0 else u ⟨r.val - k, by omega⟩

/-- The convolution of a column: the taps on the rows two above, one above and here. -/
def conv (w0 w1 w2 b : EReal) (u : Fin 2048 → EReal) (r : Fin 2048) : EReal :=
  b + (w0 * dn 2 u r + w1 * dn 1 u r + w2 * u r)

/-- The gated product of a value and a gate. -/
def gated (v g : EReal) : EReal := g * Ideal.div 1 (1 + Ideal.exp (-g)) * v

/-- A rotated column with its first `k` rows set to zero. -/
theorem sel_dn (k : ℕ) (hk : k < 2048) (u : Fin 2048 → EReal) (r : Fin 2048) :
    Scalar.select (IntOp.cmpi .sge (BitVec.ofNat 32 r.val) (BitVec.ofNat 32 k))
      (u ⟨(r.val + 2048 - k) % 2048, Nat.mod_lt _ (by norm_num)⟩) 0 = dn k u r := by
  have hr := r.isLt
  have e := WordCmp.cmpi_sge_ofNat_eq_one_iff (w := 32) (a := r.val) (b := k) (by norm_num; omega) (by norm_num; omega)
  rw [dn, Scalar.select]
  by_cases h : r.val < k
  · rw [dif_pos h]; exact if_neg fun hc => absurd (e.1 hc) (by omega)
  · rw [dif_neg h]
    refine (if_pos (e.2 (by omega))).trans (congrArg u (Fin.ext ?_))
    show (r.val + 2048 - k) % 2048 = r.val - k
    omega

theorem dn_mul (k : ℕ) (w : EReal) (u : Fin 2048 → EReal) (r : Fin 2048) : dn k (fun r => w * u r) r = w * dn k u r := by
  unfold dn; split_ifs <;> simp

/-- The column padded by two zeros, read from its row one. -/
theorem slice_dn1 (u : Fin 2048 → EReal) (r : Fin 2048) :
    (if h : 1 + r.val < 2 then (0 : EReal) else u ⟨1 + r.val - 2, by omega⟩) = dn 1 u r := by
  unfold dn
  by_cases h : r.val < 1
  · rw [dif_pos (by omega), dif_pos h]
  · rw [dif_neg (by omega), dif_neg h]; exact congrArg u (Fin.ext (by show 1 + r.val - 2 = r.val - 1; omega))

/-- Column `n` of the values' half and of the gates' half. -/
def vcol (n : Fin 5632) : Fin 11264 := ⟨n.val, by omega⟩
def gcol (n : Fin 5632) : Fin 11264 := ⟨5632 + n.val, by omega⟩

section Cells

variable (X Y : FVec Ideal S2048x256 .f32) (W U : FVec Ideal S3x256 .f32) (B C : FVec Ideal S1x256 .f32)

theorem out6 (r : Fin 2048) (l : Fin 256) : out0_6 (F := Ideal) X Y W U B C (ix2 r l)
    = gated (conv (W (ix2 0 l)) (W (ix2 1 l)) (W (ix2 2 l)) (B (ix2 0 l)) (fun r => X (ix2 r l)) r)
        (conv (U (ix2 0 l)) (U (ix2 1 l)) (U (ix2 2 l)) (C (ix2 0 l)) (fun r => Y (ix2 r l)) r) := by
  have v2 := sel_dn 2 (by norm_num) (fun r => W (ix2 0 l) * X (ix2 r l)) r
  have v1 := sel_dn 1 (by norm_num) (fun r => W (ix2 1 l) * X (ix2 r l)) r
  have g2 := sel_dn 2 (by norm_num) (fun r => U (ix2 0 l) * Y (ix2 r l)) r
  have g1 := sel_dn 1 (by norm_num) (fun r => U (ix2 1 l) * Y (ix2 r l)) r
  unfold out0_6
  frame_out
  pointwise [k0_pay1, k0_pay2, k0_pay3, k0_pay4, k0_pay5, k0_pay6]
  simp only [v1, v2, g1, g2, dn_mul, zero_sub, add_assoc, gated, conv]

end Cells

section Reference

variable (X : FVec Ideal Cert.ConvFwdRefIdeal.S2048x11264 .f32) (W : FVec Ideal Cert.ConvFwdRefIdeal.S3x11264 .f32)
  (B : FVec Ideal Cert.ConvFwdRefIdeal.S11264 .f32)

theorem v26 (r : Fin 2048) (n : Fin 11264) : val_main_v26 (F := Ideal) X W B (ix2 r n)
    = conv (W (ix2 0 n)) (W (ix2 1 n)) (W (ix2 2 n)) (B (ix1 n)) (fun r => X (ix2 r n)) r := by
  have e1 := slice_dn1 (fun r => X (ix2 r n)) r
  pointwise [val_main_v26, val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_cst_0, val_main_v7, val_main_v6, val_main_v5, val_main_v4, val_main_v3,
    val_main_v2, val_main_v1, val_main_v0, val_main_cst]
  simp only [e1]
  rfl

theorem v31 (r : Fin 2048) (n : Fin 5632) : val_main_v31 (F := Ideal) X W B (ix2 r n)
    = gated (val_main_v26 (F := Ideal) X W B (ix2 r (vcol n))) (val_main_v26 (F := Ideal) X W B (ix2 r (gcol n))) := by
  pointwise [val_main_v31, val_main_v30, val_main_v29, val_main_call0_v5, val_main_call0_v4, val_main_call0_cst_0,
    val_main_call0_v3, val_main_call0_v2, val_main_call0_cst, val_main_call0_v1, val_main_call0_v0, val_main_v28, val_main_v27]
  rfl

end Reference

variable (m : (ℓ : Loc nD τ sig) → Buf (Elt Ideal) ℓ)

abbrev A0 (c : Dev nD) : FVec Ideal S2048x11264 .f32 := m ((c : Thread nD τ).loc main_arg0)
abbrev A1 (c : Dev nD) : FVec Ideal S3x11264 .f32 := m ((c : Thread nD τ).loc main_arg1)
abbrev A2 (c : Dev nD) : FVec Ideal S11264 .f32 := m ((c : Thread nD τ).loc main_arg2)

theorem idx_val : ∀ t : Fin cfg0.N, win0_0.index t = ![0, t.val] ∧ win0_1.index t = ![0, t.val + 22]
    ∧ win0_2.index t = ![0, t.val] ∧ win0_3.index t = ![0, t.val + 22] ∧ win0_4.index t = ![0, t.val]
    ∧ win0_5.index t = ![0, t.val + 22] ∧ win0_6.index t = ![0, t.val] := by decide +kernel

theorem N_lt (t : Fin cfg0.N) : t.val < 22 := lt_of_lt_of_eq t.isLt N_0

/-- Column `l` of tile `t`. -/
def tcol (t : Fin cfg0.N) (l : Fin 256) : Fin 5632 := ⟨t.val * 256 + l.val, by have := N_lt t; omega⟩

variable (c : Dev nD)

theorem blk0 (t : Fin cfg0.N) : iblk m c 0 t = fun i : S2048x256.Idx => A0 m c (ix2 (i 0) (vcol (tcol t (i 1)))) := by
  funext i; idx_vars i; blk_point [iblk, V, idx_val t, tcol, vcol, gcol]

theorem blk1 (t : Fin cfg0.N) : iblk m c 1 t = fun i : S2048x256.Idx => A0 m c (ix2 (i 0) (gcol (tcol t (i 1)))) := by
  funext i; idx_vars i; blk_point [iblk, V, idx_val t, tcol, vcol, gcol]

theorem blk2 (t : Fin cfg0.N) : iblk m c 2 t = fun i : S3x256.Idx => A1 m c (ix2 (i 0) (vcol (tcol t (i 1)))) := by
  funext i; idx_vars i; blk_point [iblk, V, idx_val t, tcol, vcol, gcol]

theorem blk3 (t : Fin cfg0.N) : iblk m c 3 t = fun i : S3x256.Idx => A1 m c (ix2 (i 0) (gcol (tcol t (i 1)))) := by
  funext i; idx_vars i; blk_point [iblk, V, idx_val t, tcol, vcol, gcol]

theorem blk4 (t : Fin cfg0.N) : iblk m c 4 t = fun i : S1x256.Idx => A2 m c (ix1 (vcol (tcol t (i 1)))) := by
  funext i; idx_vars i; blk_simp [iblk, idx_val t]; entry_read; pointwise
  have e : ((View.whole main_v0).slice (win0_4.rect t)).emb (ix2 i0 i1) = ix2 (0 : Fin 1) (vcol (tcol t i1)) := by
    blk_ext [idx_val t, tcol, vcol, gcol]
  rw [e]; rfl

theorem blk5 (t : Fin cfg0.N) : iblk m c 5 t = fun i : S1x256.Idx => A2 m c (ix1 (gcol (tcol t (i 1)))) := by
  funext i; idx_vars i; blk_simp [iblk, idx_val t]; entry_read; pointwise
  have e : ((View.whole main_v0).slice (win0_5.rect t)).emb (ix2 i0 i1) = ix2 (0 : Fin 1) (gcol (tcol t i1)) := by
    blk_ext [idx_val t, tcol, vcol, gcol]
  rw [e]; rfl

theorem final_6 : (dats m 0 c).arrAt 6 (cfgs 0).N = val_main_v31 (F := Ideal) (A0 m c) (A1 m c) (A2 m c) := by
  refine (dats m 0 c).arrAt_eq_of_covers 6 _ (by decide +kernel) fun t hf y => ?_
  have ht := N_lt t
  obtain ⟨r, l, rfl⟩ : ∃ (r : Fin 2048) (l : Fin 256), y = ix2 r l := ⟨y 0, y 1, eq_ix2 y⟩
  have e : out0_6 (iblk m c 0 t) (iblk m c 1 t) (iblk m c 2 t) (iblk m c 3 t) (iblk m c 4 t) (iblk m c 5 t) (ix2 r l)
      = val_main_v31 (F := Ideal) (A0 m c) (A1 m c) (A2 m c) (ix2 r (tcol t l)) := by
    rw [blk0, blk1, blk2, blk3, blk4, blk5, out6, v31, v26, v26]
    rfl
  blk_simp [idx_val t]
  rw [after0_6]
  refine e.trans (congrArg _ ?_)
  blk_ext [idx_val t, tcol]

/-- The pair: the kernel's result is the reference's. -/
theorem value : Cert.algebraic_ConvFwdIdeal_ConvFwdRefIdeal := by
  pair_intro
  · run_from Cert.ConvFwdIdeal.Gen.run_main m g
  · refine (θ_run Cert.ConvFwdRefIdeal.defs _ _).mono (fun _ h c => ⟨(h c).1.trans ?_, (h c).2⟩)
      (Cert.ConvFwdRefIdeal.Value.run (F := Ideal) m' g')
    obtain ⟨e0, e1, e2⟩ := hagree c
    refine (val_main_v31_eq m' c).trans ?_
    rw [e0, e1, e2]
    exact (final_6 m c).symm

/-- The reference's run leaves its arguments; it has no semaphore. -/
theorem frame_ref : Cert.quiescent_ConvFwdRefIdeal := fun m ρ _ =>
  (θ_run Cert.ConvFwdRefIdeal.defs _ _).mono
    (fun r h => ⟨fun c => (h c).2, sem_eq_zero_of_no_sems (by decide) r.2⟩)
    (Cert.ConvFwdRefIdeal.Value.run (F := Ideal) m ρ)

end Cert.ConvFwdIdeal.Val

end
-- ==== Proof.PrepFwd.lean ====
module

public import proofs.«01_k».proof.Defs
public import proofs.«01_k».proof.Proof.Base
public import proofs.«01_k».proof.Proof.Gen.PrepFwdIdeal.Frame
public import proofs.«01_k».proof.Proof.Gen.PrepFwdRefIdeal.Run
public import proofs.«01_k».proof.Proof.Gen.PrepFwdRefIdeal.Read

/-! The value of `_ssm_prep_fwd`: the discretised state matrix and input matrix; both programs compute one expression. -/

@[expose] public section

set_option maxRecDepth 16384

noncomputable section

open Idealize.ShloMosaic Idealize.ShloMosaic.TcCoe Idealize.SL.Sem
open Idealize.ShloMosaic.Pipeline (Dat)

namespace Cert.PrepFwdIdeal.Val

open Cert.PrepFwdIdeal Cert.PrepFwdIdeal.Gen
open Cert.PrepFwdRefIdeal.Read

/-- One number per group and state, as the kernel's block holds it. -/
def row (x : FVec Ideal S128x64 .f32) : FVec Ideal S128x1x64 .f32 := fun i => x (ix2 (i 0) (i 2))
/-- One number per group, state and channel; the kernel's block has the channel before the state. -/
def mat (x : FVec Ideal S128x64x16 .f32) : FVec Ideal S128x16x64 .f32 := fun i => x (ix3 (i 0) (i 2) (i 1))
/-- One number per group. -/
def rate (x : FVec Ideal S128 .f32) : FVec Ideal S128x1x1 .f32 := fun i => x (ix1 (i 0))

section Outs

variable (x0 x1 : FVec Ideal S128x64 .f32) (x2 : FVec Ideal S128 .f32) (x3 x4 : FVec Ideal S128x64x16 .f32)

theorem out5 (a : Fin 128) (p : Fin 64) : out0_5 (F := Ideal) (row x0) (row x1) (rate x2) (mat x3) (mat x4) (ix3 a 0 p)
    = val_main_v42 (F := Ideal) x0 x1 x2 (ix3 a 0 p) := by
  unfold out0_5
  frame_out
  pointwise [k0_pay8, k0_pay7, k0_pay6, k0_pay3, k0_pay2, val_main_v42, val_main_v8, val_main_v7, val_main_v6, val_main_v5, val_main_v4, val_main_v3, val_main_v2, val_main_v1, val_main_v0, row, rate, mat]

theorem out6 (a : Fin 128) (p : Fin 64) : out0_6 (F := Ideal) (row x0) (row x1) (rate x2) (mat x3) (mat x4) (ix3 a 0 p)
    = val_main_v43 (F := Ideal) x0 x1 x2 (ix3 a 0 p) := by
  unfold out0_6
  frame_out
  pointwise [k0_pay9, k0_pay7, k0_pay6, k0_pay3, k0_pay2, val_main_v43, val_main_v12, val_main_v11, val_main_v10, val_main_v9, val_main_v4, val_main_v3, val_main_v2, val_main_v1, val_main_v0, row, rate, mat]

theorem out7 (a : Fin 128) (u : Fin 16) (p : Fin 64) : out0_7 (F := Ideal) (row x0) (row x1) (rate x2) (mat x3) (mat x4) (ix3 a u p)
    = val_main_v44 (F := Ideal) x0 x1 x2 x3 x4 (ix3 a u p) := by
  unfold out0_7
  frame_out
  pointwise [k0_pay1, k0_pay14, k0_pay13, k0_pay12, k0_pay11, k0_pay10, k0_pay9, k0_pay8, k0_pay7, k0_pay6, k0_pay5, k0_pay4, k0_pay3, k0_pay2, val_main_v44, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst_0, val_main_cst, row, rate, mat]

theorem out8 (a : Fin 128) (u : Fin 16) (p : Fin 64) : out0_8 (F := Ideal) (row x0) (row x1) (rate x2) (mat x3) (mat x4) (ix3 a u p)
    = val_main_v45 (F := Ideal) x0 x1 x2 x3 x4 (ix3 a u p) := by
  unfold out0_8
  frame_out
  pointwise [k0_pay1, k0_pay14, k0_pay13, k0_pay12, k0_pay11, k0_pay10, k0_pay9, k0_pay8, k0_pay7, k0_pay6, k0_pay5, k0_pay4, k0_pay3, k0_pay2, val_main_v45, val_main_v41, val_main_v40, val_main_v39, val_main_v38, val_main_v37, val_main_v36, val_main_v35, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst_0, val_main_cst, row, rate, mat]

end Outs

variable (m : (ℓ : Loc nD τ sig) → Buf (Elt Ideal) ℓ)

abbrev A0 (c : Dev nD) : FVec Ideal S128x64 .f32 := m ((c : Thread nD τ).loc main_arg0)
abbrev A1 (c : Dev nD) : FVec Ideal S128x64 .f32 := m ((c : Thread nD τ).loc main_arg1)
abbrev A2 (c : Dev nD) : FVec Ideal S128 .f32 := m ((c : Thread nD τ).loc main_arg2)
abbrev A3 (c : Dev nD) : FVec Ideal S128x64x16 .f32 := m ((c : Thread nD τ).loc main_arg3)
abbrev A4 (c : Dev nD) : FVec Ideal S128x64x16 .f32 := m ((c : Thread nD τ).loc main_arg4)

theorem idx_val : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 0, 0] := by decide +kernel

theorem blk0 (c : Dev nD) (t : Fin cfg0.N) : iblk m c 0 t = row (A0 m c) := by
  funext i; idx_vars i; blk_simp [iblk, idx_val t]; entry_read; pointwise
  have e : ((View.whole main_v0).slice (win0_0.rect t)).emb (ix3 i0 i1 i2) = ix3 i0 i1 i2 := by blk_ext [idx_val t]
  rw [e]; rfl

theorem blk1 (c : Dev nD) (t : Fin cfg0.N) : iblk m c 1 t = row (A1 m c) := by
  funext i; idx_vars i; blk_simp [iblk, idx_val t]; entry_read; pointwise
  have e : ((View.whole main_v1).slice (win0_1.rect t)).emb (ix3 i0 i1 i2) = ix3 i0 i1 i2 := by blk_ext [idx_val t]
  rw [e]; rfl

theorem blk2 (c : Dev nD) (t : Fin cfg0.N) : iblk m c 2 t = rate (A2 m c) := by
  funext i; idx_vars i; blk_simp [iblk, idx_val t]; entry_read; pointwise
  have e : ((View.whole main_v2).slice (win0_2.rect t)).emb (ix3 i0 i1 i2) = ix3 i0 i1 i2 := by blk_ext [idx_val t]
  rw [e]; rfl

theorem blk3 (c : Dev nD) (t : Fin cfg0.N) : iblk m c 3 t = mat (A3 m c) := by
  funext i; idx_vars i; blk_simp [iblk, idx_val t]; entry_read; pointwise
  have e : ((View.whole main_v3).slice (win0_3.rect t)).emb (ix3 i0 i1 i2) = ix3 i0 i1 i2 := by blk_ext [idx_val t]
  rw [e]; rfl

theorem blk4 (c : Dev nD) (t : Fin cfg0.N) : iblk m c 4 t = mat (A4 m c) := by
  funext i; idx_vars i; blk_simp [iblk, idx_val t]; entry_read; pointwise
  have e : ((View.whole main_v4).slice (win0_4.rect t)).emb (ix3 i0 i1 i2) = ix3 i0 i1 i2 := by blk_ext [idx_val t]
  rw [e]; rfl

variable (c : Dev nD)

theorem final_5 : (dats m 0 c).arrAt 5 (cfgs 0).N = val_main_v42 (F := Ideal) (A0 m c) (A1 m c) (A2 m c) := by
  refine (dats m 0 c).arrAt_eq_of_covers 5 _ (by decide +kernel) fun t hf y => ?_
  obtain ⟨a, u, p, rfl⟩ : ∃ (a : Fin 128) (u : Fin 1) (p : Fin 64), y = ix3 a u p := ⟨y 0, y 1, y 2, eq_ix3 y⟩
  obtain rfl : u = 0 := Subsingleton.elim _ _
  have e : out0_5 (iblk m c 0 t) (iblk m c 1 t) (iblk m c 2 t) (iblk m c 3 t) (iblk m c 4 t) (ix3 a 0 p)
      = val_main_v42 (F := Ideal) (A0 m c) (A1 m c) (A2 m c) (ix3 a 0 p) := by
    rw [blk0, blk1, blk2, blk3, blk4, out5]
  blk_simp [idx_val t]
  rw [after0_5]
  refine e.trans (congrArg _ ?_)
  blk_ext [idx_val t]

theorem final_6 : (dats m 0 c).arrAt 6 (cfgs 0).N = val_main_v43 (F := Ideal) (A0 m c) (A1 m c) (A2 m c) := by
  refine (dats m 0 c).arrAt_eq_of_covers 6 _ (by decide +kernel) fun t hf y => ?_
  obtain ⟨a, u, p, rfl⟩ : ∃ (a : Fin 128) (u : Fin 1) (p : Fin 64), y = ix3 a u p := ⟨y 0, y 1, y 2, eq_ix3 y⟩
  obtain rfl : u = 0 := Subsingleton.elim _ _
  have e : out0_6 (iblk m c 0 t) (iblk m c 1 t) (iblk m c 2 t) (iblk m c 3 t) (iblk m c 4 t) (ix3 a 0 p)
      = val_main_v43 (F := Ideal) (A0 m c) (A1 m c) (A2 m c) (ix3 a 0 p) := by
    rw [blk0, blk1, blk2, blk3, blk4, out6]
  blk_simp [idx_val t]
  rw [after0_6]
  refine e.trans (congrArg _ ?_)
  blk_ext [idx_val t]

theorem final_7 : (dats m 0 c).arrAt 7 (cfgs 0).N = val_main_v44 (F := Ideal) (A0 m c) (A1 m c) (A2 m c) (A3 m c) (A4 m c) := by
  refine (dats m 0 c).arrAt_eq_of_covers 7 _ (by decide +kernel) fun t hf y => ?_
  obtain ⟨a, u, p, rfl⟩ : ∃ (a : Fin 128) (u : Fin 16) (p : Fin 64), y = ix3 a u p := ⟨y 0, y 1, y 2, eq_ix3 y⟩
  have e : out0_7 (iblk m c 0 t) (iblk m c 1 t) (iblk m c 2 t) (iblk m c 3 t) (iblk m c 4 t) (ix3 a u p)
      = val_main_v44 (F := Ideal) (A0 m c) (A1 m c) (A2 m c) (A3 m c) (A4 m c) (ix3 a u p) := by
    rw [blk0, blk1, blk2, blk3, blk4, out7]
  blk_simp [idx_val t]
  rw [after0_7]
  refine e.trans (congrArg _ ?_)
  blk_ext [idx_val t]

theorem final_8 : (dats m 0 c).arrAt 8 (cfgs 0).N = val_main_v45 (F := Ideal) (A0 m c) (A1 m c) (A2 m c) (A3 m c) (A4 m c) := by
  refine (dats m 0 c).arrAt_eq_of_covers 8 _ (by decide +kernel) fun t hf y => ?_
  obtain ⟨a, u, p, rfl⟩ : ∃ (a : Fin 128) (u : Fin 16) (p : Fin 64), y = ix3 a u p := ⟨y 0, y 1, y 2, eq_ix3 y⟩
  have e : out0_8 (iblk m c 0 t) (iblk m c 1 t) (iblk m c 2 t) (iblk m c 3 t) (iblk m c 4 t) (ix3 a u p)
      = val_main_v45 (F := Ideal) (A0 m c) (A1 m c) (A2 m c) (A3 m c) (A4 m c) (ix3 a u p) := by
    rw [blk0, blk1, blk2, blk3, blk4, out8]
  blk_simp [idx_val t]
  rw [after0_8]
  refine e.trans (congrArg _ ?_)
  blk_ext [idx_val t]

/-- The pair: the kernel's four results are the reference's. -/
theorem value : Cert.algebraic_PrepFwdIdeal_PrepFwdRefIdeal := by
  pair_intro
  · run_from Cert.PrepFwdIdeal.Gen.run_main m g
  · refine (θ_run Cert.PrepFwdRefIdeal.defs _ _).mono (fun _ h c => ⟨(h c).1.trans ?_, (h c).2.1.trans ?_, (h c).2.2.1.trans ?_,
      (h c).2.2.2.1.trans ?_, (h c).2.2.2.2⟩)
      (Cert.PrepFwdRefIdeal.Value.run (F := Ideal) m' g')
    all_goals obtain ⟨e0, e1, e2, e3, e4⟩ := hagree c
    · refine (val_main_v42_eq _ _ _).trans ?_
      rw [e0, e1, e2]
      exact (final_5 m c).symm
    · refine (val_main_v43_eq _ _ _).trans ?_
      rw [e0, e1, e2]
      exact (final_6 m c).symm
    · refine (val_main_v44_eq _ _ _ _ _).trans ?_
      rw [e0, e1, e2, e3, e4]
      exact (final_7 m c).symm
    · refine (val_main_v45_eq _ _ _ _ _).trans ?_
      rw [e0, e1, e2, e3, e4]
      exact (final_8 m c).symm

/-- The reference's run leaves its arguments; it has no semaphore. -/
theorem frame_ref : Cert.quiescent_PrepFwdRefIdeal := fun m ρ _ =>
  (θ_run Cert.PrepFwdRefIdeal.defs _ _).mono
    (fun r h => ⟨fun c => (h c).2.2.2.2, sem_eq_zero_of_no_sems (by decide) r.2⟩)
    (Cert.PrepFwdRefIdeal.Value.run (F := Ideal) m ρ)

end Cert.PrepFwdIdeal.Val

end
-- ==== Proof.SbFwd.lean ====
module

public import proofs.«01_k».proof.Defs
public import proofs.«01_k».proof.Proof.Gen.SbFwdIdeal.Frame
public import proofs.«01_k».proof.Proof.SbOuts

/-!
What the kernel of the stick-breaking attention computes at one grid point: two heads, each the loop of one head. The
blocks of weights are those of the gradient's kernel, and the values need not be finite.
-/

@[expose] public section

set_option maxRecDepth 16384

noncomputable section

open Idealize.ShloMosaic Idealize.ShloMosaic.TcCoe Idealize.SL.Sem
open Idealize.ShloMosaic.Pipeline (Dat)

namespace Cert.SbFwdIdeal.Val
open Cert.SbFwdIdeal Cert.SbFwdIdeal.Gen Cert.Stick
open Cert.SbBwdIdeal.Val (sc)

theorem trips_eq : ∀ i : grid0.Coords, (k0_t1_loop i).trips = (i 1).val + 1 := by decide +kernel
theorem rest_eq : ∀ i : grid0.Coords, (k0_t2_loop i).trips = 0 := by decide +kernel
theorem off1_eq : ∀ (i : grid0.Coords) (k : Fin (k0_t1_loop i).trips), k0_off1 i k = ![256 * ((i 1).val - k.val), 0] := by decide +kernel
theorem off2_eq : ∀ (i : grid0.Coords) (k : Fin (k0_t1_loop i).trips), k0_off2 i k = ![256 * ((i 1).val - k.val), 128] := by decide +kernel

/-! ### One head's loop -/

section Head

variable (i : grid0.Coords) (q : Vec Ideal S256x128 .bf16) (kk vv : Fin (k0_t1_loop i).trips → Vec Ideal S256x128 .bf16)

abbrev step (k : Fin (k0_t1_loop i).trips) (s : FVec Ideal S256x128 .f32 × FVec Ideal S256x1 .f32) : FVec Ideal S256x128 .f32 × FVec Ideal S256x1 .f32 :=
  (k0_pay17 s.1 (k0_pay16 i (BitVec.ofNat 32 (i 1).val) k0_pay1 0#32 1#32 k s.2 q (kk k)) (vv k),
    k0_pay18 s.2 (k0_pay15 i (BitVec.ofNat 32 (i 1).val) 0#32 1#32 k q (kk k)))

/-- The head's sum and row sums after its first trips. -/
def head : ℕ → FVec Ideal S256x128 .f32 × FVec Ideal S256x1 .f32
  | 0 => (k0_pay2, k0_pay3)
  | k + 1 => if h : k < (k0_t1_loop i).trips then step i q kk vv ⟨k, h⟩ (head k) else head k

theorem head_succ (k : Fin (k0_t1_loop i).trips) : head i q kk vv (k.val + 1) = step i q kk vv k (head i q kk vv k.val) := by
  rw [head.eq_2]
  exact dif_pos k.isLt

end Head

/-! ### The body's loop is two heads' -/

section Trips

variable (c : Dev nD) (i : grid0.Coords) (arg2 : Memref sig .tc .vmem S256x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S256x256 .bf16) (harg5 : arg5.IsWhole)
  (x0 : Vec Ideal S256x256 .bf16) (x1 x2 : Vec Ideal S2048x256 .bf16)

def qs0 : Vec Ideal S256x128 .bf16 := VecWindow.window x0 ![0, 0] S256x128.size inb_S256x256_S256x128_0_0
def qs1 : Vec Ideal S256x128 .bf16 := VecWindow.window x0 ![0, 128] S256x128.size inb_S256x256_S256x128_0_128
def ks0 (k : Fin (k0_t1_loop i).trips) : Vec Ideal S256x128 .bf16 := VecWindow.window x1 (k0_off1 i k) S256x128.size (k0_off1_inb i k)
def ks1 (k : Fin (k0_t1_loop i).trips) : Vec Ideal S256x128 .bf16 := VecWindow.window x1 (k0_off2 i k) S256x128.size (k0_off2_inb i k)

abbrev pair (s t : FVec Ideal S256x128 .f32 × FVec Ideal S256x1 .f32) := (s.1, s.2, t.1, t.2)

theorem trip_eq (k : Fin (k0_t1_loop i).trips) (s t : FVec Ideal S256x128 .f32 × FVec Ideal S256x1 .f32) :
    tripR_k0_t1 (F := Ideal) Variants.none c none i arg2 harg2 arg3 harg3 arg4 harg4 arg5 harg5 (BitVec.ofNat 32 (i 1).val)
        (harg2.unread x0) (harg3.unread x1) (harg4.unread x2) k (pair s t)
      = pair (step i (qs0 x0) (ks0 i x1) (ks0 i x2) k s) (step i (qs1 x0) (ks1 i x1) (ks1 i x2) k t) := by
  have a0 : arg2.view.readAt (Elt Ideal) (Rect.unit ![0, 0] ![256, 128] inb_S256x256_S256x128_0_0).toLoadRect (harg2.unread x0) = qs0 x0 := by
    rw [View.readAt_unit _ _ _ rfl inb_S256x256_S256x128_0_0, harg2.read_unread]; rfl
  have a1 : arg2.view.readAt (Elt Ideal) (Rect.unit ![0, 128] ![256, 128] inb_S256x256_S256x128_0_128).toLoadRect (harg2.unread x0) = qs1 x0 := by
    rw [View.readAt_unit _ _ _ rfl inb_S256x256_S256x128_0_128, harg2.read_unread]; rfl
  have b0 : arg3.view.readAt (Elt Ideal) (Rect.unit (k0_off1 i k) ![256, 128] (k0_off1_inb i k)).toLoadRect (harg3.unread x1) = ks0 i x1 k := by
    rw [View.readAt_unit _ _ _ rfl (k0_off1_inb i k), harg3.read_unread]; rfl
  have b1 : arg3.view.readAt (Elt Ideal) (Rect.unit (k0_off2 i k) ![256, 128] (k0_off2_inb i k)).toLoadRect (harg3.unread x1) = ks1 i x1 k := by
    rw [View.readAt_unit _ _ _ rfl (k0_off2_inb i k), harg3.read_unread]; rfl
  have d0 : arg4.view.readAt (Elt Ideal) (Rect.unit (k0_off1 i k) ![256, 128] (k0_off1_inb i k)).toLoadRect (harg4.unread x2) = ks0 i x2 k := by
    rw [View.readAt_unit _ _ _ rfl (k0_off1_inb i k), harg4.read_unread]; rfl
  have d1 : arg4.view.readAt (Elt Ideal) (Rect.unit (k0_off2 i k) ![256, 128] (k0_off2_inb i k)).toLoadRect (harg4.unread x2) = ks1 i x2 k := by
    rw [View.readAt_unit _ _ _ rfl (k0_off2_inb i k), harg4.read_unread]; rfl
  rw [← a0, ← a1]
  unfold step
  rw [← b0, ← b1, ← d0, ← d1]
  unfold tripR_k0_t1 trip_k0_t1
  rfl

theorem state_eq (n : ℕ) (hn : n ≤ (k0_t1_loop i).trips) :
    st_k0_t1 (F := Ideal) Variants.none c none i arg2 harg2 arg3 harg3 arg4 harg4 arg5 harg5 (BitVec.ofNat 32 (i 1).val)
        (harg2.unread x0) (harg3.unread x1) (harg4.unread x2) (k0_pay2, k0_pay3, k0_pay4, k0_pay5) n
      = pair (head i (qs0 x0) (ks0 i x1) (ks0 i x2) n) (head i (qs1 x0) (ks1 i x1) (ks1 i x2) n) := by
  induction n with
  | zero => rfl
  | succ n ih =>
    have h : n < (k0_t1_loop i).trips := hn
    refine (st_k0_t1_succ Variants.none c none i arg2 harg2 arg3 harg3 arg4 harg4 arg5 harg5 _ _ _ _ _ ⟨n, h⟩).trans ?_
    rw [ih (by omega), trip_eq]
    exact congrArg₂ pair (head_succ i _ _ _ ⟨n, h⟩).symm (head_succ i _ _ _ ⟨n, h⟩).symm

/-- What the body leaves in its result's block: a head's sum in each half of the columns. -/
theorem out_eq : out0_A_3 (F := Ideal) c i arg2 harg2 arg3 harg3 arg4 harg4 arg5 harg5 x0 x1 x2
    = VecWindow.put (VecWindow.put (VO0_3.read (Elt Ideal) VO0_3.junk) ![0, 0] S256x128.size (k0_pay10 (head i (qs0 x0) (ks0 i x1) (ks0 i x2) (k0_t1_loop i).trips).1))
        ![0, 128] S256x128.size (k0_pay11 (head i (qs1 x0) (ks1 i x1) (ks1 i x2) (k0_t1_loop i).trips).1) := by
  have e := state_eq c i arg2 harg2 arg3 harg3 arg4 harg4 arg5 harg5 x0 x1 x2 _ le_rfl
  have z := rest_eq i
  unfold out0_A_3 kernelRun0_A
  dsimp only [k0_t1_loop, k0_t2_loop, Scf.Loop.trips] at e z ⊢
  rw [View.read_writes_cons_put _ _ _ _ _ rfl, View.read_writes_cons_put _ _ _ _ _ rfl, View.writes_nil, z, st_k0_t2_zero, e]

end Trips

/-! ### A head's loop over the reals -/

/-- The grid point of the gradient's kernel with the same block of queries. -/
def jj (i : grid0.Coords) : Cert.SbBwdIdeal.grid0.Coords := fun a => match a with
  | ⟨0, _⟩ => (⟨0, by decide⟩ : Fin 16)
  | ⟨1, _⟩ => i 1

section Block

variable (i : grid0.Coords) (q : Vec Ideal S256x128 .bf16) (kk vv : Fin (k0_t1_loop i).trips → Vec Ideal S256x128 .bf16)
  (Q K : ℕ → ℕ → ℝ) (V : ℕ → ℕ → EReal)
  (hq : ∀ y : S256x128.Idx, q y = ((Q (256 * (i 1).val + (y 0).val) (y 1).val : ℝ) : EReal))
  (hk : ∀ k, ∀ y : S256x128.Idx, kk k y = ((K (256 * ((i 1).val - k.val) + (y 0).val) (y 1).val : ℝ) : EReal))
  (hv : ∀ k, ∀ y : S256x128.Idx, vv k y = V (256 * ((i 1).val - k.val) + (y 0).val) (y 1).val)

/-- The keys as an array. -/
def karr : Vec Ideal Cert.SbBwdIdeal.S2048x128 .bf16 := fun y => ((K (y 0).val (y 1).val : ℝ) : EReal)

def kin (k : Fin (k0_t1_loop i).trips) : Fin (Cert.SbBwdIdeal.k0_t1_loop (jj i)).trips := ⟨k.val, k.isLt⟩

include hk in
theorem keys_eq (k : Fin (k0_t1_loop i).trips) : kk k = Cert.SbBwdIdeal.Run.keys1 (jj i) (karr K) (kin i k) :=
  funext fun y => (hk k y).trans (Cert.SbBwdIdeal.Val.keys1_apply (jj i) (karr K) K (kin i k) y fun _ => rfl).symm

include hk in
theorem rows_eq (n : ℕ) (hn : n ≤ (k0_t1_loop i).trips) :
    (head i q kk vv n).2 = Cert.SbBwdIdeal.Run.rowsum1 (jj i) (BitVec.ofNat 32 (i 1).val) q (karr K) n := by
  induction n with
  | zero => rfl
  | succ n ih =>
    have h : n < (k0_t1_loop i).trips := hn
    rw [head_succ i q kk vv ⟨n, h⟩]
    refine Eq.trans ?_ (dif_pos (c := n < (Cert.SbBwdIdeal.k0_t1_loop (jj i)).trips) h).symm
    show k0_pay18 (head i q kk vv n).2 (k0_pay15 i (BitVec.ofNat 32 (i 1).val) 0#32 1#32 ⟨n, h⟩ q (kk ⟨n, h⟩)) = _
    rw [ih (by omega), keys_eq i kk K hk]
    rfl

include hq hk in
/-- The block of weights of a trip. -/
theorem attn_cell (k : Fin (k0_t1_loop i).trips) (y : S256x256.Idx) :
    (k0_pay16 i (BitVec.ofNat 32 (i 1).val) k0_pay1 0#32 1#32 k (head i q kk vv k.val).2 q (kk k) y : EReal)
      = ((weight Q K sc (256 * (i 1).val + (y 0).val) (256 * ((i 1).val - k.val) + (y 1).val) : ℝ) : EReal) := by
  have e := Cert.SbBwdIdeal.Val.tile9_apply (jj i) q (karr K) Q K hq (fun _ => rfl) (kin i k) (ValueIdx.ix3 (0 : Fin 1) (y 0) (y 1))
  refine Eq.trans ?_ e
  rw [rows_eq i q kk vv K hk k.val k.isLt.le, keys_eq i kk K hk]
  unfold Cert.SbBwdIdeal.Run.tile9
  have h10 : Cert.SbBwdIdeal.Gen.k0_pay10 (jj i) (BitVec.ofNat 32 (jj i 1).val) 0#32 1#32 (kin i k) = k0_pay13 i (BitVec.ofNat 32 (i 1).val) 0#32 1#32 k := rfl
  have h11 : ∀ x, Cert.SbBwdIdeal.Gen.k0_pay11 (F := Ideal) q x = k0_pay14 q x := fun _ => rfl
  have h12 : ∀ x, Cert.SbBwdIdeal.Gen.k0_pay12 (F := Ideal) (jj i) (BitVec.ofNat 32 (jj i 1).val) q 0#32 1#32 (kin i k) x
      = k0_pay15 i (BitVec.ofNat 32 (i 1).val) 0#32 1#32 k q x := fun _ => rfl
  idx_vars y
  pointwise [Cert.SbBwdIdeal.Gen.k0_pay13, Cert.SbBwdIdeal.Gen.k0_pay27, k0_pay16, k0_pay1]
  rw [h10, h11]
  simp only [h12]
  rfl

include hq hk hv in
theorem sum_cell (n : ℕ) (hn : n ≤ (i 1).val + 1) (y : S256x128.Idx) :
    ((head i q kk vv n).1 y : EReal)
      = ∑ x ∈ Finset.Ico (256 * ((i 1).val + 1 - n)) (256 * ((i 1).val + 1)), ((weight Q K sc (256 * (i 1).val + (y 0).val) x : ℝ) : EReal) * V x (y 1).val := by
  induction n with
  | zero =>
    show (k0_pay2 (F := Ideal) y : EReal) = _
    rw [Finset.sum_eq_zero fun x hx => absurd (Finset.mem_Ico.mp hx) (by omega)]
    pointwise [k0_pay2]
  | succ n ih =>
    have h : n < (k0_t1_loop i).trips := by rw [trips_eq]; omega
    have e : ∀ (a : FVec Ideal S256x128 .f32) (w : FVec Ideal S256x256 .bf16) (v : Vec Ideal S256x128 .bf16),
        (k0_pay17 a w v y : EReal) = a y + ∑ x : Fin 256, (w (ValueIdx.ix2 (y 0) x) : EReal) * v (ValueIdx.ix2 x (y 1)) := by
      intro a w v
      pointwise [k0_pay17]
      rfl
    have e2 : (i 1).val + 1 - (n + 1) = (i 1).val - n := by omega
    have e1 : (i 1).val + 1 - n = (i 1).val - n + 1 := by omega
    rw [head_succ i q kk vv ⟨n, h⟩]
    refine (e _ _ _).trans ?_
    rw [ih (by omega), e2, sum_blocks_pred _ (n := (i 1).val - n) (by omega), e1]
    refine congrArg (_ + ·) (Finset.sum_congr rfl fun x _ => ?_)
    rw [attn_cell i q kk vv Q K hq hk ⟨n, h⟩, hv]

include hq hk hv in
theorem total_cell (y : S256x128.Idx) :
    ((head i q kk vv (k0_t1_loop i).trips).1 y : EReal)
      = ∑ x ∈ Finset.range 2048, ((weight Q K sc (256 * (i 1).val + (y 0).val) x : ℝ) : EReal) * V x (y 1).val := by
  have hi : (i 1).val < 8 := (i 1).isLt
  have hy : (y 0).val < 256 := (y 0).isLt
  rw [trips_eq, sum_cell i q kk vv Q K V hq hk hv _ le_rfl, Nat.sub_self, Nat.mul_zero, ← Finset.range_eq_Ico]
  refine sum_cut _ (by omega) fun x hx => ?_
  rw [weight_of_le Q K sc (by omega), EReal.coe_zero, zero_mul]

end Block

end Cert.SbFwdIdeal.Val

end
-- ==== Proof.SbFwdValue.lean ====
module

public import proofs.«01_k».proof.Proof.SbFwd
public import proofs.«01_k».proof.Proof.SbRef
public import proofs.«01_k».proof.Proof.Gen.SbFwdRefIdeal
public import proofs.«01_k».proof.Proof.Gen.SbFwdRefIdeal.Run
public import proofs.«01_k».proof.Proof.Gen.SbFwdRefIdeal.Read
public import Idealize.ShloMosaic.Lib.ReduceAll

/-!
The value of the stick-breaking attention: on finite queries and keys the kernel's result is the reference's, whatever
the values are.
-/

@[expose] public section

set_option maxRecDepth 16384

noncomputable section

open Idealize.ShloMosaic Idealize.ShloMosaic.TcCoe Idealize.SL.Sem
open Idealize.ShloMosaic.Pipeline (Dat)

namespace Cert.SbFwdIdeal.Val
open Cert.SbFwdIdeal Cert.SbFwdIdeal.Gen Cert.Stick
open Cert.SbBwdIdeal.Val (sc entry entry_eq Qh Kh)
open Cert.SbFwdRefIdeal.Read

/-- Head `h`'s values. -/
def Vh (Y : S2048x2048.Idx → EReal) (h r d : ℕ) : EReal := Y (ValueIdx.ix2 (Fin.ofNat 2048 r) (Fin.ofNat 2048 (128 * h + d)))

theorem Vh_eq (Y : S2048x2048.Idx → EReal) (y : S2048x2048.Idx) (h r d : ℕ) (h0 : (y 0).val = r) (h1 : (y 1).val = 128 * h + d) :
    Y y = Vh Y h r d := by
  subst h0
  refine congrArg Y (funext fun k => ?_)
  match k with
  | ⟨0, _⟩ => exact Fin.ext (Nat.mod_eq_of_lt (y 0).isLt).symm
  | ⟨1, _⟩ => exact Fin.ext (h1.trans (Nat.mod_eq_of_lt (lt_of_eq_of_lt h1.symm (y 1).isLt)).symm)

/-- The result at row `r` and feature `d` of head `h`. -/
def attend (X : S2048x4096.Idx → EReal) (Y : S2048x2048.Idx → EReal) (h r d : ℕ) : EReal :=
  ∑ x ∈ Finset.range 2048, ((weight (Qh X h) (Kh X h) sc r x : ℝ) : EReal) * Vh Y h x d

/-! ### The reference -/

theorem weights_eq (X : FVec Ideal S2048x4096 .bf16) :
    val_main_v29 (F := Ideal) X = Cert.SbRefIdeal.Read.val_main_v29_0 (F := Ideal) X := rfl

theorem ref_cell (X : FVec Ideal S2048x4096 .bf16) (Y : FVec Ideal S2048x2048 .bf16)
    (f0 : ∀ y, X y = (((X y : EReal).toReal : ℝ) : EReal)) (y : S2048x2048.Idx) :
    (val_main_v33 (F := Ideal) X Y y : EReal) = attend X Y ((y 1).val / 128) (y 0).val ((y 1).val % 128) := by
  have hv : ∀ z : Cert.SbFwdRefIdeal.S16x2048x128.Idx, (val_main_v9 (F := Ideal) Y z : EReal) = Vh Y (z 0).val (z 1).val (z 2).val := fun z => by
    pointwise [val_main_v9, val_main_v8, val_main_v3]
    exact Vh_eq Y _ _ _ _ rfl (congrArg (· + (z 2).val) (Nat.mul_comm (z 0).val 128))
  have hw := Cert.SbRefIdeal.Val.weight_cell X f0
  pointwise [val_main_v33, val_main_v32, val_main_v31, val_main_v30]
  rw [weights_eq]
  simp only [hv, hw]
  exact Fin.sum_univ_eq_sum_range (fun x => ((weight (Qh X ((y 1).val / 128)) (Kh X ((y 1).val / 128)) sc (y 0).val x : ℝ) : EReal) * Vh Y ((y 1).val / 128) x ((y 1).val % 128)) 2048

/-! ### The kernel -/

variable (m : (ℓ : Loc nD τ sig) → Buf (Elt Ideal) ℓ)

abbrev A0 (c : Dev nD) : S2048x4096.Idx → EReal := m ((c.tc : Thread nD τ).loc main_arg0)
abbrev A1 (c : Dev nD) : S2048x2048.Idx → EReal := m ((c.tc : Thread nD τ).loc main_arg1)

theorem N_lt (t : Fin cfg0.N) : t.val < 64 := lt_of_lt_of_eq t.isLt N_0

theorem coord1_eq : ∀ t : Fin grid0.N, (grid0.coords t 1).val = t.val % 8 := by decide +kernel

theorem idx_val : ∀ t : Fin cfg0.N, win0_0.index t = ![t.val % 8, t.val / 8] ∧ win0_1.index t = ![0, t.val / 8 + 8]
    ∧ win0_2.index t = ![0, t.val / 8] ∧ win0_3.index t = ![t.val % 8, t.val / 8] := by decide +kernel

section Finite

variable (c : Dev nD) (f0 : ∀ y, A0 m c y = ((A0 m c y).toReal : EReal)) (t : Fin cfg0.N)

include f0 in
theorem blk0 (y : S256x256.Idx) (e d : ℕ) (he : (y 1).val = 128 * e + d) : iblk m c 0 t y
    = ((Qh (A0 m c) (2 * (t.val / 8) + e) (256 * (grid0.coords t 1).val + (y 0).val) d : ℝ) : EReal) := by
  have hi := idx_val t
  refine entry_eq (A0 m c) f0 _ _ _ ?_ ?_
  · rw [coord1_eq]; blk_simp [hi]; omega
  · blk_simp [hi]; omega

include f0 in
theorem blk1 (y : S2048x256.Idx) (e d : ℕ) (he : (y 1).val = 128 * e + d) : iblk m c 1 t y
    = ((Kh (A0 m c) (2 * (t.val / 8) + e) (y 0).val d : ℝ) : EReal) := by
  have hi := idx_val t
  refine entry_eq (A0 m c) f0 _ _ _ ?_ ?_
  · blk_simp [hi]
  · blk_simp [hi]; omega

theorem blk2 (y : S2048x256.Idx) (e d : ℕ) (he : (y 1).val = 128 * e + d) : (iblk m c 2 t y : EReal)
    = Vh (A1 m c) (2 * (t.val / 8) + e) (y 0).val d := by
  have hi := idx_val t
  refine Vh_eq (A1 m c) _ _ _ _ ?_ ?_
  · blk_simp [hi]
  · blk_simp [hi]; omega

include f0 in
/-- The sum of one of the point's two heads, for blocks at columns `128 e` on. -/
theorem head_cell (e : ℕ) (q : Vec Ideal S256x128 .bf16) (kk vv : Fin (k0_t1_loop (grid0.coords t)).trips → Vec Ideal S256x128 .bf16)
    (hq : ∀ y, ∃ z : S256x256.Idx, q y = iblk m c 0 t z ∧ (z 0).val = (y 0).val ∧ (z 1).val = 128 * e + (y 1).val)
    (hk : ∀ k y, ∃ z : S2048x256.Idx, kk k y = iblk m c 1 t z ∧ (z 0).val = 256 * ((grid0.coords t 1).val - k.val) + (y 0).val ∧ (z 1).val = 128 * e + (y 1).val)
    (hv : ∀ k y, ∃ z : S2048x256.Idx, vv k y = iblk m c 2 t z ∧ (z 0).val = 256 * ((grid0.coords t 1).val - k.val) + (y 0).val ∧ (z 1).val = 128 * e + (y 1).val)
    (y : S256x128.Idx) :
    ((head (grid0.coords t) q kk vv (k0_t1_loop (grid0.coords t)).trips).1 y : EReal)
      = attend (A0 m c) (A1 m c) (2 * (t.val / 8) + e) (256 * (grid0.coords t 1).val + (y 0).val) (y 1).val := by
  refine total_cell _ _ _ _ _ _ _ (fun y => ?_) (fun k y => ?_) (fun k y => ?_) y
  · obtain ⟨z, h, h0, h1⟩ := hq y
    rw [h, blk0 m c f0 t z e _ h1, h0]
  · obtain ⟨z, h, h0, h1⟩ := hk k y
    rw [h, blk1 m c f0 t z e _ h1, h0]
  · obtain ⟨z, h, h0, h1⟩ := hv k y
    rw [h, blk2 m c t z e _ h1, h0]

theorem window_at {s : ℕ} (x : (⟨2, ![s, 256]⟩ : Shape).Idx → EReal) (off : Fin 2 → ℕ) (hb) (a b : ℕ) (ho : off = ![a, b]) (y : S256x128.Idx) :
    ∃ z, VecWindow.window (s := ⟨2, ![s, 256]⟩) x off S256x128.size hb y = x z ∧ (z 0).val = a + (y 0).val ∧ (z 1).val = b + (y 1).val := by
  subst ho
  refine ⟨(Rect.unit (s := ⟨2, ![s, 256]⟩) ![a, b] S256x128.size hb).emb y, rfl, ?_, ?_⟩
  · exact congrArg (a + ·) (Nat.one_mul _)
  · exact congrArg (b + ·) (Nat.one_mul _)

include f0 in
theorem head0 (y : S256x128.Idx) :
    ((head (grid0.coords t) (qs0 (iblk m c 0 t)) (ks0 (grid0.coords t) (iblk m c 1 t)) (ks0 (grid0.coords t) (iblk m c 2 t)) (k0_t1_loop (grid0.coords t)).trips).1 y : EReal)
      = attend (A0 m c) (A1 m c) (2 * (t.val / 8) + 0) (256 * (grid0.coords t 1).val + (y 0).val) (y 1).val := by
  refine head_cell m c f0 t 0 _ _ _ (fun y => ?_) (fun k y => ?_) (fun k y => ?_) y
  · obtain ⟨z, h, h0, h1⟩ := window_at (s := 256) (iblk m c 0 t) ![0, 0] inb_S256x256_S256x128_0_0 0 0 rfl y
    exact ⟨z, h, h0.trans (Nat.zero_add _), h1⟩
  · exact window_at (s := 2048) (iblk m c 1 t) _ (k0_off1_inb _ k) _ _ (off1_eq _ k) y
  · exact window_at (s := 2048) (iblk m c 2 t) _ (k0_off1_inb _ k) _ _ (off1_eq _ k) y

include f0 in
theorem head1 (y : S256x128.Idx) :
    ((head (grid0.coords t) (qs1 (iblk m c 0 t)) (ks1 (grid0.coords t) (iblk m c 1 t)) (ks1 (grid0.coords t) (iblk m c 2 t)) (k0_t1_loop (grid0.coords t)).trips).1 y : EReal)
      = attend (A0 m c) (A1 m c) (2 * (t.val / 8) + 1) (256 * (grid0.coords t 1).val + (y 0).val) (y 1).val := by
  refine head_cell m c f0 t 1 _ _ _ (fun y => ?_) (fun k y => ?_) (fun k y => ?_) y
  · obtain ⟨z, h, h0, h1⟩ := window_at (s := 256) (iblk m c 0 t) ![0, 128] inb_S256x256_S256x128_0_128 0 128 rfl y
    exact ⟨z, h, h0.trans (Nat.zero_add _), h1⟩
  · exact window_at (s := 2048) (iblk m c 1 t) _ (k0_off2_inb _ k) _ _ (off2_eq _ k) y
  · exact window_at (s := 2048) (iblk m c 2 t) _ (k0_off2_inb _ k) _ _ (off2_eq _ k) y

theorem put_at (x : S256x256.Idx → EReal) (a : ℕ) (w : S256x128.Idx → EReal) (y : S256x256.Idx) :
    VecWindow.put (s := S256x256) x ![0, a] S256x128.size w y
      = if h : a ≤ (y 1).val ∧ (y 1).val < a + 128 then w (ValueIdx.ix2 (y 0) (⟨(y 1).val - a, by omega⟩ : Fin 128)) else x y := by
  unfold VecWindow.put
  by_cases h : a ≤ (y 1).val ∧ (y 1).val < a + 128
  · have h' : ∀ b, (![0, a] : Fin 2 → ℕ) b ≤ (y b).val ∧ (y b).val < (![0, a] : Fin 2 → ℕ) b + S256x128.size b := fun b => by
      match b with
      | ⟨0, _⟩ => exact ⟨Nat.zero_le _, Nat.lt_of_lt_of_eq (y 0).isLt (Nat.zero_add _).symm⟩
      | ⟨1, _⟩ => exact h
    rw [dif_pos h', dif_pos h]
    refine congrArg w (funext fun b => Fin.ext ?_)
    match b with
    | ⟨0, _⟩ => exact Nat.sub_zero _
    | ⟨1, _⟩ => rfl
  · rw [dif_neg h, dif_neg fun h' => h (h' 1)]

include f0 in
theorem final_3 : (dats m 0 c).arrAt 3 (cfgs 0).N
    = fun y : S2048x2048.Idx => attend (A0 m c) (A1 m c) ((y 1).val / 128) (y 0).val ((y 1).val % 128) := by
  refine (dats m 0 c).arrAt_eq_of_covers 3 _ (by decide +kernel) fun t hf y => ?_
  have hi := idx_val t
  have hy : (y 1).val < 256 := (y 1).isLt
  blk_simp
  rw [after0_3]
  unfold outsAt0
  rw [out_eq, put_at, put_at]
  split_ifs with h h'
  · refine (head1 m c f0 t _).trans ?_
    rw [coord1_eq]
    have e1 : (t.val / 8 * 256 + (y 1).val) / 128 = 2 * (t.val / 8) + 1 := by omega
    have e2 : (t.val / 8 * 256 + (y 1).val) % 128 = (y 1).val - 128 := by omega
    blk_simp [hi]
    rw [e1, e2, Nat.mul_comm (t.val % 8) 256]
  · refine (head0 m c f0 t _).trans ?_
    rw [coord1_eq]
    have e1 : (t.val / 8 * 256 + (y 1).val) / 128 = 2 * (t.val / 8) + 0 := by omega
    have e2 : (t.val / 8 * 256 + (y 1).val) % 128 = (y 1).val - 0 := by omega
    blk_simp [hi]
    rw [e1, e2, Nat.mul_comm (t.val % 8) 256]
    rfl
  · omega

end Finite

/-! ### The pair -/

section Value

variable [Cert.Pre_finite_sbf.Facts]

theorem finite (X : FVec Ideal Cert.Pre_finite_sbf.S2048x4096 .bf16) (Y : FVec Ideal Cert.Pre_finite_sbf.S2048x2048 .bf16)
    (h : Cert.Pre_finite_sbf.fn (F := Ideal) X Y = fun _ => 1#1) : ∀ y, X y = (((X y : EReal).toReal : ℝ) : EReal) := by
  have e := congrFun h ValueIdx.ix0
  dsimp only [Cert.Pre_finite_sbf.fn] at e
  haveI : Subsingleton Cert.Pre_finite_sbf.S_.Idx := ⟨fun a b => funext fun k => k.elim0⟩
  exact fun y => Base.real_of_word_bf16 (Host.reduce_andi_all _ _ _ _ _ e y)

/-- On finite queries and keys the kernel's result is the reference's. -/
theorem value : Cert.algebraic_SbFwdIdeal_SbFwdRefIdeal_pre_finite_sbf := by
  pair_intro
  · run_from Cert.SbFwdIdeal.Gen.run_main m g
  · refine (θ_run Cert.SbFwdRefIdeal.defs _ _).mono (fun _ h c => ⟨(h c).1.trans ?_, (h c).2⟩)
      (Cert.SbFwdRefIdeal.Value.run (F := Ideal) m' g')
    have f0 := finite _ _ (hpre c)
    obtain ⟨e0, e1⟩ := hagree c
    refine (val_main_v33_eq m' c).trans ?_
    rw [e0, e1]
    exact (funext (ref_cell _ _ f0)).trans (final_3 m c f0).symm

end Value

/-- The reference's run leaves its arguments; it has no semaphore. -/
theorem frame_ref : Cert.quiescent_SbFwdRefIdeal := fun m ρ _ =>
  (θ_run Cert.SbFwdRefIdeal.defs _ _).mono
    (fun r h => ⟨fun c => (h c).2, sem_eq_zero_of_no_sems (by decide) r.2⟩)
    (Cert.SbFwdRefIdeal.Value.run (F := Ideal) m ρ)

/-- The scale's word is read as the real number it rounds. -/
theorem preserves : Cert.preserves_SbFwd_SbFwdIdeal :=
  IdealRules.named_const.statement Cert.SbFwdIdeal.κ "inv_sqrt_d" .f32 0x3DB504F3#32 (((Real.sqrt 128)⁻¹ : ℝ) : EReal) rfl

end Cert.SbFwdIdeal.Val

end
-- ==== Proof.CoreMath.lean ====
module

public import proofs.«01_k».proof.Defs
public import proofs.«01_k».proof.Proof.Base
public import Mathlib.Data.Complex.Basic

/-!
The recurrence of the state-space core over the complex numbers, and the reading of eight of its steps that the kernel
makes at once: three doublings inside a block of eight rows, then the state carried in from the block before.
-/

@[expose] public section

noncomputable section

namespace Cert.Ssm

/-- The state after `n` rows: every row multiplies it by `a` and adds the row's input. -/
def state (a : ℂ) (b : ℕ → ℂ) : ℕ → ℂ
  | 0 => 0
  | n + 1 => a * state a b n + b n

/-- One doubling: the rows `d` above come in multiplied by `p`. -/
def dbl (p : ℂ) (d : ℕ) (y : ℕ → ℂ) (r : ℕ) : ℂ := y r + p * (if d ≤ r then y (r - d) else 0)

/-- Three doublings and the carried state make the states of eight rows. -/
theorem dbl_state (a : ℂ) (b : ℕ → ℂ) (k r : ℕ) (hr : r < 8) :
    dbl (a ^ 4) 4 (dbl (a ^ 2) 2 (dbl a 1 fun r => b (8 * k + r))) r + a ^ (r + 1) * state a b (8 * k) = state a b (8 * k + r + 1) := by
  have h : r = 0 ∨ r = 1 ∨ r = 2 ∨ r = 3 ∨ r = 4 ∨ r = 5 ∨ r = 6 ∨ r = 7 := by omega
  rcases h with rfl | rfl | rfl | rfl | rfl | rfl | rfl | rfl <;> simp [dbl, state] <;> ring

/-- A sum over eight groups of sixty-four with one group kept is the sum over that group. -/
theorem sum_group {M : Type*} [AddCommMonoid M] (f : Fin 512 → M) (g : Fin 8) :
    ∑ j : Fin 512, (if j.val / 64 = g.val then f j else 0) = ∑ p : Fin 64, f ⟨64 * g.val + p.val, by omega⟩ := by
  rw [← Finset.sum_filter]
  refine Finset.sum_bij' (fun j hj => ⟨j.val % 64, by omega⟩) (fun p _ => ⟨64 * g.val + p.val, by omega⟩) (fun _ _ => Finset.mem_univ _)
    (fun p _ => by simp only [Finset.mem_filter, Finset.mem_univ, true_and]; omega)
    (fun j hj => by simp only [Finset.mem_filter, Finset.mem_univ, true_and] at hj; ext; simp only []; omega)
    (fun p _ => by ext; simp only []; omega)
    (fun j hj => by simp only [Finset.mem_filter, Finset.mem_univ, true_and] at hj; congr 1; ext; simp only []; omega)

/-- A sum over eight groups of sixteen with one group kept. -/
theorem sum_group16 {M : Type*} [AddCommMonoid M] (f : Fin 128 → M) (g : Fin 8) :
    ∑ j : Fin 128, (if j.val / 16 = g.val then f j else 0) = ∑ p : Fin 16, f ⟨16 * g.val + p.val, by omega⟩ := by
  rw [← Finset.sum_filter]
  refine Finset.sum_bij' (fun j hj => ⟨j.val % 16, by omega⟩) (fun p _ => ⟨16 * g.val + p.val, by omega⟩) (fun _ _ => Finset.mem_univ _)
    (fun p _ => by simp only [Finset.mem_filter, Finset.mem_univ, true_and]; omega)
    (fun j hj => by simp only [Finset.mem_filter, Finset.mem_univ, true_and] at hj; ext; simp only []; omega)
    (fun p _ => by ext; simp only []; omega)
    (fun j hj => by simp only [Finset.mem_filter, Finset.mem_univ, true_and] at hj; congr 1; ext; simp only []; omega)

end Cert.Ssm

end
-- ==== Proof.CoreCells.lean ====
module

public import proofs.«01_k».proof.Defs
public import proofs.«01_k».proof.Proof.Base
public import proofs.«01_k».proof.Proof.CoreMath
public import proofs.«01_k».proof.Proof.Gen.CoreFwdIdeal.Value

/-!
The kernel's vectors of one trip of its loop, read as complex numbers: a pair of vectors holds the real and the imaginary
parts. A trip's result is the next eight states of the recurrence.
-/

@[expose] public section

set_option maxRecDepth 16384

noncomputable section

open Idealize.ShloMosaic Idealize.ShloMosaic.TcCoe Idealize.SL.Sem
open Idealize.ShloMosaic.Pipeline (Dat)

namespace Cert.CoreFwdIdeal.Val
open Cert.CoreFwdIdeal Cert.CoreFwdIdeal.Gen Cert.Ssm

/-- One row of complex numbers. -/
def Is1 (vr vi : FVec Ideal S1x512 .f32) (z : Fin 512 → ℂ) : Prop :=
  ∀ l : Fin 512, (vr (ValueIdx.ix2 (0 : Fin 1) l) : EReal) = ((z l).re : ℝ) ∧ (vi (ValueIdx.ix2 (0 : Fin 1) l) : EReal) = ((z l).im : ℝ)

theorem Is1.congr {vr vi : FVec Ideal S1x512 .f32} {z w : Fin 512 → ℂ} (h : Is1 vr vi z) (e : ∀ l, z l = w l) : Is1 vr vi w := funext e ▸ h

/-- Eight rows of complex numbers. -/
def Is8 (vr vi : FVec Ideal S8x512 .f32) (z : Fin 512 → ℕ → ℂ) : Prop :=
  ∀ (r : Fin 8) (l : Fin 512), (vr (ValueIdx.ix2 r l) : EReal) = ((z l r.val).re : ℝ) ∧ (vi (ValueIdx.ix2 r l) : EReal) = ((z l r.val).im : ℝ)

/-- The number of a row, as the kernel holds it. -/
abbrev rown : IVec S8x512 32 := iota .tc S8x512 32 [0] iota_S8x512_d0_w32

def shift8 (k : BitVec 32) (v : FVec Ideal S8x512 .f32) : FVec Ideal S8x512 .f32 :=
  select (cmpi .sge rown (broadcast S8x512 k)) (dynamicRotate 0 k none v rotates_S8x512_d0) (broadcast S8x512 (Scalar.ofBits .f32 0x00000000#32))

theorem shift1_cell (v : FVec Ideal S8x512 .f32) (r : Fin 8) (l : Fin 512) :
    (shift8 1#32 v (ValueIdx.ix2 r l) : EReal) = if h : 1 ≤ r.val then v (ValueIdx.ix2 (⟨r.val - 1, by omega⟩ : Fin 8) l) else 0 := by
  fin_cases r <;> (pointwise [shift8]; rfl)

theorem shift2_cell (v : FVec Ideal S8x512 .f32) (r : Fin 8) (l : Fin 512) :
    (shift8 2#32 v (ValueIdx.ix2 r l) : EReal) = if h : 2 ≤ r.val then v (ValueIdx.ix2 (⟨r.val - 2, by omega⟩ : Fin 8) l) else 0 := by
  fin_cases r <;> (pointwise [shift8]; rfl)

theorem shift4_cell (v : FVec Ideal S8x512 .f32) (r : Fin 8) (l : Fin 512) :
    (shift8 4#32 v (ValueIdx.ix2 r l) : EReal) = if h : 4 ≤ r.val then v (ValueIdx.ix2 (⟨r.val - 4, by omega⟩ : Fin 8) l) else 0 := by
  fin_cases r <;> (pointwise [shift8]; rfl)

def madR (ar ai : FVec Ideal S1x512 .f32) (x sr si : FVec Ideal S8x512 .f32) : FVec Ideal S8x512 .f32 :=
  subf (addf x (mulf (broadcastTo S8x512 ar broadcasts_S1x512_S8x512) sr)) (mulf (broadcastTo S8x512 ai broadcasts_S1x512_S8x512) si)

def madI (ar ai : FVec Ideal S1x512 .f32) (x sr si : FVec Ideal S8x512 .f32) : FVec Ideal S8x512 .f32 :=
  addf (addf x (mulf (broadcastTo S8x512 ar broadcasts_S1x512_S8x512) si)) (mulf (broadcastTo S8x512 ai broadcasts_S1x512_S8x512) sr)

theorem madR_cell (ar ai : FVec Ideal S1x512 .f32) (x sr si : FVec Ideal S8x512 .f32) (r : Fin 8) (l : Fin 512) :
    (madR ar ai x sr si (ValueIdx.ix2 r l) : EReal)
      = ((x (ValueIdx.ix2 r l) : EReal) + (ar (ValueIdx.ix2 (0 : Fin 1) l) : EReal) * (sr (ValueIdx.ix2 r l) : EReal)) - (ai (ValueIdx.ix2 (0 : Fin 1) l) : EReal) * (si (ValueIdx.ix2 r l) : EReal) := by
  pointwise [madR]
  rfl

theorem madI_cell (ar ai : FVec Ideal S1x512 .f32) (x sr si : FVec Ideal S8x512 .f32) (r : Fin 8) (l : Fin 512) :
    (madI ar ai x sr si (ValueIdx.ix2 r l) : EReal)
      = ((x (ValueIdx.ix2 r l) : EReal) + (ar (ValueIdx.ix2 (0 : Fin 1) l) : EReal) * (si (ValueIdx.ix2 r l) : EReal)) + (ai (ValueIdx.ix2 (0 : Fin 1) l) : EReal) * (sr (ValueIdx.ix2 r l) : EReal) := by
  pointwise [madI]
  rfl

def mulR (ar ai br bi : FVec Ideal S1x512 .f32) : FVec Ideal S1x512 .f32 := subf (mulf ar br) (mulf ai bi)
def mulI (ar ai br bi : FVec Ideal S1x512 .f32) : FVec Ideal S1x512 .f32 := addf (mulf ar bi) (mulf ai br)

theorem mul_is {ar ai br bi : FVec Ideal S1x512 .f32} {z w : Fin 512 → ℂ} (ha : Is1 ar ai z) (hb : Is1 br bi w) :
    Is1 (mulR ar ai br bi) (mulI ar ai br bi) fun l => z l * w l := by
  intro l
  have hr : (mulR ar ai br bi (ValueIdx.ix2 (0 : Fin 1) l) : EReal) = (ar (ValueIdx.ix2 (0 : Fin 1) l) : EReal) * br (ValueIdx.ix2 (0 : Fin 1) l) - (ai (ValueIdx.ix2 (0 : Fin 1) l) : EReal) * bi (ValueIdx.ix2 (0 : Fin 1) l) := by
    pointwise [mulR]
  have hi : (mulI ar ai br bi (ValueIdx.ix2 (0 : Fin 1) l) : EReal) = (ar (ValueIdx.ix2 (0 : Fin 1) l) : EReal) * bi (ValueIdx.ix2 (0 : Fin 1) l) + (ai (ValueIdx.ix2 (0 : Fin 1) l) : EReal) * br (ValueIdx.ix2 (0 : Fin 1) l) := by
    pointwise [mulI]
  rw [hr, hi, (ha l).1, (ha l).2, (hb l).1, (hb l).2, Complex.mul_re, Complex.mul_im]
  constructor <;> push_cast <;> rfl

theorem mad_is {ar ai : FVec Ideal S1x512 .f32} {xr xi sr si : FVec Ideal S8x512 .f32} {a : Fin 512 → ℂ} {x s : Fin 512 → ℕ → ℂ}
    (ha : Is1 ar ai a) (hx : Is8 xr xi x) (hs : Is8 sr si s) :
    Is8 (madR ar ai xr sr si) (madI ar ai xi sr si) fun l r => x l r + a l * s l r := by
  intro r l
  rw [madR_cell, madI_cell, (ha l).1, (ha l).2, (hx r l).1, (hx r l).2, (hs r l).1, (hs r l).2, Complex.add_re, Complex.add_im, Complex.mul_re, Complex.mul_im]
  constructor
  · rw [← EReal.coe_mul, ← EReal.coe_mul, ← EReal.coe_add, ← EReal.coe_sub]; congr 1; ring
  · rw [← EReal.coe_mul, ← EReal.coe_mul, ← EReal.coe_add, ← EReal.coe_add]; congr 1; ring

theorem shift_is {k : BitVec 32} (d : ℕ) (hk : ∀ (v : FVec Ideal S8x512 .f32) (r : Fin 8) (l : Fin 512),
    (shift8 k v (ValueIdx.ix2 r l) : EReal) = if h : d ≤ r.val then v (ValueIdx.ix2 (⟨r.val - d, by omega⟩ : Fin 8) l) else 0)
    {vr vi : FVec Ideal S8x512 .f32} {z : Fin 512 → ℕ → ℂ} (hv : Is8 vr vi z) :
    Is8 (shift8 k vr) (shift8 k vi) fun l r => if d ≤ r then z l (r - d) else 0 := by
  intro r l
  rw [hk, hk]
  by_cases h : d ≤ r.val
  · beta_reduce; rw [dif_pos h, dif_pos h, if_pos h]; exact hv ⟨r.val - d, by omega⟩ l
  · beta_reduce; rw [dif_neg h, dif_neg h, if_neg h]; exact ⟨rfl, rfl⟩

/-- One doubling inside the block. -/
theorem dbl_is {k : BitVec 32} (d : ℕ) (hk : ∀ (v : FVec Ideal S8x512 .f32) (r : Fin 8) (l : Fin 512),
    (shift8 k v (ValueIdx.ix2 r l) : EReal) = if h : d ≤ r.val then v (ValueIdx.ix2 (⟨r.val - d, by omega⟩ : Fin 8) l) else 0)
    {ar ai : FVec Ideal S1x512 .f32} {vr vi : FVec Ideal S8x512 .f32} {a : Fin 512 → ℂ} {z : Fin 512 → ℕ → ℂ} (ha : Is1 ar ai a) (hv : Is8 vr vi z) :
    Is8 (madR ar ai vr (shift8 k vr) (shift8 k vi)) (madI ar ai vi (shift8 k vr) (shift8 k vi)) fun l => dbl (a l) d (z l) :=
  mad_is ha hv (shift_is d hk hv)

/-! ### The powers of `a` -/

section Powers

variable (ar ai : FVec Ideal S1x512 .f32)

variable {ar ai} {a : Fin 512 → ℂ} (ha : Is1 ar ai a)

include ha

theorem pow2 : Is1 (k0_pay55 ar ai) (k0_pay56 ar ai) fun l => a l ^ 2 := by
  exact (mul_is ha ha).congr fun l => (pow_two _).symm
theorem pow3 : Is1 (k0_pay57 ar ai) (k0_pay58 ar ai) fun l => a l ^ 3 := by
  exact (mul_is (pow2 ha) ha).congr fun l => (pow_succ _ _).symm
theorem pow4 : Is1 (k0_pay59 ar ai) (k0_pay60 ar ai) fun l => a l ^ 4 := by
  exact (mul_is (pow3 ha) ha).congr fun l => (pow_succ _ _).symm
theorem pow5 : Is1 (k0_pay61 ar ai) (k0_pay62 ar ai) fun l => a l ^ 5 := by
  exact (mul_is (pow4 ha) ha).congr fun l => (pow_succ _ _).symm
theorem pow6 : Is1 (k0_pay63 ar ai) (k0_pay64 ar ai) fun l => a l ^ 6 := by
  exact (mul_is (pow5 ha) ha).congr fun l => (pow_succ _ _).symm
theorem pow7 : Is1 (k0_pay65 ar ai) (k0_pay66 ar ai) fun l => a l ^ 7 := by
  exact (mul_is (pow6 ha) ha).congr fun l => (pow_succ _ _).symm
theorem pow8 : Is1 (k0_pay67 ar ai) (k0_pay68 ar ai) fun l => a l ^ 8 := by
  exact (mul_is (pow7 ha) ha).congr fun l => (pow_succ _ _).symm

/-- The powers one to eight, a row each. -/
theorem powers : Is8 (k0_pay77 rown (k0_pay65 ar ai) (k0_pay67 ar ai)
      (k0_pay74 rown (k0_pay55 ar ai) (k0_pay57 ar ai) (k0_pay59 ar ai) (k0_pay61 ar ai) (k0_pay63 ar ai) (k0_pay70 ar)))
    (k0_pay78 rown (k0_pay66 ar ai) (k0_pay68 ar ai)
      (k0_pay73 rown (k0_pay56 ar ai) (k0_pay58 ar ai) (k0_pay60 ar ai) (k0_pay62 ar ai) k0_pay69 k0_pay71 (k0_pay72 ai)) (k0_pay75 rown) (k0_pay76 (k0_pay64 ar ai)))
    fun l r => a l ^ (r + 1) := by
  have h2 := pow2 ha
  have h3 := pow3 ha
  have h4 := pow4 ha
  have h5 := pow5 ha
  have h6 := pow6 ha
  have h7 := pow7 ha
  have h8 := pow8 ha
  generalize k0_pay55 ar ai = r2, k0_pay56 ar ai = i2, k0_pay57 ar ai = r3, k0_pay58 ar ai = i3, k0_pay59 ar ai = r4, k0_pay60 ar ai = i4,
    k0_pay61 ar ai = r5, k0_pay62 ar ai = i5, k0_pay63 ar ai = r6, k0_pay64 ar ai = i6, k0_pay65 ar ai = r7, k0_pay66 ar ai = i7,
    k0_pay67 ar ai = r8, k0_pay68 ar ai = i8 at *
  intro r l
  fin_cases r
  · refine ⟨Eq.trans ?_ (((ha.congr fun l => (pow_one _).symm) l).1), Eq.trans ?_ (((ha.congr fun l => (pow_one _).symm) l).2)⟩
    · pointwise [k0_pay77, k0_pay74, k0_pay70]; rfl
    · pointwise [k0_pay78, k0_pay73, k0_pay69, k0_pay71, k0_pay72, k0_pay75, k0_pay76]; rfl
  · refine ⟨Eq.trans ?_ (h2 l).1, Eq.trans ?_ (h2 l).2⟩
    · pointwise [k0_pay77, k0_pay74, k0_pay70]; rfl
    · pointwise [k0_pay78, k0_pay73, k0_pay69, k0_pay71, k0_pay72, k0_pay75, k0_pay76]; rfl
  · refine ⟨Eq.trans ?_ (h3 l).1, Eq.trans ?_ (h3 l).2⟩
    · pointwise [k0_pay77, k0_pay74, k0_pay70]; rfl
    · pointwise [k0_pay78, k0_pay73, k0_pay69, k0_pay71, k0_pay72, k0_pay75, k0_pay76]; rfl
  · refine ⟨Eq.trans ?_ (h4 l).1, Eq.trans ?_ (h4 l).2⟩
    · pointwise [k0_pay77, k0_pay74, k0_pay70]; rfl
    · pointwise [k0_pay78, k0_pay73, k0_pay69, k0_pay71, k0_pay72, k0_pay75, k0_pay76]; rfl
  · refine ⟨Eq.trans ?_ (h5 l).1, Eq.trans ?_ (h5 l).2⟩
    · pointwise [k0_pay77, k0_pay74, k0_pay70]; rfl
    · pointwise [k0_pay78, k0_pay73, k0_pay69, k0_pay71, k0_pay72, k0_pay75, k0_pay76]; rfl
  · refine ⟨Eq.trans ?_ (h6 l).1, Eq.trans ?_ (h6 l).2⟩
    · pointwise [k0_pay77, k0_pay74, k0_pay70]; rfl
    · pointwise [k0_pay78, k0_pay73, k0_pay69, k0_pay71, k0_pay72, k0_pay75, k0_pay76]; rfl
  · refine ⟨Eq.trans ?_ (h7 l).1, Eq.trans ?_ (h7 l).2⟩
    · pointwise [k0_pay77, k0_pay74, k0_pay70]; rfl
    · pointwise [k0_pay78, k0_pay73, k0_pay69, k0_pay71, k0_pay72, k0_pay75, k0_pay76]; rfl
  · refine ⟨Eq.trans ?_ (h8 l).1, Eq.trans ?_ (h8 l).2⟩
    · pointwise [k0_pay77, k0_pay74, k0_pay70]; rfl
    · pointwise [k0_pay78, k0_pay73, k0_pay69, k0_pay71, k0_pay72, k0_pay75, k0_pay76]; rfl

end Powers

/-! ### One trip -/

section Trip

variable (ar ai cr ci : FVec Ideal S1x512 .f32) (pr pi xr xi : FVec Ideal S8x512 .f32)

/-- The eight rows a trip stores. -/
def rowsR : FVec Ideal S8x512 .f32 :=
  k0_pay12 rown (k0_pay55 ar ai) (k0_pay56 ar ai) (k0_pay59 ar ai) (k0_pay60 ar ai) pr pi cr ci (k0_pay5 ar ai rown xr xi)
    (k0_pay6 ar ai rown xr xi) (k0_pay7 ar ai rown xr xi) (k0_pay8 ar ai rown (k0_pay55 ar ai) (k0_pay56 ar ai) xr xi)
def rowsI : FVec Ideal S8x512 .f32 :=
  k0_pay13 rown (k0_pay55 ar ai) (k0_pay56 ar ai) (k0_pay59 ar ai) (k0_pay60 ar ai) pr pi cr ci (k0_pay5 ar ai rown xr xi)
    (k0_pay6 ar ai rown xr xi) (k0_pay7 ar ai rown xr xi) (k0_pay8 ar ai rown (k0_pay55 ar ai) (k0_pay56 ar ai) xr xi)

/-- The three doublings of a turn's eight rows. -/
def d1R : FVec Ideal S8x512 .f32 := madR ar ai xr (shift8 1#32 xr) (shift8 1#32 xi)
def d1I : FVec Ideal S8x512 .f32 := madI ar ai xi (shift8 1#32 xr) (shift8 1#32 xi)
def d2R : FVec Ideal S8x512 .f32 := madR (k0_pay55 ar ai) (k0_pay56 ar ai) (d1R ar ai xr xi) (shift8 2#32 (d1R ar ai xr xi)) (shift8 2#32 (d1I ar ai xr xi))
def d2I : FVec Ideal S8x512 .f32 := madI (k0_pay55 ar ai) (k0_pay56 ar ai) (d1I ar ai xr xi) (shift8 2#32 (d1R ar ai xr xi)) (shift8 2#32 (d1I ar ai xr xi))
def d3R : FVec Ideal S8x512 .f32 := madR (k0_pay59 ar ai) (k0_pay60 ar ai) (d2R ar ai xr xi) (shift8 4#32 (d2R ar ai xr xi)) (shift8 4#32 (d2I ar ai xr xi))
def d3I : FVec Ideal S8x512 .f32 := madI (k0_pay59 ar ai) (k0_pay60 ar ai) (d2I ar ai xr xi) (shift8 4#32 (d2R ar ai xr xi)) (shift8 4#32 (d2I ar ai xr xi))

theorem pay5_eq : k0_pay5 ar ai rown xr xi = d1I ar ai xr xi := rfl
theorem pay6_eq : k0_pay6 ar ai rown xr xi = shift8 2#32 (d1R ar ai xr xi) := rfl
theorem pay7_eq : k0_pay7 ar ai rown xr xi = shift8 2#32 (d1I ar ai xr xi) := rfl
theorem pay8_eq : k0_pay8 ar ai rown (k0_pay55 ar ai) (k0_pay56 ar ai) xr xi = d2R ar ai xr xi := rfl

theorem carryR_cell (r : Fin 8) (l : Fin 512) : (rowsR ar ai cr ci pr pi xr xi (ValueIdx.ix2 r l) : EReal)
    = ((d3R ar ai xr xi (ValueIdx.ix2 r l) : EReal) + (pr (ValueIdx.ix2 r l) : EReal) * (cr (ValueIdx.ix2 (0 : Fin 1) l) : EReal))
        - (pi (ValueIdx.ix2 r l) : EReal) * (ci (ValueIdx.ix2 (0 : Fin 1) l) : EReal) := by
  unfold rowsR d3R d2I
  rw [pay5_eq, pay6_eq, pay7_eq, pay8_eq]
  generalize d1R ar ai xr xi = yr, d1I ar ai xr xi = yi, d2R ar ai xr xi = zr
  generalize k0_pay55 ar ai = q1, k0_pay56 ar ai = q2, k0_pay59 ar ai = q3, k0_pay60 ar ai = q4
  show (subf (addf (madR q3 q4 zr (shift8 4#32 zr) (shift8 4#32 (madI q1 q2 yi (shift8 2#32 yr) (shift8 2#32 yi)))) (mulf pr (broadcastTo S8x512 cr broadcasts_S1x512_S8x512))) (mulf pi (broadcastTo S8x512 ci broadcasts_S1x512_S8x512)) (ValueIdx.ix2 r l) : EReal) = _
  generalize madR q3 q4 zr (shift8 4#32 zr) (shift8 4#32 (madI q1 q2 yi (shift8 2#32 yr) (shift8 2#32 yi))) = w
  pointwise []
  rfl

theorem carryI_cell (r : Fin 8) (l : Fin 512) : (rowsI ar ai cr ci pr pi xr xi (ValueIdx.ix2 r l) : EReal)
    = ((d3I ar ai xr xi (ValueIdx.ix2 r l) : EReal) + (pr (ValueIdx.ix2 r l) : EReal) * (ci (ValueIdx.ix2 (0 : Fin 1) l) : EReal))
        + (pi (ValueIdx.ix2 r l) : EReal) * (cr (ValueIdx.ix2 (0 : Fin 1) l) : EReal) := by
  unfold rowsI d3I d2I
  rw [pay5_eq, pay6_eq, pay7_eq, pay8_eq]
  generalize d1R ar ai xr xi = yr, d1I ar ai xr xi = yi, d2R ar ai xr xi = zr
  generalize k0_pay55 ar ai = q1, k0_pay56 ar ai = q2, k0_pay59 ar ai = q3, k0_pay60 ar ai = q4
  show (addf (addf (madI q3 q4 (madI q1 q2 yi (shift8 2#32 yr) (shift8 2#32 yi)) (shift8 4#32 zr) (shift8 4#32 (madI q1 q2 yi (shift8 2#32 yr) (shift8 2#32 yi)))) (mulf pr (broadcastTo S8x512 ci broadcasts_S1x512_S8x512))) (mulf pi (broadcastTo S8x512 cr broadcasts_S1x512_S8x512)) (ValueIdx.ix2 r l) : EReal) = _
  generalize madI q3 q4 (madI q1 q2 yi (shift8 2#32 yr) (shift8 2#32 yi)) (shift8 4#32 zr) (shift8 4#32 (madI q1 q2 yi (shift8 2#32 yr) (shift8 2#32 yi))) = w
  pointwise []
  rfl

variable {ar ai cr ci pr pi xr xi} {a : Fin 512 → ℂ} {b : Fin 512 → ℕ → ℂ} (ha : Is1 ar ai a)
  (hp : Is8 pr pi fun l r => a l ^ (r + 1)) (k : ℕ) (hc : Is1 cr ci fun l => state (a l) (b l) (8 * k))
  (hx : Is8 xr xi fun l r => b l (8 * k + r))

include ha hp hc hx

theorem rows_is : Is8 (rowsR ar ai cr ci pr pi xr xi) (rowsI ar ai cr ci pr pi xr xi) fun l r => state (a l) (b l) (8 * k + r + 1) := by
  have h1 := dbl_is 1 shift1_cell ha hx
  have h2 := dbl_is 2 shift2_cell (pow2 ha) h1
  have h3 : Is8 (d3R ar ai xr xi) (d3I ar ai xr xi) _ := dbl_is 4 shift4_cell (pow4 ha) h2
  intro r l
  beta_reduce
  rw [← dbl_state (a l) (b l) k r.val r.isLt]
  rw [carryR_cell, carryI_cell, (h3 r l).1, (h3 r l).2, (hp r l).1, (hp r l).2, (hc l).1, (hc l).2, Complex.add_re, Complex.add_im, Complex.mul_re, Complex.mul_im]
  constructor
  · rw [← EReal.coe_mul, ← EReal.coe_mul, ← EReal.coe_add, ← EReal.coe_sub]; congr 1; ring
  · rw [← EReal.coe_mul, ← EReal.coe_mul, ← EReal.coe_add, ← EReal.coe_add]; congr 1; ring

/-- The state a trip carries on. -/
theorem last_is : Is1 (extractStridedSlice S1x512 ![7, 0] (rowsR ar ai cr ci pr pi xr xi) slices_S8x512_o7_0_S1x512)
    (extractStridedSlice S1x512 ![7, 0] (rowsI ar ai cr ci pr pi xr xi) slices_S8x512_o7_0_S1x512) fun l => state (a l) (b l) (8 * (k + 1)) := by
  intro l
  have h := rows_is ha hp k hc hx (7 : Fin 8) l
  refine ⟨Eq.trans ?_ h.1, Eq.trans ?_ h.2⟩
  · pointwise []
    rfl
  · pointwise []
    rfl

end Trip

end Cert.CoreFwdIdeal.Val

end
-- ==== Proof.CoreExp.lean ====
module

public import proofs.«01_k».proof.Defs
public import proofs.«01_k».proof.Proof.CoreCells

/-!
The block-diagonal weights the kernel builds out of a block of eight groups' weights: a row of group `g` keeps its entries
in the columns of group `g` and has zeros in the others.
-/

@[expose] public section

set_option maxRecDepth 16384

noncomputable section

open Idealize.ShloMosaic Idealize.ShloMosaic.TcCoe Idealize.SL.Sem
open Idealize.ShloMosaic.Pipeline (Dat)

namespace Cert.CoreFwdIdeal.Val
open Cert.CoreFwdIdeal Cert.CoreFwdIdeal.Gen Cert.Ssm

/-- A row's group. -/
theorem group_cell (r c : Fin 128) : k0_pay19 (ValueIdx.ix2 r c) = BitVec.ofNat 32 (r.val / 16) := by
  pointwise [k0_pay19]
  rw [show (ValueIdx.ix2 r c) 0 = r from rfl]
  revert r
  decide +kernel

theorem low_cell (r c : Fin 128) : k0_pay20 (ValueIdx.ix2 r c) = if c.val < 64 then 1#1 else 0#1 := by
  pointwise [k0_pay20]
  rw [show (ValueIdx.ix2 r c) 1 = c from rfl]
  revert c
  decide +kernel

theorem high_cell (r c : Fin 128) : k0_pay21 (ValueIdx.ix2 r c) = if c.val < 64 then 0#1 else 1#1 := by
  pointwise [k0_pay21, k0_pay20]
  rw [show (ValueIdx.ix2 r c) 1 = c from rfl]
  revert c
  decide +kernel

/-- The two halves of the columns swapped. -/
def swap (w : FVec Ideal S128x128 .f32) : FVec Ideal S128x128 .f32 := dynamicRotate 1 64#32 none w rotates_S128x128_d1

theorem swap_cell (w : FVec Ideal S128x128 .f32) (r c : Fin 128) :
    (swap w (ValueIdx.ix2 r c) : EReal) = w (ValueIdx.ix2 r (⟨(c.val + 64) % 128, Nat.mod_lt _ (by decide)⟩ : Fin 128)) := by
  pointwise [swap]
  rfl

/-- One piece of a hundred and twenty-eight columns: two groups' entries. -/
def seg (k j : BitVec 32) (p q : FVec Ideal S128x128 .f32) : FVec Ideal S128x128 .f32 :=
  addf (select (andi (cmpi .eq k0_pay19 (broadcast S128x128 k)) k0_pay20) p (broadcast S128x128 (Scalar.ofBits .f32 0x00000000#32)))
    (select (andi (cmpi .eq k0_pay19 (broadcast S128x128 j)) k0_pay21) q (broadcast S128x128 (Scalar.ofBits .f32 0x00000000#32)))

theorem seg_cell (n : ℕ) (hn : n < 4) (p q : FVec Ideal S128x128 .f32) (r c : Fin 128) :
    (seg (BitVec.ofNat 32 (2 * n)) (BitVec.ofNat 32 (2 * n + 1)) p q (ValueIdx.ix2 r c) : EReal)
      = if r.val / 16 = 2 * n + c.val / 64 then (if c.val < 64 then (p (ValueIdx.ix2 r c) : EReal) else q (ValueIdx.ix2 r c)) else 0 := by
  have hr := r.isLt
  have hc := c.isLt
  have e : ∀ a b : ℕ, a < 8 → b < 8 → IntOp.cmpi .eq (BitVec.ofNat 32 a) (BitVec.ofNat 32 b) = if a = b then 1#1 else 0#1 := by
    intro a b ha hb
    interval_cases a <;> interval_cases b <;> decide
  pointwise [seg]
  rw [group_cell, low_cell, high_cell, e _ _ (by omega) (by omega), e _ _ (by omega) (by omega)]
  by_cases h : c.val < 64
  · have h0 : c.val / 64 = 0 := by omega
    rw [if_pos h, if_pos h, h0, if_pos h]
    by_cases g : r.val / 16 = 2 * n
    · rw [if_pos g, if_pos (show r.val / 16 = 2 * n + 0 from g), if_neg (show ¬ r.val / 16 = 2 * n + 1 by omega)]
      exact add_zero _
    · rw [if_neg g, if_neg (show ¬ r.val / 16 = 2 * n + 0 from g)]
      by_cases g' : r.val / 16 = 2 * n + 1
      · rw [if_pos g']; exact add_zero _
      · rw [if_neg g']; exact add_zero _
  · have h0 : c.val / 64 = 1 := by omega
    rw [if_neg h, if_neg h, h0, if_neg h]
    by_cases g : r.val / 16 = 2 * n + 1
    · rw [if_pos g, if_pos g, if_neg (show ¬ r.val / 16 = 2 * n by omega)]
      exact zero_add _
    · rw [if_neg g, if_neg g]
      by_cases g' : r.val / 16 = 2 * n
      · rw [if_pos g']; exact zero_add _
      · rw [if_neg g']; exact zero_add _

/-- The block-diagonal weights. -/
def expd (w : FVec Ideal S128x128 .f32) : FVec Ideal S128x1024 .bf16 :=
  truncf .bf16 (concatenate S128x1024 1 [⟨S128x128, seg 0#32 1#32 w (swap w)⟩, ⟨S128x128, seg 2#32 3#32 w (swap w)⟩, ⟨S128x128, seg 4#32 5#32 w (swap w)⟩,
    ⟨S128x128, seg 6#32 7#32 w (swap w)⟩, ⟨S128x128, seg 0#32 1#32 (swap w) w⟩, ⟨S128x128, seg 2#32 3#32 (swap w) w⟩, ⟨S128x128, seg 4#32 5#32 (swap w) w⟩,
    ⟨S128x128, seg 6#32 7#32 (swap w) w⟩] concatenates_S128x128_S128x128_S128x128_S128x128_S128x128_S128x128_S128x128_S128x128_S128x1024_d1) bitsLt_bf16_f32

theorem expd_piece (w : FVec Ideal S128x128 .f32) (r c : Fin 128) (q : Fin 8) :
    (expd w (ValueIdx.ix2 r (⟨128 * q.val + c.val, by omega⟩ : Fin 1024)) : EReal)
      = (![seg 0#32 1#32 w (swap w), seg 2#32 3#32 w (swap w), seg 4#32 5#32 w (swap w), seg 6#32 7#32 w (swap w),
          seg 0#32 1#32 (swap w) w, seg 2#32 3#32 (swap w) w, seg 4#32 5#32 (swap w) w, seg 6#32 7#32 (swap w) w] q (ValueIdx.ix2 r c) : EReal) := by
  have hc := c.isLt
  fin_cases q
  · pointwise [expd]
    rfl
  all_goals
    pointwise [expd]
    repeat (first | rw [dif_neg (by omega)] | rw [dif_pos (by omega)])
    refine congrArg (seg _ _ _ _) ?_
    exact congrArg (ValueIdx.ix2 r) (Fin.ext (by first | rfl | (dsimp only; omega)))

/-- A column of the real parts: group `g`, state `p`. -/
theorem expd_re (w : FVec Ideal S128x128 .f32) (r : Fin 128) (g : Fin 8) (p : Fin 64) :
    (expd w (ValueIdx.ix2 r (⟨64 * g.val + p.val, by omega⟩ : Fin 1024)) : EReal)
      = if r.val / 16 = g.val then (w (ValueIdx.ix2 r (⟨p.val, by omega⟩ : Fin 128)) : EReal) else 0 := by
  have hg := g.isLt
  have hp := p.isLt
  have e := expd_piece w r (⟨64 * (g.val % 2) + p.val, by omega⟩ : Fin 128) (⟨g.val / 2, by omega⟩ : Fin 8)
  have q : ∀ q : Fin 4, (![seg 0#32 1#32 w (swap w), seg 2#32 3#32 w (swap w), seg 4#32 5#32 w (swap w), seg 6#32 7#32 w (swap w),
      seg 0#32 1#32 (swap w) w, seg 2#32 3#32 (swap w) w, seg 4#32 5#32 (swap w) w, seg 6#32 7#32 (swap w) w] : Fin 8 → FVec Ideal S128x128 .f32) (⟨q.val, by omega⟩ : Fin 8)
        = seg (BitVec.ofNat 32 (2 * q.val)) (BitVec.ofNat 32 (2 * q.val + 1)) w (swap w) := by intro q; fin_cases q <;> rfl
  have ei : (⟨128 * (g.val / 2) + (64 * (g.val % 2) + p.val), by omega⟩ : Fin 1024) = ⟨64 * g.val + p.val, by omega⟩ := Fin.ext (by show 128 * (g.val / 2) + (64 * (g.val % 2) + p.val) = 64 * g.val + p.val; omega)
  have e' := (congrArg (fun j : Fin 1024 => (expd w (ValueIdx.ix2 r j) : EReal)) ei).symm.trans (e.trans
    ((congrFun (q ⟨g.val / 2, by omega⟩) _).trans (seg_cell (g.val / 2) (by omega) w (swap w) r (⟨64 * (g.val % 2) + p.val, by omega⟩ : Fin 128))))
  refine e'.trans ?_
  have hd : 2 * (g.val / 2) + (64 * (g.val % 2) + p.val) / 64 = g.val := by omega
  show (if r.val / 16 = 2 * (g.val / 2) + (64 * (g.val % 2) + p.val) / 64 then _ else _) = _
  rw [hd]
  refine if_congr Iff.rfl ?_ rfl
  by_cases h : 64 * (g.val % 2) + p.val < 64
  · rw [if_pos h]
    exact congrArg (fun j : Fin 128 => (w (ValueIdx.ix2 r j) : EReal)) (Fin.ext (by show 64 * (g.val % 2) + p.val = p.val; omega))
  · rw [if_neg h, swap_cell]
    exact congrArg (fun j : Fin 128 => (w (ValueIdx.ix2 r j) : EReal)) (Fin.ext (by show (64 * (g.val % 2) + p.val + 64) % 128 = p.val; omega))

/-- A column of the imaginary parts. -/
theorem expd_im (w : FVec Ideal S128x128 .f32) (r : Fin 128) (g : Fin 8) (p : Fin 64) :
    (expd w (ValueIdx.ix2 r (⟨512 + (64 * g.val + p.val), by omega⟩ : Fin 1024)) : EReal)
      = if r.val / 16 = g.val then (w (ValueIdx.ix2 r (⟨64 + p.val, by omega⟩ : Fin 128)) : EReal) else 0 := by
  have hg := g.isLt
  have hp := p.isLt
  have e := expd_piece w r (⟨64 * (g.val % 2) + p.val, by omega⟩ : Fin 128) (⟨4 + g.val / 2, by omega⟩ : Fin 8)
  have q : ∀ q : Fin 4, (![seg 0#32 1#32 w (swap w), seg 2#32 3#32 w (swap w), seg 4#32 5#32 w (swap w), seg 6#32 7#32 w (swap w),
      seg 0#32 1#32 (swap w) w, seg 2#32 3#32 (swap w) w, seg 4#32 5#32 (swap w) w, seg 6#32 7#32 (swap w) w] : Fin 8 → FVec Ideal S128x128 .f32) (⟨4 + q.val, by omega⟩ : Fin 8)
        = seg (BitVec.ofNat 32 (2 * q.val)) (BitVec.ofNat 32 (2 * q.val + 1)) (swap w) w := by intro q; fin_cases q <;> rfl
  have ei : (⟨128 * (4 + g.val / 2) + (64 * (g.val % 2) + p.val), by omega⟩ : Fin 1024) = ⟨512 + (64 * g.val + p.val), by omega⟩ :=
    Fin.ext (by show 128 * (4 + g.val / 2) + (64 * (g.val % 2) + p.val) = 512 + (64 * g.val + p.val); omega)
  have e' := (congrArg (fun j : Fin 1024 => (expd w (ValueIdx.ix2 r j) : EReal)) ei).symm.trans (e.trans
    ((congrFun (q ⟨g.val / 2, by omega⟩) _).trans (seg_cell (g.val / 2) (by omega) (swap w) w r (⟨64 * (g.val % 2) + p.val, by omega⟩ : Fin 128))))
  refine e'.trans ?_
  have hd : 2 * (g.val / 2) + (64 * (g.val % 2) + p.val) / 64 = g.val := by omega
  show (if r.val / 16 = 2 * (g.val / 2) + (64 * (g.val % 2) + p.val) / 64 then _ else _) = _
  rw [hd]
  refine if_congr Iff.rfl ?_ rfl
  by_cases h : 64 * (g.val % 2) + p.val < 64
  · rw [if_pos h, swap_cell]
    exact congrArg (fun j : Fin 128 => (w (ValueIdx.ix2 r j) : EReal)) (Fin.ext (by show (64 * (g.val % 2) + p.val + 64) % 128 = 64 + p.val; omega))
  · rw [if_neg h]
    exact congrArg (fun j : Fin 128 => (w (ValueIdx.ix2 r j) : EReal)) (Fin.ext (by show 64 * (g.val % 2) + p.val = 64 + p.val; omega))

/-! ### The products with the block-diagonal weights -/

/-- The inputs of the recurrence: a lane's sum over its group's sixteen channels. -/
theorem in_re (u : Vec Ideal S2048x128 .f32) (w : FVec Ideal S128x128 .f32) (t : Fin 2048) (g : Fin 8) (p : Fin 64) :
    (k0_pay52 u (expd w) (ValueIdx.ix2 t (⟨64 * g.val + p.val, by omega⟩ : Fin 512)) : EReal)
      = ∑ h : Fin 16, (u (ValueIdx.ix2 t (⟨16 * g.val + h.val, by omega⟩ : Fin 128)) : EReal)
          * w (ValueIdx.ix2 (⟨16 * g.val + h.val, by omega⟩ : Fin 128) (⟨p.val, by omega⟩ : Fin 128)) := by
  have e : (k0_pay52 u (expd w) (ValueIdx.ix2 t (⟨64 * g.val + p.val, by omega⟩ : Fin 512)) : EReal)
      = ∑ k : Fin 128, (u (ValueIdx.ix2 t k) : EReal) * expd w (ValueIdx.ix2 k (⟨64 * g.val + p.val, by omega⟩ : Fin 1024)) := by
    pointwise [k0_pay52, k0_pay49]
    rfl
  rw [e, ← sum_group16 (fun k => (u (ValueIdx.ix2 t k) : EReal) * w (ValueIdx.ix2 k (⟨p.val, by omega⟩ : Fin 128))) g]
  refine Finset.sum_congr rfl fun k _ => ?_
  rw [expd_re, mul_ite, mul_zero]

theorem in_im (u : Vec Ideal S2048x128 .f32) (w : FVec Ideal S128x128 .f32) (t : Fin 2048) (g : Fin 8) (p : Fin 64) :
    (k0_pay54 (k0_pay53 u (expd w)) (ValueIdx.ix2 t (⟨64 * g.val + p.val, by omega⟩ : Fin 512)) : EReal)
      = ∑ h : Fin 16, (u (ValueIdx.ix2 t (⟨16 * g.val + h.val, by omega⟩ : Fin 128)) : EReal)
          * w (ValueIdx.ix2 (⟨16 * g.val + h.val, by omega⟩ : Fin 128) (⟨64 + p.val, by omega⟩ : Fin 128)) := by
  have e : (k0_pay54 (k0_pay53 u (expd w)) (ValueIdx.ix2 t (⟨64 * g.val + p.val, by omega⟩ : Fin 512)) : EReal)
      = ∑ k : Fin 128, (u (ValueIdx.ix2 t k) : EReal) * expd w (ValueIdx.ix2 k (⟨512 + (64 * g.val + p.val), by omega⟩ : Fin 1024)) := by
    pointwise [k0_pay54, k0_pay53, k0_pay49]
    rfl
  rw [e, ← sum_group16 (fun k => (u (ValueIdx.ix2 t k) : EReal) * w (ValueIdx.ix2 k (⟨64 + p.val, by omega⟩ : Fin 128))) g]
  refine Finset.sum_congr rfl fun k _ => ?_
  rw [expd_im, mul_ite, mul_zero]

/-- The kernel's linear output at a row and a channel: group `g`, channel `h` of it. -/
theorem out_cell (u : Vec Ideal S2048x128 .f32) (w : FVec Ideal S128x128 .f32) (xr xi : Vec Ideal S2048x512 .f32) (d : Vec Ideal S1x128 .f32)
    (t : Fin 2048) (g : Fin 8) (h : Fin 16) :
    (k0_pay80 u (expd w) xr xi d (ValueIdx.ix2 t (⟨16 * g.val + h.val, by omega⟩ : Fin 128)) : EReal)
      = ((∑ p : Fin 64, (xr (ValueIdx.ix2 t (⟨64 * g.val + p.val, by omega⟩ : Fin 512)) : EReal) * w (ValueIdx.ix2 (⟨16 * g.val + h.val, by omega⟩ : Fin 128) (⟨p.val, by omega⟩ : Fin 128)))
          + ∑ p : Fin 64, (xi (ValueIdx.ix2 t (⟨64 * g.val + p.val, by omega⟩ : Fin 512)) : EReal) * w (ValueIdx.ix2 (⟨16 * g.val + h.val, by omega⟩ : Fin 128) (⟨64 + p.val, by omega⟩ : Fin 128)))
        + (d (ValueIdx.ix2 (0 : Fin 1) (⟨16 * g.val + h.val, by omega⟩ : Fin 128)) : EReal) * u (ValueIdx.ix2 t (⟨16 * g.val + h.val, by omega⟩ : Fin 128)) := by
  have e : (k0_pay80 u (expd w) xr xi d (ValueIdx.ix2 t (⟨16 * g.val + h.val, by omega⟩ : Fin 128)) : EReal)
      = ((∑ j : Fin 512, (xr (ValueIdx.ix2 t j) : EReal) * expd w (ValueIdx.ix2 (⟨16 * g.val + h.val, by omega⟩ : Fin 128) (⟨j.val, by omega⟩ : Fin 1024)))
          + ∑ j : Fin 512, (xi (ValueIdx.ix2 t j) : EReal) * expd w (ValueIdx.ix2 (⟨16 * g.val + h.val, by omega⟩ : Fin 128) (⟨512 + j.val, by omega⟩ : Fin 1024)))
        + (d (ValueIdx.ix2 (0 : Fin 1) (⟨16 * g.val + h.val, by omega⟩ : Fin 128)) : EReal) * u (ValueIdx.ix2 t (⟨16 * g.val + h.val, by omega⟩ : Fin 128)) := by
    pointwise [k0_pay80]
    rfl
  have hg : (16 * g.val + h.val) / 16 = g.val := by omega
  rw [e]
  refine congrArg₂ (· + ·) (congrArg₂ (· + ·) ?_ ?_) rfl
  · refine (Finset.sum_congr rfl fun j _ => ?_).trans ((sum_group (fun j : Fin 512 => (xr (ValueIdx.ix2 t j) : EReal)
      * w (ValueIdx.ix2 (⟨16 * g.val + h.val, by omega⟩ : Fin 128) (⟨j.val % 64, by omega⟩ : Fin 128))) g).trans ?_)
    · have hj : (⟨j.val, by omega⟩ : Fin 1024) = ⟨64 * (⟨j.val / 64, by omega⟩ : Fin 8).val + (⟨j.val % 64, by omega⟩ : Fin 64).val, by dsimp only; omega⟩ :=
        Fin.ext (by dsimp only; omega)
      rw [hj, expd_re, mul_ite, mul_zero]
      exact if_congr (by dsimp only; omega) rfl rfl
    · refine Finset.sum_congr rfl fun p _ => congrArg₂ (· * ·) rfl ?_
      exact congrArg (fun j : Fin 128 => (w (ValueIdx.ix2 _ j) : EReal)) (Fin.ext (by dsimp only; omega))
  · refine (Finset.sum_congr rfl fun j _ => ?_).trans ((sum_group (fun j : Fin 512 => (xi (ValueIdx.ix2 t j) : EReal)
      * w (ValueIdx.ix2 (⟨16 * g.val + h.val, by omega⟩ : Fin 128) (⟨64 + j.val % 64, by omega⟩ : Fin 128))) g).trans ?_)
    · have hj : (⟨512 + j.val, by omega⟩ : Fin 1024) = ⟨512 + (64 * (⟨j.val / 64, by omega⟩ : Fin 8).val + (⟨j.val % 64, by omega⟩ : Fin 64).val), by dsimp only; omega⟩ :=
        Fin.ext (by dsimp only; omega)
      rw [hj, expd_im, mul_ite, mul_zero]
      exact if_congr (by dsimp only; omega) rfl rfl
    · refine Finset.sum_congr rfl fun p _ => congrArg₂ (· * ·) rfl ?_
      exact congrArg (fun j : Fin 128 => (w (ValueIdx.ix2 _ j) : EReal)) (Fin.ext (by dsimp only; omega))

end Cert.CoreFwdIdeal.Val
-- ==== Proof.CoreRun.lean ====
module

public import proofs.«01_k».proof.Defs
public import proofs.«01_k».proof.Proof.CoreCells
public import Idealize.ShloMosaic.Lib.VecWindow

/-!
The loop of the state-space core's kernel: after `n` trips the first `8 n` rows of the two scratch buffers hold the states
of the recurrence, the rows below still the inputs, and the carried pair is the state after `8 n` rows.
-/

@[expose] public section

set_option maxRecDepth 16384

noncomputable section

open Idealize.ShloMosaic Idealize.ShloMosaic.TcCoe Idealize.SL.Sem
open Idealize.ShloMosaic.Pipeline (Dat)

namespace Cert.CoreFwdIdeal.Val
open Cert.CoreFwdIdeal Cert.CoreFwdIdeal.Gen Cert.Ssm

theorem trips_eq : k0_t1_loop.trips = 256 := by decide +kernel
theorem off_eq : ∀ k : Fin k0_t1_loop.trips, k0_off1 k = ![8 * k.val, 0] := by decide +kernel

/-- Eight rows put into a tall array. -/
theorem put_rows (x : Vec Ideal S2048x512 .f32) (k : Fin 256) (w : Vec Ideal S8x512 .f32) (t : Fin 2048) (l : Fin 512) :
    (VecWindow.put (s := S2048x512) x ![8 * k.val, 0] S8x512.size w (ValueIdx.ix2 t l) : EReal)
      = if h : 8 * k.val ≤ t.val ∧ t.val < 8 * k.val + 8 then w (ValueIdx.ix2 (⟨t.val - 8 * k.val, by omega⟩ : Fin 8) l) else x (ValueIdx.ix2 t l) := by
  unfold VecWindow.put
  have hl := l.isLt
  by_cases h : 8 * k.val ≤ t.val ∧ t.val < 8 * k.val + 8
  · rw [dif_pos h, dif_pos (fun a => match a with
      | ⟨0, _⟩ => h
      | ⟨1, _⟩ => ⟨Nat.zero_le _, by show l.val < 0 + 512; omega⟩)]
    refine congrArg w (funext fun a => match a with
      | ⟨0, _⟩ => rfl
      | ⟨1, _⟩ => rfl)
  · rw [dif_neg h, dif_neg (fun hc => h (hc (0 : Fin 2)))]

theorem cast_cell (w : FVec Ideal S8x512 .f32) (r : Fin 8) (l : Fin 512) : (shapeCast S8x512 w shapeCasts_S8x512_S8x512 (ValueIdx.ix2 r l) : EReal) = w (ValueIdx.ix2 r l) := by
  pointwise []

/-- Putting the next eight rows of `f` moves the border between `f` and `g` down by eight. -/
theorem put_is {x : Vec Ideal S2048x512 .f32} {w : FVec Ideal S8x512 .f32} (n : Fin 256) (f g : Fin 512 → ℕ → ℝ)
    (hx : ∀ (t : Fin 2048) (l : Fin 512), (x (ValueIdx.ix2 t l) : EReal) = ((if t.val < 8 * n.val then f l t.val else g l t.val : ℝ) : EReal))
    (hw : ∀ (r : Fin 8) (l : Fin 512), (w (ValueIdx.ix2 r l) : EReal) = (f l (8 * n.val + r.val) : ℝ)) (t : Fin 2048) (l : Fin 512) :
    (VecWindow.put (s := S2048x512) x ![8 * n.val, 0] S8x512.size (shapeCast S8x512 w shapeCasts_S8x512_S8x512) (ValueIdx.ix2 t l) : EReal)
      = ((if t.val < 8 * (n.val + 1) then f l t.val else g l t.val : ℝ) : EReal) := by
  rw [put_rows]
  by_cases h : 8 * n.val ≤ t.val ∧ t.val < 8 * n.val + 8
  · have e : 8 * n.val + (t.val - 8 * n.val) = t.val := by omega
    rw [dif_pos h, if_pos (by omega), cast_cell, hw, e]
  · rw [dif_neg h, hx]
    by_cases h2 : t.val < 8 * n.val
    · rw [if_pos h2, if_pos (by omega)]
    · rw [if_neg h2, if_neg (by omega)]

/-- Eight rows read out of a tall array. -/
theorem window_rows (x : Vec Ideal S2048x512 .f32) (k : Fin k0_t1_loop.trips) (r : Fin 8) (l : Fin 512) :
    (VecWindow.window (s := S2048x512) x (k0_off1 k) S8x512.size (k0_off1_inb k) (ValueIdx.ix2 r l) : EReal)
      = x (ValueIdx.ix2 (⟨8 * k.val + r.val, by have h := lt_of_lt_of_eq k.isLt trips_eq; omega⟩ : Fin 2048) l) := by
  refine congrArg x (funext fun a => match a with
    | ⟨0, _⟩ => Fin.ext ?_
    | ⟨1, _⟩ => Fin.ext ?_)
  · show k0_off1 k 0 + 1 * r.val = 8 * k.val + r.val
    rw [off_eq]; show 8 * k.val + 1 * r.val = _; omega
  · show k0_off1 k 1 + 1 * l.val = l.val
    rw [off_eq]; show 0 + 1 * l.val = _; omega

section Loop

variable (c : Dev nD) (i : grid0.Coords) (arg1 : Memref sig .tc .vmem S2048x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x128 .f32) (harg6 : arg6.IsWhole)
  (arg7 : Memref sig .tc .vmem S2048x128 .f32) (harg7 : arg7.IsWhole) (arg8 : Memref sig .tc .vmem S2048x128 .bf16) (harg8 : arg8.IsWhole) (arg9 : Memref sig .tc .vmem S2048x512 .f32) (harg9 : arg9.IsWhole) (arg10 : Memref sig .tc .vmem S2048x512 .f32) (harg10 : arg10.IsWhole)
  (v0 : Vec Ideal S2048x128 .f32) (v244 : FVec Ideal S128x1024 .bf16) (ar ai : FVec Ideal S1x512 .f32)
  (g9 : BufTy.Contents (Elt Ideal) arg9.view.ty) (g10 : BufTy.Contents (Elt Ideal) arg10.view.ty)

/-- The loop's state after its first trips. -/
abbrev after (n : ℕ) := st_k0_t1 (F := Ideal) Variants.none c none i arg1 harg1 arg2 harg2 arg3 harg3 arg4 harg4 arg5 harg5 arg6 harg6 arg7 harg7 arg8 harg8 arg9 harg9 arg10 harg10
    v0 v244 ar ai rown (k0_pay55 ar ai) (k0_pay56 ar ai) (k0_pay59 ar ai) (k0_pay60 ar ai) (k0_pay65 ar ai) (k0_pay66 ar ai) (k0_pay67 ar ai) (k0_pay68 ar ai)
          (k0_pay73 rown (k0_pay56 ar ai) (k0_pay58 ar ai) (k0_pay60 ar ai) (k0_pay62 ar ai) k0_pay69 k0_pay71 (k0_pay72 ai))
          (k0_pay74 rown (k0_pay55 ar ai) (k0_pay57 ar ai) (k0_pay59 ar ai) (k0_pay61 ar ai) (k0_pay63 ar ai) (k0_pay70 ar)) (k0_pay75 rown) (k0_pay76 (k0_pay64 ar ai)) g9 g10 (k0_pay79, k0_pay79) n

/-- The powers of `a`, as the kernel lays them out. -/
abbrev tabR := k0_pay77 rown (k0_pay65 ar ai) (k0_pay67 ar ai)
      (k0_pay74 rown (k0_pay55 ar ai) (k0_pay57 ar ai) (k0_pay59 ar ai) (k0_pay61 ar ai) (k0_pay63 ar ai) (k0_pay70 ar))
abbrev tabI := k0_pay78 rown (k0_pay66 ar ai) (k0_pay68 ar ai)
      (k0_pay73 rown (k0_pay56 ar ai) (k0_pay58 ar ai) (k0_pay60 ar ai) (k0_pay62 ar ai) k0_pay69 k0_pay71 (k0_pay72 ai)) (k0_pay75 rown) (k0_pay76 (k0_pay64 ar ai))

def ld9 (k : Fin k0_t1_loop.trips) (f : BufTy.Contents (Elt Ideal) arg9.view.ty) : Vec Ideal S8x512 .f32 :=
  VecWindow.window (arg9.view.read (Elt Ideal) f) (k0_off1 k) S8x512.size (k0_off1_inb k)
def ld10 (k : Fin k0_t1_loop.trips) (f : BufTy.Contents (Elt Ideal) arg10.view.ty) : Vec Ideal S8x512 .f32 :=
  VecWindow.window (arg10.view.read (Elt Ideal) f) (k0_off1 k) S8x512.size (k0_off1_inb k)

theorem tripR_eq (k : Fin k0_t1_loop.trips) (acc : FVec Ideal S1x512 .f32 × FVec Ideal S1x512 .f32) (f9 : BufTy.Contents (Elt Ideal) arg9.view.ty) (f10 : BufTy.Contents (Elt Ideal) arg10.view.ty) :
    tripR_k0_t1 (F := Ideal) Variants.none c none i arg1 harg1 arg2 harg2 arg3 harg3 arg4 harg4 arg5 harg5 arg6 harg6 arg7 harg7 arg8 harg8 arg9 harg9 arg10 harg10
      v0 v244 ar ai rown (k0_pay55 ar ai) (k0_pay56 ar ai) (k0_pay59 ar ai) (k0_pay60 ar ai) (k0_pay65 ar ai) (k0_pay66 ar ai) (k0_pay67 ar ai) (k0_pay68 ar ai)
          (k0_pay73 rown (k0_pay56 ar ai) (k0_pay58 ar ai) (k0_pay60 ar ai) (k0_pay62 ar ai) k0_pay69 k0_pay71 (k0_pay72 ai))
          (k0_pay74 rown (k0_pay55 ar ai) (k0_pay57 ar ai) (k0_pay59 ar ai) (k0_pay61 ar ai) (k0_pay63 ar ai) (k0_pay70 ar)) (k0_pay75 rown) (k0_pay76 (k0_pay64 ar ai)) k acc f9 f10
      = (extractStridedSlice S1x512 ![7, 0] (rowsR ar ai acc.1 acc.2 (tabR ar ai) (tabI ar ai) (ld9 arg9 k f9) (ld10 arg10 k f10)) slices_S8x512_o7_0_S1x512,
        extractStridedSlice S1x512 ![7, 0] (rowsI ar ai acc.1 acc.2 (tabR ar ai) (tabI ar ai) (ld9 arg9 k f9) (ld10 arg10 k f10)) slices_S8x512_o7_0_S1x512) := by
  have b9 : arg9.view.readAt (Elt Ideal) (Rect.unit (k0_off1 k) ![8, 512] (k0_off1_inb k)).toLoadRect f9 = ld9 arg9 k f9 := by
    rw [View.readAt_unit _ _ _ rfl (k0_off1_inb k)]; rfl
  have b10 : arg10.view.readAt (Elt Ideal) (Rect.unit (k0_off1 k) ![8, 512] (k0_off1_inb k)).toLoadRect f10 = ld10 arg10 k f10 := by
    rw [View.readAt_unit _ _ _ rfl (k0_off1_inb k)]; rfl
  rw [← b9, ← b10]
  unfold tripR_k0_t1 trip_k0_t1
  rfl

theorem tripL_eq (k : Fin k0_t1_loop.trips) (acc : FVec Ideal S1x512 .f32 × FVec Ideal S1x512 .f32) (f9 : BufTy.Contents (Elt Ideal) arg9.view.ty) (f10 : BufTy.Contents (Elt Ideal) arg10.view.ty) :
    tripL_k0_t1 (F := Ideal) Variants.none c none i arg1 harg1 arg2 harg2 arg3 harg3 arg4 harg4 arg5 harg5 arg6 harg6 arg7 harg7 arg8 harg8 arg9 harg9 arg10 harg10
      v0 v244 ar ai rown (k0_pay55 ar ai) (k0_pay56 ar ai) (k0_pay59 ar ai) (k0_pay60 ar ai) (k0_pay65 ar ai) (k0_pay66 ar ai) (k0_pay67 ar ai) (k0_pay68 ar ai)
          (k0_pay73 rown (k0_pay56 ar ai) (k0_pay58 ar ai) (k0_pay60 ar ai) (k0_pay62 ar ai) k0_pay69 k0_pay71 (k0_pay72 ai))
          (k0_pay74 rown (k0_pay55 ar ai) (k0_pay57 ar ai) (k0_pay59 ar ai) (k0_pay61 ar ai) (k0_pay63 ar ai) (k0_pay70 ar)) (k0_pay75 rown) (k0_pay76 (k0_pay64 ar ai)) k acc f9 f10
      = ([⟨Rect.unit (k0_off1 k) ![8, 512] (k0_off1_inb k), shapeCast S8x512 (rowsR ar ai acc.1 acc.2 (tabR ar ai) (tabI ar ai) (ld9 arg9 k f9) (ld10 arg10 k f10)) shapeCasts_S8x512_S8x512⟩],
        [⟨Rect.unit (k0_off1 k) ![8, 512] (k0_off1_inb k), shapeCast S8x512 (rowsI ar ai acc.1 acc.2 (tabR ar ai) (tabI ar ai) (ld9 arg9 k f9) (ld10 arg10 k f10)) shapeCasts_S8x512_S8x512⟩]) := by
  have b9 : arg9.view.readAt (Elt Ideal) (Rect.unit (k0_off1 k) ![8, 512] (k0_off1_inb k)).toLoadRect f9 = ld9 arg9 k f9 := by
    rw [View.readAt_unit _ _ _ rfl (k0_off1_inb k)]; rfl
  have b10 : arg10.view.readAt (Elt Ideal) (Rect.unit (k0_off1 k) ![8, 512] (k0_off1_inb k)).toLoadRect f10 = ld10 arg10 k f10 := by
    rw [View.readAt_unit _ _ _ rfl (k0_off1_inb k)]; rfl
  rw [← b9, ← b10]
  unfold tripL_k0_t1 trip_k0_t1
  rfl

/-- The loop's state after one more trip. -/
def nextState (k : Fin k0_t1_loop.trips) (s : (FVec Ideal S1x512 .f32 × FVec Ideal S1x512 .f32) × List (View.Piece (Elt Ideal) S2048x512 .f32) × List (View.Piece (Elt Ideal) S2048x512 .f32)) :
    (FVec Ideal S1x512 .f32 × FVec Ideal S1x512 .f32) × List (View.Piece (Elt Ideal) S2048x512 .f32) × List (View.Piece (Elt Ideal) S2048x512 .f32) :=
  let x := ld9 arg9 k (arg9.view.writes (Elt Ideal) g9 s.2.1)
  let y := ld10 arg10 k (arg10.view.writes (Elt Ideal) g10 s.2.2)
  ((extractStridedSlice S1x512 ![7, 0] (rowsR ar ai s.1.1 s.1.2 (tabR ar ai) (tabI ar ai) x y) slices_S8x512_o7_0_S1x512,
      extractStridedSlice S1x512 ![7, 0] (rowsI ar ai s.1.1 s.1.2 (tabR ar ai) (tabI ar ai) x y) slices_S8x512_o7_0_S1x512),
    ⟨Rect.unit (k0_off1 k) ![8, 512] (k0_off1_inb k), shapeCast S8x512 (rowsR ar ai s.1.1 s.1.2 (tabR ar ai) (tabI ar ai) x y) shapeCasts_S8x512_S8x512⟩ :: s.2.1,
    ⟨Rect.unit (k0_off1 k) ![8, 512] (k0_off1_inb k), shapeCast S8x512 (rowsI ar ai s.1.1 s.1.2 (tabR ar ai) (tabI ar ai) x y) shapeCasts_S8x512_S8x512⟩ :: s.2.2)

theorem after_succ (k : Fin k0_t1_loop.trips) : after c i arg1 harg1 arg2 harg2 arg3 harg3 arg4 harg4 arg5 harg5 arg6 harg6 arg7 harg7 arg8 harg8 arg9 harg9 arg10 harg10 v0 v244 ar ai g9 g10 (k.val + 1)
    = nextState arg9 arg10 ar ai g9 g10 k (after c i arg1 harg1 arg2 harg2 arg3 harg3 arg4 harg4 arg5 harg5 arg6 harg6 arg7 harg7 arg8 harg8 arg9 harg9 arg10 harg10 v0 v244 ar ai g9 g10 k.val) := by
  refine (st_k0_t1_succ (F := Ideal) Variants.none c none i arg1 harg1 arg2 harg2 arg3 harg3 arg4 harg4 arg5 harg5 arg6 harg6 arg7 harg7 arg8 harg8 arg9 harg9 arg10 harg10 _ _ _ _ _ _ _ _ _ _ _ _ _ _ _ _ _ _ _ _ k).trans ?_
  rw [tripR_eq, tripL_eq]
  rfl

variable {ar ai} {a : Fin 512 → ℂ} {b : Fin 512 → ℕ → ℂ} (ha : Is1 ar ai a)
  (h9 : ∀ (t : Fin 2048) (l : Fin 512), (arg9.view.read (Elt Ideal) g9 (ValueIdx.ix2 t l) : EReal) = ((b l t.val).re : ℝ))
  (h10 : ∀ (t : Fin 2048) (l : Fin 512), (arg10.view.read (Elt Ideal) g10 (ValueIdx.ix2 t l) : EReal) = ((b l t.val).im : ℝ))

include ha h9 h10

theorem after_is (n : ℕ) (hn : n ≤ 256) :
    Is1 (after c i arg1 harg1 arg2 harg2 arg3 harg3 arg4 harg4 arg5 harg5 arg6 harg6 arg7 harg7 arg8 harg8 arg9 harg9 arg10 harg10 v0 v244 ar ai g9 g10 n).1.1 (after c i arg1 harg1 arg2 harg2 arg3 harg3 arg4 harg4 arg5 harg5 arg6 harg6 arg7 harg7 arg8 harg8 arg9 harg9 arg10 harg10 v0 v244 ar ai g9 g10 n).1.2 (fun l => state (a l) (b l) (8 * n))
      ∧ ∀ (t : Fin 2048) (l : Fin 512),
        (arg9.view.read (Elt Ideal) (arg9.view.writes (Elt Ideal) g9 (after c i arg1 harg1 arg2 harg2 arg3 harg3 arg4 harg4 arg5 harg5 arg6 harg6 arg7 harg7 arg8 harg8 arg9 harg9 arg10 harg10 v0 v244 ar ai g9 g10 n).2.1) (ValueIdx.ix2 t l) : EReal)
            = ((if t.val < 8 * n then (state (a l) (b l) (t.val + 1)).re else (b l t.val).re : ℝ) : EReal)
          ∧ (arg10.view.read (Elt Ideal) (arg10.view.writes (Elt Ideal) g10 (after c i arg1 harg1 arg2 harg2 arg3 harg3 arg4 harg4 arg5 harg5 arg6 harg6 arg7 harg7 arg8 harg8 arg9 harg9 arg10 harg10 v0 v244 ar ai g9 g10 n).2.2) (ValueIdx.ix2 t l) : EReal)
            = ((if t.val < 8 * n then (state (a l) (b l) (t.val + 1)).im else (b l t.val).im : ℝ) : EReal) := by
  induction n with
  | zero =>
    refine ⟨fun l => ⟨?_, ?_⟩, fun t l => ?_⟩
    · show (k0_pay79 (F := Ideal) (ValueIdx.ix2 (0 : Fin 1) l) : EReal) = ((0 : ℂ).re : ℝ)
      pointwise [k0_pay79]
      rfl
    · show (k0_pay79 (F := Ideal) (ValueIdx.ix2 (0 : Fin 1) l) : EReal) = ((0 : ℂ).im : ℝ)
      pointwise [k0_pay79]
      rfl
    · rw [if_neg (by omega), if_neg (by omega)]
      exact ⟨h9 t l, h10 t l⟩
  | succ n ih =>
    have h : n < k0_t1_loop.trips := by rw [trips_eq]; omega
    obtain ⟨ihc, ihx⟩ := ih (by omega)
    have e := after_succ c i arg1 harg1 arg2 harg2 arg3 harg3 arg4 harg4 arg5 harg5 arg6 harg6 arg7 harg7 arg8 harg8 arg9 harg9 arg10 harg10 v0 v244 ar ai g9 g10 ⟨n, h⟩
    have hk : n < 256 := by omega
    generalize after c i arg1 harg1 arg2 harg2 arg3 harg3 arg4 harg4 arg5 harg5 arg6 harg6 arg7 harg7 arg8 harg8 arg9 harg9 arg10 harg10 v0 v244 ar ai g9 g10 n = s at ihc ihx e
    generalize after c i arg1 harg1 arg2 harg2 arg3 harg3 arg4 harg4 arg5 harg5 arg6 harg6 arg7 harg7 arg8 harg8 arg9 harg9 arg10 harg10 v0 v244 ar ai g9 g10 (n + 1) = s' at e
    subst e
    have hx : Is8 (ld9 arg9 ⟨n, h⟩ (arg9.view.writes (Elt Ideal) g9 s.2.1)) (ld10 arg10 ⟨n, h⟩ (arg10.view.writes (Elt Ideal) g10 s.2.2)) fun l r => b l (8 * n + r) := by
      intro r l
      have q := ihx ⟨8 * n + r.val, by omega⟩ l
      rw [if_neg (by show ¬ (8 * n + r.val < 8 * n); omega), if_neg (by show ¬ (8 * n + r.val < 8 * n); omega)] at q
      exact ⟨(window_rows _ ⟨n, h⟩ r l).trans q.1, (window_rows _ ⟨n, h⟩ r l).trans q.2⟩
    have hp := powers ha
    refine ⟨last_is ha hp n ihc hx, fun t l => ?_⟩
    have w := rows_is ha hp n ihc hx
    dsimp only [nextState]
    rw [View.read_writes_cons_put _ _ _ _ _ (off_eq ⟨n, h⟩), View.read_writes_cons_put _ _ _ _ _ (off_eq ⟨n, h⟩)]
    exact ⟨put_is ⟨n, hk⟩ (fun l t => (state (a l) (b l) (t + 1)).re) (fun l t => (b l t).re) (fun t l => (ihx t l).1) (fun r l => (w r l).1) t l,
      put_is ⟨n, hk⟩ (fun l t => (state (a l) (b l) (t + 1)).im) (fun l t => (b l t).im) (fun t l => (ihx t l).2) (fun r l => (w r l).2) t l⟩

end Loop

end Cert.CoreFwdIdeal.Val

end
-- ==== Proof.CoreOut.lean ====
module

public import proofs.«01_k».proof.Defs
public import proofs.«01_k».proof.Proof.CoreExp
public import proofs.«01_k».proof.Proof.CoreRun
public import proofs.«01_k».proof.Proof.Gen.CoreFwdIdeal.Value

/-!
What one point of the grid leaves in its two output blocks, out of its input blocks.
-/

@[expose] public section

set_option maxRecDepth 16384

noncomputable section

open Idealize.ShloMosaic Idealize.ShloMosaic.TcCoe Idealize.SL.Sem
open Idealize.ShloMosaic.Pipeline (Dat)

namespace Cert.CoreFwdIdeal.Val
open Cert.CoreFwdIdeal Cert.CoreFwdIdeal.Gen Cert.Ssm

/-- Stores after stores. -/
theorem writes_append {sg : RefSig} {κ : Kind} {sp : Space} {s : Shape} {e : EltTy} (v : View sg κ sp s e) (f : v.ty.Contents (Elt Ideal))
    (L L' : List (View.Piece (Elt Ideal) s e)) : v.writes (Elt Ideal) f (L ++ L') = v.writes (Elt Ideal) (v.writes (Elt Ideal) f L') L := by
  induction L with
  | nil => rfl
  | cons p L ih => exact congrArg (fun z => (v.slice p.1).write (Elt Ideal) z p.2 Finset.univ) ih

section Out

variable (c : Dev nD) (i : grid0.Coords) (arg1 : Memref sig .tc .vmem S2048x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x128 .f32) (harg6 : arg6.IsWhole)
  (arg7 : Memref sig .tc .vmem S2048x128 .f32) (harg7 : arg7.IsWhole) (arg8 : Memref sig .tc .vmem S2048x128 .bf16) (harg8 : arg8.IsWhole) (arg9 : Memref sig .tc .vmem S2048x512 .f32) (harg9 : arg9.IsWhole) (arg10 : Memref sig .tc .vmem S2048x512 .f32) (harg10 : arg10.IsWhole)
  (x0 : Vec Ideal S2048x128 .f32) (x1 : Vec Ideal S128x128 .f32) (x2 : Vec Ideal S128x128 .f32) (x3 : Vec Ideal S1x512 .f32) (x4 : Vec Ideal S1x512 .f32) (x5 : Vec Ideal S1x128 .f32)

open Cert.CoreFwdIdeal.Gen.kernelRun0_A.sl

theorem u_eq : r (F := Ideal) c arg1 harg1 x0 = x0 := by
  unfold r
  rw [View.readAt_full, harg1.read_unread]

theorem ar_eq : r_22 (F := Ideal) c arg4 harg4 x3 = x3 := by
  unfold r_22
  rw [View.readAt_full, harg4.read_unread]
  funext i
  rw [eq_ix2 i]
  pointwise [k0_pay50]

theorem ai_eq : r_23 (F := Ideal) c arg5 harg5 x4 = x4 := by
  unfold r_23
  rw [View.readAt_full, harg5.read_unread]
  funext i
  rw [eq_ix2 i]
  pointwise [k0_pay51]

theorem cast_128 (w : Vec Ideal S128x128 .f32) : k0_pay18 (F := Ideal) w = w := by
  funext i
  rw [eq_ix2 i]
  pointwise [k0_pay18]

theorem cast_128' (w : Vec Ideal S128x128 .f32) : k0_pay32 (F := Ideal) w = w := by
  funext i
  rw [eq_ix2 i]
  pointwise [k0_pay32]

theorem wb_eq : r_9 (F := Ideal) c arg2 harg2 x1 = expd x1 := by
  have e : r_9 (F := Ideal) c arg2 harg2 x1 = expd (k0_pay18 (View.readAt (Elt Ideal) arg2.view (Rect.unit ![0, 0] S128x128.size inb_S128x128_S128x128_0_0).toLoadRect (harg2.unread x1))) := rfl
  rw [e, View.readAt_full, harg2.read_unread, cast_128]

theorem wc_eq : r_21 (F := Ideal) c arg3 harg3 x2 = expd x2 := by
  have e : r_21 (F := Ideal) c arg3 harg3 x2 = expd (k0_pay32 (View.readAt (Elt Ideal) arg3.view (Rect.unit ![0, 0] S128x128.size inb_S128x128_S128x128_0_0).toLoadRect (harg3.unread x2))) := rfl
  rw [e, View.readAt_full, harg3.read_unread, cast_128']

/-- The recurrence's inputs, as the scratch holds them before the loop. -/
abbrev fill9 := arg9.view.writes (Elt Ideal) arg9.view.junk (HS0_1 (F := Ideal) c arg1 harg1 arg2 harg2 x0 x1)
abbrev fill10 := arg10.view.writes (Elt Ideal) arg10.view.junk (HS1_1 (F := Ideal) c arg1 harg1 arg2 harg2 x0 x1)

abbrev done (n : ℕ) := after c i arg1 harg1 arg2 harg2 arg3 harg3 arg4 harg4 arg5 harg5 arg6 harg6 arg7 harg7 arg8 harg8 arg9 harg9 arg10 harg10 x0 (expd x2) x3 x4 (fill9 c arg1 harg1 arg2 harg2 arg9 x0 x1) (fill10 c arg1 harg1 arg2 harg2 arg10 x0 x1) n

/-- What the scratch holds after it. -/
def states9 : Vec Ideal S2048x512 .f32 := arg9.view.read (Elt Ideal) (arg9.view.writes (Elt Ideal) (fill9 c arg1 harg1 arg2 harg2 arg9 x0 x1) (done c i arg1 harg1 arg2 harg2 arg3 harg3 arg4 harg4 arg5 harg5 arg6 harg6 arg7 harg7 arg8 harg8 arg9 harg9 arg10 harg10 x0 x1 x2 x3 x4 256).2.1)
def states10 : Vec Ideal S2048x512 .f32 := arg10.view.read (Elt Ideal) (arg10.view.writes (Elt Ideal) (fill10 c arg1 harg1 arg2 harg2 arg10 x0 x1) (done c i arg1 harg1 arg2 harg2 arg3 harg3 arg4 harg4 arg5 harg5 arg6 harg6 arg7 harg7 arg8 harg8 arg9 harg9 arg10 harg10 x0 x1 x2 x3 x4 256).2.2)

theorem out6 : out0_A_6 (F := Ideal) c i arg1 harg1 arg2 harg2 arg3 harg3 arg4 harg4 arg5 harg5 arg6 harg6 arg7 harg7 arg8 harg8 arg9 harg9 arg10 harg10 x0 x1 x2 x3 x4 x5 = k0_pay80 x0 (expd x2) (states9 c i arg1 harg1 arg2 harg2 arg3 harg3 arg4 harg4 arg5 harg5 arg6 harg6 arg7 harg7 arg8 harg8 arg9 harg9 arg10 harg10 x0 x1 x2 x3 x4) (states10 c i arg1 harg1 arg2 harg2 arg3 harg3 arg4 harg4 arg5 harg5 arg6 harg6 arg7 harg7 arg8 harg8 arg9 harg9 arg10 harg10 x0 x1 x2 x3 x4) x5 := by
  unfold out0_A_6 kernelRun0_A
  dsimp only
  dsimp only [kernelRun0_A.sl.v388, kernelRun0_A.sl.v392]
  have hu := u_eq c arg1 harg1 x0
  have hc := wc_eq c arg3 harg3 x2
  have hr := ar_eq c arg4 harg4 x3
  have hi := ai_eq c arg5 harg5 x4
  have ht : Scf.trips 0#32 (Scalar.addi 0#32 256#32) 1#32 = 256 := by decide +kernel
  dsimp only [r_26, r_27, r_28, r_29, r_30, r_31, r_32, r_33, r_34, r_35, r_36, r_37, r_38, r_39, r_40, r_41, r_42, r_43, r_44]
  rw [hu, hc, hr, hi, ht]
  unfold View.readCov
  rw [writes_append, writes_append, View.readAt_full, View.readAt_full, View.readAt_full, harg6.read_unread]
  exact View.read_writes_full VO0_6 _ _ _ _

theorem out7 : out0_A_7 (F := Ideal) c i arg1 harg1 arg2 harg2 arg3 harg3 arg4 harg4 arg5 harg5 arg6 harg6 arg7 harg7 arg8 harg8 arg9 harg9 arg10 harg10 x0 x1 x2 x3 x4 x5 = k0_pay1 (k0_pay80 x0 (expd x2) (states9 c i arg1 harg1 arg2 harg2 arg3 harg3 arg4 harg4 arg5 harg5 arg6 harg6 arg7 harg7 arg8 harg8 arg9 harg9 arg10 harg10 x0 x1 x2 x3 x4) (states10 c i arg1 harg1 arg2 harg2 arg3 harg3 arg4 harg4 arg5 harg5 arg6 harg6 arg7 harg7 arg8 harg8 arg9 harg9 arg10 harg10 x0 x1 x2 x3 x4) x5) := by
  unfold out0_A_7 kernelRun0_A
  dsimp only
  dsimp only [r_45]
  dsimp only [kernelRun0_A.sl.v388, kernelRun0_A.sl.v392]
  have hu := u_eq c arg1 harg1 x0
  have hc := wc_eq c arg3 harg3 x2
  have hr := ar_eq c arg4 harg4 x3
  have hi := ai_eq c arg5 harg5 x4
  have ht : Scf.trips 0#32 (Scalar.addi 0#32 256#32) 1#32 = 256 := by decide +kernel
  dsimp only [r_26, r_27, r_28, r_29, r_30, r_31, r_32, r_33, r_34, r_35, r_36, r_37, r_38, r_39, r_40, r_41, r_42, r_43, r_44]
  rw [hu, hc, hr, hi, ht]
  unfold View.readCov
  rw [writes_append, writes_append, View.readAt_full, View.readAt_full, View.readAt_full, harg6.read_unread]
  exact View.read_writes_full VO0_7 _ _ _ _

/-- The recurrence's inputs of real operands: lane `64 g + p` adds up group `g`'s sixteen channels. -/
def lanes (u : S2048x128.Idx → ℝ) (w : S128x128.Idx → ℝ) (l : Fin 512) (t : ℕ) : ℂ :=
  if h : t < 2048 then ⟨∑ h' : Fin 16, u (ValueIdx.ix2 ⟨t, h⟩ (⟨16 * (l.val / 64) + h'.val, by omega⟩ : Fin 128))
        * w (ValueIdx.ix2 (⟨16 * (l.val / 64) + h'.val, by omega⟩ : Fin 128) (⟨l.val % 64, by omega⟩ : Fin 128)),
      ∑ h' : Fin 16, u (ValueIdx.ix2 ⟨t, h⟩ (⟨16 * (l.val / 64) + h'.val, by omega⟩ : Fin 128))
        * w (ValueIdx.ix2 (⟨16 * (l.val / 64) + h'.val, by omega⟩ : Fin 128) (⟨64 + l.val % 64, by omega⟩ : Fin 128))⟩
  else 0

theorem fill9_read : arg9.view.read (Elt Ideal) (fill9 c arg1 harg1 arg2 harg2 arg9 x0 x1) = k0_pay52 x0 (expd x1) := by
  have hu := u_eq c arg1 harg1 x0
  have hb := wb_eq c arg2 harg2 x1
  unfold fill9 HS0_1
  rw [hu, hb]
  exact View.read_writes_full arg9.view _ _ _ _

theorem fill10_read : arg10.view.read (Elt Ideal) (fill10 c arg1 harg1 arg2 harg2 arg10 x0 x1) = k0_pay54 (k0_pay53 x0 (expd x1)) := by
  have hu := u_eq c arg1 harg1 x0
  have hb := wb_eq c arg2 harg2 x1
  unfold fill10 HS1_1 r_24
  rw [hu, hb]
  exact View.read_writes_full arg10.view _ _ _ _

variable (u : S2048x128.Idx → ℝ) (w : S128x128.Idx → ℝ) (a3 a4 : S1x512.Idx → ℝ)

theorem states_is (t : Fin 2048) (l : Fin 512) :
    (states9 c i arg1 harg1 arg2 harg2 arg3 harg3 arg4 harg4 arg5 harg5 arg6 harg6 arg7 harg7 arg8 harg8 arg9 harg9 arg10 harg10 (fun j => (u j : EReal)) (fun j => (w j : EReal)) x2 (fun j => (a3 j : EReal)) (fun j => (a4 j : EReal)) (ValueIdx.ix2 t l) : EReal)
        = ((state ⟨a3 (ValueIdx.ix2 (0 : Fin 1) l), a4 (ValueIdx.ix2 (0 : Fin 1) l)⟩ (lanes u w l) (t.val + 1)).re : ℝ)
      ∧ (states10 c i arg1 harg1 arg2 harg2 arg3 harg3 arg4 harg4 arg5 harg5 arg6 harg6 arg7 harg7 arg8 harg8 arg9 harg9 arg10 harg10 (fun j => (u j : EReal)) (fun j => (w j : EReal)) x2 (fun j => (a3 j : EReal)) (fun j => (a4 j : EReal)) (ValueIdx.ix2 t l) : EReal)
        = ((state ⟨a3 (ValueIdx.ix2 (0 : Fin 1) l), a4 (ValueIdx.ix2 (0 : Fin 1) l)⟩ (lanes u w l) (t.val + 1)).im : ℝ) := by
  have hl : ∀ l : Fin 512, (⟨64 * (⟨l.val / 64, by omega⟩ : Fin 8).val + (⟨l.val % 64, by omega⟩ : Fin 64).val, by dsimp only; omega⟩ : Fin 512) = l :=
    fun l => Fin.ext (by dsimp only; omega)
  have h := (after_is c i arg1 harg1 arg2 harg2 arg3 harg3 arg4 harg4 arg5 harg5 arg6 harg6 arg7 harg7 arg8 harg8 arg9 harg9 arg10 harg10 (fun j => (u j : EReal)) (expd x2)
    (fill9 c arg1 harg1 arg2 harg2 arg9 (fun j => (u j : EReal)) (fun j => (w j : EReal)))
    (fill10 c arg1 harg1 arg2 harg2 arg10 (fun j => (u j : EReal)) (fun j => (w j : EReal)))
    (ar := fun j : S1x512.Idx => (a3 j : EReal)) (ai := fun j : S1x512.Idx => (a4 j : EReal)) (a := fun l => ⟨a3 (ValueIdx.ix2 (0 : Fin 1) l), a4 (ValueIdx.ix2 (0 : Fin 1) l)⟩) (b := lanes u w)
    (fun l => ⟨rfl, rfl⟩)
    (fun t l => by
      rw [fill9_read]
      have e := in_re (fun j => (u j : EReal)) (fun j => (w j : EReal)) t (⟨l.val / 64, by omega⟩ : Fin 8) (⟨l.val % 64, by omega⟩ : Fin 64)
      rw [hl l] at e
      rw [e, lanes, dif_pos t.isLt]
      push_cast
      rfl)
    (fun t l => by
      rw [fill10_read]
      have e := in_im (fun j => (u j : EReal)) (fun j => (w j : EReal)) t (⟨l.val / 64, by omega⟩ : Fin 8) (⟨l.val % 64, by omega⟩ : Fin 64)
      rw [hl l] at e
      rw [e, lanes, dif_pos t.isLt]
      push_cast
      rfl) 256 le_rfl).2 t l
  rw [if_pos (by omega), if_pos (by omega)] at h
  exact h

/-- The linear output of a block: group `g` of it, channel `h` of the group. -/
theorem block_cell (t : Fin 2048) (g : Fin 8) (h : Fin 16) :
    (k0_pay80 (fun j => (u j : EReal)) (expd x2) (states9 c i arg1 harg1 arg2 harg2 arg3 harg3 arg4 harg4 arg5 harg5 arg6 harg6 arg7 harg7 arg8 harg8 arg9 harg9 arg10 harg10 (fun j => (u j : EReal)) (fun j => (w j : EReal)) x2 (fun j => (a3 j : EReal)) (fun j => (a4 j : EReal)))
        (states10 c i arg1 harg1 arg2 harg2 arg3 harg3 arg4 harg4 arg5 harg5 arg6 harg6 arg7 harg7 arg8 harg8 arg9 harg9 arg10 harg10 (fun j => (u j : EReal)) (fun j => (w j : EReal)) x2 (fun j => (a3 j : EReal)) (fun j => (a4 j : EReal))) x5
        (ValueIdx.ix2 t (⟨16 * g.val + h.val, by omega⟩ : Fin 128)) : EReal)
      = ((∑ p : Fin 64, ((state ⟨a3 (ValueIdx.ix2 (0 : Fin 1) (⟨64 * g.val + p.val, by omega⟩ : Fin 512)), a4 (ValueIdx.ix2 (0 : Fin 1) (⟨64 * g.val + p.val, by omega⟩ : Fin 512))⟩
              (lanes u w (⟨64 * g.val + p.val, by omega⟩ : Fin 512)) (t.val + 1)).re : EReal)
            * x2 (ValueIdx.ix2 (⟨16 * g.val + h.val, by omega⟩ : Fin 128) (⟨p.val, by omega⟩ : Fin 128)))
          + ∑ p : Fin 64, ((state ⟨a3 (ValueIdx.ix2 (0 : Fin 1) (⟨64 * g.val + p.val, by omega⟩ : Fin 512)), a4 (ValueIdx.ix2 (0 : Fin 1) (⟨64 * g.val + p.val, by omega⟩ : Fin 512))⟩
              (lanes u w (⟨64 * g.val + p.val, by omega⟩ : Fin 512)) (t.val + 1)).im : EReal)
            * x2 (ValueIdx.ix2 (⟨16 * g.val + h.val, by omega⟩ : Fin 128) (⟨64 + p.val, by omega⟩ : Fin 128)))
        + (x5 (ValueIdx.ix2 (0 : Fin 1) (⟨16 * g.val + h.val, by omega⟩ : Fin 128)) : EReal) * (u (ValueIdx.ix2 t (⟨16 * g.val + h.val, by omega⟩ : Fin 128)) : EReal) := by
  have s := states_is c i arg1 harg1 arg2 harg2 arg3 harg3 arg4 harg4 arg5 harg5 arg6 harg6 arg7 harg7 arg8 harg8 arg9 harg9 arg10 harg10 x2 u w a3 a4 t
  rw [out_cell]
  refine congrArg₂ (· + ·) (congrArg₂ (· + ·) (Finset.sum_congr rfl fun p _ => congrArg₂ (· * ·) (s _).1 rfl)
    (Finset.sum_congr rfl fun p _ => congrArg₂ (· * ·) (s _).2 rfl)) rfl

end Out

end Cert.CoreFwdIdeal.Val

end
-- ==== Proof.CoreLoop.lean ====
module

public import proofs.«01_k».proof.Defs
public import proofs.«01_k».proof.Proof.Gen.CoreFwdRefIdeal.Run
public import proofs.«01_k».proof.Proof.Gen.CoreFwdRefIdeal.Step

/-!
The reference's run of the state-space core, its loop as one step iterated from the state the lines before it leave.
-/

@[expose] public section

set_option maxRecDepth 16384

noncomputable section

open Idealize.ShloMosaic Idealize.ShloMosaic.TcCoe Idealize.SL.Sem Idealize.ShloMosaic.StableHlo

namespace Cert.CoreFwdRefIdeal.Val
open Cert.CoreFwdRefIdeal Cert.CoreFwdRefIdeal.Gen Cert.CoreFwdRefIdeal.Value
open Cert.CoreFwdRefIdeal.Step

abbrev E := Elt Ideal

/-- The loop's buffers, as a state. -/
def heldBy (W : Valuation τ sig E) : State Ideal where
  main_v8_5 := W (Proc.devRef .tc main_v8_5)
  main_v8_6 := W (Proc.devRef .tc main_v8_6)
  main_v8_7 := W (Proc.devRef .tc main_v8_7)
  main_v8_8 := W (Proc.devRef .tc main_v8_8)
  main_v8_0 := W (Proc.devRef .tc main_v8_0)
  main_v8_1 := W (Proc.devRef .tc main_v8_1)
  main_v8_2 := W (Proc.devRef .tc main_v8_2)
  main_v8_3 := W (Proc.devRef .tc main_v8_3)

/-- A trip's new values with the trip's number left open. -/
def newRe (W : Valuation τ sig E) (z : (⟨S_, .i32⟩ : BufTy).Contents E) : (⟨S128x64, .f32⟩ : BufTy).Contents E :=
  addf (b10 0 (heldBy W)) (shapeCast S128x64 (Host.dynamicSlice S1x128x64 ((heldBy W).main_v8_0)
    (fun k => (((![z, constantI S_ 32 0#32, constantI S_ 32 0#32] : Fin 3 → (⟨S_, .i32⟩ : BufTy).Contents E)) k (Shape.Idx.first h_S_)).toInt)
    sliceFits_S2048x128x64_S1x128x64) shapeCasts_S1x128x64_S128x64)
def newIm (W : Valuation τ sig E) (z : (⟨S_, .i32⟩ : BufTy).Contents E) : (⟨S128x64, .f32⟩ : BufTy).Contents E :=
  addf (b14 0 (heldBy W)) (shapeCast S128x64 (Host.dynamicSlice S1x128x64 ((heldBy W).main_v8_1)
    (fun k => (((![z, constantI S_ 32 0#32, constantI S_ 32 0#32] : Fin 3 → (⟨S_, .i32⟩ : BufTy).Contents E)) k (Shape.Idx.first h_S_)).toInt)
    sliceFits_S2048x128x64_S1x128x64) shapeCasts_S1x128x64_S128x64)
def putRow (x : (⟨S2048x128x64, .f32⟩ : BufTy).Contents E) (y : (⟨S128x64, .f32⟩ : BufTy).Contents E) (z : (⟨S_, .i32⟩ : BufTy).Contents E) :
    (⟨S2048x128x64, .f32⟩ : BufTy).Contents E :=
  Host.dynamicUpdateSlice x (broadcastInDim S1x128x64 ![1, 2] bcast_S128x64_S1x128x64_1_2 y)
    (fun k => (((![z, constantI S_ 32 0#32, constantI S_ 32 0#32] : Fin 3 → (⟨S_, .i32⟩ : BufTy).Contents E)) k (Shape.Idx.first h_S_)).toInt)
    updateFits_S2048x128x64_S1x128x64

theorem heldBy_step (W : Valuation τ sig E) (j : ℕ) (hn : W (Proc.devRef .tc main_v8_4) = constantI S_ 32 (BitVec.ofNat 32 j)) :
    heldBy (STEP W) = step j (heldBy W) := by
  have e5 : step_main_v8_5 (F := Ideal) W = newRe W (W (Proc.devRef .tc main_v8_4)) := rfl
  have e6 : step_main_v8_6 (F := Ideal) W = newIm W (W (Proc.devRef .tc main_v8_4)) := rfl
  have e7 : step_main_v8_7 (F := Ideal) W = putRow (W (Proc.devRef .tc main_v8_7)) (newRe W (W (Proc.devRef .tc main_v8_4))) (W (Proc.devRef .tc main_v8_4)) := rfl
  have e8 : step_main_v8_8 (F := Ideal) W = putRow (W (Proc.devRef .tc main_v8_8)) (newIm W (W (Proc.devRef .tc main_v8_4))) (W (Proc.devRef .tc main_v8_4)) := rfl
  unfold heldBy step
  rw [STEP_main_v8_5, STEP_main_v8_6, STEP_main_v8_7, STEP_main_v8_8, STEP_main_v8_0, STEP_main_v8_1, STEP_main_v8_2, STEP_main_v8_3, e5, e6, e7, e8, hn]
  rfl

theorem counter_step (W : Valuation τ sig E) (j : ℕ) (hn : W (Proc.devRef .tc main_v8_4) = constantI S_ 32 (BitVec.ofNat 32 j)) :
    STEP W (Proc.devRef .tc main_v8_4) = constantI S_ 32 (BitVec.ofNat 32 (j + 1)) := by
  rw [STEP_main_v8_4]
  unfold step_main_v8_4
  rw [hn]
  funext i
  show BitVec.ofNat 32 j + 1#32 = BitVec.ofNat 32 (j + 1)
  simp only [BitVec.ofNat_add]

variable (m : (ℓ : Loc nD τ sig) → Buf E ℓ) (c : Dev nD)

/-- The state before the first trip. -/
abbrev start : State Ideal :=
  init (m ((c.tc : Thread nD τ).loc main_arg1)) (m ((c.tc : Thread nD τ).loc main_arg2)) (m ((c.tc : Thread nD τ).loc main_arg0))
    (m ((c.tc : Thread nD τ).loc main_arg3)) (m ((c.tc : Thread nD τ).loc main_arg4))

/-- The state after the first trips. -/
def trips (s : State Ideal) : ℕ → State Ideal
  | 0 => s
  | n + 1 => step n (trips s n)

set_option maxRecDepth 65536 in
set_option maxHeartbeats 800000 in
theorem entry : heldBy (entryContents preI m c) = start m c ∧ entryContents preI m c (Proc.devRef .tc main_v8_4) = constantI S_ 32 (BitVec.ofNat 32 0) := by
  constructor
  · unfold heldBy start init
    congr 1 <;> (simp only [entryContents, afterL_cons, afterL_nil]; after_reads_simp) <;> rfl
  · (simp only [entryContents, afterL_cons, afterL_nil]; after_reads_simp) <;> rfl

theorem iterated (k : ℕ) : heldBy (STEP^[k] (entryContents preI m c)) = trips (start m c) k
    ∧ (STEP^[k] (entryContents preI m c)) (Proc.devRef .tc main_v8_4) = constantI S_ 32 (BitVec.ofNat 32 k) := by
  induction k with
  | zero => exact entry m c
  | succ k ih =>
    rw [Function.iterate_succ_apply']
    exact ⟨(heldBy_step _ k ih.2).trans (congrArg (step k) ih.1), counter_step _ k ih.2⟩

theorem out20 {W : Valuation τ sig E} {s : State Ideal} {x0 : (⟨S2048x2048, .f32⟩ : BufTy).Contents E} {x5 x6 : (⟨S128x16x64, .f32⟩ : BufTy).Contents E}
    {x7 : (⟨S2048, .f32⟩ : BufTy).Contents E} (hs : heldBy W = s) (h0 : W (Proc.devRef .tc main_arg0) = x0) (h5 : W (Proc.devRef .tc main_arg5) = x5)
    (h6 : W (Proc.devRef .tc main_arg6) = x6) (h7 : W (Proc.devRef .tc main_arg7) = x7) : out_main_v20 (F := Ideal) W = R_main_v20 s x0 x5 x6 x7 := by
  subst hs h0 h5 h6 h7
  rfl

theorem out34 {W : Valuation τ sig E} {s : State Ideal} {x0 : (⟨S2048x2048, .f32⟩ : BufTy).Contents E} {x5 x6 : (⟨S128x16x64, .f32⟩ : BufTy).Contents E}
    {x7 : (⟨S2048, .f32⟩ : BufTy).Contents E} (hs : heldBy W = s) (h0 : W (Proc.devRef .tc main_arg0) = x0) (h5 : W (Proc.devRef .tc main_arg5) = x5)
    (h6 : W (Proc.devRef .tc main_arg6) = x6) (h7 : W (Proc.devRef .tc main_arg7) = x7) : out_main_v34 (F := Ideal) W = R_main_v34 s x0 x5 x6 x7 := by
  subst hs h0 h5 h6 h7
  rfl

theorem run_trips (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = R_main_v20 (trips (start m c) 2048) (m ((c.tc : Thread nD τ).loc main_arg0)) (m ((c.tc : Thread nD τ).loc main_arg5)) (m ((c.tc : Thread nD τ).loc main_arg6)) (m ((c.tc : Thread nD τ).loc main_arg7))
      ∧ r.2.mem ((c.tc : Thread nD τ).loc main_v34) = R_main_v34 (trips (start m c) 2048) (m ((c.tc : Thread nD τ).loc main_arg0)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_) (Value.run m ρ)
  have hk := (iterated m c 2048).1
  exact ⟨(h c).1.trans (out20 hk (iter_main_arg0 m c 2048) (iter_main_arg5 m c 2048) (iter_main_arg6 m c 2048) (iter_main_arg7 m c 2048)),
    (h c).2.1.trans (out34 hk (iter_main_arg0 m c 2048) (iter_main_arg5 m c 2048) (iter_main_arg6 m c 2048) (iter_main_arg7 m c 2048)), (h c).2.2⟩

end Cert.CoreFwdRefIdeal.Val

end
-- ==== Proof.CoreRef.lean ====
module

public import proofs.«01_k».proof.Defs
public import proofs.«01_k».proof.Proof.CoreMath
public import proofs.«01_k».proof.Proof.CoreLoop
public import proofs.«01_k».proof.Proof.Base
public import Idealize.ShloMosaic.Lib.WordCmp

/-!
The reference's loop: after its trips it holds the recurrence's states, a row of the collected arrays for every position.
-/

@[expose] public section

set_option maxRecDepth 16384

noncomputable section

open Idealize.ShloMosaic Idealize.ShloMosaic.TcCoe Idealize.SL.Sem

namespace Cert.CoreFwdRefIdeal.Val
open Cert.CoreFwdRefIdeal Cert.CoreFwdRefIdeal.Gen Cert.CoreFwdRefIdeal.Step Cert.Ssm

theorem toInt_small (j : ℕ) (hj : j < 2048) : (BitVec.ofNat 32 j).toInt = (j : ℤ) := by
  have e : (BitVec.ofNat 32 j).toNat = j := by rw [BitVec.toNat_ofNat]; omega
  rw [BitVec.toInt_eq_toNat_of_lt (by rw [e]; omega), e]

/-- A row of a stack of rows, read at a loop's index. -/
theorem row_read (x : FVec Ideal S2048x128x64 .f32) (j : ℕ) (hj : j < 2048) (a b : (⟨S_, .i32⟩ : BufTy).Contents (Elt Ideal))
    (ha : a = constantI S_ 32 0#32) (hb : b = constantI S_ 32 0#32) (g : Fin 128) (p : Fin 64) :
    (Host.dynamicSlice S1x128x64 x (fun k => (((![(constantI S_ 32 (BitVec.ofNat 32 j) : (⟨S_, .i32⟩ : BufTy).Contents (Elt Ideal)), a, b]
      : Fin 3 → (⟨S_, .i32⟩ : BufTy).Contents (Elt Ideal))) k (Shape.Idx.first h_S_)).toInt) sliceFits_S2048x128x64_S1x128x64 (ValueIdx.ix3 (0 : Fin 1) g p) : EReal)
      = x (ValueIdx.ix3 (⟨j, hj⟩ : Fin 2048) g p) := by
  subst ha hb
  have hk : S2048x128x64.Slices ![j, 0, 0] S1x128x64 := by
    refine ⟨rfl, fun a => ?_⟩
    fin_cases a
    · show j + 1 ≤ 2048; omega
    · exact le_rfl
    · exact le_rfl
  rw [WordCmp.dynamicSlice_eq_extract _ _ _ _ ![j, 0, 0] hk]
  · unfold extractStridedSlice
    refine congrArg x (funext fun a => ?_)
    fin_cases a
    · exact Fin.ext (by show j + 0 = j; omega)
    · exact Fin.ext (by show 0 + g.val = g.val; omega)
    · exact Fin.ext (by show 0 + p.val = p.val; omega)
  · intro a
    fin_cases a
    · show (BitVec.ofNat 32 j).toInt = (j : ℤ)
      exact toInt_small j hj
    · rfl
    · rfl

theorem row_write (x : FVec Ideal S2048x128x64 .f32) (y : FVec Ideal S1x128x64 .f32) (j : ℕ) (hj : j < 2048) (a b : (⟨S_, .i32⟩ : BufTy).Contents (Elt Ideal))
    (ha : a = constantI S_ 32 0#32) (hb : b = constantI S_ 32 0#32) (t : Fin 2048) (g : Fin 128) (p : Fin 64) :
    (Host.dynamicUpdateSlice x y (fun k => (((![(constantI S_ 32 (BitVec.ofNat 32 j) : (⟨S_, .i32⟩ : BufTy).Contents (Elt Ideal)), a, b]
      : Fin 3 → (⟨S_, .i32⟩ : BufTy).Contents (Elt Ideal))) k (Shape.Idx.first h_S_)).toInt) updateFits_S2048x128x64_S1x128x64 (ValueIdx.ix3 t g p) : EReal)
      = if t.val = j then y (ValueIdx.ix3 (0 : Fin 1) g p) else x (ValueIdx.ix3 t g p) := by
  subst ha hb
  have hk : S2048x128x64.Slices ![j, 0, 0] S1x128x64 := by
    refine ⟨rfl, fun a => ?_⟩
    fin_cases a
    · show j + 1 ≤ 2048; omega
    · exact le_rfl
    · exact le_rfl
  rw [WordCmp.dynamicUpdateSlice_eq_update _ _ _ _ ![j, 0, 0] hk]
  · unfold updateSlice
    by_cases h : t.val = j
    · rw [if_pos h, dif_pos (by
        intro a
        fin_cases a
        · show j ≤ t.val ∧ t.val < j + 1; omega
        · exact ⟨Nat.zero_le _, by show g.val < 0 + 128; omega⟩
        · exact ⟨Nat.zero_le _, by show p.val < 0 + 64; omega⟩)]
      refine congrArg y (funext fun a => ?_)
      fin_cases a
      · exact Fin.ext (by show t.val - j = 0; omega)
      · rfl
      · rfl
    · rw [if_neg h, dif_neg (by
        intro hh
        have q : j ≤ t.val ∧ t.val < j + 1 := hh 0
        omega)]
  · intro a
    fin_cases a
    · show (BitVec.ofNat 32 j).toInt = (j : ℤ)
      exact toInt_small j hj
    · rfl
    · rfl

section Loop

variable (u : S2048x2048.Idx → ℝ) (l1 l2 : S128x64.Idx → ℝ) (w3 w4 : S128x64x16.Idx → ℝ)

/-- The recurrence's inputs: group `g`'s sixteen channels against its weights. -/
def inp (g : Fin 128) (p : Fin 64) (t : ℕ) : ℂ :=
  if h : t < 2048 then ⟨∑ k : Fin 16, u (ValueIdx.ix2 ⟨t, h⟩ (⟨16 * g.val + k.val, by omega⟩ : Fin 2048)) * w3 (ValueIdx.ix3 g p k),
      ∑ k : Fin 16, u (ValueIdx.ix2 ⟨t, h⟩ (⟨16 * g.val + k.val, by omega⟩ : Fin 2048)) * w4 (ValueIdx.ix3 g p k)⟩
  else 0

/-- Its states. -/
abbrev st (g : Fin 128) (p : Fin 64) : ℕ → ℂ := state ⟨l1 (ValueIdx.ix2 g p), l2 (ValueIdx.ix2 g p)⟩ (inp u w3 w4 g p)

/-- What the loop holds after `k` trips. -/
structure At (k : ℕ) (s : State Ideal) : Prop where
  xr : ∀ g p, (s.main_v8_5 (ValueIdx.ix2 g p) : EReal) = ((st u l1 l2 w3 w4 g p k).re : ℝ)
  xi : ∀ g p, (s.main_v8_6 (ValueIdx.ix2 g p) : EReal) = ((st u l1 l2 w3 w4 g p k).im : ℝ)
  br : ∀ (t : Fin 2048) g p, (s.main_v8_0 (ValueIdx.ix3 t g p) : EReal) = ((inp u w3 w4 g p t.val).re : ℝ)
  bi : ∀ (t : Fin 2048) g p, (s.main_v8_1 (ValueIdx.ix3 t g p) : EReal) = ((inp u w3 w4 g p t.val).im : ℝ)
  ar : ∀ g p, (s.main_v8_2 (ValueIdx.ix2 g p) : EReal) = (l1 (ValueIdx.ix2 g p) : ℝ)
  ai : ∀ g p, (s.main_v8_3 (ValueIdx.ix2 g p) : EReal) = (l2 (ValueIdx.ix2 g p) : ℝ)
  ys : ∀ (t : Fin 2048) g p, t.val < k → (s.main_v8_7 (ValueIdx.ix3 t g p) : EReal) = ((st u l1 l2 w3 w4 g p (t.val + 1)).re : ℝ)
  zs : ∀ (t : Fin 2048) g p, t.val < k → (s.main_v8_8 (ValueIdx.ix3 t g p) : EReal) = ((st u l1 l2 w3 w4 g p (t.val + 1)).im : ℝ)

variable {u l1 l2 w3 w4}

theorem At.newRe {k : ℕ} {s : State Ideal} (h : At u l1 l2 w3 w4 k s) (hk : k < 2048) (g : Fin 128) (p : Fin 64) :
    (b11 k s (ValueIdx.ix2 g p) : EReal) = ((st u l1 l2 w3 w4 g p (k + 1)).re : ℝ) := by
  have e : (b11 k s (ValueIdx.ix2 g p) : EReal) = ((s.main_v8_2 (ValueIdx.ix2 g p) : EReal) * s.main_v8_5 (ValueIdx.ix2 g p)
      - (s.main_v8_3 (ValueIdx.ix2 g p) : EReal) * s.main_v8_6 (ValueIdx.ix2 g p)) + b2 k s (ValueIdx.ix3 (0 : Fin 1) g p) := by
    pointwise [b11, b10, b9, b8, Step.b3]
    rfl
  have r : (b2 k s (ValueIdx.ix3 (0 : Fin 1) g p) : EReal) = s.main_v8_0 (ValueIdx.ix3 (⟨k, hk⟩ : Fin 2048) g p) := row_read _ k hk _ _ rfl rfl g p
  rw [e, r, h.ar, h.ai, h.xr, h.xi, h.br]
  simp only [st, state, Complex.add_re, Complex.mul_re, EReal.coe_add, EReal.coe_sub, EReal.coe_mul]

theorem At.newIm {k : ℕ} {s : State Ideal} (h : At u l1 l2 w3 w4 k s) (hk : k < 2048) (g : Fin 128) (p : Fin 64) :
    (b15 k s (ValueIdx.ix2 g p) : EReal) = ((st u l1 l2 w3 w4 g p (k + 1)).im : ℝ) := by
  have e : (b15 k s (ValueIdx.ix2 g p) : EReal) = ((s.main_v8_2 (ValueIdx.ix2 g p) : EReal) * s.main_v8_6 (ValueIdx.ix2 g p)
      + (s.main_v8_3 (ValueIdx.ix2 g p) : EReal) * s.main_v8_5 (ValueIdx.ix2 g p)) + b6 k s (ValueIdx.ix3 (0 : Fin 1) g p) := by
    pointwise [b15, b14, b13, b12, b7]
    rfl
  have r : (b6 k s (ValueIdx.ix3 (0 : Fin 1) g p) : EReal) = s.main_v8_1 (ValueIdx.ix3 (⟨k, hk⟩ : Fin 2048) g p) := row_read _ k hk _ _ rfl rfl g p
  rw [e, r, h.ar, h.ai, h.xr, h.xi, h.bi]
  simp only [st, state, Complex.add_im, Complex.mul_im, EReal.coe_add, EReal.coe_mul]

theorem At.next {k : ℕ} {s : State Ideal} (h : At u l1 l2 w3 w4 k s) (hk : k < 2048) : At u l1 l2 w3 w4 (k + 1) (step k s) where
  xr g p := h.newRe hk g p
  xi g p := h.newIm hk g p
  br := h.br
  bi := h.bi
  ar := h.ar
  ai := h.ai
  ys t g p ht := by
    have e : ((step k s).main_v8_7 (ValueIdx.ix3 t g p) : EReal) = if t.val = k then (b16 k s (ValueIdx.ix3 (0 : Fin 1) g p) : EReal) else s.main_v8_7 (ValueIdx.ix3 t g p) :=
      row_write _ _ k hk _ _ rfl rfl t g p
    have e' : (b16 k s (ValueIdx.ix3 (0 : Fin 1) g p) : EReal) = b11 k s (ValueIdx.ix2 g p) := by
      pointwise [b16]
      rfl
    rw [e]
    by_cases q : t.val = k
    · rw [if_pos q, e', h.newRe hk, q]
    · rw [if_neg q]
      exact h.ys t g p (by omega)
  zs t g p ht := by
    have e : ((step k s).main_v8_8 (ValueIdx.ix3 t g p) : EReal) = if t.val = k then (b20 k s (ValueIdx.ix3 (0 : Fin 1) g p) : EReal) else s.main_v8_8 (ValueIdx.ix3 t g p) :=
      row_write _ _ k hk _ _ rfl rfl t g p
    have e' : (b20 k s (ValueIdx.ix3 (0 : Fin 1) g p) : EReal) = b15 k s (ValueIdx.ix2 g p) := by
      pointwise [b20]
      rfl
    rw [e]
    by_cases q : t.val = k
    · rw [if_pos q, e', h.newIm hk, q]
    · rw [if_neg q]
      exact h.zs t g p (by omega)

/-- The first state. -/
theorem At.first : At u l1 l2 w3 w4 0 (init (F := Ideal) (fun i => (l1 i : EReal)) (fun i => (l2 i : EReal)) (fun i => (u i : EReal)) (fun i => (w3 i : EReal)) (fun i => (w4 i : EReal))) where
  xr g p := by
    show (K_main_v5 (F := Ideal) (ValueIdx.ix2 g p) : EReal) = _
    pointwise [K_main_v5, K_main_cst]
    simp [st, state]
  xi g p := by
    show (K_main_v5 (F := Ideal) (ValueIdx.ix2 g p) : EReal) = _
    pointwise [K_main_v5, K_main_cst]
    simp [st, state]
  br t g p := by
    show (A_main_v2 (F := Ideal) _ _ _ (ValueIdx.ix3 t g p) : EReal) = _
    pointwise [A_main_v2, A_main_v1, A_main_v0]
    rw [inp, dif_pos t.isLt]
    dsimp only
    refine Eq.trans (Finset.sum_congr rfl fun k _ => ?_) (Base.coe_sum _ _).symm
    rw [EReal.coe_mul]
    refine (mul_comm _ _).trans (congrArg₂ (· * ·) (congrArg (fun j : Fin 2048 => ((u (ValueIdx.ix2 t j) : ℝ) : EReal)) (Fin.ext ?_)) rfl)
    show g.val * 16 + k.val = 16 * g.val + k.val
    omega
  bi t g p := by
    show (A_main_v4 (F := Ideal) _ _ _ (ValueIdx.ix3 t g p) : EReal) = _
    pointwise [A_main_v4, A_main_v3, A_main_v0]
    rw [inp, dif_pos t.isLt]
    dsimp only
    refine Eq.trans (Finset.sum_congr rfl fun k _ => ?_) (Base.coe_sum _ _).symm
    rw [EReal.coe_mul]
    refine (mul_comm _ _).trans (congrArg₂ (· * ·) (congrArg (fun j : Fin 2048 => ((u (ValueIdx.ix2 t j) : ℝ) : EReal)) (Fin.ext ?_)) rfl)
    show g.val * 16 + k.val = 16 * g.val + k.val
    omega
  ar g p := rfl
  ai g p := rfl
  ys t g p h := absurd h (by omega)
  zs t g p h := absurd h (by omega)

/-- What the loop holds at its end. -/
theorem at_end (k : ℕ) (hk : k ≤ 2048) : At u l1 l2 w3 w4 k (trips (init (F := Ideal) (fun i => (l1 i : EReal)) (fun i => (l2 i : EReal)) (fun i => (u i : EReal))
    (fun i => (w3 i : EReal)) (fun i => (w4 i : EReal))) k) := by
  induction k with
  | zero => exact At.first
  | succ k ih => exact (ih (by omega)).next (by omega)

end Loop

section Results

variable (s : State Ideal) (x : FVec Ideal S2048x2048 .f32) (c5 c6 : FVec Ideal S128x16x64 .f32) (d : FVec Ideal S2048 .f32)

/-- The linear output: group `g`, channel `h` of it. -/
theorem y_cell (t : Fin 2048) (g : Fin 128) (h : Fin 16) :
    (R_main_v20 (F := Ideal) s x c5 c6 d (ValueIdx.ix2 t (⟨16 * g.val + h.val, by omega⟩ : Fin 2048)) : EReal)
      = ((∑ p : Fin 64, (c5 (ValueIdx.ix3 g h p) : EReal) * s.main_v8_7 (ValueIdx.ix3 t g p)) - ∑ p : Fin 64, (c6 (ValueIdx.ix3 g h p) : EReal) * s.main_v8_8 (ValueIdx.ix3 t g p))
        + (d (ValueIdx.ix1 (⟨16 * g.val + h.val, by omega⟩ : Fin 2048)) : EReal) * x (ValueIdx.ix2 t (⟨16 * g.val + h.val, by omega⟩ : Fin 2048)) := by
  pointwise [R_main_v20]
  have e1 : (⟨(16 * g.val + h.val) / 16, by omega⟩ : Fin 128) = g := Fin.ext (by dsimp only; omega)
  have e2 : (⟨(16 * g.val + h.val) % 16, by omega⟩ : Fin 16) = h := Fin.ext (by dsimp only; omega)
  have e3 : (⟨(16 * g.val + h.val) / 16 * 16 + (16 * g.val + h.val) % 16, by omega⟩ : Fin 2048) = ⟨16 * g.val + h.val, by omega⟩ := Fin.ext (by dsimp only; omega)
  simp only [e1, e2, e3]
  rfl

/-- A gelu, as the reference writes it. -/
def geluV (Y : FVec Ideal S2048x2048 .f32) : FVec Ideal S2048x2048 .bf16 :=
  truncf .bf16 (mulf Y (mulf (broadcastInDim S2048x2048 ![] bcast_S_S2048x2048 (constant S_ FTy.f32 0x3F000000#32))
    (addf (broadcastInDim S2048x2048 ![] bcast_S_S2048x2048 (constant S_ FTy.f32 0x3F800000#32))
      (Host.tanh (mulf (broadcastInDim S2048x2048 ![] bcast_S_S2048x2048 (constant S_ FTy.f32 0x3F4C422A#32))
        (addf Y (mulf (broadcastInDim S2048x2048 ![] bcast_S_S2048x2048 (constant S_ FTy.f32 0x3D372713#32)) (mulf (mulf Y Y) Y)))))))) bitsLt_bf16_f32

theorem yg_eq : R_main_v34 (F := Ideal) s x c5 c6 d = geluV (R_main_v20 (F := Ideal) s x c5 c6 d) := rfl

/-- A gelu. -/
def gelu (y : EReal) : EReal :=
  y * (Ideal.ofBits .f32 0x3F000000#32 * (1 + Ideal.tanh (Ideal.ofBits .f32 0x3F4C422A#32 * (y + Ideal.ofBits .f32 0x3D372713#32 * (y * y * y)))))

theorem geluV_cell (Y : FVec Ideal S2048x2048 .f32) (t r : Fin 2048) : (geluV Y (ValueIdx.ix2 t r) : EReal) = gelu (Y (ValueIdx.ix2 t r)) := by
  pointwise [geluV]
  rfl

end Results

end Cert.CoreFwdRefIdeal.Val

end
-- ==== Proof.CoreFwd.lean ====
module

public import proofs.«01_k».proof.Defs
public import proofs.«01_k».proof.Proof.CoreOut
public import proofs.«01_k».proof.Proof.CoreRef
public import Idealize.ShloMosaic.Lib.ReduceAll

/-!
The forward call of the state-space core: its blocks are the reference's groups, its two results the reference's.
-/

@[expose] public section

set_option maxRecDepth 16384

noncomputable section

open Idealize.ShloMosaic Idealize.ShloMosaic.TcCoe Idealize.SL.Sem
open Idealize.ShloMosaic.Pipeline (Dat)

namespace Cert.CoreFwdIdeal.Val
open Cert.CoreFwdIdeal Cert.CoreFwdIdeal.Gen Cert.Ssm

variable (m : (ℓ : Loc nD τ sig) → Buf (Elt Ideal) ℓ)

abbrev A0 (c : Dev nD) : FVec Ideal S2048x2048 .f32 := m ((c : Thread nD τ).loc main_arg0)
abbrev A1 (c : Dev nD) : FVec Ideal S128x64 .f32 := m ((c : Thread nD τ).loc main_arg1)
abbrev A2 (c : Dev nD) : FVec Ideal S128x64 .f32 := m ((c : Thread nD τ).loc main_arg2)
abbrev A3 (c : Dev nD) : FVec Ideal S128x64x16 .f32 := m ((c : Thread nD τ).loc main_arg3)
abbrev A4 (c : Dev nD) : FVec Ideal S128x64x16 .f32 := m ((c : Thread nD τ).loc main_arg4)
abbrev A5 (c : Dev nD) : FVec Ideal S128x16x64 .f32 := m ((c : Thread nD τ).loc main_arg5)
abbrev A6 (c : Dev nD) : FVec Ideal S128x16x64 .f32 := m ((c : Thread nD τ).loc main_arg6)
abbrev A7 (c : Dev nD) : FVec Ideal S2048 .f32 := m ((c : Thread nD τ).loc main_arg7)

theorem idx_val : ∀ t : Fin cfg0.N, win0_0.index t = ![0, t.val] ∧ win0_1.index t = ![t.val, 0]
    ∧ win0_2.index t = ![t.val, 0] ∧ win0_3.index t = ![0, t.val] ∧ win0_4.index t = ![0, t.val]
    ∧ win0_5.index t = ![0, t.val] ∧ win0_6.index t = ![0, t.val] ∧ win0_7.index t = ![0, t.val] := by decide +kernel

theorem N_lt (t : Fin cfg0.N) : t.val < 16 := lt_of_lt_of_eq t.isLt N_0

/-- The eight groups of a block, among all. -/
def gr (t : Fin cfg0.N) (g : Fin 8) : Fin 128 := ⟨8 * t.val + g.val, by have := N_lt t; omega⟩

/-- A block's channel, among all. -/
def ch (t : Fin cfg0.N) (l : Fin 128) : Fin 2048 := ⟨t.val * 128 + l.val, by have := N_lt t; omega⟩

theorem blk0 (c : Dev nD) (t : Fin cfg0.N) : iblk m c 0 t = fun i : S2048x128.Idx => A0 m c (ValueIdx.ix2 (i 0) (ch t (i 1))) := by
  funext i; idx_vars i; blk_point [iblk, V, idx_val t, gr, ch]

theorem blk5 (c : Dev nD) (t : Fin cfg0.N) : iblk m c 5 t = fun i : S1x128.Idx => A7 m c (ValueIdx.ix1 (ch t (i 1))) := by
  funext i; idx_vars i; blk_simp [iblk, idx_val t]; entry_read; pointwise
  have e : ((View.whole main_v11).slice (win0_5.rect t)).emb (ValueIdx.ix2 i0 i1) = ValueIdx.ix2 (0 : Fin 1) (ch t i1) := by
    blk_ext [idx_val t, ch]
  exact congrArg (fun z : S1x2048.Idx => A7 m c (ValueIdx.ix1 (z 1))) e

theorem ix2_eq {n₀ n₁ : ℕ} {a a' : Fin n₀} {b b' : Fin n₁} (h₀ : a.val = a'.val) (h₁ : b.val = b'.val) : ValueIdx.ix2 a b = ValueIdx.ix2 a' b' := by
  rw [Fin.ext h₀, Fin.ext h₁]

theorem ix3_eq {n₀ n₁ n₂ : ℕ} {a a' : Fin n₀} {b b' : Fin n₁} {d d' : Fin n₂} (h₀ : a.val = a'.val) (h₁ : b.val = b'.val) (h₂ : d.val = d'.val) :
    ValueIdx.ix3 a b d = ValueIdx.ix3 a' b' d' := by
  rw [Fin.ext h₀, Fin.ext h₁, Fin.ext h₂]

/-- The group of a lane, and the lane within it. -/
def lg (l : Fin 512) : Fin 8 := ⟨l.val / 64, by omega⟩
def lp (l : Fin 512) : Fin 64 := ⟨l.val % 64, by omega⟩

theorem blk3 (c : Dev nD) (t : Fin cfg0.N) : iblk m c 3 t = fun i : S1x512.Idx => A1 m c (ValueIdx.ix2 (gr t (lg (i 1))) (lp (i 1))) := by
  funext i; idx_vars i; blk_simp [iblk, idx_val t]; entry_read; pointwise
  have e : ((View.whole main_v9).slice (win0_3.rect t)).emb (ValueIdx.ix2 i0 i1) = ValueIdx.ix2 (0 : Fin 1) (⟨t.val * 512 + i1.val, by have := N_lt t; omega⟩ : Fin 8192) := by
    blk_ext [idx_val t]
  have e1 : (((View.whole main_v9).slice (win0_3.rect t)).emb (ValueIdx.ix2 i0 i1) 1).val = t.val * 512 + i1.val := congrArg Fin.val (congrFun e 1)
  refine congrArg (A1 m c) (ix2_eq ?_ ?_)
  · exact (congrArg (· / 64) e1).trans (by show _ = 8 * t.val + i1.val / 64; omega)
  · exact (congrArg (· % 64) e1).trans (by show _ = i1.val % 64; omega)

theorem blk4 (c : Dev nD) (t : Fin cfg0.N) : iblk m c 4 t = fun i : S1x512.Idx => A2 m c (ValueIdx.ix2 (gr t (lg (i 1))) (lp (i 1))) := by
  funext i; idx_vars i; blk_simp [iblk, idx_val t]; entry_read; pointwise
  have e : ((View.whole main_v10).slice (win0_4.rect t)).emb (ValueIdx.ix2 i0 i1) = ValueIdx.ix2 (0 : Fin 1) (⟨t.val * 512 + i1.val, by have := N_lt t; omega⟩ : Fin 8192) := by
    blk_ext [idx_val t]
  have e1 : (((View.whole main_v10).slice (win0_4.rect t)).emb (ValueIdx.ix2 i0 i1) 1).val = t.val * 512 + i1.val := congrArg Fin.val (congrFun e 1)
  refine congrArg (A2 m c) (ix2_eq ?_ ?_)
  · exact (congrArg (· / 64) e1).trans (by show _ = 8 * t.val + i1.val / 64; omega)
  · exact (congrArg (· % 64) e1).trans (by show _ = i1.val % 64; omega)

theorem wb_lo (c : Dev nD) (t : Fin cfg0.N) (g : Fin 8) (h : Fin 16) (p : Fin 64) :
    (iblk m c 1 t (ValueIdx.ix2 (⟨16 * g.val + h.val, by omega⟩ : Fin 128) (⟨p.val, by omega⟩ : Fin 128)) : EReal) = (A3 m c (ValueIdx.ix3 (gr t g) p h) : EReal) := by
  blk_simp [iblk, idx_val t]; entry_read; pointwise
  have e : ((View.whole main_v4).slice (win0_1.rect t)).emb (ValueIdx.ix2 (⟨16 * g.val + h.val, by omega⟩ : Fin 128) (⟨p.val, by omega⟩ : Fin 128))
      = ValueIdx.ix2 (⟨t.val * 128 + (16 * g.val + h.val), by have := N_lt t; omega⟩ : Fin 2048) (⟨p.val, by omega⟩ : Fin 128) := by
    blk_ext [idx_val t]
  have e0 : (((View.whole main_v4).slice (win0_1.rect t)).emb (ValueIdx.ix2 (⟨16 * g.val + h.val, by omega⟩ : Fin 128) (⟨p.val, by omega⟩ : Fin 128)) 0).val = t.val * 128 + (16 * g.val + h.val) := congrArg Fin.val (congrFun e 0)
  have e1 : (((View.whole main_v4).slice (win0_1.rect t)).emb (ValueIdx.ix2 (⟨16 * g.val + h.val, by omega⟩ : Fin 128) (⟨p.val, by omega⟩ : Fin 128)) 1).val = p.val := congrArg Fin.val (congrFun e 1)
  rw [dif_pos (by rw [e1]; omega)]
  exact congrArg (A3 m c) (ix3_eq ((congrArg (· / 16) e0).trans (by show _ = 8 * t.val + g.val; omega))
    (e1) ((congrArg (· % 16) e0).trans (by show _ = h.val; omega)))

theorem wb_hi (c : Dev nD) (t : Fin cfg0.N) (g : Fin 8) (h : Fin 16) (p : Fin 64) :
    (iblk m c 1 t (ValueIdx.ix2 (⟨16 * g.val + h.val, by omega⟩ : Fin 128) (⟨64 + p.val, by omega⟩ : Fin 128)) : EReal) = (A4 m c (ValueIdx.ix3 (gr t g) p h) : EReal) := by
  blk_simp [iblk, idx_val t]; entry_read; pointwise
  have e : ((View.whole main_v4).slice (win0_1.rect t)).emb (ValueIdx.ix2 (⟨16 * g.val + h.val, by omega⟩ : Fin 128) (⟨64 + p.val, by omega⟩ : Fin 128))
      = ValueIdx.ix2 (⟨t.val * 128 + (16 * g.val + h.val), by have := N_lt t; omega⟩ : Fin 2048) (⟨64 + p.val, by omega⟩ : Fin 128) := by
    blk_ext [idx_val t]
  have e0 : (((View.whole main_v4).slice (win0_1.rect t)).emb (ValueIdx.ix2 (⟨16 * g.val + h.val, by omega⟩ : Fin 128) (⟨64 + p.val, by omega⟩ : Fin 128)) 0).val = t.val * 128 + (16 * g.val + h.val) := congrArg Fin.val (congrFun e 0)
  have e1 : (((View.whole main_v4).slice (win0_1.rect t)).emb (ValueIdx.ix2 (⟨16 * g.val + h.val, by omega⟩ : Fin 128) (⟨64 + p.val, by omega⟩ : Fin 128)) 1).val = 64 + p.val := congrArg Fin.val (congrFun e 1)
  rw [dif_neg (by rw [e1]; omega)]
  exact congrArg (A4 m c) (ix3_eq ((congrArg (· / 16) e0).trans (by show _ = 8 * t.val + g.val; omega))
    ((congrArg (· - 64) e1).trans (by show 64 + p.val - 64 = p.val; omega)) ((congrArg (· % 16) e0).trans (by show _ = h.val; omega)))

theorem wc_lo (c : Dev nD) (t : Fin cfg0.N) (g : Fin 8) (h : Fin 16) (p : Fin 64) :
    (iblk m c 2 t (ValueIdx.ix2 (⟨16 * g.val + h.val, by omega⟩ : Fin 128) (⟨p.val, by omega⟩ : Fin 128)) : EReal) = (A5 m c (ValueIdx.ix3 (gr t g) h p) : EReal) := by
  blk_simp [iblk, idx_val t]; entry_read; pointwise
  have e : ((View.whole main_v8).slice (win0_2.rect t)).emb (ValueIdx.ix2 (⟨16 * g.val + h.val, by omega⟩ : Fin 128) (⟨p.val, by omega⟩ : Fin 128))
      = ValueIdx.ix2 (⟨t.val * 128 + (16 * g.val + h.val), by have := N_lt t; omega⟩ : Fin 2048) (⟨p.val, by omega⟩ : Fin 128) := by
    blk_ext [idx_val t]
  have e0 : (((View.whole main_v8).slice (win0_2.rect t)).emb (ValueIdx.ix2 (⟨16 * g.val + h.val, by omega⟩ : Fin 128) (⟨p.val, by omega⟩ : Fin 128)) 0).val = t.val * 128 + (16 * g.val + h.val) := congrArg Fin.val (congrFun e 0)
  have e1 : (((View.whole main_v8).slice (win0_2.rect t)).emb (ValueIdx.ix2 (⟨16 * g.val + h.val, by omega⟩ : Fin 128) (⟨p.val, by omega⟩ : Fin 128)) 1).val = p.val := congrArg Fin.val (congrFun e 1)
  rw [dif_pos (by rw [e1]; omega)]
  exact congrArg (A5 m c) (ix3_eq ((congrArg (· / 16) e0).trans (by show _ = 8 * t.val + g.val; omega))
    ((congrArg (· % 16) e0).trans (by show _ = h.val; omega)) (e1))

theorem wc_hi (c : Dev nD) (t : Fin cfg0.N) (g : Fin 8) (h : Fin 16) (p : Fin 64) :
    (iblk m c 2 t (ValueIdx.ix2 (⟨16 * g.val + h.val, by omega⟩ : Fin 128) (⟨64 + p.val, by omega⟩ : Fin 128)) : EReal) = -(A6 m c (ValueIdx.ix3 (gr t g) h p) : EReal) := by
  blk_simp [iblk, idx_val t]; entry_read; pointwise
  have e : ((View.whole main_v8).slice (win0_2.rect t)).emb (ValueIdx.ix2 (⟨16 * g.val + h.val, by omega⟩ : Fin 128) (⟨64 + p.val, by omega⟩ : Fin 128))
      = ValueIdx.ix2 (⟨t.val * 128 + (16 * g.val + h.val), by have := N_lt t; omega⟩ : Fin 2048) (⟨64 + p.val, by omega⟩ : Fin 128) := by
    blk_ext [idx_val t]
  have e0 : (((View.whole main_v8).slice (win0_2.rect t)).emb (ValueIdx.ix2 (⟨16 * g.val + h.val, by omega⟩ : Fin 128) (⟨64 + p.val, by omega⟩ : Fin 128)) 0).val = t.val * 128 + (16 * g.val + h.val) := congrArg Fin.val (congrFun e 0)
  have e1 : (((View.whole main_v8).slice (win0_2.rect t)).emb (ValueIdx.ix2 (⟨16 * g.val + h.val, by omega⟩ : Fin 128) (⟨64 + p.val, by omega⟩ : Fin 128)) 1).val = 64 + p.val := congrArg Fin.val (congrFun e 1)
  rw [dif_neg (by rw [e1]; omega)]
  exact congrArg (fun z => -(A6 m c z : EReal)) (ix3_eq ((congrArg (· / 16) e0).trans (by show _ = 8 * t.val + g.val; omega))
    ((congrArg (· % 16) e0).trans (by show _ = h.val; omega)) ((congrArg (· - 64) e1).trans (by show 64 + p.val - 64 = p.val; omega)))

section Lanes

open Cert.CoreFwdRefIdeal.Val (inp st y_cell gelu at_end geluV geluV_cell yg_eq trips)
open Cert.CoreFwdRefIdeal.Step (init R_main_v20 R_main_v34)

variable (x0 : S2048x2048.Idx → ℝ) (l1 l2 : S128x64.Idx → ℝ) (w3 w4 : S128x64x16.Idx → ℝ)

/-- A block of the input. -/
def ub (t : Fin cfg0.N) : S2048x128.Idx → ℝ := fun i => x0 (ValueIdx.ix2 (i 0) (ch t (i 1)))

/-- A channel's group within the block, and the channel within the group. -/
def cg (l : Fin 128) : Fin 8 := ⟨l.val / 16, by omega⟩
def cr (l : Fin 128) : Fin 16 := ⟨l.val % 16, by omega⟩
def cp (l : Fin 128) : Fin 64 := ⟨l.val % 64, by omega⟩

/-- A block of the input weights: the real parts, then the imaginary ones. -/
def wb (t : Fin cfg0.N) : S128x128.Idx → ℝ := fun i =>
  if (i 1).val < 64 then w3 (ValueIdx.ix3 (gr t (cg (i 0))) (cp (i 1)) (cr (i 0))) else w4 (ValueIdx.ix3 (gr t (cg (i 0))) (cp (i 1)) (cr (i 0)))

theorem wb_at_lo (t : Fin cfg0.N) (g : Fin 8) (h : Fin 16) (p : Fin 64) :
    wb w3 w4 t (ValueIdx.ix2 (⟨16 * g.val + h.val, by omega⟩ : Fin 128) (⟨p.val, by omega⟩ : Fin 128)) = w3 (ValueIdx.ix3 (gr t g) p h) := by
  refine (if_pos (show p.val < 64 from p.isLt)).trans (congrArg w3 (ix3_eq ?_ ?_ ?_))
  · show 8 * t.val + (16 * g.val + h.val) / 16 = 8 * t.val + g.val; omega
  · show p.val % 64 = p.val; omega
  · show (16 * g.val + h.val) % 16 = h.val; omega

theorem wb_at_hi (t : Fin cfg0.N) (g : Fin 8) (h : Fin 16) (p : Fin 64) :
    wb w3 w4 t (ValueIdx.ix2 (⟨16 * g.val + h.val, by omega⟩ : Fin 128) (⟨64 + p.val, by omega⟩ : Fin 128)) = w4 (ValueIdx.ix3 (gr t g) p h) := by
  refine (if_neg (show ¬ (64 + p.val < 64) by omega)).trans (congrArg w4 (ix3_eq ?_ ?_ ?_))
  · show 8 * t.val + (16 * g.val + h.val) / 16 = 8 * t.val + g.val; omega
  · show (64 + p.val) % 64 = p.val; omega
  · show (16 * g.val + h.val) % 16 = h.val; omega

theorem hi_split (b : Fin 128) : ¬ b.val < 64 → ∃ p : Fin 64, b = ⟨64 + p.val, by omega⟩ := fun hb =>
  ⟨⟨b.val - 64, by omega⟩, Fin.ext (by show b.val = 64 + (b.val - 64); omega)⟩

theorem blk1 (c : Dev nD) (t : Fin cfg0.N) (h3 : A3 m c = fun i => (w3 i : EReal)) (h4 : A4 m c = fun i => (w4 i : EReal)) :
    iblk m c 1 t = fun i : S128x128.Idx => (wb w3 w4 t i : EReal) := by
  funext i
  obtain ⟨a, b, rfl⟩ : ∃ (a b : Fin 128), i = ValueIdx.ix2 a b := ⟨i 0, i 1, eq_ix2 i⟩
  obtain ⟨g, h, rfl⟩ : ∃ (g : Fin 8) (h : Fin 16), a = ⟨16 * g.val + h.val, by omega⟩ :=
    ⟨cg a, cr a, Fin.ext (by show a.val = 16 * (a.val / 16) + a.val % 16; omega)⟩
  by_cases hb : b.val < 64
  · exact (wb_lo m c t g h ⟨b.val, hb⟩).trans ((congrFun h3 _).trans (congrArg _ (wb_at_lo w3 w4 t g h ⟨b.val, hb⟩).symm))
  · obtain ⟨p, rfl⟩ := hi_split b hb
    exact (wb_hi m c t g h p).trans ((congrFun h4 _).trans (congrArg _ (wb_at_hi w3 w4 t g h p).symm))

/-- A block's recurrence has the inputs of its groups. -/
theorem lanes_eq (t : Fin cfg0.N) (g : Fin 8) (p : Fin 64) :
    lanes (ub x0 t) (wb w3 w4 t) (⟨64 * g.val + p.val, by omega⟩ : Fin 512) = inp x0 w3 w4 (gr t g) p := by
  funext n
  unfold lanes inp
  by_cases hn : n < 2048
  · rw [dif_pos hn, dif_pos hn]
    have eg : (64 * g.val + p.val) / 64 = g.val := by omega
    have ep : (64 * g.val + p.val) % 64 = p.val := by omega
    have ex : ∀ k : Fin 16, ub x0 t (ValueIdx.ix2 (⟨n, hn⟩ : Fin 2048) (⟨16 * g.val + k.val, by omega⟩ : Fin 128))
        = x0 (ValueIdx.ix2 (⟨n, hn⟩ : Fin 2048) (⟨16 * (gr t g).val + k.val, by omega⟩ : Fin 2048)) := fun k =>
      congrArg x0 (ix2_eq rfl (by show t.val * 128 + (16 * g.val + k.val) = 16 * (8 * t.val + g.val) + k.val; omega))
    simp only [eg, ep, ex, wb_at_lo, wb_at_hi]
  · rw [dif_neg hn, dif_neg hn]

/-- A sum of products with negated reals. -/
theorem sum_mul_neg {n : ℕ} (f g : Fin n → ℝ) : ∑ p, (f p : EReal) * -(g p : EReal) = -∑ p, (g p : EReal) * (f p : EReal) := by
  have e1 : ∀ p, (f p : EReal) * -(g p : EReal) = ((f p * -g p : ℝ) : EReal) := fun p => by rw [EReal.coe_mul, EReal.coe_neg]
  have e2 : ∀ p, (g p : EReal) * (f p : EReal) = ((g p * f p : ℝ) : EReal) := fun p => (EReal.coe_mul _ _).symm
  rw [Finset.sum_congr rfl fun p _ => e1 p, Finset.sum_congr rfl fun p _ => e2 p, ← Base.coe_sum, ← Base.coe_sum, ← EReal.coe_neg, ← Finset.sum_neg_distrib]
  exact congrArg _ (Finset.sum_congr rfl fun p _ => by rw [mul_neg, mul_comm])

/-- The reference's states after its loop. -/
abbrev sEnd := trips (init (F := Ideal) (fun i => (l1 i : EReal)) (fun i => (l2 i : EReal)) (fun i => (x0 i : EReal)) (fun i => (w3 i : EReal)) (fun i => (w4 i : EReal))) 2048

variable {x0 l1 l2 w3 w4} {c6 : S128x16x64.Idx → ℝ}

theorem cell6 (c : Dev nD) (t : Fin cfg0.N) (h0 : A0 m c = fun i => (x0 i : EReal)) (h1 : A1 m c = fun i => (l1 i : EReal)) (h2 : A2 m c = fun i => (l2 i : EReal))
    (h3 : A3 m c = fun i => (w3 i : EReal)) (h4 : A4 m c = fun i => (w4 i : EReal)) (h6 : A6 m c = fun i => (c6 i : EReal)) (r : Fin 2048) (l : Fin 128) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (ValueIdx.ix2 r l) : EReal)
      = R_main_v20 (F := Ideal) (sEnd x0 l1 l2 w3 w4) (A0 m c) (A5 m c) (A6 m c) (A7 m c) (ValueIdx.ix2 r (ch t l)) := by
  obtain ⟨g, h, rfl⟩ : ∃ (g : Fin 8) (h : Fin 16), l = ⟨16 * g.val + h.val, by omega⟩ :=
    ⟨cg l, cr l, Fin.ext (by show l.val = 16 * (l.val / 16) + l.val % 16; omega)⟩
  have E0 : iblk m c 0 t = fun i : S2048x128.Idx => (ub x0 t i : EReal) := (blk0 m c t).trans (by rw [h0]; rfl)
  have E3 : iblk m c 3 t = fun i : S1x512.Idx => ((l1 (ValueIdx.ix2 (gr t (lg (i 1))) (lp (i 1))) : ℝ) : EReal) := (blk3 m c t).trans (by rw [h1])
  have E4 : iblk m c 4 t = fun i : S1x512.Idx => ((l2 (ValueIdx.ix2 (gr t (lg (i 1))) (lp (i 1))) : ℝ) : EReal) := (blk4 m c t).trans (by rw [h2])
  have ec : ch t (⟨16 * g.val + h.val, by omega⟩ : Fin 128) = (⟨16 * (gr t g).val + h.val, by omega⟩ : Fin 2048) :=
    Fin.ext (by show t.val * 128 + (16 * g.val + h.val) = 16 * (8 * t.val + g.val) + h.val; omega)
  have hA := at_end (u := x0) (l1 := l1) (l2 := l2) (w3 := w3) (w4 := w4) 2048 le_rfl
  have ly := hA.ys r (gr t g)
  have lz := hA.zs r (gr t g)
  have ea : ∀ p : Fin 64, gr t (lg (⟨64 * g.val + p.val, by omega⟩ : Fin 512)) = gr t g := fun p =>
    Fin.ext (by show 8 * t.val + (64 * g.val + p.val) / 64 = 8 * t.val + g.val; omega)
  have eb : ∀ p : Fin 64, lp (⟨64 * g.val + p.val, by omega⟩ : Fin 512) = p := fun p =>
    Fin.ext (by show (64 * g.val + p.val) % 64 = p.val; omega)
  rw [out6, E0, blk1 m w3 w4 c t h3 h4, E3, E4, block_cell, ec, y_cell]
  refine congrArg₂ (· + ·) ?_ ?_
  · have S : ∀ p : Fin 64, state ⟨l1 (ValueIdx.ix2 (gr t (lg (⟨64 * g.val + p.val, by omega⟩ : Fin 512))) (lp (⟨64 * g.val + p.val, by omega⟩ : Fin 512))),
          l2 (ValueIdx.ix2 (gr t (lg (⟨64 * g.val + p.val, by omega⟩ : Fin 512))) (lp (⟨64 * g.val + p.val, by omega⟩ : Fin 512)))⟩
        (lanes (ub x0 t) (wb w3 w4 t) (⟨64 * g.val + p.val, by omega⟩ : Fin 512)) = st x0 l1 l2 w3 w4 (gr t g) p := fun p => by rw [ea, eb, lanes_eq]
    refine (congrArg₂ (· + ·) (Finset.sum_congr rfl fun p _ => ?_)
      ((Finset.sum_congr rfl fun p _ => congrArg₂ (· * ·) (congrArg (fun z : ℕ → ℂ => ((z (r.val + 1)).im : EReal)) (S p))
        ((wc_hi m c t g h p).trans (congrArg (fun z : EReal => -z) (congrFun h6 _)))).trans
        ((sum_mul_neg (fun p => (st x0 l1 l2 w3 w4 (gr t g) p (r.val + 1)).im) (fun p => c6 (ValueIdx.ix3 (gr t g) h p))).trans
          (congrArg (fun z : EReal => -z) (Finset.sum_congr rfl fun p _ => congrArg₂ (· * ·) (congrFun h6 _).symm (lz p r.isLt).symm))))).trans (sub_eq_add_neg _ _).symm
    exact (congrArg₂ (· * ·) (congrArg (fun z : ℕ → ℂ => ((z (r.val + 1)).re : EReal)) (S p)) (wc_lo m c t g h p)).trans
      ((mul_comm _ _).trans (congrArg (fun z : EReal => (A5 m c (ValueIdx.ix3 (gr t g) h p) : EReal) * z) (ly p r.isLt).symm))
  · rw [blk5, h0]
    exact congrArg₂ (· * ·) (congrArg (fun z => A7 m c (ValueIdx.ix1 z)) ec) (congrArg (fun z => (x0 (ValueIdx.ix2 r z) : EReal)) ec)

/-- The kernel's gelu of a number, and the reference's. -/
theorem gelu_cell (y : FVec Ideal S2048x128 .f32) (r : Fin 2048) (l : Fin 128) : (k0_pay1 (F := Ideal) y (ValueIdx.ix2 r l) : EReal) = gelu (y (ValueIdx.ix2 r l)) := by
  have e : (k0_pay1 (F := Ideal) y (ValueIdx.ix2 r l) : EReal) = Ideal.ofBits .f32 1056964608#32 * (y (ValueIdx.ix2 r l) : EReal) * (1 + Ideal.tanh (Ideal.ofBits .f32 1061962282#32
      * ((y (ValueIdx.ix2 r l) : EReal) + Ideal.ofBits .f32 1027024659#32 * y (ValueIdx.ix2 r l) * y (ValueIdx.ix2 r l) * y (ValueIdx.ix2 r l)))) := by
    pointwise [k0_pay1]
  rw [e]
  unfold gelu
  generalize (y (ValueIdx.ix2 r l) : EReal) = z
  have e1 : Ideal.ofBits .f32 1027024659#32 * z * z * z = Ideal.ofBits .f32 0x3D372713#32 * (z * z * z) := by simp only [mul_assoc]
  rw [e1, mul_comm (Ideal.ofBits .f32 1056964608#32) z, mul_assoc]

theorem cell7 (c : Dev nD) (t : Fin cfg0.N) (h0 : A0 m c = fun i => (x0 i : EReal)) (h1 : A1 m c = fun i => (l1 i : EReal)) (h2 : A2 m c = fun i => (l2 i : EReal))
    (h3 : A3 m c = fun i => (w3 i : EReal)) (h4 : A4 m c = fun i => (w4 i : EReal)) (h6 : A6 m c = fun i => (c6 i : EReal)) (r : Fin 2048) (l : Fin 128) :
    (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (ValueIdx.ix2 r l) : EReal)
      = R_main_v34 (F := Ideal) (sEnd x0 l1 l2 w3 w4) (A0 m c) (A5 m c) (A6 m c) (A7 m c) (ValueIdx.ix2 r (ch t l)) := by
  rw [yg_eq, geluV_cell, ← cell6 m c t h0 h1 h2 h3 h4 h6 r l, out7, out6]
  exact gelu_cell _ r l

theorem outs_eq6 (c : Dev nD) (t : Fin cfg0.N) : (outsAt0 m c t).1 = out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) := by simp only [outsAt0]

theorem outs_eq7 (c : Dev nD) (t : Fin cfg0.N) : (outsAt0 m c t).2 = out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) := by simp only [outsAt0]

theorem outs6 (c : Dev nD) (t : Fin cfg0.N) (h0 : A0 m c = fun i => (x0 i : EReal)) (h1 : A1 m c = fun i => (l1 i : EReal)) (h2 : A2 m c = fun i => (l2 i : EReal))
    (h3 : A3 m c = fun i => (w3 i : EReal)) (h4 : A4 m c = fun i => (w4 i : EReal)) (h6 : A6 m c = fun i => (c6 i : EReal)) (r : Fin 2048) (l : Fin 128) :
    ((outsAt0 m c t).1 (ValueIdx.ix2 r l) : EReal) = R_main_v20 (F := Ideal) (sEnd x0 l1 l2 w3 w4) (A0 m c) (A5 m c) (A6 m c) (A7 m c) (ValueIdx.ix2 r (ch t l)) := by
  rw [outs_eq6]
  exact cell6 m c t h0 h1 h2 h3 h4 h6 r l

theorem outs7 (c : Dev nD) (t : Fin cfg0.N) (h0 : A0 m c = fun i => (x0 i : EReal)) (h1 : A1 m c = fun i => (l1 i : EReal)) (h2 : A2 m c = fun i => (l2 i : EReal))
    (h3 : A3 m c = fun i => (w3 i : EReal)) (h4 : A4 m c = fun i => (w4 i : EReal)) (h6 : A6 m c = fun i => (c6 i : EReal)) (r : Fin 2048) (l : Fin 128) :
    ((outsAt0 m c t).2 (ValueIdx.ix2 r l) : EReal) = R_main_v34 (F := Ideal) (sEnd x0 l1 l2 w3 w4) (A0 m c) (A5 m c) (A6 m c) (A7 m c) (ValueIdx.ix2 r (ch t l)) := by
  rw [outs_eq7]
  exact cell7 m c t h0 h1 h2 h3 h4 h6 r l

theorem final_6 (c : Dev nD) (G : FVec Ideal S2048x2048 .f32) (h : ∀ t r l, ((outsAt0 m c t).1 (ValueIdx.ix2 r l) : EReal) = G (ValueIdx.ix2 r (ch t l))) :
    (dats m 0 c).arrAt 6 (cfgs 0).N = G := by
  refine (dats m 0 c).arrAt_eq_of_covers 6 _ (by decide +kernel) fun t hf y => ?_
  have ht := N_lt t
  obtain ⟨r, l, rfl⟩ : ∃ (r : Fin 2048) (l : Fin 128), y = ValueIdx.ix2 r l := ⟨y 0, y 1, eq_ix2 y⟩
  have e := h t r l
  blk_simp [idx_val t]
  rw [after0_6]
  refine Eq.trans e (congrArg G ?_)
  blk_ext [idx_val t, ch]

theorem final_7 (c : Dev nD) (G : FVec Ideal S2048x2048 .bf16) (h : ∀ t r l, ((outsAt0 m c t).2 (ValueIdx.ix2 r l) : EReal) = G (ValueIdx.ix2 r (ch t l))) :
    (dats m 0 c).arrAt 7 (cfgs 0).N = G := by
  refine (dats m 0 c).arrAt_eq_of_covers 7 _ (by decide +kernel) fun t hf y => ?_
  have ht := N_lt t
  obtain ⟨r, l, rfl⟩ : ∃ (r : Fin 2048) (l : Fin 128), y = ValueIdx.ix2 r l := ⟨y 0, y 1, eq_ix2 y⟩
  have e := h t r l
  blk_simp [idx_val t]
  rw [after0_7]
  refine Eq.trans e (congrArg G ?_)
  blk_ext [idx_val t, ch]

end Lanes

section Value

variable [Cert.Pre_finite_coref.Facts]

open Cert.Pre_finite_coref in
theorem finite (X0 : FVec Ideal S2048x2048 .f32) (X1 X2 : FVec Ideal S128x64 .f32) (X3 X4 : FVec Ideal S128x64x16 .f32) (X5 X6 : FVec Ideal S128x16x64 .f32) (X7 : FVec Ideal S2048 .f32)
    (h : Cert.Pre_finite_coref.fn (F := Ideal) X0 X1 X2 X3 X4 X5 X6 X7 = fun _ => 1#1) :
    (∃ x : S2048x2048.Idx → ℝ, X0 = fun i => (x i : EReal)) ∧ (∃ x : S128x64.Idx → ℝ, X1 = fun i => (x i : EReal)) ∧ (∃ x : S128x64.Idx → ℝ, X2 = fun i => (x i : EReal))
      ∧ (∃ x : S128x64x16.Idx → ℝ, X3 = fun i => (x i : EReal)) ∧ (∃ x : S128x64x16.Idx → ℝ, X4 = fun i => (x i : EReal)) ∧ ∃ x : S128x16x64.Idx → ℝ, X6 = fun i => (x i : EReal) := by
  have e := congrFun h ValueIdx.ix0
  dsimp only [Cert.Pre_finite_coref.fn, Cert.Pre_finite_coref.fn_part1] at e
  haveI : Subsingleton Cert.Pre_finite_coref.S_.Idx := ⟨fun a b => funext fun k => k.elim0⟩
  obtain ⟨e, e6⟩ := Base.and_one e
  obtain ⟨e, e4⟩ := Base.and_one e
  obtain ⟨e, e3⟩ := Base.and_one e
  obtain ⟨e, e2⟩ := Base.and_one e
  obtain ⟨e0, e1⟩ := Base.and_one e
  exact ⟨Base.real_fun fun y => Base.real_of_word_f32 (Host.reduce_andi_all _ _ _ _ _ e0 y),
    Base.real_fun fun y => Base.real_of_word_f32 (Host.reduce_andi_all _ _ _ _ _ e1 y),
    Base.real_fun fun y => Base.real_of_word_f32 (Host.reduce_andi_all _ _ _ _ _ e2 y),
    Base.real_fun fun y => Base.real_of_word_f32 (Host.reduce_andi_all _ _ _ _ _ e3 y),
    Base.real_fun fun y => Base.real_of_word_f32 (Host.reduce_andi_all _ _ _ _ _ e4 y),
    Base.real_fun fun y => Base.real_of_word_f32 (Host.reduce_andi_all _ _ _ _ _ e6 y)⟩

/-- The pair: on finite inputs and weights the kernel's two results are the reference's. -/
theorem value : Cert.algebraic_CoreFwdIdeal_CoreFwdRefIdeal_pre_finite_coref := by
  pair_intro
  · run_from Cert.CoreFwdIdeal.Gen.run_main m g
  · refine (θ_run Cert.CoreFwdRefIdeal.defs _ _).mono (fun _ h c => ⟨(h c).1.trans ?_, (h c).2.1.trans ?_, (h c).2.2⟩)
      (Cert.CoreFwdRefIdeal.Val.run_trips m' g')
    all_goals
      obtain ⟨⟨x0, h0⟩, ⟨l1, h1⟩, ⟨l2, h2⟩, ⟨w3, h3⟩, ⟨w4, h4⟩, c6, h6⟩ := finite _ _ _ _ _ _ _ _ (hpre c)
      obtain ⟨e0, e1, e2, e3, e4, e5, e6, e7⟩ := hagree c
      have es : Cert.CoreFwdRefIdeal.Val.start m' c = Cert.CoreFwdRefIdeal.Step.init (F := Ideal) (fun i => (l1 i : EReal)) (fun i => (l2 i : EReal)) (fun i => (x0 i : EReal))
          (fun i => (w3 i : EReal)) (fun i => (w4 i : EReal)) := by
        unfold Cert.CoreFwdRefIdeal.Val.start
        rw [e0, e1, e2, e3, e4, h0, h1, h2, h3, h4]
      rw [es, e0, e5, e6, e7]
    · exact (final_6 m c _ fun t r l => outs6 m c t h0 h1 h2 h3 h4 h6 r l).symm
    · exact (final_7 m c _ fun t r l => outs7 m c t h0 h1 h2 h3 h4 h6 r l).symm

end Value

/-- The reference's run leaves its arguments; it has no semaphore. -/
theorem frame_ref : Cert.quiescent_CoreFwdRefIdeal := fun m ρ _ =>
  (θ_run Cert.CoreFwdRefIdeal.defs _ _).mono
    (fun r h => ⟨fun c => (h c).2.2, sem_eq_zero_of_no_sems (by decide) r.2⟩)
    (Cert.CoreFwdRefIdeal.Val.run_trips m ρ)

end Cert.CoreFwdIdeal.Val

end
-- ==== Proof.Products.lean ====
module

public import proofs.«01_k».proof.Defs
public import proofs.«01_k».proof.Proof.Base
public import proofs.«01_k».proof.Proof.Gen.MmNnIdeal.Value
public import proofs.«01_k».proof.Proof.Gen.MmNnRefIdeal.Run
public import proofs.«01_k».proof.Proof.Gen.MmNnRefIdeal.Read
public import proofs.«01_k».proof.Proof.Gen.MmNtIdeal.Value
public import proofs.«01_k».proof.Proof.Gen.MmNtRefIdeal.Run
public import proofs.«01_k».proof.Proof.Gen.MmNtRefIdeal.Read
public import proofs.«01_k».proof.Proof.Gen.MmTnIdeal.Value
public import proofs.«01_k».proof.Proof.Gen.MmTnRefIdeal.Run
public import proofs.«01_k».proof.Proof.Gen.MmTnRefIdeal.Read
public import proofs.«01_k».proof.Proof.Gen.MmNnPiecesIdeal.Value
public import proofs.«01_k».proof.Proof.Gen.MmNnPiecesRefIdeal.Run
public import proofs.«01_k».proof.Proof.Gen.MmNnPiecesRefIdeal.Read
public import proofs.«01_k».proof.Proof.Gen.MmTnPiecesIdeal.Value
public import proofs.«01_k».proof.Proof.Gen.MmTnPiecesRefIdeal.Run
public import proofs.«01_k».proof.Proof.Gen.MmTnPiecesRefIdeal.Read
public import proofs.«01_k».proof.Proof.Gen.MmNtPiecesIdeal.Value
public import proofs.«01_k».proof.Proof.Gen.MmNtPiecesRefIdeal.Run
public import proofs.«01_k».proof.Proof.Gen.MmNtPiecesRefIdeal.Read

/-!
The plain products, one for each function that makes them: each kernel's tiles, put together, are the reference's product.
-/

@[expose] public section

set_option maxRecDepth 16384

noncomputable section

open Idealize.ShloMosaic hiding ix2 ix3 eq_ix2 eq_ix3
open Idealize.ShloMosaic.TcCoe Idealize.SL.Sem Idealize.ShloMosaic.ValueIdx
open Idealize.ShloMosaic.Pipeline (Dat)

namespace Cert.Mm

theorem idx2_ext {n k : ℕ} {i j : ({ rank := 2, size := ![n, k] } : Shape).Idx} (h0 : (i 0).val = (j 0).val) (h1 : (i 1).val = (j 1).val) : i = j :=
  funext fun a => match a with
    | ⟨0, _⟩ => Fin.ext h0
    | ⟨1, _⟩ => Fin.ext h1

theorem idx3_ext {n k l : ℕ} {i j : ({ rank := 3, size := ![n, k, l] } : Shape).Idx} (h0 : (i 0).val = (j 0).val) (h1 : (i 1).val = (j 1).val)
    (h2 : (i 2).val = (j 2).val) : i = j :=
  funext fun a => match a with
    | ⟨0, _⟩ => Fin.ext h0
    | ⟨1, _⟩ => Fin.ext h1
    | ⟨2, _⟩ => Fin.ext h2

abbrev Half : Shape := { rank := 2, size := ![2048, 5632] }
abbrev Both : Shape := { rank := 2, size := ![2048, 11264] }

/-- Column `l` of piece `p` of two halves side by side, four pieces in each: it is read from the second half from the
    fifth piece on. -/
theorem halves {α : Type} (v g : Half.Idx → α) (h : Shape.Concatenates [Half, Half] Both 1) (k : Fin 2048) (C : Fin 11264) (iv ig : Fin 5632)
    {p l : ℕ} (hC : C.val = p * 1408 + l) (hl : l < 1408) (hp : p < 8) (hv : iv.val = min p 3 * 1408 + l) (hg : ig.val = (p - 4) * 1408 + l) :
    concatenate Both 1 [⟨Half, v⟩, ⟨Half, g⟩] h (ValueIdx.ix2 k C) = if 4 ≤ p then g (ValueIdx.ix2 k ig) else v (ValueIdx.ix2 k iv) := by
  split_ifs with h4
  · exact concatenate_pair_apply_right (s₁ := Half) (s₂ := Half) (t := Both) 1 v g h (ValueIdx.ix2 k C) rfl rfl (ValueIdx.ix2 k ig)
      (fun b hb => by match b with | ⟨0, _⟩ => rfl | ⟨1, _⟩ => exact absurd rfl hb) (show ig.val + 5632 = C.val by omega)
  · exact concatenate_pair_apply_left (s₁ := Half) (s₂ := Half) (t := Both) 1 v g h (ValueIdx.ix2 k C) rfl (ValueIdx.ix2 k iv) (fun b => by
      match b with
      | ⟨0, _⟩ => rfl
      | ⟨1, _⟩ => exact (show iv.val = C.val by omega))

end Cert.Mm

/-! The plain product of rows with columns, a residual added. -/

namespace Cert.MmNnIdeal.Val
open Cert.MmNnIdeal Cert.MmNnIdeal.Gen Cert.MmNnRefIdeal.Read

variable (m : (ℓ : Loc nD τ sig) → Buf (Elt Ideal) ℓ)

abbrev A0 (c : Dev nD) : FVec Ideal S2048x5632 .bf16 := m ((c : Thread nD τ).loc main_arg0)
abbrev A1 (c : Dev nD) : FVec Ideal S5632x2048 .bf16 := m ((c : Thread nD τ).loc main_arg1)
abbrev A2 (c : Dev nD) : FVec Ideal S2048x2048 .f32 := m ((c : Thread nD τ).loc main_arg2)

/-- Which block each window holds at a grid point. -/
theorem idx_val : ∀ t : Fin cfg0.N, win0_0.index t = ![t.val / 4, 0] ∧ win0_1.index t = ![0, t.val % 4] ∧ win0_2.index t = ![t.val / 4, t.val % 4] ∧ win0_3.index t = ![t.val / 4, t.val % 4] := by decide +kernel

theorem N_lt (t : Fin cfg0.N) : t.val < 8 := lt_of_lt_of_eq t.isLt N_0

def row (t : Fin cfg0.N) (x : Fin 1024) : Fin 2048 := ⟨t.val / 4 * 1024 + x.val, by have := N_lt t; omega⟩
def col (t : Fin cfg0.N) (x : Fin 512) : Fin 2048 := ⟨t.val % 4 * 512 + x.val, by have := N_lt t; omega⟩

/-- What the body stores, entry by entry. -/
theorem out_cell (x : FVec Ideal S1024x5632 .bf16) (w : FVec Ideal S5632x512 .bf16) (z : FVec Ideal S1024x512 .f32) (r : Fin 1024) (l : Fin 512) :
    out0_3 (F := Ideal) x w z (ix2 r l) = (∑ k : Fin 5632, x (ix2 r k) * w (ix2 k l)) + z (ix2 r l) := by
  unfold out0_3
  frame_out
  pointwise [k0_pay1]
  rfl

/-- The reference's product, entry by entry. -/
theorem ref_cell (x : FVec Ideal S2048x5632 .bf16) (w : FVec Ideal S5632x2048 .bf16) (z : FVec Ideal S2048x2048 .f32) (r l : Fin 2048) :
    val_main_v1 (F := Ideal) x w z (ix2 r l) = (∑ k : Fin 5632, x (ix2 r k) * w (ix2 k l)) + z (ix2 r l) := by
  pointwise [val_main_v1, val_main_v0]
  exact add_comm _ _

/-- The whole result, once every block is written back. -/
theorem final (c : Dev nD) : (dats m 0 c).arrAt 3 (cfgs 0).N = val_main_v1 (F := Ideal) (A0 m c) (A1 m c) (A2 m c) := by
  refine (dats m 0 c).arrAt_eq_of_covers 3 _ (by decide +kernel) fun t hf y => ?_
  have ht := N_lt t
  obtain ⟨r, l, rfl⟩ : ∃ (r : Fin 1024) (l : Fin 512), y = ix2 r l := ⟨y 0, y 1, eq_ix2 y⟩
  have e : out0_3 (iblk m c 0 t) (iblk m c 1 t) (iblk m c 2 t) (ix2 r l) = val_main_v1 (F := Ideal) (A0 m c) (A1 m c) (A2 m c) (ix2 (row t r) (col t l)) := by
    rw [out_cell, ref_cell]
    refine congrArg₂ (· + ·) (Finset.sum_congr rfl fun k _ => ?_) ?_ <;> blk_point [iblk, V, idx_val t, row, col]
  blk_simp [idx_val t]
  rw [after0_3]
  refine Eq.trans e (congrArg _ ?_)
  blk_ext [idx_val t, row, col]

/-- The pair: the kernel's product is the reference's. -/
theorem value : Cert.algebraic_MmNnIdeal_MmNnRefIdeal := by
  pair_intro
  · run_from Cert.MmNnIdeal.Gen.run_main m g
  · refine (θ_run Cert.MmNnRefIdeal.defs _ _).mono (fun _ h c => ⟨(h c).1.trans ?_, (h c).2⟩) (Cert.MmNnRefIdeal.Value.run (F := Ideal) m' g')
    obtain ⟨e0, e1, e2⟩ := hagree c
    refine (val_main_v1_eq _ _ _).trans ?_
    rw [e0, e1, e2]
    exact (final m c).symm

/-- The reference's run leaves its arguments; it has no semaphore. -/
theorem frame_ref : Cert.quiescent_MmNnRefIdeal := fun m ρ _ =>
  (θ_run Cert.MmNnRefIdeal.defs _ _).mono (fun r h => ⟨fun c => (h c).2, sem_eq_zero_of_no_sems (by decide) r.2⟩) (Cert.MmNnRefIdeal.Value.run (F := Ideal) m ρ)

end Cert.MmNnIdeal.Val

/-! The plain product of rows with rows. -/

namespace Cert.MmNtIdeal.Val
open Cert.MmNtIdeal Cert.MmNtIdeal.Gen Cert.MmNtRefIdeal.Read

variable (m : (ℓ : Loc nD τ sig) → Buf (Elt Ideal) ℓ)

abbrev A0 (c : Dev nD) : FVec Ideal S2048x2048 .bf16 := m ((c : Thread nD τ).loc main_arg0)
abbrev A1 (c : Dev nD) : FVec Ideal S5632x2048 .bf16 := m ((c : Thread nD τ).loc main_arg1)

/-- Which block each window holds at a grid point. -/
theorem idx_val : ∀ t : Fin cfg0.N, win0_0.index t = ![t.val / 4, 0] ∧ win0_1.index t = ![t.val % 4, 0] ∧ win0_2.index t = ![t.val / 4, t.val % 4] := by decide +kernel

theorem N_lt (t : Fin cfg0.N) : t.val < 16 := lt_of_lt_of_eq t.isLt N_0

def row (t : Fin cfg0.N) (x : Fin 512) : Fin 2048 := ⟨t.val / 4 * 512 + x.val, by have := N_lt t; omega⟩
def col (t : Fin cfg0.N) (x : Fin 1408) : Fin 5632 := ⟨t.val % 4 * 1408 + x.val, by have := N_lt t; omega⟩

/-- What the body stores, entry by entry. -/
theorem out_cell (x : FVec Ideal S512x2048 .bf16) (w : FVec Ideal S1408x2048 .bf16) (r : Fin 512) (l : Fin 1408) :
    out0_2 (F := Ideal) x w (ix2 r l) = ∑ k : Fin 2048, x (ix2 r k) * w (ix2 l k) := by
  unfold out0_2
  frame_out
  pointwise [k0_pay1]
  rfl

/-- The reference's product, entry by entry. -/
theorem ref_cell (x : FVec Ideal S2048x2048 .bf16) (w : FVec Ideal S5632x2048 .bf16) (r : Fin 2048) (l : Fin 5632) :
    val_main_v1 (F := Ideal) x w (ix2 r l) = ∑ k : Fin 2048, x (ix2 r k) * w (ix2 l k) := by
  pointwise [val_main_v1, val_main_v0]
  rfl

/-- The whole result, once every block is written back. -/
theorem final (c : Dev nD) : (dats m 0 c).arrAt 2 (cfgs 0).N = val_main_v1 (F := Ideal) (A0 m c) (A1 m c) := by
  refine (dats m 0 c).arrAt_eq_of_covers 2 _ (by decide +kernel) fun t hf y => ?_
  have ht := N_lt t
  obtain ⟨r, l, rfl⟩ : ∃ (r : Fin 512) (l : Fin 1408), y = ix2 r l := ⟨y 0, y 1, eq_ix2 y⟩
  have e : out0_2 (iblk m c 0 t) (iblk m c 1 t) (ix2 r l) = val_main_v1 (F := Ideal) (A0 m c) (A1 m c) (ix2 (row t r) (col t l)) := by
    rw [out_cell, ref_cell]
    refine Finset.sum_congr rfl fun k _ => ?_
    blk_point [iblk, V, idx_val t, row, col]
  blk_simp [idx_val t]
  rw [after0_2]
  refine Eq.trans e (congrArg _ ?_)
  blk_ext [idx_val t, row, col]

/-- The pair: the kernel's product is the reference's. -/
theorem value : Cert.algebraic_MmNtIdeal_MmNtRefIdeal := by
  pair_intro
  · run_from Cert.MmNtIdeal.Gen.run_main m g
  · refine (θ_run Cert.MmNtRefIdeal.defs _ _).mono (fun _ h c => ⟨(h c).1.trans ?_, (h c).2⟩) (Cert.MmNtRefIdeal.Value.run (F := Ideal) m' g')
    obtain ⟨e0, e1⟩ := hagree c
    refine (val_main_v1_eq _ _).trans ?_
    rw [e0, e1]
    exact (final m c).symm

/-- The reference's run leaves its arguments; it has no semaphore. -/
theorem frame_ref : Cert.quiescent_MmNtRefIdeal := fun m ρ _ =>
  (θ_run Cert.MmNtRefIdeal.defs _ _).mono (fun r h => ⟨fun c => (h c).2, sem_eq_zero_of_no_sems (by decide) r.2⟩) (Cert.MmNtRefIdeal.Value.run (F := Ideal) m ρ)

end Cert.MmNtIdeal.Val

/-! The plain product of columns with columns. -/

namespace Cert.MmTnIdeal.Val
open Cert.MmTnIdeal Cert.MmTnIdeal.Gen Cert.MmTnRefIdeal.Read

variable (m : (ℓ : Loc nD τ sig) → Buf (Elt Ideal) ℓ)

abbrev A0 (c : Dev nD) : FVec Ideal S2048x5632 .bf16 := m ((c : Thread nD τ).loc main_arg0)
abbrev A1 (c : Dev nD) : FVec Ideal S2048x2048 .bf16 := m ((c : Thread nD τ).loc main_arg1)

/-- Which block each window holds at a grid point. -/
theorem idx_val : ∀ t : Fin cfg0.N, win0_0.index t = ![0, t.val / 2] ∧ win0_1.index t = ![0, t.val % 2] ∧ win0_2.index t = ![t.val / 2, t.val % 2] := by decide +kernel

theorem N_lt (t : Fin cfg0.N) : t.val < 22 := lt_of_lt_of_eq t.isLt N_0

def row (t : Fin cfg0.N) (x : Fin 512) : Fin 5632 := ⟨t.val / 2 * 512 + x.val, by have := N_lt t; omega⟩
def col (t : Fin cfg0.N) (x : Fin 1024) : Fin 2048 := ⟨t.val % 2 * 1024 + x.val, by have := N_lt t; omega⟩

/-- What the body stores, entry by entry. -/
theorem out_cell (x : FVec Ideal S2048x512 .bf16) (w : FVec Ideal S2048x1024 .bf16) (r : Fin 512) (l : Fin 1024) :
    out0_2 (F := Ideal) x w (ix2 r l) = ∑ k : Fin 2048, x (ix2 k r) * w (ix2 k l) := by
  unfold out0_2
  frame_out
  pointwise [k0_pay1]
  rfl

/-- The reference's product, entry by entry. -/
theorem ref_cell (x : FVec Ideal S2048x5632 .bf16) (w : FVec Ideal S2048x2048 .bf16) (r : Fin 5632) (l : Fin 2048) :
    val_main_v2 (F := Ideal) x w (ix2 r l) = ∑ k : Fin 2048, x (ix2 k r) * w (ix2 k l) := by
  pointwise [val_main_v2, val_main_v1, val_main_v0]
  rfl

/-- The whole result, once every block is written back. -/
theorem final (c : Dev nD) : (dats m 0 c).arrAt 2 (cfgs 0).N = val_main_v2 (F := Ideal) (A0 m c) (A1 m c) := by
  refine (dats m 0 c).arrAt_eq_of_covers 2 _ (by decide +kernel) fun t hf y => ?_
  have ht := N_lt t
  obtain ⟨r, l, rfl⟩ : ∃ (r : Fin 512) (l : Fin 1024), y = ix2 r l := ⟨y 0, y 1, eq_ix2 y⟩
  have e : out0_2 (iblk m c 0 t) (iblk m c 1 t) (ix2 r l) = val_main_v2 (F := Ideal) (A0 m c) (A1 m c) (ix2 (row t r) (col t l)) := by
    rw [out_cell, ref_cell]
    refine Finset.sum_congr rfl fun k _ => ?_
    blk_point [iblk, V, idx_val t, row, col]
  blk_simp [idx_val t]
  rw [after0_2]
  refine Eq.trans e (congrArg _ ?_)
  blk_ext [idx_val t, row, col]

/-- The pair: the kernel's product is the reference's. -/
theorem value : Cert.algebraic_MmTnIdeal_MmTnRefIdeal := by
  pair_intro
  · run_from Cert.MmTnIdeal.Gen.run_main m g
  · refine (θ_run Cert.MmTnRefIdeal.defs _ _).mono (fun _ h c => ⟨(h c).1.trans ?_, (h c).2⟩) (Cert.MmTnRefIdeal.Value.run (F := Ideal) m' g')
    obtain ⟨e0, e1⟩ := hagree c
    refine (val_main_v2_eq _ _).trans ?_
    rw [e0, e1]
    exact (final m c).symm

/-- The reference's run leaves its arguments; it has no semaphore. -/
theorem frame_ref : Cert.quiescent_MmTnRefIdeal := fun m ρ _ =>
  (θ_run Cert.MmTnRefIdeal.defs _ _).mono (fun r h => ⟨fun c => (h c).2, sem_eq_zero_of_no_sems (by decide) r.2⟩) (Cert.MmTnRefIdeal.Value.run (F := Ideal) m ρ)

end Cert.MmTnIdeal.Val

/-! The plain product of rows with the columns of a matrix that comes in pieces. -/

namespace Cert.MmNnPiecesIdeal.Val
open Cert.MmNnPiecesIdeal Cert.MmNnPiecesIdeal.Gen Cert.MmNnPiecesRefIdeal.Read

variable (m : (ℓ : Loc nD τ sig) → Buf (Elt Ideal) ℓ)

abbrev A0 (c : Dev nD) : FVec Ideal S2048x2048 .bf16 := m ((c : Thread nD τ).loc main_arg0)
abbrev A1 (c : Dev nD) : FVec Ideal S8x2048x1408 .bf16 := m ((c : Thread nD τ).loc main_arg1)

/-- Which block each window holds at a grid point. -/
theorem idx_val : ∀ t : Fin cfg0.N, win0_0.index t = ![t.val / 8, 0] ∧ win0_1.index t = ![t.val % 8, 0, 0] ∧ win0_2.index t = ![t.val / 8, t.val % 8] := by decide +kernel

theorem N_lt (t : Fin cfg0.N) : t.val < 32 := lt_of_lt_of_eq t.isLt N_0

def row (t : Fin cfg0.N) (x : Fin 512) : Fin 2048 := ⟨t.val / 8 * 512 + x.val, by have := N_lt t; omega⟩
def col (t : Fin cfg0.N) (x : Fin 1408) : Fin 11264 := ⟨t.val % 8 * 1408 + x.val, by have := N_lt t; omega⟩
def pc (t : Fin cfg0.N) : Fin 8 := ⟨t.val % 8, Nat.mod_lt _ (by decide)⟩

/-- What the body stores, entry by entry. -/
theorem out_cell (x : FVec Ideal S512x2048 .bf16) (w : FVec Ideal S1x2048x1408 .bf16) (r : Fin 512) (l : Fin 1408) :
    out0_2 (F := Ideal) x w (ix2 r l) = ∑ k : Fin 2048, x (ix2 r k) * w (ix3 0 k l) := by
  unfold out0_2
  frame_out
  pointwise [k0_pay1]
  rfl

/-- The reference's product, entry by entry. -/
theorem ref_cell (x : FVec Ideal S2048x2048 .bf16) (w : FVec Ideal S8x2048x1408 .bf16) (t : Fin cfg0.N) (r : Fin 2048) (l : Fin 1408) :
    val_main_v2 (F := Ideal) x w (ix2 r (col t l)) = ∑ k : Fin 2048, x (ix2 r k) * w (ix3 (pc t) k l) := by
  have e1 : (col t l).val / 1408 = t.val % 8 := by show (t.val % 8 * 1408 + l.val) / 1408 = t.val % 8; omega
  have e2 : (col t l).val % 1408 = l.val := by show (t.val % 8 * 1408 + l.val) % 1408 = l.val; omega
  pointwise [val_main_v2, val_main_v1, val_main_v0]
  simp only [e1, e2]
  rfl

/-- The whole result, once every block is written back. -/
theorem final (c : Dev nD) : (dats m 0 c).arrAt 2 (cfgs 0).N = val_main_v2 (F := Ideal) (A0 m c) (A1 m c) := by
  refine (dats m 0 c).arrAt_eq_of_covers 2 _ (by decide +kernel) fun t hf y => ?_
  have ht := N_lt t
  obtain ⟨r, l, rfl⟩ : ∃ (r : Fin 512) (l : Fin 1408), y = ix2 r l := ⟨y 0, y 1, eq_ix2 y⟩
  have e : out0_2 (iblk m c 0 t) (iblk m c 1 t) (ix2 r l) = val_main_v2 (F := Ideal) (A0 m c) (A1 m c) (ix2 (row t r) (col t l)) := by
    rw [out_cell, ref_cell]
    refine Finset.sum_congr rfl fun k _ => ?_
    blk_point [iblk, V, idx_val t, row, col, pc]
  blk_simp [idx_val t]
  rw [after0_2]
  refine Eq.trans e (congrArg _ ?_)
  blk_ext [idx_val t, row, col, pc]

/-- The pair: the kernel's product is the reference's. -/
theorem value : Cert.algebraic_MmNnPiecesIdeal_MmNnPiecesRefIdeal := by
  pair_intro
  · run_from Cert.MmNnPiecesIdeal.Gen.run_main m g
  · refine (θ_run Cert.MmNnPiecesRefIdeal.defs _ _).mono (fun _ h c => ⟨(h c).1.trans ?_, (h c).2⟩) (Cert.MmNnPiecesRefIdeal.Value.run (F := Ideal) m' g')
    obtain ⟨e0, e1⟩ := hagree c
    refine (val_main_v2_eq _ _).trans ?_
    rw [e0, e1]
    exact (final m c).symm

/-- The reference's run leaves its arguments; it has no semaphore. -/
theorem frame_ref : Cert.quiescent_MmNnPiecesRefIdeal := fun m ρ _ =>
  (θ_run Cert.MmNnPiecesRefIdeal.defs _ _).mono (fun r h => ⟨fun c => (h c).2, sem_eq_zero_of_no_sems (by decide) r.2⟩) (Cert.MmNnPiecesRefIdeal.Value.run (F := Ideal) m ρ)

end Cert.MmNnPiecesIdeal.Val

/-! The plain product of columns with the columns of two halves side by side, written in pieces. -/

namespace Cert.MmTnPiecesIdeal.Val
open Cert.MmTnPiecesIdeal Cert.MmTnPiecesIdeal.Gen Cert.MmTnPiecesRefIdeal.Read

variable (m : (ℓ : Loc nD τ sig) → Buf (Elt Ideal) ℓ)

abbrev A0 (c : Dev nD) : FVec Ideal S2048x2048 .bf16 := m ((c : Thread nD τ).loc main_arg0)
abbrev A1 (c : Dev nD) : FVec Ideal S2048x5632 .bf16 := m ((c : Thread nD τ).loc main_arg1)
abbrev A2 (c : Dev nD) : FVec Ideal S2048x5632 .bf16 := m ((c : Thread nD τ).loc main_arg2)

/-- Which block each window holds at a grid point. -/
theorem idx_val : ∀ t : Fin cfg0.N, win0_0.index t = ![0, t.val % 4] ∧ win0_1.index t = ![0, min (t.val / 4) 3] ∧ win0_2.index t = ![0, t.val / 4 - 4] ∧ win0_3.index t = ![t.val / 4, t.val % 4, 0] := by decide +kernel

theorem N_lt (t : Fin cfg0.N) : t.val < 32 := lt_of_lt_of_eq t.isLt N_0

def row (t : Fin cfg0.N) (x : Fin 512) : Fin 2048 := ⟨t.val % 4 * 512 + x.val, by have := N_lt t; omega⟩
def colV (t : Fin cfg0.N) (x : Fin 1408) : Fin 5632 := ⟨min (t.val / 4) 3 * 1408 + x.val, by have := N_lt t; omega⟩
def colG (t : Fin cfg0.N) (x : Fin 1408) : Fin 5632 := ⟨(t.val / 4 - 4) * 1408 + x.val, by have := N_lt t; omega⟩
def pc (t : Fin cfg0.N) : Fin 8 := ⟨t.val / 4, by have := N_lt t; omega⟩

/-- The second half is read from the fifth piece on. -/
theorem half_val : ∀ t : Fin cfg0.N, Scalar.cmpi .sge (BitVec.ofNat 32 (grid0.coords t 0).val) 4#32 = if 4 ≤ t.val / 4 then 1#1 else 0#1 := by
  decide +kernel

/-- What the body stores, entry by entry. -/
theorem out_cell (t : Fin cfg0.N) (x : FVec Ideal S2048x512 .bf16) (v g : FVec Ideal S2048x1408 .bf16) (r : Fin 512) (l : Fin 1408) :
    out0_3 (F := Ideal) (grid0.coords t) x v g (ix3 0 r l)
      = ∑ k : Fin 2048, x (ix2 k r) * (if 4 ≤ t.val / 4 then g (ix2 k l) else v (ix2 k l)) := by
  unfold out0_3
  frame_out
  pointwise [k0_pay1]
  rw [half_val t]
  refine Finset.sum_congr rfl fun k _ => ?_
  split_ifs <;> rfl

/-- The two halves side by side, at a column of the point's piece. -/
theorem cat_cell (t : Fin cfg0.N) (v g : FVec Ideal S2048x5632 .bf16) (k : Fin 2048) (C : Fin 11264) (l : Fin 1408) (h : C.val = t.val / 4 * 1408 + l.val) :
    val_main_v1 (F := Ideal) v g (ix2 k C) = if 4 ≤ t.val / 4 then g (ix2 k (colG t l)) else v (ix2 k (colV t l)) := by
  have ht := N_lt t
  exact Cert.Mm.halves v g _ k C _ _ h l.isLt (by omega) rfl rfl

/-- The reference's product, entry by entry. -/
theorem ref_cell (x : FVec Ideal S2048x2048 .bf16) (v g : FVec Ideal S2048x5632 .bf16) (t : Fin cfg0.N) (r : Fin 2048) (l : Fin 1408) :
    val_main_v5 (F := Ideal) x v g (ix3 (pc t) r l) = ∑ k : Fin 2048, x (ix2 k r) * (if 4 ≤ t.val / 4 then g (ix2 k (colG t l)) else v (ix2 k (colV t l))) := by
  have ht := N_lt t
  have e1 : ((r.val * 8 + t.val / 4) * 1408 + l.val) / 11264 = r.val := by omega
  have e2 : ((r.val * 8 + t.val / 4) * 1408 + l.val) % 11264 = t.val / 4 * 1408 + l.val := by omega
  rw [show val_main_v5 (F := Ideal) x v g (ix3 (pc t) r l) = val_main_v3 (F := Ideal) x v g (ix3 r (pc t) l) by pointwise [val_main_v5, val_main_v4]; rfl,
    val_main_v3_apply, val_main_v2_apply]
  refine Finset.sum_congr rfl fun k _ => ?_
  rw [val_main_v0_apply]
  refine congrArg₂ (· * ·) (congrArg x (Cert.Mm.idx2_ext rfl e1)) ?_
  refine (congrArg _ (eq_ix2 _)).trans (cat_cell t v g k _ l e2)

/-- The whole result, once every block is written back. -/
theorem final (c : Dev nD) : (dats m 0 c).arrAt 3 (cfgs 0).N = val_main_v5 (F := Ideal) (A0 m c) (A1 m c) (A2 m c) := by
  refine (dats m 0 c).arrAt_eq_of_covers 3 _ (by decide +kernel) fun t hf y => ?_
  have ht := N_lt t
  obtain ⟨r, l, rfl⟩ : ∃ (r : Fin 512) (l : Fin 1408), y = ix3 0 r l := ⟨y 1, y 2, by
    funext a; match a with
    | ⟨0, _⟩ => exact Subsingleton.elim (α := Fin 1) _ _
    | ⟨1, _⟩ => rfl
    | ⟨2, _⟩ => rfl⟩
  have e : out0_3 (grid0.coords t) (iblk m c 0 t) (iblk m c 1 t) (iblk m c 2 t) (ix3 0 r l) = val_main_v5 (F := Ideal) (A0 m c) (A1 m c) (A2 m c) (ix3 (pc t) (row t r) l) := by
    rw [out_cell, ref_cell]
    refine Finset.sum_congr rfl fun k _ => ?_
    split_ifs <;> blk_point [iblk, V, idx_val t, row, colV, colG, pc]
  blk_simp [idx_val t]
  rw [after0_3]
  refine Eq.trans e (congrArg _ ?_)
  blk_ext [idx_val t, row, colV, colG, pc]

/-- The pair: the kernel's product is the reference's. -/
theorem value : Cert.algebraic_MmTnPiecesIdeal_MmTnPiecesRefIdeal := by
  pair_intro
  · run_from Cert.MmTnPiecesIdeal.Gen.run_main m g
  · refine (θ_run Cert.MmTnPiecesRefIdeal.defs _ _).mono (fun _ h c => ⟨(h c).1.trans ?_, (h c).2⟩) (Cert.MmTnPiecesRefIdeal.Value.run (F := Ideal) m' g')
    obtain ⟨e0, e1, e2⟩ := hagree c
    refine (val_main_v5_eq _ _ _).trans ?_
    rw [e0, e1, e2]
    exact (final m c).symm

/-- The reference's run leaves its arguments; it has no semaphore. -/
theorem frame_ref : Cert.quiescent_MmTnPiecesRefIdeal := fun m ρ _ =>
  (θ_run Cert.MmTnPiecesRefIdeal.defs _ _).mono (fun r h => ⟨fun c => (h c).2, sem_eq_zero_of_no_sems (by decide) r.2⟩) (Cert.MmTnPiecesRefIdeal.Value.run (F := Ideal) m ρ)

end Cert.MmTnPiecesIdeal.Val

/-! The plain product of two halves side by side with the rows of a matrix that comes in pieces, added up piece by piece. -/

namespace Cert.MmNtPiecesIdeal.Val
open Cert.MmNtPiecesIdeal Cert.MmNtPiecesIdeal.Gen Cert.MmNtPiecesRefIdeal.Read

variable (m : (ℓ : Loc nD τ sig) → Buf (Elt Ideal) ℓ)

abbrev A0 (c : Dev nD) : FVec Ideal S2048x5632 .bf16 := m ((c : Thread nD τ).loc main_arg0)
abbrev A1 (c : Dev nD) : FVec Ideal S2048x5632 .bf16 := m ((c : Thread nD τ).loc main_arg1)
abbrev A2 (c : Dev nD) : FVec Ideal S8x2048x1408 .bf16 := m ((c : Thread nD τ).loc main_arg2)

/-- Which block each window holds at a grid point. -/
theorem idx_val : ∀ t : Fin cfg0.N, win0_0.index t = ![t.val / 16, min (t.val % 8) 3] ∧ win0_1.index t = ![t.val % 8, t.val / 8 % 2, 0] ∧ win0_2.index t = ![t.val / 16, t.val % 8 - 4] ∧ win0_3.index t = ![t.val / 16, t.val / 8 % 2] := by decide +kernel

theorem N_lt (t : Fin cfg0.N) : t.val < 32 := lt_of_lt_of_eq t.isLt N_0

def row (t : Fin cfg0.N) (x : Fin 1024) : Fin 2048 := ⟨t.val / 16 * 1024 + x.val, by have := N_lt t; omega⟩
def col (t : Fin cfg0.N) (x : Fin 1024) : Fin 2048 := ⟨t.val / 8 % 2 * 1024 + x.val, by have := N_lt t; omega⟩
def colV (t : Fin cfg0.N) (x : Fin 1408) : Fin 5632 := ⟨min (t.val % 8) 3 * 1408 + x.val, by have := N_lt t; omega⟩
def colG (t : Fin cfg0.N) (x : Fin 1408) : Fin 5632 := ⟨(t.val % 8 - 4) * 1408 + x.val, by have := N_lt t; omega⟩
def pc (t : Fin cfg0.N) : Fin 8 := ⟨t.val % 8, Nat.mod_lt _ (by decide)⟩

/-- The blocks in terms of their arrays. -/
theorem blk0 (c : Dev nD) (t : Fin cfg0.N) : iblk m c 0 t = fun i : S1024x1408.Idx => A0 m c (ix2 (row t (i 0)) (colV t (i 1))) := by
  funext i; idx_vars i; blk_point [iblk, V, idx_val t, row, colV]

theorem blk1 (c : Dev nD) (t : Fin cfg0.N) : iblk m c 1 t = fun i : S1x1024x1408.Idx => A2 m c (ix3 (pc t) (col t (i 1)) (i 2)) := by
  funext i; idx_vars i; blk_point [iblk, V, idx_val t, pc, col]

theorem blk2 (c : Dev nD) (t : Fin cfg0.N) : iblk m c 2 t = fun i : S1024x1408.Idx => A1 m c (ix2 (row t (i 0)) (colG t (i 1))) := by
  funext i; idx_vars i; blk_point [iblk, V, idx_val t, row, colG]

/-- The second half is read from the fifth piece on. -/
theorem half_val : ∀ t : Fin cfg0.N, Scalar.cmpi .sge (BitVec.ofNat 32 (grid0.coords t 2).val) 4#32 = if 4 ≤ t.val % 8 then 1#1 else 0#1 := by
  decide +kernel

/-- One piece's product. -/
theorem part_cell (t : Fin cfg0.N) (v : FVec Ideal S1024x1408 .bf16) (w : FVec Ideal S1x1024x1408 .bf16) (g : FVec Ideal S1024x1408 .bf16) (r l : Fin 1024) :
    k0_pay1 (F := Ideal) (grid0.coords t) v w g (ix2 r l)
      = ∑ k : Fin 1408, (if 4 ≤ t.val % 8 then g (ix2 r k) else v (ix2 r k)) * w (ix3 0 l k) := by
  pointwise [k0_pay1]
  rw [half_val t]
  refine Finset.sum_congr rfl fun k _ => ?_
  split_ifs <;> rfl

/-- The block written back: the sum of the eight products of its run. -/
theorem acc_cell (c : Dev nD) (t : Fin cfg0.N) (h7 : t.val % 8 = 7) (y : S1024x1024.Idx) :
    (outsAt0 m c t.val t.isLt).1 y
      = ∑ s : Fin 8, k0_pay1 (F := Ideal) (grid0.coords ⟨8 * (t.val / 8) + s.val, by have := N_lt t; have := N_0; have := s.isLt; omega⟩)
          (iblk m c 0 ⟨8 * (t.val / 8) + s.val, by have := N_lt t; have := N_0; have := s.isLt; omega⟩)
          (iblk m c 1 ⟨8 * (t.val / 8) + s.val, by have := N_lt t; have := N_0; have := s.isLt; omega⟩)
          (iblk m c 2 ⟨8 * (t.val / 8) + s.val, by have := N_lt t; have := N_0; have := s.isLt; omega⟩) y := by
  have e : (outsAt0 m c t.val t.isLt).1 y = (outsAt0 m c t.val t.isLt).2 y := by
    rw [outsAt0_C m c t (by omega) (by omega) h7]; frame_out
  rw [e, Pipeline.eq_sum_fin_of_reset_step_apply_of_flush (fun n h => (outsAt0 m c n h).2) 8 (fun _ => 0)
    (fun t j => k0_pay1 (F := Ideal) (grid0.coords t) (iblk m c 0 t) (iblk m c 1 t) (iblk m c 2 t) j)
    (fun t h j => by
      rw [outsAt0_A m c t h (by omega) (by omega)]; frame_out
      pointwise [k0_pay2])
    (fun t h j => by
      by_cases h7 : t.val % 8 = 7
      · rw [outsAt0_C m c t h (by omega) h7]; frame_out; pointwise [k0_pay3]; exact congrArg (· + _) (congrFun (Memref.IsWhole.read_unread _ _) j)
      · rw [outsAt0_B m c t h (by omega) h7]; frame_out; pointwise [k0_pay3]; exact congrArg (· + _) (congrFun (Memref.IsWhole.read_unread _ _) j))
    t h7 y, zero_add]

/-- The two halves side by side, at a column of the point's piece. -/
theorem cat_cell (t : Fin cfg0.N) (v g : FVec Ideal S2048x5632 .bf16) (k : Fin 2048) (C : Fin 11264) (l : Fin 1408) (h : C.val = t.val % 8 * 1408 + l.val) :
    val_main_v2 (F := Ideal) v g (ix2 k C) = if 4 ≤ t.val % 8 then g (ix2 k (colG t l)) else v (ix2 k (colV t l)) := by
  exact Cert.Mm.halves v g _ k C _ _ h l.isLt (Nat.mod_lt _ (by decide)) rfl rfl

/-- The pieces' matrix put together, at a row of the point's piece. -/
theorem row_cell (t : Fin cfg0.N) (w : FVec Ideal S8x2048x1408 .bf16) (C : Fin 2048) (K : Fin 11264) (k : Fin 1408) (h : K.val = t.val % 8 * 1408 + k.val) :
    val_main_v3 (F := Ideal) w (ix2 K C) = w (ix3 (pc t) C k) := by
  rw [val_main_v3_apply, val_main_v1_apply, val_main_v0_apply]
  refine congrArg w (Cert.Mm.idx3_ext ?_ ?_ ?_)
  · show (C.val * 11264 + K.val) / 1408 % 8 = t.val % 8; omega
  · show (C.val * 11264 + K.val) / 11264 = C.val; omega
  · show (C.val * 11264 + K.val) % 1408 = k.val; omega

/-- The reference's product, piece by piece. -/
theorem ref_cell (v g : FVec Ideal S2048x5632 .bf16) (w : FVec Ideal S8x2048x1408 .bf16) (R C : Fin 2048) (p : Fin 8 → Fin cfg0.N) (hp : ∀ s, (p s).val % 8 = s.val) :
    val_main_v4 (F := Ideal) v g w (ix2 R C)
      = ∑ s : Fin 8, ∑ k : Fin 1408, (if 4 ≤ (p s).val % 8 then g (ix2 R (colG (p s) k)) else v (ix2 R (colV (p s) k))) * w (ix3 (pc (p s)) C k) := by
  rw [val_main_v4_apply]
  refine (Fin.sum_mul_add_congr fun s k hl => ?_).symm
  rw [← cat_cell (p s) v g R ⟨s.val * 1408 + k.val, hl⟩ k (by rw [hp]), ← row_cell (p s) w C ⟨s.val * 1408 + k.val, hl⟩ k (by rw [hp])]
  exact congrArg₂ (· * ·) (congrArg _ (Cert.Mm.idx2_ext rfl rfl)) (congrArg _ (Cert.Mm.idx2_ext rfl rfl))

/-- The whole result, once every block is written back. -/
theorem final (c : Dev nD) : (dats m 0 c).arrAt 3 (cfgs 0).N = val_main_v4 (F := Ideal) (A0 m c) (A1 m c) (A2 m c) := by
  refine (dats m 0 c).arrAt_eq_of_covers 3 _ (by decide +kernel) fun t hf y => ?_
  have ht := N_lt t
  obtain ⟨r, l, rfl⟩ : ∃ (r : Fin 1024) (l : Fin 1024), y = ix2 r l := ⟨y 0, y 1, eq_ix2 y⟩
  have h7 := (flush0_3 t).mp hf
  blk_simp [idx_val t]
  rw [after0_3]
  refine (acc_cell m c t h7 _).trans ?_
  refine Eq.trans ?_ (congrArg (val_main_v4 (F := Ideal) (A0 m c) (A1 m c) (A2 m c)) (?_ : ix2 (row t r) (col t l) = _))
  · rw [ref_cell _ _ _ _ _ (fun s => ⟨8 * (t.val / 8) + s.val, by have := N_0; have := s.isLt; omega⟩) (fun s => by
      show (8 * (t.val / 8) + s.val) % 8 = s.val; have := s.isLt; omega)]
    refine Finset.sum_congr rfl fun s _ => ?_
    have hs := s.isLt
    have er : row ⟨8 * (t.val / 8) + s.val, by have := N_0; omega⟩ r = row t r := Fin.ext (show (8 * (t.val / 8) + s.val) / 16 * 1024 + r.val = t.val / 16 * 1024 + r.val by omega)
    have ec : col ⟨8 * (t.val / 8) + s.val, by have := N_0; omega⟩ l = col t l := Fin.ext (show (8 * (t.val / 8) + s.val) / 8 % 2 * 1024 + l.val = t.val / 8 % 2 * 1024 + l.val by omega)
    rw [part_cell, blk0, blk1, blk2]
    dsimp only
    rw [← er, ← ec]
  · blk_ext [idx_val t, row, col]

/-- The pair: the kernel's product is the reference's. -/
theorem value : Cert.algebraic_MmNtPiecesIdeal_MmNtPiecesRefIdeal := by
  pair_intro
  · run_from Cert.MmNtPiecesIdeal.Gen.run_main m g
  · refine (θ_run Cert.MmNtPiecesRefIdeal.defs _ _).mono (fun _ h c => ⟨(h c).1.trans ?_, (h c).2⟩) (Cert.MmNtPiecesRefIdeal.Value.run (F := Ideal) m' g')
    obtain ⟨e0, e1, e2⟩ := hagree c
    refine (val_main_v4_eq _ _ _).trans ?_
    rw [e0, e1, e2]
    exact (final m c).symm

/-- The reference's run leaves its arguments; it has no semaphore. -/
theorem frame_ref : Cert.quiescent_MmNtPiecesRefIdeal := fun m ρ _ =>
  (θ_run Cert.MmNtPiecesRefIdeal.defs _ _).mono (fun r h => ⟨fun c => (h c).2, sem_eq_zero_of_no_sems (by decide) r.2⟩) (Cert.MmNtPiecesRefIdeal.Value.run (F := Ideal) m ρ)

end Cert.MmNtPiecesIdeal.Val

end
-- ==== Proof.Optimiser.lean ====
module

public import proofs.«01_k».proof.Defs
public import proofs.«01_k».proof.Proof.Base
public import proofs.«01_k».proof.Proof.Gen.SumPartsIdeal.Value
public import proofs.«01_k».proof.Proof.Gen.SumRefIdeal.Run
public import proofs.«01_k».proof.Proof.Gen.SumRefIdeal.Read
public import proofs.«01_k».proof.Proof.Gen.AdamFlatIdeal.Value
public import proofs.«01_k».proof.Proof.Gen.AdamRefIdeal.Run
public import proofs.«01_k».proof.Proof.Gen.AdamRefIdeal.Read

/-! The sum of the devices' parts, and the AdamW step; block for block they are the reference's expressions. -/

@[expose] public section

set_option maxRecDepth 16384

noncomputable section

open Idealize.ShloMosaic Idealize.ShloMosaic.TcCoe Idealize.SL.Sem

namespace Cert.SumPartsIdeal.Val

open Cert.SumPartsIdeal Cert.SumPartsIdeal.Gen Cert.SumRefIdeal.Read

variable (m : (ℓ : Loc nD τ sig) → Buf (Elt Ideal) ℓ)

theorem idx_val : ∀ t : Fin cfg0.N, win0_0.index t = ![0, t.val, 0] ∧ win0_1.index t = ![t.val, 0] := by decide +kernel

theorem final (c : Dev nD) : (dats m 0 c).arrAt 1 (cfgs 0).N
    = val_main_v0 (F := Ideal) (m ((c : Thread nD τ).loc main_arg0)) := by
  refine (dats m 0 c).arrAt_eq_of_covers 1 _ (by decide +kernel) fun t hf y => ?_
  have ht : t.val < 23 := lt_of_lt_of_eq t.isLt N_0
  blk_simp
  rw [after0_1]; unfold out0_1; frame_out
  pointwise [k0_pay1, val_main_v0, val_main_cst]
  rw [Fin.sum_univ_eight]
  blk_point [iblk, V, idx_val t]

theorem value : Cert.algebraic_SumPartsIdeal_SumRefIdeal := by
  pair_intro
  · run_from Cert.SumPartsIdeal.Gen.run_main m g
  · hlo_run
    exact (val_main_v0_eq _).trans (final m c).symm

theorem frame_ref : Cert.quiescent_SumRefIdeal := fun m ρ _ =>
  (θ_run Cert.SumRefIdeal.defs _ _).mono (fun r h => ⟨fun c => (h c).2, sem_eq_zero_of_no_sems (by decide) r.2⟩)
    (Cert.SumRefIdeal.Value.run (F := Ideal) m ρ)

end Cert.SumPartsIdeal.Val

namespace Cert.AdamFlatIdeal.Val

open Cert.AdamFlatIdeal Cert.AdamFlatIdeal.Gen Cert.AdamRefIdeal.Read

variable (m : (ℓ : Loc nD τ sig) → Buf (Elt Ideal) ℓ)

abbrev W (c : Dev nD) : FVec Ideal S1216x512 .f32 := m ((c : Thread nD τ).loc main_arg0)
abbrev G (c : Dev nD) : FVec Ideal S1216x512 .f32 := m ((c : Thread nD τ).loc main_arg1)
abbrev M (c : Dev nD) : FVec Ideal S1216x512 .f32 := m ((c : Thread nD τ).loc main_arg2)
abbrev U (c : Dev nD) : FVec Ideal S1216x512 .f32 := m ((c : Thread nD τ).loc main_arg3)

theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] := by decide +kernel

theorem N_lt (t : Fin cfg0.N) : t.val < 19 := lt_of_lt_of_eq t.isLt N_0

theorem final_5 (c : Dev nD) : (dats m 0 c).arrAt 5 (cfgs 0).N = val_main_v4 (F := Ideal) (G m c) (M m c) := by
  refine (dats m 0 c).arrAt_eq_of_covers 5 _ (by decide +kernel) fun t hf y => ?_
  have ht := N_lt t
  blk_simp
  rw [after0_5]; unfold out0_5; frame_out
  pointwise [k0_pay1, val_main_v0, val_main_v1, val_main_v2, val_main_v3, val_main_v4, val_main_cst, val_main_cst_0]
  blk_point [iblk, V, idx_val t]

theorem final_6 (c : Dev nD) : (dats m 0 c).arrAt 6 (cfgs 0).N = val_main_v10 (F := Ideal) (G m c) (U m c) := by
  refine (dats m 0 c).arrAt_eq_of_covers 6 _ (by decide +kernel) fun t hf y => ?_
  have ht := N_lt t
  blk_simp
  rw [after0_6]; unfold out0_6; frame_out
  pointwise [k0_pay2, val_main_v5, val_main_v6, val_main_v7, val_main_v8, val_main_v9, val_main_v10, val_main_cst_1, val_main_cst_2]
  blk_point [iblk, V, idx_val t]

theorem final_4 (c : Dev nD) : (dats m 0 c).arrAt 4 (cfgs 0).N = val_main_v23 (F := Ideal) (W m c) (G m c) (M m c) (U m c) := by
  refine (dats m 0 c).arrAt_eq_of_covers 4 _ (by decide +kernel) fun t hf y => ?_
  have ht := N_lt t
  blk_simp
  rw [after0_4]; unfold out0_4; frame_out
  pointwise [k0_pay1, k0_pay2, k0_pay3, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  blk_point [iblk, V, idx_val t]

theorem value : Cert.algebraic_AdamFlatIdeal_AdamRefIdeal := by
  pair_intro
  · run_from Cert.AdamFlatIdeal.Gen.run_main m g
  · hlo_run
    · exact (val_main_v23_eq _ _ _ _).trans (final_4 m c).symm
    · exact (val_main_v4_eq _ _).trans (final_5 m c).symm
    · exact (val_main_v10_eq _ _).trans (final_6 m c).symm

theorem frame_ref : Cert.quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

end Cert.AdamFlatIdeal.Val

end
-- ==== Proof.lean ====
module

public import proofs.«01_k».proof.Defs
public import proofs.«01_k».proof.Proof.Gen.LossHead.Frame
public import proofs.«01_k».proof.Proof.Loss
public import proofs.«01_k».proof.Proof.SbValue
public import proofs.«01_k».proof.Proof.Gen.RmsBwd.Frame
public import proofs.«01_k».proof.Proof.Rms
public import proofs.«01_k».proof.Proof.Gen.QkBwd.Frame
public import proofs.«01_k».proof.Proof.Qk
public import proofs.«01_k».proof.Proof.Gen.QkqBwd.Frame
public import proofs.«01_k».proof.Proof.Qkq
public import proofs.«01_k».proof.Proof.Gen.ConvBwd.Frame
public import proofs.«01_k».proof.Proof.Conv
public import proofs.«01_k».proof.Proof.Gen.PoolBwd.Frame
public import proofs.«01_k».proof.Proof.Pool
public import proofs.«01_k».proof.Proof.Glu
public import proofs.«01_k».proof.Proof.Gen.PrepBwd.Frame
public import proofs.«01_k».proof.Proof.Prep
public import proofs.«01_k».proof.Proof.Gen.PoolFwd.Frame
public import proofs.«01_k».proof.Proof.PoolFwd
public import proofs.«01_k».proof.Proof.Gen.RmsFwd.Frame
public import proofs.«01_k».proof.Proof.RmsFwd
public import proofs.«01_k».proof.Proof.Gen.QkFwd.Frame
public import proofs.«01_k».proof.Proof.QkFwd
public import proofs.«01_k».proof.Proof.Gen.ConvFwd.Frame
public import proofs.«01_k».proof.Proof.ConvFwd
public import proofs.«01_k».proof.Proof.Gen.PrepFwd.Frame
public import proofs.«01_k».proof.Proof.PrepFwd
public import proofs.«01_k».proof.Proof.Gen.SbFwd.Frame
public import proofs.«01_k».proof.Proof.SbFwdValue
public import proofs.«01_k».proof.Proof.Gen.CoreFwd.Frame
public import proofs.«01_k».proof.Proof.CoreFwd
public import proofs.«01_k».proof.Proof.Gen.CoreBwd.Frame
public import proofs.«01_k».proof.Proof.Gen.CoreBwdIdeal.Frame
public import proofs.«01_k».proof.Proof.Gen.MmNn.Frame
public import proofs.«01_k».proof.Proof.Products
public import proofs.«01_k».proof.Proof.Gen.MmNt.Frame
public import proofs.«01_k».proof.Proof.Gen.MmTn.Frame
public import proofs.«01_k».proof.Proof.Gen.MmNnPieces.Frame
public import proofs.«01_k».proof.Proof.Gen.MmTnPieces.Frame
public import proofs.«01_k».proof.Proof.Gen.MmNtPieces.Frame
public import proofs.«01_k».proof.Proof.Gen.SumParts.Frame
public import proofs.«01_k».proof.Proof.Optimiser
public import proofs.«01_k».proof.Proof.Gen.AdamFlat.Frame

@[expose] public section

noncomputable section

namespace Cert.Proof

open Idealize.ShloMosaic Idealize.SL.Sem

/-- The reference of the loss head: its run leaves its two arguments; it has no semaphore. -/
theorem loss_ref_frame : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

/-! The side conditions of the preconditions. -/

theorem pre_sb : Cert.Pre_finite_sb.Facts := ⟨by decide, by decide, by decide, by decide, by decide⟩
theorem pre_rms : Cert.Pre_finite_rms.Facts := ⟨by decide, by decide, by decide, by decide, by decide⟩
theorem pre_qk : Cert.Pre_finite_qk.Facts := ⟨by decide, by decide, by decide, by decide, by decide, by decide, by decide⟩
theorem pre_qkq : Cert.Pre_finite_qkq.Facts := ⟨by decide, by decide, by decide, by decide, by decide, by decide, by decide⟩
theorem pre_conv : Cert.Pre_finite_conv.Facts := ⟨by decide, by decide, by decide, by decide, by decide, by decide, by decide, by decide, by decide⟩
theorem pre_pool : Cert.Pre_finite_pool.Facts := ⟨by decide, by decide, by decide, by decide, by decide, by decide, by decide⟩
theorem pre_poolf : Cert.Pre_finite_poolf.Facts := ⟨by decide, by decide, by decide⟩
theorem pre_sbf : Cert.Pre_finite_sbf.Facts := ⟨by decide, by decide, by decide⟩
theorem pre_coref : Cert.Pre_finite_coref.Facts := ⟨by decide, by decide, by decide, by decide, by decide, by decide, by decide, by decide, by decide⟩

theorem claim : Cert.Claim :=
  haveI := pre_sb
  haveI := pre_rms
  haveI := pre_qk
  haveI := pre_qkq
  haveI := pre_conv
  haveI := pre_pool
  haveI := pre_poolf
  haveI := pre_sbf
  haveI := pre_coref
  ⟨Cert.LossHead.Gen.facts, Cert.LossHeadIdeal.Gen.facts, Cert.LossRefIdeal.Gen.facts,
    Cert.SbBwd.Gen.facts, Cert.SbBwdIdeal.Gen.facts, Cert.SbRefIdeal.Gen.facts,
    Cert.RmsBwd.Gen.facts, Cert.RmsBwdIdeal.Gen.facts, Cert.RmsRefIdeal.Gen.facts,
    Cert.QkBwd.Gen.facts, Cert.QkBwdIdeal.Gen.facts, Cert.QkRefIdeal.Gen.facts,
    Cert.QkqBwd.Gen.facts, Cert.QkqBwdIdeal.Gen.facts, Cert.QkqRefIdeal.Gen.facts,
    Cert.ConvBwd.Gen.facts, Cert.ConvBwdIdeal.Gen.facts, Cert.ConvRefIdeal.Gen.facts,
    Cert.PoolBwd.Gen.facts, Cert.PoolBwdIdeal.Gen.facts, Cert.PoolRefIdeal.Gen.facts,
    Cert.GluBwd.Gen.facts, Cert.GluBwdIdeal.Gen.facts, Cert.GluRefIdeal.Gen.facts,
    Cert.PrepBwd.Gen.facts, Cert.PrepBwdIdeal.Gen.facts, Cert.PrepRefIdeal.Gen.facts,
    Cert.PoolFwd.Gen.facts, Cert.PoolFwdIdeal.Gen.facts, Cert.PoolFwdRefIdeal.Gen.facts,
    Cert.RmsFwd.Gen.facts, Cert.RmsFwdIdeal.Gen.facts, Cert.RmsFwdRefIdeal.Gen.facts,
    Cert.QkFwd.Gen.facts, Cert.QkFwdIdeal.Gen.facts, Cert.QkFwdRefIdeal.Gen.facts,
    Cert.ConvFwd.Gen.facts, Cert.ConvFwdIdeal.Gen.facts, Cert.ConvFwdRefIdeal.Gen.facts,
    Cert.PrepFwd.Gen.facts, Cert.PrepFwdIdeal.Gen.facts, Cert.PrepFwdRefIdeal.Gen.facts,
    Cert.SbFwd.Gen.facts, Cert.SbFwdIdeal.Gen.facts, Cert.SbFwdRefIdeal.Gen.facts,
    Cert.CoreFwd.Gen.facts, Cert.CoreFwdIdeal.Gen.facts, Cert.CoreFwdRefIdeal.Gen.facts,
    Cert.CoreBwd.Gen.facts, Cert.CoreBwdIdeal.Gen.facts, Cert.MmNn.Gen.facts,
    Cert.MmNnIdeal.Gen.facts, Cert.MmNnRefIdeal.Gen.facts, Cert.MmNt.Gen.facts,
    Cert.MmNtIdeal.Gen.facts, Cert.MmNtRefIdeal.Gen.facts, Cert.MmTn.Gen.facts,
    Cert.MmTnIdeal.Gen.facts, Cert.MmTnRefIdeal.Gen.facts, Cert.MmNnPieces.Gen.facts,
    Cert.MmNnPiecesIdeal.Gen.facts, Cert.MmNnPiecesRefIdeal.Gen.facts, Cert.MmTnPieces.Gen.facts,
    Cert.MmTnPiecesIdeal.Gen.facts, Cert.MmTnPiecesRefIdeal.Gen.facts, Cert.MmNtPieces.Gen.facts,
    Cert.MmNtPiecesIdeal.Gen.facts, Cert.MmNtPiecesRefIdeal.Gen.facts, Cert.SumParts.Gen.facts,
    Cert.SumPartsIdeal.Gen.facts, Cert.SumRefIdeal.Gen.facts, Cert.AdamFlat.Gen.facts,
    Cert.AdamFlatIdeal.Gen.facts, Cert.AdamRefIdeal.Gen.facts,
    pre_sb, pre_rms, pre_qk, pre_qkq, pre_conv, pre_pool, pre_poolf, pre_sbf, pre_coref,
    fun m ρ _ => Cert.LossHead.Gen.frame m ρ, fun m ρ _ => Cert.LossHeadIdeal.Gen.frame m ρ, loss_ref_frame,
    SbClaims.frame_kernel, SbClaims.frame_ideal, SbClaims.frame_ideal_pre, SbClaims.frame_ref, SbClaims.frame_ref_pre,
    fun m ρ _ => Cert.RmsBwd.Gen.frame m ρ, fun m ρ _ => Cert.RmsBwdIdeal.Gen.frame m ρ,
    fun m ρ _ => Cert.RmsBwdIdeal.Gen.frame m ρ, Cert.RmsBwdIdeal.Val.frame_ref, fun m ρ _ => Cert.RmsBwdIdeal.Val.frame_ref m ρ trivial,
    fun m ρ _ => Cert.QkBwd.Gen.frame m ρ, fun m ρ _ => Cert.QkBwdIdeal.Gen.frame m ρ,
    fun m ρ _ => Cert.QkBwdIdeal.Gen.frame m ρ, Cert.QkBwdIdeal.Val.frame_ref, fun m ρ _ => Cert.QkBwdIdeal.Val.frame_ref m ρ trivial,
    fun m ρ _ => Cert.QkqBwd.Gen.frame m ρ, fun m ρ _ => Cert.QkqBwdIdeal.Gen.frame m ρ,
    fun m ρ _ => Cert.QkqBwdIdeal.Gen.frame m ρ, Cert.QkqBwdIdeal.Val.frame_ref, fun m ρ _ => Cert.QkqBwdIdeal.Val.frame_ref m ρ trivial,
    fun m ρ _ => Cert.ConvBwd.Gen.frame m ρ, fun m ρ _ => Cert.ConvBwdIdeal.Gen.frame m ρ,
    fun m ρ _ => Cert.ConvBwdIdeal.Gen.frame m ρ, Cert.ConvBwdIdeal.Val.frame_ref, fun m ρ _ => Cert.ConvBwdIdeal.Val.frame_ref m ρ trivial,
    fun m ρ _ => Cert.PoolBwd.Gen.frame m ρ, fun m ρ _ => Cert.PoolBwdIdeal.Gen.frame m ρ,
    fun m ρ _ => Cert.PoolBwdIdeal.Gen.frame m ρ, Cert.PoolBwdIdeal.Val.frame_ref, fun m ρ _ => Cert.PoolBwdIdeal.Val.frame_ref m ρ trivial,
    Cert.GluBwdIdeal.Val.frame_kernel, Cert.GluBwdIdeal.Val.frame_ideal, Cert.GluBwdIdeal.Val.frame_ref,
    fun m ρ _ => Cert.PrepBwd.Gen.frame m ρ, fun m ρ _ => Cert.PrepBwdIdeal.Gen.frame m ρ, Cert.PrepBwdIdeal.Val.frame_ref,
    fun m ρ _ => Cert.PoolFwd.Gen.frame m ρ, fun m ρ _ => Cert.PoolFwdIdeal.Gen.frame m ρ,
    fun m ρ _ => Cert.PoolFwdIdeal.Gen.frame m ρ, Cert.PoolFwdIdeal.Val.frame_ref, fun m ρ _ => Cert.PoolFwdIdeal.Val.frame_ref m ρ trivial,
    fun m ρ _ => Cert.RmsFwd.Gen.frame m ρ, fun m ρ _ => Cert.RmsFwdIdeal.Gen.frame m ρ, Cert.RmsFwdIdeal.Val.frame_ref,
    fun m ρ _ => Cert.QkFwd.Gen.frame m ρ, fun m ρ _ => Cert.QkFwdIdeal.Gen.frame m ρ, Cert.QkFwdIdeal.Val.frame_ref,
    fun m ρ _ => Cert.ConvFwd.Gen.frame m ρ, fun m ρ _ => Cert.ConvFwdIdeal.Gen.frame m ρ, Cert.ConvFwdIdeal.Val.frame_ref,
    fun m ρ _ => Cert.PrepFwd.Gen.frame m ρ, fun m ρ _ => Cert.PrepFwdIdeal.Gen.frame m ρ, Cert.PrepFwdIdeal.Val.frame_ref,
    fun m ρ _ => Cert.SbFwd.Gen.frame m ρ, fun m ρ _ => Cert.SbFwdIdeal.Gen.frame m ρ,
    fun m ρ _ => Cert.SbFwdIdeal.Gen.frame m ρ, Cert.SbFwdIdeal.Val.frame_ref, fun m ρ _ => Cert.SbFwdIdeal.Val.frame_ref m ρ trivial,
    fun m ρ _ => Cert.CoreFwd.Gen.frame m ρ, fun m ρ _ => Cert.CoreFwdIdeal.Gen.frame m ρ,
    fun m ρ _ => Cert.CoreFwdIdeal.Gen.frame m ρ, Cert.CoreFwdIdeal.Val.frame_ref, fun m ρ _ => Cert.CoreFwdIdeal.Val.frame_ref m ρ trivial,
    fun m ρ _ => Cert.CoreBwd.Gen.frame m ρ, fun m ρ _ => Cert.CoreBwdIdeal.Gen.frame m ρ,
    fun m ρ _ => Cert.MmNn.Gen.frame m ρ, fun m ρ _ => Cert.MmNnIdeal.Gen.frame m ρ, Cert.MmNnIdeal.Val.frame_ref,
    fun m ρ _ => Cert.MmNt.Gen.frame m ρ, fun m ρ _ => Cert.MmNtIdeal.Gen.frame m ρ, Cert.MmNtIdeal.Val.frame_ref,
    fun m ρ _ => Cert.MmTn.Gen.frame m ρ, fun m ρ _ => Cert.MmTnIdeal.Gen.frame m ρ, Cert.MmTnIdeal.Val.frame_ref,
    fun m ρ _ => Cert.MmNnPieces.Gen.frame m ρ, fun m ρ _ => Cert.MmNnPiecesIdeal.Gen.frame m ρ, Cert.MmNnPiecesIdeal.Val.frame_ref,
    fun m ρ _ => Cert.MmTnPieces.Gen.frame m ρ, fun m ρ _ => Cert.MmTnPiecesIdeal.Gen.frame m ρ, Cert.MmTnPiecesIdeal.Val.frame_ref,
    fun m ρ _ => Cert.MmNtPieces.Gen.frame m ρ, fun m ρ _ => Cert.MmNtPiecesIdeal.Gen.frame m ρ, Cert.MmNtPiecesIdeal.Val.frame_ref,
    fun m ρ _ => Cert.SumParts.Gen.frame m ρ, fun m ρ _ => Cert.SumPartsIdeal.Gen.frame m ρ, Cert.SumPartsIdeal.Val.frame_ref,
    fun m ρ _ => Cert.AdamFlat.Gen.frame m ρ, fun m ρ _ => Cert.AdamFlatIdeal.Gen.frame m ρ, Cert.AdamFlatIdeal.Val.frame_ref,
    trivial, Cert.LossHeadIdeal.Loss.value,
    SbClaims.preserves, SbClaims.value,
    trivial, Cert.RmsBwdIdeal.Val.value,
    trivial, Cert.QkBwdIdeal.Val.value,
    trivial, Cert.QkqBwdIdeal.Val.value,
    trivial, Cert.ConvBwdIdeal.Val.value,
    trivial, Cert.PoolBwdIdeal.Val.value,
    trivial, Cert.GluBwdIdeal.Val.value,
    trivial, Cert.PrepBwdIdeal.Val.value,
    trivial, Cert.PoolFwdIdeal.Val.value,
    trivial, Cert.RmsFwdIdeal.Val.value,
    trivial, Cert.QkFwdIdeal.Val.value,
    trivial, Cert.ConvFwdIdeal.Val.value,
    trivial, Cert.PrepFwdIdeal.Val.value,
    Cert.SbFwdIdeal.Val.preserves, Cert.SbFwdIdeal.Val.value,
    trivial, Cert.CoreFwdIdeal.Val.value,
    trivial,
    trivial, Cert.MmNnIdeal.Val.value,
    trivial, Cert.MmNtIdeal.Val.value,
    trivial, Cert.MmTnIdeal.Val.value,
    trivial, Cert.MmNnPiecesIdeal.Val.value,
    trivial, Cert.MmTnPiecesIdeal.Val.value,
    trivial, Cert.MmNtPiecesIdeal.Val.value,
    trivial, Cert.SumPartsIdeal.Val.value,
    trivial, Cert.AdamFlatIdeal.Val.value⟩

end Cert.Proof

end
